-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluRefIdeal (m : (ℓ : Loc Cert.SwigluRefIdeal.nD Cert.SwigluRefIdeal.τ Cert.SwigluRefIdeal.sig) → Buf (Elt Ideal) ℓ) : Prop :=
  True

def Pre_InOdd (m : (ℓ : Loc Cert.InOdd.nD Cert.InOdd.τ Cert.InOdd.sig) → Buf (Elt Bits) ℓ) : Prop :=
  True

def Pre_InOddIdeal (m : (ℓ : Loc Cert.InOddIdeal.nD Cert.InOddIdeal.τ Cert.InOddIdeal.sig) → Buf (Elt Ideal) ℓ) : Prop :=
  True

def Pre_InOddRefIdeal (m : (ℓ : Loc Cert.InOddRefIdeal.nD Cert.InOddRefIdeal.τ Cert.InOddRefIdeal.sig) → Buf (Elt Ideal) ℓ) : Prop :=
  True

def Pre_KvNew (m : (ℓ : Loc Cert.KvNew.nD Cert.KvNew.τ Cert.KvNew.sig) → Buf (Elt Bits) ℓ) : Prop :=
  True

def Pre_KvNewIdeal (m : (ℓ : Loc Cert.KvNewIdeal.nD Cert.KvNewIdeal.τ Cert.KvNewIdeal.sig) → Buf (Elt Ideal) ℓ) : Prop :=
  True

def Pre_KvNewRefIdeal (m : (ℓ : Loc Cert.KvNewRefIdeal.nD Cert.KvNewRefIdeal.τ Cert.KvNewRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_MoeSwiglu [hPre_in_range : Cert.Pre_in_range.Facts] (m : (ℓ : Loc Cert.MoeSwiglu.nD Cert.MoeSwiglu.τ Cert.MoeSwiglu.sig) → Buf (Elt Bits) ℓ) : Prop :=
  ∀ c : Dev Cert.MoeSwiglu.nD,
    (Cert.Pre_in_range.fn (F := Bits) (m ((c.tc : Thread Cert.MoeSwiglu.nD Cert.MoeSwiglu.τ).loc Cert.MoeSwiglu.main_arg0)) (m ((c.tc : Thread Cert.MoeSwiglu.nD Cert.MoeSwiglu.τ).loc Cert.MoeSwiglu.main_arg1)) (m ((c.tc : Thread Cert.MoeSwiglu.nD Cert.MoeSwiglu.τ).loc Cert.MoeSwiglu.main_arg2)) (m ((c.tc : Thread Cert.MoeSwiglu.nD Cert.MoeSwiglu.τ).loc Cert.MoeSwiglu.main_arg3)) (m ((c.tc : Thread Cert.MoeSwiglu.nD Cert.MoeSwiglu.τ).loc Cert.MoeSwiglu.main_arg4)) (m ((c.tc : Thread Cert.MoeSwiglu.nD Cert.MoeSwiglu.τ).loc Cert.MoeSwiglu.main_arg5))) = (fun _ => 1#1)

def Pre_MoeSwigluIdeal [hPre_in_range : Cert.Pre_in_range.Facts] (m : (ℓ : Loc Cert.MoeSwigluIdeal.nD Cert.MoeSwigluIdeal.τ Cert.MoeSwigluIdeal.sig) → Buf (Elt Ideal) ℓ) : Prop :=
  ∀ c : Dev Cert.MoeSwigluIdeal.nD,
    (Cert.Pre_in_range.fn (F := Ideal) (m ((c.tc : Thread Cert.MoeSwigluIdeal.nD Cert.MoeSwigluIdeal.τ).loc Cert.MoeSwigluIdeal.main_arg0)) (m ((c.tc : Thread Cert.MoeSwigluIdeal.nD Cert.MoeSwigluIdeal.τ).loc Cert.MoeSwigluIdeal.main_arg1)) (m ((c.tc : Thread Cert.MoeSwigluIdeal.nD Cert.MoeSwigluIdeal.τ).loc Cert.MoeSwigluIdeal.main_arg2)) (m ((c.tc : Thread Cert.MoeSwigluIdeal.nD Cert.MoeSwigluIdeal.τ).loc Cert.MoeSwigluIdeal.main_arg3)) (m ((c.tc : Thread Cert.MoeSwigluIdeal.nD Cert.MoeSwigluIdeal.τ).loc Cert.MoeSwigluIdeal.main_arg4)) (m ((c.tc : Thread Cert.MoeSwigluIdeal.nD Cert.MoeSwigluIdeal.τ).loc Cert.MoeSwigluIdeal.main_arg5))) = (fun _ => 1#1)

def Pre_MoeSwigluRefIdeal (m : (ℓ : Loc Cert.MoeSwigluRefIdeal.nD Cert.MoeSwigluRefIdeal.τ Cert.MoeSwigluRefIdeal.sig) → Buf (Elt Ideal) ℓ) : Prop :=
  True

def Pre_MoeSwigluRefIdeal_in_range [hPre_in_range : Cert.Pre_in_range.Facts] (m : (ℓ : Loc Cert.MoeSwigluRefIdeal.nD Cert.MoeSwigluRefIdeal.τ Cert.MoeSwigluRefIdeal.sig) → Buf (Elt Ideal) ℓ) : Prop :=
  ∀ c : Dev Cert.MoeSwigluRefIdeal.nD,
    (Cert.Pre_in_range.fn (F := Ideal) (m ((c.tc : Thread Cert.MoeSwigluRefIdeal.nD Cert.MoeSwigluRefIdeal.τ).loc Cert.MoeSwigluRefIdeal.main_arg0)) (m ((c.tc : Thread Cert.MoeSwigluRefIdeal.nD Cert.MoeSwigluRefIdeal.τ).loc Cert.MoeSwigluRefIdeal.main_arg1)) (m ((c.tc : Thread Cert.MoeSwigluRefIdeal.nD Cert.MoeSwigluRefIdeal.τ).loc Cert.MoeSwigluRefIdeal.main_arg2)) (m ((c.tc : Thread Cert.MoeSwigluRefIdeal.nD Cert.MoeSwigluRefIdeal.τ).loc Cert.MoeSwigluRefIdeal.main_arg3)) (m ((c.tc : Thread Cert.MoeSwigluRefIdeal.nD Cert.MoeSwigluRefIdeal.τ).loc Cert.MoeSwigluRefIdeal.main_arg4)) (m ((c.tc : Thread Cert.MoeSwigluRefIdeal.nD Cert.MoeSwigluRefIdeal.τ).loc Cert.MoeSwigluRefIdeal.main_arg5))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_InEven (m : (ℓ : Loc Cert.InEven.nD Cert.InEven.τ Cert.InEven.sig) → Buf (Elt Bits) ℓ) : Prop :=
  True

def Pre_InEvenIdeal (m : (ℓ : Loc Cert.InEvenIdeal.nD Cert.InEvenIdeal.τ Cert.InEvenIdeal.sig) → Buf (Elt Ideal) ℓ) : Prop :=
  True

def Pre_InEvenRefIdeal (m : (ℓ : Loc Cert.InEvenRefIdeal.nD Cert.InEvenRefIdeal.τ Cert.InEvenRefIdeal.sig) → Buf (Elt Ideal) ℓ) : Prop :=
  True

def Pre_DsaV (m : (ℓ : Loc Cert.DsaV.nD Cert.DsaV.τ Cert.DsaV.sig) → Buf (Elt Bits) ℓ) : Prop :=
  True

def Pre_DsaVIdeal (m : (ℓ : Loc Cert.DsaVIdeal.nD Cert.DsaVIdeal.τ Cert.DsaVIdeal.sig) → Buf (Elt Ideal) ℓ) : Prop :=
  True

def Pre_DsaVRefIdeal (m : (ℓ : Loc Cert.DsaVRefIdeal.nD Cert.DsaVRefIdeal.τ Cert.DsaVRefIdeal.sig) → Buf (Elt Ideal) ℓ) : Prop :=
  True

def Pre_DsaK (m : (ℓ : Loc Cert.DsaK.nD Cert.DsaK.τ Cert.DsaK.sig) → Buf (Elt Bits) ℓ) : Prop :=
  True

def Pre_DsaKIdeal (m : (ℓ : Loc Cert.DsaKIdeal.nD Cert.DsaKIdeal.τ Cert.DsaKIdeal.sig) → Buf (Elt Ideal) ℓ) : Prop :=
  True

def Pre_DsaKRefIdeal (m : (ℓ : Loc Cert.DsaKRefIdeal.nD Cert.DsaKRefIdeal.τ Cert.DsaKRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2))
      ∧ r.2.sem = fun _ => 0)

def quiescent_InOdd [hInOdd : Cert.InOdd.Facts] : Prop :=
  ∀ (m : (ℓ : Loc Cert.InOdd.nD Cert.InOdd.τ Cert.InOdd.sig) → Buf (Elt Bits) ℓ) (g : Dev Cert.InOdd.nD → PrngReg), Pre_InOdd m →
    θ_run (Cert.InOdd.defs (F := Bits)) (onTc (τ := Cert.InOdd.τ) (Cert.InOdd.main (F := Bits))) ⟨m, fun _ => 0, g⟩ (fun r => (∀ c : Dev Cert.InOdd.nD,
      r.2.mem ((c.tc : Thread Cert.InOdd.nD Cert.InOdd.τ).loc Cert.InOdd.main_arg0) = m ((c.tc : Thread Cert.InOdd.nD Cert.InOdd.τ).loc Cert.InOdd.main_arg0)
      ∧ r.2.mem ((c.tc : Thread Cert.InOdd.nD Cert.InOdd.τ).loc Cert.InOdd.main_arg1) = m ((c.tc : Thread Cert.InOdd.nD Cert.InOdd.τ).loc Cert.InOdd.main_arg1))
      ∧ r.2.sem = fun _ => 0)

def quiescent_InOddIdeal [hInOddIdeal : Cert.InOddIdeal.Facts] : Prop :=
  ∀ (m : (ℓ : Loc Cert.InOddIdeal.nD Cert.InOddIdeal.τ Cert.InOddIdeal.sig) → Buf (Elt Ideal) ℓ) (g : Dev Cert.InOddIdeal.nD → PrngReg), Pre_InOddIdeal m →
    θ_run (Cert.InOddIdeal.defs (F := Ideal)) (onTc (τ := Cert.InOddIdeal.τ) (Cert.InOddIdeal.main (F := Ideal))) ⟨m, fun _ => 0, g⟩ (fun r => (∀ c : Dev Cert.InOddIdeal.nD,
      r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
      ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1))
      ∧ r.2.sem = fun _ => 0)

def quiescent_InOddRefIdeal [hInOddRefIdeal : Cert.InOddRefIdeal.Facts] : Prop :=
  ∀ (m : (ℓ : Loc Cert.InOddRefIdeal.nD Cert.InOddRefIdeal.τ Cert.InOddRefIdeal.sig) → Buf (Elt Ideal) ℓ) (g : Dev Cert.InOddRefIdeal.nD → PrngReg), Pre_InOddRefIdeal m →
    θ_run (Cert.InOddRefIdeal.defs (F := Ideal)) (onTc (τ := Cert.InOddRefIdeal.τ) (Cert.InOddRefIdeal.main (F := Ideal))) ⟨m, fun _ => 0, g⟩ (fun r => (∀ c : Dev Cert.InOddRefIdeal.nD,
      r.2.mem ((c.tc : Thread Cert.InOddRefIdeal.nD Cert.InOddRefIdeal.τ).loc Cert.InOddRefIdeal.main_arg0) = m ((c.tc : Thread Cert.InOddRefIdeal.nD Cert.InOddRefIdeal.τ).loc Cert.InOddRefIdeal.main_arg0)
      ∧ r.2.mem ((c.tc : Thread Cert.InOddRefIdeal.nD Cert.InOddRefIdeal.τ).loc Cert.InOddRefIdeal.main_arg1) = m ((c.tc : Thread Cert.InOddRefIdeal.nD Cert.InOddRefIdeal.τ).loc Cert.InOddRefIdeal.main_arg1))
      ∧ r.2.sem = fun _ => 0)

def quiescent_KvNew [hKvNew : Cert.KvNew.Facts] : Prop :=
  ∀ (m : (ℓ : Loc Cert.KvNew.nD Cert.KvNew.τ Cert.KvNew.sig) → Buf (Elt Bits) ℓ) (g : Dev Cert.KvNew.nD → PrngReg), Pre_KvNew m →
    θ_run (Cert.KvNew.defs (F := Bits)) (onTc (τ := Cert.KvNew.τ) (Cert.KvNew.main (F := Bits))) ⟨m, fun _ => 0, g⟩ (fun r => (∀ c : Dev Cert.KvNew.nD,
      r.2.mem ((c.tc : Thread Cert.KvNew.nD Cert.KvNew.τ).loc Cert.KvNew.main_arg0) = m ((c.tc : Thread Cert.KvNew.nD Cert.KvNew.τ).loc Cert.KvNew.main_arg0)
      ∧ r.2.mem ((c.tc : Thread Cert.KvNew.nD Cert.KvNew.τ).loc Cert.KvNew.main_arg1) = m ((c.tc : Thread Cert.KvNew.nD Cert.KvNew.τ).loc Cert.KvNew.main_arg1))
      ∧ r.2.sem = fun _ => 0)

def quiescent_KvNewIdeal [hKvNewIdeal : Cert.KvNewIdeal.Facts] : Prop :=
  ∀ (m : (ℓ : Loc Cert.KvNewIdeal.nD Cert.KvNewIdeal.τ Cert.KvNewIdeal.sig) → Buf (Elt Ideal) ℓ) (g : Dev Cert.KvNewIdeal.nD → PrngReg), Pre_KvNewIdeal m →
    θ_run (Cert.KvNewIdeal.defs (F := Ideal)) (onTc (τ := Cert.KvNewIdeal.τ) (Cert.KvNewIdeal.main (F := Ideal))) ⟨m, fun _ => 0, g⟩ (fun r => (∀ c : Dev Cert.KvNewIdeal.nD,
      r.2.mem ((c.tc : Thread Cert.KvNewIdeal.nD Cert.KvNewIdeal.τ).loc Cert.KvNewIdeal.main_arg0) = m ((c.tc : Thread Cert.KvNewIdeal.nD Cert.KvNewIdeal.τ).loc Cert.KvNewIdeal.main_arg0)
      ∧ r.2.mem ((c.tc : Thread Cert.KvNewIdeal.nD Cert.KvNewIdeal.τ).loc Cert.KvNewIdeal.main_arg1) = m ((c.tc : Thread Cert.KvNewIdeal.nD Cert.KvNewIdeal.τ).loc Cert.KvNewIdeal.main_arg1))
      ∧ r.2.sem = fun _ => 0)

def quiescent_KvNewRefIdeal [hKvNewRefIdeal : Cert.KvNewRefIdeal.Facts] : Prop :=
  ∀ (m : (ℓ : Loc Cert.KvNewRefIdeal.nD Cert.KvNewRefIdeal.τ Cert.KvNewRefIdeal.sig) → Buf (Elt Ideal) ℓ) (g : Dev Cert.KvNewRefIdeal.nD → PrngReg), Pre_KvNewRefIdeal m →
    θ_run (Cert.KvNewRefIdeal.defs (F := Ideal)) (onTc (τ := Cert.KvNewRefIdeal.τ) (Cert.KvNewRefIdeal.main (F := Ideal))) ⟨m, fun _ => 0, g⟩ (fun r => (∀ c : Dev Cert.KvNewRefIdeal.nD,
      r.2.mem ((c.tc : Thread Cert.KvNewRefIdeal.nD Cert.KvNewRefIdeal.τ).loc Cert.KvNewRefIdeal.main_arg0) = m ((c.tc : Thread Cert.KvNewRefIdeal.nD Cert.KvNewRefIdeal.τ).loc Cert.KvNewRefIdeal.main_arg0)
      ∧ r.2.mem ((c.tc : Thread Cert.KvNewRefIdeal.nD Cert.KvNewRefIdeal.τ).loc Cert.KvNewRefIdeal.main_arg1) = m ((c.tc : Thread Cert.KvNewRefIdeal.nD Cert.KvNewRefIdeal.τ).loc Cert.KvNewRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def quiescent_MoeSwiglu [hMoeSwiglu : Cert.MoeSwiglu.Facts] [hPre_in_range : Cert.Pre_in_range.Facts] : Prop :=
  ∀ (m : (ℓ : Loc Cert.MoeSwiglu.nD Cert.MoeSwiglu.τ Cert.MoeSwiglu.sig) → Buf (Elt Bits) ℓ) (g : Dev Cert.MoeSwiglu.nD → PrngReg), Pre_MoeSwiglu m →
    θ_run (Cert.MoeSwiglu.defs (F := Bits)) (onTc (τ := Cert.MoeSwiglu.τ) (Cert.MoeSwiglu.main (F := Bits))) ⟨m, fun _ => 0, g⟩ (fun r => (∀ c : Dev Cert.MoeSwiglu.nD,
      r.2.mem ((c.tc : Thread Cert.MoeSwiglu.nD Cert.MoeSwiglu.τ).loc Cert.MoeSwiglu.main_arg0) = m ((c.tc : Thread Cert.MoeSwiglu.nD Cert.MoeSwiglu.τ).loc Cert.MoeSwiglu.main_arg0)
      ∧ r.2.mem ((c.tc : Thread Cert.MoeSwiglu.nD Cert.MoeSwiglu.τ).loc Cert.MoeSwiglu.main_arg1) = m ((c.tc : Thread Cert.MoeSwiglu.nD Cert.MoeSwiglu.τ).loc Cert.MoeSwiglu.main_arg1)
      ∧ r.2.mem ((c.tc : Thread Cert.MoeSwiglu.nD Cert.MoeSwiglu.τ).loc Cert.MoeSwiglu.main_arg2) = m ((c.tc : Thread Cert.MoeSwiglu.nD Cert.MoeSwiglu.τ).loc Cert.MoeSwiglu.main_arg2)
      ∧ r.2.mem ((c.tc : Thread Cert.MoeSwiglu.nD Cert.MoeSwiglu.τ).loc Cert.MoeSwiglu.main_arg3) = m ((c.tc : Thread Cert.MoeSwiglu.nD Cert.MoeSwiglu.τ).loc Cert.MoeSwiglu.main_arg3)
      ∧ r.2.mem ((c.tc : Thread Cert.MoeSwiglu.nD Cert.MoeSwiglu.τ).loc Cert.MoeSwiglu.main_arg4) = m ((c.tc : Thread Cert.MoeSwiglu.nD Cert.MoeSwiglu.τ).loc Cert.MoeSwiglu.main_arg4)
      ∧ r.2.mem ((c.tc : Thread Cert.MoeSwiglu.nD Cert.MoeSwiglu.τ).loc Cert.MoeSwiglu.main_arg5) = m ((c.tc : Thread Cert.MoeSwiglu.nD Cert.MoeSwiglu.τ).loc Cert.MoeSwiglu.main_arg5))
      ∧ r.2.sem = fun _ => 0)

def quiescent_MoeSwigluIdeal [hMoeSwigluIdeal : Cert.MoeSwigluIdeal.Facts] [hPre_in_range : Cert.Pre_in_range.Facts] : Prop :=
  ∀ (m : (ℓ : Loc Cert.MoeSwigluIdeal.nD Cert.MoeSwigluIdeal.τ Cert.MoeSwigluIdeal.sig) → Buf (Elt Ideal) ℓ) (g : Dev Cert.MoeSwigluIdeal.nD → PrngReg), Pre_MoeSwigluIdeal m →
    θ_run (Cert.MoeSwigluIdeal.defs (F := Ideal)) (onTc (τ := Cert.MoeSwigluIdeal.τ) (Cert.MoeSwigluIdeal.main (F := Ideal))) ⟨m, fun _ => 0, g⟩ (fun r => (∀ c : Dev Cert.MoeSwigluIdeal.nD,
      r.2.mem ((c.tc : Thread Cert.MoeSwigluIdeal.nD Cert.MoeSwigluIdeal.τ).loc Cert.MoeSwigluIdeal.main_arg0) = m ((c.tc : Thread Cert.MoeSwigluIdeal.nD Cert.MoeSwigluIdeal.τ).loc Cert.MoeSwigluIdeal.main_arg0)
      ∧ r.2.mem ((c.tc : Thread Cert.MoeSwigluIdeal.nD Cert.MoeSwigluIdeal.τ).loc Cert.MoeSwigluIdeal.main_arg1) = m ((c.tc : Thread Cert.MoeSwigluIdeal.nD Cert.MoeSwigluIdeal.τ).loc Cert.MoeSwigluIdeal.main_arg1)
      ∧ r.2.mem ((c.tc : Thread Cert.MoeSwigluIdeal.nD Cert.MoeSwigluIdeal.τ).loc Cert.MoeSwigluIdeal.main_arg2) = m ((c.tc : Thread Cert.MoeSwigluIdeal.nD Cert.MoeSwigluIdeal.τ).loc Cert.MoeSwigluIdeal.main_arg2)
      ∧ r.2.mem ((c.tc : Thread Cert.MoeSwigluIdeal.nD Cert.MoeSwigluIdeal.τ).loc Cert.MoeSwigluIdeal.main_arg3) = m ((c.tc : Thread Cert.MoeSwigluIdeal.nD Cert.MoeSwigluIdeal.τ).loc Cert.MoeSwigluIdeal.main_arg3)
      ∧ r.2.mem ((c.tc : Thread Cert.MoeSwigluIdeal.nD Cert.MoeSwigluIdeal.τ).loc Cert.MoeSwigluIdeal.main_arg4) = m ((c.tc : Thread Cert.MoeSwigluIdeal.nD Cert.MoeSwigluIdeal.τ).loc Cert.MoeSwigluIdeal.main_arg4)
      ∧ r.2.mem ((c.tc : Thread Cert.MoeSwigluIdeal.nD Cert.MoeSwigluIdeal.τ).loc Cert.MoeSwigluIdeal.main_arg5) = m ((c.tc : Thread Cert.MoeSwigluIdeal.nD Cert.MoeSwigluIdeal.τ).loc Cert.MoeSwigluIdeal.main_arg5))
      ∧ r.2.sem = fun _ => 0)

def quiescent_MoeSwigluRefIdeal [hMoeSwigluRefIdeal : Cert.MoeSwigluRefIdeal.Facts] : Prop :=
  ∀ (m : (ℓ : Loc Cert.MoeSwigluRefIdeal.nD Cert.MoeSwigluRefIdeal.τ Cert.MoeSwigluRefIdeal.sig) → Buf (Elt Ideal) ℓ) (g : Dev Cert.MoeSwigluRefIdeal.nD → PrngReg), Pre_MoeSwigluRefIdeal m →
    θ_run (Cert.MoeSwigluRefIdeal.defs (F := Ideal)) (onTc (τ := Cert.MoeSwigluRefIdeal.τ) (Cert.MoeSwigluRefIdeal.main (F := Ideal))) ⟨m, fun _ => 0, g⟩ (fun r => (∀ c : Dev Cert.MoeSwigluRefIdeal.nD,
      r.2.mem ((c.tc : Thread Cert.MoeSwigluRefIdeal.nD Cert.MoeSwigluRefIdeal.τ).loc Cert.MoeSwigluRefIdeal.main_arg0) = m ((c.tc : Thread Cert.MoeSwigluRefIdeal.nD Cert.MoeSwigluRefIdeal.τ).loc Cert.MoeSwigluRefIdeal.main_arg0)
      ∧ r.2.mem ((c.tc : Thread Cert.MoeSwigluRefIdeal.nD Cert.MoeSwigluRefIdeal.τ).loc Cert.MoeSwigluRefIdeal.main_arg1) = m ((c.tc : Thread Cert.MoeSwigluRefIdeal.nD Cert.MoeSwigluRefIdeal.τ).loc Cert.MoeSwigluRefIdeal.main_arg1)
      ∧ r.2.mem ((c.tc : Thread Cert.MoeSwigluRefIdeal.nD Cert.MoeSwigluRefIdeal.τ).loc Cert.MoeSwigluRefIdeal.main_arg2) = m ((c.tc : Thread Cert.MoeSwigluRefIdeal.nD Cert.MoeSwigluRefIdeal.τ).loc Cert.MoeSwigluRefIdeal.main_arg2)
      ∧ r.2.mem ((c.tc : Thread Cert.MoeSwigluRefIdeal.nD Cert.MoeSwigluRefIdeal.τ).loc Cert.MoeSwigluRefIdeal.main_arg3) = m ((c.tc : Thread Cert.MoeSwigluRefIdeal.nD Cert.MoeSwigluRefIdeal.τ).loc Cert.MoeSwigluRefIdeal.main_arg3)
      ∧ r.2.mem ((c.tc : Thread Cert.MoeSwigluRefIdeal.nD Cert.MoeSwigluRefIdeal.τ).loc Cert.MoeSwigluRefIdeal.main_arg4) = m ((c.tc : Thread Cert.MoeSwigluRefIdeal.nD Cert.MoeSwigluRefIdeal.τ).loc Cert.MoeSwigluRefIdeal.main_arg4)
      ∧ r.2.mem ((c.tc : Thread Cert.MoeSwigluRefIdeal.nD Cert.MoeSwigluRefIdeal.τ).loc Cert.MoeSwigluRefIdeal.main_arg5) = m ((c.tc : Thread Cert.MoeSwigluRefIdeal.nD Cert.MoeSwigluRefIdeal.τ).loc Cert.MoeSwigluRefIdeal.main_arg5))
      ∧ r.2.sem = fun _ => 0)

def quiescent_MoeSwigluRefIdeal_pre_in_range [hMoeSwigluRefIdeal : Cert.MoeSwigluRefIdeal.Facts] [hPre_in_range : Cert.Pre_in_range.Facts] : Prop :=
  ∀ (m : (ℓ : Loc Cert.MoeSwigluRefIdeal.nD Cert.MoeSwigluRefIdeal.τ Cert.MoeSwigluRefIdeal.sig) → Buf (Elt Ideal) ℓ) (g : Dev Cert.MoeSwigluRefIdeal.nD → PrngReg), Pre_MoeSwigluRefIdeal_in_range m →
    θ_run (Cert.MoeSwigluRefIdeal.defs (F := Ideal)) (onTc (τ := Cert.MoeSwigluRefIdeal.τ) (Cert.MoeSwigluRefIdeal.main (F := Ideal))) ⟨m, fun _ => 0, g⟩ (fun r => (∀ c : Dev Cert.MoeSwigluRefIdeal.nD,
      r.2.mem ((c.tc : Thread Cert.MoeSwigluRefIdeal.nD Cert.MoeSwigluRefIdeal.τ).loc Cert.MoeSwigluRefIdeal.main_arg0) = m ((c.tc : Thread Cert.MoeSwigluRefIdeal.nD Cert.MoeSwigluRefIdeal.τ).loc Cert.MoeSwigluRefIdeal.main_arg0)
      ∧ r.2.mem ((c.tc : Thread Cert.MoeSwigluRefIdeal.nD Cert.MoeSwigluRefIdeal.τ).loc Cert.MoeSwigluRefIdeal.main_arg1) = m ((c.tc : Thread Cert.MoeSwigluRefIdeal.nD Cert.MoeSwigluRefIdeal.τ).loc Cert.MoeSwigluRefIdeal.main_arg1)
      ∧ r.2.mem ((c.tc : Thread Cert.MoeSwigluRefIdeal.nD Cert.MoeSwigluRefIdeal.τ).loc Cert.MoeSwigluRefIdeal.main_arg2) = m ((c.tc : Thread Cert.MoeSwigluRefIdeal.nD Cert.MoeSwigluRefIdeal.τ).loc Cert.MoeSwigluRefIdeal.main_arg2)
      ∧ r.2.mem ((c.tc : Thread Cert.MoeSwigluRefIdeal.nD Cert.MoeSwigluRefIdeal.τ).loc Cert.MoeSwigluRefIdeal.main_arg3) = m ((c.tc : Thread Cert.MoeSwigluRefIdeal.nD Cert.MoeSwigluRefIdeal.τ).loc Cert.MoeSwigluRefIdeal.main_arg3)
      ∧ r.2.mem ((c.tc : Thread Cert.MoeSwigluRefIdeal.nD Cert.MoeSwigluRefIdeal.τ).loc Cert.MoeSwigluRefIdeal.main_arg4) = m ((c.tc : Thread Cert.MoeSwigluRefIdeal.nD Cert.MoeSwigluRefIdeal.τ).loc Cert.MoeSwigluRefIdeal.main_arg4)
      ∧ r.2.mem ((c.tc : Thread Cert.MoeSwigluRefIdeal.nD Cert.MoeSwigluRefIdeal.τ).loc Cert.MoeSwigluRefIdeal.main_arg5) = m ((c.tc : Thread Cert.MoeSwigluRefIdeal.nD Cert.MoeSwigluRefIdeal.τ).loc Cert.MoeSwigluRefIdeal.main_arg5))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_InEven [hInEven : Cert.InEven.Facts] : Prop :=
  ∀ (m : (ℓ : Loc Cert.InEven.nD Cert.InEven.τ Cert.InEven.sig) → Buf (Elt Bits) ℓ) (g : Dev Cert.InEven.nD → PrngReg), Pre_InEven m →
    θ_run (Cert.InEven.defs (F := Bits)) (onTc (τ := Cert.InEven.τ) (Cert.InEven.main (F := Bits))) ⟨m, fun _ => 0, g⟩ (fun r => (∀ c : Dev Cert.InEven.nD,
      r.2.mem ((c.tc : Thread Cert.InEven.nD Cert.InEven.τ).loc Cert.InEven.main_arg0) = m ((c.tc : Thread Cert.InEven.nD Cert.InEven.τ).loc Cert.InEven.main_arg0)
      ∧ r.2.mem ((c.tc : Thread Cert.InEven.nD Cert.InEven.τ).loc Cert.InEven.main_arg1) = m ((c.tc : Thread Cert.InEven.nD Cert.InEven.τ).loc Cert.InEven.main_arg1))
      ∧ r.2.sem = fun _ => 0)

def quiescent_InEvenIdeal [hInEvenIdeal : Cert.InEvenIdeal.Facts] : Prop :=
  ∀ (m : (ℓ : Loc Cert.InEvenIdeal.nD Cert.InEvenIdeal.τ Cert.InEvenIdeal.sig) → Buf (Elt Ideal) ℓ) (g : Dev Cert.InEvenIdeal.nD → PrngReg), Pre_InEvenIdeal m →
    θ_run (Cert.InEvenIdeal.defs (F := Ideal)) (onTc (τ := Cert.InEvenIdeal.τ) (Cert.InEvenIdeal.main (F := Ideal))) ⟨m, fun _ => 0, g⟩ (fun r => (∀ c : Dev Cert.InEvenIdeal.nD,
      r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
      ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1))
      ∧ r.2.sem = fun _ => 0)

def quiescent_InEvenRefIdeal [hInEvenRefIdeal : Cert.InEvenRefIdeal.Facts] : Prop :=
  ∀ (m : (ℓ : Loc Cert.InEvenRefIdeal.nD Cert.InEvenRefIdeal.τ Cert.InEvenRefIdeal.sig) → Buf (Elt Ideal) ℓ) (g : Dev Cert.InEvenRefIdeal.nD → PrngReg), Pre_InEvenRefIdeal m →
    θ_run (Cert.InEvenRefIdeal.defs (F := Ideal)) (onTc (τ := Cert.InEvenRefIdeal.τ) (Cert.InEvenRefIdeal.main (F := Ideal))) ⟨m, fun _ => 0, g⟩ (fun r => (∀ c : Dev Cert.InEvenRefIdeal.nD,
      r.2.mem ((c.tc : Thread Cert.InEvenRefIdeal.nD Cert.InEvenRefIdeal.τ).loc Cert.InEvenRefIdeal.main_arg0) = m ((c.tc : Thread Cert.InEvenRefIdeal.nD Cert.InEvenRefIdeal.τ).loc Cert.InEvenRefIdeal.main_arg0)
      ∧ r.2.mem ((c.tc : Thread Cert.InEvenRefIdeal.nD Cert.InEvenRefIdeal.τ).loc Cert.InEvenRefIdeal.main_arg1) = m ((c.tc : Thread Cert.InEvenRefIdeal.nD Cert.InEvenRefIdeal.τ).loc Cert.InEvenRefIdeal.main_arg1))
      ∧ r.2.sem = fun _ => 0)

def quiescent_DsaV [hDsaV : Cert.DsaV.Facts] : Prop :=
  ∀ (m : (ℓ : Loc Cert.DsaV.nD Cert.DsaV.τ Cert.DsaV.sig) → Buf (Elt Bits) ℓ) (g : Dev Cert.DsaV.nD → PrngReg), Pre_DsaV m →
    θ_run (Cert.DsaV.defs (F := Bits)) (onTc (τ := Cert.DsaV.τ) (Cert.DsaV.main (F := Bits))) ⟨m, fun _ => 0, g⟩ (fun r => (∀ c : Dev Cert.DsaV.nD,
      r.2.mem ((c.tc : Thread Cert.DsaV.nD Cert.DsaV.τ).loc Cert.DsaV.main_arg0) = m ((c.tc : Thread Cert.DsaV.nD Cert.DsaV.τ).loc Cert.DsaV.main_arg0))
      ∧ r.2.sem = fun _ => 0)

def quiescent_DsaVIdeal [hDsaVIdeal : Cert.DsaVIdeal.Facts] : Prop :=
  ∀ (m : (ℓ : Loc Cert.DsaVIdeal.nD Cert.DsaVIdeal.τ Cert.DsaVIdeal.sig) → Buf (Elt Ideal) ℓ) (g : Dev Cert.DsaVIdeal.nD → PrngReg), Pre_DsaVIdeal m →
    θ_run (Cert.DsaVIdeal.defs (F := Ideal)) (onTc (τ := Cert.DsaVIdeal.τ) (Cert.DsaVIdeal.main (F := Ideal))) ⟨m, fun _ => 0, g⟩ (fun r => (∀ c : Dev Cert.DsaVIdeal.nD,
      r.2.mem ((c.tc : Thread Cert.DsaVIdeal.nD Cert.DsaVIdeal.τ).loc Cert.DsaVIdeal.main_arg0) = m ((c.tc : Thread Cert.DsaVIdeal.nD Cert.DsaVIdeal.τ).loc Cert.DsaVIdeal.main_arg0))
      ∧ r.2.sem = fun _ => 0)

def quiescent_DsaVRefIdeal [hDsaVRefIdeal : Cert.DsaVRefIdeal.Facts] : Prop :=
  ∀ (m : (ℓ : Loc Cert.DsaVRefIdeal.nD Cert.DsaVRefIdeal.τ Cert.DsaVRefIdeal.sig) → Buf (Elt Ideal) ℓ) (g : Dev Cert.DsaVRefIdeal.nD → PrngReg), Pre_DsaVRefIdeal m →
    θ_run (Cert.DsaVRefIdeal.defs (F := Ideal)) (onTc (τ := Cert.DsaVRefIdeal.τ) (Cert.DsaVRefIdeal.main (F := Ideal))) ⟨m, fun _ => 0, g⟩ (fun r => (∀ c : Dev Cert.DsaVRefIdeal.nD,
      r.2.mem ((c.tc : Thread Cert.DsaVRefIdeal.nD Cert.DsaVRefIdeal.τ).loc Cert.DsaVRefIdeal.main_arg0) = m ((c.tc : Thread Cert.DsaVRefIdeal.nD Cert.DsaVRefIdeal.τ).loc Cert.DsaVRefIdeal.main_arg0))
      ∧ r.2.sem = fun _ => 0)

def quiescent_DsaK [hDsaK : Cert.DsaK.Facts] : Prop :=
  ∀ (m : (ℓ : Loc Cert.DsaK.nD Cert.DsaK.τ Cert.DsaK.sig) → Buf (Elt Bits) ℓ) (g : Dev Cert.DsaK.nD → PrngReg), Pre_DsaK m →
    θ_run (Cert.DsaK.defs (F := Bits)) (onTc (τ := Cert.DsaK.τ) (Cert.DsaK.main (F := Bits))) ⟨m, fun _ => 0, g⟩ (fun r => (∀ c : Dev Cert.DsaK.nD,
      r.2.mem ((c.tc : Thread Cert.DsaK.nD Cert.DsaK.τ).loc Cert.DsaK.main_arg0) = m ((c.tc : Thread Cert.DsaK.nD Cert.DsaK.τ).loc Cert.DsaK.main_arg0)
      ∧ r.2.mem ((c.tc : Thread Cert.DsaK.nD Cert.DsaK.τ).loc Cert.DsaK.main_arg1) = m ((c.tc : Thread Cert.DsaK.nD Cert.DsaK.τ).loc Cert.DsaK.main_arg1))
      ∧ r.2.sem = fun _ => 0)

def quiescent_DsaKIdeal [hDsaKIdeal : Cert.DsaKIdeal.Facts] : Prop :=
  ∀ (m : (ℓ : Loc Cert.DsaKIdeal.nD Cert.DsaKIdeal.τ Cert.DsaKIdeal.sig) → Buf (Elt Ideal) ℓ) (g : Dev Cert.DsaKIdeal.nD → PrngReg), Pre_DsaKIdeal m →
    θ_run (Cert.DsaKIdeal.defs (F := Ideal)) (onTc (τ := Cert.DsaKIdeal.τ) (Cert.DsaKIdeal.main (F := Ideal))) ⟨m, fun _ => 0, g⟩ (fun r => (∀ c : Dev Cert.DsaKIdeal.nD,
      r.2.mem ((c.tc : Thread Cert.DsaKIdeal.nD Cert.DsaKIdeal.τ).loc Cert.DsaKIdeal.main_arg0) = m ((c.tc : Thread Cert.DsaKIdeal.nD Cert.DsaKIdeal.τ).loc Cert.DsaKIdeal.main_arg0)
      ∧ r.2.mem ((c.tc : Thread Cert.DsaKIdeal.nD Cert.DsaKIdeal.τ).loc Cert.DsaKIdeal.main_arg1) = m ((c.tc : Thread Cert.DsaKIdeal.nD Cert.DsaKIdeal.τ).loc Cert.DsaKIdeal.main_arg1))
      ∧ r.2.sem = fun _ => 0)

def quiescent_DsaKRefIdeal [hDsaKRefIdeal : Cert.DsaKRefIdeal.Facts] : Prop :=
  ∀ (m : (ℓ : Loc Cert.DsaKRefIdeal.nD Cert.DsaKRefIdeal.τ Cert.DsaKRefIdeal.sig) → Buf (Elt Ideal) ℓ) (g : Dev Cert.DsaKRefIdeal.nD → PrngReg), Pre_DsaKRefIdeal m →
    θ_run (Cert.DsaKRefIdeal.defs (F := Ideal)) (onTc (τ := Cert.DsaKRefIdeal.τ) (Cert.DsaKRefIdeal.main (F := Ideal))) ⟨m, fun _ => 0, g⟩ (fun r => (∀ c : Dev Cert.DsaKRefIdeal.nD,
      r.2.mem ((c.tc : Thread Cert.DsaKRefIdeal.nD Cert.DsaKRefIdeal.τ).loc Cert.DsaKRefIdeal.main_arg0) = m ((c.tc : Thread Cert.DsaKRefIdeal.nD Cert.DsaKRefIdeal.τ).loc Cert.DsaKRefIdeal.main_arg0)
      ∧ r.2.mem ((c.tc : Thread Cert.DsaKRefIdeal.nD Cert.DsaKRefIdeal.τ).loc Cert.DsaKRefIdeal.main_arg1) = m ((c.tc : Thread Cert.DsaKRefIdeal.nD Cert.DsaKRefIdeal.τ).loc Cert.DsaKRefIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Swiglu_SwigluIdeal : Prop :=
  True

def algebraic_SwigluIdeal_SwigluRefIdeal [hSwigluIdeal : Cert.SwigluIdeal.Facts] [hSwigluRefIdeal : Cert.SwigluRefIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)
      ∧ m' ((c.tc : Thread Cert.SwigluRefIdeal.nD Cert.SwigluRefIdeal.τ).loc Cert.SwigluRefIdeal.main_arg2) = m ((c.tc : Thread Cert.SwigluIdeal.nD Cert.SwigluIdeal.τ).loc Cert.SwigluIdeal.main_arg2)) →
    ∃ (v0 : (c : Dev Cert.SwigluIdeal.nD) → Buf (Elt Ideal) ((c.tc : Thread Cert.SwigluIdeal.nD Cert.SwigluIdeal.τ).loc Cert.SwigluIdeal.main_v3)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v3) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v7) = v0 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1)
          ∧ r.2.mem ((c.tc : Thread Cert.SwigluRefIdeal.nD Cert.SwigluRefIdeal.τ).loc Cert.SwigluRefIdeal.main_arg2) = m' ((c.tc : Thread Cert.SwigluRefIdeal.nD Cert.SwigluRefIdeal.τ).loc Cert.SwigluRefIdeal.main_arg2))

def preserves_InOdd_InOddIdeal : Prop :=
  True

def algebraic_InOddIdeal_InOddRefIdeal [hInOddIdeal : Cert.InOddIdeal.Facts] [hInOddRefIdeal : Cert.InOddRefIdeal.Facts] : Prop :=
  ∀ (m : (ℓ : Loc Cert.InOddIdeal.nD Cert.InOddIdeal.τ Cert.InOddIdeal.sig) → Buf (Elt Ideal) ℓ) (g : Dev Cert.InOddIdeal.nD → PrngReg)
    (m' : (ℓ : Loc Cert.InOddRefIdeal.nD Cert.InOddRefIdeal.τ Cert.InOddRefIdeal.sig) → Buf (Elt Ideal) ℓ) (g' : Dev Cert.InOddRefIdeal.nD → PrngReg), Pre_InOddIdeal m →
    (∀ c : Dev Cert.InOddIdeal.nD,
      m' ((c.tc : Thread Cert.InOddRefIdeal.nD Cert.InOddRefIdeal.τ).loc Cert.InOddRefIdeal.main_arg0) = m ((c.tc : Thread Cert.InOddIdeal.nD Cert.InOddIdeal.τ).loc Cert.InOddIdeal.main_arg0)
      ∧ m' ((c.tc : Thread Cert.InOddRefIdeal.nD Cert.InOddRefIdeal.τ).loc Cert.InOddRefIdeal.main_arg1) = m ((c.tc : Thread Cert.InOddIdeal.nD Cert.InOddIdeal.τ).loc Cert.InOddIdeal.main_arg1)) →
    ∃ (v0 : (c : Dev Cert.InOddIdeal.nD) → Buf (Elt Ideal) ((c.tc : Thread Cert.InOddIdeal.nD Cert.InOddIdeal.τ).loc Cert.InOddIdeal.main_v3)),
      θ_run (Cert.InOddIdeal.defs (F := Ideal)) (onTc (τ := Cert.InOddIdeal.τ) (Cert.InOddIdeal.main (F := Ideal))) ⟨m, fun _ => 0, g⟩ (fun r => ∀ c : Dev Cert.InOddIdeal.nD,
          r.2.mem ((c.tc : Thread Cert.InOddIdeal.nD Cert.InOddIdeal.τ).loc Cert.InOddIdeal.main_v3) = v0 c
          ∧ r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
          ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1))
      ∧ θ_run (Cert.InOddRefIdeal.defs (F := Ideal)) (onTc (τ := Cert.InOddRefIdeal.τ) (Cert.InOddRefIdeal.main (F := Ideal))) ⟨m', fun _ => 0, g'⟩ (fun r => ∀ c : Dev Cert.InOddRefIdeal.nD,
          r.2.mem ((c.tc : Thread Cert.InOddRefIdeal.nD Cert.InOddRefIdeal.τ).loc Cert.InOddRefIdeal.main_v3) = v0 c
          ∧ r.2.mem ((c.tc : Thread Cert.InOddRefIdeal.nD Cert.InOddRefIdeal.τ).loc Cert.InOddRefIdeal.main_arg0) = m' ((c.tc : Thread Cert.InOddRefIdeal.nD Cert.InOddRefIdeal.τ).loc Cert.InOddRefIdeal.main_arg0)
          ∧ r.2.mem ((c.tc : Thread Cert.InOddRefIdeal.nD Cert.InOddRefIdeal.τ).loc Cert.InOddRefIdeal.main_arg1) = m' ((c.tc : Thread Cert.InOddRefIdeal.nD Cert.InOddRefIdeal.τ).loc Cert.InOddRefIdeal.main_arg1))

def preserves_KvNew_KvNewIdeal : Prop :=
  True

def algebraic_KvNewIdeal_KvNewRefIdeal [hKvNewIdeal : Cert.KvNewIdeal.Facts] [hKvNewRefIdeal : Cert.KvNewRefIdeal.Facts] : Prop :=
  ∀ (m : (ℓ : Loc Cert.KvNewIdeal.nD Cert.KvNewIdeal.τ Cert.KvNewIdeal.sig) → Buf (Elt Ideal) ℓ) (g : Dev Cert.KvNewIdeal.nD → PrngReg)
    (m' : (ℓ : Loc Cert.KvNewRefIdeal.nD Cert.KvNewRefIdeal.τ Cert.KvNewRefIdeal.sig) → Buf (Elt Ideal) ℓ) (g' : Dev Cert.KvNewRefIdeal.nD → PrngReg), Pre_KvNewIdeal m →
    (∀ c : Dev Cert.KvNewIdeal.nD,
      m' ((c.tc : Thread Cert.KvNewRefIdeal.nD Cert.KvNewRefIdeal.τ).loc Cert.KvNewRefIdeal.main_arg0) = m ((c.tc : Thread Cert.KvNewIdeal.nD Cert.KvNewIdeal.τ).loc Cert.KvNewIdeal.main_arg0)
      ∧ m' ((c.tc : Thread Cert.KvNewRefIdeal.nD Cert.KvNewRefIdeal.τ).loc Cert.KvNewRefIdeal.main_arg1) = m ((c.tc : Thread Cert.KvNewIdeal.nD Cert.KvNewIdeal.τ).loc Cert.KvNewIdeal.main_arg1)) →
    ∃ (v0 : (c : Dev Cert.KvNewIdeal.nD) → Buf (Elt Ideal) ((c.tc : Thread Cert.KvNewIdeal.nD Cert.KvNewIdeal.τ).loc Cert.KvNewIdeal.main_v3)),
      θ_run (Cert.KvNewIdeal.defs (F := Ideal)) (onTc (τ := Cert.KvNewIdeal.τ) (Cert.KvNewIdeal.main (F := Ideal))) ⟨m, fun _ => 0, g⟩ (fun r => ∀ c : Dev Cert.KvNewIdeal.nD,
          r.2.mem ((c.tc : Thread Cert.KvNewIdeal.nD Cert.KvNewIdeal.τ).loc Cert.KvNewIdeal.main_v3) = v0 c
          ∧ r.2.mem ((c.tc : Thread Cert.KvNewIdeal.nD Cert.KvNewIdeal.τ).loc Cert.KvNewIdeal.main_arg0) = m ((c.tc : Thread Cert.KvNewIdeal.nD Cert.KvNewIdeal.τ).loc Cert.KvNewIdeal.main_arg0)
          ∧ r.2.mem ((c.tc : Thread Cert.KvNewIdeal.nD Cert.KvNewIdeal.τ).loc Cert.KvNewIdeal.main_arg1) = m ((c.tc : Thread Cert.KvNewIdeal.nD Cert.KvNewIdeal.τ).loc Cert.KvNewIdeal.main_arg1))
      ∧ θ_run (Cert.KvNewRefIdeal.defs (F := Ideal)) (onTc (τ := Cert.KvNewRefIdeal.τ) (Cert.KvNewRefIdeal.main (F := Ideal))) ⟨m', fun _ => 0, g'⟩ (fun r => ∀ c : Dev Cert.KvNewRefIdeal.nD,
          r.2.mem ((c.tc : Thread Cert.KvNewRefIdeal.nD Cert.KvNewRefIdeal.τ).loc Cert.KvNewRefIdeal.main_v3) = v0 c
          ∧ r.2.mem ((c.tc : Thread Cert.KvNewRefIdeal.nD Cert.KvNewRefIdeal.τ).loc Cert.KvNewRefIdeal.main_arg0) = m' ((c.tc : Thread Cert.KvNewRefIdeal.nD Cert.KvNewRefIdeal.τ).loc Cert.KvNewRefIdeal.main_arg0)
          ∧ r.2.mem ((c.tc : Thread Cert.KvNewRefIdeal.nD Cert.KvNewRefIdeal.τ).loc Cert.KvNewRefIdeal.main_arg1) = m' ((c.tc : Thread Cert.KvNewRefIdeal.nD Cert.KvNewRefIdeal.τ).loc Cert.KvNewRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v3_0)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v3_0) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v13) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def preserves_MoeSwiglu_MoeSwigluIdeal : Prop :=
  True

def algebraic_MoeSwigluIdeal_MoeSwigluRefIdeal [hMoeSwigluIdeal : Cert.MoeSwigluIdeal.Facts] [hMoeSwigluRefIdeal : Cert.MoeSwigluRefIdeal.Facts] [hPre_in_range : Cert.Pre_in_range.Facts] : Prop :=
  ∀ (m : (ℓ : Loc Cert.MoeSwigluIdeal.nD Cert.MoeSwigluIdeal.τ Cert.MoeSwigluIdeal.sig) → Buf (Elt Ideal) ℓ) (g : Dev Cert.MoeSwigluIdeal.nD → PrngReg)
    (m' : (ℓ : Loc Cert.MoeSwigluRefIdeal.nD Cert.MoeSwigluRefIdeal.τ Cert.MoeSwigluRefIdeal.sig) → Buf (Elt Ideal) ℓ) (g' : Dev Cert.MoeSwigluRefIdeal.nD → PrngReg), Pre_MoeSwigluIdeal m →
    (∀ c : Dev Cert.MoeSwigluIdeal.nD,
      m' ((c.tc : Thread Cert.MoeSwigluRefIdeal.nD Cert.MoeSwigluRefIdeal.τ).loc Cert.MoeSwigluRefIdeal.main_arg0) = m ((c.tc : Thread Cert.MoeSwigluIdeal.nD Cert.MoeSwigluIdeal.τ).loc Cert.MoeSwigluIdeal.main_arg0)
      ∧ m' ((c.tc : Thread Cert.MoeSwigluRefIdeal.nD Cert.MoeSwigluRefIdeal.τ).loc Cert.MoeSwigluRefIdeal.main_arg1) = m ((c.tc : Thread Cert.MoeSwigluIdeal.nD Cert.MoeSwigluIdeal.τ).loc Cert.MoeSwigluIdeal.main_arg1)
      ∧ m' ((c.tc : Thread Cert.MoeSwigluRefIdeal.nD Cert.MoeSwigluRefIdeal.τ).loc Cert.MoeSwigluRefIdeal.main_arg2) = m ((c.tc : Thread Cert.MoeSwigluIdeal.nD Cert.MoeSwigluIdeal.τ).loc Cert.MoeSwigluIdeal.main_arg2)
      ∧ m' ((c.tc : Thread Cert.MoeSwigluRefIdeal.nD Cert.MoeSwigluRefIdeal.τ).loc Cert.MoeSwigluRefIdeal.main_arg3) = m ((c.tc : Thread Cert.MoeSwigluIdeal.nD Cert.MoeSwigluIdeal.τ).loc Cert.MoeSwigluIdeal.main_arg3)
      ∧ m' ((c.tc : Thread Cert.MoeSwigluRefIdeal.nD Cert.MoeSwigluRefIdeal.τ).loc Cert.MoeSwigluRefIdeal.main_arg4) = m ((c.tc : Thread Cert.MoeSwigluIdeal.nD Cert.MoeSwigluIdeal.τ).loc Cert.MoeSwigluIdeal.main_arg4)
      ∧ m' ((c.tc : Thread Cert.MoeSwigluRefIdeal.nD Cert.MoeSwigluRefIdeal.τ).loc Cert.MoeSwigluRefIdeal.main_arg5) = m ((c.tc : Thread Cert.MoeSwigluIdeal.nD Cert.MoeSwigluIdeal.τ).loc Cert.MoeSwigluIdeal.main_arg5)) →
    ∃ (v0 : (c : Dev Cert.MoeSwigluIdeal.nD) → Buf (Elt Ideal) ((c.tc : Thread Cert.MoeSwigluIdeal.nD Cert.MoeSwigluIdeal.τ).loc Cert.MoeSwigluIdeal.main_v0)),
      θ_run (Cert.MoeSwigluIdeal.defs (F := Ideal)) (onTc (τ := Cert.MoeSwigluIdeal.τ) (Cert.MoeSwigluIdeal.main (F := Ideal))) ⟨m, fun _ => 0, g⟩ (fun r => ∀ c : Dev Cert.MoeSwigluIdeal.nD,
          r.2.mem ((c.tc : Thread Cert.MoeSwigluIdeal.nD Cert.MoeSwigluIdeal.τ).loc Cert.MoeSwigluIdeal.main_v0) = v0 c
          ∧ r.2.mem ((c.tc : Thread Cert.MoeSwigluIdeal.nD Cert.MoeSwigluIdeal.τ).loc Cert.MoeSwigluIdeal.main_arg0) = m ((c.tc : Thread Cert.MoeSwigluIdeal.nD Cert.MoeSwigluIdeal.τ).loc Cert.MoeSwigluIdeal.main_arg0)
          ∧ r.2.mem ((c.tc : Thread Cert.MoeSwigluIdeal.nD Cert.MoeSwigluIdeal.τ).loc Cert.MoeSwigluIdeal.main_arg1) = m ((c.tc : Thread Cert.MoeSwigluIdeal.nD Cert.MoeSwigluIdeal.τ).loc Cert.MoeSwigluIdeal.main_arg1)
          ∧ r.2.mem ((c.tc : Thread Cert.MoeSwigluIdeal.nD Cert.MoeSwigluIdeal.τ).loc Cert.MoeSwigluIdeal.main_arg2) = m ((c.tc : Thread Cert.MoeSwigluIdeal.nD Cert.MoeSwigluIdeal.τ).loc Cert.MoeSwigluIdeal.main_arg2)
          ∧ r.2.mem ((c.tc : Thread Cert.MoeSwigluIdeal.nD Cert.MoeSwigluIdeal.τ).loc Cert.MoeSwigluIdeal.main_arg3) = m ((c.tc : Thread Cert.MoeSwigluIdeal.nD Cert.MoeSwigluIdeal.τ).loc Cert.MoeSwigluIdeal.main_arg3)
          ∧ r.2.mem ((c.tc : Thread Cert.MoeSwigluIdeal.nD Cert.MoeSwigluIdeal.τ).loc Cert.MoeSwigluIdeal.main_arg4) = m ((c.tc : Thread Cert.MoeSwigluIdeal.nD Cert.MoeSwigluIdeal.τ).loc Cert.MoeSwigluIdeal.main_arg4)
          ∧ r.2.mem ((c.tc : Thread Cert.MoeSwigluIdeal.nD Cert.MoeSwigluIdeal.τ).loc Cert.MoeSwigluIdeal.main_arg5) = m ((c.tc : Thread Cert.MoeSwigluIdeal.nD Cert.MoeSwigluIdeal.τ).loc Cert.MoeSwigluIdeal.main_arg5))
      ∧ θ_run (Cert.MoeSwigluRefIdeal.defs (F := Ideal)) (onTc (τ := Cert.MoeSwigluRefIdeal.τ) (Cert.MoeSwigluRefIdeal.main (F := Ideal))) ⟨m', fun _ => 0, g'⟩ (fun r => ∀ c : Dev Cert.MoeSwigluRefIdeal.nD,
          r.2.mem ((c.tc : Thread Cert.MoeSwigluRefIdeal.nD Cert.MoeSwigluRefIdeal.τ).loc Cert.MoeSwigluRefIdeal.main_v44) = v0 c
          ∧ r.2.mem ((c.tc : Thread Cert.MoeSwigluRefIdeal.nD Cert.MoeSwigluRefIdeal.τ).loc Cert.MoeSwigluRefIdeal.main_arg0) = m' ((c.tc : Thread Cert.MoeSwigluRefIdeal.nD Cert.MoeSwigluRefIdeal.τ).loc Cert.MoeSwigluRefIdeal.main_arg0)
          ∧ r.2.mem ((c.tc : Thread Cert.MoeSwigluRefIdeal.nD Cert.MoeSwigluRefIdeal.τ).loc Cert.MoeSwigluRefIdeal.main_arg1) = m' ((c.tc : Thread Cert.MoeSwigluRefIdeal.nD Cert.MoeSwigluRefIdeal.τ).loc Cert.MoeSwigluRefIdeal.main_arg1)
          ∧ r.2.mem ((c.tc : Thread Cert.MoeSwigluRefIdeal.nD Cert.MoeSwigluRefIdeal.τ).loc Cert.MoeSwigluRefIdeal.main_arg2) = m' ((c.tc : Thread Cert.MoeSwigluRefIdeal.nD Cert.MoeSwigluRefIdeal.τ).loc Cert.MoeSwigluRefIdeal.main_arg2)
          ∧ r.2.mem ((c.tc : Thread Cert.MoeSwigluRefIdeal.nD Cert.MoeSwigluRefIdeal.τ).loc Cert.MoeSwigluRefIdeal.main_arg3) = m' ((c.tc : Thread Cert.MoeSwigluRefIdeal.nD Cert.MoeSwigluRefIdeal.τ).loc Cert.MoeSwigluRefIdeal.main_arg3)
          ∧ r.2.mem ((c.tc : Thread Cert.MoeSwigluRefIdeal.nD Cert.MoeSwigluRefIdeal.τ).loc Cert.MoeSwigluRefIdeal.main_arg4) = m' ((c.tc : Thread Cert.MoeSwigluRefIdeal.nD Cert.MoeSwigluRefIdeal.τ).loc Cert.MoeSwigluRefIdeal.main_arg4)
          ∧ r.2.mem ((c.tc : Thread Cert.MoeSwigluRefIdeal.nD Cert.MoeSwigluRefIdeal.τ).loc Cert.MoeSwigluRefIdeal.main_arg5) = m' ((c.tc : Thread Cert.MoeSwigluRefIdeal.nD Cert.MoeSwigluRefIdeal.τ).loc Cert.MoeSwigluRefIdeal.main_arg5))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v3)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_InEven_InEvenIdeal : Prop :=
  True

def algebraic_InEvenIdeal_InEvenRefIdeal [hInEvenIdeal : Cert.InEvenIdeal.Facts] [hInEvenRefIdeal : Cert.InEvenRefIdeal.Facts] : Prop :=
  ∀ (m : (ℓ : Loc Cert.InEvenIdeal.nD Cert.InEvenIdeal.τ Cert.InEvenIdeal.sig) → Buf (Elt Ideal) ℓ) (g : Dev Cert.InEvenIdeal.nD → PrngReg)
    (m' : (ℓ : Loc Cert.InEvenRefIdeal.nD Cert.InEvenRefIdeal.τ Cert.InEvenRefIdeal.sig) → Buf (Elt Ideal) ℓ) (g' : Dev Cert.InEvenRefIdeal.nD → PrngReg), Pre_InEvenIdeal m →
    (∀ c : Dev Cert.InEvenIdeal.nD,
      m' ((c.tc : Thread Cert.InEvenRefIdeal.nD Cert.InEvenRefIdeal.τ).loc Cert.InEvenRefIdeal.main_arg0) = m ((c.tc : Thread Cert.InEvenIdeal.nD Cert.InEvenIdeal.τ).loc Cert.InEvenIdeal.main_arg0)
      ∧ m' ((c.tc : Thread Cert.InEvenRefIdeal.nD Cert.InEvenRefIdeal.τ).loc Cert.InEvenRefIdeal.main_arg1) = m ((c.tc : Thread Cert.InEvenIdeal.nD Cert.InEvenIdeal.τ).loc Cert.InEvenIdeal.main_arg1)) →
    ∃ (v0 : (c : Dev Cert.InEvenIdeal.nD) → Buf (Elt Ideal) ((c.tc : Thread Cert.InEvenIdeal.nD Cert.InEvenIdeal.τ).loc Cert.InEvenIdeal.main_v6)),
      θ_run (Cert.InEvenIdeal.defs (F := Ideal)) (onTc (τ := Cert.InEvenIdeal.τ) (Cert.InEvenIdeal.main (F := Ideal))) ⟨m, fun _ => 0, g⟩ (fun r => ∀ c : Dev Cert.InEvenIdeal.nD,
          r.2.mem ((c.tc : Thread Cert.InEvenIdeal.nD Cert.InEvenIdeal.τ).loc Cert.InEvenIdeal.main_v6) = v0 c
          ∧ r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
          ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1))
      ∧ θ_run (Cert.InEvenRefIdeal.defs (F := Ideal)) (onTc (τ := Cert.InEvenRefIdeal.τ) (Cert.InEvenRefIdeal.main (F := Ideal))) ⟨m', fun _ => 0, g'⟩ (fun r => ∀ c : Dev Cert.InEvenRefIdeal.nD,
          r.2.mem ((c.tc : Thread Cert.InEvenRefIdeal.nD Cert.InEvenRefIdeal.τ).loc Cert.InEvenRefIdeal.main_v2) = v0 c
          ∧ r.2.mem ((c.tc : Thread Cert.InEvenRefIdeal.nD Cert.InEvenRefIdeal.τ).loc Cert.InEvenRefIdeal.main_arg0) = m' ((c.tc : Thread Cert.InEvenRefIdeal.nD Cert.InEvenRefIdeal.τ).loc Cert.InEvenRefIdeal.main_arg0)
          ∧ r.2.mem ((c.tc : Thread Cert.InEvenRefIdeal.nD Cert.InEvenRefIdeal.τ).loc Cert.InEvenRefIdeal.main_arg1) = m' ((c.tc : Thread Cert.InEvenRefIdeal.nD Cert.InEvenRefIdeal.τ).loc Cert.InEvenRefIdeal.main_arg1))

def preserves_DsaV_DsaVIdeal : Prop :=
  True

def algebraic_DsaVIdeal_DsaVRefIdeal [hDsaVIdeal : Cert.DsaVIdeal.Facts] [hDsaVRefIdeal : Cert.DsaVRefIdeal.Facts] : Prop :=
  ∀ (m : (ℓ : Loc Cert.DsaVIdeal.nD Cert.DsaVIdeal.τ Cert.DsaVIdeal.sig) → Buf (Elt Ideal) ℓ) (g : Dev Cert.DsaVIdeal.nD → PrngReg)
    (m' : (ℓ : Loc Cert.DsaVRefIdeal.nD Cert.DsaVRefIdeal.τ Cert.DsaVRefIdeal.sig) → Buf (Elt Ideal) ℓ) (g' : Dev Cert.DsaVRefIdeal.nD → PrngReg), Pre_DsaVIdeal m →
    (∀ c : Dev Cert.DsaVIdeal.nD,
      m' ((c.tc : Thread Cert.DsaVRefIdeal.nD Cert.DsaVRefIdeal.τ).loc Cert.DsaVRefIdeal.main_arg0) = m ((c.tc : Thread Cert.DsaVIdeal.nD Cert.DsaVIdeal.τ).loc Cert.DsaVIdeal.main_arg0)) →
    ∃ (v0 : (c : Dev Cert.DsaVIdeal.nD) → Buf (Elt Ideal) ((c.tc : Thread Cert.DsaVIdeal.nD Cert.DsaVIdeal.τ).loc Cert.DsaVIdeal.main_v0_0)),
      θ_run (Cert.DsaVIdeal.defs (F := Ideal)) (onTc (τ := Cert.DsaVIdeal.τ) (Cert.DsaVIdeal.main (F := Ideal))) ⟨m, fun _ => 0, g⟩ (fun r => ∀ c : Dev Cert.DsaVIdeal.nD,
          r.2.mem ((c.tc : Thread Cert.DsaVIdeal.nD Cert.DsaVIdeal.τ).loc Cert.DsaVIdeal.main_v0_0) = v0 c
          ∧ r.2.mem ((c.tc : Thread Cert.DsaVIdeal.nD Cert.DsaVIdeal.τ).loc Cert.DsaVIdeal.main_arg0) = m ((c.tc : Thread Cert.DsaVIdeal.nD Cert.DsaVIdeal.τ).loc Cert.DsaVIdeal.main_arg0))
      ∧ θ_run (Cert.DsaVRefIdeal.defs (F := Ideal)) (onTc (τ := Cert.DsaVRefIdeal.τ) (Cert.DsaVRefIdeal.main (F := Ideal))) ⟨m', fun _ => 0, g'⟩ (fun r => ∀ c : Dev Cert.DsaVRefIdeal.nD,
          r.2.mem ((c.tc : Thread Cert.DsaVRefIdeal.nD Cert.DsaVRefIdeal.τ).loc Cert.DsaVRefIdeal.main_v0) = v0 c
          ∧ r.2.mem ((c.tc : Thread Cert.DsaVRefIdeal.nD Cert.DsaVRefIdeal.τ).loc Cert.DsaVRefIdeal.main_arg0) = m' ((c.tc : Thread Cert.DsaVRefIdeal.nD Cert.DsaVRefIdeal.τ).loc Cert.DsaVRefIdeal.main_arg0))

def preserves_DsaK_DsaKIdeal : Prop :=
  True

def algebraic_DsaKIdeal_DsaKRefIdeal [hDsaKIdeal : Cert.DsaKIdeal.Facts] [hDsaKRefIdeal : Cert.DsaKRefIdeal.Facts] : Prop :=
  ∀ (m : (ℓ : Loc Cert.DsaKIdeal.nD Cert.DsaKIdeal.τ Cert.DsaKIdeal.sig) → Buf (Elt Ideal) ℓ) (g : Dev Cert.DsaKIdeal.nD → PrngReg)
    (m' : (ℓ : Loc Cert.DsaKRefIdeal.nD Cert.DsaKRefIdeal.τ Cert.DsaKRefIdeal.sig) → Buf (Elt Ideal) ℓ) (g' : Dev Cert.DsaKRefIdeal.nD → PrngReg), Pre_DsaKIdeal m →
    (∀ c : Dev Cert.DsaKIdeal.nD,
      m' ((c.tc : Thread Cert.DsaKRefIdeal.nD Cert.DsaKRefIdeal.τ).loc Cert.DsaKRefIdeal.main_arg0) = m ((c.tc : Thread Cert.DsaKIdeal.nD Cert.DsaKIdeal.τ).loc Cert.DsaKIdeal.main_arg0)
      ∧ m' ((c.tc : Thread Cert.DsaKRefIdeal.nD Cert.DsaKRefIdeal.τ).loc Cert.DsaKRefIdeal.main_arg1) = m ((c.tc : Thread Cert.DsaKIdeal.nD Cert.DsaKIdeal.τ).loc Cert.DsaKIdeal.main_arg1)) →
    ∃ (v0 : (c : Dev Cert.DsaKIdeal.nD) → Buf (Elt Ideal) ((c.tc : Thread Cert.DsaKIdeal.nD Cert.DsaKIdeal.τ).loc Cert.DsaKIdeal.main_v30_0)),
      θ_run (Cert.DsaKIdeal.defs (F := Ideal)) (onTc (τ := Cert.DsaKIdeal.τ) (Cert.DsaKIdeal.main (F := Ideal))) ⟨m, fun _ => 0, g⟩ (fun r => ∀ c : Dev Cert.DsaKIdeal.nD,
          r.2.mem ((c.tc : Thread Cert.DsaKIdeal.nD Cert.DsaKIdeal.τ).loc Cert.DsaKIdeal.main_v30_0) = v0 c
          ∧ r.2.mem ((c.tc : Thread Cert.DsaKIdeal.nD Cert.DsaKIdeal.τ).loc Cert.DsaKIdeal.main_arg0) = m ((c.tc : Thread Cert.DsaKIdeal.nD Cert.DsaKIdeal.τ).loc Cert.DsaKIdeal.main_arg0)
          ∧ r.2.mem ((c.tc : Thread Cert.DsaKIdeal.nD Cert.DsaKIdeal.τ).loc Cert.DsaKIdeal.main_arg1) = m ((c.tc : Thread Cert.DsaKIdeal.nD Cert.DsaKIdeal.τ).loc Cert.DsaKIdeal.main_arg1))
      ∧ θ_run (Cert.DsaKRefIdeal.defs (F := Ideal)) (onTc (τ := Cert.DsaKRefIdeal.τ) (Cert.DsaKRefIdeal.main (F := Ideal))) ⟨m', fun _ => 0, g'⟩ (fun r => ∀ c : Dev Cert.DsaKRefIdeal.nD,
          r.2.mem ((c.tc : Thread Cert.DsaKRefIdeal.nD Cert.DsaKRefIdeal.τ).loc Cert.DsaKRefIdeal.main_v32) = v0 c
          ∧ r.2.mem ((c.tc : Thread Cert.DsaKRefIdeal.nD Cert.DsaKRefIdeal.τ).loc Cert.DsaKRefIdeal.main_arg0) = m' ((c.tc : Thread Cert.DsaKRefIdeal.nD Cert.DsaKRefIdeal.τ).loc Cert.DsaKRefIdeal.main_arg0)
          ∧ r.2.mem ((c.tc : Thread Cert.DsaKRefIdeal.nD Cert.DsaKRefIdeal.τ).loc Cert.DsaKRefIdeal.main_arg1) = m' ((c.tc : Thread Cert.DsaKRefIdeal.nD Cert.DsaKRefIdeal.τ).loc Cert.DsaKRefIdeal.main_arg1))

def Claim : Prop :=
  ∃ (hKernel : Cert.Kernel.Facts) (hKernelIdeal : Cert.KernelIdeal.Facts) (hReferenceIdeal : Cert.ReferenceIdeal.Facts) (hSwiglu : Cert.Swiglu.Facts) (hSwigluIdeal : Cert.SwigluIdeal.Facts) (hSwigluRefIdeal : Cert.SwigluRefIdeal.Facts) (hInOdd : Cert.InOdd.Facts) (hInOddIdeal : Cert.InOddIdeal.Facts) (hInOddRefIdeal : Cert.InOddRefIdeal.Facts) (hKvNew : Cert.KvNew.Facts) (hKvNewIdeal : Cert.KvNewIdeal.Facts) (hKvNewRefIdeal : Cert.KvNewRefIdeal.Facts) (hOutProj : Cert.OutProj.Facts) (hOutProjIdeal : Cert.OutProjIdeal.Facts) (hOutProjRefIdeal : Cert.OutProjRefIdeal.Facts) (hPle : Cert.Ple.Facts) (hPleIdeal : Cert.PleIdeal.Facts) (hPleRefIdeal : Cert.PleRefIdeal.Facts) (hMoeSwiglu : Cert.MoeSwiglu.Facts) (hMoeSwigluIdeal : Cert.MoeSwigluIdeal.Facts) (hMoeSwigluRefIdeal : Cert.MoeSwigluRefIdeal.Facts) (hDown : Cert.Down.Facts) (hDownIdeal : Cert.DownIdeal.Facts) (hDownRefIdeal : Cert.DownRefIdeal.Facts) (hInEven : Cert.InEven.Facts) (hInEvenIdeal : Cert.InEvenIdeal.Facts) (hInEvenRefIdeal : Cert.InEvenRefIdeal.Facts) (hDsaV : Cert.DsaV.Facts) (hDsaVIdeal : Cert.DsaVIdeal.Facts) (hDsaVRefIdeal : Cert.DsaVRefIdeal.Facts) (hDsaK : Cert.DsaK.Facts) (hDsaKIdeal : Cert.DsaKIdeal.Facts) (hDsaKRefIdeal : Cert.DsaKRefIdeal.Facts) (hPre_finite : Cert.Pre_finite.Facts) (hPre_in_range : Cert.Pre_in_range.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Swiglu (hSwiglu := hSwiglu)
    ∧ quiescent_SwigluIdeal (hSwigluIdeal := hSwigluIdeal)
    ∧ quiescent_SwigluRefIdeal (hSwigluRefIdeal := hSwigluRefIdeal)
    ∧ quiescent_InOdd (hInOdd := hInOdd)
    ∧ quiescent_InOddIdeal (hInOddIdeal := hInOddIdeal)
    ∧ quiescent_InOddRefIdeal (hInOddRefIdeal := hInOddRefIdeal)
    ∧ quiescent_KvNew (hKvNew := hKvNew)
    ∧ quiescent_KvNewIdeal (hKvNewIdeal := hKvNewIdeal)
    ∧ quiescent_KvNewRefIdeal (hKvNewRefIdeal := hKvNewRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Ple (hPle := hPle)
    ∧ quiescent_PleIdeal (hPleIdeal := hPleIdeal)
    ∧ quiescent_PleRefIdeal (hPleRefIdeal := hPleRefIdeal)
    ∧ quiescent_MoeSwiglu (hMoeSwiglu := hMoeSwiglu) (hPre_in_range := hPre_in_range)
    ∧ quiescent_MoeSwigluIdeal (hMoeSwigluIdeal := hMoeSwigluIdeal) (hPre_in_range := hPre_in_range)
    ∧ quiescent_MoeSwigluRefIdeal (hMoeSwigluRefIdeal := hMoeSwigluRefIdeal)
    ∧ quiescent_MoeSwigluRefIdeal_pre_in_range (hMoeSwigluRefIdeal := hMoeSwigluRefIdeal) (hPre_in_range := hPre_in_range)
    ∧ quiescent_Down (hDown := hDown)
    ∧ quiescent_DownIdeal (hDownIdeal := hDownIdeal)
    ∧ quiescent_DownRefIdeal (hDownRefIdeal := hDownRefIdeal)
    ∧ quiescent_InEven (hInEven := hInEven)
    ∧ quiescent_InEvenIdeal (hInEvenIdeal := hInEvenIdeal)
    ∧ quiescent_InEvenRefIdeal (hInEvenRefIdeal := hInEvenRefIdeal)
    ∧ quiescent_DsaV (hDsaV := hDsaV)
    ∧ quiescent_DsaVIdeal (hDsaVIdeal := hDsaVIdeal)
    ∧ quiescent_DsaVRefIdeal (hDsaVRefIdeal := hDsaVRefIdeal)
    ∧ quiescent_DsaK (hDsaK := hDsaK)
    ∧ quiescent_DsaKIdeal (hDsaKIdeal := hDsaKIdeal)
    ∧ quiescent_DsaKRefIdeal (hDsaKRefIdeal := hDsaKRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Swiglu_SwigluIdeal
    ∧ algebraic_SwigluIdeal_SwigluRefIdeal (hSwigluIdeal := hSwigluIdeal) (hSwigluRefIdeal := hSwigluRefIdeal)
    ∧ preserves_InOdd_InOddIdeal
    ∧ algebraic_InOddIdeal_InOddRefIdeal (hInOddIdeal := hInOddIdeal) (hInOddRefIdeal := hInOddRefIdeal)
    ∧ preserves_KvNew_KvNewIdeal
    ∧ algebraic_KvNewIdeal_KvNewRefIdeal (hKvNewIdeal := hKvNewIdeal) (hKvNewRefIdeal := hKvNewRefIdeal)
    ∧ preserves_OutProj_OutProjIdeal
    ∧ algebraic_OutProjIdeal_OutProjRefIdeal (hOutProjIdeal := hOutProjIdeal) (hOutProjRefIdeal := hOutProjRefIdeal)
    ∧ preserves_Ple_PleIdeal
    ∧ algebraic_PleIdeal_PleRefIdeal (hPleIdeal := hPleIdeal) (hPleRefIdeal := hPleRefIdeal)
    ∧ preserves_MoeSwiglu_MoeSwigluIdeal
    ∧ algebraic_MoeSwigluIdeal_MoeSwigluRefIdeal (hMoeSwigluIdeal := hMoeSwigluIdeal) (hMoeSwigluRefIdeal := hMoeSwigluRefIdeal) (hPre_in_range := hPre_in_range)
    ∧ preserves_Down_DownIdeal
    ∧ algebraic_DownIdeal_DownRefIdeal (hDownIdeal := hDownIdeal) (hDownRefIdeal := hDownRefIdeal)
    ∧ preserves_InEven_InEvenIdeal
    ∧ algebraic_InEvenIdeal_InEvenRefIdeal (hInEvenIdeal := hInEvenIdeal) (hInEvenRefIdeal := hInEvenRefIdeal)
    ∧ preserves_DsaV_DsaVIdeal
    ∧ algebraic_DsaVIdeal_DsaVRefIdeal (hDsaVIdeal := hDsaVIdeal) (hDsaVRefIdeal := hDsaVRefIdeal)
    ∧ preserves_DsaK_DsaKIdeal
    ∧ algebraic_DsaKIdeal_DsaKRefIdeal (hDsaKIdeal := hDsaKIdeal) (hDsaKRefIdeal := hDsaKRefIdeal)
-- ==== Pre_finite.lean ====
abbrev S8320x12288 : Shape := ⟨2, ![8320, 12288]⟩
abbrev S32x257 : Shape := ⟨2, ![32, 257]⟩
abbrev S_ : Shape := ⟨0, ![]⟩

class Facts : Prop where
  bitsLt_bf16_f32 : FTy.bits .bf16 < FTy.bits .f32
  bcast_S_S8320x12288 : S_.BroadcastsInDim S8320x12288 (![] : Fin 0 → Fin S8320x12288.rank)
  reducesTo_S8320x12288_S_d0_1 : S8320x12288.ReducesTo [0, 1] S_
  h_S_ : 0 < S_.numel
  bcast_S_S32x257 : S_.BroadcastsInDim S32x257 (![] : Fin 0 → Fin S32x257.rank)
  reducesTo_S32x257_S_d0_1 : S32x257.ReducesTo [0, 1] S_

variable [Facts]

def fn {F : FTy → Type} [FloatOps F] (main_arg0 : FVec F S8320x12288 .bf16) (main_arg1 : FVec F S32x257 .f32) : IVec S_ 1 :=
  let main_v0 : FVec F S8320x12288 .f32 := (extf .f32 · bitsLt_bf16_f32) main_arg0
  let main_v1 : FVec F S8320x12288 .f32 := Host.absf main_v0
  let main_cst : FVec F S_ .f32 := constant S_ .f32 0x7F800000#32
  let main_v2 : FVec F S8320x12288 .f32 := broadcastInDim S8320x12288 ![] bcast_S_S8320x12288 main_cst
  let main_v3 : IVec S8320x12288 1 := cmpf .olt main_v1 main_v2
  let main_c : IVec S_ 1 := constantI S_ 1 1#1
  let main_v4 : IVec S_ 1 := (fun x v => Host.reduce IntOp.andi x v reducesTo_S8320x12288_S_d0_1 h_S_) main_v3 main_c
  let main_v5 : FVec F S32x257 .f32 := Host.absf main_arg1
  let main_cst_0 : FVec F S_ .f32 := constant S_ .f32 0x7F800000#32
  let main_v6 : FVec F S32x257 .f32 := broadcastInDim S32x257 ![] bcast_S_S32x257 main_cst_0
  let main_v7 : IVec S32x257 1 := cmpf .olt main_v5 main_v6
  let main_c_1 : IVec S_ 1 := constantI S_ 1 1#1
  let main_v8 : IVec S_ 1 := (fun x v => Host.reduce IntOp.andi x v reducesTo_S32x257_S_d0_1 h_S_) main_v7 main_c_1
  let main_v9 : IVec S_ 1 := andi main_v4 main_v8
  main_v9
-- ==== Pre_in_range.lean ====
abbrev S14 : Shape := ⟨1, ![14]⟩
abbrev S19712x4096 : Shape := ⟨2, ![19712, 4096]⟩
abbrev S8x4096x14336 : Shape := ⟨3, ![8, 4096, 14336]⟩
abbrev S_ : Shape := ⟨0, ![]⟩

class Facts : Prop where
  bcast_S_S14 : S_.BroadcastsInDim S14 (![] : Fin 0 → Fin S14.rank)
  reducesTo_S14_S_d0 : S14.ReducesTo [0] S_
  h_S_ : 0 < S_.numel

variable [Facts]

def fn_part1 {F : FTy → Type} [FloatOps F] (main_arg2 : IVec S14 32) (main_v12 : IVec S_ 1) (main_v14 : IVec S14 1) (main_v15 : IVec S14 32) : IVec S_ 1 :=
  let main_v16 : IVec S14 1 := cmpi .sle main_arg2 main_v15
  let main_v17 : IVec S14 1 := andi main_v14 main_v16
  let main_c_7 : IVec S_ 1 := constantI S_ 1 1#1
  let main_v18 : IVec S_ 1 := (fun x v => Host.reduce IntOp.andi x v reducesTo_S14_S_d0 h_S_) main_v17 main_c_7
  let main_v19 : IVec S_ 1 := andi main_v12 main_v18
  main_v19

def fn {F : FTy → Type} [FloatOps F] (main_arg0 : IVec S14 32) (main_arg1 : IVec S14 32) (main_arg2 : IVec S14 32) (main_arg3 : FVec F S19712x4096 .bf16) (main_arg4 : FVec F S8x4096x14336 .f32) (main_arg5 : FVec F S8x4096x14336 .f32) : IVec S_ 1 :=
  let main_c : IVec S_ 32 := constantI S_ 32 0#32
  let main_v0 : IVec S14 32 := broadcastInDim S14 ![] bcast_S_S14 main_c
  let main_v1 : IVec S14 1 := cmpi .sge main_arg0 main_v0
  let main_c_0 : IVec S_ 32 := constantI S_ 32 8#32
  let main_v2 : IVec S14 32 := broadcastInDim S14 ![] bcast_S_S14 main_c_0
  let main_v3 : IVec S14 1 := cmpi .slt main_arg0 main_v2
  let main_v4 : IVec S14 1 := andi main_v1 main_v3
  let main_c_1 : IVec S_ 1 := constantI S_ 1 1#1
  let main_v5 : IVec S_ 1 := (fun x v => Host.reduce IntOp.andi x v reducesTo_S14_S_d0 h_S_) main_v4 main_c_1
  let main_c_2 : IVec S_ 32 := constantI S_ 32 0#32
  let main_v6 : IVec S14 32 := broadcastInDim S14 ![] bcast_S_S14 main_c_2
  let main_v7 : IVec S14 1 := cmpi .sge main_arg1 main_v6
  let main_c_3 : IVec S_ 32 := constantI S_ 32 268#32
  let main_v8 : IVec S14 32 := broadcastInDim S14 ![] bcast_S_S14 main_c_3
  let main_v9 : IVec S14 1 := cmpi .sle main_arg1 main_v8
  let main_v10 : IVec S14 1 := andi main_v7 main_v9
  let main_c_4 : IVec S_ 1 := constantI S_ 1 1#1
  let main_v11 : IVec S_ 1 := (fun x v => Host.reduce IntOp.andi x v reducesTo_S14_S_d0 h_S_) main_v10 main_c_4
  let main_v12 : IVec S_ 1 := andi main_v5 main_v11
  let main_c_5 : IVec S_ 32 := constantI S_ 32 0#32
  let main_v13 : IVec S14 32 := broadcastInDim S14 ![] bcast_S_S14 main_c_5
  let main_v14 : IVec S14 1 := cmpi .sge main_arg2 main_v13
  let main_c_6 : IVec S_ 32 := constantI S_ 32 40#32
  let main_v15 : IVec S14 32 := broadcastInDim S14 ![] bcast_S_S14 main_c_6
  fn_part1 (F := F) main_arg2 main_v12 main_v14 main_v15
-- ==== Kernel.lean ====
abbrev S8320x12288 : Shape := ⟨2, ![8320, 12288]⟩
abbrev S32x257 : Shape := ⟨2, ![32, 257]⟩
abbrev S1x81920 : Shape := ⟨2, ![1, 81920]⟩
abbrev S_ : Shape := ⟨0, ![]⟩
abbrev S32x384 : Shape := ⟨2, ![32, 384]⟩
abbrev S32x81920 : Shape := ⟨2, ![32, 81920]⟩
abbrev S1x8192 : Shape := ⟨2, ![1, 8192]⟩
abbrev S32x8192 : Shape := ⟨2, ![32, 8192]⟩
abbrev S384x8192 : Shape := ⟨2, ![384, 8192]⟩
abbrev S32x128x640 : Shape := ⟨3, ![32, 128, 640]⟩
abbrev S8320x4096 : Shape := ⟨2, ![8320, 4096]⟩
abbrev S128x1024 : Shape := ⟨2, ![128, 1024]⟩
abbrev S8x128x640 : Shape := ⟨3, ![8, 128, 640]⟩
abbrev S128x640 : Shape := ⟨2, ![128, 640]⟩
abbrev S128x128 : Shape := ⟨2, ![128, 128]⟩
abbrev S640x128 : Shape := ⟨2, ![640, 128]⟩
abbrev S1x128x640 : Shape := ⟨3, ![1, 128, 640]⟩
abbrev S128 : Shape := ⟨1, ![128]⟩
abbrev S128x1 : Shape := ⟨2, ![128, 1]⟩

abbrev nBuf : Space → Nat
  | .hbm => 11
  | .vmem => 31
  | .smem => 0
  | _ => 0

abbrev bufTy : (tb : Table) → Fin (tcTables nBuf tb) → BufTy
  | .hbm, ⟨0, _⟩ => ⟨S8320x12288, .bf16⟩
  | .hbm, ⟨1, _⟩ => ⟨S32x257, .f32⟩
  | .hbm, ⟨2, _⟩ => ⟨S1x81920, .i32⟩
  | .hbm, ⟨3, _⟩ => ⟨S_, .i32⟩
  | .hbm, ⟨4, _⟩ => ⟨S_, .f32⟩
  | .hbm, ⟨5, _⟩ => ⟨S32x384, .f32⟩
  | .hbm, ⟨6, _⟩ => ⟨S32x81920, .f32⟩
  | .hbm, ⟨7, _⟩ => ⟨S32x128x640, .f32⟩
  | .hbm, ⟨8, _⟩ => ⟨S_, .bf16⟩
  | .hbm, ⟨9, _⟩ => ⟨S8320x4096, .bf16⟩
  | .hbm, ⟨10, _⟩ => ⟨S8320x4096, .bf16⟩
  | .local _ .vmem, ⟨0, _⟩ => ⟨S32x384, .f32⟩
  | .local _ .vmem, ⟨1, _⟩ => ⟨S1x8192, .i32⟩
  | .local _ .vmem, ⟨2, _⟩ => ⟨S1x8192, .i32⟩
  | .local _ .vmem, ⟨3, _⟩ => ⟨S32x8192, .f32⟩
  | .local _ .vmem, ⟨4, _⟩ => ⟨S32x8192, .f32⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S128x1024, .bf16⟩
  | .local _ .vmem, ⟨15, _⟩ => ⟨S128x1024, .bf16⟩
  | .local _ .vmem, ⟨16, _⟩ => ⟨S128x1024, .bf16⟩
  | .local _ .vmem, ⟨17, _⟩ => ⟨S128x1024, .bf16⟩
  | .local _ .vmem, ⟨18, _⟩ => ⟨S128x1024, .bf16⟩
  | .local _ .vmem, ⟨19, _⟩ => ⟨S128x1024, .bf16⟩
  | .local _ .vmem, ⟨20, _⟩ => ⟨S128x1024, .bf16⟩
  | .local _ .vmem, ⟨21, _⟩ => ⟨S128x1024, .bf16⟩
  | .local _ .vmem, ⟨22, _⟩ => ⟨S128x1024, .bf16⟩
  | .local _ .vmem, ⟨23, _⟩ => ⟨S128x1024, .bf16⟩
  | .local _ .vmem, ⟨24, _⟩ => ⟨S128x1024, .bf16⟩
  | .local _ .vmem, ⟨25, _⟩ => ⟨S128x1024, .bf16⟩
  | .local _ .vmem, ⟨26, _⟩ => ⟨S128x1024, .bf16⟩
  | .local _ .vmem, ⟨27, _⟩ => ⟨S8x128x640, .f32⟩
  | .local _ .vmem, ⟨28, _⟩ => ⟨S8x128x640, .f32⟩
  | .local _ .vmem, ⟨29, _⟩ => ⟨S128x1024, .bf16⟩
  | .local _ .vmem, ⟨30, _⟩ => ⟨S128x1024, .bf16⟩
  | _, _ => ⟨S8320x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc1_stg9_0 : Ref sig .tc := ⟨.vmem, 23, rfl⟩
abbrev cc1_stg9_1 : Ref sig .tc := ⟨.vmem, 24, rfl⟩
abbrev cc1_stg10_0 : Ref sig .tc := ⟨.vmem, 25, rfl⟩
abbrev cc1_stg10_1 : Ref sig .tc := ⟨.vmem, 26, rfl⟩
abbrev cc1_stg11_0 : Ref sig .tc := ⟨.vmem, 27, rfl⟩
abbrev cc1_stg11_1 : Ref sig .tc := ⟨.vmem, 28, rfl⟩
abbrev cc1_stg12_0 : Ref sig .tc := ⟨.vmem, 29, rfl⟩
abbrev cc1_stg12_1 : Ref sig .tc := ⟨.vmem, 30, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc1_sem8_1 : DmaSem sig := 22
abbrev cc1_sem9_0 : DmaSem sig := 23
abbrev cc1_sem9_1 : DmaSem sig := 24
abbrev cc1_sem10_0 : DmaSem sig := 25
abbrev cc1_sem10_1 : DmaSem sig := 26
abbrev cc1_sem11_0 : DmaSem sig := 27
abbrev cc1_sem11_1 : DmaSem sig := 28
abbrev cc1_sem12_0 : DmaSem sig := 29
abbrev cc1_sem12_1 : DmaSem sig := 30

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 64], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.addi v0 c0_i32
  let c0_i32_0 : BitVec 32 := 0#32
  let v2 : BitVec 32 := Scalar.maxsi v1 c0_i32_0
  let c4_i32_1 : BitVec 32 := 4#32
  let v3 : BitVec 32 := Scalar.addi c4_i32_1 arg0
  let c0_i32_2 : BitVec 32 := 0#32
  ![v2.toNat, v3.toNat]

def cc1_transform_2 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c1_i32 : BitVec 32 := 1#32
  let v1 : BitVec 32 := Scalar.addi v0 c1_i32
  let c0_i32 : BitVec 32 := 0#32
  let v2 : BitVec 32 := Scalar.maxsi v1 c0_i32
  let c4_i32_0 : BitVec 32 := 4#32
  let v3 : BitVec 32 := Scalar.addi c4_i32_0 arg0
  let c0_i32_1 : BitVec 32 := 0#32
  ![v2.toNat, v3.toNat]

def cc1_transform_3 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c2_i32 : BitVec 32 := 2#32
  let v1 : BitVec 32 := Scalar.addi v0 c2_i32
  let c0_i32 : BitVec 32 := 0#32
  let v2 : BitVec 32 := Scalar.maxsi v1 c0_i32
  let c4_i32_0 : BitVec 32 := 4#32
  let v3 : BitVec 32 := Scalar.addi c4_i32_0 arg0
  let c0_i32_1 : BitVec 32 := 0#32
  ![v2.toNat, v3.toNat]

def cc1_transform_4 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c3_i32 : BitVec 32 := 3#32
  let v1 : BitVec 32 := Scalar.addi v0 c3_i32
  let c0_i32 : BitVec 32 := 0#32
  let v2 : BitVec 32 := Scalar.maxsi v1 c0_i32
  let c4_i32_0 : BitVec 32 := 4#32
  let v3 : BitVec 32 := Scalar.addi c4_i32_0 arg0
  let c0_i32_1 : BitVec 32 := 0#32
  ![v2.toNat, v3.toNat]

def cc1_transform_5 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c4_i32_0 : BitVec 32 := 4#32
  let v1 : BitVec 32 := Scalar.addi v0 c4_i32_0
  let c0_i32 : BitVec 32 := 0#32
  let v2 : BitVec 32 := Scalar.maxsi v1 c0_i32
  let c4_i32_1 : BitVec 32 := 4#32
  let v3 : BitVec 32 := Scalar.addi c4_i32_1 arg0
  let c0_i32_2 : BitVec 32 := 0#32
  ![v2.toNat, v3.toNat]

def cc1_transform_6 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.addi v0 c0_i32
  let c0_i32_0 : BitVec 32 := 0#32
  let v2 : BitVec 32 := Scalar.maxsi v1 c0_i32_0
  let c8_i32 : BitVec 32 := 8#32
  let v3 : BitVec 32 := Scalar.addi c8_i32 arg0
  let c0_i32_1 : BitVec 32 := 0#32
  ![v2.toNat, v3.toNat]

def cc1_transform_7 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c1_i32 : BitVec 32 := 1#32
  let v1 : BitVec 32 := Scalar.addi v0 c1_i32
  let c0_i32 : BitVec 32 := 0#32
  let v2 : BitVec 32 := Scalar.maxsi v1 c0_i32
  let c8_i32 : BitVec 32 := 8#32
  let v3 : BitVec 32 := Scalar.addi c8_i32 arg0
  let c0_i32_0 : BitVec 32 := 0#32
  ![v2.toNat, v3.toNat]

def cc1_transform_8 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c2_i32 : BitVec 32 := 2#32
  let v1 : BitVec 32 := Scalar.addi v0 c2_i32
  let c0_i32 : BitVec 32 := 0#32
  let v2 : BitVec 32 := Scalar.maxsi v1 c0_i32
  let c8_i32 : BitVec 32 := 8#32
  let v3 : BitVec 32 := Scalar.addi c8_i32 arg0
  let c0_i32_0 : BitVec 32 := 0#32
  ![v2.toNat, v3.toNat]

def cc1_transform_9 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c3_i32 : BitVec 32 := 3#32
  let v1 : BitVec 32 := Scalar.addi v0 c3_i32
  let c0_i32 : BitVec 32 := 0#32
  let v2 : BitVec 32 := Scalar.maxsi v1 c0_i32
  let c8_i32 : BitVec 32 := 8#32
  let v3 : BitVec 32 := Scalar.addi c8_i32 arg0
  let c0_i32_0 : BitVec 32 := 0#32
  ![v2.toNat, v3.toNat]

def cc1_transform_10 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c4_i32_0 : BitVec 32 := 4#32
  let v1 : BitVec 32 := Scalar.addi v0 c4_i32_0
  let c0_i32 : BitVec 32 := 0#32
  let v2 : BitVec 32 := Scalar.maxsi v1 c0_i32
  let c8_i32 : BitVec 32 := 8#32
  let v3 : BitVec 32 := Scalar.addi c8_i32 arg0
  let c0_i32_1 : BitVec 32 := 0#32
  ![v2.toNat, v3.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S128x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S128x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S128x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S128x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S128x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S128x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S128x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S128x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S128x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S128x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S128x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S8x128x640 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 2 → Memref sig .tc .vmem S128x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]
-- ==== KernelIdeal.lean ====
variable {F : FTy → Type} [FloatOps F] [Named F]
def κ : String → Option EReal := fun
  | "mask" => some ⊥
  | _ => none
-- ==== ReferenceIdeal.lean ====
abbrev S8320x12288 : Shape := ⟨2, ![8320, 12288]⟩
abbrev S32x257 : Shape := ⟨2, ![32, 257]⟩
abbrev S8192x12288 : Shape := ⟨2, ![8192, 12288]⟩
abbrev S8192x4096 : Shape := ⟨2, ![8192, 4096]⟩
abbrev S8192x32x128 : Shape := ⟨3, ![8192, 32, 128]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S32x8192x8192 : Shape := ⟨3, ![32, 8192, 8192]⟩
abbrev S8192x8192x1 : Shape := ⟨3, ![8192, 8192, 1]⟩
abbrev S1x8192x8192 : Shape := ⟨3, ![1, 8192, 8192]⟩
abbrev S32x8192 : Shape := ⟨2, ![32, 8192]⟩
abbrev S32x8192x1 : Shape := ⟨3, ![32, 8192, 1]⟩
abbrev S32x128x8192 : Shape := ⟨3, ![32, 128, 8192]⟩
abbrev S128x4096 : Shape := ⟨2, ![128, 4096]⟩
abbrev S8320x4096 : Shape := ⟨2, ![8320, 4096]⟩

abbrev nBuf : Space → Nat
  | .hbm => 100
  | .vmem => 0
  | .smem => 0
  | _ => 0

abbrev bufTy : (tb : Table) → Fin (tcTables nBuf tb) → BufTy
  | .hbm, ⟨0, _⟩ => ⟨S8320x12288, .bf16⟩
  | .hbm, ⟨1, _⟩ => ⟨S32x257, .f32⟩
  | .hbm, ⟨2, _⟩ => ⟨S8192x12288, .bf16⟩
  | .hbm, ⟨3, _⟩ => ⟨S8192x12288, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x32x128, .f32⟩
  | .hbm, ⟨8, _⟩ => ⟨S8192x32x128, .f32⟩
  | .hbm, ⟨9, _⟩ => ⟨S8192x32x128, .f32⟩
  | .hbm, ⟨10, _⟩ => ⟨S8192, .i32⟩
  | .hbm, ⟨11, _⟩ => ⟨S8192x1, .i32⟩
  | .hbm, ⟨12, _⟩ => ⟨S1x8192, .i32⟩
  | .hbm, ⟨13, _⟩ => ⟨S8192x8192, .i32⟩
  | .hbm, ⟨14, _⟩ => ⟨S8192x8192, .i32⟩
  | .hbm, ⟨15, _⟩ => ⟨S8192x8192, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S8192x8192, .i32⟩
  | .hbm, ⟨20, _⟩ => ⟨S8192x8192, .i32⟩
  | .hbm, ⟨21, _⟩ => ⟨S_, .i32⟩
  | .hbm, ⟨22, _⟩ => ⟨S8192x8192, .i32⟩
  | .hbm, ⟨23, _⟩ => ⟨S8192x8192, .i32⟩
  | .hbm, ⟨24, _⟩ => ⟨S_, .i32⟩
  | .hbm, ⟨25, _⟩ => ⟨S8192x8192, .i32⟩
  | .hbm, ⟨26, _⟩ => ⟨S8192x8192, .i32⟩
  | .hbm, ⟨27, _⟩ => ⟨S_, .i32⟩
  | .hbm, ⟨28, _⟩ => ⟨S_, .i32⟩
  | .hbm, ⟨29, _⟩ => ⟨S8192, .i32⟩
  | .hbm, ⟨30, _⟩ => ⟨S8192, .i32⟩
  | .hbm, ⟨31, _⟩ => ⟨S8192, .i32⟩
  | .hbm, ⟨32, _⟩ => ⟨S_, .i32⟩
  | .hbm, ⟨33, _⟩ => ⟨S8192, .i32⟩
  | .hbm, ⟨34, _⟩ => ⟨S8192, .i1⟩
  | .hbm, ⟨35, _⟩ => ⟨S8192, .i32⟩
  | .hbm, ⟨36, _⟩ => ⟨S8192, .i32⟩
  | .hbm, ⟨37, _⟩ => ⟨S_, .i32⟩
  | .hbm, ⟨38, _⟩ => ⟨S8192, .i32⟩
  | .hbm, ⟨39, _⟩ => ⟨S8192, .i1⟩
  | .hbm, ⟨40, _⟩ => ⟨S8192, .i1⟩
  | .hbm, ⟨41, _⟩ => ⟨S_, .i32⟩
  | .hbm, ⟨42, _⟩ => ⟨S8192, .i32⟩
  | .hbm, ⟨43, _⟩ => ⟨S8192, .i32⟩
  | .hbm, ⟨44, _⟩ => ⟨S8192, .i32⟩
  | .hbm, ⟨45, _⟩ => ⟨S1x8192, .i32⟩
  | .hbm, ⟨46, _⟩ => ⟨S8192x1, .i32⟩
  | .hbm, ⟨47, _⟩ => ⟨S8192x8192, .i32⟩
  | .hbm, ⟨48, _⟩ => ⟨S8192x8192, .i32⟩
  | .hbm, ⟨49, _⟩ => ⟨S8192x8192, .i1⟩
  | .hbm, ⟨50, _⟩ => ⟨S1x8192, .i32⟩
  | .hbm, ⟨51, _⟩ => ⟨S8192x1, .i32⟩
  | .hbm, ⟨52, _⟩ => ⟨S_, .i32⟩
  | .hbm, ⟨53, _⟩ => ⟨S8192x1, .i32⟩
  | .hbm, ⟨54, _⟩ => ⟨S8192x1, .i32⟩
  | .hbm, ⟨55, _⟩ => ⟨S8192x8192, .i32⟩
  | .hbm, ⟨56, _⟩ => ⟨S8192x8192, .i32⟩
  | .hbm, ⟨57, _⟩ => ⟨S8192x8192, .i1⟩
  | .hbm, ⟨58, _⟩ => ⟨S8192x8192, .i1⟩
  | .hbm, ⟨59, _⟩ => ⟨S32x8192x8192, .f32⟩
  | .hbm, ⟨60, _⟩ => ⟨S_, .f32⟩
  | .hbm, ⟨61, _⟩ => ⟨S32x8192x8192, .f32⟩
  | .hbm, ⟨62, _⟩ => ⟨S32x8192x8192, .f32⟩
  | .hbm, ⟨63, _⟩ => ⟨S_, .i32⟩
  | .hbm, ⟨64, _⟩ => ⟨S8192x8192, .i32⟩
  | .hbm, ⟨65, _⟩ => ⟨S8192x8192, .i1⟩
  | .hbm, ⟨66, _⟩ => ⟨S_, .i32⟩
  | .hbm, ⟨67, _⟩ => ⟨S8192x8192, .i32⟩
  | .hbm, ⟨68, _⟩ => ⟨S8192x8192, .i32⟩
  | .hbm, ⟨69, _⟩ => ⟨S8192x8192, .i32⟩
  | .hbm, ⟨70, _⟩ => ⟨S8192x8192x1, .i32⟩
  | .hbm, ⟨71, _⟩ => ⟨S32x8192x8192, .f32⟩
  | .hbm, ⟨72, _⟩ => ⟨S32x8192x8192, .f32⟩
  | .hbm, ⟨73, _⟩ => ⟨S1x8192x8192, .i1⟩
  | .hbm, ⟨74, _⟩ => ⟨S_, .f32⟩
  | .hbm, ⟨75, _⟩ => ⟨S_, .f32⟩
  | .hbm, ⟨76, _⟩ => ⟨S32x8192x8192, .i1⟩
  | .hbm, ⟨77, _⟩ => ⟨S32x8192x8192, .f32⟩
  | .hbm, ⟨78, _⟩ => ⟨S32x8192x8192, .f32⟩
  | .hbm, ⟨79, _⟩ => ⟨S_, .f32⟩
  | .hbm, ⟨80, _⟩ => ⟨S32x8192, .f32⟩
  | .hbm, ⟨81, _⟩ => ⟨S_, .f32⟩
  | .hbm, ⟨82, _⟩ => ⟨S32x8192, .f32⟩
  | .hbm, ⟨83, _⟩ => ⟨S32x8192, .f32⟩
  | .hbm, ⟨84, _⟩ => ⟨S32x8192x1, .f32⟩
  | .hbm, ⟨85, _⟩ => ⟨S32x8192x8192, .f32⟩
  | .hbm, ⟨86, _⟩ => ⟨S32x8192x8192, .f32⟩
  | .hbm, ⟨87, _⟩ => ⟨S32x8192x8192, .f32⟩
  | .hbm, ⟨88, _⟩ => ⟨S_, .f32⟩
  | .hbm, ⟨89, _⟩ => ⟨S32x8192, .f32⟩
  | .hbm, ⟨90, _⟩ => ⟨S32x8192x1, .f32⟩
  | .hbm, ⟨91, _⟩ => ⟨S32x8192x8192, .f32⟩
  | .hbm, ⟨92, _⟩ => ⟨S32x8192x8192, .f32⟩
  | .hbm, ⟨93, _⟩ => ⟨S32x128x8192, .f32⟩
  | .hbm, ⟨94, _⟩ => ⟨S8192x32x128, .f32⟩
  | .hbm, ⟨95, _⟩ => ⟨S8192x4096, .f32⟩
  | .hbm, ⟨96, _⟩ => ⟨S_, .f32⟩
  | .hbm, ⟨97, _⟩ => ⟨S128x4096, .f32⟩
  | .hbm, ⟨98, _⟩ => ⟨S8320x4096, .f32⟩
  | .hbm, ⟨99, _⟩ => ⟨S8320x4096, .bf16⟩
  | _, _ => ⟨S8320x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_c : Ref sig .tc := ⟨.hbm, 16, rfl⟩
abbrev main_c_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_c : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_0 : Ref sig .tc := ⟨.hbm, 41, rfl⟩
abbrev main_call1_v12 : Ref sig .tc := ⟨.hbm, 42, rfl⟩
abbrev main_call1_v13 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_c_3 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst : Ref sig .tc := ⟨.hbm, 60, rfl⟩
abbrev main_v32 : Ref sig .tc := ⟨.hbm, 61, rfl⟩
abbrev main_v33 : Ref sig .tc := ⟨.hbm, 62, rfl⟩
abbrev main_c_4 : Ref sig .tc := ⟨.hbm, 63, rfl⟩
abbrev main_v34 : Ref sig .tc := ⟨.hbm, 64, rfl⟩
abbrev main_v35 : Ref sig .tc := ⟨.hbm, 65, rfl⟩
abbrev main_c_5 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_6 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_v43 : Ref sig .tc := ⟨.hbm, 78, rfl⟩
abbrev main_cst_7 : Ref sig .tc := ⟨.hbm, 79, rfl⟩
abbrev main_v44 : Ref sig .tc := ⟨.hbm, 80, rfl⟩
abbrev main_cst_8 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_cst_9 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_10 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩

abbrev nD : Nat := 1
abbrev τ : Topo := Topo.v7x

variable {F : FTy → Type} [FloatOps F]
-- ==== Swiglu.lean ====
abbrev S8320x4096 : Shape := ⟨2, ![8320, 4096]⟩
abbrev S1x4096x14336 : Shape := ⟨3, ![1, 4096, 14336]⟩
abbrev S_ : Shape := ⟨0, ![]⟩
abbrev S4 : Shape := ⟨1, ![4]⟩
abbrev S8320x14336 : Shape := ⟨2, ![8320, 14336]⟩
abbrev S2080x4096 : Shape := ⟨2, ![2080, 4096]⟩
abbrev S1 : Shape := ⟨1, ![1]⟩
abbrev S1x4096x256 : Shape := ⟨3, ![1, 4096, 256]⟩
abbrev S2080x256 : Shape := ⟨2, ![2080, 256]⟩
abbrev S4096x256 : Shape := ⟨2, ![4096, 256]⟩

abbrev nBuf : Space → Nat
  | .hbm => 6
  | .vmem => 7
  | .smem => 3
  | _ => 0

abbrev bufTy : (tb : Table) → Fin (tcTables nBuf tb) → BufTy
  | .hbm, ⟨0, _⟩ => ⟨S8320x4096, .bf16⟩
  | .hbm, ⟨1, _⟩ => ⟨S1x4096x14336, .f32⟩
  | .hbm, ⟨2, _⟩ => ⟨S1x4096x14336, .f32⟩
  | .hbm, ⟨3, _⟩ => ⟨S_, .i32⟩
  | .hbm, ⟨4, _⟩ => ⟨S_, .i32⟩
  | .hbm, ⟨5, _⟩ => ⟨S8320x14336, .bf16⟩
  | .local _ .vmem, ⟨0, _⟩ => ⟨S2080x4096, .bf16⟩
  | .local _ .vmem, ⟨1, _⟩ => ⟨S1x4096x256, .f32⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S2080x256, .bf16⟩
  | .local _ .vmem, ⟨6, _⟩ => ⟨S2080x256, .bf16⟩
  | .local _ .smem, ⟨0, _⟩ => ⟨S4, .i32⟩
  | .local _ .smem, ⟨1, _⟩ => ⟨S4, .i32⟩
  | .local _ .smem, ⟨2, _⟩ => ⟨S4, .i32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v3 : Ref sig .tc := ⟨.hbm, 5, rfl⟩
abbrev main_v0 : Ref sig .tc := ⟨.smem, 0, rfl⟩
abbrev main_v1 : Ref sig .tc := ⟨.smem, 1, rfl⟩
abbrev main_v2 : Ref sig .tc := ⟨.smem, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 56], ![false, false]⟩

abbrev pre0 : Pipeline.Prefetch sig := ⟨3, ![main_v0.idx, main_v1.idx, main_v2.idx], fun | 0 => main_v0.names | 1 => main_v1.names | 2 => main_v2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop (v1 : BitVec 32) : Scf.Loop 32 :=
  let c1_i32 : BitVec 32 := 1#32
  let v5 : BitVec 32 := Scalar.subi c1_i32 v1
  let c1_i32_2 : BitVec 32 := 1#32
  let v7 : BitVec 32 := Scalar.divsi v5 c1_i32_2
  let v8 : BitVec 32 := Scalar.muli v7 c1_i32_2
  let v9 : BitVec 32 := Scalar.addi v1 v8
  let c1_i32_3 : BitVec 32 := 1#32
  ⟨v1, v9, c1_i32_3⟩

def k0_mult1 (v1 : BitVec 32) (k0_t1 : Fin (k0_t1_loop v1).trips) : BitVec 32 :=
  let c1_i32_3 : BitVec 32 := 1#32
  let arg9 : BitVec 32 := Scf.iv v1 c1_i32_3 k0_t1
  let c2080_i32 : BitVec 32 := 2080#32
  let v11 : BitVec 32 := Scalar.muli arg9 c2080_i32
  v11
def k0_off2 (v1 : BitVec 32) (k0_t1 : Fin (k0_t1_loop v1).trips) : Fin 2 → Nat :=
  let c1_i32_3 : BitVec 32 := 1#32
  let arg9 : BitVec 32 := Scf.iv v1 c1_i32_3 k0_t1
  let c2080_i32 : BitVec 32 := 2080#32
  let v11 : BitVec 32 := Scalar.muli arg9 c2080_i32
  let v12 : BitVec 32 := v11
  let v13 : Index := Scalar.indexCast v12
  let c0 : Index := 0#32
  ![v13.toNat, 0]
@[reducible] def k0_t2_loop (v1 : BitVec 32) : Scf.Loop 32 :=
  let c1_i32 : BitVec 32 := 1#32
  let v5 : BitVec 32 := Scalar.subi c1_i32 v1
  let c1_i32_2 : BitVec 32 := 1#32
  let v7 : BitVec 32 := Scalar.divsi v5 c1_i32_2
  let v8 : BitVec 32 := Scalar.muli v7 c1_i32_2
  let v9 : BitVec 32 := Scalar.addi v1 v8
  let v6 : BitVec 32 := Scalar.addi v1 v5
  let c1_i32_4 : BitVec 32 := 1#32
  ⟨v9, v6, c1_i32_4⟩
def k0_mult2 (v1 : BitVec 32) (k0_t2 : Fin (k0_t2_loop v1).trips) : BitVec 32 :=
  let c1_i32 : BitVec 32 := 1#32
  let v5 : BitVec 32 := Scalar.subi c1_i32 v1
  let c1_i32_2 : BitVec 32 := 1#32
  let v7 : BitVec 32 := Scalar.divsi v5 c1_i32_2
  let v8 : BitVec 32 := Scalar.muli v7 c1_i32_2
  let v9 : BitVec 32 := Scalar.addi v1 v8
  let c1_i32_4 : BitVec 32 := 1#32
  let arg9 : BitVec 32 := Scf.iv v9 c1_i32_4 k0_t2
  let c2080_i32 : BitVec 32 := 2080#32
  let v11 : BitVec 32 := Scalar.muli arg9 c2080_i32
  v11
def k0_off3 (v1 : BitVec 32) (k0_t2 : Fin (k0_t2_loop v1).trips) : Fin 2 → Nat :=
  let c1_i32 : BitVec 32 := 1#32
  let v5 : BitVec 32 := Scalar.subi c1_i32 v1
  let c1_i32_2 : BitVec 32 := 1#32
  let v7 : BitVec 32 := Scalar.divsi v5 c1_i32_2
  let v8 : BitVec 32 := Scalar.muli v7 c1_i32_2
  let v9 : BitVec 32 := Scalar.addi v1 v8
  let c1_i32_4 : BitVec 32 := 1#32
  let arg9 : BitVec 32 := Scf.iv v9 c1_i32_4 k0_t2
  let c2080_i32 : BitVec 32 := 2080#32
  let v11 : BitVec 32 := Scalar.muli arg9 c2080_i32
  let v12 : BitVec 32 := v11
  let v13 : Index := Scalar.indexCast v12
  let c0 : Index := 0#32
  ![v13.toNat, 0]

def k0_chk1 (v1 : BitVec 32) : Prop :=
  ((k0_t1_loop v1).OK) ∧
  (∀ k0_t1 : Fin (k0_t1_loop v1).trips, 2080 ∣ (k0_mult1 v1 k0_t1).toNat) ∧
  (∀ k0_t1 : Fin (k0_t1_loop v1).trips, ∀ a, (k0_off2 v1 k0_t1) a + S2080x256.size a ≤ S2080x256.size a) ∧
  (∀ k0_t1 : Fin (k0_t1_loop v1).trips, ∀ (hinb : ∀ a, (k0_off2 v1 k0_t1) a + S2080x256.size a ≤ S2080x256.size a), (Rect.unit (s := S2080x256) (k0_off2 v1 k0_t1) S2080x256.size hinb).PackedRows (EltTy.packing .bf16)) ∧
  ((k0_t2_loop v1).OK) ∧
  (∀ k0_t2 : Fin (k0_t2_loop v1).trips, 2080 ∣ (k0_mult2 v1 k0_t2).toNat) ∧
  (∀ k0_t2 : Fin (k0_t2_loop v1).trips, ∀ a, (k0_off3 v1 k0_t2) a + S2080x256.size a ≤ S2080x256.size a) ∧
  (∀ k0_t2 : Fin (k0_t2_loop v1).trips, ∀ (hinb : ∀ a, (k0_off3 v1 k0_t2) a + S2080x256.size a ≤ S2080x256.size a), (Rect.unit (s := S2080x256) (k0_off3 v1 k0_t2) S2080x256.size hinb).PackedRows (EltTy.packing .bf16))
theorem k0_t1_ok : ∀ (v1 : BitVec 32) (k0_hw1 : k0_chk1 v1), (k0_t1_loop v1).OK := fun v1 k0_hw1 => k0_hw1.1
theorem k0_mult1_dvd : ∀ (v1 : BitVec 32) (k0_hw1 : k0_chk1 v1) (k0_t1 : Fin (k0_t1_loop v1).trips), 2080 ∣ (k0_mult1 v1 k0_t1).toNat := fun v1 k0_hw1 k0_t1 => k0_hw1.2.1 k0_t1
theorem k0_off2_inb : ∀ (v1 : BitVec 32) (k0_hw1 : k0_chk1 v1) (k0_t1 : Fin (k0_t1_loop v1).trips), ∀ a, (k0_off2 v1 k0_t1) a + S2080x256.size a ≤ S2080x256.size a := fun v1 k0_hw1 k0_t1 => k0_hw1.2.2.1 k0_t1
theorem k0_off2_packedbf16 : ∀ (v1 : BitVec 32) (k0_hw1 : k0_chk1 v1) (k0_t1 : Fin (k0_t1_loop v1).trips), (Rect.unit (s := S2080x256) (k0_off2 v1 k0_t1) S2080x256.size (k0_off2_inb v1 k0_hw1 k0_t1)).PackedRows (EltTy.packing .bf16) := fun v1 k0_hw1 k0_t1 => k0_hw1.2.2.2.1 k0_t1 (k0_off2_inb v1 k0_hw1 k0_t1)
theorem k0_t2_ok : ∀ (v1 : BitVec 32) (k0_hw1 : k0_chk1 v1), (k0_t2_loop v1).OK := fun v1 k0_hw1 => k0_hw1.2.2.2.2.1
theorem k0_mult2_dvd : ∀ (v1 : BitVec 32) (k0_hw1 : k0_chk1 v1) (k0_t2 : Fin (k0_t2_loop v1).trips), 2080 ∣ (k0_mult2 v1 k0_t2).toNat := fun v1 k0_hw1 k0_t2 => k0_hw1.2.2.2.2.2.1 k0_t2
theorem k0_off3_inb : ∀ (v1 : BitVec 32) (k0_hw1 : k0_chk1 v1) (k0_t2 : Fin (k0_t2_loop v1).trips), ∀ a, (k0_off3 v1 k0_t2) a + S2080x256.size a ≤ S2080x256.size a := fun v1 k0_hw1 k0_t2 => k0_hw1.2.2.2.2.2.2.1 k0_t2
theorem k0_off3_packedbf16 : ∀ (v1 : BitVec 32) (k0_hw1 : k0_chk1 v1) (k0_t2 : Fin (k0_t2_loop v1).trips), (Rect.unit (s := S2080x256) (k0_off3 v1 k0_t2) S2080x256.size (k0_off3_inb v1 k0_hw1 k0_t2)).PackedRows (EltTy.packing .bf16) := fun v1 k0_hw1 k0_t2 => k0_hw1.2.2.2.2.2.2.2 k0_t2 (k0_off3_inb v1 k0_hw1 k0_t2)

def cc0_transform_0 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S4) ![v0.toNat] S1.size (k0_off1_inb i)) numel1_S1
  let v2 : Index := Scalar.indexCast arg0
  let v3 : BitVec 32 := pf.at 2 (Rect.unit (s := S4) ![v2.toNat] S1.size (k0_off1_inb i)) numel1_S1
  let c0_i32 : BitVec 32 := 0#32
  let v4 : BitVec 1 := Scalar.cmpi .sgt v3 c0_i32
  let c0_i32_0 : BitVec 32 := 0#32
  let c0_i32_1 : BitVec 32 := 0#32
  ![v1.toNat, c0_i32_0.toNat]

def cc0_transform_1 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let v2 : Index := Scalar.indexCast arg0
  let v3 : BitVec 32 := pf.at 2 (Rect.unit (s := S4) ![v2.toNat] S1.size (k0_off1_inb i)) numel1_S1
  let c0_i32 : BitVec 32 := 0#32
  let v4 : BitVec 1 := Scalar.cmpi .sgt v3 c0_i32
  let c55_i32 : BitVec 32 := 55#32
  let v5 : BitVec 32 := Scalar.select v4 arg1 c55_i32
  let c0_i32_0 : BitVec 32 := 0#32
  let c0_i32_1 : BitVec 32 := 0#32
  ![v1.toNat, c0_i32_0.toNat, v5.toNat]

def cc0_transform_2 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let v2 : Index := Scalar.indexCast arg0
  let v3 : BitVec 32 := pf.at 2 (Rect.unit (s := S4) ![v2.toNat] S1.size (k0_off1_inb i)) numel1_S1
  let c0_i32 : BitVec 32 := 0#32
  let v4 : BitVec 1 := Scalar.cmpi .sgt v3 c0_i32
  let c55_i32 : BitVec 32 := 55#32
  let v5 : BitVec 32 := Scalar.select v4 arg1 c55_i32
  let c0_i32_0 : BitVec 32 := 0#32
  let c0_i32_1 : BitVec 32 := 0#32
  ![v1.toNat, c0_i32_0.toNat, v5.toNat]

def cc0_transform_3 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S4) ![v0.toNat] S1.size (k0_off1_inb i)) numel1_S1
  let c0_i32 : BitVec 32 := 0#32
  let v2 : BitVec 1 := Scalar.cmpi .sgt v1 c0_i32
  let c0_i32_0 : BitVec 32 := 0#32
  ![arg0.toNat, arg1.toNat]

abbrev stage0_0 : Fin 1 → Memref sig .tc .vmem S2080x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2080x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SwigluRefIdeal.lean ====
abbrev S8320x4096 : Shape := ⟨2, ![8320, 4096]⟩
abbrev S1x4096x14336 : Shape := ⟨3, ![1, 4096, 14336]⟩
abbrev S4096x14336 : Shape := ⟨2, ![4096, 14336]⟩
abbrev S8320x14336 : Shape := ⟨2, ![8320, 14336]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S1x4096x14336, .f32⟩
  | .hbm, ⟨2, _⟩ => ⟨S1x4096x14336, .f32⟩
  | .hbm, ⟨3, _⟩ => ⟨S8320x4096, .f32⟩
  | .hbm, ⟨4, _⟩ => ⟨S4096x14336, .f32⟩
  | .hbm, ⟨5, _⟩ => ⟨S8320x14336, .f32⟩
  | .hbm, ⟨6, _⟩ => ⟨S8320x14336, .f32⟩
  | .hbm, ⟨7, _⟩ => ⟨S8320x14336, .f32⟩
  | .hbm, ⟨8, _⟩ => ⟨S_, .f32⟩
  | .hbm, ⟨9, _⟩ => ⟨S8320x14336, .f32⟩
  | .hbm, ⟨10, _⟩ => ⟨S8320x14336, .f32⟩
  | .hbm, ⟨11, _⟩ => ⟨S_, .f32⟩
  | .hbm, ⟨12, _⟩ => ⟨S8320x14336, .f32⟩
  | .hbm, ⟨13, _⟩ => ⟨S8320x14336, .f32⟩
  | .hbm, ⟨14, _⟩ => ⟨S8320x14336, .f32⟩
  | .hbm, ⟨15, _⟩ => ⟨S4096x14336, .f32⟩
  | .hbm, ⟨16, _⟩ => ⟨S8320x14336, .f32⟩
  | .hbm, ⟨17, _⟩ => ⟨S8320x14336, .f32⟩
  | .hbm, ⟨18, _⟩ => ⟨S8320x14336, .bf16⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== InOdd.lean ====
abbrev S8320x4096 : Shape := ⟨2, ![8320, 4096]⟩
abbrev S1x4096x12288 : Shape := ⟨3, ![1, 4096, 12288]⟩
abbrev S_ : Shape := ⟨0, ![]⟩
abbrev S4 : Shape := ⟨1, ![4]⟩
abbrev S8320x12288 : Shape := ⟨2, ![8320, 12288]⟩
abbrev S2080x4096 : Shape := ⟨2, ![2080, 4096]⟩
abbrev S1 : Shape := ⟨1, ![1]⟩
abbrev S1x4096x512 : Shape := ⟨3, ![1, 4096, 512]⟩
abbrev S2080x512 : Shape := ⟨2, ![2080, 512]⟩
abbrev S4096x512 : Shape := ⟨2, ![4096, 512]⟩

abbrev nBuf : Space → Nat
  | .hbm => 5
  | .vmem => 5
  | .smem => 3
  | _ => 0

abbrev bufTy : (tb : Table) → Fin (tcTables nBuf tb) → BufTy
  | .hbm, ⟨0, _⟩ => ⟨S8320x4096, .bf16⟩
  | .hbm, ⟨1, _⟩ => ⟨S1x4096x12288, .f32⟩
  | .hbm, ⟨2, _⟩ => ⟨S_, .i32⟩
  | .hbm, ⟨3, _⟩ => ⟨S_, .i32⟩
  | .hbm, ⟨4, _⟩ => ⟨S8320x12288, .bf16⟩
  | .local _ .vmem, ⟨0, _⟩ => ⟨S2080x4096, .bf16⟩
  | .local _ .vmem, ⟨1, _⟩ => ⟨S1x4096x512, .f32⟩
  | .local _ .vmem, ⟨2, _⟩ => ⟨S1x4096x512, .f32⟩
  | .local _ .vmem, ⟨3, _⟩ => ⟨S2080x512, .bf16⟩
  | .local _ .vmem, ⟨4, _⟩ => ⟨S2080x512, .bf16⟩
  | .local _ .smem, ⟨0, _⟩ => ⟨S4, .i32⟩
  | .local _ .smem, ⟨1, _⟩ => ⟨S4, .i32⟩
  | .local _ .smem, ⟨2, _⟩ => ⟨S4, .i32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v3 : Ref sig .tc := ⟨.hbm, 4, rfl⟩
abbrev main_v0 : Ref sig .tc := ⟨.smem, 0, rfl⟩
abbrev main_v1 : Ref sig .tc := ⟨.smem, 1, rfl⟩
abbrev main_v2 : Ref sig .tc := ⟨.smem, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 24], ![false, false]⟩

abbrev pre0 : Pipeline.Prefetch sig := ⟨3, ![main_v0.idx, main_v1.idx, main_v2.idx], fun | 0 => main_v0.names | 1 => main_v1.names | 2 => main_v2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop (v1 : BitVec 32) : Scf.Loop 32 :=
  let c1_i32 : BitVec 32 := 1#32
  let v5 : BitVec 32 := Scalar.subi c1_i32 v1
  let c1_i32_2 : BitVec 32 := 1#32
  let v7 : BitVec 32 := Scalar.divsi v5 c1_i32_2
  let v8 : BitVec 32 := Scalar.muli v7 c1_i32_2
  let v9 : BitVec 32 := Scalar.addi v1 v8
  let c1_i32_3 : BitVec 32 := 1#32
  ⟨v1, v9, c1_i32_3⟩

def k0_mult1 (v1 : BitVec 32) (k0_t1 : Fin (k0_t1_loop v1).trips) : BitVec 32 :=
  let c1_i32_3 : BitVec 32 := 1#32
  let arg8 : BitVec 32 := Scf.iv v1 c1_i32_3 k0_t1
  let c2080_i32 : BitVec 32 := 2080#32
  let v11 : BitVec 32 := Scalar.muli arg8 c2080_i32
  v11
def k0_off2 (v1 : BitVec 32) (k0_t1 : Fin (k0_t1_loop v1).trips) : Fin 2 → Nat :=
  let c1_i32_3 : BitVec 32 := 1#32
  let arg8 : BitVec 32 := Scf.iv v1 c1_i32_3 k0_t1
  let c2080_i32 : BitVec 32 := 2080#32
  let v11 : BitVec 32 := Scalar.muli arg8 c2080_i32
  let v12 : BitVec 32 := v11
  let v13 : Index := Scalar.indexCast v12
  let c0 : Index := 0#32
  ![v13.toNat, 0]
@[reducible] def k0_t2_loop (v1 : BitVec 32) : Scf.Loop 32 :=
  let c1_i32 : BitVec 32 := 1#32
  let v5 : BitVec 32 := Scalar.subi c1_i32 v1
  let c1_i32_2 : BitVec 32 := 1#32
  let v7 : BitVec 32 := Scalar.divsi v5 c1_i32_2
  let v8 : BitVec 32 := Scalar.muli v7 c1_i32_2
  let v9 : BitVec 32 := Scalar.addi v1 v8
  let v6 : BitVec 32 := Scalar.addi v1 v5
  let c1_i32_4 : BitVec 32 := 1#32
  ⟨v9, v6, c1_i32_4⟩
def k0_mult2 (v1 : BitVec 32) (k0_t2 : Fin (k0_t2_loop v1).trips) : BitVec 32 :=
  let c1_i32 : BitVec 32 := 1#32
  let v5 : BitVec 32 := Scalar.subi c1_i32 v1
  let c1_i32_2 : BitVec 32 := 1#32
  let v7 : BitVec 32 := Scalar.divsi v5 c1_i32_2
  let v8 : BitVec 32 := Scalar.muli v7 c1_i32_2
  let v9 : BitVec 32 := Scalar.addi v1 v8
  let c1_i32_4 : BitVec 32 := 1#32
  let arg8 : BitVec 32 := Scf.iv v9 c1_i32_4 k0_t2
  let c2080_i32 : BitVec 32 := 2080#32
  let v11 : BitVec 32 := Scalar.muli arg8 c2080_i32
  v11
def k0_off3 (v1 : BitVec 32) (k0_t2 : Fin (k0_t2_loop v1).trips) : Fin 2 → Nat :=
  let c1_i32 : BitVec 32 := 1#32
  let v5 : BitVec 32 := Scalar.subi c1_i32 v1
  let c1_i32_2 : BitVec 32 := 1#32
  let v7 : BitVec 32 := Scalar.divsi v5 c1_i32_2
  let v8 : BitVec 32 := Scalar.muli v7 c1_i32_2
  let v9 : BitVec 32 := Scalar.addi v1 v8
  let c1_i32_4 : BitVec 32 := 1#32
  let arg8 : BitVec 32 := Scf.iv v9 c1_i32_4 k0_t2
  let c2080_i32 : BitVec 32 := 2080#32
  let v11 : BitVec 32 := Scalar.muli arg8 c2080_i32
  let v12 : BitVec 32 := v11
  let v13 : Index := Scalar.indexCast v12
  let c0 : Index := 0#32
  ![v13.toNat, 0]

def k0_chk1 (v1 : BitVec 32) : Prop :=
  ((k0_t1_loop v1).OK) ∧
  (∀ k0_t1 : Fin (k0_t1_loop v1).trips, 2080 ∣ (k0_mult1 v1 k0_t1).toNat) ∧
  (∀ k0_t1 : Fin (k0_t1_loop v1).trips, ∀ a, (k0_off2 v1 k0_t1) a + S2080x512.size a ≤ S2080x512.size a) ∧
  (∀ k0_t1 : Fin (k0_t1_loop v1).trips, ∀ (hinb : ∀ a, (k0_off2 v1 k0_t1) a + S2080x512.size a ≤ S2080x512.size a), (Rect.unit (s := S2080x512) (k0_off2 v1 k0_t1) S2080x512.size hinb).PackedRows (EltTy.packing .bf16)) ∧
  ((k0_t2_loop v1).OK) ∧
  (∀ k0_t2 : Fin (k0_t2_loop v1).trips, 2080 ∣ (k0_mult2 v1 k0_t2).toNat) ∧
  (∀ k0_t2 : Fin (k0_t2_loop v1).trips, ∀ a, (k0_off3 v1 k0_t2) a + S2080x512.size a ≤ S2080x512.size a) ∧
  (∀ k0_t2 : Fin (k0_t2_loop v1).trips, ∀ (hinb : ∀ a, (k0_off3 v1 k0_t2) a + S2080x512.size a ≤ S2080x512.size a), (Rect.unit (s := S2080x512) (k0_off3 v1 k0_t2) S2080x512.size hinb).PackedRows (EltTy.packing .bf16))
theorem k0_t1_ok : ∀ (v1 : BitVec 32) (k0_hw1 : k0_chk1 v1), (k0_t1_loop v1).OK := fun v1 k0_hw1 => k0_hw1.1
theorem k0_mult1_dvd : ∀ (v1 : BitVec 32) (k0_hw1 : k0_chk1 v1) (k0_t1 : Fin (k0_t1_loop v1).trips), 2080 ∣ (k0_mult1 v1 k0_t1).toNat := fun v1 k0_hw1 k0_t1 => k0_hw1.2.1 k0_t1
theorem k0_off2_inb : ∀ (v1 : BitVec 32) (k0_hw1 : k0_chk1 v1) (k0_t1 : Fin (k0_t1_loop v1).trips), ∀ a, (k0_off2 v1 k0_t1) a + S2080x512.size a ≤ S2080x512.size a := fun v1 k0_hw1 k0_t1 => k0_hw1.2.2.1 k0_t1
theorem k0_off2_packedbf16 : ∀ (v1 : BitVec 32) (k0_hw1 : k0_chk1 v1) (k0_t1 : Fin (k0_t1_loop v1).trips), (Rect.unit (s := S2080x512) (k0_off2 v1 k0_t1) S2080x512.size (k0_off2_inb v1 k0_hw1 k0_t1)).PackedRows (EltTy.packing .bf16) := fun v1 k0_hw1 k0_t1 => k0_hw1.2.2.2.1 k0_t1 (k0_off2_inb v1 k0_hw1 k0_t1)
theorem k0_t2_ok : ∀ (v1 : BitVec 32) (k0_hw1 : k0_chk1 v1), (k0_t2_loop v1).OK := fun v1 k0_hw1 => k0_hw1.2.2.2.2.1
theorem k0_mult2_dvd : ∀ (v1 : BitVec 32) (k0_hw1 : k0_chk1 v1) (k0_t2 : Fin (k0_t2_loop v1).trips), 2080 ∣ (k0_mult2 v1 k0_t2).toNat := fun v1 k0_hw1 k0_t2 => k0_hw1.2.2.2.2.2.1 k0_t2
theorem k0_off3_inb : ∀ (v1 : BitVec 32) (k0_hw1 : k0_chk1 v1) (k0_t2 : Fin (k0_t2_loop v1).trips), ∀ a, (k0_off3 v1 k0_t2) a + S2080x512.size a ≤ S2080x512.size a := fun v1 k0_hw1 k0_t2 => k0_hw1.2.2.2.2.2.2.1 k0_t2
theorem k0_off3_packedbf16 : ∀ (v1 : BitVec 32) (k0_hw1 : k0_chk1 v1) (k0_t2 : Fin (k0_t2_loop v1).trips), (Rect.unit (s := S2080x512) (k0_off3 v1 k0_t2) S2080x512.size (k0_off3_inb v1 k0_hw1 k0_t2)).PackedRows (EltTy.packing .bf16) := fun v1 k0_hw1 k0_t2 => k0_hw1.2.2.2.2.2.2.2 k0_t2 (k0_off3_inb v1 k0_hw1 k0_t2)

def cc0_transform_0 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S4) ![v0.toNat] S1.size (k0_off1_inb i)) numel1_S1
  let v2 : Index := Scalar.indexCast arg0
  let v3 : BitVec 32 := pf.at 2 (Rect.unit (s := S4) ![v2.toNat] S1.size (k0_off1_inb i)) numel1_S1
  let c0_i32 : BitVec 32 := 0#32
  let v4 : BitVec 1 := Scalar.cmpi .sgt v3 c0_i32
  let c0_i32_0 : BitVec 32 := 0#32
  let c0_i32_1 : BitVec 32 := 0#32
  ![v1.toNat, c0_i32_0.toNat]

def cc0_transform_1 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let v2 : Index := Scalar.indexCast arg0
  let v3 : BitVec 32 := pf.at 2 (Rect.unit (s := S4) ![v2.toNat] S1.size (k0_off1_inb i)) numel1_S1
  let c0_i32 : BitVec 32 := 0#32
  let v4 : BitVec 1 := Scalar.cmpi .sgt v3 c0_i32
  let c23_i32 : BitVec 32 := 23#32
  let v5 : BitVec 32 := Scalar.select v4 arg1 c23_i32
  let c0_i32_0 : BitVec 32 := 0#32
  let v6 : BitVec 32 := Scalar.addi c0_i32_0 v5
  let c0_i32_1 : BitVec 32 := 0#32
  let c0_i32_2 : BitVec 32 := 0#32
  ![v1.toNat, c0_i32_1.toNat, v6.toNat]

def cc0_transform_2 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S4) ![v0.toNat] S1.size (k0_off1_inb i)) numel1_S1
  let c0_i32 : BitVec 32 := 0#32
  let v2 : BitVec 1 := Scalar.cmpi .sgt v1 c0_i32
  let c0_i32_0 : BitVec 32 := 0#32
  ![arg0.toNat, arg1.toNat]

abbrev stage0_0 : Fin 1 → Memref sig .tc .vmem S2080x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2080x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InOddRefIdeal.lean ====
abbrev S8320x4096 : Shape := ⟨2, ![8320, 4096]⟩
abbrev S1x4096x12288 : Shape := ⟨3, ![1, 4096, 12288]⟩
abbrev S4096x12288 : Shape := ⟨2, ![4096, 12288]⟩
abbrev S8320x12288 : Shape := ⟨2, ![8320, 12288]⟩

abbrev nBuf : Space → Nat
  | .hbm => 6
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S1x4096x12288, .f32⟩
  | .hbm, ⟨2, _⟩ => ⟨S8320x4096, .f32⟩
  | .hbm, ⟨3, _⟩ => ⟨S4096x12288, .f32⟩
  | .hbm, ⟨4, _⟩ => ⟨S8320x12288, .f32⟩
  | .hbm, ⟨5, _⟩ => ⟨S8320x12288, .bf16⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KvNew.lean ====
abbrev S640x4096 : Shape := ⟨2, ![640, 4096]⟩
abbrev S1x4096x12288 : Shape := ⟨3, ![1, 4096, 12288]⟩
abbrev S_ : Shape := ⟨0, ![]⟩
abbrev S1 : Shape := ⟨1, ![1]⟩
abbrev S640x8192 : Shape := ⟨2, ![640, 8192]⟩
abbrev S1x4096x512 : Shape := ⟨3, ![1, 4096, 512]⟩
abbrev S640x512 : Shape := ⟨2, ![640, 512]⟩
abbrev S4096x512 : Shape := ⟨2, ![4096, 512]⟩

abbrev nBuf : Space → Nat
  | .hbm => 5
  | .vmem => 5
  | .smem => 3
  | _ => 0

abbrev bufTy : (tb : Table) → Fin (tcTables nBuf tb) → BufTy
  | .hbm, ⟨0, _⟩ => ⟨S640x4096, .bf16⟩
  | .hbm, ⟨1, _⟩ => ⟨S1x4096x12288, .f32⟩
  | .hbm, ⟨2, _⟩ => ⟨S_, .i32⟩
  | .hbm, ⟨3, _⟩ => ⟨S_, .i32⟩
  | .hbm, ⟨4, _⟩ => ⟨S640x8192, .f32⟩
  | .local _ .vmem, ⟨0, _⟩ => ⟨S640x4096, .bf16⟩
  | .local _ .vmem, ⟨1, _⟩ => ⟨S1x4096x512, .f32⟩
  | .local _ .vmem, ⟨2, _⟩ => ⟨S1x4096x512, .f32⟩
  | .local _ .vmem, ⟨3, _⟩ => ⟨S640x512, .f32⟩
  | .local _ .vmem, ⟨4, _⟩ => ⟨S640x512, .f32⟩
  | .local _ .smem, ⟨0, _⟩ => ⟨S1, .i32⟩
  | .local _ .smem, ⟨1, _⟩ => ⟨S1, .i32⟩
  | .local _ .smem, ⟨2, _⟩ => ⟨S1, .i32⟩
  | _, _ => ⟨S640x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v3 : Ref sig .tc := ⟨.hbm, 4, rfl⟩
abbrev main_v0 : Ref sig .tc := ⟨.smem, 0, rfl⟩
abbrev main_v1 : Ref sig .tc := ⟨.smem, 1, rfl⟩
abbrev main_v2 : Ref sig .tc := ⟨.smem, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

abbrev pre0 : Pipeline.Prefetch sig := ⟨3, ![main_v0.idx, main_v1.idx, main_v2.idx], fun | 0 => main_v0.names | 1 => main_v1.names | 2 => main_v2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop (v1 : BitVec 32) : Scf.Loop 32 :=
  let c1_i32 : BitVec 32 := 1#32
  let v5 : BitVec 32 := Scalar.subi c1_i32 v1
  let c1_i32_2 : BitVec 32 := 1#32
  let v7 : BitVec 32 := Scalar.divsi v5 c1_i32_2
  let v8 : BitVec 32 := Scalar.muli v7 c1_i32_2
  let v9 : BitVec 32 := Scalar.addi v1 v8
  let c1_i32_3 : BitVec 32 := 1#32
  ⟨v1, v9, c1_i32_3⟩

def k0_mult1 (v1 : BitVec 32) (k0_t1 : Fin (k0_t1_loop v1).trips) : BitVec 32 :=
  let c1_i32_3 : BitVec 32 := 1#32
  let arg8 : BitVec 32 := Scf.iv v1 c1_i32_3 k0_t1
  let c640_i32 : BitVec 32 := 640#32
  let v11 : BitVec 32 := Scalar.muli arg8 c640_i32
  v11
def k0_off2 (v1 : BitVec 32) (k0_t1 : Fin (k0_t1_loop v1).trips) : Fin 2 → Nat :=
  let c1_i32_3 : BitVec 32 := 1#32
  let arg8 : BitVec 32 := Scf.iv v1 c1_i32_3 k0_t1
  let c640_i32 : BitVec 32 := 640#32
  let v11 : BitVec 32 := Scalar.muli arg8 c640_i32
  let v12 : BitVec 32 := v11
  let v13 : Index := Scalar.indexCast v12
  let c0 : Index := 0#32
  ![v13.toNat, 0]
@[reducible] def k0_t2_loop (v1 : BitVec 32) : Scf.Loop 32 :=
  let c1_i32 : BitVec 32 := 1#32
  let v5 : BitVec 32 := Scalar.subi c1_i32 v1
  let c1_i32_2 : BitVec 32 := 1#32
  let v7 : BitVec 32 := Scalar.divsi v5 c1_i32_2
  let v8 : BitVec 32 := Scalar.muli v7 c1_i32_2
  let v9 : BitVec 32 := Scalar.addi v1 v8
  let v6 : BitVec 32 := Scalar.addi v1 v5
  let c1_i32_4 : BitVec 32 := 1#32
  ⟨v9, v6, c1_i32_4⟩
def k0_mult2 (v1 : BitVec 32) (k0_t2 : Fin (k0_t2_loop v1).trips) : BitVec 32 :=
  let c1_i32 : BitVec 32 := 1#32
  let v5 : BitVec 32 := Scalar.subi c1_i32 v1
  let c1_i32_2 : BitVec 32 := 1#32
  let v7 : BitVec 32 := Scalar.divsi v5 c1_i32_2
  let v8 : BitVec 32 := Scalar.muli v7 c1_i32_2
  let v9 : BitVec 32 := Scalar.addi v1 v8
  let c1_i32_4 : BitVec 32 := 1#32
  let arg8 : BitVec 32 := Scf.iv v9 c1_i32_4 k0_t2
  let c640_i32 : BitVec 32 := 640#32
  let v11 : BitVec 32 := Scalar.muli arg8 c640_i32
  v11
def k0_off3 (v1 : BitVec 32) (k0_t2 : Fin (k0_t2_loop v1).trips) : Fin 2 → Nat :=
  let c1_i32 : BitVec 32 := 1#32
  let v5 : BitVec 32 := Scalar.subi c1_i32 v1
  let c1_i32_2 : BitVec 32 := 1#32
  let v7 : BitVec 32 := Scalar.divsi v5 c1_i32_2
  let v8 : BitVec 32 := Scalar.muli v7 c1_i32_2
  let v9 : BitVec 32 := Scalar.addi v1 v8
  let c1_i32_4 : BitVec 32 := 1#32
  let arg8 : BitVec 32 := Scf.iv v9 c1_i32_4 k0_t2
  let c640_i32 : BitVec 32 := 640#32
  let v11 : BitVec 32 := Scalar.muli arg8 c640_i32
  let v12 : BitVec 32 := v11
  let v13 : Index := Scalar.indexCast v12
  let c0 : Index := 0#32
  ![v13.toNat, 0]

def k0_chk1 (v1 : BitVec 32) : Prop :=
  ((k0_t1_loop v1).OK) ∧
  (∀ k0_t1 : Fin (k0_t1_loop v1).trips, 640 ∣ (k0_mult1 v1 k0_t1).toNat) ∧
  (∀ k0_t1 : Fin (k0_t1_loop v1).trips, ∀ a, (k0_off2 v1 k0_t1) a + S640x512.size a ≤ S640x512.size a) ∧
  ((k0_t2_loop v1).OK) ∧
  (∀ k0_t2 : Fin (k0_t2_loop v1).trips, 640 ∣ (k0_mult2 v1 k0_t2).toNat) ∧
  (∀ k0_t2 : Fin (k0_t2_loop v1).trips, ∀ a, (k0_off3 v1 k0_t2) a + S640x512.size a ≤ S640x512.size a)
theorem k0_t1_ok : ∀ (v1 : BitVec 32) (k0_hw1 : k0_chk1 v1), (k0_t1_loop v1).OK := fun v1 k0_hw1 => k0_hw1.1
theorem k0_mult1_dvd : ∀ (v1 : BitVec 32) (k0_hw1 : k0_chk1 v1) (k0_t1 : Fin (k0_t1_loop v1).trips), 640 ∣ (k0_mult1 v1 k0_t1).toNat := fun v1 k0_hw1 k0_t1 => k0_hw1.2.1 k0_t1
theorem k0_off2_inb : ∀ (v1 : BitVec 32) (k0_hw1 : k0_chk1 v1) (k0_t1 : Fin (k0_t1_loop v1).trips), ∀ a, (k0_off2 v1 k0_t1) a + S640x512.size a ≤ S640x512.size a := fun v1 k0_hw1 k0_t1 => k0_hw1.2.2.1 k0_t1
theorem k0_t2_ok : ∀ (v1 : BitVec 32) (k0_hw1 : k0_chk1 v1), (k0_t2_loop v1).OK := fun v1 k0_hw1 => k0_hw1.2.2.2.1
theorem k0_mult2_dvd : ∀ (v1 : BitVec 32) (k0_hw1 : k0_chk1 v1) (k0_t2 : Fin (k0_t2_loop v1).trips), 640 ∣ (k0_mult2 v1 k0_t2).toNat := fun v1 k0_hw1 k0_t2 => k0_hw1.2.2.2.2.1 k0_t2
theorem k0_off3_inb : ∀ (v1 : BitVec 32) (k0_hw1 : k0_chk1 v1) (k0_t2 : Fin (k0_t2_loop v1).trips), ∀ a, (k0_off3 v1 k0_t2) a + S640x512.size a ≤ S640x512.size a := fun v1 k0_hw1 k0_t2 => k0_hw1.2.2.2.2.2 k0_t2

def cc0_transform_0 (k0_off1_inb : ∀ i : grid0.Coords, ∀ a, (k0_off1 i) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S1) ![v0.toNat] S1.size (k0_off1_inb i)) numel1_S1
  let v2 : Index := Scalar.indexCast arg0
  let v3 : BitVec 32 := pf.at 2 (Rect.unit (s := S1) ![v2.toNat] S1.size (k0_off1_inb i)) numel1_S1
  let c0_i32 : BitVec 32 := 0#32
  let v4 : BitVec 1 := Scalar.cmpi .sgt v3 c0_i32
  let c0_i32_0 : BitVec 32 := 0#32
  let c0_i32_1 : BitVec 32 := 0#32
  ![v1.toNat, c0_i32_0.toNat]

def cc0_transform_1 (k0_off1_inb : ∀ i : grid0.Coords, ∀ a, (k0_off1 i) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S1) ![v0.toNat] S1.size (k0_off1_inb i)) numel1_S1
  let v2 : Index := Scalar.indexCast arg0
  let v3 : BitVec 32 := pf.at 2 (Rect.unit (s := S1) ![v2.toNat] S1.size (k0_off1_inb i)) numel1_S1
  let c0_i32 : BitVec 32 := 0#32
  let v4 : BitVec 1 := Scalar.cmpi .sgt v3 c0_i32
  let c15_i32 : BitVec 32 := 15#32
  let v5 : BitVec 32 := Scalar.select v4 arg1 c15_i32
  let c8_i32 : BitVec 32 := 8#32
  let v6 : BitVec 32 := Scalar.addi c8_i32 v5
  let c0_i32_0 : BitVec 32 := 0#32
  let c0_i32_1 : BitVec 32 := 0#32
  ![v1.toNat, c0_i32_0.toNat, v6.toNat]

def cc0_transform_2 (k0_off1_inb : ∀ i : grid0.Coords, ∀ a, (k0_off1 i) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S1) ![v0.toNat] S1.size (k0_off1_inb i)) numel1_S1
  let c0_i32 : BitVec 32 := 0#32
  let v2 : BitVec 1 := Scalar.cmpi .sgt v1 c0_i32
  let c0_i32_0 : BitVec 32 := 0#32
  ![arg0.toNat, arg1.toNat]

abbrev stage0_0 : Fin 1 → Memref sig .tc .vmem S640x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvNewRefIdeal.lean ====
abbrev S640x4096 : Shape := ⟨2, ![640, 4096]⟩
abbrev S1x4096x12288 : Shape := ⟨3, ![1, 4096, 12288]⟩
abbrev S4096x12288 : Shape := ⟨2, ![4096, 12288]⟩
abbrev S4096x8192 : Shape := ⟨2, ![4096, 8192]⟩
abbrev S640x8192 : Shape := ⟨2, ![640, 8192]⟩

abbrev nBuf : Space → Nat
  | .hbm => 6
  | .vmem => 0
  | .smem => 0
  | _ => 0

abbrev bufTy : (tb : Table) → Fin (tcTables nBuf tb) → BufTy
  | .hbm, ⟨0, _⟩ => ⟨S640x4096, .bf16⟩
  | .hbm, ⟨1, _⟩ => ⟨S1x4096x12288, .f32⟩
  | .hbm, ⟨2, _⟩ => ⟨S640x4096, .f32⟩
  | .hbm, ⟨3, _⟩ => ⟨S4096x12288, .f32⟩
  | .hbm, ⟨4, _⟩ => ⟨S4096x8192, .f32⟩
  | .hbm, ⟨5, _⟩ => ⟨S640x8192, .f32⟩
  | _, _ => ⟨S640x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutProj.lean ====
abbrev S8320x4096 : Shape := ⟨2, ![8320, 4096]⟩
abbrev S1x4096x4096 : Shape := ⟨3, ![1, 4096, 4096]⟩
abbrev S_ : Shape := ⟨0, ![]⟩
abbrev S5 : Shape := ⟨1, ![5]⟩
abbrev S1664x4096 : Shape := ⟨2, ![1664, 4096]⟩
abbrev S1 : Shape := ⟨1, ![1]⟩
abbrev S1x4096x512 : Shape := ⟨3, ![1, 4096, 512]⟩
abbrev S1664x512 : Shape := ⟨2, ![1664, 512]⟩
abbrev S4096x512 : Shape := ⟨2, ![4096, 512]⟩

abbrev nBuf : Space → Nat
  | .hbm => 5
  | .vmem => 6
  | .smem => 3
  | _ => 0

abbrev bufTy : (tb : Table) → Fin (tcTables nBuf tb) → BufTy
  | .hbm, ⟨0, _⟩ => ⟨S8320x4096, .bf16⟩
  | .hbm, ⟨1, _⟩ => ⟨S1x4096x4096, .f32⟩
  | .hbm, ⟨2, _⟩ => ⟨S_, .i32⟩
  | .hbm, ⟨3, _⟩ => ⟨S_, .i32⟩
  | .hbm, ⟨4, _⟩ => ⟨S8320x4096, .f32⟩
  | .local _ .vmem, ⟨0, _⟩ => ⟨S1664x4096, .bf16⟩
  | .local _ .vmem, ⟨1, _⟩ => ⟨S1664x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1664x512, .f32⟩
  | .local _ .vmem, ⟨5, _⟩ => ⟨S1664x512, .f32⟩
  | .local _ .smem, ⟨0, _⟩ => ⟨S5, .i32⟩
  | .local _ .smem, ⟨1, _⟩ => ⟨S5, .i32⟩
  | .local _ .smem, ⟨2, _⟩ => ⟨S5, .i32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v3 : Ref sig .tc := ⟨.hbm, 4, rfl⟩
abbrev main_v0 : Ref sig .tc := ⟨.smem, 0, rfl⟩
abbrev main_v1 : Ref sig .tc := ⟨.smem, 1, rfl⟩
abbrev main_v2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 8], ![false, false]⟩

abbrev pre0 : Pipeline.Prefetch sig := ⟨3, ![main_v0.idx, main_v1.idx, main_v2.idx], fun | 0 => main_v0.names | 1 => main_v1.names | 2 => main_v2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop (v1 : BitVec 32) : Scf.Loop 32 :=
  let c1_i32 : BitVec 32 := 1#32
  let v5 : BitVec 32 := Scalar.subi c1_i32 v1
  let c1_i32_2 : BitVec 32 := 1#32
  let v7 : BitVec 32 := Scalar.divsi v5 c1_i32_2
  let v8 : BitVec 32 := Scalar.muli v7 c1_i32_2
  let v9 : BitVec 32 := Scalar.addi v1 v8
  let c1_i32_3 : BitVec 32 := 1#32
  ⟨v1, v9, c1_i32_3⟩

def k0_mult1 (v1 : BitVec 32) (k0_t1 : Fin (k0_t1_loop v1).trips) : BitVec 32 :=
  let c1_i32_3 : BitVec 32 := 1#32
  let arg8 : BitVec 32 := Scf.iv v1 c1_i32_3 k0_t1
  let c1664_i32 : BitVec 32 := 1664#32
  let v11 : BitVec 32 := Scalar.muli arg8 c1664_i32
  v11
def k0_off2 (v1 : BitVec 32) (k0_t1 : Fin (k0_t1_loop v1).trips) : Fin 2 → Nat :=
  let c1_i32_3 : BitVec 32 := 1#32
  let arg8 : BitVec 32 := Scf.iv v1 c1_i32_3 k0_t1
  let c1664_i32 : BitVec 32 := 1664#32
  let v11 : BitVec 32 := Scalar.muli arg8 c1664_i32
  let v12 : BitVec 32 := v11
  let v13 : Index := Scalar.indexCast v12
  let c0 : Index := 0#32
  ![v13.toNat, 0]
@[reducible] def k0_t2_loop (v1 : BitVec 32) : Scf.Loop 32 :=
  let c1_i32 : BitVec 32 := 1#32
  let v5 : BitVec 32 := Scalar.subi c1_i32 v1
  let c1_i32_2 : BitVec 32 := 1#32
  let v7 : BitVec 32 := Scalar.divsi v5 c1_i32_2
  let v8 : BitVec 32 := Scalar.muli v7 c1_i32_2
  let v9 : BitVec 32 := Scalar.addi v1 v8
  let v6 : BitVec 32 := Scalar.addi v1 v5
  let c1_i32_4 : BitVec 32 := 1#32
  ⟨v9, v6, c1_i32_4⟩
def k0_mult2 (v1 : BitVec 32) (k0_t2 : Fin (k0_t2_loop v1).trips) : BitVec 32 :=
  let c1_i32 : BitVec 32 := 1#32
  let v5 : BitVec 32 := Scalar.subi c1_i32 v1
  let c1_i32_2 : BitVec 32 := 1#32
  let v7 : BitVec 32 := Scalar.divsi v5 c1_i32_2
  let v8 : BitVec 32 := Scalar.muli v7 c1_i32_2
  let v9 : BitVec 32 := Scalar.addi v1 v8
  let c1_i32_4 : BitVec 32 := 1#32
  let arg8 : BitVec 32 := Scf.iv v9 c1_i32_4 k0_t2
  let c1664_i32 : BitVec 32 := 1664#32
  let v11 : BitVec 32 := Scalar.muli arg8 c1664_i32
  v11
def k0_off3 (v1 : BitVec 32) (k0_t2 : Fin (k0_t2_loop v1).trips) : Fin 2 → Nat :=
  let c1_i32 : BitVec 32 := 1#32
  let v5 : BitVec 32 := Scalar.subi c1_i32 v1
  let c1_i32_2 : BitVec 32 := 1#32
  let v7 : BitVec 32 := Scalar.divsi v5 c1_i32_2
  let v8 : BitVec 32 := Scalar.muli v7 c1_i32_2
  let v9 : BitVec 32 := Scalar.addi v1 v8
  let c1_i32_4 : BitVec 32 := 1#32
  let arg8 : BitVec 32 := Scf.iv v9 c1_i32_4 k0_t2
  let c1664_i32 : BitVec 32 := 1664#32
  let v11 : BitVec 32 := Scalar.muli arg8 c1664_i32
  let v12 : BitVec 32 := v11
  let v13 : Index := Scalar.indexCast v12
  let c0 : Index := 0#32
  ![v13.toNat, 0]

def k0_chk1 (v1 : BitVec 32) : Prop :=
  ((k0_t1_loop v1).OK) ∧
  (∀ k0_t1 : Fin (k0_t1_loop v1).trips, 1664 ∣ (k0_mult1 v1 k0_t1).toNat) ∧
  (∀ k0_t1 : Fin (k0_t1_loop v1).trips, ∀ a, (k0_off2 v1 k0_t1) a + S1664x512.size a ≤ S1664x512.size a) ∧
  ((k0_t2_loop v1).OK) ∧
  (∀ k0_t2 : Fin (k0_t2_loop v1).trips, 1664 ∣ (k0_mult2 v1 k0_t2).toNat) ∧
  (∀ k0_t2 : Fin (k0_t2_loop v1).trips, ∀ a, (k0_off3 v1 k0_t2) a + S1664x512.size a ≤ S1664x512.size a)
theorem k0_t1_ok : ∀ (v1 : BitVec 32) (k0_hw1 : k0_chk1 v1), (k0_t1_loop v1).OK := fun v1 k0_hw1 => k0_hw1.1
theorem k0_mult1_dvd : ∀ (v1 : BitVec 32) (k0_hw1 : k0_chk1 v1) (k0_t1 : Fin (k0_t1_loop v1).trips), 1664 ∣ (k0_mult1 v1 k0_t1).toNat := fun v1 k0_hw1 k0_t1 => k0_hw1.2.1 k0_t1
theorem k0_off2_inb : ∀ (v1 : BitVec 32) (k0_hw1 : k0_chk1 v1) (k0_t1 : Fin (k0_t1_loop v1).trips), ∀ a, (k0_off2 v1 k0_t1) a + S1664x512.size a ≤ S1664x512.size a := fun v1 k0_hw1 k0_t1 => k0_hw1.2.2.1 k0_t1
theorem k0_t2_ok : ∀ (v1 : BitVec 32) (k0_hw1 : k0_chk1 v1), (k0_t2_loop v1).OK := fun v1 k0_hw1 => k0_hw1.2.2.2.1
theorem k0_mult2_dvd : ∀ (v1 : BitVec 32) (k0_hw1 : k0_chk1 v1) (k0_t2 : Fin (k0_t2_loop v1).trips), 1664 ∣ (k0_mult2 v1 k0_t2).toNat := fun v1 k0_hw1 k0_t2 => k0_hw1.2.2.2.2.1 k0_t2
theorem k0_off3_inb : ∀ (v1 : BitVec 32) (k0_hw1 : k0_chk1 v1) (k0_t2 : Fin (k0_t2_loop v1).trips), ∀ a, (k0_off3 v1 k0_t2) a + S1664x512.size a ≤ S1664x512.size a := fun v1 k0_hw1 k0_t2 => k0_hw1.2.2.2.2.2 k0_t2

def cc0_transform_0 (k0_off1_inb : ∀ i : grid0.Coords, ∀ a, (k0_off1 i) a + S1.size a ≤ S5.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S5) ![v0.toNat] S1.size (k0_off1_inb i)) numel1_S1
  let v2 : Index := Scalar.indexCast arg0
  let v3 : BitVec 32 := pf.at 2 (Rect.unit (s := S5) ![v2.toNat] S1.size (k0_off1_inb i)) numel1_S1
  let c0_i32 : BitVec 32 := 0#32
  let v4 : BitVec 1 := Scalar.cmpi .sgt v3 c0_i32
  let c0_i32_0 : BitVec 32 := 0#32
  let c0_i32_1 : BitVec 32 := 0#32
  ![v1.toNat, c0_i32_0.toNat]

def cc0_transform_1 (k0_off1_inb : ∀ i : grid0.Coords, ∀ a, (k0_off1 i) a + S1.size a ≤ S5.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S5) ![v0.toNat] S1.size (k0_off1_inb i)) numel1_S1
  let v2 : Index := Scalar.indexCast arg0
  let v3 : BitVec 32 := pf.at 2 (Rect.unit (s := S5) ![v2.toNat] S1.size (k0_off1_inb i)) numel1_S1
  let c0_i32 : BitVec 32 := 0#32
  let v4 : BitVec 1 := Scalar.cmpi .sgt v3 c0_i32
  let c7_i32 : BitVec 32 := 7#32
  let v5 : BitVec 32 := Scalar.select v4 arg1 c7_i32
  let c0_i32_0 : BitVec 32 := 0#32
  let v6 : BitVec 32 := Scalar.addi c0_i32_0 v5
  let c0_i32_1 : BitVec 32 := 0#32
  let c0_i32_2 : BitVec 32 := 0#32
  ![v1.toNat, c0_i32_1.toNat, v6.toNat]

def cc0_transform_2 (k0_off1_inb : ∀ i : grid0.Coords, ∀ a, (k0_off1 i) a + S1.size a ≤ S5.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S5) ![v0.toNat] S1.size (k0_off1_inb i)) numel1_S1
  let c0_i32 : BitVec 32 := 0#32
  let v2 : BitVec 1 := Scalar.cmpi .sgt v1 c0_i32
  let c0_i32_0 : BitVec 32 := 0#32
  ![arg0.toNat, arg1.toNat]

abbrev stage0_0 : Fin 2 → Memref sig .tc .vmem S1664x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1664x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutProjRefIdeal.lean ====
abbrev S8320x4096 : Shape := ⟨2, ![8320, 4096]⟩
abbrev S1x4096x4096 : Shape := ⟨3, ![1, 4096, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S1x4096x4096, .f32⟩
  | .hbm, ⟨2, _⟩ => ⟨S8320x4096, .f32⟩
  | .hbm, ⟨3, _⟩ => ⟨S4096x4096, .f32⟩
  | .hbm, ⟨4, _⟩ => ⟨S8320x4096, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Ple.lean ====
abbrev S8320x4096 : Shape := ⟨2, ![8320, 4096]⟩
abbrev S1x4096x4096 : Shape := ⟨3, ![1, 4096, 4096]⟩
abbrev S8320x256 : Shape := ⟨2, ![8320, 256]⟩
abbrev S1x256x4096 : Shape := ⟨3, ![1, 256, 4096]⟩
abbrev S_ : Shape := ⟨0, ![]⟩
abbrev S5 : Shape := ⟨1, ![5]⟩
abbrev S1664x4096 : Shape := ⟨2, ![1664, 4096]⟩
abbrev S1 : Shape := ⟨1, ![1]⟩
abbrev S1x4096x256 : Shape := ⟨3, ![1, 4096, 256]⟩
abbrev S1664x256 : Shape := ⟨2, ![1664, 256]⟩
abbrev S1x256x256 : Shape := ⟨3, ![1, 256, 256]⟩
abbrev S4096x256 : Shape := ⟨2, ![4096, 256]⟩
abbrev S256x256 : Shape := ⟨2, ![256, 256]⟩

abbrev nBuf : Space → Nat
  | .hbm => 9
  | .vmem => 14
  | .smem => 3
  | _ => 0

abbrev bufTy : (tb : Table) → Fin (tcTables nBuf tb) → BufTy
  | .hbm, ⟨0, _⟩ => ⟨S8320x4096, .bf16⟩
  | .hbm, ⟨1, _⟩ => ⟨S1x4096x4096, .f32⟩
  | .hbm, ⟨2, _⟩ => ⟨S8320x256, .bf16⟩
  | .hbm, ⟨3, _⟩ => ⟨S1x256x4096, .f32⟩
  | .hbm, ⟨4, _⟩ => ⟨S8320x4096, .f32⟩
  | .hbm, ⟨5, _⟩ => ⟨S_, .i32⟩
  | .hbm, ⟨6, _⟩ => ⟨S_, .i32⟩
  | .hbm, ⟨7, _⟩ => ⟨S8320x4096, .f32⟩
  | .hbm, ⟨8, _⟩ => ⟨S8320x4096, .bf16⟩
  | .local _ .vmem, ⟨0, _⟩ => ⟨S1664x4096, .bf16⟩
  | .local _ .vmem, ⟨1, _⟩ => ⟨S1664x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1664x256, .bf16⟩
  | .local _ .vmem, ⟨5, _⟩ => ⟨S1664x256, .bf16⟩
  | .local _ .vmem, ⟨6, _⟩ => ⟨S1x256x256, .f32⟩
  | .local _ .vmem, ⟨7, _⟩ => ⟨S1x256x256, .f32⟩
  | .local _ .vmem, ⟨8, _⟩ => ⟨S1664x256, .f32⟩
  | .local _ .vmem, ⟨9, _⟩ => ⟨S1664x256, .f32⟩
  | .local _ .vmem, ⟨10, _⟩ => ⟨S1664x256, .f32⟩
  | .local _ .vmem, ⟨11, _⟩ => ⟨S1664x256, .f32⟩
  | .local _ .vmem, ⟨12, _⟩ => ⟨S1664x256, .bf16⟩
  | .local _ .vmem, ⟨13, _⟩ => ⟨S1664x256, .bf16⟩
  | .local _ .smem, ⟨0, _⟩ => ⟨S5, .i32⟩
  | .local _ .smem, ⟨1, _⟩ => ⟨S5, .i32⟩
  | .local _ .smem, ⟨2, _⟩ => ⟨S5, .i32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v3_0 : Ref sig .tc := ⟨.hbm, 7, rfl⟩
abbrev main_v3_1 : Ref sig .tc := ⟨.hbm, 8, rfl⟩
abbrev main_v0 : Ref sig .tc := ⟨.smem, 0, rfl⟩
abbrev main_v1 : Ref sig .tc := ⟨.smem, 1, rfl⟩
abbrev main_v2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![5, 16], ![false, false]⟩

abbrev pre0 : Pipeline.Prefetch sig := ⟨3, ![main_v0.idx, main_v1.idx, main_v2.idx], fun | 0 => main_v0.names | 1 => main_v1.names | 2 => main_v2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop (v1 : BitVec 32) : Scf.Loop 32 :=
  let c1_i32 : BitVec 32 := 1#32
  let v5 : BitVec 32 := Scalar.subi c1_i32 v1
  let c1_i32_2 : BitVec 32 := 1#32
  let v7 : BitVec 32 := Scalar.divsi v5 c1_i32_2
  let v8 : BitVec 32 := Scalar.muli v7 c1_i32_2
  let v9 : BitVec 32 := Scalar.addi v1 v8
  let c1_i32_3 : BitVec 32 := 1#32
  ⟨v1, v9, c1_i32_3⟩

def k0_mult1 (v1 : BitVec 32) (k0_t1 : Fin (k0_t1_loop v1).trips) : BitVec 32 :=
  let c1_i32_3 : BitVec 32 := 1#32
  let arg12 : BitVec 32 := Scf.iv v1 c1_i32_3 k0_t1
  let c1664_i32 : BitVec 32 := 1664#32
  let v11 : BitVec 32 := Scalar.muli arg12 c1664_i32
  v11
def k0_off2 (v1 : BitVec 32) (k0_t1 : Fin (k0_t1_loop v1).trips) : Fin 2 → Nat :=
  let c1_i32_3 : BitVec 32 := 1#32
  let arg12 : BitVec 32 := Scf.iv v1 c1_i32_3 k0_t1
  let c1664_i32 : BitVec 32 := 1664#32
  let v11 : BitVec 32 := Scalar.muli arg12 c1664_i32
  let v12 : BitVec 32 := v11
  let v13 : Index := Scalar.indexCast v12
  let c0 : Index := 0#32
  ![v13.toNat, 0]
def k0_mult2 (v1 : BitVec 32) (k0_t1 : Fin (k0_t1_loop v1).trips) : BitVec 32 :=
  let c1_i32_3 : BitVec 32 := 1#32
  let arg12 : BitVec 32 := Scf.iv v1 c1_i32_3 k0_t1
  let c1664_i32_6 : BitVec 32 := 1664#32
  let v16 : BitVec 32 := Scalar.muli arg12 c1664_i32_6
  v16
@[reducible] def k0_t2_loop (v1 : BitVec 32) : Scf.Loop 32 :=
  let c1_i32 : BitVec 32 := 1#32
  let v5 : BitVec 32 := Scalar.subi c1_i32 v1
  let c1_i32_2 : BitVec 32 := 1#32
  let v7 : BitVec 32 := Scalar.divsi v5 c1_i32_2
  let v8 : BitVec 32 := Scalar.muli v7 c1_i32_2
  let v9 : BitVec 32 := Scalar.addi v1 v8
  let v6 : BitVec 32 := Scalar.addi v1 v5
  let c1_i32_4 : BitVec 32 := 1#32
  ⟨v9, v6, c1_i32_4⟩
def k0_mult3 (v1 : BitVec 32) (k0_t2 : Fin (k0_t2_loop v1).trips) : BitVec 32 :=
  let c1_i32 : BitVec 32 := 1#32
  let v5 : BitVec 32 := Scalar.subi c1_i32 v1
  let c1_i32_2 : BitVec 32 := 1#32
  let v7 : BitVec 32 := Scalar.divsi v5 c1_i32_2
  let v8 : BitVec 32 := Scalar.muli v7 c1_i32_2
  let v9 : BitVec 32 := Scalar.addi v1 v8
  let c1_i32_4 : BitVec 32 := 1#32
  let arg12 : BitVec 32 := Scf.iv v9 c1_i32_4 k0_t2
  let c1664_i32 : BitVec 32 := 1664#32
  let v11 : BitVec 32 := Scalar.muli arg12 c1664_i32
  v11
def k0_off3 (v1 : BitVec 32) (k0_t2 : Fin (k0_t2_loop v1).trips) : Fin 2 → Nat :=
  let c1_i32 : BitVec 32 := 1#32
  let v5 : BitVec 32 := Scalar.subi c1_i32 v1
  let c1_i32_2 : BitVec 32 := 1#32
  let v7 : BitVec 32 := Scalar.divsi v5 c1_i32_2
  let v8 : BitVec 32 := Scalar.muli v7 c1_i32_2
  let v9 : BitVec 32 := Scalar.addi v1 v8
  let c1_i32_4 : BitVec 32 := 1#32
  let arg12 : BitVec 32 := Scf.iv v9 c1_i32_4 k0_t2
  let c1664_i32 : BitVec 32 := 1664#32
  let v11 : BitVec 32 := Scalar.muli arg12 c1664_i32
  let v12 : BitVec 32 := v11
  let v13 : Index := Scalar.indexCast v12
  let c0 : Index := 0#32
  ![v13.toNat, 0]
def k0_mult4 (v1 : BitVec 32) (k0_t2 : Fin (k0_t2_loop v1).trips) : BitVec 32 :=
  let c1_i32 : BitVec 32 := 1#32
  let v5 : BitVec 32 := Scalar.subi c1_i32 v1
  let c1_i32_2 : BitVec 32 := 1#32
  let v7 : BitVec 32 := Scalar.divsi v5 c1_i32_2
  let v8 : BitVec 32 := Scalar.muli v7 c1_i32_2
  let v9 : BitVec 32 := Scalar.addi v1 v8
  let c1_i32_4 : BitVec 32 := 1#32
  let arg12 : BitVec 32 := Scf.iv v9 c1_i32_4 k0_t2
  let c1664_i32_6 : BitVec 32 := 1664#32
  let v16 : BitVec 32 := Scalar.muli arg12 c1664_i32_6
  v16

def k0_chk1 (v1 : BitVec 32) : Prop :=
  ((k0_t1_loop v1).OK) ∧
  (∀ k0_t1 : Fin (k0_t1_loop v1).trips, 1664 ∣ (k0_mult1 v1 k0_t1).toNat) ∧
  (∀ k0_t1 : Fin (k0_t1_loop v1).trips, ∀ a, (k0_off2 v1 k0_t1) a + S1664x256.size a ≤ S1664x256.size a) ∧
  (∀ k0_t1 : Fin (k0_t1_loop v1).trips, 1664 ∣ (k0_mult2 v1 k0_t1).toNat) ∧
  (∀ k0_t1 : Fin (k0_t1_loop v1).trips, ∀ (hinb : ∀ a, (k0_off2 v1 k0_t1) a + S1664x256.size a ≤ S1664x256.size a), (Rect.unit (s := S1664x256) (k0_off2 v1 k0_t1) S1664x256.size hinb).PackedRows (EltTy.packing .bf16)) ∧
  ((k0_t2_loop v1).OK) ∧
  (∀ k0_t2 : Fin (k0_t2_loop v1).trips, 1664 ∣ (k0_mult3 v1 k0_t2).toNat) ∧
  (∀ k0_t2 : Fin (k0_t2_loop v1).trips, ∀ a, (k0_off3 v1 k0_t2) a + S1664x256.size a ≤ S1664x256.size a) ∧
  (∀ k0_t2 : Fin (k0_t2_loop v1).trips, 1664 ∣ (k0_mult4 v1 k0_t2).toNat) ∧
  (∀ k0_t2 : Fin (k0_t2_loop v1).trips, ∀ (hinb : ∀ a, (k0_off3 v1 k0_t2) a + S1664x256.size a ≤ S1664x256.size a), (Rect.unit (s := S1664x256) (k0_off3 v1 k0_t2) S1664x256.size hinb).PackedRows (EltTy.packing .bf16))
theorem k0_t1_ok : ∀ (v1 : BitVec 32) (k0_hw1 : k0_chk1 v1), (k0_t1_loop v1).OK := fun v1 k0_hw1 => k0_hw1.1
theorem k0_mult1_dvd : ∀ (v1 : BitVec 32) (k0_hw1 : k0_chk1 v1) (k0_t1 : Fin (k0_t1_loop v1).trips), 1664 ∣ (k0_mult1 v1 k0_t1).toNat := fun v1 k0_hw1 k0_t1 => k0_hw1.2.1 k0_t1
theorem k0_off2_inb : ∀ (v1 : BitVec 32) (k0_hw1 : k0_chk1 v1) (k0_t1 : Fin (k0_t1_loop v1).trips), ∀ a, (k0_off2 v1 k0_t1) a + S1664x256.size a ≤ S1664x256.size a := fun v1 k0_hw1 k0_t1 => k0_hw1.2.2.1 k0_t1
theorem k0_mult2_dvd : ∀ (v1 : BitVec 32) (k0_hw1 : k0_chk1 v1) (k0_t1 : Fin (k0_t1_loop v1).trips), 1664 ∣ (k0_mult2 v1 k0_t1).toNat := fun v1 k0_hw1 k0_t1 => k0_hw1.2.2.2.1 k0_t1
theorem k0_off2_packedbf16 : ∀ (v1 : BitVec 32) (k0_hw1 : k0_chk1 v1) (k0_t1 : Fin (k0_t1_loop v1).trips), (Rect.unit (s := S1664x256) (k0_off2 v1 k0_t1) S1664x256.size (k0_off2_inb v1 k0_hw1 k0_t1)).PackedRows (EltTy.packing .bf16) := fun v1 k0_hw1 k0_t1 => k0_hw1.2.2.2.2.1 k0_t1 (k0_off2_inb v1 k0_hw1 k0_t1)
theorem k0_t2_ok : ∀ (v1 : BitVec 32) (k0_hw1 : k0_chk1 v1), (k0_t2_loop v1).OK := fun v1 k0_hw1 => k0_hw1.2.2.2.2.2.1
theorem k0_mult3_dvd : ∀ (v1 : BitVec 32) (k0_hw1 : k0_chk1 v1) (k0_t2 : Fin (k0_t2_loop v1).trips), 1664 ∣ (k0_mult3 v1 k0_t2).toNat := fun v1 k0_hw1 k0_t2 => k0_hw1.2.2.2.2.2.2.1 k0_t2
theorem k0_off3_inb : ∀ (v1 : BitVec 32) (k0_hw1 : k0_chk1 v1) (k0_t2 : Fin (k0_t2_loop v1).trips), ∀ a, (k0_off3 v1 k0_t2) a + S1664x256.size a ≤ S1664x256.size a := fun v1 k0_hw1 k0_t2 => k0_hw1.2.2.2.2.2.2.2.1 k0_t2
theorem k0_mult4_dvd : ∀ (v1 : BitVec 32) (k0_hw1 : k0_chk1 v1) (k0_t2 : Fin (k0_t2_loop v1).trips), 1664 ∣ (k0_mult4 v1 k0_t2).toNat := fun v1 k0_hw1 k0_t2 => k0_hw1.2.2.2.2.2.2.2.2.1 k0_t2
theorem k0_off3_packedbf16 : ∀ (v1 : BitVec 32) (k0_hw1 : k0_chk1 v1) (k0_t2 : Fin (k0_t2_loop v1).trips), (Rect.unit (s := S1664x256) (k0_off3 v1 k0_t2) S1664x256.size (k0_off3_inb v1 k0_hw1 k0_t2)).PackedRows (EltTy.packing .bf16) := fun v1 k0_hw1 k0_t2 => k0_hw1.2.2.2.2.2.2.2.2.2 k0_t2 (k0_off3_inb v1 k0_hw1 k0_t2)

def cc0_transform_0 (k0_off1_inb : ∀ i : grid0.Coords, ∀ a, (k0_off1 i) a + S1.size a ≤ S5.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S5) ![v0.toNat] S1.size (k0_off1_inb i)) numel1_S1
  let v2 : Index := Scalar.indexCast arg0
  let v3 : BitVec 32 := pf.at 2 (Rect.unit (s := S5) ![v2.toNat] S1.size (k0_off1_inb i)) numel1_S1
  let c0_i32 : BitVec 32 := 0#32
  let v4 : BitVec 1 := Scalar.cmpi .sgt v3 c0_i32
  let c0_i32_0 : BitVec 32 := 0#32
  let c0_i32_1 : BitVec 32 := 0#32
  ![v1.toNat, c0_i32_0.toNat]

def cc0_transform_1 (k0_off1_inb : ∀ i : grid0.Coords, ∀ a, (k0_off1 i) a + S1.size a ≤ S5.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S5) ![v0.toNat] S1.size (k0_off1_inb i)) numel1_S1
  let v2 : Index := Scalar.indexCast arg0
  let v3 : BitVec 32 := pf.at 2 (Rect.unit (s := S5) ![v2.toNat] S1.size (k0_off1_inb i)) numel1_S1
  let c0_i32 : BitVec 32 := 0#32
  let v4 : BitVec 1 := Scalar.cmpi .sgt v3 c0_i32
  let c15_i32 : BitVec 32 := 15#32
  let v5 : BitVec 32 := Scalar.select v4 arg1 c15_i32
  let c0_i32_0 : BitVec 32 := 0#32
  let c0_i32_1 : BitVec 32 := 0#32
  ![v1.toNat, c0_i32_0.toNat, v5.toNat]

def cc0_transform_2 (k0_off1_inb : ∀ i : grid0.Coords, ∀ a, (k0_off1 i) a + S1.size a ≤ S5.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S5) ![v0.toNat] S1.size (k0_off1_inb i)) numel1_S1
  let v2 : Index := Scalar.indexCast arg0
  let v3 : BitVec 32 := pf.at 2 (Rect.unit (s := S5) ![v2.toNat] S1.size (k0_off1_inb i)) numel1_S1
  let c0_i32 : BitVec 32 := 0#32
  let v4 : BitVec 1 := Scalar.cmpi .sgt v3 c0_i32
  let c0_i32_0 : BitVec 32 := 0#32
  let c0_i32_1 : BitVec 32 := 0#32
  ![v1.toNat, c0_i32_0.toNat]

def cc0_transform_3 (k0_off1_inb : ∀ i : grid0.Coords, ∀ a, (k0_off1 i) a + S1.size a ≤ S5.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S5) ![v0.toNat] S1.size (k0_off1_inb i)) numel1_S1
  let v2 : Index := Scalar.indexCast arg0
  let v3 : BitVec 32 := pf.at 2 (Rect.unit (s := S5) ![v2.toNat] S1.size (k0_off1_inb i)) numel1_S1
  let c0_i32 : BitVec 32 := 0#32
  let v4 : BitVec 1 := Scalar.cmpi .sgt v3 c0_i32
  let c15_i32 : BitVec 32 := 15#32
  let v5 : BitVec 32 := Scalar.select v4 arg1 c15_i32
  let c0_i32_0 : BitVec 32 := 0#32
  let c0_i32_1 : BitVec 32 := 0#32
  ![v1.toNat, c0_i32_0.toNat, v5.toNat]

def cc0_transform_4 (k0_off1_inb : ∀ i : grid0.Coords, ∀ a, (k0_off1 i) a + S1.size a ≤ S5.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S5) ![v0.toNat] S1.size (k0_off1_inb i)) numel1_S1
  let c0_i32 : BitVec 32 := 0#32
  let v2 : BitVec 1 := Scalar.cmpi .sgt v1 c0_i32
  let c0_i32_0 : BitVec 32 := 0#32
  ![arg0.toNat, arg1.toNat]

def cc0_transform_5 (k0_off1_inb : ∀ i : grid0.Coords, ∀ a, (k0_off1 i) a + S1.size a ≤ S5.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S5) ![v0.toNat] S1.size (k0_off1_inb i)) numel1_S1
  let c0_i32 : BitVec 32 := 0#32
  let v2 : BitVec 1 := Scalar.cmpi .sgt v1 c0_i32
  let c0_i32_0 : BitVec 32 := 0#32
  ![arg0.toNat, arg1.toNat]

def cc0_transform_6 (k0_off1_inb : ∀ i : grid0.Coords, ∀ a, (k0_off1 i) a + S1.size a ≤ S5.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S5) ![v0.toNat] S1.size (k0_off1_inb i)) numel1_S1
  let c0_i32 : BitVec 32 := 0#32
  let v2 : BitVec 1 := Scalar.cmpi .sgt v1 c0_i32
  let c0_i32_0 : BitVec 32 := 0#32
  ![arg0.toNat, arg1.toNat]

abbrev stage0_0 : Fin 2 → Memref sig .tc .vmem S1664x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1664x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1664x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1664x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1664x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== PleRefIdeal.lean ====
abbrev S8320x4096 : Shape := ⟨2, ![8320, 4096]⟩
abbrev S1x4096x4096 : Shape := ⟨3, ![1, 4096, 4096]⟩
abbrev S8320x256 : Shape := ⟨2, ![8320, 256]⟩
abbrev S1x256x4096 : Shape := ⟨3, ![1, 256, 4096]⟩
abbrev S4096x4096 : Shape := ⟨2, ![4096, 4096]⟩
abbrev S_ : Shape := ⟨0, ![]⟩
abbrev S256x4096 : Shape := ⟨2, ![256, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S1x4096x4096, .f32⟩
  | .hbm, ⟨2, _⟩ => ⟨S8320x256, .bf16⟩
  | .hbm, ⟨3, _⟩ => ⟨S1x256x4096, .f32⟩
  | .hbm, ⟨4, _⟩ => ⟨S8320x4096, .f32⟩
  | .hbm, ⟨5, _⟩ => ⟨S8320x4096, .f32⟩
  | .hbm, ⟨6, _⟩ => ⟨S4096x4096, .f32⟩
  | .hbm, ⟨7, _⟩ => ⟨S8320x4096, .f32⟩
  | .hbm, ⟨8, _⟩ => ⟨S8320x4096, .f32⟩
  | .hbm, ⟨9, _⟩ => ⟨S8320x4096, .f32⟩
  | .hbm, ⟨10, _⟩ => ⟨S_, .f32⟩
  | .hbm, ⟨11, _⟩ => ⟨S8320x4096, .f32⟩
  | .hbm, ⟨12, _⟩ => ⟨S8320x4096, .f32⟩
  | .hbm, ⟨13, _⟩ => ⟨S_, .f32⟩
  | .hbm, ⟨14, _⟩ => ⟨S8320x4096, .f32⟩
  | .hbm, ⟨15, _⟩ => ⟨S8320x4096, .f32⟩
  | .hbm, ⟨16, _⟩ => ⟨S8320x256, .f32⟩
  | .hbm, ⟨17, _⟩ => ⟨S256x4096, .f32⟩
  | .hbm, ⟨18, _⟩ => ⟨S8320x4096, .f32⟩
  | .hbm, ⟨19, _⟩ => ⟨S8320x4096, .f32⟩
  | .hbm, ⟨20, _⟩ => ⟨S8320x4096, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== MoeSwiglu.lean ====
abbrev S14 : Shape := ⟨1, ![14]⟩
abbrev S19712x4096 : Shape := ⟨2, ![19712, 4096]⟩
abbrev S8x4096x14336 : Shape := ⟨3, ![8, 4096, 14336]⟩
abbrev S35840x14336 : Shape := ⟨2, ![35840, 14336]⟩
abbrev S2560x4096 : Shape := ⟨2, ![2560, 4096]⟩
abbrev S1 : Shape := ⟨1, ![1]⟩
abbrev S1x4096x256 : Shape := ⟨3, ![1, 4096, 256]⟩
abbrev S2560x256 : Shape := ⟨2, ![2560, 256]⟩
abbrev S512x4096 : Shape := ⟨2, ![512, 4096]⟩
abbrev S4096x256 : Shape := ⟨2, ![4096, 256]⟩
abbrev S512x256 : Shape := ⟨2, ![512, 256]⟩
abbrev S256x4096 : Shape := ⟨2, ![256, 4096]⟩
abbrev S256x256 : Shape := ⟨2, ![256, 256]⟩
abbrev S128x4096 : Shape := ⟨2, ![128, 4096]⟩
abbrev S128x256 : Shape := ⟨2, ![128, 256]⟩
abbrev S64x4096 : Shape := ⟨2, ![64, 4096]⟩
abbrev S64x256 : Shape := ⟨2, ![64, 256]⟩

abbrev nBuf : Space → Nat
  | .hbm => 4
  | .vmem => 7
  | .smem => 3
  | _ => 0

abbrev bufTy : (tb : Table) → Fin (tcTables nBuf tb) → BufTy
  | .hbm, ⟨0, _⟩ => ⟨S19712x4096, .bf16⟩
  | .hbm, ⟨1, _⟩ => ⟨S8x4096x14336, .f32⟩
  | .hbm, ⟨2, _⟩ => ⟨S8x4096x14336, .f32⟩
  | .hbm, ⟨3, _⟩ => ⟨S35840x14336, .bf16⟩
  | .local _ .vmem, ⟨0, _⟩ => ⟨S2560x4096, .bf16⟩
  | .local _ .vmem, ⟨1, _⟩ => ⟨S1x4096x256, .f32⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S2560x256, .bf16⟩
  | .local _ .vmem, ⟨6, _⟩ => ⟨S2560x256, .bf16⟩
  | .local _ .smem, ⟨0, _⟩ => ⟨S14, .i32⟩
  | .local _ .smem, ⟨1, _⟩ => ⟨S14, .i32⟩
  | .local _ .smem, ⟨2, _⟩ => ⟨S14, .i32⟩
  | _, _ => ⟨S19712x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![14, 56], ![false, false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (pf : pre0.Contents (Elt F)) (i : grid0.Coords) : BitVec 32 :=
  let arg0 : BitVec 32 := BitVec.ofNat 32 (i 0).val
  let v0 : Index := Scalar.indexCast arg0
  let v1 : BitVec 32 := pf.atD 1 ![v0.toNat]
  let c64_i32 : BitVec 32 := 64#32
  let v2 : BitVec 32 := Scalar.muli v1 c64_i32
  v2

@[reducible] def k0_t1_loop (v1 : BitVec 32) : Scf.Loop 32 :=
  let c0_i32_5 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let v19 : BitVec 32 := Scalar.subi v18 c0_i32_5
  let c1_i32_6 : BitVec 32 := 1#32
  let v21 : BitVec 32 := Scalar.divsi v19 c1_i32_6
  let v22 : BitVec 32 := Scalar.muli v21 c1_i32_6
  let v23 : BitVec 32 := Scalar.addi c0_i32_5 v22
  let c1_i32_7 : BitVec 32 := 1#32
  ⟨c0_i32_5, v23, c1_i32_7⟩

def k0_mult2 (v1 : BitVec 32) (k0_t1 : Fin (k0_t1_loop v1).trips) : BitVec 32 :=
  let c0_i32_5 : BitVec 32 := 0#32
  let c1_i32_7 : BitVec 32 := 1#32
  let arg9 : BitVec 32 := Scf.iv c0_i32_5 c1_i32_7 k0_t1
  let c512_i32 : BitVec 32 := 512#32
  let v119 : BitVec 32 := Scalar.muli arg9 c512_i32
  v119
def k0_off2 (v1 : BitVec 32) (k0_t1 : Fin (k0_t1_loop v1).trips) : Fin 2 → Nat :=
  let c0_i32_5 : BitVec 32 := 0#32
  let c1_i32_7 : BitVec 32 := 1#32
  let arg9 : BitVec 32 := Scf.iv c0_i32_5 c1_i32_7 k0_t1
  let c512_i32 : BitVec 32 := 512#32
  let v119 : BitVec 32 := Scalar.muli arg9 c512_i32
  let v120 : BitVec 32 := v119
  let v121 : Index := Scalar.indexCast v120
  let c0 : Index := 0#32
  ![v121.toNat, 0]
def k0_off3 (v1 : BitVec 32) (k0_t1 : Fin (k0_t1_loop v1).trips) : Fin 2 → Nat :=
  let c0_i32_5 : BitVec 32 := 0#32
  let c1_i32_7 : BitVec 32 := 1#32
  let arg9 : BitVec 32 := Scf.iv c0_i32_5 c1_i32_7 k0_t1
  let c512_i32 : BitVec 32 := 512#32
  let v119 : BitVec 32 := Scalar.muli arg9 c512_i32
  let v120 : BitVec 32 := v119
  let v135 : Index := Scalar.indexCast v120
  let c0_63 : Index := 0#32
  ![v135.toNat, 0]
@[reducible] def k0_t2_loop (v1 : BitVec 32) : Scf.Loop 32 :=
  let c0_i32_5 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let v19 : BitVec 32 := Scalar.subi v18 c0_i32_5
  let c1_i32_6 : BitVec 32 := 1#32
  let v21 : BitVec 32 := Scalar.divsi v19 c1_i32_6
  let v22 : BitVec 32 := Scalar.muli v21 c1_i32_6
  let v23 : BitVec 32 := Scalar.addi c0_i32_5 v22
  let v20 : BitVec 32 := Scalar.addi c0_i32_5 v19
  let c1_i32_8 : BitVec 32 := 1#32
  ⟨v23, v20, c1_i32_8⟩
def k0_mult3 (v1 : BitVec 32) (k0_t2 : Fin (k0_t2_loop v1).trips) : BitVec 32 :=
  let c0_i32_5 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let v19 : BitVec 32 := Scalar.subi v18 c0_i32_5
  let c1_i32_6 : BitVec 32 := 1#32
  let v21 : BitVec 32 := Scalar.divsi v19 c1_i32_6
  let v22 : BitVec 32 := Scalar.muli v21 c1_i32_6
  let v23 : BitVec 32 := Scalar.addi c0_i32_5 v22
  let c1_i32_8 : BitVec 32 := 1#32
  let arg9 : BitVec 32 := Scf.iv v23 c1_i32_8 k0_t2
  let c512_i32 : BitVec 32 := 512#32
  let v119 : BitVec 32 := Scalar.muli arg9 c512_i32
  v119
def k0_off4 (v1 : BitVec 32) (k0_t2 : Fin (k0_t2_loop v1).trips) : Fin 2 → Nat :=
  let c0_i32_5 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let v19 : BitVec 32 := Scalar.subi v18 c0_i32_5
  let c1_i32_6 : BitVec 32 := 1#32
  let v21 : BitVec 32 := Scalar.divsi v19 c1_i32_6
  let v22 : BitVec 32 := Scalar.muli v21 c1_i32_6
  let v23 : BitVec 32 := Scalar.addi c0_i32_5 v22
  let c1_i32_8 : BitVec 32 := 1#32
  let arg9 : BitVec 32 := Scf.iv v23 c1_i32_8 k0_t2
  let c512_i32 : BitVec 32 := 512#32
  let v119 : BitVec 32 := Scalar.muli arg9 c512_i32
  let v120 : BitVec 32 := v119
  let v121 : Index := Scalar.indexCast v120
  let c0 : Index := 0#32
  ![v121.toNat, 0]
def k0_off5 (v1 : BitVec 32) (k0_t2 : Fin (k0_t2_loop v1).trips) : Fin 2 → Nat :=
  let c0_i32_5 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let v19 : BitVec 32 := Scalar.subi v18 c0_i32_5
  let c1_i32_6 : BitVec 32 := 1#32
  let v21 : BitVec 32 := Scalar.divsi v19 c1_i32_6
  let v22 : BitVec 32 := Scalar.muli v21 c1_i32_6
  let v23 : BitVec 32 := Scalar.addi c0_i32_5 v22
  let c1_i32_8 : BitVec 32 := 1#32
  let arg9 : BitVec 32 := Scf.iv v23 c1_i32_8 k0_t2
  let c512_i32 : BitVec 32 := 512#32
  let v119 : BitVec 32 := Scalar.muli arg9 c512_i32
  let v120 : BitVec 32 := v119
  let v135 : Index := Scalar.indexCast v120
  let c0_63 : Index := 0#32
  ![v135.toNat, 0]
def k0_mult4 (v1 : BitVec 32) : BitVec 32 :=
  let c0_i32_57 : BitVec 32 := 0#32
  let v120 : BitVec 1 := Scalar.cmpi .sgt v1 c0_i32_57
  let v121 : BitVec 32 := Scalar.extui v120
  let c0_i32_58 : BitVec 32 := 0#32
  let v122 : BitVec 1 := Scalar.cmpi .slt v1 c0_i32_58
  let v123 : BitVec 32 := Scalar.extui v122
  let v124 : BitVec 32 := Scalar.subi v121 v123
  let c8_i32_56 : BitVec 32 := 8#32
  let c0_i32_59 : BitVec 32 := 0#32
  let v125 : BitVec 1 := Scalar.cmpi .sgt c8_i32_56 c0_i32_59
  let v126 : BitVec 32 := Scalar.extui v125
  let c0_i32_60 : BitVec 32 := 0#32
  let v127 : BitVec 1 := Scalar.cmpi .slt c8_i32_56 c0_i32_60
  let v128 : BitVec 32 := Scalar.extui v127
  let v129 : BitVec 32 := Scalar.subi v126 v128
  let v130 : BitVec 1 := Scalar.cmpi .ne v124 v129
  let v131 : BitVec 32 := Scalar.remsi v1 c8_i32_56
  let c0_i32_61 : BitVec 32 := 0#32
  let v132 : BitVec 1 := Scalar.cmpi .ne v131 c0_i32_61
  let v133 : BitVec 1 := Scalar.andi v130 v132
  let v119 : BitVec 32 := Scalar.divsi v1 c8_i32_56
  let c1_i32_62 : BitVec 32 := 1#32
  let v134 : BitVec 32 := Scalar.subi v119 c1_i32_62
  let v135 : BitVec 32 := Scalar.select v133 v134 v119
  let c512_i32 : BitVec 32 := 512#32
  let v136 : BitVec 32 := Scalar.muli v135 c512_i32
  v136
def k0_cond1 (v1 : BitVec 32) : BitVec 1 :=
  let c0_i32_9 : BitVec 32 := 0#32
  let v25 : BitVec 1 := Scalar.cmpi .sgt v1 c0_i32_9
  let v26 : BitVec 32 := Scalar.extui v25
  let c0_i32_10 : BitVec 32 := 0#32
  let v27 : BitVec 1 := Scalar.cmpi .slt v1 c0_i32_10
  let v28 : BitVec 32 := Scalar.extui v27
  let v29 : BitVec 32 := Scalar.subi v26 v28
  let c4_i32 : BitVec 32 := 4#32
  let c0_i32_11 : BitVec 32 := 0#32
  let v30 : BitVec 1 := Scalar.cmpi .sgt c4_i32 c0_i32_11
  let v31 : BitVec 32 := Scalar.extui v30
  let c0_i32_12 : BitVec 32 := 0#32
  let v32 : BitVec 1 := Scalar.cmpi .slt c4_i32 c0_i32_12
  let v33 : BitVec 32 := Scalar.extui v32
  let v34 : BitVec 32 := Scalar.subi v31 v33
  let v35 : BitVec 1 := Scalar.cmpi .ne v29 v34
  let v36 : BitVec 32 := Scalar.remsi v1 c4_i32
  let c0_i32_13 : BitVec 32 := 0#32
  let v37 : BitVec 1 := Scalar.cmpi .ne v36 c0_i32_13
  let v38 : BitVec 1 := Scalar.andi v35 v37
  let v24 : BitVec 32 := Scalar.divsi v1 c4_i32
  let c1_i32_14 : BitVec 32 := 1#32
  let v39 : BitVec 32 := Scalar.subi v24 c1_i32_14
  let v40 : BitVec 32 := Scalar.select v38 v39 v24
  let c2_i32 : BitVec 32 := 2#32
  let c0_i32_15 : BitVec 32 := 0#32
  let v41 : BitVec 1 := Scalar.cmpi .eq c2_i32 c0_i32_15
  let c1_i32_16 : BitVec 32 := 1#32
  let v42 : BitVec 32 := Scalar.select v41 c1_i32_16 c2_i32
  let v43 : BitVec 32 := Scalar.remsi v40 v42
  let c0_i32_18 : BitVec 32 := 0#32
  let v45 : BitVec 1 := Scalar.cmpi .slt v43 c0_i32_18
  let c0_i32_19 : BitVec 32 := 0#32
  let v46 : BitVec 1 := Scalar.cmpi .slt v42 c0_i32_19
  let v47 : BitVec 1 := Scalar.xori v45 v46
  let c0_i32_17 : BitVec 32 := 0#32
  let v44 : BitVec 1 := Scalar.cmpi .ne v43 c0_i32_17
  let v48 : BitVec 1 := Scalar.andi v47 v44
  let v49 : BitVec 32 := Scalar.addi v43 v42
  let v50 : BitVec 32 := Scalar.select v48 v49 v43
  let c1_i32_20 : BitVec 32 := 1#32
  let v51 : BitVec 1 := Scalar.cmpi .eq v50 c1_i32_20
  let v52 : BitVec 32 := Scalar.extui v51
  let c0_i32_21 : BitVec 32 := 0#32
  let v53 : BitVec 1 := Scalar.cmpi .ne v52 c0_i32_21
  v53

def k0_off6 (v1 : BitVec 32) : Fin 2 → Nat :=
  let c0_i32_57 : BitVec 32 := 0#32
  let v120 : BitVec 1 := Scalar.cmpi .sgt v1 c0_i32_57
  let v121 : BitVec 32 := Scalar.extui v120
  let c0_i32_58 : BitVec 32 := 0#32
  let v122 : BitVec 1 := Scalar.cmpi .slt v1 c0_i32_58
  let v123 : BitVec 32 := Scalar.extui v122
  let v124 : BitVec 32 := Scalar.subi v121 v123
  let c8_i32_56 : BitVec 32 := 8#32
  let c0_i32_59 : BitVec 32 := 0#32
  let v125 : BitVec 1 := Scalar.cmpi .sgt c8_i32_56 c0_i32_59
  let v126 : BitVec 32 := Scalar.extui v125
  let c0_i32_60 : BitVec 32 := 0#32
  let v127 : BitVec 1 := Scalar.cmpi .slt c8_i32_56 c0_i32_60
  let v128 : BitVec 32 := Scalar.extui v127
  let v129 : BitVec 32 := Scalar.subi v126 v128
  let v130 : BitVec 1 := Scalar.cmpi .ne v124 v129
  let v131 : BitVec 32 := Scalar.remsi v1 c8_i32_56
  let c0_i32_61 : BitVec 32 := 0#32
  let v132 : BitVec 1 := Scalar.cmpi .ne v131 c0_i32_61
  let v133 : BitVec 1 := Scalar.andi v130 v132
  let v119 : BitVec 32 := Scalar.divsi v1 c8_i32_56
  let c1_i32_62 : BitVec 32 := 1#32
  let v134 : BitVec 32 := Scalar.subi v119 c1_i32_62
  let v135 : BitVec 32 := Scalar.select v133 v134 v119
  let c512_i32 : BitVec 32 := 512#32
  let v136 : BitVec 32 := Scalar.muli v135 c512_i32
  let v137 : BitVec 32 := v136
  let v138 : Index := Scalar.indexCast v137
  let c0 : Index := 0#32
  ![v138.toNat, 0]
def k0_off7 (v1 : BitVec 32) : Fin 2 → Nat :=
  let c0_i32_57 : BitVec 32 := 0#32
  let v120 : BitVec 1 := Scalar.cmpi .sgt v1 c0_i32_57
  let v121 : BitVec 32 := Scalar.extui v120
  let c0_i32_58 : BitVec 32 := 0#32
  let v122 : BitVec 1 := Scalar.cmpi .slt v1 c0_i32_58
  let v123 : BitVec 32 := Scalar.extui v122
  let v124 : BitVec 32 := Scalar.subi v121 v123
  let c8_i32_56 : BitVec 32 := 8#32
  let c0_i32_59 : BitVec 32 := 0#32
  let v125 : BitVec 1 := Scalar.cmpi .sgt c8_i32_56 c0_i32_59
  let v126 : BitVec 32 := Scalar.extui v125
  let c0_i32_60 : BitVec 32 := 0#32
  let v127 : BitVec 1 := Scalar.cmpi .slt c8_i32_56 c0_i32_60
  let v128 : BitVec 32 := Scalar.extui v127
  let v129 : BitVec 32 := Scalar.subi v126 v128
  let v130 : BitVec 1 := Scalar.cmpi .ne v124 v129
  let v131 : BitVec 32 := Scalar.remsi v1 c8_i32_56
  let c0_i32_61 : BitVec 32 := 0#32
  let v132 : BitVec 1 := Scalar.cmpi .ne v131 c0_i32_61
  let v133 : BitVec 1 := Scalar.andi v130 v132
  let v119 : BitVec 32 := Scalar.divsi v1 c8_i32_56
  let c1_i32_62 : BitVec 32 := 1#32
  let v134 : BitVec 32 := Scalar.subi v119 c1_i32_62
  let v135 : BitVec 32 := Scalar.select v133 v134 v119
  let c512_i32 : BitVec 32 := 512#32
  let v136 : BitVec 32 := Scalar.muli v135 c512_i32
  let v137 : BitVec 32 := v136
  let v152 : Index := Scalar.indexCast v137
  let c0_70 : Index := 0#32
  ![v152.toNat, 0]
def k0_mult5 (v1 : BitVec 32) : BitVec 32 :=
  let c0_i32_57 : BitVec 32 := 0#32
  let v120 : BitVec 1 := Scalar.cmpi .sgt v1 c0_i32_57
  let v121 : BitVec 32 := Scalar.extui v120
  let c0_i32_58 : BitVec 32 := 0#32
  let v122 : BitVec 1 := Scalar.cmpi .slt v1 c0_i32_58
  let v123 : BitVec 32 := Scalar.extui v122
  let v124 : BitVec 32 := Scalar.subi v121 v123
  let c4_i32_56 : BitVec 32 := 4#32
  let c0_i32_59 : BitVec 32 := 0#32
  let v125 : BitVec 1 := Scalar.cmpi .sgt c4_i32_56 c0_i32_59
  let v126 : BitVec 32 := Scalar.extui v125
  let c0_i32_60 : BitVec 32 := 0#32
  let v127 : BitVec 1 := Scalar.cmpi .slt c4_i32_56 c0_i32_60
  let v128 : BitVec 32 := Scalar.extui v127
  let v129 : BitVec 32 := Scalar.subi v126 v128
  let v130 : BitVec 1 := Scalar.cmpi .ne v124 v129
  let v131 : BitVec 32 := Scalar.remsi v1 c4_i32_56
  let c0_i32_61 : BitVec 32 := 0#32
  let v132 : BitVec 1 := Scalar.cmpi .ne v131 c0_i32_61
  let v133 : BitVec 1 := Scalar.andi v130 v132
  let v119 : BitVec 32 := Scalar.divsi v1 c4_i32_56
  let c1_i32_62 : BitVec 32 := 1#32
  let v134 : BitVec 32 := Scalar.subi v119 c1_i32_62
  let v135 : BitVec 32 := Scalar.select v133 v134 v119
  let c256_i32 : BitVec 32 := 256#32
  let v136 : BitVec 32 := Scalar.muli v135 c256_i32
  v136
def k0_cond2 (v1 : BitVec 32) : BitVec 1 :=
  let c0_i32_23 : BitVec 32 := 0#32
  let v55 : BitVec 1 := Scalar.cmpi .sgt v1 c0_i32_23
  let v56 : BitVec 32 := Scalar.extui v55
  let c0_i32_24 : BitVec 32 := 0#32
  let v57 : BitVec 1 := Scalar.cmpi .slt v1 c0_i32_24
  let v58 : BitVec 32 := Scalar.extui v57
  let v59 : BitVec 32 := Scalar.subi v56 v58
  let c2_i32_22 : BitVec 32 := 2#32
  let c0_i32_25 : BitVec 32 := 0#32
  let v60 : BitVec 1 := Scalar.cmpi .sgt c2_i32_22 c0_i32_25
  let v61 : BitVec 32 := Scalar.extui v60
  let c0_i32_26 : BitVec 32 := 0#32
  let v62 : BitVec 1 := Scalar.cmpi .slt c2_i32_22 c0_i32_26
  let v63 : BitVec 32 := Scalar.extui v62
  let v64 : BitVec 32 := Scalar.subi v61 v63
  let v65 : BitVec 1 := Scalar.cmpi .ne v59 v64
  let v66 : BitVec 32 := Scalar.remsi v1 c2_i32_22
  let c0_i32_27 : BitVec 32 := 0#32
  let v67 : BitVec 1 := Scalar.cmpi .ne v66 c0_i32_27
  let v68 : BitVec 1 := Scalar.andi v65 v67
  let v54 : BitVec 32 := Scalar.divsi v1 c2_i32_22
  let c1_i32_28 : BitVec 32 := 1#32
  let v69 : BitVec 32 := Scalar.subi v54 c1_i32_28
  let v70 : BitVec 32 := Scalar.select v68 v69 v54
  let c2_i32_29 : BitVec 32 := 2#32
  let c0_i32_30 : BitVec 32 := 0#32
  let v71 : BitVec 1 := Scalar.cmpi .eq c2_i32_29 c0_i32_30
  let c1_i32_31 : BitVec 32 := 1#32
  let v72 : BitVec 32 := Scalar.select v71 c1_i32_31 c2_i32_29
  let v73 : BitVec 32 := Scalar.remsi v70 v72
  let c0_i32_33 : BitVec 32 := 0#32
  let v75 : BitVec 1 := Scalar.cmpi .slt v73 c0_i32_33
  let c0_i32_34 : BitVec 32 := 0#32
  let v76 : BitVec 1 := Scalar.cmpi .slt v72 c0_i32_34
  let v77 : BitVec 1 := Scalar.xori v75 v76
  let c0_i32_32 : BitVec 32 := 0#32
  let v74 : BitVec 1 := Scalar.cmpi .ne v73 c0_i32_32
  let v78 : BitVec 1 := Scalar.andi v77 v74
  let v79 : BitVec 32 := Scalar.addi v73 v72
  let v80 : BitVec 32 := Scalar.select v78 v79 v73
  let c1_i32_35 : BitVec 32 := 1#32
  let v81 : BitVec 1 := Scalar.cmpi .eq v80 c1_i32_35
  let v82 : BitVec 32 := Scalar.extui v81
  let c0_i32_36 : BitVec 32 := 0#32
  let v83 : BitVec 1 := Scalar.cmpi .ne v82 c0_i32_36
  v83

def k0_off8 (v1 : BitVec 32) : Fin 2 → Nat :=
  let c0_i32_57 : BitVec 32 := 0#32
  let v120 : BitVec 1 := Scalar.cmpi .sgt v1 c0_i32_57
  let v121 : BitVec 32 := Scalar.extui v120
  let c0_i32_58 : BitVec 32 := 0#32
  let v122 : BitVec 1 := Scalar.cmpi .slt v1 c0_i32_58
  let v123 : BitVec 32 := Scalar.extui v122
  let v124 : BitVec 32 := Scalar.subi v121 v123
  let c4_i32_56 : BitVec 32 := 4#32
  let c0_i32_59 : BitVec 32 := 0#32
  let v125 : BitVec 1 := Scalar.cmpi .sgt c4_i32_56 c0_i32_59
  let v126 : BitVec 32 := Scalar.extui v125
  let c0_i32_60 : BitVec 32 := 0#32
  let v127 : BitVec 1 := Scalar.cmpi .slt c4_i32_56 c0_i32_60
  let v128 : BitVec 32 := Scalar.extui v127
  let v129 : BitVec 32 := Scalar.subi v126 v128
  let v130 : BitVec 1 := Scalar.cmpi .ne v124 v129
  let v131 : BitVec 32 := Scalar.remsi v1 c4_i32_56
  let c0_i32_61 : BitVec 32 := 0#32
  let v132 : BitVec 1 := Scalar.cmpi .ne v131 c0_i32_61
  let v133 : BitVec 1 := Scalar.andi v130 v132
  let v119 : BitVec 32 := Scalar.divsi v1 c4_i32_56
  let c1_i32_62 : BitVec 32 := 1#32
  let v134 : BitVec 32 := Scalar.subi v119 c1_i32_62
  let v135 : BitVec 32 := Scalar.select v133 v134 v119
  let c256_i32 : BitVec 32 := 256#32
  let v136 : BitVec 32 := Scalar.muli v135 c256_i32
  let v137 : BitVec 32 := v136
  let v138 : Index := Scalar.indexCast v137
  let c0 : Index := 0#32
  ![v138.toNat, 0]
def k0_off9 (v1 : BitVec 32) : Fin 2 → Nat :=
  let c0_i32_57 : BitVec 32 := 0#32
  let v120 : BitVec 1 := Scalar.cmpi .sgt v1 c0_i32_57
  let v121 : BitVec 32 := Scalar.extui v120
  let c0_i32_58 : BitVec 32 := 0#32
  let v122 : BitVec 1 := Scalar.cmpi .slt v1 c0_i32_58
  let v123 : BitVec 32 := Scalar.extui v122
  let v124 : BitVec 32 := Scalar.subi v121 v123
  let c4_i32_56 : BitVec 32 := 4#32
  let c0_i32_59 : BitVec 32 := 0#32
  let v125 : BitVec 1 := Scalar.cmpi .sgt c4_i32_56 c0_i32_59
  let v126 : BitVec 32 := Scalar.extui v125
  let c0_i32_60 : BitVec 32 := 0#32
  let v127 : BitVec 1 := Scalar.cmpi .slt c4_i32_56 c0_i32_60
  let v128 : BitVec 32 := Scalar.extui v127
  let v129 : BitVec 32 := Scalar.subi v126 v128
  let v130 : BitVec 1 := Scalar.cmpi .ne v124 v129
  let v131 : BitVec 32 := Scalar.remsi v1 c4_i32_56
  let c0_i32_61 : BitVec 32 := 0#32
  let v132 : BitVec 1 := Scalar.cmpi .ne v131 c0_i32_61
  let v133 : BitVec 1 := Scalar.andi v130 v132
  let v119 : BitVec 32 := Scalar.divsi v1 c4_i32_56
  let c1_i32_62 : BitVec 32 := 1#32
  let v134 : BitVec 32 := Scalar.subi v119 c1_i32_62
  let v135 : BitVec 32 := Scalar.select v133 v134 v119
  let c256_i32 : BitVec 32 := 256#32
  let v136 : BitVec 32 := Scalar.muli v135 c256_i32
  let v137 : BitVec 32 := v136
  let v152 : Index := Scalar.indexCast v137
  let c0_70 : Index := 0#32
  ![v152.toNat, 0]
def k0_mult6 (v1 : BitVec 32) : BitVec 32 :=
  let c0_i32_57 : BitVec 32 := 0#32
  let v120 : BitVec 1 := Scalar.cmpi .sgt v1 c0_i32_57
  let v121 : BitVec 32 := Scalar.extui v120
  let c0_i32_58 : BitVec 32 := 0#32
  let v122 : BitVec 1 := Scalar.cmpi .slt v1 c0_i32_58
  let v123 : BitVec 32 := Scalar.extui v122
  let v124 : BitVec 32 := Scalar.subi v121 v123
  let c2_i32_56 : BitVec 32 := 2#32
  let c0_i32_59 : BitVec 32 := 0#32
  let v125 : BitVec 1 := Scalar.cmpi .sgt c2_i32_56 c0_i32_59
  let v126 : BitVec 32 := Scalar.extui v125
  let c0_i32_60 : BitVec 32 := 0#32
  let v127 : BitVec 1 := Scalar.cmpi .slt c2_i32_56 c0_i32_60
  let v128 : BitVec 32 := Scalar.extui v127
  let v129 : BitVec 32 := Scalar.subi v126 v128
  let v130 : BitVec 1 := Scalar.cmpi .ne v124 v129
  let v131 : BitVec 32 := Scalar.remsi v1 c2_i32_56
  let c0_i32_61 : BitVec 32 := 0#32
  let v132 : BitVec 1 := Scalar.cmpi .ne v131 c0_i32_61
  let v133 : BitVec 1 := Scalar.andi v130 v132
  let v119 : BitVec 32 := Scalar.divsi v1 c2_i32_56
  let c1_i32_62 : BitVec 32 := 1#32
  let v134 : BitVec 32 := Scalar.subi v119 c1_i32_62
  let v135 : BitVec 32 := Scalar.select v133 v134 v119
  let c128_i32 : BitVec 32 := 128#32
  let v136 : BitVec 32 := Scalar.muli v135 c128_i32
  v136
def k0_cond3 (v1 : BitVec 32) : BitVec 1 :=
  let c0_i32_38 : BitVec 32 := 0#32
  let v85 : BitVec 1 := Scalar.cmpi .sgt v1 c0_i32_38
  let v86 : BitVec 32 := Scalar.extui v85
  let c0_i32_39 : BitVec 32 := 0#32
  let v87 : BitVec 1 := Scalar.cmpi .slt v1 c0_i32_39
  let v88 : BitVec 32 := Scalar.extui v87
  let v89 : BitVec 32 := Scalar.subi v86 v88
  let c1_i32_37 : BitVec 32 := 1#32
  let c0_i32_40 : BitVec 32 := 0#32
  let v90 : BitVec 1 := Scalar.cmpi .sgt c1_i32_37 c0_i32_40
  let v91 : BitVec 32 := Scalar.extui v90
  let c0_i32_41 : BitVec 32 := 0#32
  let v92 : BitVec 1 := Scalar.cmpi .slt c1_i32_37 c0_i32_41
  let v93 : BitVec 32 := Scalar.extui v92
  let v94 : BitVec 32 := Scalar.subi v91 v93
  let v95 : BitVec 1 := Scalar.cmpi .ne v89 v94
  let v96 : BitVec 32 := Scalar.remsi v1 c1_i32_37
  let c0_i32_42 : BitVec 32 := 0#32
  let v97 : BitVec 1 := Scalar.cmpi .ne v96 c0_i32_42
  let v98 : BitVec 1 := Scalar.andi v95 v97
  let v84 : BitVec 32 := Scalar.divsi v1 c1_i32_37
  let c1_i32_43 : BitVec 32 := 1#32
  let v99 : BitVec 32 := Scalar.subi v84 c1_i32_43
  let v100 : BitVec 32 := Scalar.select v98 v99 v84
  let c2_i32_44 : BitVec 32 := 2#32
  let c0_i32_45 : BitVec 32 := 0#32
  let v101 : BitVec 1 := Scalar.cmpi .eq c2_i32_44 c0_i32_45
  let c1_i32_46 : BitVec 32 := 1#32
  let v102 : BitVec 32 := Scalar.select v101 c1_i32_46 c2_i32_44
  let v103 : BitVec 32 := Scalar.remsi v100 v102
  let c0_i32_48 : BitVec 32 := 0#32
  let v105 : BitVec 1 := Scalar.cmpi .slt v103 c0_i32_48
  let c0_i32_49 : BitVec 32 := 0#32
  let v106 : BitVec 1 := Scalar.cmpi .slt v102 c0_i32_49
  let v107 : BitVec 1 := Scalar.xori v105 v106
  let c0_i32_47 : BitVec 32 := 0#32
  let v104 : BitVec 1 := Scalar.cmpi .ne v103 c0_i32_47
  let v108 : BitVec 1 := Scalar.andi v107 v104
  let v109 : BitVec 32 := Scalar.addi v103 v102
  let v110 : BitVec 32 := Scalar.select v108 v109 v103
  let c1_i32_50 : BitVec 32 := 1#32
  let v111 : BitVec 1 := Scalar.cmpi .eq v110 c1_i32_50
  let v112 : BitVec 32 := Scalar.extui v111
  let c0_i32_51 : BitVec 32 := 0#32
  let v113 : BitVec 1 := Scalar.cmpi .ne v112 c0_i32_51
  v113

def k0_off10 (v1 : BitVec 32) : Fin 2 → Nat :=
  let c0_i32_57 : BitVec 32 := 0#32
  let v120 : BitVec 1 := Scalar.cmpi .sgt v1 c0_i32_57
  let v121 : BitVec 32 := Scalar.extui v120
  let c0_i32_58 : BitVec 32 := 0#32
  let v122 : BitVec 1 := Scalar.cmpi .slt v1 c0_i32_58
  let v123 : BitVec 32 := Scalar.extui v122
  let v124 : BitVec 32 := Scalar.subi v121 v123
  let c2_i32_56 : BitVec 32 := 2#32
  let c0_i32_59 : BitVec 32 := 0#32
  let v125 : BitVec 1 := Scalar.cmpi .sgt c2_i32_56 c0_i32_59
  let v126 : BitVec 32 := Scalar.extui v125
  let c0_i32_60 : BitVec 32 := 0#32
  let v127 : BitVec 1 := Scalar.cmpi .slt c2_i32_56 c0_i32_60
  let v128 : BitVec 32 := Scalar.extui v127
  let v129 : BitVec 32 := Scalar.subi v126 v128
  let v130 : BitVec 1 := Scalar.cmpi .ne v124 v129
  let v131 : BitVec 32 := Scalar.remsi v1 c2_i32_56
  let c0_i32_61 : BitVec 32 := 0#32
  let v132 : BitVec 1 := Scalar.cmpi .ne v131 c0_i32_61
  let v133 : BitVec 1 := Scalar.andi v130 v132
  let v119 : BitVec 32 := Scalar.divsi v1 c2_i32_56
  let c1_i32_62 : BitVec 32 := 1#32
  let v134 : BitVec 32 := Scalar.subi v119 c1_i32_62
  let v135 : BitVec 32 := Scalar.select v133 v134 v119
  let c128_i32 : BitVec 32 := 128#32
  let v136 : BitVec 32 := Scalar.muli v135 c128_i32
  let v137 : BitVec 32 := v136
  let v138 : Index := Scalar.indexCast v137
  let c0 : Index := 0#32
  ![v138.toNat, 0]
def k0_off11 (v1 : BitVec 32) : Fin 2 → Nat :=
  let c0_i32_57 : BitVec 32 := 0#32
  let v120 : BitVec 1 := Scalar.cmpi .sgt v1 c0_i32_57
  let v121 : BitVec 32 := Scalar.extui v120
  let c0_i32_58 : BitVec 32 := 0#32
  let v122 : BitVec 1 := Scalar.cmpi .slt v1 c0_i32_58
  let v123 : BitVec 32 := Scalar.extui v122
  let v124 : BitVec 32 := Scalar.subi v121 v123
  let c2_i32_56 : BitVec 32 := 2#32
  let c0_i32_59 : BitVec 32 := 0#32
  let v125 : BitVec 1 := Scalar.cmpi .sgt c2_i32_56 c0_i32_59
  let v126 : BitVec 32 := Scalar.extui v125
  let c0_i32_60 : BitVec 32 := 0#32
  let v127 : BitVec 1 := Scalar.cmpi .slt c2_i32_56 c0_i32_60
  let v128 : BitVec 32 := Scalar.extui v127
  let v129 : BitVec 32 := Scalar.subi v126 v128
  let v130 : BitVec 1 := Scalar.cmpi .ne v124 v129
  let v131 : BitVec 32 := Scalar.remsi v1 c2_i32_56
  let c0_i32_61 : BitVec 32 := 0#32
  let v132 : BitVec 1 := Scalar.cmpi .ne v131 c0_i32_61
  let v133 : BitVec 1 := Scalar.andi v130 v132
  let v119 : BitVec 32 := Scalar.divsi v1 c2_i32_56
  let c1_i32_62 : BitVec 32 := 1#32
  let v134 : BitVec 32 := Scalar.subi v119 c1_i32_62
  let v135 : BitVec 32 := Scalar.select v133 v134 v119
  let c128_i32 : BitVec 32 := 128#32
  let v136 : BitVec 32 := Scalar.muli v135 c128_i32
  let v137 : BitVec 32 := v136
  let v152 : Index := Scalar.indexCast v137
  let c0_70 : Index := 0#32
  ![v152.toNat, 0]
@[reducible] def k0_t3_loop (v1 : BitVec 32) : Scf.Loop 32 :=
  let c40_i32 : BitVec 32 := 40#32
  let v114 : BitVec 32 := Scalar.subi c40_i32 v1
  let c1_i32_53 : BitVec 32 := 1#32
  let v116 : BitVec 32 := Scalar.divsi v114 c1_i32_53
  let v117 : BitVec 32 := Scalar.muli v116 c1_i32_53
  let v118 : BitVec 32 := Scalar.addi v1 v117
  let c1_i32_54 : BitVec 32 := 1#32
  ⟨v1, v118, c1_i32_54⟩
def k0_mult7 (v1 : BitVec 32) (k0_t3 : Fin (k0_t3_loop v1).trips) : BitVec 32 :=
  let c1_i32_54 : BitVec 32 := 1#32
  let arg9 : BitVec 32 := Scf.iv v1 c1_i32_54 k0_t3
  let c64_i32 : BitVec 32 := 64#32
  let v120 : BitVec 32 := Scalar.muli arg9 c64_i32
  v120
def k0_off12 (v1 : BitVec 32) (k0_t3 : Fin (k0_t3_loop v1).trips) : Fin 2 → Nat :=
  let c1_i32_54 : BitVec 32 := 1#32
  let arg9 : BitVec 32 := Scf.iv v1 c1_i32_54 k0_t3
  let c64_i32 : BitVec 32 := 64#32
  let v120 : BitVec 32 := Scalar.muli arg9 c64_i32
  let v121 : BitVec 32 := v120
  let v122 : Index := Scalar.indexCast v121
  let c0 : Index := 0#32
  ![v122.toNat, 0]
@[reducible] def k0_t4_loop (v1 : BitVec 32) : Scf.Loop 32 :=
  let c40_i32 : BitVec 32 := 40#32
  let v114 : BitVec 32 := Scalar.subi c40_i32 v1
  let c1_i32_53 : BitVec 32 := 1#32
  let v116 : BitVec 32 := Scalar.divsi v114 c1_i32_53
  let v117 : BitVec 32 := Scalar.muli v116 c1_i32_53
  let v118 : BitVec 32 := Scalar.addi v1 v117
  let v115 : BitVec 32 := Scalar.addi v1 v114
  let c1_i32_55 : BitVec 32 := 1#32
  ⟨v118, v115, c1_i32_55⟩
def k0_mult8 (v1 : BitVec 32) (k0_t4 : Fin (k0_t4_loop v1).trips) : BitVec 32 :=
  let c40_i32 : BitVec 32 := 40#32
  let v114 : BitVec 32 := Scalar.subi c40_i32 v1
  let c1_i32_53 : BitVec 32 := 1#32
  let v116 : BitVec 32 := Scalar.divsi v114 c1_i32_53
  let v117 : BitVec 32 := Scalar.muli v116 c1_i32_53
  let v118 : BitVec 32 := Scalar.addi v1 v117
  let c1_i32_55 : BitVec 32 := 1#32
  let arg9 : BitVec 32 := Scf.iv v118 c1_i32_55 k0_t4
  let c64_i32 : BitVec 32 := 64#32
  let v120 : BitVec 32 := Scalar.muli arg9 c64_i32
  v120
def k0_off13 (v1 : BitVec 32) (k0_t4 : Fin (k0_t4_loop v1).trips) : Fin 2 → Nat :=
  let c40_i32 : BitVec 32 := 40#32
  let v114 : BitVec 32 := Scalar.subi c40_i32 v1
  let c1_i32_53 : BitVec 32 := 1#32
  let v116 : BitVec 32 := Scalar.divsi v114 c1_i32_53
  let v117 : BitVec 32 := Scalar.muli v116 c1_i32_53
  let v118 : BitVec 32 := Scalar.addi v1 v117
  let c1_i32_55 : BitVec 32 := 1#32
  let arg9 : BitVec 32 := Scf.iv v118 c1_i32_55 k0_t4
  let c64_i32 : BitVec 32 := 64#32
  let v120 : BitVec 32 := Scalar.muli arg9 c64_i32
  let v121 : BitVec 32 := v120
  let v122 : Index := Scalar.indexCast v121
  let c0 : Index := 0#32
  ![v122.toNat, 0]

def k0_chk1 (v1 : BitVec 32) : Prop :=
  ((k0_t1_loop v1).OK) ∧
  (∀ k0_t1 : Fin (k0_t1_loop v1).trips, 512 ∣ (k0_mult2 v1 k0_t1).toNat) ∧
  (∀ k0_t1 : Fin (k0_t1_loop v1).trips, ∀ a, (k0_off2 v1 k0_t1) a + S512x4096.size a ≤ S2560x4096.size a) ∧
  (∀ k0_t1 : Fin (k0_t1_loop v1).trips, ∀ a, (k0_off3 v1 k0_t1) a + S512x256.size a ≤ S2560x256.size a) ∧
  (∀ k0_t1 : Fin (k0_t1_loop v1).trips, ∀ (hinb : ∀ a, (k0_off3 v1 k0_t1) a + S512x256.size a ≤ S2560x256.size a), (Rect.unit (s := S2560x256) (k0_off3 v1 k0_t1) S512x256.size hinb).PackedRows (EltTy.packing .bf16)) ∧
  ((k0_t2_loop v1).OK) ∧
  (∀ k0_t2 : Fin (k0_t2_loop v1).trips, 512 ∣ (k0_mult3 v1 k0_t2).toNat) ∧
  (∀ k0_t2 : Fin (k0_t2_loop v1).trips, ∀ a, (k0_off4 v1 k0_t2) a + S512x4096.size a ≤ S2560x4096.size a) ∧
  (∀ k0_t2 : Fin (k0_t2_loop v1).trips, ∀ a, (k0_off5 v1 k0_t2) a + S512x256.size a ≤ S2560x256.size a) ∧
  (∀ k0_t2 : Fin (k0_t2_loop v1).trips, ∀ (hinb : ∀ a, (k0_off5 v1 k0_t2) a + S512x256.size a ≤ S2560x256.size a), (Rect.unit (s := S2560x256) (k0_off5 v1 k0_t2) S512x256.size hinb).PackedRows (EltTy.packing .bf16)) ∧
  (∀ (k0_h1 : k0_cond1 v1 = 1#1), 512 ∣ (k0_mult4 v1).toNat) ∧
  (∀ (k0_h1 : k0_cond1 v1 = 1#1), ∀ a, (k0_off6 v1) a + S256x4096.size a ≤ S2560x4096.size a) ∧
  (∀ (k0_h1 : k0_cond1 v1 = 1#1), ∀ a, (k0_off7 v1) a + S256x256.size a ≤ S2560x256.size a) ∧
  (∀ (k0_h1 : k0_cond1 v1 = 1#1), ∀ (hinb : ∀ a, (k0_off7 v1) a + S256x256.size a ≤ S2560x256.size a), (Rect.unit (s := S2560x256) (k0_off7 v1) S256x256.size hinb).PackedRows (EltTy.packing .bf16)) ∧
  (∀ (k0_h2 : k0_cond2 v1 = 1#1), 256 ∣ (k0_mult5 v1).toNat) ∧
  (∀ (k0_h2 : k0_cond2 v1 = 1#1), ∀ a, (k0_off8 v1) a + S128x4096.size a ≤ S2560x4096.size a) ∧
  (∀ (k0_h2 : k0_cond2 v1 = 1#1), ∀ a, (k0_off9 v1) a + S128x256.size a ≤ S2560x256.size a) ∧
  (∀ (k0_h2 : k0_cond2 v1 = 1#1), ∀ (hinb : ∀ a, (k0_off9 v1) a + S128x256.size a ≤ S2560x256.size a), (Rect.unit (s := S2560x256) (k0_off9 v1) S128x256.size hinb).PackedRows (EltTy.packing .bf16)) ∧
  (∀ (k0_h3 : k0_cond3 v1 = 1#1), 128 ∣ (k0_mult6 v1).toNat) ∧
  (∀ (k0_h3 : k0_cond3 v1 = 1#1), ∀ a, (k0_off10 v1) a + S64x4096.size a ≤ S2560x4096.size a) ∧
  (∀ (k0_h3 : k0_cond3 v1 = 1#1), ∀ a, (k0_off11 v1) a + S64x256.size a ≤ S2560x256.size a) ∧
  (∀ (k0_h3 : k0_cond3 v1 = 1#1), ∀ (hinb : ∀ a, (k0_off11 v1) a + S64x256.size a ≤ S2560x256.size a), (Rect.unit (s := S2560x256) (k0_off11 v1) S64x256.size hinb).PackedRows (EltTy.packing .bf16)) ∧
  ((k0_t3_loop v1).OK) ∧
  (∀ k0_t3 : Fin (k0_t3_loop v1).trips, 64 ∣ (k0_mult7 v1 k0_t3).toNat) ∧
  (∀ k0_t3 : Fin (k0_t3_loop v1).trips, ∀ a, (k0_off12 v1 k0_t3) a + S64x256.size a ≤ S2560x256.size a) ∧
  (∀ k0_t3 : Fin (k0_t3_loop v1).trips, ∀ (hinb : ∀ a, (k0_off12 v1 k0_t3) a + S64x256.size a ≤ S2560x256.size a), (Rect.unit (s := S2560x256) (k0_off12 v1 k0_t3) S64x256.size hinb).PackedRows (EltTy.packing .bf16)) ∧
  ((k0_t4_loop v1).OK) ∧
  (∀ k0_t4 : Fin (k0_t4_loop v1).trips, 64 ∣ (k0_mult8 v1 k0_t4).toNat) ∧
  (∀ k0_t4 : Fin (k0_t4_loop v1).trips, ∀ a, (k0_off13 v1 k0_t4) a + S64x256.size a ≤ S2560x256.size a) ∧
  (∀ k0_t4 : Fin (k0_t4_loop v1).trips, ∀ (hinb : ∀ a, (k0_off13 v1 k0_t4) a + S64x256.size a ≤ S2560x256.size a), (Rect.unit (s := S2560x256) (k0_off13 v1 k0_t4) S64x256.size hinb).PackedRows (EltTy.packing .bf16))
theorem k0_t1_ok : ∀ (v1 : BitVec 32) (k0_hw1 : k0_chk1 v1), (k0_t1_loop v1).OK := fun v1 k0_hw1 => k0_hw1.1
theorem k0_mult2_dvd : ∀ (v1 : BitVec 32) (k0_hw1 : k0_chk1 v1) (k0_t1 : Fin (k0_t1_loop v1).trips), 512 ∣ (k0_mult2 v1 k0_t1).toNat := fun v1 k0_hw1 k0_t1 => k0_hw1.2.1 k0_t1
theorem k0_off2_inb : ∀ (v1 : BitVec 32) (k0_hw1 : k0_chk1 v1) (k0_t1 : Fin (k0_t1_loop v1).trips), ∀ a, (k0_off2 v1 k0_t1) a + S512x4096.size a ≤ S2560x4096.size a := fun v1 k0_hw1 k0_t1 => k0_hw1.2.2.1 k0_t1
theorem k0_off3_inb : ∀ (v1 : BitVec 32) (k0_hw1 : k0_chk1 v1) (k0_t1 : Fin (k0_t1_loop v1).trips), ∀ a, (k0_off3 v1 k0_t1) a + S512x256.size a ≤ S2560x256.size a := fun v1 k0_hw1 k0_t1 => k0_hw1.2.2.2.1 k0_t1
theorem k0_off3_packedbf16 : ∀ (v1 : BitVec 32) (k0_hw1 : k0_chk1 v1) (k0_t1 : Fin (k0_t1_loop v1).trips), (Rect.unit (s := S2560x256) (k0_off3 v1 k0_t1) S512x256.size (k0_off3_inb v1 k0_hw1 k0_t1)).PackedRows (EltTy.packing .bf16) := fun v1 k0_hw1 k0_t1 => k0_hw1.2.2.2.2.1 k0_t1 (k0_off3_inb v1 k0_hw1 k0_t1)
theorem k0_t2_ok : ∀ (v1 : BitVec 32) (k0_hw1 : k0_chk1 v1), (k0_t2_loop v1).OK := fun v1 k0_hw1 => k0_hw1.2.2.2.2.2.1
theorem k0_mult3_dvd : ∀ (v1 : BitVec 32) (k0_hw1 : k0_chk1 v1) (k0_t2 : Fin (k0_t2_loop v1).trips), 512 ∣ (k0_mult3 v1 k0_t2).toNat := fun v1 k0_hw1 k0_t2 => k0_hw1.2.2.2.2.2.2.1 k0_t2
theorem k0_off4_inb : ∀ (v1 : BitVec 32) (k0_hw1 : k0_chk1 v1) (k0_t2 : Fin (k0_t2_loop v1).trips), ∀ a, (k0_off4 v1 k0_t2) a + S512x4096.size a ≤ S2560x4096.size a := fun v1 k0_hw1 k0_t2 => k0_hw1.2.2.2.2.2.2.2.1 k0_t2
theorem k0_off5_inb : ∀ (v1 : BitVec 32) (k0_hw1 : k0_chk1 v1) (k0_t2 : Fin (k0_t2_loop v1).trips), ∀ a, (k0_off5 v1 k0_t2) a + S512x256.size a ≤ S2560x256.size a := fun v1 k0_hw1 k0_t2 => k0_hw1.2.2.2.2.2.2.2.2.1 k0_t2
theorem k0_off5_packedbf16 : ∀ (v1 : BitVec 32) (k0_hw1 : k0_chk1 v1) (k0_t2 : Fin (k0_t2_loop v1).trips), (Rect.unit (s := S2560x256) (k0_off5 v1 k0_t2) S512x256.size (k0_off5_inb v1 k0_hw1 k0_t2)).PackedRows (EltTy.packing .bf16) := fun v1 k0_hw1 k0_t2 => k0_hw1.2.2.2.2.2.2.2.2.2.1 k0_t2 (k0_off5_inb v1 k0_hw1 k0_t2)
theorem k0_mult4_dvd : ∀ (v1 : BitVec 32) (k0_hw1 : k0_chk1 v1), ∀ (k0_h1 : k0_cond1 v1 = 1#1), 512 ∣ (k0_mult4 v1).toNat := fun v1 k0_hw1 k0_h1 => k0_hw1.2.2.2.2.2.2.2.2.2.2.1 k0_h1
theorem k0_off6_inb : ∀ (v1 : BitVec 32) (k0_hw1 : k0_chk1 v1), ∀ (k0_h1 : k0_cond1 v1 = 1#1), ∀ a, (k0_off6 v1) a + S256x4096.size a ≤ S2560x4096.size a := fun v1 k0_hw1 k0_h1 => k0_hw1.2.2.2.2.2.2.2.2.2.2.2.1 k0_h1
theorem k0_off7_inb : ∀ (v1 : BitVec 32) (k0_hw1 : k0_chk1 v1), ∀ (k0_h1 : k0_cond1 v1 = 1#1), ∀ a, (k0_off7 v1) a + S256x256.size a ≤ S2560x256.size a := fun v1 k0_hw1 k0_h1 => k0_hw1.2.2.2.2.2.2.2.2.2.2.2.2.1 k0_h1
theorem k0_off7_packedbf16 : ∀ (v1 : BitVec 32) (k0_hw1 : k0_chk1 v1), ∀ (k0_h1 : k0_cond1 v1 = 1#1), (Rect.unit (s := S2560x256) (k0_off7 v1) S256x256.size (k0_off7_inb v1 k0_hw1 k0_h1)).PackedRows (EltTy.packing .bf16) := fun v1 k0_hw1 k0_h1 => k0_hw1.2.2.2.2.2.2.2.2.2.2.2.2.2.1 k0_h1 (k0_off7_inb v1 k0_hw1 k0_h1)
theorem k0_mult5_dvd : ∀ (v1 : BitVec 32) (k0_hw1 : k0_chk1 v1), ∀ (k0_h2 : k0_cond2 v1 = 1#1), 256 ∣ (k0_mult5 v1).toNat := fun v1 k0_hw1 k0_h2 => k0_hw1.2.2.2.2.2.2.2.2.2.2.2.2.2.2.1 k0_h2
theorem k0_off8_inb : ∀ (v1 : BitVec 32) (k0_hw1 : k0_chk1 v1), ∀ (k0_h2 : k0_cond2 v1 = 1#1), ∀ a, (k0_off8 v1) a + S128x4096.size a ≤ S2560x4096.size a := fun v1 k0_hw1 k0_h2 => k0_hw1.2.2.2.2.2.2.2.2.2.2.2.2.2.2.2.1 k0_h2
theorem k0_off9_inb : ∀ (v1 : BitVec 32) (k0_hw1 : k0_chk1 v1), ∀ (k0_h2 : k0_cond2 v1 = 1#1), ∀ a, (k0_off9 v1) a + S128x256.size a ≤ S2560x256.size a := fun v1 k0_hw1 k0_h2 => k0_hw1.2.2.2.2.2.2.2.2.2.2.2.2.2.2.2.2.1 k0_h2
theorem k0_off9_packedbf16 : ∀ (v1 : BitVec 32) (k0_hw1 : k0_chk1 v1), ∀ (k0_h2 : k0_cond2 v1 = 1#1), (Rect.unit (s := S2560x256) (k0_off9 v1) S128x256.size (k0_off9_inb v1 k0_hw1 k0_h2)).PackedRows (EltTy.packing .bf16) := fun v1 k0_hw1 k0_h2 => k0_hw1.2.2.2.2.2.2.2.2.2.2.2.2.2.2.2.2.2.1 k0_h2 (k0_off9_inb v1 k0_hw1 k0_h2)
theorem k0_mult6_dvd : ∀ (v1 : BitVec 32) (k0_hw1 : k0_chk1 v1), ∀ (k0_h3 : k0_cond3 v1 = 1#1), 128 ∣ (k0_mult6 v1).toNat := fun v1 k0_hw1 k0_h3 => k0_hw1.2.2.2.2.2.2.2.2.2.2.2.2.2.2.2.2.2.2.1 k0_h3
theorem k0_off10_inb : ∀ (v1 : BitVec 32) (k0_hw1 : k0_chk1 v1), ∀ (k0_h3 : k0_cond3 v1 = 1#1), ∀ a, (k0_off10 v1) a + S64x4096.size a ≤ S2560x4096.size a := fun v1 k0_hw1 k0_h3 => k0_hw1.2.2.2.2.2.2.2.2.2.2.2.2.2.2.2.2.2.2.2.1 k0_h3
theorem k0_off11_inb : ∀ (v1 : BitVec 32) (k0_hw1 : k0_chk1 v1), ∀ (k0_h3 : k0_cond3 v1 = 1#1), ∀ a, (k0_off11 v1) a + S64x256.size a ≤ S2560x256.size a := fun v1 k0_hw1 k0_h3 => k0_hw1.2.2.2.2.2.2.2.2.2.2.2.2.2.2.2.2.2.2.2.2.1 k0_h3
theorem k0_off11_packedbf16 : ∀ (v1 : BitVec 32) (k0_hw1 : k0_chk1 v1), ∀ (k0_h3 : k0_cond3 v1 = 1#1), (Rect.unit (s := S2560x256) (k0_off11 v1) S64x256.size (k0_off11_inb v1 k0_hw1 k0_h3)).PackedRows (EltTy.packing .bf16) := fun v1 k0_hw1 k0_h3 => k0_hw1.2.2.2.2.2.2.2.2.2.2.2.2.2.2.2.2.2.2.2.2.2.1 k0_h3 (k0_off11_inb v1 k0_hw1 k0_h3)
theorem k0_t3_ok : ∀ (v1 : BitVec 32) (k0_hw1 : k0_chk1 v1), (k0_t3_loop v1).OK := fun v1 k0_hw1 => k0_hw1.2.2.2.2.2.2.2.2.2.2.2.2.2.2.2.2.2.2.2.2.2.2.1
theorem k0_mult7_dvd : ∀ (v1 : BitVec 32) (k0_hw1 : k0_chk1 v1) (k0_t3 : Fin (k0_t3_loop v1).trips), 64 ∣ (k0_mult7 v1 k0_t3).toNat := fun v1 k0_hw1 k0_t3 => k0_hw1.2.2.2.2.2.2.2.2.2.2.2.2.2.2.2.2.2.2.2.2.2.2.2.1 k0_t3
theorem k0_off12_inb : ∀ (v1 : BitVec 32) (k0_hw1 : k0_chk1 v1) (k0_t3 : Fin (k0_t3_loop v1).trips), ∀ a, (k0_off12 v1 k0_t3) a + S64x256.size a ≤ S2560x256.size a := fun v1 k0_hw1 k0_t3 => k0_hw1.2.2.2.2.2.2.2.2.2.2.2.2.2.2.2.2.2.2.2.2.2.2.2.2.1 k0_t3
theorem k0_off12_packedbf16 : ∀ (v1 : BitVec 32) (k0_hw1 : k0_chk1 v1) (k0_t3 : Fin (k0_t3_loop v1).trips), (Rect.unit (s := S2560x256) (k0_off12 v1 k0_t3) S64x256.size (k0_off12_inb v1 k0_hw1 k0_t3)).PackedRows (EltTy.packing .bf16) := fun v1 k0_hw1 k0_t3 => k0_hw1.2.2.2.2.2.2.2.2.2.2.2.2.2.2.2.2.2.2.2.2.2.2.2.2.2.1 k0_t3 (k0_off12_inb v1 k0_hw1 k0_t3)
theorem k0_t4_ok : ∀ (v1 : BitVec 32) (k0_hw1 : k0_chk1 v1), (k0_t4_loop v1).OK := fun v1 k0_hw1 => k0_hw1.2.2.2.2.2.2.2.2.2.2.2.2.2.2.2.2.2.2.2.2.2.2.2.2.2.2.1
theorem k0_mult8_dvd : ∀ (v1 : BitVec 32) (k0_hw1 : k0_chk1 v1) (k0_t4 : Fin (k0_t4_loop v1).trips), 64 ∣ (k0_mult8 v1 k0_t4).toNat := fun v1 k0_hw1 k0_t4 => k0_hw1.2.2.2.2.2.2.2.2.2.2.2.2.2.2.2.2.2.2.2.2.2.2.2.2.2.2.2.1 k0_t4
theorem k0_off13_inb : ∀ (v1 : BitVec 32) (k0_hw1 : k0_chk1 v1) (k0_t4 : Fin (k0_t4_loop v1).trips), ∀ a, (k0_off13 v1 k0_t4) a + S64x256.size a ≤ S2560x256.size a := fun v1 k0_hw1 k0_t4 => k0_hw1.2.2.2.2.2.2.2.2.2.2.2.2.2.2.2.2.2.2.2.2.2.2.2.2.2.2.2.2.1 k0_t4
theorem k0_off13_packedbf16 : ∀ (v1 : BitVec 32) (k0_hw1 : k0_chk1 v1) (k0_t4 : Fin (k0_t4_loop v1).trips), (Rect.unit (s := S2560x256) (k0_off13 v1 k0_t4) S64x256.size (k0_off13_inb v1 k0_hw1 k0_t4)).PackedRows (EltTy.packing .bf16) := fun v1 k0_hw1 k0_t4 => k0_hw1.2.2.2.2.2.2.2.2.2.2.2.2.2.2.2.2.2.2.2.2.2.2.2.2.2.2.2.2.2 k0_t4 (k0_off13_inb v1 k0_hw1 k0_t4)

def cc0_transform_0 (k0_off1_inb : ∀ i : grid0.Coords, ∀ a, (k0_off1 i) a + S1.size a ≤ S14.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S14) ![v0.toNat] S1.size (k0_off1_inb i)) numel1_S1
  let c64_i32 : BitVec 32 := 64#32
  let v2 : BitVec 32 := Scalar.muli v1 c64_i32
  let v3 : BitVec 32 := v2
  let v4 : Index := Scalar.indexCast arg0
  let v5 : BitVec 32 := pf.at 2 (Rect.unit (s := S14) ![v4.toNat] S1.size (k0_off1_inb i)) numel1_S1
  let c0_i32 : BitVec 32 := 0#32
  let v6 : BitVec 1 := Scalar.cmpi .sgt v5 c0_i32
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S14.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S14) ![v0.toNat] S1.size (k0_off1_inb i)) numel1_S1
  let v2 : Index := Scalar.indexCast arg0
  let v3 : BitVec 32 := pf.at 2 (Rect.unit (s := S14) ![v2.toNat] S1.size (k0_off1_inb i)) numel1_S1
  let c0_i32 : BitVec 32 := 0#32
  let v4 : BitVec 1 := Scalar.cmpi .sgt v3 c0_i32
  let c55_i32 : BitVec 32 := 55#32
  let v5 : BitVec 32 := Scalar.select v4 arg1 c55_i32
  let c0_i32_0 : BitVec 32 := 0#32
  let c0_i32_1 : BitVec 32 := 0#32
  ![v1.toNat, c0_i32_0.toNat, v5.toNat]

def cc0_transform_2 (k0_off1_inb : ∀ i : grid0.Coords, ∀ a, (k0_off1 i) a + S1.size a ≤ S14.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S14) ![v0.toNat] S1.size (k0_off1_inb i)) numel1_S1
  let v2 : Index := Scalar.indexCast arg0
  let v3 : BitVec 32 := pf.at 2 (Rect.unit (s := S14) ![v2.toNat] S1.size (k0_off1_inb i)) numel1_S1
  let c0_i32 : BitVec 32 := 0#32
  let v4 : BitVec 1 := Scalar.cmpi .sgt v3 c0_i32
  let c55_i32 : BitVec 32 := 55#32
  let v5 : BitVec 32 := Scalar.select v4 arg1 c55_i32
  let c0_i32_0 : BitVec 32 := 0#32
  let c0_i32_1 : BitVec 32 := 0#32
  ![v1.toNat, c0_i32_0.toNat, v5.toNat]

def cc0_transform_3 (k0_off1_inb : ∀ i : grid0.Coords, ∀ a, (k0_off1 i) a + S1.size a ≤ S14.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S14) ![v0.toNat] S1.size (k0_off1_inb i)) numel1_S1
  let c0_i32 : BitVec 32 := 0#32
  let v2 : BitVec 1 := Scalar.cmpi .sgt v1 c0_i32
  let c0_i32_0 : BitVec 32 := 0#32
  ![arg0.toNat, arg1.toNat]

abbrev stage0_0 : Fin 1 → Memref sig .tc .vmem S2560x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2560x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MoeSwigluRefIdeal.lean ====
abbrev S14 : Shape := ⟨1, ![14]⟩
abbrev S19712x4096 : Shape := ⟨2, ![19712, 4096]⟩
abbrev S8x4096x14336 : Shape := ⟨3, ![8, 4096, 14336]⟩
abbrev S2560 : Shape := ⟨1, ![2560]⟩
abbrev S14x1 : Shape := ⟨2, ![14, 1]⟩
abbrev S_ : Shape := ⟨0, ![]⟩
abbrev S1x2560 : Shape := ⟨2, ![1, 2560]⟩
abbrev S14x2560 : Shape := ⟨2, ![14, 2560]⟩
abbrev S14x2560x1 : Shape := ⟨3, ![14, 2560, 1]⟩
abbrev S14x2560x4096 : Shape := ⟨3, ![14, 2560, 4096]⟩
abbrev S14x4096x14336 : Shape := ⟨3, ![14, 4096, 14336]⟩
abbrev S14x2560x14336 : Shape := ⟨3, ![14, 2560, 14336]⟩
abbrev S35840x14336 : Shape := ⟨2, ![35840, 14336]⟩

abbrev nBuf : Space → Nat
  | .hbm => 71
  | .vmem => 0
  | .smem => 0
  | _ => 0

abbrev bufTy : (tb : Table) → Fin (tcTables nBuf tb) → BufTy
  | .hbm, ⟨0, _⟩ => ⟨S14, .i32⟩
  | .hbm, ⟨1, _⟩ => ⟨S14, .i32⟩
  | .hbm, ⟨2, _⟩ => ⟨S14, .i32⟩
  | .hbm, ⟨3, _⟩ => ⟨S19712x4096, .bf16⟩
  | .hbm, ⟨4, _⟩ => ⟨S8x4096x14336, .f32⟩
  | .hbm, ⟨5, _⟩ => ⟨S8x4096x14336, .f32⟩
  | .hbm, ⟨6, _⟩ => ⟨S2560, .i32⟩
  | .hbm, ⟨7, _⟩ => ⟨S19712x4096, .f32⟩
  | .hbm, ⟨8, _⟩ => ⟨S14x1, .i32⟩
  | .hbm, ⟨9, _⟩ => ⟨S_, .i32⟩
  | .hbm, ⟨10, _⟩ => ⟨S14x1, .i32⟩
  | .hbm, ⟨11, _⟩ => ⟨S14x1, .i32⟩
  | .hbm, ⟨12, _⟩ => ⟨S1x2560, .i32⟩
  | .hbm, ⟨13, _⟩ => ⟨S14x2560, .i32⟩
  | .hbm, ⟨14, _⟩ => ⟨S14x2560, .i32⟩
  | .hbm, ⟨15, _⟩ => ⟨S14x2560, .i32⟩
  | .hbm, ⟨16, _⟩ => ⟨S_, .i32⟩
  | .hbm, ⟨17, _⟩ => ⟨S14x2560, .i32⟩
  | .hbm, ⟨18, _⟩ => ⟨S14x2560, .i1⟩
  | .hbm, ⟨19, _⟩ => ⟨S_, .i32⟩
  | .hbm, ⟨20, _⟩ => ⟨S14x2560, .i32⟩
  | .hbm, ⟨21, _⟩ => ⟨S14x2560, .i32⟩
  | .hbm, ⟨22, _⟩ => ⟨S14x2560, .i32⟩
  | .hbm, ⟨23, _⟩ => ⟨S14x2560x1, .i32⟩
  | .hbm, ⟨24, _⟩ => ⟨S14x2560x4096, .f32⟩
  | .hbm, ⟨25, _⟩ => ⟨S_, .i32⟩
  | .hbm, ⟨26, _⟩ => ⟨S14, .i32⟩
  | .hbm, ⟨27, _⟩ => ⟨S14, .i1⟩
  | .hbm, ⟨28, _⟩ => ⟨S_, .i32⟩
  | .hbm, ⟨29, _⟩ => ⟨S14, .i32⟩
  | .hbm, ⟨30, _⟩ => ⟨S14, .i32⟩
  | .hbm, ⟨31, _⟩ => ⟨S14, .i32⟩
  | .hbm, ⟨32, _⟩ => ⟨S14x1, .i32⟩
  | .hbm, ⟨33, _⟩ => ⟨S14x4096x14336, .f32⟩
  | .hbm, ⟨34, _⟩ => ⟨S14x2560x14336, .f32⟩
  | .hbm, ⟨35, _⟩ => ⟨S14x2560x14336, .f32⟩
  | .hbm, ⟨36, _⟩ => ⟨S14x2560x14336, .f32⟩
  | .hbm, ⟨37, _⟩ => ⟨S_, .f32⟩
  | .hbm, ⟨38, _⟩ => ⟨S14x2560x14336, .f32⟩
  | .hbm, ⟨39, _⟩ => ⟨S14x2560x14336, .f32⟩
  | .hbm, ⟨40, _⟩ => ⟨S_, .f32⟩
  | .hbm, ⟨41, _⟩ => ⟨S14x2560x14336, .f32⟩
  | .hbm, ⟨42, _⟩ => ⟨S14x2560x14336, .f32⟩
  | .hbm, ⟨43, _⟩ => ⟨S14x2560x14336, .f32⟩
  | .hbm, ⟨44, _⟩ => ⟨S_, .i32⟩
  | .hbm, ⟨45, _⟩ => ⟨S14, .i32⟩
  | .hbm, ⟨46, _⟩ => ⟨S14, .i1⟩
  | .hbm, ⟨47, _⟩ => ⟨S_, .i32⟩
  | .hbm, ⟨48, _⟩ => ⟨S14, .i32⟩
  | .hbm, ⟨49, _⟩ => ⟨S14, .i32⟩
  | .hbm, ⟨50, _⟩ => ⟨S14, .i32⟩
  | .hbm, ⟨51, _⟩ => ⟨S14x1, .i32⟩
  | .hbm, ⟨52, _⟩ => ⟨S14x4096x14336, .f32⟩
  | .hbm, ⟨53, _⟩ => ⟨S14x2560x14336, .f32⟩
  | .hbm, ⟨54, _⟩ => ⟨S14x2560x14336, .f32⟩
  | .hbm, ⟨55, _⟩ => ⟨S1x2560, .i32⟩
  | .hbm, ⟨56, _⟩ => ⟨S14x1, .i32⟩
  | .hbm, ⟨57, _⟩ => ⟨S_, .i32⟩
  | .hbm, ⟨58, _⟩ => ⟨S14x1, .i32⟩
  | .hbm, ⟨59, _⟩ => ⟨S14x1, .i32⟩
  | .hbm, ⟨60, _⟩ => ⟨S14x2560, .i32⟩
  | .hbm, ⟨61, _⟩ => ⟨S14x2560, .i32⟩
  | .hbm, ⟨62, _⟩ => ⟨S14x2560, .i1⟩
  | .hbm, ⟨63, _⟩ => ⟨S14x2560x1, .i1⟩
  | .hbm, ⟨64, _⟩ => ⟨S_, .f32⟩
  | .hbm, ⟨65, _⟩ => ⟨S_, .f32⟩
  | .hbm, ⟨66, _⟩ => ⟨S14x2560x14336, .i1⟩
  | .hbm, ⟨67, _⟩ => ⟨S14x2560x14336, .f32⟩
  | .hbm, ⟨68, _⟩ => ⟨S14x2560x14336, .f32⟩
  | .hbm, ⟨69, _⟩ => ⟨S35840x14336, .f32⟩
  | .hbm, ⟨70, _⟩ => ⟨S35840x14336, .bf16⟩
  | _, _ => ⟨S14, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩

abbrev nD : Nat := 1
abbrev τ : Topo := Topo.v7x

variable {F : FTy → Type} [FloatOps F]
-- ==== Down.lean ====
abbrev S8320x14336 : Shape := ⟨2, ![8320, 14336]⟩
abbrev S1x14336x4096 : Shape := ⟨3, ![1, 14336, 4096]⟩
abbrev S_ : Shape := ⟨0, ![]⟩
abbrev S4 : Shape := ⟨1, ![4]⟩
abbrev S8320x4096 : Shape := ⟨2, ![8320, 4096]⟩
abbrev S2080x1024 : Shape := ⟨2, ![2080, 1024]⟩
abbrev S1 : Shape := ⟨1, ![1]⟩
abbrev S1x1024x2048 : Shape := ⟨3, ![1, 1024, 2048]⟩
abbrev S2080x2048 : Shape := ⟨2, ![2080, 2048]⟩
abbrev S1024x2048 : Shape := ⟨2, ![1024, 2048]⟩

abbrev nBuf : Space → Nat
  | .hbm => 5
  | .vmem => 5
  | .smem => 3
  | _ => 0

abbrev bufTy : (tb : Table) → Fin (tcTables nBuf tb) → BufTy
  | .hbm, ⟨0, _⟩ => ⟨S8320x14336, .bf16⟩
  | .hbm, ⟨1, _⟩ => ⟨S1x14336x4096, .f32⟩
  | .hbm, ⟨2, _⟩ => ⟨S_, .i32⟩
  | .hbm, ⟨3, _⟩ => ⟨S_, .i32⟩
  | .hbm, ⟨4, _⟩ => ⟨S8320x4096, .f32⟩
  | .local _ .vmem, ⟨0, _⟩ => ⟨S2080x1024, .bf16⟩
  | .local _ .vmem, ⟨1, _⟩ => ⟨S2080x1024, .bf16⟩
  | .local _ .vmem, ⟨2, _⟩ => ⟨S1x1024x2048, .f32⟩
  | .local _ .vmem, ⟨3, _⟩ => ⟨S1x1024x2048, .f32⟩
  | .local _ .vmem, ⟨4, _⟩ => ⟨S2080x2048, .f32⟩
  | .local _ .smem, ⟨0, _⟩ => ⟨S4, .i32⟩
  | .local _ .smem, ⟨1, _⟩ => ⟨S4, .i32⟩
  | .local _ .smem, ⟨2, _⟩ => ⟨S4, .i32⟩
  | _, _ => ⟨S8320x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v3 : Ref sig .tc := ⟨.hbm, 4, rfl⟩
abbrev main_v0 : Ref sig .tc := ⟨.smem, 0, rfl⟩
abbrev main_v1 : Ref sig .tc := ⟨.smem, 1, rfl⟩
abbrev main_v2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![4, 2, 14], ![false, false, false]⟩

abbrev pre0 : Pipeline.Prefetch sig := ⟨3, ![main_v0.idx, main_v1.idx, main_v2.idx], fun | 0 => main_v0.names | 1 => main_v1.names | 2 => main_v2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (v4 : BitVec 32) : BitVec 1 :=
  let c0_i32_1 : BitVec 32 := 0#32
  let v5 : BitVec 1 := Scalar.cmpi .sgt v4 c0_i32_1
  let v6 : BitVec 32 := Scalar.extui v5
  let c0_i32_2 : BitVec 32 := 0#32
  let v7 : BitVec 1 := Scalar.cmpi .ne v6 c0_i32_2
  v7

def cc0_transform_0 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 2 (Rect.unit (s := S4) ![v0.toNat] S1.size (k0_off1_inb i)) numel1_S1
  let c0_i32 : BitVec 32 := 0#32
  let v2 : BitVec 1 := Scalar.cmpi .sgt v1 c0_i32
  let c13_i32 : BitVec 32 := 13#32
  let v3 : BitVec 32 := Scalar.select v2 arg2 c13_i32
  let c0_i32_0 : BitVec 32 := 0#32
  ![arg0.toNat, v3.toNat]

def cc0_transform_1 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 0 (Rect.unit (s := S4) ![v0.toNat] S1.size (k0_off1_inb i)) numel1_S1
  let v2 : Index := Scalar.indexCast arg0
  let v3 : BitVec 32 := pf.at 2 (Rect.unit (s := S4) ![v2.toNat] S1.size (k0_off1_inb i)) numel1_S1
  let c0_i32 : BitVec 32 := 0#32
  let v4 : BitVec 1 := Scalar.cmpi .sgt v3 c0_i32
  let c13_i32 : BitVec 32 := 13#32
  let v5 : BitVec 32 := Scalar.select v4 arg2 c13_i32
  let c1_i32 : BitVec 32 := 1#32
  let v6 : BitVec 32 := Scalar.select v4 arg1 c1_i32
  let c0_i32_0 : BitVec 32 := 0#32
  ![v1.toNat, v5.toNat, v6.toNat]

def cc0_transform_2 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 2 (Rect.unit (s := S4) ![v0.toNat] S1.size (k0_off1_inb i)) numel1_S1
  let c0_i32 : BitVec 32 := 0#32
  let v2 : BitVec 1 := Scalar.cmpi .sgt v1 c0_i32
  let c0_i32_0 : BitVec 32 := 0#32
  ![arg0.toNat, arg1.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 1 → Memref sig .tc .vmem S2080x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DownRefIdeal.lean ====
abbrev S8320x14336 : Shape := ⟨2, ![8320, 14336]⟩
abbrev S1x14336x4096 : Shape := ⟨3, ![1, 14336, 4096]⟩
abbrev S14336x4096 : Shape := ⟨2, ![14336, 4096]⟩
abbrev S8320x4096 : Shape := ⟨2, ![8320, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8320x14336, .bf16⟩
  | .hbm, ⟨1, _⟩ => ⟨S1x14336x4096, .f32⟩
  | .hbm, ⟨2, _⟩ => ⟨S8320x14336, .f32⟩
  | .hbm, ⟨3, _⟩ => ⟨S14336x4096, .f32⟩
  | .hbm, ⟨4, _⟩ => ⟨S8320x4096, .f32⟩
  | _, _ => ⟨S8320x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InEven.lean ====
abbrev S8320x4096 : Shape := ⟨2, ![8320, 4096]⟩
abbrev S1x4096x13408 : Shape := ⟨3, ![1, 4096, 13408]⟩
abbrev S1x13408x4096 : Shape := ⟨3, ![1, 13408, 4096]⟩
abbrev S_ : Shape := ⟨0, ![]⟩
abbrev S1x13824x4096 : Shape := ⟨3, ![1, 13824, 4096]⟩
abbrev S4 : Shape := ⟨1, ![4]⟩
abbrev S8320x13824 : Shape := ⟨2, ![8320, 13824]⟩
abbrev S2080x4096 : Shape := ⟨2, ![2080, 4096]⟩
abbrev S1 : Shape := ⟨1, ![1]⟩
abbrev S1x512x4096 : Shape := ⟨3, ![1, 512, 4096]⟩
abbrev S2080x512 : Shape := ⟨2, ![2080, 512]⟩
abbrev S512x4096 : Shape := ⟨2, ![512, 4096]⟩
abbrev S8320x13408 : Shape := ⟨2, ![8320, 13408]⟩

abbrev nBuf : Space → Nat
  | .hbm => 9
  | .vmem => 5
  | .smem => 3
  | _ => 0

abbrev bufTy : (tb : Table) → Fin (tcTables nBuf tb) → BufTy
  | .hbm, ⟨0, _⟩ => ⟨S8320x4096, .bf16⟩
  | .hbm, ⟨1, _⟩ => ⟨S1x4096x13408, .f32⟩
  | .hbm, ⟨2, _⟩ => ⟨S1x13408x4096, .f32⟩
  | .hbm, ⟨3, _⟩ => ⟨S_, .f32⟩
  | .hbm, ⟨4, _⟩ => ⟨S1x13824x4096, .f32⟩
  | .hbm, ⟨5, _⟩ => ⟨S_, .i32⟩
  | .hbm, ⟨6, _⟩ => ⟨S_, .i32⟩
  | .hbm, ⟨7, _⟩ => ⟨S8320x13824, .f32⟩
  | .hbm, ⟨8, _⟩ => ⟨S8320x13408, .f32⟩
  | .local _ .vmem, ⟨0, _⟩ => ⟨S2080x4096, .bf16⟩
  | .local _ .vmem, ⟨1, _⟩ => ⟨S1x512x4096, .f32⟩
  | .local _ .vmem, ⟨2, _⟩ => ⟨S1x512x4096, .f32⟩
  | .local _ .vmem, ⟨3, _⟩ => ⟨S2080x512, .f32⟩
  | .local _ .vmem, ⟨4, _⟩ => ⟨S2080x512, .f32⟩
  | .local _ .smem, ⟨0, _⟩ => ⟨S4, .i32⟩
  | .local _ .smem, ⟨1, _⟩ => ⟨S4, .i32⟩
  | .local _ .smem, ⟨2, _⟩ => ⟨S4, .i32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_c : Ref sig .tc := ⟨.hbm, 5, rfl⟩
abbrev main_c_0 : Ref sig .tc := ⟨.hbm, 6, rfl⟩
abbrev main_v5 : Ref sig .tc := ⟨.hbm, 7, rfl⟩
abbrev main_v6 : Ref sig .tc := ⟨.hbm, 8, rfl⟩
abbrev main_v2 : Ref sig .tc := ⟨.smem, 0, rfl⟩
abbrev main_v3 : Ref sig .tc := ⟨.smem, 1, rfl⟩
abbrev main_v4 : Ref sig .tc := ⟨.smem, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 27], ![false, false]⟩

abbrev pre0 : Pipeline.Prefetch sig := ⟨3, ![main_v2.idx, main_v3.idx, main_v4.idx], fun | 0 => main_v2.names | 1 => main_v3.names | 2 => main_v4.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop (v1 : BitVec 32) : Scf.Loop 32 :=
  let c1_i32 : BitVec 32 := 1#32
  let v5 : BitVec 32 := Scalar.subi c1_i32 v1
  let c1_i32_2 : BitVec 32 := 1#32
  let v7 : BitVec 32 := Scalar.divsi v5 c1_i32_2
  let v8 : BitVec 32 := Scalar.muli v7 c1_i32_2
  let v9 : BitVec 32 := Scalar.addi v1 v8
  let c1_i32_3 : BitVec 32 := 1#32
  ⟨v1, v9, c1_i32_3⟩

def k0_mult1 (v1 : BitVec 32) (k0_t1 : Fin (k0_t1_loop v1).trips) : BitVec 32 :=
  let c1_i32_3 : BitVec 32 := 1#32
  let arg8 : BitVec 32 := Scf.iv v1 c1_i32_3 k0_t1
  let c2080_i32 : BitVec 32 := 2080#32
  let v11 : BitVec 32 := Scalar.muli arg8 c2080_i32
  v11
def k0_off2 (v1 : BitVec 32) (k0_t1 : Fin (k0_t1_loop v1).trips) : Fin 2 → Nat :=
  let c1_i32_3 : BitVec 32 := 1#32
  let arg8 : BitVec 32 := Scf.iv v1 c1_i32_3 k0_t1
  let c2080_i32 : BitVec 32 := 2080#32
  let v11 : BitVec 32 := Scalar.muli arg8 c2080_i32
  let v12 : BitVec 32 := v11
  let v13 : Index := Scalar.indexCast v12
  let c0 : Index := 0#32
  ![v13.toNat, 0]
@[reducible] def k0_t2_loop (v1 : BitVec 32) : Scf.Loop 32 :=
  let c1_i32 : BitVec 32 := 1#32
  let v5 : BitVec 32 := Scalar.subi c1_i32 v1
  let c1_i32_2 : BitVec 32 := 1#32
  let v7 : BitVec 32 := Scalar.divsi v5 c1_i32_2
  let v8 : BitVec 32 := Scalar.muli v7 c1_i32_2
  let v9 : BitVec 32 := Scalar.addi v1 v8
  let v6 : BitVec 32 := Scalar.addi v1 v5
  let c1_i32_4 : BitVec 32 := 1#32
  ⟨v9, v6, c1_i32_4⟩
def k0_mult2 (v1 : BitVec 32) (k0_t2 : Fin (k0_t2_loop v1).trips) : BitVec 32 :=
  let c1_i32 : BitVec 32 := 1#32
  let v5 : BitVec 32 := Scalar.subi c1_i32 v1
  let c1_i32_2 : BitVec 32 := 1#32
  let v7 : BitVec 32 := Scalar.divsi v5 c1_i32_2
  let v8 : BitVec 32 := Scalar.muli v7 c1_i32_2
  let v9 : BitVec 32 := Scalar.addi v1 v8
  let c1_i32_4 : BitVec 32 := 1#32
  let arg8 : BitVec 32 := Scf.iv v9 c1_i32_4 k0_t2
  let c2080_i32 : BitVec 32 := 2080#32
  let v11 : BitVec 32 := Scalar.muli arg8 c2080_i32
  v11
def k0_off3 (v1 : BitVec 32) (k0_t2 : Fin (k0_t2_loop v1).trips) : Fin 2 → Nat :=
  let c1_i32 : BitVec 32 := 1#32
  let v5 : BitVec 32 := Scalar.subi c1_i32 v1
  let c1_i32_2 : BitVec 32 := 1#32
  let v7 : BitVec 32 := Scalar.divsi v5 c1_i32_2
  let v8 : BitVec 32 := Scalar.muli v7 c1_i32_2
  let v9 : BitVec 32 := Scalar.addi v1 v8
  let c1_i32_4 : BitVec 32 := 1#32
  let arg8 : BitVec 32 := Scf.iv v9 c1_i32_4 k0_t2
  let c2080_i32 : BitVec 32 := 2080#32
  let v11 : BitVec 32 := Scalar.muli arg8 c2080_i32
  let v12 : BitVec 32 := v11
  let v13 : Index := Scalar.indexCast v12
  let c0 : Index := 0#32
  ![v13.toNat, 0]

def k0_chk1 (v1 : BitVec 32) : Prop :=
  ((k0_t1_loop v1).OK) ∧
  (∀ k0_t1 : Fin (k0_t1_loop v1).trips, 2080 ∣ (k0_mult1 v1 k0_t1).toNat) ∧
  (∀ k0_t1 : Fin (k0_t1_loop v1).trips, ∀ a, (k0_off2 v1 k0_t1) a + S2080x512.size a ≤ S2080x512.size a) ∧
  ((k0_t2_loop v1).OK) ∧
  (∀ k0_t2 : Fin (k0_t2_loop v1).trips, 2080 ∣ (k0_mult2 v1 k0_t2).toNat) ∧
  (∀ k0_t2 : Fin (k0_t2_loop v1).trips, ∀ a, (k0_off3 v1 k0_t2) a + S2080x512.size a ≤ S2080x512.size a)
theorem k0_t1_ok : ∀ (v1 : BitVec 32) (k0_hw1 : k0_chk1 v1), (k0_t1_loop v1).OK := fun v1 k0_hw1 => k0_hw1.1
theorem k0_mult1_dvd : ∀ (v1 : BitVec 32) (k0_hw1 : k0_chk1 v1) (k0_t1 : Fin (k0_t1_loop v1).trips), 2080 ∣ (k0_mult1 v1 k0_t1).toNat := fun v1 k0_hw1 k0_t1 => k0_hw1.2.1 k0_t1
theorem k0_off2_inb : ∀ (v1 : BitVec 32) (k0_hw1 : k0_chk1 v1) (k0_t1 : Fin (k0_t1_loop v1).trips), ∀ a, (k0_off2 v1 k0_t1) a + S2080x512.size a ≤ S2080x512.size a := fun v1 k0_hw1 k0_t1 => k0_hw1.2.2.1 k0_t1
theorem k0_t2_ok : ∀ (v1 : BitVec 32) (k0_hw1 : k0_chk1 v1), (k0_t2_loop v1).OK := fun v1 k0_hw1 => k0_hw1.2.2.2.1
theorem k0_mult2_dvd : ∀ (v1 : BitVec 32) (k0_hw1 : k0_chk1 v1) (k0_t2 : Fin (k0_t2_loop v1).trips), 2080 ∣ (k0_mult2 v1 k0_t2).toNat := fun v1 k0_hw1 k0_t2 => k0_hw1.2.2.2.2.1 k0_t2
theorem k0_off3_inb : ∀ (v1 : BitVec 32) (k0_hw1 : k0_chk1 v1) (k0_t2 : Fin (k0_t2_loop v1).trips), ∀ a, (k0_off3 v1 k0_t2) a + S2080x512.size a ≤ S2080x512.size a := fun v1 k0_hw1 k0_t2 => k0_hw1.2.2.2.2.2 k0_t2

def cc0_transform_0 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S4) ![v0.toNat] S1.size (k0_off1_inb i)) numel1_S1
  let v2 : Index := Scalar.indexCast arg0
  let v3 : BitVec 32 := pf.at 2 (Rect.unit (s := S4) ![v2.toNat] S1.size (k0_off1_inb i)) numel1_S1
  let c0_i32 : BitVec 32 := 0#32
  let v4 : BitVec 1 := Scalar.cmpi .sgt v3 c0_i32
  let c0_i32_0 : BitVec 32 := 0#32
  let c0_i32_1 : BitVec 32 := 0#32
  ![v1.toNat, c0_i32_0.toNat]

def cc0_transform_1 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let v2 : Index := Scalar.indexCast arg0
  let v3 : BitVec 32 := pf.at 2 (Rect.unit (s := S4) ![v2.toNat] S1.size (k0_off1_inb i)) numel1_S1
  let c0_i32 : BitVec 32 := 0#32
  let v4 : BitVec 1 := Scalar.cmpi .sgt v3 c0_i32
  let c26_i32 : BitVec 32 := 26#32
  let v5 : BitVec 32 := Scalar.select v4 arg1 c26_i32
  let c0_i32_0 : BitVec 32 := 0#32
  let v6 : BitVec 32 := Scalar.addi c0_i32_0 v5
  let c0_i32_1 : BitVec 32 := 0#32
  let c0_i32_2 : BitVec 32 := 0#32
  ![v1.toNat, v6.toNat, c0_i32_1.toNat]

def cc0_transform_2 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S4) ![v0.toNat] S1.size (k0_off1_inb i)) numel1_S1
  let c0_i32 : BitVec 32 := 0#32
  let v2 : BitVec 1 := Scalar.cmpi .sgt v1 c0_i32
  let c0_i32_0 : BitVec 32 := 0#32
  ![arg0.toNat, arg1.toNat]

abbrev stage0_0 : Fin 1 → Memref sig .tc .vmem S2080x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2080x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InEvenRefIdeal.lean ====
abbrev S8320x4096 : Shape := ⟨2, ![8320, 4096]⟩
abbrev S1x4096x13408 : Shape := ⟨3, ![1, 4096, 13408]⟩
abbrev S4096x13408 : Shape := ⟨2, ![4096, 13408]⟩
abbrev S8320x13408 : Shape := ⟨2, ![8320, 13408]⟩

abbrev nBuf : Space → Nat
  | .hbm => 5
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S1x4096x13408, .f32⟩
  | .hbm, ⟨2, _⟩ => ⟨S8320x4096, .f32⟩
  | .hbm, ⟨3, _⟩ => ⟨S4096x13408, .f32⟩
  | .hbm, ⟨4, _⟩ => ⟨S8320x13408, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DsaV.lean ====
abbrev S8320x13408 : Shape := ⟨2, ![8320, 13408]⟩
abbrev S8320x512 : Shape := ⟨2, ![8320, 512]⟩
abbrev S208x512 : Shape := ⟨2, ![208, 512]⟩

abbrev nBuf : Space → Nat
  | .hbm => 3
  | .vmem => 6
  | .smem => 0
  | _ => 0

abbrev bufTy : (tb : Table) → Fin (tcTables nBuf tb) → BufTy
  | .hbm, ⟨0, _⟩ => ⟨S8320x13408, .f32⟩
  | .hbm, ⟨1, _⟩ => ⟨S8320x512, .f32⟩
  | .hbm, ⟨2, _⟩ => ⟨S8320x512, .bf16⟩
  | .local _ .vmem, ⟨0, _⟩ => ⟨S208x512, .f32⟩
  | .local _ .vmem, ⟨1, _⟩ => ⟨S208x512, .f32⟩
  | .local _ .vmem, ⟨2, _⟩ => ⟨S208x512, .f32⟩
  | .local _ .vmem, ⟨3, _⟩ => ⟨S208x512, .f32⟩
  | .local _ .vmem, ⟨4, _⟩ => ⟨S208x512, .bf16⟩
  | .local _ .vmem, ⟨5, _⟩ => ⟨S208x512, .bf16⟩
  | _, _ => ⟨S8320x13408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c21_i32 : BitVec 32 := 21#32
  let c0_i32 : BitVec 32 := 0#32
  ![arg0.toNat, c21_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S208x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S208x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S208x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DsaVRefIdeal.lean ====
abbrev S8320x13408 : Shape := ⟨2, ![8320, 13408]⟩
abbrev S8320x512 : Shape := ⟨2, ![8320, 512]⟩

abbrev nBuf : Space → Nat
  | .hbm => 2
  | .vmem => 0
  | .smem => 0
  | _ => 0

abbrev bufTy : (tb : Table) → Fin (tcTables nBuf tb) → BufTy
  | .hbm, ⟨0, _⟩ => ⟨S8320x13408, .f32⟩
  | .hbm, ⟨1, _⟩ => ⟨S8320x512, .f32⟩
  | _, _ => ⟨S8320x13408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== DsaK.lean ====
abbrev S8320x13408 : Shape := ⟨2, ![8320, 13408]⟩
abbrev S8320 : Shape := ⟨1, ![8320]⟩
abbrev S16 : Shape := ⟨1, ![16]⟩
abbrev S_ : Shape := ⟨0, ![]⟩
abbrev S8320x1 : Shape := ⟨2, ![8320, 1]⟩
abbrev S1x16 : Shape := ⟨2, ![1, 16]⟩
abbrev S8320x16 : Shape := ⟨2, ![8320, 16]⟩
abbrev S8320x96 : Shape := ⟨2, ![8320, 96]⟩
abbrev S8320x128 : Shape := ⟨2, ![8320, 128]⟩
abbrev S1x8320x1x128 : Shape := ⟨4, ![1, 8320, 1, 128]⟩
abbrev S8320x512 : Shape := ⟨2, ![8320, 512]⟩
abbrev S208x512 : Shape := ⟨2, ![208, 512]⟩
abbrev S208x128 : Shape := ⟨2, ![208, 128]⟩

abbrev nBuf : Space → Nat
  | .hbm => 39
  | .vmem => 12
  | .smem => 0
  | _ => 0

abbrev bufTy : (tb : Table) → Fin (tcTables nBuf tb) → BufTy
  | .hbm, ⟨0, _⟩ => ⟨S8320x13408, .f32⟩
  | .hbm, ⟨1, _⟩ => ⟨S8320, .i32⟩
  | .hbm, ⟨2, _⟩ => ⟨S16, .f32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S8320, .f32⟩
  | .hbm, ⟨11, _⟩ => ⟨S8320x1, .f32⟩
  | .hbm, ⟨12, _⟩ => ⟨S1x16, .f32⟩
  | .hbm, ⟨13, _⟩ => ⟨S8320x16, .f32⟩
  | .hbm, ⟨14, _⟩ => ⟨S8320x16, .f32⟩
  | .hbm, ⟨15, _⟩ => ⟨S8320x16, .f32⟩
  | .hbm, ⟨16, _⟩ => ⟨S8320x16, .f32⟩
  | .hbm, ⟨17, _⟩ => ⟨S8320x16, .f32⟩
  | .hbm, ⟨18, _⟩ => ⟨S_, .f32⟩
  | .hbm, ⟨19, _⟩ => ⟨S8320x16, .f32⟩
  | .hbm, ⟨20, _⟩ => ⟨S_, .f32⟩
  | .hbm, ⟨21, _⟩ => ⟨S8320x96, .f32⟩
  | .hbm, ⟨22, _⟩ => ⟨S_, .f32⟩
  | .hbm, ⟨23, _⟩ => ⟨S8320x96, .f32⟩
  | .hbm, ⟨24, _⟩ => ⟨S8320x128, .f32⟩
  | .hbm, ⟨25, _⟩ => ⟨S8320x16, .f32⟩
  | .hbm, ⟨26, _⟩ => ⟨S8320x128, .f32⟩
  | .hbm, ⟨27, _⟩ => ⟨S8320x128, .f32⟩
  | .hbm, ⟨28, _⟩ => ⟨S1x8320x1x128, .f32⟩
  | .hbm, ⟨29, _⟩ => ⟨S1x8320x1x128, .f32⟩
  | .hbm, ⟨30, _⟩ => ⟨S8320x128, .f32⟩
  | .hbm, ⟨31, _⟩ => ⟨S1x8320x1x128, .f32⟩
  | .hbm, ⟨32, _⟩ => ⟨S1x8320x1x128, .f32⟩
  | .hbm, ⟨33, _⟩ => ⟨S8320x128, .f32⟩
  | .hbm, ⟨34, _⟩ => ⟨S1x8320x1x128, .f32⟩
  | .hbm, ⟨35, _⟩ => ⟨S1x8320x1x128, .f32⟩
  | .hbm, ⟨36, _⟩ => ⟨S8320x128, .f32⟩
  | .hbm, ⟨37, _⟩ => ⟨S8320x512, .f32⟩
  | .hbm, ⟨38, _⟩ => ⟨S8320x512, .bf16⟩
  | .local _ .vmem, ⟨0, _⟩ => ⟨S208x512, .f32⟩
  | .local _ .vmem, ⟨1, _⟩ => ⟨S208x512, .f32⟩
  | .local _ .vmem, ⟨2, _⟩ => ⟨S208x128, .f32⟩
  | .local _ .vmem, ⟨3, _⟩ => ⟨S208x128, .f32⟩
  | .local _ .vmem, ⟨4, _⟩ => ⟨S208x128, .f32⟩
  | .local _ .vmem, ⟨5, _⟩ => ⟨S208x128, .f32⟩
  | .local _ .vmem, ⟨6, _⟩ => ⟨S208x128, .f32⟩
  | .local _ .vmem, ⟨7, _⟩ => ⟨S208x128, .f32⟩
  | .local _ .vmem, ⟨8, _⟩ => ⟨S208x512, .f32⟩
  | .local _ .vmem, ⟨9, _⟩ => ⟨S208x512, .f32⟩
  | .local _ .vmem, ⟨10, _⟩ => ⟨S208x512, .bf16⟩
  | .local _ .vmem, ⟨11, _⟩ => ⟨S208x512, .bf16⟩
  | _, _ => ⟨S8320x13408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30_0 : Ref sig .tc := ⟨.hbm, 37, rfl⟩
abbrev main_v30_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![40, 1], ![false, false]⟩

def cc0_transform_0 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S208x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S208x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S208x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S208x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S208x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S208x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DsaKRefIdeal.lean ====
abbrev S8320x13408 : Shape := ⟨2, ![8320, 13408]⟩
abbrev S8320 : Shape := ⟨1, ![8320]⟩
abbrev S8320x512 : Shape := ⟨2, ![8320, 512]⟩
abbrev S8320x4x128 : Shape := ⟨3, ![8320, 4, 128]⟩
abbrev S16 : Shape := ⟨1, ![16]⟩
abbrev S_ : Shape := ⟨0, ![]⟩
abbrev S8320x1 : Shape := ⟨2, ![8320, 1]⟩
abbrev S1x16 : Shape := ⟨2, ![1, 16]⟩
abbrev S8320x16 : Shape := ⟨2, ![8320, 16]⟩
abbrev S8320x1x16 : Shape := ⟨3, ![8320, 1, 16]⟩
abbrev S8320x4x16 : Shape := ⟨3, ![8320, 4, 16]⟩
abbrev S8320x4x96 : Shape := ⟨3, ![8320, 4, 96]⟩

abbrev nBuf : Space → Nat
  | .hbm => 37
  | .vmem => 0
  | .smem => 0
  | _ => 0

abbrev bufTy : (tb : Table) → Fin (tcTables nBuf tb) → BufTy
  | .hbm, ⟨0, _⟩ => ⟨S8320x13408, .f32⟩
  | .hbm, ⟨1, _⟩ => ⟨S8320, .i32⟩
  | .hbm, ⟨2, _⟩ => ⟨S8320x512, .f32⟩
  | .hbm, ⟨3, _⟩ => ⟨S8320x4x128, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S8320, .f32⟩
  | .hbm, ⟨13, _⟩ => ⟨S8320x1, .f32⟩
  | .hbm, ⟨14, _⟩ => ⟨S1x16, .f32⟩
  | .hbm, ⟨15, _⟩ => ⟨S8320x16, .f32⟩
  | .hbm, ⟨16, _⟩ => ⟨S8320x16, .f32⟩
  | .hbm, ⟨17, _⟩ => ⟨S8320x16, .f32⟩
  | .hbm, ⟨18, _⟩ => ⟨S8320x16, .f32⟩
  | .hbm, ⟨19, _⟩ => ⟨S8320x1x16, .f32⟩
  | .hbm, ⟨20, _⟩ => ⟨S8320x16, .f32⟩
  | .hbm, ⟨21, _⟩ => ⟨S8320x1x16, .f32⟩
  | .hbm, ⟨22, _⟩ => ⟨S8320x4x16, .f32⟩
  | .hbm, ⟨23, _⟩ => ⟨S8320x4x16, .f32⟩
  | .hbm, ⟨24, _⟩ => ⟨S8320x4x16, .f32⟩
  | .hbm, ⟨25, _⟩ => ⟨S8320x4x16, .f32⟩
  | .hbm, ⟨26, _⟩ => ⟨S8320x4x16, .f32⟩
  | .hbm, ⟨27, _⟩ => ⟨S8320x4x16, .f32⟩
  | .hbm, ⟨28, _⟩ => ⟨S8320x4x16, .f32⟩
  | .hbm, ⟨29, _⟩ => ⟨S8320x4x16, .f32⟩
  | .hbm, ⟨30, _⟩ => ⟨S8320x4x16, .f32⟩
  | .hbm, ⟨31, _⟩ => ⟨S8320x4x16, .f32⟩
  | .hbm, ⟨32, _⟩ => ⟨S8320x4x16, .f32⟩
  | .hbm, ⟨33, _⟩ => ⟨S8320x4x16, .f32⟩
  | .hbm, ⟨34, _⟩ => ⟨S8320x4x96, .f32⟩
  | .hbm, ⟨35, _⟩ => ⟨S8320x4x128, .f32⟩
  | .hbm, ⟨36, _⟩ => ⟨S8320x512, .f32⟩
  | _, _ => ⟨S8320x13408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩

abbrev nD : Nat := 1
abbrev τ : Topo := Topo.v7x

variable {F : FTy → Type} [FloatOps F]
-- ==== Proof.Soft.lean ====
/- The softmax-weighted sum over the extended reals, and the fact the two programs meet at: keys that are
   masked (score `⊥`) may be left out of it, and the rest may be numbered differently. -/
module

public import Idealize.ShloMosaic.Lib.Pipeline.Value
public import Idealize.ShloMosaic.PureOps.Ideal.Laws

@[expose] public section

noncomputable section

namespace Cert.Proof

open Idealize.ShloMosaic

variable {ι κ : Type} [Fintype ι] [Fintype κ]

/-- The greatest score. -/
def top (s : ι → EReal) : EReal := Finset.univ.fold max ⊥ s

/-- One key's weight before the division. -/
def wt (s : ι → EReal) (i : ι) : EReal := Ideal.exp (s i - top s)

/-- The weighted sum of the values `v` under the softmax of the scores `s`. -/
def soft (s v : ι → EReal) : EReal := ∑ i, Ideal.div (wt s i) (∑ j, wt s j) * v i

theorem top_eq (s : ι → EReal) : top s = Finset.univ.sup s := rfl

theorem exp_nonneg (x : EReal) : 0 ≤ Ideal.exp x := by
  induction x with
  | bot => exact le_rfl
  | top => exact le_top
  | coe r => rw [Ideal.exp_coe]; exact_mod_cast (Real.exp_pos r).le

theorem wt_masked (s : ι → EReal) (i : ι) (h : s i = ⊥) : wt s i = 0 := by
  rw [wt, h, EReal.bot_sub, Ideal.exp_bot]

/-- A row with a key that is not masked and no score `⊤` has a positive weight sum. -/
theorem sum_wt_ne_zero (s : ι → EReal) (hb : ∃ i, s i ≠ ⊥) (ht : ∀ i, s i ≠ ⊤) : (∑ j, wt s j) ≠ 0 := by
  obtain ⟨i₀, hi₀⟩ := hb
  obtain ⟨i, -, hi⟩ := Finset.exists_mem_eq_sup Finset.univ ⟨i₀, Finset.mem_univ _⟩ s
  have hle : s i₀ ≤ Finset.univ.sup s := Finset.le_sup (Finset.mem_univ i₀)
  have h1 : wt s i = 1 := by
    rw [wt, top_eq, hi]
    have hne : s i ≠ ⊥ := fun h => hi₀ (le_bot_iff.1 (by rw [← h, ← hi]; exact hle))
    induction hr : s i with
    | bot => exact absurd hr hne
    | top => exact absurd hr (ht i)
    | coe r => rw [← EReal.coe_sub, sub_self, Ideal.exp_coe, Real.exp_zero]; rfl
  have h2 : wt s i ≤ ∑ j, wt s j := Finset.single_le_sum (f := wt s) (fun j _ => exp_nonneg _) (Finset.mem_univ i)
  intro h0
  rw [h0, h1] at h2
  exact absurd h2 (by norm_num)

/-- The weighted sum over a window of keys is the weighted sum over all keys, when the keys the window
    leaves out are masked, and so are the window's positions that are no key. -/
theorem soft_window (s v : ι → EReal) (t u : κ → EReal) (Q : ι → Prop) (P : κ → Prop) (g : κ → ι)
    (hs : ∀ i, ¬ Q i → s i = ⊥) (ht : ∀ w, ¬ P w → t w = ⊥)
    (hPQ : ∀ w, P w → Q (g w)) (hst : ∀ w, P w → t w = s (g w)) (huv : ∀ w, P w → u w = v (g w))
    (inj : ∀ w w', P w → P w' → g w = g w' → w = w') (surj : ∀ i, Q i → ∃ w, P w ∧ g w = i)
    (hb : ∃ i, s i ≠ ⊥) (htop : ∀ i, s i ≠ ⊤) : soft t u = soft s v := by
  classical
  have hM : top t = top s := by
    rw [top_eq, top_eq]
    refine le_antisymm (Finset.sup_le fun w _ => ?_) (Finset.sup_le fun i _ => ?_)
    · by_cases hw : P w
      · rw [hst w hw]; exact Finset.le_sup (Finset.mem_univ _)
      · rw [ht w hw]; exact bot_le
    · by_cases hi : Q i
      · obtain ⟨w, hw, rfl⟩ := surj i hi
        rw [← hst w hw]; exact Finset.le_sup (Finset.mem_univ _)
      · rw [hs i hi]; exact bot_le
  have hwt : ∀ w, P w → wt t w = wt s (g w) := fun w hw => by rw [wt, wt, hM, hst w hw]
  have key : ∀ (f : κ → EReal) (h : ι → EReal), (∀ w, ¬ P w → f w = 0) → (∀ i, ¬ Q i → h i = 0) →
      (∀ w, P w → f w = h (g w)) → ∑ w, f w = ∑ i, h i := by
    intro f h hf hh hfh
    rw [← Finset.sum_filter_of_ne (p := P) (s := Finset.univ) (f := f) (fun w _ hne => by
        by_contra hn; exact hne (hf w hn)),
      ← Finset.sum_filter_of_ne (p := Q) (s := Finset.univ) (f := h) (fun w _ hne => by
        by_contra hn; exact hne (hh w hn))]
    refine Finset.sum_bij (fun w _ => g w) (fun w hw => ?_) (fun w hw w' hw' e => ?_) (fun i hi => ?_) (fun w hw => ?_)
    · simp only [Finset.mem_filter, Finset.mem_univ, true_and] at hw ⊢; exact hPQ w hw
    · simp only [Finset.mem_filter, Finset.mem_univ, true_and] at hw hw'; exact inj w w' hw hw' e
    · simp only [Finset.mem_filter, Finset.mem_univ, true_and] at hi
      obtain ⟨w, hw, e⟩ := surj i hi
      exact ⟨w, by simpa using hw, e⟩
    · simp only [Finset.mem_filter, Finset.mem_univ, true_and] at hw; exact hfh w hw
  have hS : (∑ w, wt t w) = ∑ i, wt s i :=
    key _ _ (fun w hw => wt_masked t w (ht w hw)) (fun i hi => wt_masked s i (hs i hi)) hwt
  have h0 := sum_wt_ne_zero s hb htop
  have hdiv : Ideal.div 0 (∑ i, wt s i) = 0 := by rw [Ideal.div, if_neg h0, zero_mul]
  rw [soft, soft, hS]
  refine key _ _ (fun w hw => ?_) (fun i hi => ?_) (fun w hw => ?_)
  · rw [wt_masked t w (ht w hw), hdiv, zero_mul]
  · rw [wt_masked s i (hs i hi), hdiv, zero_mul]
  · rw [hwt w hw, huv w hw]

end Cert.Proof

end
-- ==== Proof.Head.lean ====
/- One head's block of the banded attention: what the payloads of one grid point give at an index. -/
module

public import proofs.«01_k».proof.Proof.Soft
public import proofs.«01_k».proof.Proof.Gen.KernelIdeal.Frame
public import Idealize.ShloMosaic.Lib.Pointwise
public import Idealize.ShloMosaic.Lib.Pipeline.Value
public import Idealize.ShloMosaic.Lib.Pipeline.ValueKit.Tiles
public import Idealize.ShloMosaic.PureOps.Ideal.Laws

@[expose] public section

set_option maxRecDepth 16384

noncomputable section

namespace Cert.Proof

open Idealize.ShloMosaic Idealize.SL.Sem Cert.KernelIdeal Cert.KernelIdeal.Gen

/-- One head's output block from its query block, five key blocks, five value blocks and bias block. -/
def hd (i : grid1.Coords) (q k0 k1 k2 k3 k4 v0 v1 v2 v3 v4 : Vec Ideal S128x128 .bf16)
    (b : Vec Ideal S1x128x640 .f32) : Vec Ideal S128x128 .bf16 :=
  k1_pay1 (k1_pay12 (k1_pay3 i) (k1_pay4 q k0 k1 k2 k3 k4) b) v0 v1 v2 v3 v4

/-- Position `w` of a window of five blocks of 128 rows. -/
def five (x : Fin 5 → Vec Ideal S128x128 .bf16) (w : Fin 640) (e : Fin 128) : EReal :=
  x ⟨w.val / 128, by omega⟩ (ix2 ⟨w.val % 128, by omega⟩ e)

theorem concat_five (k0 k1 k2 k3 k4 : Vec Ideal S128x128 .bf16) (w : Fin 640) (e : Fin 128) :
    concatenate S640x128 0 [⟨S128x128, k0⟩, ⟨S128x128, k1⟩, ⟨S128x128, k2⟩, ⟨S128x128, k3⟩, ⟨S128x128, k4⟩]
      concatenates_S128x128_S128x128_S128x128_S128x128_S128x128_S640x128_d0 (ix2 w e)
      = five ![k0, k1, k2, k3, k4] w e :=
  concatenate_ofFn_apply (t := S640x128) (s₁ := S128x128) 0 ![k0, k1, k2, k3, k4]
    concatenates_S128x128_S128x128_S128x128_S128x128_S128x128_S640x128_d0 rfl 128 rfl (ix2 w e)
    ⟨w.val / 128, by omega⟩ rfl (ix2 ⟨w.val % 128, by omega⟩ e) rfl
    (fun b hb => by
      match b with
      | ⟨0, _⟩ => exact absurd rfl hb
      | ⟨1, _⟩ => rfl)

theorem mm_qk (q : FVec Ideal S128x128 .bf16) (K : FVec Ideal S640x128 .bf16) (r : Fin 128) (w : Fin 640) :
    matmul (F := Ideal) dot_S128x128_S640x128_S128x640_1_1_0_0_n_n none q K (constant S128x640 .f32 0x00000000#32) (ix2 r w)
      = ∑ e : Fin 128, q (ix2 r e) * K (ix2 w e) := by
  pointwise [dot_S128x128_S640x128_S128x640_1_1_0_0_n_n]

theorem mm_pv (p : FVec Ideal S128x640 .bf16) (V : FVec Ideal S640x128 .bf16) (r e : Fin 128) :
    matmul (F := Ideal) dot_S128x640_S640x128_S128x128_1_0_0_1_n_n none p V (constant S128x128 .f32 0x00000000#32) (ix2 r e)
      = ∑ w : Fin 640, p (ix2 r w) * V (ix2 w e) := by
  pointwise [dot_S128x640_S640x128_S128x128_1_0_0_1_n_n]

/-- The product of the queries with the window's keys, at an index. -/
theorem qk_apply (q k0 k1 k2 k3 k4 : Vec Ideal S128x128 .bf16) (r : Fin 128) (w : Fin 640) :
    k1_pay4 q k0 k1 k2 k3 k4 (ix2 r w) = ∑ e : Fin 128, q (ix2 r e) * five ![k0, k1, k2, k3, k4] w e :=
  (mm_qk _ _ r w).trans (Finset.sum_congr rfl fun e _ => by rw [concat_five])

/-- The product of the weights with the window's values, at an index. -/
theorem pv_apply (p : Vec Ideal S128x640 .bf16) (k0 k1 k2 k3 k4 : Vec Ideal S128x128 .bf16) (r e : Fin 128) :
    k1_pay1 p k0 k1 k2 k3 k4 (ix2 r e) = ∑ w : Fin 640, p (ix2 r w) * five ![k0, k1, k2, k3, k4] w e :=
  (mm_pv _ _ r e).trans (Finset.sum_congr rfl fun e _ => by rw [concat_five])

theorem neg_inf : Ideal.ofBits .f32 0xFF800000#32 = ⊥ := by simp [Ideal.ofBits, Ideal.ieee]

/-- The window's scores in one query row: masked positions are `⊥`. -/
def wscore (M : IVec S128x640 1) (l : FVec Ideal S128x640 .f32) (b : Vec Ideal S1x128x640 .f32) (r : Fin 128) (w : Fin 640) : EReal :=
  if M (ix2 r w) = 1 then l (ix2 r w) * Ideal.ofBits .f32 0x3DB504F3#32 + b (ix3 0 r w) else ⊥

theorem prob_apply (M : IVec S128x640 1) (l : FVec Ideal S128x640 .f32) (b : Vec Ideal S1x128x640 .f32) (r : Fin 128) (w : Fin 640) :
    k1_pay12 M l b (ix2 r w) = Ideal.div (wt (wscore M l b r) w) (∑ w, wt (wscore M l b r) w) := by
  unfold k1_pay12
  have hn : Named.named (F := Ideal) κ "mask" (φ := .f32) 0xF149F2CA#32 = (⊥ : EReal) :=
    IdealRules.named_const.ideal_named_scalar _ _ _ _ rfl
  pointwise
  rw [hn, neg_inf]
  rfl

/-- One head's block at an index: the softmax-weighted sum over the window. -/
theorem hd_apply (i : grid1.Coords) (q k0 k1 k2 k3 k4 v0 v1 v2 v3 v4 : Vec Ideal S128x128 .bf16)
    (b : Vec Ideal S1x128x640 .f32) (r e : Fin 128) :
    hd i q k0 k1 k2 k3 k4 v0 v1 v2 v3 v4 b (ix2 r e)
      = soft (fun w => if k1_pay3 i (ix2 r w) = 1 then
            (∑ d : Fin 128, q (ix2 r d) * five ![k0, k1, k2, k3, k4] w d) * Ideal.ofBits .f32 0x3DB504F3#32 + b (ix3 0 r w) else ⊥)
          (fun w => five ![v0, v1, v2, v3, v4] w e) := by
  have h : wscore (k1_pay3 i) (k1_pay4 q k0 k1 k2 k3 k4) b r = fun w => if k1_pay3 i (ix2 r w) = 1 then
            (∑ d : Fin 128, q (ix2 r d) * five ![k0, k1, k2, k3, k4] w d) * Ideal.ofBits .f32 0x3DB504F3#32 + b (ix3 0 r w) else ⊥ := by
    funext w
    rw [wscore, qk_apply]
  rw [← h, hd, pv_apply, soft]
  exact Finset.sum_congr rfl fun w _ => by rw [prob_apply]

theorem andi_one (a b : BitVec 1) : IntOp.andi a b = 1 ↔ a = 1 ∧ b = 1 := by revert a b; decide

theorem sle_one (a b : BitVec 32) : IntOp.cmpi .sle a b = 1 ↔ a.toInt ≤ b.toInt := by
  show BitVec.ofBool (a.sle b) = 1 ↔ _
  rw [BitVec.sle_eq_decide]; by_cases h : a.toInt ≤ b.toInt <;> simp [h]

theorem sge_one (a b : BitVec 32) : IntOp.cmpi .sge a b = 1 ↔ b.toInt ≤ a.toInt := by
  show BitVec.ofBool (b.sle a) = 1 ↔ _
  rw [BitVec.sle_eq_decide]; by_cases h : b.toInt ≤ a.toInt <;> simp [h]

theorem shr6 (a : BitVec 32) : (IntOp.shrsi .vector a 6#32).toInt = a.toInt / 64 := by
  show (if (6#32).toNat < 32 then a.sshiftRight' 6#32 else _).toInt = _
  rw [if_pos (by decide)]
  simp [BitVec.sshiftRight', BitVec.toInt_sshiftRight, Int.shiftRight_eq_div_pow]

/-- A word that is the residue of a small integer reads as that integer. -/
theorem toInt_of (a : BitVec 32) (z : Int) (h : a = BitVec.ofInt 32 z) (h1 : -2147483648 ≤ z) (h2 : z < 2147483648) : a.toInt = z := by
  subst h
  rw [BitVec.toInt_ofInt, Int.bmod_eq_of_le] <;> omega

theorem ofInt_nat (n : Nat) : BitVec.ofNat 32 n = BitVec.ofInt 32 (n : Int) := by simp

theorem qpos_int (j r : Nat) (hj : j < 64) (hr : r < 128) :
    (IntOp.addi (Scalar.muli (BitVec.ofNat 32 j) 128#32) (BitVec.ofNat 32 r)).toInt = 128 * j + r := by
  refine toInt_of _ _ ?_ (by omega) (by omega)
  show BitVec.ofNat 32 j * 128#32 + BitVec.ofNat 32 r = _
  rw [BitVec.ofInt_add, BitVec.ofInt_mul, BitVec.mul_comm]; simp

theorem kpos_int (j w : Nat) (hj : j < 64) (hw : w < 640) :
    (IntOp.addi (Scalar.muli (Scalar.subi (BitVec.ofNat 32 j) 4#32) 128#32) (BitVec.ofNat 32 w)).toInt = 128 * j - 512 + w := by
  refine toInt_of _ _ ?_ (by omega) (by omega)
  show (BitVec.ofNat 32 j - 4#32) * 128#32 + BitVec.ofNat 32 w = _
  have : (128 * (j : Int) - 512 + w) = (j + (-4)) * 128 + w := by ring
  rw [this, BitVec.ofInt_add, BitVec.ofInt_mul, BitVec.ofInt_add, BitVec.sub_eq_add_neg]; simp

theorem subi8 (a : BitVec 32) (z : Int) (h : a.toInt = z) (h1 : -1000 ≤ z) (h2 : z < 1000) : (IntOp.subi a 8#32).toInt = z - 8 := by
  show (a - 8#32).toInt = _
  rw [BitVec.toInt_sub, h, show (8#32 : BitVec 32).toInt = 8 from rfl, Int.bmod_eq_of_le] <;> omega

/-- The kernel's mask at an index: the key position is not before the first key, its group of 64 is not after the
    query's, and not more than eight groups before it. -/
theorem mask_apply (i : grid1.Coords) (r : Fin 128) (w : Fin 640) :
    k1_pay3 i (ix2 r w) = 1 ↔ 512 ≤ 128 * (i 1).val + w.val
      ∧ (128 * (i 1).val + w.val - 512) / 64 ≤ (128 * (i 1).val + r.val) / 64
      ∧ (128 * (i 1).val + r.val) / 64 ≤ (128 * (i 1).val + w.val - 512) / 64 + 8 := by
  have hj : (i 1).val < 64 := (i 1).isLt
  have hr := r.isLt
  have hw := w.isLt
  unfold k1_pay3
  pointwise
  generalize (i 1).val = j at hj ⊢
  have hq := qpos_int j r.val hj hr
  have hk := kpos_int j w.val hj hw
  generalize IntOp.addi (Scalar.muli (BitVec.ofNat 32 j) 128#32) (BitVec.ofNat 32 r.val) = a at hq ⊢
  generalize IntOp.addi (Scalar.muli (Scalar.subi (BitVec.ofNat 32 j) 4#32) 128#32) (BitVec.ofNat 32 w.val) = b at hk ⊢
  have hs := subi8 (IntOp.shrsi .vector a 6#32) ((128 * (j : Int) + r.val) / 64) (by rw [shr6, hq]) (by omega) (by omega)
  rw [andi_one, andi_one, sge_one, sle_one, sge_one, hs, shr6, shr6, hq, hk, show (0#32 : BitVec 32).toInt = 0 from rfl]
  omega

end Cert.Proof

end
-- ==== Proof.Block.lean ====
/- What the banded attention's body leaves in its output block at one grid point. -/
module

public import proofs.«01_k».proof.Proof.Head

@[expose] public section

set_option maxRecDepth 16384

noncomputable section

namespace Cert.Proof

open Idealize.ShloMosaic Idealize.ShloMosaic.TcCoe Idealize.SL.Sem Cert.KernelIdeal Cert.KernelIdeal.Gen

variable (V : (c : Dev nD) → (b : Ref sig .tc) → Buf (Elt Ideal) ((c : Thread nD τ).loc b))

/-- The 128 columns of head `h` of a block. -/
def cols (n : Nat) (x : Vec Ideal S128x1024 .bf16) (inb : ∀ a, ![0, n] a + S128x128.size a ≤ S128x1024.size a) :
    Vec Ideal S128x128 .bf16 :=
  View.ld x (Rect.unit (s := S128x1024) ![0, n] S128x128.size inb)

/-- The bias block of head `h`. -/
def plane (n : Nat) (x : Vec Ideal S8x128x640 .f32) (inb : ∀ a, ![n, 0, 0] a + S1x128x640.size a ≤ S8x128x640.size a) :
    Vec Ideal S1x128x640 .f32 :=
  View.ld x (Rect.unit (s := S8x128x640) ![n, 0, 0] S1x128x640.size inb)

/-- One head's output piece, from the twelve input blocks. -/
def piece (i : grid1.Coords) (x0 x1 x2 x3 x4 x5 x6 x7 x8 x9 x10 : Vec Ideal S128x1024 .bf16) (x11 : Vec Ideal S8x128x640 .f32)
    (h : Nat) (n : Nat) (inb : ∀ a, ![0, n] a + S128x128.size a ≤ S128x1024.size a)
    (inh : ∀ a, ![h, 0, 0] a + S1x128x640.size a ≤ S8x128x640.size a) : View.Piece (Elt Ideal) S128x1024 .bf16 :=
  ⟨Rect.unit (s := S128x1024) ![0, n] S128x128.size inb,
    hd i (cols n x0 inb) (cols n x1 inb) (cols n x2 inb) (cols n x3 inb) (cols n x4 inb) (cols n x5 inb)
      (cols n x6 inb) (cols n x7 inb) (cols n x8 inb) (cols n x9 inb) (cols n x10 inb) (plane h x11 inh)⟩

/-- The eight pieces, last written first. -/
def pieces (i : grid1.Coords) (x0 x1 x2 x3 x4 x5 x6 x7 x8 x9 x10 : Vec Ideal S128x1024 .bf16) (x11 : Vec Ideal S8x128x640 .f32) :
    List (View.Piece (Elt Ideal) S128x1024 .bf16) :=
  [piece i x0 x1 x2 x3 x4 x5 x6 x7 x8 x9 x10 x11 7 896 (by decide) (by decide),
   piece i x0 x1 x2 x3 x4 x5 x6 x7 x8 x9 x10 x11 6 768 (by decide) (by decide),
   piece i x0 x1 x2 x3 x4 x5 x6 x7 x8 x9 x10 x11 5 640 (by decide) (by decide),
   piece i x0 x1 x2 x3 x4 x5 x6 x7 x8 x9 x10 x11 4 512 (by decide) (by decide),
   piece i x0 x1 x2 x3 x4 x5 x6 x7 x8 x9 x10 x11 3 384 (by decide) (by decide),
   piece i x0 x1 x2 x3 x4 x5 x6 x7 x8 x9 x10 x11 2 256 (by decide) (by decide),
   piece i x0 x1 x2 x3 x4 x5 x6 x7 x8 x9 x10 x11 1 128 (by decide) (by decide),
   piece i x0 x1 x2 x3 x4 x5 x6 x7 x8 x9 x10 x11 0 0 (by decide) (by decide)]

set_option maxHeartbeats 4000000 in
theorem outs_eq (c : Dev nD) (t : Fin cfg1.N) :
    outsAt1 V c t = View.canon (pieces (grid1.coords t) (iblk1 V c 0 t) (iblk1 V c 1 t) (iblk1 V c 2 t) (iblk1 V c 3 t)
      (iblk1 V c 4 t) (iblk1 V c 5 t) (iblk1 V c 6 t) (iblk1 V c 7 t) (iblk1 V c 8 t) (iblk1 V c 9 t) (iblk1 V c 10 t)
      (iblk1 V c 11 t)) := by
  unfold outsAt1 out1_A_12
  rw [View.read_writes_eq_canon _ _ _ (cover1_A_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t))]
  refine congrArg View.canon ?_
  unfold kernelRun1_A
  dsimp only
  sl_unfold_words
  simp only [View.readAt_eq_ld, (hs1_0 t).read_unread, (hs1_1 t).read_unread, (hs1_2 t).read_unread, (hs1_3 t).read_unread,
    (hs1_4 t).read_unread, (hs1_5 t).read_unread, (hs1_6 t).read_unread, (hs1_7 t).read_unread, (hs1_8 t).read_unread,
    (hs1_9 t).read_unread, (hs1_10 t).read_unread, (hs1_11 t).read_unread]
  rfl

/-- Position `w` of a window of five blocks of 128 rows, at a column. -/
def wnd (x : Fin 5 → Vec Ideal S128x1024 .bf16) (w : Fin 640) (n : Fin 1024) : EReal :=
  x ⟨w.val / 128, by omega⟩ (ix2 ⟨w.val % 128, by omega⟩ n)

/-- Column `d` of the head that column `n` belongs to. -/
def hcol (n : Fin 1024) (d : Fin 128) : Fin 1024 := ⟨128 * (n.val / 128) + d.val, by omega⟩

/-- The value of one grid point's output block at a row and a column. -/
def blk (i : grid1.Coords) (x0 x1 x2 x3 x4 x5 x6 x7 x8 x9 x10 : Vec Ideal S128x1024 .bf16) (x11 : Vec Ideal S8x128x640 .f32)
    (r : Fin 128) (n : Fin 1024) : EReal :=
  soft (fun w => if k1_pay3 i (ix2 r w) = 1 then
      (∑ d : Fin 128, x0 (ix2 r (hcol n d)) * wnd ![x1, x2, x3, x4, x5] w (hcol n d)) * Ideal.ofBits .f32 0x3DB504F3#32
        + x11 (ix3 ⟨n.val / 128, by omega⟩ r w) else ⊥)
    (fun w => wnd ![x6, x7, x8, x9, x10] w n)

theorem emb_cols (n : Nat) (inb : ∀ a, ![0, n] a + S128x128.size a ≤ S128x1024.size a) (r e : Fin 128) (hn : n + e.val < 1024) :
    (Rect.unit (s := S128x1024) ![0, n] S128x128.size inb).emb (ix2 r e) = ix2 r ⟨n + e.val, hn⟩ := by
  funext a
  match a with
  | ⟨0, _⟩ => exact Fin.ext (by rw [Rect.emb_apply]; show 0 + 1 * r.val = r.val; omega)
  | ⟨1, _⟩ => exact Fin.ext (by rw [Rect.emb_apply]; show n + 1 * e.val = n + e.val; omega)

theorem cols_apply (n : Nat) (x : Vec Ideal S128x1024 .bf16) (inb : ∀ a, ![0, n] a + S128x128.size a ≤ S128x1024.size a)
    (r e : Fin 128) (hn : n + e.val < 1024) : cols n x inb (ix2 r e) = x (ix2 r ⟨n + e.val, hn⟩) :=
  congrArg x (emb_cols n inb r e hn)

theorem plane_apply (h : Nat) (x : Vec Ideal S8x128x640 .f32) (inb : ∀ a, ![h, 0, 0] a + S1x128x640.size a ≤ S8x128x640.size a)
    (r : Fin 128) (w : Fin 640) (hh : h < 8) : plane h x inb (ix3 0 r w) = x (ix3 ⟨h, hh⟩ r w) := by
  refine congrArg x (?_ : (Rect.unit (s := S8x128x640) ![h, 0, 0] S1x128x640.size inb).emb (ix3 0 r w) = _)
  funext a
  match a with
  | ⟨0, _⟩ => exact Fin.ext (by rw [Rect.emb_apply]; show h + 1 * 0 = h; omega)
  | ⟨1, _⟩ => exact Fin.ext (by rw [Rect.emb_apply]; show 0 + 1 * r.val = r.val; omega)
  | ⟨2, _⟩ => exact Fin.ext (by rw [Rect.emb_apply]; show 0 + 1 * w.val = w.val; omega)

theorem five_cols (n : Nat) (x1 x2 x3 x4 x5 : Vec Ideal S128x1024 .bf16)
    (inb : ∀ a, ![0, n] a + S128x128.size a ≤ S128x1024.size a) (w : Fin 640) (e : Fin 128) (hn : n + e.val < 1024) :
    five ![cols n x1 inb, cols n x2 inb, cols n x3 inb, cols n x4 inb, cols n x5 inb] w e
      = wnd ![x1, x2, x3, x4, x5] w ⟨n + e.val, hn⟩ := by
  unfold five wnd
  generalize (⟨w.val / 128, _⟩ : Fin 5) = p
  match p with
  | ⟨0, _⟩ => exact cols_apply n x1 inb _ e hn
  | ⟨1, _⟩ => exact cols_apply n x2 inb _ e hn
  | ⟨2, _⟩ => exact cols_apply n x3 inb _ e hn
  | ⟨3, _⟩ => exact cols_apply n x4 inb _ e hn
  | ⟨4, _⟩ => exact cols_apply n x5 inb _ e hn

section
variable (i : grid1.Coords) (x0 x1 x2 x3 x4 x5 x6 x7 x8 x9 x10 : Vec Ideal S128x1024 .bf16) (x11 : Vec Ideal S8x128x640 .f32)

theorem head_apply (h : Nat) (hh : h < 8) (inb : ∀ a, ![0, 128 * h] a + S128x128.size a ≤ S128x1024.size a)
    (inh : ∀ a, ![h, 0, 0] a + S1x128x640.size a ≤ S8x128x640.size a) (r e : Fin 128) (hn : 128 * h + e.val < 1024) :
    hd i (cols (128 * h) x0 inb) (cols (128 * h) x1 inb) (cols (128 * h) x2 inb) (cols (128 * h) x3 inb) (cols (128 * h) x4 inb) (cols (128 * h) x5 inb)
      (cols (128 * h) x6 inb) (cols (128 * h) x7 inb) (cols (128 * h) x8 inb) (cols (128 * h) x9 inb) (cols (128 * h) x10 inb) (plane h x11 inh) (ix2 r e)
      = blk i x0 x1 x2 x3 x4 x5 x6 x7 x8 x9 x10 x11 r ⟨128 * h + e.val, hn⟩ := by
  have he := e.isLt
  have hdiv : (128 * h + e.val) / 128 = h := by omega
  have hc : ∀ d : Fin 128, hcol ⟨128 * h + e.val, hn⟩ d = ⟨128 * h + d.val, by omega⟩ := fun d =>
    Fin.ext (by show 128 * ((128 * h + e.val) / 128) + d.val = _; rw [hdiv])
  have hp : (⟨(128 * h + e.val) / 128, by omega⟩ : Fin 8) = ⟨h, hh⟩ := Fin.ext hdiv
  rw [hd_apply, blk]
  refine congrArg₂ soft (funext fun w => ?_) (funext fun w => five_cols _ x6 x7 x8 x9 x10 inb w e hn)
  rw [plane_apply h x11 inh r w hh, hp]
  refine if_congr Iff.rfl (congrArg (· * Ideal.ofBits .f32 0x3DB504F3#32 + x11 (ix3 ⟨h, hh⟩ r w)) ?_) rfl
  refine Finset.sum_congr rfl fun d _ => ?_
  rw [hc, five_cols _ x1 x2 x3 x4 x5 inb w d (by omega), cols_apply _ x0 inb r d (by omega)]

/-- The output block of one grid point, as a function of the index. -/
def blkAt (y : S128x1024.Idx) : Elt Ideal .bf16 := blk i x0 x1 x2 x3 x4 x5 x6 x7 x8 x9 x10 x11 (y 0) (y 1)

theorem piece_apply (h : Nat) (hh : h < 8)
    (inb : ∀ a, ![0, 128 * h] a + S128x128.size a ≤ S128x1024.size a)
    (inh : ∀ a, ![h, 0, 0] a + S1x128x640.size a ≤ S8x128x640.size a) (y : S128x128.Idx) :
    (piece i x0 x1 x2 x3 x4 x5 x6 x7 x8 x9 x10 x11 h (128 * h) inb inh).2 y
      = blkAt i x0 x1 x2 x3 x4 x5 x6 x7 x8 x9 x10 x11
          ((piece i x0 x1 x2 x3 x4 x5 x6 x7 x8 x9 x10 x11 h (128 * h) inb inh).1.emb y) := by
  idx_vars y
  have hn : 128 * h + y1.val < 1024 := by have := y1.isLt; omega
  refine (head_apply i x0 x1 x2 x3 x4 x5 x6 x7 x8 x9 x10 x11 h hh inb inh y0 y1 hn).trans ?_
  exact (congrArg (blkAt i x0 x1 x2 x3 x4 x5 x6 x7 x8 x9 x10 x11) (emb_cols (128 * h) inb y0 y1 hn)).symm

/-- The output block of one grid point at a row and a column. -/
theorem pieces_apply (r : Fin 128) (n : Fin 1024) :
    View.canon (pieces i x0 x1 x2 x3 x4 x5 x6 x7 x8 x9 x10 x11) (ix2 r n) = blk i x0 x1 x2 x3 x4 x5 x6 x7 x8 x9 x10 x11 r n := by
  refine View.canon_apply_of_pieces (blkAt i x0 x1 x2 x3 x4 x5 x6 x7 x8 x9 x10 x11) _ ?_ (ix2 r n) ?_
  · intro p hp
    simp only [pieces, List.mem_cons, List.not_mem_nil, or_false] at hp
    rcases hp with rfl | rfl | rfl | rfl | rfl | rfl | rfl | rfl
    · exact piece_apply i x0 x1 x2 x3 x4 x5 x6 x7 x8 x9 x10 x11 7 (by decide) (by decide) (by decide)
    · exact piece_apply i x0 x1 x2 x3 x4 x5 x6 x7 x8 x9 x10 x11 6 (by decide) (by decide) (by decide)
    · exact piece_apply i x0 x1 x2 x3 x4 x5 x6 x7 x8 x9 x10 x11 5 (by decide) (by decide) (by decide)
    · exact piece_apply i x0 x1 x2 x3 x4 x5 x6 x7 x8 x9 x10 x11 4 (by decide) (by decide) (by decide)
    · exact piece_apply i x0 x1 x2 x3 x4 x5 x6 x7 x8 x9 x10 x11 3 (by decide) (by decide) (by decide)
    · exact piece_apply i x0 x1 x2 x3 x4 x5 x6 x7 x8 x9 x10 x11 2 (by decide) (by decide) (by decide)
    · exact piece_apply i x0 x1 x2 x3 x4 x5 x6 x7 x8 x9 x10 x11 1 (by decide) (by decide) (by decide)
    · exact piece_apply i x0 x1 x2 x3 x4 x5 x6 x7 x8 x9 x10 x11 0 (by decide) (by decide) (by decide)
  · exact View.cover_of_tiledL (pieces i x0 x1 x2 x3 x4 x5 x6 x7 x8 x9 x10 x11) S128x128.size (by sl_kernel_rfl) (ix2 r n)

end

end Cert.Proof

end
-- ==== Proof.Value.lean ====
/- The result array of the banded attention after its second call, index by index. -/
module

public import proofs.«01_k».proof.Proof.Block
public import Idealize.ShloMosaic.Lib.Pipeline.ValueKit

@[expose] public section

set_option maxRecDepth 16384

noncomputable section

namespace Cert.Proof

open Idealize.ShloMosaic Idealize.ShloMosaic.TcCoe Idealize.SL.Sem Cert.KernelIdeal Cert.KernelIdeal.Gen

variable (V : (c : Dev nD) → (b : Ref sig .tc) → Buf (Elt Ideal) ((c : Thread nD τ).loc b))

/-! ## The windows' block indices -/

theorem ix0 : ∀ t : Fin cfg1.N, win1_0.index t = ![(grid1.coords t 1).val, (grid1.coords t 0).val] :=
  (by decide +kernel : ∀ t : Fin grid1.N, win1_0.index t = ![(grid1.coords t 1).val, (grid1.coords t 0).val])
theorem ix1 : ∀ t : Fin cfg1.N, win1_1.index t = ![(grid1.coords t 1).val + 0 - 4, 4 + (grid1.coords t 0).val] :=
  (by decide +kernel : ∀ t : Fin grid1.N, win1_1.index t = ![(grid1.coords t 1).val + 0 - 4, 4 + (grid1.coords t 0).val])
theorem ix2' : ∀ t : Fin cfg1.N, win1_2.index t = ![(grid1.coords t 1).val + 1 - 4, 4 + (grid1.coords t 0).val] :=
  (by decide +kernel : ∀ t : Fin grid1.N, win1_2.index t = ![(grid1.coords t 1).val + 1 - 4, 4 + (grid1.coords t 0).val])
theorem ix3' : ∀ t : Fin cfg1.N, win1_3.index t = ![(grid1.coords t 1).val + 2 - 4, 4 + (grid1.coords t 0).val] :=
  (by decide +kernel : ∀ t : Fin grid1.N, win1_3.index t = ![(grid1.coords t 1).val + 2 - 4, 4 + (grid1.coords t 0).val])
theorem ix4' : ∀ t : Fin cfg1.N, win1_4.index t = ![(grid1.coords t 1).val + 3 - 4, 4 + (grid1.coords t 0).val] :=
  (by decide +kernel : ∀ t : Fin grid1.N, win1_4.index t = ![(grid1.coords t 1).val + 3 - 4, 4 + (grid1.coords t 0).val])
theorem ix5' : ∀ t : Fin cfg1.N, win1_5.index t = ![(grid1.coords t 1).val + 4 - 4, 4 + (grid1.coords t 0).val] :=
  (by decide +kernel : ∀ t : Fin grid1.N, win1_5.index t = ![(grid1.coords t 1).val + 4 - 4, 4 + (grid1.coords t 0).val])
theorem ix6' : ∀ t : Fin cfg1.N, win1_6.index t = ![(grid1.coords t 1).val + 0 - 4, 8 + (grid1.coords t 0).val] :=
  (by decide +kernel : ∀ t : Fin grid1.N, win1_6.index t = ![(grid1.coords t 1).val + 0 - 4, 8 + (grid1.coords t 0).val])
theorem ix7' : ∀ t : Fin cfg1.N, win1_7.index t = ![(grid1.coords t 1).val + 1 - 4, 8 + (grid1.coords t 0).val] :=
  (by decide +kernel : ∀ t : Fin grid1.N, win1_7.index t = ![(grid1.coords t 1).val + 1 - 4, 8 + (grid1.coords t 0).val])
theorem ix8' : ∀ t : Fin cfg1.N, win1_8.index t = ![(grid1.coords t 1).val + 2 - 4, 8 + (grid1.coords t 0).val] :=
  (by decide +kernel : ∀ t : Fin grid1.N, win1_8.index t = ![(grid1.coords t 1).val + 2 - 4, 8 + (grid1.coords t 0).val])
theorem ix9' : ∀ t : Fin cfg1.N, win1_9.index t = ![(grid1.coords t 1).val + 3 - 4, 8 + (grid1.coords t 0).val] :=
  (by decide +kernel : ∀ t : Fin grid1.N, win1_9.index t = ![(grid1.coords t 1).val + 3 - 4, 8 + (grid1.coords t 0).val])
theorem ix10 : ∀ t : Fin cfg1.N, win1_10.index t = ![(grid1.coords t 1).val + 4 - 4, 8 + (grid1.coords t 0).val] :=
  (by decide +kernel : ∀ t : Fin grid1.N, win1_10.index t = ![(grid1.coords t 1).val + 4 - 4, 8 + (grid1.coords t 0).val])
theorem ix11 : ∀ t : Fin cfg1.N, win1_11.index t = ![(grid1.coords t 0).val, 0, 0] :=
  (by decide +kernel : ∀ t : Fin grid1.N, win1_11.index t = ![(grid1.coords t 0).val, 0, 0])
theorem ix12 : ∀ t : Fin cfg1.N, win1_12.index t = ![(grid1.coords t 1).val, (grid1.coords t 0).val] :=
  (by decide +kernel : ∀ t : Fin grid1.N, win1_12.index t = ![(grid1.coords t 1).val, (grid1.coords t 0).val])

theorem c0_lt (t : Fin cfg1.N) : (grid1.coords t 0).val < 4 := (grid1.coords t 0).isLt
theorem c1_lt (t : Fin cfg1.N) : (grid1.coords t 1).val < 64 := (grid1.coords t 1).isLt

/-! ## The input blocks at an index -/

theorem q_apply (c : Dev nD) (t : Fin cfg1.N) (r : Fin 128) (n : Fin 1024) (R : Fin 8320) (C : Fin 12288)
    (hR : R.val = 128 * (grid1.coords t 1).val + r.val) (hC : C.val = 1024 * (grid1.coords t 0).val + n.val) :
    (iblk1 V c 0 t : Vec Ideal S128x1024 .bf16) (ix2 r n) = V c main_arg0 (ix2 R C) := by
  blk_simp [iblk1]
  refine congrArg (V c main_arg0) ?_
  blk_ext [ix0]

theorem bias_apply (c : Dev nD) (t : Fin cfg1.N) (h : Fin 8) (r : Fin 128) (w : Fin 640) (H : Fin 32)
    (hH : H.val = 8 * (grid1.coords t 0).val + h.val) :
    (iblk1 V c 11 t : Vec Ideal S8x128x640 .f32) (ix3 h r w) = V c main_v2 (ix3 H r w) := by
  blk_simp [iblk1]
  refine congrArg (V c main_v2) ?_
  blk_ext [ix11]

theorem k_apply (c : Dev nD) (t : Fin cfg1.N) (w : Fin 640) (n : Fin 1024) (R : Fin 8320) (C : Fin 12288)
    (hR : R.val = ((grid1.coords t 1).val + w.val / 128 - 4) * 128 + w.val % 128)
    (hC : C.val = 4096 + 1024 * (grid1.coords t 0).val + n.val) :
    wnd ![iblk1 V c 1 t, iblk1 V c 2 t, iblk1 V c 3 t, iblk1 V c 4 t, iblk1 V c 5 t] w n = V c main_arg0 (ix2 R C) := by
  unfold wnd
  have h5 : w.val / 128 < 5 := by omega
  generalize hp : (⟨w.val / 128, h5⟩ : Fin 5) = p
  have hv : w.val / 128 = p.val := congrArg Fin.val hp
  rw [hv] at hR
  match p with
  | ⟨0, _⟩ =>
    dsimp only at hR
    show (iblk1 V c 1 t : Vec Ideal S128x1024 .bf16) (ix2 _ n) = _
    blk_simp [iblk1]; refine congrArg (V c main_arg0) ?_; blk_ext [ix1]
  | ⟨1, _⟩ =>
    dsimp only at hR
    show (iblk1 V c 2 t : Vec Ideal S128x1024 .bf16) (ix2 _ n) = _
    blk_simp [iblk1]; refine congrArg (V c main_arg0) ?_; blk_ext [ix2']
  | ⟨2, _⟩ =>
    dsimp only at hR
    show (iblk1 V c 3 t : Vec Ideal S128x1024 .bf16) (ix2 _ n) = _
    blk_simp [iblk1]; refine congrArg (V c main_arg0) ?_; blk_ext [ix3']
  | ⟨3, _⟩ =>
    dsimp only at hR
    show (iblk1 V c 4 t : Vec Ideal S128x1024 .bf16) (ix2 _ n) = _
    blk_simp [iblk1]; refine congrArg (V c main_arg0) ?_; blk_ext [ix4']
  | ⟨4, _⟩ =>
    dsimp only at hR
    show (iblk1 V c 5 t : Vec Ideal S128x1024 .bf16) (ix2 _ n) = _
    blk_simp [iblk1]; refine congrArg (V c main_arg0) ?_; blk_ext [ix5']

theorem v_apply (c : Dev nD) (t : Fin cfg1.N) (w : Fin 640) (n : Fin 1024) (R : Fin 8320) (C : Fin 12288)
    (hR : R.val = ((grid1.coords t 1).val + w.val / 128 - 4) * 128 + w.val % 128)
    (hC : C.val = 8192 + 1024 * (grid1.coords t 0).val + n.val) :
    wnd ![iblk1 V c 6 t, iblk1 V c 7 t, iblk1 V c 8 t, iblk1 V c 9 t, iblk1 V c 10 t] w n = V c main_arg0 (ix2 R C) := by
  unfold wnd
  have h5 : w.val / 128 < 5 := by omega
  generalize hp : (⟨w.val / 128, h5⟩ : Fin 5) = p
  have hv : w.val / 128 = p.val := congrArg Fin.val hp
  rw [hv] at hR
  match p with
  | ⟨0, _⟩ =>
    dsimp only at hR
    show (iblk1 V c 6 t : Vec Ideal S128x1024 .bf16) (ix2 _ n) = _
    blk_simp [iblk1]; refine congrArg (V c main_arg0) ?_; blk_ext [ix6']
  | ⟨1, _⟩ =>
    dsimp only at hR
    show (iblk1 V c 7 t : Vec Ideal S128x1024 .bf16) (ix2 _ n) = _
    blk_simp [iblk1]; refine congrArg (V c main_arg0) ?_; blk_ext [ix7']
  | ⟨2, _⟩ =>
    dsimp only at hR
    show (iblk1 V c 8 t : Vec Ideal S128x1024 .bf16) (ix2 _ n) = _
    blk_simp [iblk1]; refine congrArg (V c main_arg0) ?_; blk_ext [ix8']
  | ⟨3, _⟩ =>
    dsimp only at hR
    show (iblk1 V c 9 t : Vec Ideal S128x1024 .bf16) (ix2 _ n) = _
    blk_simp [iblk1]; refine congrArg (V c main_arg0) ?_; blk_ext [ix9']
  | ⟨4, _⟩ =>
    dsimp only at hR
    show (iblk1 V c 10 t : Vec Ideal S128x1024 .bf16) (ix2 _ n) = _
    blk_simp [iblk1]; refine congrArg (V c main_arg0) ?_; blk_ext [ix10]

/-! ## The result array -/

/-- The row of the key (and value) that position `w` of the window of query row `R` holds. -/
def krow (R : Fin 8320) (w : Fin 640) : Fin 8320 := ⟨(R.val / 128 + w.val / 128 - 4) * 128 + w.val % 128, by omega⟩

/-- Column `d` of the head of result column `C`, in the queries (`s = 0`), the keys (`s = 1`) and the values (`s = 2`). -/
def hc (s : Fin 3) (C : Fin 4096) (d : Fin 128) : Fin 12288 := ⟨4096 * s.val + 128 * (C.val / 128) + d.val, by omega⟩

/-- Position `w` of the window of query row `R` is a key the row attends to. -/
def inwin (R : Fin 8320) (w : Fin 640) : Prop :=
  512 ≤ 128 * (R.val / 128) + w.val ∧ (128 * (R.val / 128) + w.val - 512) / 64 ≤ R.val / 64
    ∧ R.val / 64 ≤ (128 * (R.val / 128) + w.val - 512) / 64 + 8

instance (R : Fin 8320) (w : Fin 640) : Decidable (inwin R w) := by unfold inwin; infer_instance

/-- The windowed attention at a row and a column, from the projected array and the expanded bias. -/
def kval (X : S8320x12288.Idx → EReal) (B : S32x128x640.Idx → EReal) (R : Fin 8320) (C : Fin 4096) : EReal :=
  soft (fun w => if inwin R w then
      (∑ d : Fin 128, X (ix2 R (hc 0 C d)) * X (ix2 (krow R w) (hc 1 C d))) * Ideal.ofBits .f32 0x3DB504F3#32
        + B (ix3 ⟨C.val / 128, by omega⟩ ⟨R.val % 128, by omega⟩ w) else ⊥)
    (fun w => X (ix2 (krow R w) ⟨8192 + C.val, by omega⟩))

/-- One grid point's block is its part of the windowed attention. -/
theorem outs_apply (c : Dev nD) (t : Fin cfg1.N) (r : Fin 128) (n : Fin 1024) (R : Fin 8320) (C : Fin 4096)
    (hR : R.val = 128 * (grid1.coords t 1).val + r.val) (hC : C.val = 1024 * (grid1.coords t 0).val + n.val) :
    outsAt1 V c t (ix2 r n) = kval (V c main_arg0) (V c main_v2) R C := by
  rw [outs_eq, pieces_apply]
  unfold blk kval
  have h0 := c0_lt t
  have h1 := c1_lt t
  have hr := r.isLt
  have hn := n.isLt
  have hRd : R.val / 128 = (grid1.coords t 1).val := by omega
  refine congrArg₂ soft (funext fun w => ?_) (funext fun w => v_apply V c t w n (krow R w) _ (by show _ = _; rw [← hRd]; rfl) (by show 8192 + C.val = _; omega))
  refine if_congr ?_ ?_ rfl
  · rw [mask_apply, inwin, hRd, ← hR]
  · refine congrArg₂ (· * _ + ·) (Finset.sum_congr rfl fun d _ => congrArg₂ (· * ·) ?_ ?_) ?_
    · exact q_apply V c t r _ R _ hR (by show 4096 * 0 + 128 * (C.val / 128) + d.val = _ + (128 * (n.val / 128) + d.val); omega)
    · exact k_apply V c t w _ (krow R w) _ (by show _ = _; rw [← hRd]; rfl)
        (by show 4096 * 1 + 128 * (C.val / 128) + d.val = _ + (128 * (n.val / 128) + d.val); omega)
    · have e : (⟨R.val % 128, by omega⟩ : Fin 128) = r := Fin.ext (by show R.val % 128 = r.val; omega)
      rw [e]
      exact bias_apply V c t _ r w _ (by show C.val / 128 = _ + n.val / 128; omega)

/-- The result array: the windowed attention on the first 8192 rows, what it held before on the others. -/
theorem final (c : Dev nD) : (dat1 V c).arrAt 12 cfg1.N
    = fun i : S8320x4096.Idx => if (i 0).val / 128 < 64 then kval (V c main_arg0) (V c main_v2) (i 0) (i 1) else V c main_v4 i := by
  refine (dat1 V c).arrAt_eq_of_coversWhere 12 (fun i : S8320x4096.Idx => kval (V c main_arg0) (V c main_v2) (i 0) (i 1))
    (fun β => β (0 : Fin 2) < 64) (by decide +kernel) (fun t hf y => ?_) (fun j => Iff.rfl)
  blk_simp
  rw [after1_12]
  have hy : ∀ y : S128x1024.Idx, outsAt1 V c t y = kval (V c main_arg0) (V c main_v2) (((win1_12.blk t).view.emb y : S8320x4096.Idx) 0) (((win1_12.blk t).view.emb y : S8320x4096.Idx) 1) := by
    intro y
    idx_vars y
    refine outs_apply V c t y0 y1 _ _ ?_ ?_
    · blk_simp [ix12]; omega
    · blk_simp [ix12]; omega
  exact hy y

end Cert.Proof

end
-- ==== Proof.LitDef.lean ====
module

public import proofs.«01_k».proof.KernelIdeal

@[expose] public section

set_option maxRecDepth 16384

noncomputable section

namespace Cert.Proof

/-- Entry `n` of the table of clipped positions is what the offset `640 + t - s` clips to
    (`n = 640 t + s`). -/
def litOk (n : Nat) : Bool :=
  Nat.beq (Cert.KernelIdeal.lit0t n).toNat (Nat.min 256 (640 + n / 640 - n % 640))

/-- `litOk` at the `k` entries from `n` on. -/
def litAll (n : Nat) : Nat → Bool
  | 0 => true
  | k + 1 => bif litOk (n + k) then litAll n k else false

theorem litOk_of_litAll (n : Nat) : ∀ k, litAll n k = true → ∀ j, j < k → litOk (n + j) = true
  | 0, _, j, hj => absurd hj (Nat.not_lt_zero j)
  | k + 1, h, j, hj => by
    have h1 : litOk (n + k) = true := by
      cases hk : litOk (n + k) with
      | true => rfl
      | false => simp [litAll, hk] at h
    have h2 : litAll n k = true := by simpa [litAll, h1] using h
    rcases Nat.lt_succ_iff_lt_or_eq.1 hj with h' | rfl
    · exact litOk_of_litAll n k h2 j h'
    · exact h1

end Cert.Proof

end
-- ==== Proof.Lit0.lean ====
module

public import proofs.«01_k».proof.Proof.LitDef

@[expose] public section

set_option maxRecDepth 16384

noncomputable section

namespace Cert.Proof

theorem lit_0 : litAll 0 2048 = true := by decide +kernel
theorem lit_1 : litAll 2048 2048 = true := by decide +kernel
theorem lit_2 : litAll 4096 2048 = true := by decide +kernel
theorem lit_3 : litAll 6144 2048 = true := by decide +kernel
theorem lit_4 : litAll 8192 2048 = true := by decide +kernel
theorem lit_5 : litAll 10240 2048 = true := by decide +kernel
theorem lit_6 : litAll 12288 2048 = true := by decide +kernel
theorem lit_7 : litAll 14336 2048 = true := by decide +kernel

end Cert.Proof

end
-- ==== Proof.Lit1.lean ====
module

public import proofs.«01_k».proof.Proof.LitDef

@[expose] public section

set_option maxRecDepth 16384

noncomputable section

namespace Cert.Proof

theorem lit_8 : litAll 16384 2048 = true := by decide +kernel
theorem lit_9 : litAll 18432 2048 = true := by decide +kernel
theorem lit_10 : litAll 20480 2048 = true := by decide +kernel
theorem lit_11 : litAll 22528 2048 = true := by decide +kernel
theorem lit_12 : litAll 24576 2048 = true := by decide +kernel
theorem lit_13 : litAll 26624 2048 = true := by decide +kernel
theorem lit_14 : litAll 28672 2048 = true := by decide +kernel
theorem lit_15 : litAll 30720 2048 = true := by decide +kernel

end Cert.Proof

end
-- ==== Proof.Lit2.lean ====
module

public import proofs.«01_k».proof.Proof.LitDef

@[expose] public section

set_option maxRecDepth 16384

noncomputable section

namespace Cert.Proof

theorem lit_16 : litAll 32768 2048 = true := by decide +kernel
theorem lit_17 : litAll 34816 2048 = true := by decide +kernel
theorem lit_18 : litAll 36864 2048 = true := by decide +kernel
theorem lit_19 : litAll 38912 2048 = true := by decide +kernel
theorem lit_20 : litAll 40960 2048 = true := by decide +kernel
theorem lit_21 : litAll 43008 2048 = true := by decide +kernel
theorem lit_22 : litAll 45056 2048 = true := by decide +kernel
theorem lit_23 : litAll 47104 2048 = true := by decide +kernel

end Cert.Proof

end
-- ==== Proof.Lit3.lean ====
module

public import proofs.«01_k».proof.Proof.LitDef

@[expose] public section

set_option maxRecDepth 16384

noncomputable section

namespace Cert.Proof

theorem lit_24 : litAll 49152 2048 = true := by decide +kernel
theorem lit_25 : litAll 51200 2048 = true := by decide +kernel
theorem lit_26 : litAll 53248 2048 = true := by decide +kernel
theorem lit_27 : litAll 55296 2048 = true := by decide +kernel
theorem lit_28 : litAll 57344 2048 = true := by decide +kernel
theorem lit_29 : litAll 59392 2048 = true := by decide +kernel
theorem lit_30 : litAll 61440 2048 = true := by decide +kernel
theorem lit_31 : litAll 63488 2048 = true := by decide +kernel

end Cert.Proof

end
-- ==== Proof.Lit4.lean ====
module

public import proofs.«01_k».proof.Proof.LitDef

@[expose] public section

set_option maxRecDepth 16384

noncomputable section

namespace Cert.Proof

theorem lit_32 : litAll 65536 2048 = true := by decide +kernel
theorem lit_33 : litAll 67584 2048 = true := by decide +kernel
theorem lit_34 : litAll 69632 2048 = true := by decide +kernel
theorem lit_35 : litAll 71680 2048 = true := by decide +kernel
theorem lit_36 : litAll 73728 2048 = true := by decide +kernel
theorem lit_37 : litAll 75776 2048 = true := by decide +kernel
theorem lit_38 : litAll 77824 2048 = true := by decide +kernel
theorem lit_39 : litAll 79872 2048 = true := by decide +kernel

end Cert.Proof

end
-- ==== Proof.Lit.lean ====
module

public import proofs.«01_k».proof.Proof.Lit0
public import proofs.«01_k».proof.Proof.Lit1
public import proofs.«01_k».proof.Proof.Lit2
public import proofs.«01_k».proof.Proof.Lit3
public import proofs.«01_k».proof.Proof.Lit4

@[expose] public section

set_option maxRecDepth 16384

noncomputable section

namespace Cert.Proof

theorem lit_blocks : ∀ b : Fin 40, litAll (b.val * 2048) 2048 = true
  | ⟨0, _⟩ => lit_0
  | ⟨1, _⟩ => lit_1
  | ⟨2, _⟩ => lit_2
  | ⟨3, _⟩ => lit_3
  | ⟨4, _⟩ => lit_4
  | ⟨5, _⟩ => lit_5
  | ⟨6, _⟩ => lit_6
  | ⟨7, _⟩ => lit_7
  | ⟨8, _⟩ => lit_8
  | ⟨9, _⟩ => lit_9
  | ⟨10, _⟩ => lit_10
  | ⟨11, _⟩ => lit_11
  | ⟨12, _⟩ => lit_12
  | ⟨13, _⟩ => lit_13
  | ⟨14, _⟩ => lit_14
  | ⟨15, _⟩ => lit_15
  | ⟨16, _⟩ => lit_16
  | ⟨17, _⟩ => lit_17
  | ⟨18, _⟩ => lit_18
  | ⟨19, _⟩ => lit_19
  | ⟨20, _⟩ => lit_20
  | ⟨21, _⟩ => lit_21
  | ⟨22, _⟩ => lit_22
  | ⟨23, _⟩ => lit_23
  | ⟨24, _⟩ => lit_24
  | ⟨25, _⟩ => lit_25
  | ⟨26, _⟩ => lit_26
  | ⟨27, _⟩ => lit_27
  | ⟨28, _⟩ => lit_28
  | ⟨29, _⟩ => lit_29
  | ⟨30, _⟩ => lit_30
  | ⟨31, _⟩ => lit_31
  | ⟨32, _⟩ => lit_32
  | ⟨33, _⟩ => lit_33
  | ⟨34, _⟩ => lit_34
  | ⟨35, _⟩ => lit_35
  | ⟨36, _⟩ => lit_36
  | ⟨37, _⟩ => lit_37
  | ⟨38, _⟩ => lit_38
  | ⟨39, _⟩ => lit_39
  | ⟨n + 40, h⟩ => absurd h (by omega)

/-- The table of clipped positions in closed form. -/
theorem lit_eq (n : Nat) (hn : n < 81920) :
    (Cert.KernelIdeal.lit0t n).toNat = min 256 (640 + n / 640 - n % 640) := by
  have h := litOk_of_litAll (n / 2048 * 2048) 2048 (lit_blocks ⟨n / 2048, by omega⟩) (n % 2048) (Nat.mod_lt _ (by norm_num))
  rw [Nat.mul_comm, Nat.div_add_mod] at h
  exact Nat.eq_of_beq_eq_true h

end Cert.Proof

end
-- ==== Proof.Bias.lean ====
/- The expanded bias table the first call builds: one entry per query row and window position. -/
module

public import proofs.«01_k».proof.Proof.Value
public import proofs.«01_k».proof.Proof.Lit
public import Idealize.ShloMosaic.Lib.KernelVsHost

@[expose] public section

set_option maxRecDepth 16384

noncomputable section

namespace Cert.Proof

open Idealize.ShloMosaic Idealize.ShloMosaic.TcCoe Idealize.SL.Sem Cert.KernelIdeal Cert.KernelIdeal.Gen

variable (V : (c : Dev nD) → (b : Ref sig .tc) → Buf (Elt Ideal) ((c : Thread nD τ).loc b))

theorem jx0 : ∀ t : Fin cfg0.N, win0_0.index t = ![0, 0] := (by decide +kernel : ∀ t : Fin grid0.N, win0_0.index t = ![0, 0])
theorem jx1 : ∀ t : Fin cfg0.N, win0_1.index t = ![0, t.val] := (by decide +kernel : ∀ t : Fin grid0.N, win0_1.index t = ![0, t.val])
theorem jx2 : ∀ t : Fin cfg0.N, win0_2.index t = ![0, t.val] := (by decide +kernel : ∀ t : Fin grid0.N, win0_2.index t = ![0, t.val])

/-- The product with the one-hot matrix of a row of positions. -/
theorem pay_apply (x1 : Vec Ideal S1x8192 .i32) (x0 : Vec Ideal S32x384 .f32) (h : Fin 32) (n : Fin 8192) :
    k0_pay1 x1 x0 (ix2 h n) = ∑ k : Fin 384, x0 (ix2 h k) * (if BitVec.ofNat 32 k.val = x1 (ix2 0 n) then 1 else 0) := by
  unfold k0_pay1
  pointwise [dot_S32x384_S384x8192_S32x8192_1_0_0_1_n_n]
  refine Finset.sum_congr rfl fun k _ => congrArg (x0 (ix2 h k) * ·) ?_
  show (((BitVec.setWidth 32 (BitVec.ofBool (BitVec.ofNat 32 k.val == x1 (ix2 0 n)))).toInt : ℝ) : EReal) = _
  by_cases hk : BitVec.ofNat 32 k.val = x1 (ix2 0 n)
  · rw [if_pos hk, hk]; simp
  · rw [if_neg hk, beq_eq_false_iff_ne.2 hk]; simp

/-- … which picks one entry, where the position is one of the row's. -/
theorem pick (f : Fin 384 → EReal) (w : BitVec 32) (p : Fin 384) (hw : w.toNat = p.val) :
    (∑ k : Fin 384, f k * (if BitVec.ofNat 32 k.val = w then 1 else 0)) = f p := by
  rw [Finset.sum_eq_single p]
  · rw [if_pos (BitVec.eq_of_toNat_eq (by rw [hw, BitVec.toNat_ofNat]; have := p.isLt; omega)), mul_one]
  · intro b _ hb
    rw [if_neg, mul_zero]
    intro h
    apply hb
    have := congrArg BitVec.toNat h
    rw [hw, BitVec.toNat_ofNat] at this
    have := b.isLt
    exact Fin.ext (by omega)
  · intro h; exact absurd (Finset.mem_univ _) h

theorem out0_apply (x0 : Vec Ideal S32x384 .f32) (x1 : Vec Ideal S1x8192 .i32) : out0_2 x0 x1 = k0_pay1 x1 x0 := by
  unfold out0_2
  rw [View.canon_unit_zero (by funext a; match a with | ⟨0, _⟩ => rfl | ⟨1, _⟩ => rfl), View.ld_unit_zero (by funext a; match a with | ⟨0, _⟩ => rfl | ⟨1, _⟩ => rfl),
    View.ld_unit_zero (by funext a; match a with | ⟨0, _⟩ => rfl | ⟨1, _⟩ => rfl)]

theorem tab_apply (c : Dev nD) (t : Fin cfg0.N) (h : Fin 32) (k : Fin 384) :
    (iblk0 V c 0 t : Vec Ideal S32x384 .f32) (ix2 h k) = V c main_v0 (ix2 h k) := by
  blk_simp [iblk0]
  refine congrArg (V c main_v0) ?_
  blk_ext [jx0]

theorem pos_apply (c : Dev nD) (t : Fin cfg0.N) (n : Fin 8192) (N : Fin 81920) (hN : N.val = 8192 * t.val + n.val) :
    (iblk0 V c 1 t : Vec Ideal S1x8192 .i32) (ix2 0 n) = V c main_c (ix2 0 N) := by
  blk_simp [iblk0]
  refine congrArg (V c main_c) ?_
  blk_ext [jx1]

/-- Entry `(h, N)` of the expanded table, as the product with the one-hot matrix. -/
def bval (T : S32x384.Idx → EReal) (P : S1x81920.Idx → BitVec 32) (h : Fin 32) (N : Fin 81920) : EReal :=
  ∑ k : Fin 384, T (ix2 h k) * (if BitVec.ofNat 32 k.val = P (ix2 0 N) then 1 else 0)

/-- The first call's result: each entry the bias its position names. -/
theorem final0 (c : Dev nD) : (dat0 V c).arrAt 2 cfg0.N = fun i : S32x81920.Idx => bval (V c main_v0) (V c main_c) (i 0) (i 1) := by
  refine (dat0 V c).arrAt_eq_of_covers 2 (fun i : S32x81920.Idx => bval (V c main_v0) (V c main_c) (i 0) (i 1)) (by decide +kernel) fun t hf y => ?_
  blk_simp
  rw [after0_2, out0_apply]
  have hy : ∀ y : S32x8192.Idx, k0_pay1 (iblk0 V c 1 t) (iblk0 V c 0 t) y =
      bval (V c main_v0) (V c main_c) (((win0_2.blk t).view.emb y : S32x81920.Idx) 0) (((win0_2.blk t).view.emb y : S32x81920.Idx) 1) := by
    intro y
    idx_vars y
    have e0 : ((win0_2.blk t).view.emb (ix2 y0 y1) : S32x81920.Idx) 0 = y0 := Fin.ext (by blk_simp [jx2])
    rw [e0]
    refine (pay_apply _ _ y0 y1).trans (Finset.sum_congr rfl fun k _ => ?_)
    rw [tab_apply, pos_apply V c t y1 (((win0_2.blk t).view.emb (ix2 y0 y1) : S32x81920.Idx) 1) (by blk_simp [jx2]; omega)]
  exact hy y

/-! ## The arrays between the calls -/

section
variable (m : (ℓ : Loc nD τ sig) → Buf (Elt Ideal) ℓ) (ρ : Dev nD → PrngReg)

/-- The padded bias table. -/
theorem table_eq (c : Dev nD) : V2 m ρ c main_v0 = pad S32x384 ![0, 0] ![0, 127] ![0, 0] (m ((c : Thread nD τ).loc main_arg1))
    (sitofp (F := Ideal) .f32 (constantI S_ 32 0#32)) pads_S32x257_S32x384_000_01270 h_S_ := rfl

/-- The table of positions. -/
theorem pos_eq (c : Dev nD) : V2 m ρ c main_c = (fun i => lit0 (S1x81920.rowMajor i) : S1x81920.Idx → BitVec 32) := rfl

/-- The expanded bias as the second call reads it. -/
theorem v2_eq (c : Dev nD) : V4 m ρ c main_v2 = shapeCast S32x128x640 (V3 m ρ c main_v1) shapeCasts_S32x81920_S32x128x640 := rfl

/-- The result array as the second call finds it: zero. -/
theorem v4_eq (c : Dev nD) : V4 m ρ c main_v4 = broadcastInDim S8320x4096 ![] bcast_S_S8320x4096 (constant (F := Ideal) S_ .bf16 0x0000#16) := rfl

/-- The second call's projected array is the argument. -/
theorem x_eq (c : Dev nD) : V4 m ρ c main_arg0 = m ((c : Thread nD τ).loc main_arg0) := W4_args m ρ c main_arg0 (by decide)

/-- The entry of the expanded bias under a row and a position. -/
theorem v2_apply (B : S32x81920.Idx → EReal) (h : Fin 32) (r : Fin 128) (w : Fin 640) (hb : 640 * r.val + w.val < 81920) :
    shapeCast S32x128x640 B shapeCasts_S32x81920_S32x128x640 (ix3 h r w) = B (ix2 h ⟨640 * r.val + w.val, hb⟩) := by
  pointwise
  exact congrArg (fun n => B (ix2 h n)) (Fin.ext (by show r.val * 640 + w.val = 640 * r.val + w.val; omega))

theorem lit0_val (i : Fin 81920) : lit0 i = lit0t i.val := rfl

theorem row_val (N : Fin 81920) : (S1x81920.rowMajor (ix2 0 N)).val = N.val := by
  refine (Shape.rowMajor_val_two _).trans ?_
  show 0 * 81920 + N.val = _
  omega

/-- The position the table names for a row and a window position. -/
theorem pos_val (N : Fin 81920) : (lit0 (S1x81920.rowMajor (ix2 0 N))).toNat = min 256 (640 + N.val / 640 - N.val % 640) := by
  refine (congrArg BitVec.toNat (lit0_val _)).trans ?_
  refine (congrArg (fun n => (lit0t n).toNat) (row_val N)).trans ?_
  exact lit_eq N.val N.isLt

/-- The padded table at one of the table's own columns. -/
theorem table_apply (c : Dev nD) (h : Fin 32) (p : Nat) (hp : p < 257) :
    V2 m ρ c main_v0 (ix2 h ⟨p, by omega⟩) = m ((c : Thread nD τ).loc main_arg1) (ix2 h ⟨p, hp⟩) := by
  refine (congrFun (table_eq m ρ c) _).trans ?_
  exact pad_apply_of_inside _ _ _ _ _ _ _ _ (ix2 h ⟨p, hp⟩) (fun a => by
    match a with
    | ⟨0, _⟩ => show h.val = 0 + h.val * 1; omega
    | ⟨1, _⟩ => show p = 0 + p * 1; omega)

/-- The expanded bias in closed form. -/
theorem bias_eq (c : Dev nD) (h : Fin 32) (r : Fin 128) (w : Fin 640) (p : Nat) (hp : p < 257)
    (hpe : p = min 256 (640 + r.val - w.val)) :
    V4 m ρ c main_v2 (ix3 h r w) = m ((c : Thread nD τ).loc main_arg1) (ix2 h ⟨p, hp⟩) := by
  have hr := r.isLt
  have hw := w.isLt
  have hb : 640 * r.val + w.val < 81920 := by omega
  have e1 : V3 m ρ c main_v1 = fun i : S32x81920.Idx => bval (V2 m ρ c main_v0) (V2 m ρ c main_c) (i 0) (i 1) :=
    (W3_arr m ρ c 2).trans (final0 (V2 m ρ) c)
  refine (congrFun (v2_eq m ρ c) _).trans ((v2_apply _ h r w hb).trans ((congrFun e1 _).trans ?_))
  show bval (V2 m ρ c main_v0) (V2 m ρ c main_c) h ⟨640 * r.val + w.val, hb⟩ = _
  refine (pick (fun k => V2 m ρ c main_v0 (ix2 h k)) (V2 m ρ c main_c (ix2 0 ⟨640 * r.val + w.val, hb⟩)) ⟨p, by omega⟩ ?_).trans
    (table_apply m ρ c h p hp)
  refine (congrArg BitVec.toNat (congrFun (pos_eq m ρ c) _)).trans ((pos_val _).trans ?_)
  show min 256 (640 + (640 * r.val + w.val) / 640 - (640 * r.val + w.val) % 640) = p
  rw [show (640 * r.val + w.val) / 640 = r.val by omega, show (640 * r.val + w.val) % 640 = w.val by omega, hpe]

end

end Cert.Proof

end
-- ==== Proof.RefMask.lean ====
/- The reference's integers: the chunk of a position, the mask, and the clipped distance the bias is read at. -/
module

public import proofs.«01_k».proof.Proof.Head
public import proofs.«01_k».proof.Proof.Gen.ReferenceIdeal.Read

@[expose] public section

set_option maxRecDepth 16384

noncomputable section

namespace Cert.Proof

open Idealize.ShloMosaic Idealize.SL.Sem Cert.ReferenceIdeal Cert.ReferenceIdeal.Gen Cert.ReferenceIdeal.Read

/-- Floor division by 64 as the reference spells it. -/
def fl (a : BitVec 32) : BitVec 32 :=
  Scalar.select
    (IntOp.andi (IntOp.cmpi .ne (if a = 0 then 0 else if a.msb then -1 else 1 : BitVec 32) 1#32)
      (IntOp.cmpi .ne (IntOp.remsi .host a 64#32) 0#32))
    (IntOp.subi (IntOp.divsi .host a 64#32) 1#32) (IntOp.divsi .host a 64#32)

theorem fl_eq (n : Nat) (hn : n < 8192) : fl (BitVec.ofNat 32 n) = BitVec.ofNat 32 (n / 64) := by
  have h : ∀ a : Fin 128, ∀ b : Fin 64, fl (BitVec.ofNat 32 (64 * a.val + b.val)) = BitVec.ofNat 32 a.val := by decide +kernel
  have := h ⟨n / 64, by omega⟩ ⟨n % 64, by omega⟩
  dsimp only at this
  rwa [show 64 * (n / 64) + n % 64 = n by omega] at this

/-- The chunk a position lies in. -/
theorem chunk_eq' (i : S8192.Idx) (n : Nat) (hn : (i 0).val = n) : val_main_v17 (F := Ideal) i = BitVec.ofNat 32 (n / 64) := by
  subst hn
  refine Eq.trans ?_ (fl_eq (i 0).val (i 0).isLt)
  simp only [val_main_v17_apply, val_main_call1_v11_apply, val_main_call1_v6_apply, val_main_call1_v10_apply, val_main_call1_v8_apply,
    val_main_call1_v13_apply, val_main_call1_v2_apply, val_main_call1_v12_apply, val_main_call1_v9_apply, val_main_call1_v7_apply,
    val_main_call1_v5_apply, val_main_call1_v1_apply, val_main_call1_v0_apply]
  have e4 : ∀ j, val_main_call1_v4 (F := Ideal) j = 1#32 := fun j => by
    show (if (64#32 : BitVec 32) = 0 then 0 else if (64#32 : BitVec 32).msb then -1 else 1 : BitVec 32) = 1#32
    decide
  rw [e4]
  rfl

theorem nat_int (n : Nat) (hn : n < 8192) : (BitVec.ofNat 32 n).toInt = n :=
  toInt_of _ _ (ofInt_nat n) (by omega) (by omega)

/-- A key is seen by a query: its chunk is at most the query's and at most eight before it. -/
def sees (q k : Fin 8192) : Prop := k.val / 64 ≤ q.val / 64 ∧ q.val / 64 ≤ k.val / 64 + 8

instance (q k : Fin 8192) : Decidable (sees q k) := by unfold sees; infer_instance

theorem mask_ref (q k : Fin 8192) : val_main_v30 (F := Ideal) (ix2 q k) = 1 ↔ sees q k := by
  have hq := q.isLt
  have hk := k.isLt
  have e1 : val_main_v20 (F := Ideal) (ix2 q k) = BitVec.ofNat 32 (k.val / 64) := by
    rw [val_main_v20_apply, val_main_v18_apply]; exact chunk_eq' _ _ rfl
  have e2 : val_main_v21 (F := Ideal) (ix2 q k) = BitVec.ofNat 32 (q.val / 64) := by
    rw [val_main_v21_apply, val_main_v19_apply]; exact chunk_eq' _ _ rfl
  have e3 : val_main_v27 (F := Ideal) (ix2 q k) = BitVec.ofNat 32 (k.val / 64) := by
    rw [val_main_v27_apply, val_main_v23_apply]; exact chunk_eq' _ _ rfl
  have e4 : val_main_v28 (F := Ideal) (ix2 q k) = IntOp.subi (BitVec.ofNat 32 (q.val / 64)) 8#32 := by
    rw [val_main_v28_apply, val_main_v26_apply, val_main_v24_apply, val_main_v25_apply]
    exact congrArg (fun z => IntOp.subi z 8#32) (chunk_eq' _ _ rfl)
  rw [val_main_v30_apply, andi_one, val_main_v22_apply, val_main_v29_apply, sle_one, sge_one, e1, e2, e3, e4,
    subi8 _ _ (nat_int _ (by omega)) (by omega) (by omega), nat_int _ (by omega), nat_int _ (by omega), sees]
  omega

/-- The place in the bias row: the distance clipped to 128 either way, counted from 128 before. -/
def place (q k : Fin 8192) : Nat := min 256 (128 + q.val - k.val)

theorem place_lt (q k : Fin 8192) : place q k < 257 := by unfold place; omega

/-- The distance clipped and shifted, as words. -/
def clipped (a : BitVec 32) : BitVec 32 :=
  IntOp.addi (IntOp.minsi 128#32 (IntOp.maxsi 4294967168#32 a)) 128#32

theorem clipped_eq (a : BitVec 32) (z : Int) (h : a.toInt = z) :
    (clipped a).toInt = min 128 (max (-128) z) + 128 := by
  subst h
  unfold clipped IntOp.minsi IntOp.maxsi
  have c1 : (4294967168#32 : BitVec 32).toInt = -128 := by decide
  have c2 : (128#32 : BitVec 32).toInt = 128 := by decide
  have key : ∀ b : BitVec 32, -128 ≤ b.toInt → b.toInt ≤ 128 → (IntOp.addi b 128#32).toInt = b.toInt + 128 := by
    intro b h1 h2
    show (b + 128#32).toInt = _
    rw [BitVec.toInt_add, c2, Int.bmod_eq_of_le] <;> omega
  simp only [BitVec.slt_eq_decide, c1, c2, decide_eq_true_eq]
  by_cases h1 : a.toInt < -128
  · rw [if_pos h1, c1, if_neg (by omega), key _ (by omega) (by omega), c1]; omega
  · rw [if_neg h1]
    by_cases h2 : 128 < a.toInt
    · rw [if_pos h2, key _ (by omega) (by omega), c2]; omega
    · rw [if_neg h2, key _ (by omega) (by omega)]; omega

theorem v16_eq (q k : Fin 8192) : (val_main_v16 (F := Ideal) (ix2 q k)).toInt = place q k := by
  have hq := q.isLt
  have hk := k.isLt
  have e : val_main_v13 (F := Ideal) (ix2 q k) = IntOp.subi (BitVec.ofNat 32 q.val) (BitVec.ofNat 32 k.val) := by
    rw [val_main_v13_apply, val_main_v11_apply, val_main_v12_apply, val_main_v9_apply, val_main_v10_apply]; rfl
  have d : (val_main_v13 (F := Ideal) (ix2 q k)).toInt = (q.val : Int) - k.val := by
    rw [e]
    show (BitVec.ofNat 32 q.val - BitVec.ofNat 32 k.val).toInt = _
    rw [BitVec.toInt_sub, nat_int _ hq, nat_int _ hk, Int.bmod_eq_of_le] <;> omega
  have f : val_main_v16 (F := Ideal) (ix2 q k) = clipped (val_main_v13 (F := Ideal) (ix2 q k)) := by
    rw [val_main_v16_apply, val_main_v14_apply, val_main_call0_v2_apply, val_main_v15_apply, val_main_call0_v4_apply,
      val_main_call0_v1_apply]; rfl
  rw [f, clipped_eq _ _ d, place]
  omega

theorem v38_eq (q k : Fin 8192) : (val_main_v38 (F := Ideal) (ix2 q k)).toInt = place q k := by
  have h := v16_eq q k
  have n : val_main_v35 (F := Ideal) (ix2 q k) = 0 := by
    rw [val_main_v35_apply, val_main_v34_apply]
    show BitVec.ofBool ((val_main_v16 (F := Ideal) (ix2 q k)).slt 0#32) = 0
    rw [BitVec.slt_eq_decide, h, show (0#32 : BitVec 32).toInt = 0 from rfl, decide_eq_false (by omega)]; rfl
  rw [val_main_v38_apply, n]
  exact h

abbrev gd := gather_S32x257_S8192x8192x1_S32x8192x8192_0_1_n_n_1_2_321

/-- The bias of a head for a query and a key. -/
theorem v40_eq (x1 : S32x257.Idx → EReal) (h : Fin 32) (q k : Fin 8192) :
    val_main_v40 (F := Ideal) x1 (ix3 h q k) = x1 (ix2 h ⟨place q k, place_lt q k⟩) := by
  unfold val_main_v40 Host.gather
  refine congrArg x1 (funext fun a => Fin.ext ?_)
  show gd.start (ix3 h q k) val_main_v39 a + gd.batchCoord (ix3 h q k) a + gd.offCoord (ix3 h q k) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start GatherDims.offCoord
    rw [dif_neg (by decide), dif_pos (by decide)]
    show 0 + 0 + h.val = h.val
    omega
  · rw [GatherDims.offCoord_eq_zero _ _ _ (by decide)]
    unfold GatherDims.start
    rw [dif_pos (by decide)]
    have hsi : gd.siIdx (ix3 h q k) ⟨List.idxOf (1 : Fin 2) gd.startIndexMap, by decide⟩ = (ix3 q k 0 : S8192x8192x1.Idx) := by
      funext b; refine Fin.ext ?_
      match b with
      | ⟨0, _⟩ => rfl
      | ⟨1, _⟩ => rfl
      | ⟨2, _⟩ => rfl
    have hv : (val_main_v39 (F := Ideal) (ix3 q k 0 : S8192x8192x1.Idx)).toInt = place q k := by
      rw [val_main_v39_apply]
      refine Eq.trans (congrArg (fun j => (val_main_v38 (F := Ideal) j).toInt) ?_) (v38_eq q k)
      funext b
      match b with
      | ⟨0, _⟩ => rfl
      | ⟨1, _⟩ => rfl
    have hp := place_lt q k
    refine Eq.trans (congrArg (fun j => min (val_main_v39 (F := Ideal) j).toInt.toNat 256 + 0 + 0) hsi) ?_
    dsimp only
    rw [hv]
    show min (Int.toNat (place q k)) 256 + 0 + 0 = place q k
    omega

end Cert.Proof

end
-- ==== Proof.RefVal.lean ====
/- The reference's result at an index: a softmax over all keys, those not seen masked. -/
module

public import proofs.«01_k».proof.Proof.RefMask

@[expose] public section

set_option maxRecDepth 16384

noncomputable section

namespace Cert.Proof

open Idealize.ShloMosaic Idealize.SL.Sem Cert.ReferenceIdeal Cert.ReferenceIdeal.Gen Cert.ReferenceIdeal.Read

variable (X : S8320x12288.Idx → EReal) (B : S32x257.Idx → EReal)

/-- The score of a query and a key in a head, before the mask. -/
def sc (h : Fin 32) (q k : Fin 8192) : EReal :=
  (∑ d : Fin 128, X (ix2 ⟨q.val, by omega⟩ ⟨128 * h.val + d.val, by omega⟩) * X (ix2 ⟨k.val, by omega⟩ ⟨4096 + 128 * h.val + d.val, by omega⟩))
    * Ideal.ofBits .f32 0x3DB504F3#32 + B (ix2 h ⟨place q k, place_lt q k⟩)

/-- The masked score. -/
def rs (h : Fin 32) (q k : Fin 8192) : EReal := if sees q k then sc X B h q k else ⊥

theorem q_ref (q : Fin 8192) (h : Fin 32) (d : Fin 128) :
    val_main_v5 (F := Ideal) X (ix3 q h d) = X (ix2 ⟨q.val, by omega⟩ ⟨128 * h.val + d.val, by omega⟩) := by
  rw [val_main_v5_apply, val_main_v2_apply, val_main_v1_apply, val_main_v0_apply]
  refine congrArg X (funext fun a => Fin.ext ?_)
  have hh := h.isLt
  have hd := d.isLt
  match a with
  | ⟨0, _⟩ => show ((q.val * 32 + h.val) * 128 + d.val) / 4096 = q.val; omega
  | ⟨1, _⟩ => show ((q.val * 32 + h.val) * 128 + d.val) % 4096 = 128 * h.val + d.val; omega

theorem k_ref (k : Fin 8192) (h : Fin 32) (d : Fin 128) :
    val_main_v6 (F := Ideal) X (ix3 k h d) = X (ix2 ⟨k.val, by omega⟩ ⟨4096 + 128 * h.val + d.val, by omega⟩) := by
  rw [val_main_v6_apply, val_main_v3_apply, val_main_v1_apply, val_main_v0_apply]
  refine congrArg X (funext fun a => Fin.ext ?_)
  have hh := h.isLt
  have hd := d.isLt
  match a with
  | ⟨0, _⟩ => show ((k.val * 32 + h.val) * 128 + d.val) / 4096 = k.val; omega
  | ⟨1, _⟩ => show 4096 + ((k.val * 32 + h.val) * 128 + d.val) % 4096 = 4096 + 128 * h.val + d.val; omega

theorem v_ref (k : Fin 8192) (h : Fin 32) (d : Fin 128) :
    val_main_v7 (F := Ideal) X (ix3 k h d) = X (ix2 ⟨k.val, by omega⟩ ⟨8192 + 128 * h.val + d.val, by omega⟩) := by
  rw [val_main_v7_apply, val_main_v4_apply, val_main_v1_apply, val_main_v0_apply]
  refine congrArg X (funext fun a => Fin.ext ?_)
  have hh := h.isLt
  have hd := d.isLt
  match a with
  | ⟨0, _⟩ => show ((k.val * 32 + h.val) * 128 + d.val) / 4096 = k.val; omega
  | ⟨1, _⟩ => show 8192 + ((k.val * 32 + h.val) * 128 + d.val) % 4096 = 8192 + 128 * h.val + d.val; omega

theorem ix3_eta {n0 n1 n2 : Nat} (i : (⟨3, ![n0, n1, n2]⟩ : Shape).Idx) (a : Fin n0) (b : Fin n1) (c : Fin n2)
    (h0 : (i 0).val = a.val) (h1 : (i 1).val = b.val) (h2 : (i 2).val = c.val) : i = ix3 a b c := funext fun x => Fin.ext (by
  match x with
  | ⟨0, _⟩ => exact h0
  | ⟨1, _⟩ => exact h1
  | ⟨2, _⟩ => exact h2)

theorem v33_eq (h : Fin 32) (q k : Fin 8192) :
    val_main_v33 (F := Ideal) X (ix3 h q k) = (∑ d : Fin 128, X (ix2 ⟨q.val, by omega⟩ ⟨128 * h.val + d.val, by omega⟩) * X (ix2 ⟨k.val, by omega⟩ ⟨4096 + 128 * h.val + d.val, by omega⟩))
    * Ideal.ofBits .f32 0x3DB504F3#32 := by
  rw [val_main_v33_apply, val_main_v31_apply, val_main_v32_apply]
  refine congrArg (· * Ideal.ofBits .f32 0x3DB504F3#32) (Finset.sum_congr rfl fun d _ => ?_)
  rw [ix3_eta (lidx_main_v31 (ix3 h q k) d) q h d rfl rfl rfl, ix3_eta (ridx_main_v31 (ix3 h q k) d) k h d rfl rfl rfl, q_ref, k_ref]

theorem v43_eq (h : Fin 32) (q k : Fin 8192) : val_main_v43 (F := Ideal) X B (ix3 h q k) = rs X B h q k := by
  have em : val_main_call2_v1 (F := Ideal) (ix3 h q k) = val_main_v30 (F := Ideal) (ix2 q k) := by
    rw [val_main_call2_v1_apply, val_main_v42_apply]
    refine congrArg (val_main_v30 (F := Ideal)) (funext fun a => ?_)
    match a with
    | ⟨0, _⟩ => rfl
    | ⟨1, _⟩ => rfl
  have es : val_main_v41 (F := Ideal) X B (ix3 h q k) = sc X B h q k := by
    rw [val_main_v41_apply, v33_eq, v40_eq]; rfl
  have eb : val_main_call2_v2 (F := Ideal) (ix3 h q k) = (⊥ : EReal) := by
    rw [val_main_call2_v2_apply]; exact neg_inf
  rw [val_main_v43_apply, em, es, eb, rs]
  by_cases hs : sees q k
  · rw [if_pos hs, (mask_ref q k).2 hs]; rfl
  · rw [if_neg hs]
    have : val_main_v30 (F := Ideal) (ix2 q k) = 0 := by
      have hn := mt (mask_ref q k).1 hs
      revert hn
      generalize val_main_v30 (F := Ideal) (ix2 q k) = w
      revert w
      decide
    rw [this]; rfl

theorem red3 : S32x8192x8192.Reduces [2] S32x8192 := by decide

theorem v44_eq (h : Fin 32) (q : Fin 8192) : val_main_v44 (F := Ideal) X B (ix2 h q) = top (rs X B h q) := by
  unfold val_main_v44
  refine (Host.reduce_eq_fold_single (FloatOps.maximumf (F := Ideal) (φ := .f32)) _ _ _ red3 h_S_ _).trans ?_
  have e : (val_main_v43 (F := Ideal) X B ∘ red3.lift (ix2 h q)) = rs X B h q := funext fun k => by
    refine Eq.trans (congrArg (val_main_v43 (F := Ideal) X B) (ix3_eta _ h q k rfl rfl rfl)) (v43_eq X B h q k)
  rw [e]
  show Finset.univ.fold max (Ideal.ofBits .f32 0xFF800000#32) (rs X B h q) = top (rs X B h q)
  rw [neg_inf]; rfl

theorem v50_eq (h : Fin 32) (q k : Fin 8192) : val_main_v50 (F := Ideal) X B (ix3 h q k) = wt (rs X B h q) k := by
  have e : val_main_v48 (F := Ideal) X B (ix3 h q k) = top (rs X B h q) := by
    rw [val_main_v48_apply, val_main_v47_apply]
    have hi : (idx_main_v47 (idx_main_v48 (ix3 h q k))) = ix2 h q := funext fun a => by
      match a with
      | ⟨0, _⟩ => rfl
      | ⟨1, _⟩ => rfl
    rw [hi, val_main_v46_apply, v44_eq, val_main_v45_apply]
    show max (Ideal.ofBits .f32 0xFF800000#32) (top (rs X B h q)) = top (rs X B h q)
    rw [neg_inf]; exact max_eq_right bot_le
  rw [val_main_v50_apply, val_main_v49_apply, e, v43_eq]; rfl

theorem v54_eq (h : Fin 32) (q k : Fin 8192) :
    val_main_v54 (F := Ideal) X B (ix3 h q k) = Ideal.div (wt (rs X B h q) k) (∑ j, wt (rs X B h q) j) := by
  have e : val_main_v53 (F := Ideal) X B (ix3 h q k) = ∑ j, wt (rs X B h q) j := by
    rw [val_main_v53_apply, val_main_v52_apply, val_main_v51_apply]
    have h0 : (val_main_cst_9 (F := Ideal)) (Shape.Idx.first h_S_) = (0 : EReal) := by
      show Ideal.ofBits .f32 0x00000000#32 = 0
      simp [Ideal.ofBits, Ideal.ieee]
    rw [h0, zero_add]
    refine Finset.sum_congr rfl fun j _ => ?_
    exact (congrArg (val_main_v50 (F := Ideal) X B) (ix3_eta _ h q j rfl rfl rfl)).trans (v50_eq X B h q j)
  rw [val_main_v54_apply, v50_eq, e]; rfl

/-- The reference's attended value in a row below 8192. -/
theorem v57_eq (q : Fin 8192) (C : Fin 4096) :
    val_main_v57 (F := Ideal) X B (ix2 q C)
      = soft (rs X B ⟨C.val / 128, by omega⟩ q) (fun k => X (ix2 ⟨k.val, by omega⟩ ⟨8192 + C.val, by omega⟩)) := by
  have hC := C.isLt
  have hq := q.isLt
  rw [val_main_v57_apply, val_main_v56_apply, val_main_v55_apply]
  refine Finset.sum_congr rfl fun k _ => ?_
  rw [ix3_eta (lidx_main_v55 (idx_main_v56 (idx_main_v57 (ix2 q C))) k) k ⟨C.val / 128, by omega⟩ ⟨C.val % 128, by omega⟩ rfl
      (by show (q.val * 4096 + C.val) / 128 % 32 = C.val / 128; omega)
      (by show (q.val * 4096 + C.val) % 128 = C.val % 128; omega),
    ix3_eta (ridx_main_v55 (idx_main_v56 (idx_main_v57 (ix2 q C))) k) ⟨C.val / 128, by omega⟩ q k
      (by show (q.val * 4096 + C.val) / 128 % 32 = C.val / 128; omega)
      (by show (q.val * 4096 + C.val) / 4096 = q.val; omega) rfl,
    v_ref, v54_eq, mul_comm]
  refine congrArg (_ * ·) (congrArg X (funext fun a => Fin.ext ?_))
  match a with
  | ⟨0, _⟩ => rfl
  | ⟨1, _⟩ => show 8192 + 128 * (C.val / 128) + C.val % 128 = 8192 + C.val; omega

/-- The reference's result. -/
theorem v60_eq (R : Fin 8320) (C : Fin 4096) :
    val_main_v60 (F := Ideal) X B (ix2 R C) = if h : R.val < 8192 then
      soft (rs X B ⟨C.val / 128, by omega⟩ ⟨R.val, h⟩) (fun k => X (ix2 ⟨k.val, by omega⟩ ⟨8192 + C.val, by omega⟩)) else 0 := by
  rw [val_main_v60_apply]
  show val_main_v59 (F := Ideal) X B (ix2 R C) = _
  unfold val_main_v59
  have hR := R.isLt
  by_cases h : R.val < 8192
  · rw [dif_pos h]
    refine (concatenate_pair_apply_left (t := S8320x4096) (s₁ := S8192x4096) (s₂ := S128x4096) 0 _ _ _ _ rfl (ix2 ⟨R.val, h⟩ C) (fun b => ?_)).trans (v57_eq X B ⟨R.val, h⟩ C)
    match b with
    | ⟨0, _⟩ => rfl
    | ⟨1, _⟩ => rfl
  · rw [dif_neg h]
    refine (concatenate_pair_apply_right (t := S8320x4096) (s₁ := S8192x4096) (s₂ := S128x4096) 0 _ _ _ _ rfl rfl (ix2 ⟨R.val - 8192, by omega⟩ C) (fun b hb => ?_) ?_).trans ?_
    · match b with
      | ⟨0, _⟩ => exact absurd rfl hb
      | ⟨1, _⟩ => rfl
    · show R.val - 8192 + 8192 = R.val; omega
    · rw [val_main_v58_apply]
      show Ideal.ofBits .f32 0x00000000#32 = 0
      simp [Ideal.ofBits, Ideal.ieee]

end Cert.Proof

end
-- ==== Proof.Meet.lean ====
/- The two programs meet: the window of five blocks of keys gives what all keys give under the mask. -/
module

public import proofs.«01_k».proof.Proof.Bias
public import proofs.«01_k».proof.Proof.RefVal

@[expose] public section

set_option maxRecDepth 16384

noncomputable section

namespace Cert.Proof

open Idealize.ShloMosaic

/-- A number that is neither infinity. -/
def real (x : EReal) : Prop := ∃ r : ℝ, x = (r : EReal)

theorem real_add {x y : EReal} (hx : real x) (hy : real y) : real (x + y) := by
  obtain ⟨a, rfl⟩ := hx
  obtain ⟨b, rfl⟩ := hy
  exact ⟨a + b, (EReal.coe_add a b).symm⟩

theorem real_mul {x y : EReal} (hx : real x) (hy : real y) : real (x * y) := by
  obtain ⟨a, rfl⟩ := hx
  obtain ⟨b, rfl⟩ := hy
  exact ⟨a * b, (EReal.coe_mul a b).symm⟩

theorem real_sum {ι : Type} (s : Finset ι) (f : ι → EReal) (hf : ∀ i, real (f i)) : real (∑ i ∈ s, f i) := by
  classical
  refine Finset.induction_on s ⟨0, by simp⟩ fun a t ha ih => ?_
  rw [Finset.sum_insert ha]
  exact real_add (hf a) ih

theorem real_scale : real (Ideal.ofBits .f32 0x3DB504F3#32) := by
  unfold real
  simp only [Ideal.ofBits, Ideal.ieee]
  exact ⟨_, rfl⟩

variable (X : Cert.KernelIdeal.S8320x12288.Idx → EReal) (B : Cert.ReferenceIdeal.S32x257.Idx → EReal)

theorem real_sc (hX : ∀ i, real (X i)) (hB : ∀ i, real (B i)) (h : Fin 32) (q k : Fin 8192) : real (sc X B h q k) :=
  real_add (real_mul (real_sum _ _ fun _ => real_mul (hX _) (hX _)) real_scale) (hB _)

/-- The key a window position holds. -/
def key (R : Fin 8320) (w : Fin 640) (hR : R.val < 8192) : Fin 8192 := ⟨128 * (R.val / 128) + w.val - 512, by omega⟩

theorem krow_eq (R : Fin 8320) (w : Fin 640) (hR : R.val < 8192) (hw : inwin R w) (h : (key R w hR).val < 8320) :
    krow R w = ⟨(key R w hR).val, h⟩ := by
  have h1 := hw.1
  have h2 := w.isLt
  refine Fin.ext ?_
  show (R.val / 128 + w.val / 128 - 4) * 128 + w.val % 128 = 128 * (R.val / 128) + w.val - 512
  omega

/-- Attention over the window is attention over all keys. -/
theorem meet (Bx : Cert.KernelIdeal.S32x128x640.Idx → EReal) (hX : ∀ i, real (X i)) (hB : ∀ i, real (B i))
    (hBx : ∀ (h : Fin 32) (r : Fin 128) (w : Fin 640) (p : Nat) (hp : p < 257), p = min 256 (640 + r.val - w.val) →
      Bx (ix3 h r w) = B (ix2 h ⟨p, hp⟩))
    (R : Fin 8320) (C : Fin 4096) (hR : R.val < 8192) :
    kval X Bx R C = soft (rs X B ⟨C.val / 128, by omega⟩ ⟨R.val, hR⟩)
      (fun k => X (ix2 ⟨k.val, by omega⟩ ⟨8192 + C.val, by omega⟩)) := by
  have hC := C.isLt
  unfold kval
  refine soft_window _ _ _ _ (sees ⟨R.val, hR⟩) (inwin R) (fun w => key R w hR) (fun i hi => if_neg hi) (fun w hw => if_neg hw)
    (fun w hw => hw.2) (fun w hw => ?_) (fun w hw => ?_) (fun w w' hw hw' e => ?_) (fun i hi => ?_) ?_ (fun i => ?_)
  · have hs : sees ⟨R.val, hR⟩ (key R w hR) := hw.2
    have h1 := hw.1
    rw [rs, if_pos hw, if_pos hs, sc, krow_eq R w hR hw (by omega)]
    have e0 : ∀ d : Fin 128, hc 0 C d = ⟨128 * (C.val / 128) + d.val, by omega⟩ := fun d => Fin.ext (by
      show 4096 * 0 + 128 * (C.val / 128) + d.val = 128 * (C.val / 128) + d.val; omega)
    have e1 : ∀ d : Fin 128, hc 1 C d = ⟨4096 + 128 * (C.val / 128) + d.val, by omega⟩ := fun d => Fin.ext (by
      show 4096 * 1 + 128 * (C.val / 128) + d.val = 4096 + 128 * (C.val / 128) + d.val; omega)
    simp only [e0, e1]
    refine congrArg (_ + ·) (hBx _ _ _ _ _ ?_)
    show min 256 (128 + R.val - (128 * (R.val / 128) + w.val - 512)) = min 256 (640 + R.val % 128 - w.val)
    omega
  · rw [krow_eq R w hR hw (by omega)]
  · have e' := congrArg Fin.val e
    have h1 := hw.1
    have h1' := hw'.1
    refine Fin.ext ?_
    have e'' : 128 * (R.val / 128) + w.val - 512 = 128 * (R.val / 128) + w'.val - 512 := e'
    omega
  · have h1 : i.val / 64 ≤ R.val / 64 := hi.1
    have h2 : R.val / 64 ≤ i.val / 64 + 8 := hi.2
    refine ⟨⟨i.val + 512 - 128 * (R.val / 128), by omega⟩, ?_, Fin.ext ?_⟩
    · unfold inwin; dsimp only; omega
    · show 128 * (R.val / 128) + (i.val + 512 - 128 * (R.val / 128)) - 512 = i.val; omega
  · refine ⟨⟨R.val, hR⟩, ?_⟩
    rw [rs, if_pos (by unfold sees; dsimp only; omega)]
    obtain ⟨r, hr⟩ := real_sc X B hX hB ⟨C.val / 128, by omega⟩ ⟨R.val, hR⟩ ⟨R.val, hR⟩
    rw [hr]; exact EReal.coe_ne_bot r
  · rw [rs]
    by_cases hs : sees ⟨R.val, hR⟩ i
    · rw [if_pos hs]
      obtain ⟨r, hr⟩ := real_sc X B hX hB ⟨C.val / 128, by omega⟩ ⟨R.val, hR⟩ i
      rw [hr]; exact EReal.coe_ne_top r
    · rw [if_neg hs]; exact bot_ne_top

end Cert.Proof

end
-- ==== Proof.Run.lean ====
/- What the kernel leaves: the windowed attention of its arguments, in every result element. -/
module

public import proofs.«01_k».proof.Proof.Meet

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The kernel's result: the attention over the window in the rows below 8192, zero in the others. -/
def kres (c : Dev nD) : Buf (Elt Ideal) ((c.tc : Thread nD τ).loc main_v4) := (dat1 (V4 m ρ) c).arrAt 12 cfg1.N

set_option backward.isDefEq.respectTransparency.types false in
/-- The kernel runs, and ends with that result and its arguments as they were. -/
theorem kernel_run : θ_run (defs (F := Ideal)) (onTc (τ := τ) (main (F := Ideal))) ⟨m, fun _ => 0, ρ⟩ (fun r => ∀ c : Dev nD,
      r.2.mem ((c.tc : Thread nD τ).loc main_v4) = kres m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c =>
      ⟨(h c _ (mem_uc main_v4 (by decide))).trans (W5_arr m ρ c 12),
       (h c _ (mem_uc main_arg0 (by decide))).trans (W5_main_arg0 m ρ c),
       (h c _ (mem_uc main_arg1 (by decide))).trans (W5_main_arg1 m ρ c)⟩)

/-- … at an index. -/
theorem kres_apply (c : Dev nD) (R : Fin 8320) (C : Fin 4096) :
    (kres m ρ c : S8320x4096.Idx → EReal) (ix2 R C) = if R.val < 8192 then
      kval (m ((c : Thread nD τ).loc main_arg0)) (V4 m ρ c main_v2) R C else 0 := by
  refine (congrFun (final (V4 m ρ) c) (ix2 R C)).trans ?_
  show (if R.val / 128 < 64 then kval (V4 m ρ c main_arg0) (V4 m ρ c main_v2) R C else V4 m ρ c main_v4 (ix2 R C)) = _
  by_cases h : R.val < 8192
  · rw [if_pos h, if_pos (by omega), x_eq]
  · rw [if_neg h, if_neg (by omega), v4_eq]
    show Ideal.ofBits .bf16 0x0000#16 = 0
    simp [Ideal.ofBits, Ideal.ieee]

end Cert.Proof

end
-- ==== Proof.Finite.lean ====
/- What the precondition says: every element of the two arguments is a number. -/
module

public import proofs.«01_k».proof.Proof.Meet
public import proofs.«01_k».proof.Pre_finite
public import Idealize.ShloMosaic.Lib.ReduceAll

@[expose] public section

noncomputable section

namespace Cert.Proof

open Idealize.ShloMosaic Cert.Pre_finite

theorem pre_facts : Cert.Pre_finite.Facts :=
  ⟨by decide, by decide, by decide, by decide, by decide, by decide⟩

theorem pos_inf : Ideal.ofBits .f32 0x7F800000#32 = ⊤ := by simp [Ideal.ofBits, Ideal.ieee]

theorem real_of_lt (x : EReal) (h : BitVec.ofBool (decide (max x (-x) < Ideal.ofBits .f32 0x7F800000#32)) = 1#1) : real x := by
  rw [pos_inf] at h
  have h1 : max x (-x) < ⊤ := by
    by_contra hn
    rw [decide_eq_false hn] at h
    exact absurd h (by decide)
  induction x with
  | bot => simp at h1
  | top => simp at h1
  | coe r => exact ⟨r, rfl⟩

instance : Subsingleton S_.Idx := ⟨fun a b => funext fun x => x.elim0⟩

theorem finite_args [Cert.Pre_finite.Facts] (X : FVec Ideal S8320x12288 .bf16) (B : FVec Ideal S32x257 .f32)
    (h : Cert.Pre_finite.fn (F := Ideal) X B = fun _ => 1#1) : (∀ i, real (X i)) ∧ ∀ i, real (B i) := by
  have h0 := congrFun h (fun a => a.elim0)
  unfold Cert.Pre_finite.fn at h0
  dsimp only at h0
  have h1 := (andi_one _ _).1 h0
  exact ⟨fun i => real_of_lt _ (Host.reduce_andi_all _ _ _ _ _ h1.1 i), fun i => real_of_lt _ (Host.reduce_andi_all _ _ _ _ _ h1.2 i)⟩

end Cert.Proof

end
-- ==== Proof.SwigluRun.lean ====
/- The call on any values: the tables the host builds, the body at one point of the grid, and the whole run. -/
module

public import proofs.«01_k».proof.Proof.Gen.Swiglu.Launch
public import proofs.«01_k».proof.Proof.Gen.Swiglu.Skeleton
public import proofs.«01_k».proof.Proof.Gen.Swiglu.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.VecWindow
public import Idealize.ShloMosaic.Lib.WholeRead

@[expose] public section

set_option maxRecDepth 16384

noncomputable section

namespace Cert.Proof.Swiglu

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Swiglu Cert.Swiglu.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! Staging memrefs and bodies at a point. -/

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)

abbrev bodyAt0 (a : (pcfg0 (F := F)).Adm) (t : Fin (cfg0 a).N) : Prog (TpuEff nD τ sig (Elt F) Λ₀ .tc) PUnit :=
  cc0_rg_swiglu (grid0.coords t) (Memref.whole main_v0) (Memref.isWhole_whole _) (Memref.whole main_v1) (Memref.isWhole_whole _) (Memref.whole main_v2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3))

/-! @main up to the call. -/

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! The tables. -/

def tbl : pre0.Contents (Elt F) := fun j => V m (0 : Dev nD) (pre0.ref j)
theorem V_pre (c : Dev nD) (j : Fin 3) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S4 .i32 := Memref.whole main_v0
abbrev htbM0_0 : tbM0_0.IsWhole := Memref.isWhole_whole _
abbrev tbM0_1 : Memref sig .tc .smem S4 .i32 := Memref.whole main_v1
abbrev htbM0_1 : tbM0_1.IsWhole := Memref.isWhole_whole _
abbrev tbM0_2 : Memref sig .tc .smem S4 .i32 := Memref.whole main_v2
abbrev htbM0_2 : tbM0_2.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! The blocks. -/

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! The arguments end as they were. -/

theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c))⟩) h

abbrev ms0_0 (hO : Ok m) (t : Fin (cfgM m hO).N) : Memref sig .tc .vmem S2080x4096 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x4096x256 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x4096x256 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S2080x256 .bf16 := spec0_3.stage ((cfgM m hO).slots t 3)
abbrev hs0_3 (hO : Ok m) (t : Fin (cfgM m hO).N) : (ms0_3 m hO t).IsWhole := hstage0_3 (((cfgM m hO).slots t 3).cast nbuf0_3)

/-! What the tables hold. -/

/-- Every group uses the first weights. -/
theorem tbl_e (i : S4.Idx) : (tbl m 0 : S4.Idx → BitVec 32) i = 0#32 := by
  unfold tbl V hostOps0
  after_results
  all_goals rfl
/-- Group `i` begins at block `i`. -/
theorem tbl_st (i : S4.Idx) : (tbl m 1 : S4.Idx → BitVec 32) i = BitVec.ofNat 32 (i 0).val := by
  unfold tbl V hostOps0
  after_results
  all_goals rfl
/-- Every group has one live block. -/
theorem tbl_nb (i : S4.Idx) : (tbl m 2 : S4.Idx → BitVec 32) i = 1#32 := by
  unfold tbl V hostOps0
  after_results
  all_goals rfl

/-- A word of the first table. -/
theorem at_e (R : Rect S4) (h : R.shape.numel = 1) : (tbl m).at 0 R h = (0#32 : BitVec 32) := tbl_e m _
/-- A word of the second. -/
theorem at_st (R : Rect S4) (h : R.shape.numel = 1) : (tbl m).at 1 R h = BitVec.ofNat 32 (R.emb (Shape.Idx.first (h.symm ▸ Nat.one_pos)) 0).val := tbl_st m _
/-- A word of the third. -/
theorem at_nb (R : Rect S4) (h : R.shape.numel = 1) : (tbl m).at 2 R h = (1#32 : BitVec 32) := tbl_nb m _
/-- The word the body reads. -/
theorem word (i : grid0.Coords) : (tbM0_2.view.readAt (Elt F) (Rect.unit (s := S4) (k0_off1 i) S1.size (k0_off1_inb i)).toLoadRect (tbl m 2) (Shape.Idx.first (numel1_S1.symm ▸ Nat.one_pos))) = (1#32 : BitVec 32) := by
  exact tbl_nb m _
/-- What the body takes for granted of it. -/
theorem chk : k0_chk1 (1#32 : BitVec 32) := by decide +kernel
/-- No piece of the block is cleared. -/
theorem trips1 : (k0_t1_loop (1#32 : BitVec 32)).trips = 0 := by decide +kernel
theorem trips2 : (k0_t2_loop (1#32 : BitVec 32)).trips = 0 := by decide +kernel
/-- Where window 0's block lies at a point of the grid. -/
theorem ix_0 (i : grid0.Coords) : cc0_transform_0 k0_off1_inb numel1_S1 (tbl m) i = ![(i 0).val, 0] := by
  funext a
  match a with
  | ⟨0, _⟩ => exact (congrArg BitVec.toNat (at_st m _ _)).trans (show (BitVec.ofNat 32 ((BitVec.ofNat 32 (i 0).val).toNat + 1 * 0)).toNat = (i 0).val by revert i; decide +kernel)
  | ⟨1, _⟩ => exact rfl
/-- Where window 1's block lies at a point of the grid. -/
theorem ix_1 (i : grid0.Coords) : cc0_transform_1 k0_off1_inb numel1_S1 (tbl m) i = ![0, 0, (i 1).val] := by
  funext a
  match a with
  | ⟨0, _⟩ => exact congrArg BitVec.toNat (at_e m _ _)
  | ⟨1, _⟩ => exact rfl
  | ⟨2, _⟩ => exact (congrArg (fun w : BitVec 32 => ((Scalar.select (Scalar.cmpi .sgt w (0#32)) (BitVec.ofNat 32 (i 1).val) (55#32)) : BitVec 32).toNat) (at_nb m _ _)).trans (show ((Scalar.select (Scalar.cmpi .sgt 1#32 (0#32)) (BitVec.ofNat 32 (i 1).val) (55#32)) : BitVec 32).toNat = (i 1).val by revert i; decide +kernel)
/-- Where window 2's block lies at a point of the grid. -/
theorem ix_2 (i : grid0.Coords) : cc0_transform_2 k0_off1_inb numel1_S1 (tbl m) i = ![0, 0, (i 1).val] := by
  funext a
  match a with
  | ⟨0, _⟩ => exact congrArg BitVec.toNat (at_e m _ _)
  | ⟨1, _⟩ => exact rfl
  | ⟨2, _⟩ => exact (congrArg (fun w : BitVec 32 => ((Scalar.select (Scalar.cmpi .sgt w (0#32)) (BitVec.ofNat 32 (i 1).val) (55#32)) : BitVec 32).toNat) (at_nb m _ _)).trans (show ((Scalar.select (Scalar.cmpi .sgt 1#32 (0#32)) (BitVec.ofNat 32 (i 1).val) (55#32)) : BitVec 32).toNat = (i 1).val by revert i; decide +kernel)
/-- Where window 3's block lies at a point of the grid. -/
theorem ix_3 (i : grid0.Coords) : cc0_transform_3 k0_off1_inb numel1_S1 (tbl m) i = ![(i 0).val, (i 1).val] := by
  funext a
  match a with
  | ⟨0, _⟩ => exact (show (BitVec.ofNat 32 (i 0).val).toNat = (i 0).val by revert i; decide +kernel)
  | ⟨1, _⟩ => exact (show (BitVec.ofNat 32 (i 1).val).toNat = (i 1).val by revert i; decide +kernel)
/-- Every block lies inside its array, and its transfers are of whole words. -/
theorem ok : Ok m :=
  ⟨fun i => by rw [ix_0 m i]; revert i; decide +kernel, fun i => by rw [ix_1 m i]; revert i; decide +kernel, fun i => by rw [ix_2 m i]; revert i; decide +kernel, fun i => by rw [ix_3 m i]; revert i; decide +kernel⟩

set_option maxHeartbeats 1000000 in
/-- The body at a live block: the inputs stay, and each output is the product the body computes from them. -/
theorem body_run (c : Dev nD) (i : grid0.Coords) (arg5 : Memref sig .tc .vmem S2080x4096 .bf16) (harg5 : arg5.IsWhole) (arg6 : Memref sig .tc .vmem S1x4096x256 .f32) (harg6 : arg6.IsWhole) (arg7 : Memref sig .tc .vmem S1x4096x256 .f32) (harg7 : arg7.IsWhole) (arg8 : Memref sig .tc .vmem S2080x256 .bf16) (harg8 : arg8.IsWhole)
    (x0 : Vec F S2080x4096 .bf16) (x1 : Vec F S1x4096x256 .f32) (x2 : Vec F S1x4096x256 .f32) (xt0 : TbBuf0 (F := F) c tbM0_0) (xt1 : TbBuf0 (F := F) c tbM0_1) (xt2 : TbBuf0 (F := F) c tbM0_2)
    (hw : (tbM0_2.view.readAt (Elt F) (Rect.unit (s := S4) (k0_off1 i) S1.size (k0_off1_inb i)).toLoadRect xt2 (Shape.Idx.first (numel1_S1.symm ▸ Nat.one_pos))) = (1#32 : BitVec 32)) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ (∃ d, owns (c : Thread nD τ) arg8 fullShare d) ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare (k0_pay1 x0 x1 x2) ∗ tbPt0 c tbM0_0 xt0 ∗ tbPt0 c tbM0_1 xt1 ∗ tbPt0 c tbM0_2 xt2) -∗ K ⟨⟩))
          ⊢ wp frame (wpE (defs₀ (F := F)) Variants.none c none) E (cc0_rg_swiglu i tbM0_0 htbM0_0 tbM0_1 htbM0_1 tbM0_2 htbM0_2 arg5 harg5 arg6 harg6 arg7 harg7 arg8 harg8) K := by
  intro E K
  have hc : (Scalar.cmpi .ne (Scalar.extui (Scalar.cmpi .sgt (tbM0_2.view.readAt (Elt F) (Rect.unit (s := S4) (k0_off1 i) S1.size (k0_off1_inb i)).toLoadRect xt2 (Shape.Idx.first (numel1_S1.symm ▸ Nat.one_pos))) 0#32) : BitVec 32) 0#32 : BitVec 1) = 1#1 := by rw [hw]; decide
  have hk : k0_chk1 (tbM0_2.view.readAt (Elt F) (Rect.unit (s := S4) (k0_off1 i) S1.size (k0_off1_inb i)).toLoadRect xt2 (Shape.Idx.first (numel1_S1.symm ▸ Nat.one_pos))) := by rw [hw]; exact chk
  have h1 : (k0_t1_loop (tbM0_2.view.readAt (Elt F) (Rect.unit (s := S4) (k0_off1 i) S1.size (k0_off1_inb i)).toLoadRect xt2 (Shape.Idx.first (numel1_S1.symm ▸ Nat.one_pos)))).trips = 0 := by rw [hw]; exact trips1
  have h2 : (k0_t2_loop (tbM0_2.view.readAt (Elt F) (Rect.unit (s := S4) (k0_off1 i) S1.size (k0_off1_inb i)).toLoadRect xt2 (Shape.Idx.first (numel1_S1.symm ▸ Nat.one_pos)))).trips = 0 := by rw [hw]; exact trips2
  simp only [cc0_rg_swiglu_eq_skeleton]; unfold cc0_rg_swiglu_skel
  unfold owns
  iintro ⟨⟨%f0, %hf0, H0⟩, ⟨%f1, %hf1, H1⟩, ⟨%f2, %hf2, H2⟩, ⟨%d3, %f3, -, H3⟩, HT0, HT1, HT2, Hk⟩
  obtain rfl := harg5.eq_unread hf0; obtain rfl := harg6.eq_unread hf1; obtain rfl := harg7.eq_unread hf2
  sl_exec (disch := first | sl_exact hc | sl_exact hk)
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; · ipureintro; exact harg7.read_unread _
    iexact H2
  isplitl [H3]
  · iexists _; isplitr; swap; · iexact H3
    ipureintro
    rw [show Scf.trips (k0_t2_loop (body_run.sl.r c i xt2)).lb (k0_t2_loop (body_run.sl.r c i xt2)).ub (k0_t2_loop (body_run.sl.r c i xt2)).st = 0 from h2,
      show Scf.trips (k0_t1_loop (body_run.sl.r c i xt2)).lb (k0_t1_loop (body_run.sl.r c i xt2)).ub (k0_t1_loop (body_run.sl.r c i xt2)).st = 0 from h1]
    refine (View.read_writes_full _ _ _ _ _).trans ?_
    exact congr (congr (congrArg k0_pay1 ((View.readAt_full _ _ _).trans (harg5.read_unread _))) ((View.readAt_full _ _ _).trans (harg6.read_unread _))) ((View.readAt_full _ _ _).trans (harg7.read_unread _))
  isplitl [HT0]; · iexact HT0
  isplitl [HT1]; · iexact HT1
  iexact HT2

/-! The run. -/

/-- What the pipeline works with: the arrays at the call, each input's block, each output's block as the body computes it. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => k0_pay1 (F := F) (iblk m hO c 0 t) (iblk m hO c 1 t) (iblk m hO c 2 t)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = k0_pay1 (F := F) (iblk m hO c 0 t) (iblk m hO c 1 t) (iblk m hO c 2 t) := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-- What the body finds at a point, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d)) ∗ (∃ d, owns (c : Thread nD τ) (ms0_1 m hO t) fullShare ((dats m hO 0 c).before 1 t d)) ∗ (∃ d, owns (c : Thread nD τ) (ms0_2 m hO t) fullShare ((dats m hO 0 c).before 2 t d)) ∗ (∃ d, owns (c : Thread nD τ) (ms0_3 m hO t) fullShare ((dats m hO 0 c).before 3 t d)))
/-- and what it leaves. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t) ∗ owns (c : Thread nD τ) (ms0_1 m hO t) fullShare ((dats m hO 0 c).after 1 t) ∗ owns (c : Thread nD τ) (ms0_2 m hO t) fullShare ((dats m hO 0 c).after 2 t) ∗ owns (c : Thread nD τ) (ms0_3 m hO t) fullShare ((dats m hO 0 c).after 3 t))

set_option maxHeartbeats 800000 in
/-- The body meets its part at every point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).Φ t.succ = (dats m hO 0 c).Φ t.castSucc from rfl,
    show (dats m hO 0 c).owesAt () t.succ = (dats m hO 0 c).owesAt () t.castSucc from rfl,
    after0_0, after0_1, after0_2, after0_3]
  rw [show (dats m hO 0 c).Φ t.castSucc = iprop(Pipeline.ΦA spec0 c ∗ Pipeline.ΦT pre0 (tbl m) c) from rfl, PhiT0_eq]
  iintro ⟨⟨HΦ, ⟨HT0, HT1, HT2⟩⟩, Ho, ⟨%d0, H0⟩, ⟨%d1, H1⟩, ⟨%d2, H2⟩, ⟨%d3, H3⟩⟩
  iapply ((body_run c (grid0.coords t) _ _ _ _ _ _ _ _ (iblk m hO c 0 t) (iblk m hO c 1 t) (iblk m hO c 2 t) (tbl m 0) (tbl m 1) (tbl m 2) (word m (grid0.coords t))) Set.univ _)
  isplitl [H0]; · iexact H0
  isplitl [H1]; · iexact H1
  isplitl [H2]; · iexact H2
  isplitl [H3]; · iexists _; iexact H3
  isplitl [HT0]; · iexact HT0
  isplitl [HT1]; · iexact HT1
  isplitl [HT2]; · iexact HT2
  iintro ⟨H0, H1, H2, H3, HT0, HT1, HT2⟩
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  iexact H3

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

set_option backward.isDefEq.respectTransparency.types false in
/-- Every run ends, its arrays as the body's blocks fill them and every counter at zero. -/
theorem run_main (hO : Ok m) : θ_run defs (onTc (τ := τ) (main (F := F))) (s₀ m ρ) (fun r => Pipeline.FramePost (Pipeline.pin pcfgs fun _ => adm m hO) (dats m hO) (0 : Fin 1) (V m) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- The run with its results: each result is the array the blocks fill, and the arguments end as they were. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ (∀ (c : Dev nD) w, r.2.mem ((((cfgM m (ok m)).spec w).arr.view.loc (c.tc : Thread nD τ))) = (dats m (ok m) 0 c).arrAt w (cfgM m (ok m)).N)
      ∧ r.2.sem = fun _ => 0) :=
  (θ_run defs _ _).mono (fun _ h => ⟨fun c => ⟨((h.1 c).1 0).trans (((dats m (ok m) 0 c).arrAt_in 0 rfl _).trans ((A_eq m (ok m) c 0).trans (V_main_arg0 m c))),
      ((h.1 c).1 1).trans (((dats m (ok m) 0 c).arrAt_in 1 rfl _).trans ((A_eq m (ok m) c 1).trans (V_main_arg1 m c))),
      ((h.1 c).1 2).trans (((dats m (ok m) 0 c).arrAt_in 2 rfl _).trans ((A_eq m (ok m) c 2).trans (V_main_arg2 m c)))⟩,
    fun c w => (h.1 c).1 w, h.2⟩) (run_main m ρ (ok m))

/-- The frame: every run ends, the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨h.1, h.2.2⟩) (run m ρ)

end Cert.Proof.Swiglu

end
-- ==== Proof.SwigluValue.lean ====
/- The gated product's result, index by index, and its reference's. -/
module

public import proofs.«01_k».proof.Proof.SwigluRun
public import proofs.«01_k».proof.Proof.Gen.SwigluRefIdeal.Read
public import Idealize.ShloMosaic.Lib.Pointwise
public import Idealize.ShloMosaic.Lib.Pipeline.Value
public import Idealize.ShloMosaic.Lib.Pipeline.ValueKit
public import Idealize.ShloMosaic.Lib.Pipeline.Covers
public import Idealize.ShloMosaic.Lib.IdealHost
public import Idealize.ShloMosaic.PureOps.Ideal.Laws

@[expose] public section

set_option maxRecDepth 16384

noncomputable section

namespace Cert.Proof.Swiglu

open Idealize.ShloMosaic Idealize.ShloMosaic.TcCoe Idealize.SL.Sem Cert.Swiglu Cert.Swiglu.Gen

/-- One block of the result, at an index. -/
theorem pay_apply (x0 : Vec Ideal S2080x4096 .bf16) (x1 : Vec Ideal S1x4096x256 .f32) (x2 : Vec Ideal S1x4096x256 .f32) (r : Fin 2080) (n : Fin 256) :
    k0_pay1 (F := Ideal) x0 x1 x2 (ix2 r n) = (∑ k : Fin 4096, x0 (ix2 r k) * x1 (ix3 0 k n)) * Ideal.logistic (∑ k : Fin 4096, x0 (ix2 r k) * x1 (ix3 0 k n)) * (∑ k : Fin 4096, x0 (ix2 r k) * x2 (ix3 0 k n)) := by
  unfold k0_pay1
  pointwise [dot_S2080x4096_S4096x256_S2080x256_1_0_0_1_n_n]

variable (m : (ℓ : Loc nD τ sig) → Buf (Elt Ideal) ℓ) (ρ : Dev nD → PrngReg)

/-- Block 0 holds the rows of its array from 2080 times its row index on. -/
theorem blk_0 (c : Dev nD) (t : Fin (cfgM m (ok m)).N) (r : Fin 2080) (k : Fin 4096) (R : Fin 8320) (hR : R.val = 2080 * (grid0.coords t 0).val + r.val) :
    (iblk m (ok m) c 0 t : Vec Ideal S2080x4096 .bf16) (ix2 r k) = V m c main_arg0 (ix2 R k) := by
  blk_simp [iblk]
  refine congrArg (V m c main_arg0) ?_
  blk_ext
  · exact (congrArg (fun z => z * 2080 + r.val) (congrFun (ix_0 m (grid0.coords t)) 0)).trans (show (grid0.coords t 0).val * 2080 + r.val = R.val by omega)
  · exact (congrArg (fun z => z * 4096 + k.val) (congrFun (ix_0 m (grid0.coords t)) 1)).trans (show 0 * 4096 + k.val = k.val by omega)

/-- Block 1 holds the weights' columns from 256 times its column index on. -/
theorem blk_1 (c : Dev nD) (t : Fin (cfgM m (ok m)).N) (k : Fin 4096) (n : Fin 256) (C : Fin 14336) (hC : C.val = 256 * (grid0.coords t 1).val + n.val) :
    (iblk m (ok m) c 1 t : Vec Ideal S1x4096x256 .f32) (ix3 0 k n) = V m c main_arg1 (ix3 0 k C) := by
  blk_simp [iblk]
  refine congrArg (V m c main_arg1) ?_
  blk_ext
  · exact congrArg (fun z => z + 0) (congrFun (ix_1 m (grid0.coords t)) 0)
  · exact (congrArg (fun z => z * 4096 + k.val) (congrFun (ix_1 m (grid0.coords t)) 1)).trans (show 0 * 4096 + k.val = k.val by omega)
  · exact (congrArg (fun z => z * 256 + n.val) (congrFun (ix_1 m (grid0.coords t)) 2)).trans (show (grid0.coords t 1).val * 256 + n.val = C.val by omega)

/-- Block 2 holds the weights' columns from 256 times its column index on. -/
theorem blk_2 (c : Dev nD) (t : Fin (cfgM m (ok m)).N) (k : Fin 4096) (n : Fin 256) (C : Fin 14336) (hC : C.val = 256 * (grid0.coords t 1).val + n.val) :
    (iblk m (ok m) c 2 t : Vec Ideal S1x4096x256 .f32) (ix3 0 k n) = V m c main_arg2 (ix3 0 k C) := by
  blk_simp [iblk]
  refine congrArg (V m c main_arg2) ?_
  blk_ext
  · exact congrArg (fun z => z + 0) (congrFun (ix_2 m (grid0.coords t)) 0)
  · exact (congrArg (fun z => z * 4096 + k.val) (congrFun (ix_2 m (grid0.coords t)) 1)).trans (show 0 * 4096 + k.val = k.val by omega)
  · exact (congrArg (fun z => z * 256 + n.val) (congrFun (ix_2 m (grid0.coords t)) 2)).trans (show (grid0.coords t 1).val * 256 + n.val = C.val by omega)

theorem nblk_0 : ((cfgM m (ok m)).win 3).nblk (0 : Fin 2) = 4 := show (8320 + 2080 - 1) / 2080 = 4 by decide
theorem nblk_1 : ((cfgM m (ok m)).win 3).nblk (1 : Fin 2) = 56 := show (14336 + 256 - 1) / 256 = 56 by decide
/-- The blocks written back cover the result. -/
theorem covers : ((cfgM m (ok m)).win 3).Covers :=
  Pipeline.Window.covers_of_indexMap_surj _ rfl (show ∀ a : Fin 2, 0 < S2080x256.size a by decide) fun β => by
    let i : grid0.Coords := fun a => match a with
      | ⟨0, _⟩ => ⟨(β (0 : Fin 2)).val, (β (0 : Fin 2)).isLt.trans_eq (nblk_0 m)⟩
      | ⟨1, _⟩ => ⟨(β (1 : Fin 2)).val, (β (1 : Fin 2)).isLt.trans_eq (nblk_1 m)⟩
    refine ⟨i, fun a => ?_⟩
    refine (congrFun (ix_3 m i) a).trans ?_
    match a with
    | ⟨0, _⟩ => rfl
    | ⟨1, _⟩ => rfl

/-- The gate product `g`, times `logistic g`, times the second product. -/
def prod (x0 : S8320x4096.Idx → EReal) (x1 : S1x4096x14336.Idx → EReal) (x2 : S1x4096x14336.Idx → EReal) : S8320x14336.Idx → EReal := fun i =>
  (∑ k : Fin 4096, x0 (ix2 (i 0) k) * x1 (ix3 0 k (i 1))) * Ideal.logistic (∑ k : Fin 4096, x0 (ix2 (i 0) k) * x1 (ix3 0 k (i 1))) * (∑ k : Fin 4096, x0 (ix2 (i 0) k) * x2 (ix3 0 k (i 1)))

/-- The result is that function of the arguments. -/
theorem final (c : Dev nD) : (dats m (ok m) 0 c).arrAt 3 (cfgM m (ok m)).N
    = prod (m ((c.tc : Thread nD τ).loc main_arg0)) (m ((c.tc : Thread nD τ).loc main_arg1)) (m ((c.tc : Thread nD τ).loc main_arg2)) := by
  rw [← V_main_arg0 m c, ← V_main_arg1 m c, ← V_main_arg2 m c]
  refine (dats m (ok m) 0 c).arrAt_eq_of_covers 3 (prod (V m c main_arg0) (V m c main_arg1) (V m c main_arg2)) (covers m) fun t hf y => ?_
  blk_simp
  rw [after0_3]
  have hy : ∀ y : S2080x256.Idx, k0_pay1 (F := Ideal) (iblk m (ok m) c 0 t) (iblk m (ok m) c 1 t) (iblk m (ok m) c 2 t) y
      = prod (V m c main_arg0) (V m c main_arg1) (V m c main_arg2) (((((cfgM m (ok m)).win 3).blk t).view.emb y : S8320x14336.Idx)) := by
    intro y
    idx_vars y
    have h0 : (((((cfgM m (ok m)).win 3).blk t).view.emb (ix2 y0 y1) : S8320x14336.Idx) (0 : Fin 2)).val = 2080 * (grid0.coords t 0).val + y0.val := by
      blk_simp
      exact (congrArg (fun z => z * 2080 + y0.val) (congrFun (ix_3 m (grid0.coords t)) 0)).trans (show (grid0.coords t 0).val * 2080 + y0.val = _ by omega)
    have h1 : (((((cfgM m (ok m)).win 3).blk t).view.emb (ix2 y0 y1) : S8320x14336.Idx) (1 : Fin 2)).val = 256 * (grid0.coords t 1).val + y1.val := by
      blk_simp
      exact (congrArg (fun z => z * 256 + y1.val) (congrFun (ix_3 m (grid0.coords t)) 1)).trans (show (grid0.coords t 1).val * 256 + y1.val = _ by omega)
    exact (pay_apply _ _ _ y0 y1).trans (congrArg₂ (· * ·) (congrArg (fun g => g * Ideal.logistic g) (Finset.sum_congr rfl fun k _ => congrArg₂ (· * ·) (blk_0 m c t y0 k _ h0) (blk_1 m c t k y1 _ h1))) (Finset.sum_congr rfl fun k _ => congrArg₂ (· * ·) (blk_0 m c t y0 k _ h0) (blk_2 m c t k y1 _ h1)))
  exact hy y

/-- The reference's product v2, at an index. -/
theorem ref_gate (x : S8320x4096.Idx → EReal) (w : S1x4096x14336.Idx → EReal) (i : S8320x14336.Idx) :
    Cert.SwigluRefIdeal.Read.val_main_v2 (F := Ideal) x w i = ∑ k : Fin 4096, x (ix2 (i 0) k) * w (ix3 0 k (i 1)) := by
  refine (Cert.SwigluRefIdeal.Read.val_main_v2_apply x w i).trans (Finset.sum_congr rfl fun k _ => congrArg₂ (· * ·) (congrArg x ?_) ?_)
  · funext a
    match a with
    | ⟨0, _⟩ => rfl
    | ⟨1, _⟩ => rfl
  · rw [Cert.SwigluRefIdeal.Read.val_main_v1_apply]
    refine congrArg w (funext fun a => Fin.ext ?_)
    have h0 : k.val < 4096 := k.isLt
    have h1 : (i 1).val < 14336 := (i 1).isLt
    match a with
    | ⟨0, _⟩ => rfl
    | ⟨1, _⟩ => show (k.val * 14336 + (i 1).val) / 14336 % 4096 = k.val; omega
    | ⟨2, _⟩ => show (k.val * 14336 + (i 1).val) % 14336 = (i 1).val; omega

/-- The reference's product v5, at an index. -/
theorem ref_up (x : S8320x4096.Idx → EReal) (w : S1x4096x14336.Idx → EReal) (i : S8320x14336.Idx) :
    Cert.SwigluRefIdeal.Read.val_main_v5 (F := Ideal) x w i = ∑ k : Fin 4096, x (ix2 (i 0) k) * w (ix3 0 k (i 1)) := by
  refine (Cert.SwigluRefIdeal.Read.val_main_v5_apply x w i).trans (Finset.sum_congr rfl fun k _ => congrArg₂ (· * ·) (congrArg x ?_) ?_)
  · funext a
    match a with
    | ⟨0, _⟩ => rfl
    | ⟨1, _⟩ => rfl
  · rw [Cert.SwigluRefIdeal.Read.val_main_v4_apply]
    refine congrArg w (funext fun a => Fin.ext ?_)
    have h0 : k.val < 4096 := k.isLt
    have h1 : (i 1).val < 14336 := (i 1).isLt
    match a with
    | ⟨0, _⟩ => rfl
    | ⟨1, _⟩ => show (k.val * 14336 + (i 1).val) / 14336 % 4096 = k.val; omega
    | ⟨2, _⟩ => show (k.val * 14336 + (i 1).val) % 14336 = (i 1).val; omega

/-- The reference's result is the same function. -/
theorem ref_eq (x0 : S8320x4096.Idx → EReal) (x1 : S1x4096x14336.Idx → EReal) (x2 : S1x4096x14336.Idx → EReal) : Cert.SwigluRefIdeal.Read.val_main_v7 (F := Ideal) x0 x1 x2 = prod x0 x1 x2 := by
  funext i
  have h1 : Cert.SwigluRefIdeal.Read.val_main_call0_v2 (F := Ideal) i = (1 : EReal) := (Cert.SwigluRefIdeal.Read.val_main_call0_v2_apply i).trans Ideal.ofBits_one_f32
  have h2 : Cert.SwigluRefIdeal.Read.val_main_call0_v4 (F := Ideal) i = (1 : EReal) := (Cert.SwigluRefIdeal.Read.val_main_call0_v4_apply i).trans Ideal.ofBits_one_f32
  show Cert.SwigluRefIdeal.Read.val_main_v2 (F := Ideal) x0 x1 i * Ideal.div (Cert.SwigluRefIdeal.Read.val_main_call0_v4 (F := Ideal) i) (Cert.SwigluRefIdeal.Read.val_main_call0_v2 (F := Ideal) i + Ideal.exp (-(Cert.SwigluRefIdeal.Read.val_main_v2 (F := Ideal) x0 x1 i))) * Cert.SwigluRefIdeal.Read.val_main_v5 (F := Ideal) x0 x2 i = _
  rw [h1, h2, ref_gate, ref_up]
  rfl

end Cert.Proof.Swiglu

end
-- ==== Proof.InOddRun.lean ====
/- The call on any values: the tables the host builds, the body at one point of the grid, and the whole run. -/
module

public import proofs.«01_k».proof.Proof.Gen.InOdd.Launch
public import proofs.«01_k».proof.Proof.Gen.InOdd.Skeleton
public import proofs.«01_k».proof.Proof.Gen.InOdd.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.VecWindow
public import Idealize.ShloMosaic.Lib.WholeRead

@[expose] public section

set_option maxRecDepth 16384

noncomputable section

namespace Cert.Proof.InOdd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InOdd Cert.InOdd.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! Staging memrefs and bodies at a point. -/

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)

abbrev bodyAt0 (a : (pcfg0 (F := F)).Adm) (t : Fin (cfg0 a).N) : Prog (TpuEff nD τ sig (Elt F) Λ₀ .tc) PUnit :=
  cc0_rg_mm (grid0.coords t) (Memref.whole main_v0) (Memref.isWhole_whole _) (Memref.whole main_v1) (Memref.isWhole_whole _) (Memref.whole main_v2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2))

/-! @main up to the call. -/

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! The tables. -/

def tbl : pre0.Contents (Elt F) := fun j => V m (0 : Dev nD) (pre0.ref j)
theorem V_pre (c : Dev nD) (j : Fin 3) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S4 .i32 := Memref.whole main_v0
abbrev htbM0_0 : tbM0_0.IsWhole := Memref.isWhole_whole _
abbrev tbM0_1 : Memref sig .tc .smem S4 .i32 := Memref.whole main_v1
abbrev htbM0_1 : tbM0_1.IsWhole := Memref.isWhole_whole _
abbrev tbM0_2 : Memref sig .tc .smem S4 .i32 := Memref.whole main_v2
abbrev htbM0_2 : tbM0_2.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! The blocks. -/

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! The arguments end as they were. -/

theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c))⟩) h

abbrev ms0_0 (hO : Ok m) (t : Fin (cfgM m hO).N) : Memref sig .tc .vmem S2080x4096 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x4096x512 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S2080x512 .bf16 := spec0_2.stage ((cfgM m hO).slots t 2)
abbrev hs0_2 (hO : Ok m) (t : Fin (cfgM m hO).N) : (ms0_2 m hO t).IsWhole := hstage0_2 (((cfgM m hO).slots t 2).cast nbuf0_2)

/-! What the tables hold. -/

/-- Every group uses the first weights. -/
theorem tbl_e (i : S4.Idx) : (tbl m 0 : S4.Idx → BitVec 32) i = 0#32 := by
  unfold tbl V hostOps0
  after_results
  all_goals rfl
/-- Group `i` begins at block `i`. -/
theorem tbl_st (i : S4.Idx) : (tbl m 1 : S4.Idx → BitVec 32) i = BitVec.ofNat 32 (i 0).val := by
  unfold tbl V hostOps0
  after_results
  all_goals rfl
/-- Every group has one live block. -/
theorem tbl_nb (i : S4.Idx) : (tbl m 2 : S4.Idx → BitVec 32) i = 1#32 := by
  unfold tbl V hostOps0
  after_results
  all_goals rfl

/-- A word of the first table. -/
theorem at_e (R : Rect S4) (h : R.shape.numel = 1) : (tbl m).at 0 R h = (0#32 : BitVec 32) := tbl_e m _
/-- A word of the second. -/
theorem at_st (R : Rect S4) (h : R.shape.numel = 1) : (tbl m).at 1 R h = BitVec.ofNat 32 (R.emb (Shape.Idx.first (h.symm ▸ Nat.one_pos)) 0).val := tbl_st m _
/-- A word of the third. -/
theorem at_nb (R : Rect S4) (h : R.shape.numel = 1) : (tbl m).at 2 R h = (1#32 : BitVec 32) := tbl_nb m _
/-- The word the body reads. -/
theorem word (i : grid0.Coords) : (tbM0_2.view.readAt (Elt F) (Rect.unit (s := S4) (k0_off1 i) S1.size (k0_off1_inb i)).toLoadRect (tbl m 2) (Shape.Idx.first (numel1_S1.symm ▸ Nat.one_pos))) = (1#32 : BitVec 32) := by
  exact tbl_nb m _
/-- What the body takes for granted of it. -/
theorem chk : k0_chk1 (1#32 : BitVec 32) := by decide +kernel
/-- No piece of the block is cleared. -/
theorem trips1 : (k0_t1_loop (1#32 : BitVec 32)).trips = 0 := by decide +kernel
theorem trips2 : (k0_t2_loop (1#32 : BitVec 32)).trips = 0 := by decide +kernel
/-- Where window 0's block lies at a point of the grid. -/
theorem ix_0 (i : grid0.Coords) : cc0_transform_0 k0_off1_inb numel1_S1 (tbl m) i = ![(i 0).val, 0] := by
  funext a
  match a with
  | ⟨0, _⟩ => exact (congrArg BitVec.toNat (at_st m _ _)).trans (show (BitVec.ofNat 32 ((BitVec.ofNat 32 (i 0).val).toNat + 1 * 0)).toNat = (i 0).val by revert i; decide +kernel)
  | ⟨1, _⟩ => exact rfl
/-- Where window 1's block lies at a point of the grid. -/
theorem ix_1 (i : grid0.Coords) : cc0_transform_1 k0_off1_inb numel1_S1 (tbl m) i = ![0, 0, (i 1).val] := by
  funext a
  match a with
  | ⟨0, _⟩ => exact congrArg BitVec.toNat (at_e m _ _)
  | ⟨1, _⟩ => exact rfl
  | ⟨2, _⟩ => exact (congrArg (fun w : BitVec 32 => ((Scalar.addi (0#32) (Scalar.select (Scalar.cmpi .sgt w (0#32)) (BitVec.ofNat 32 (i 1).val) (23#32))) : BitVec 32).toNat) (at_nb m _ _)).trans (show ((Scalar.addi (0#32) (Scalar.select (Scalar.cmpi .sgt 1#32 (0#32)) (BitVec.ofNat 32 (i 1).val) (23#32))) : BitVec 32).toNat = (i 1).val by revert i; decide +kernel)
/-- Where window 2's block lies at a point of the grid. -/
theorem ix_2 (i : grid0.Coords) : cc0_transform_2 k0_off1_inb numel1_S1 (tbl m) i = ![(i 0).val, (i 1).val] := by
  funext a
  match a with
  | ⟨0, _⟩ => exact (show (BitVec.ofNat 32 (i 0).val).toNat = (i 0).val by revert i; decide +kernel)
  | ⟨1, _⟩ => exact (show (BitVec.ofNat 32 (i 1).val).toNat = (i 1).val by revert i; decide +kernel)
/-- Every block lies inside its array, and its transfers are of whole words. -/
theorem ok : Ok m :=
  ⟨fun i => by rw [ix_0 m i]; revert i; decide +kernel, fun i => by rw [ix_1 m i]; revert i; decide +kernel, fun i => by rw [ix_2 m i]; revert i; decide +kernel⟩

set_option maxHeartbeats 1000000 in
/-- The body at a live block: the inputs stay, and each output is the product the body computes from them. -/
theorem body_run (c : Dev nD) (i : grid0.Coords) (arg5 : Memref sig .tc .vmem S2080x4096 .bf16) (harg5 : arg5.IsWhole) (arg6 : Memref sig .tc .vmem S1x4096x512 .f32) (harg6 : arg6.IsWhole) (arg7 : Memref sig .tc .vmem S2080x512 .bf16) (harg7 : arg7.IsWhole)
    (x0 : Vec F S2080x4096 .bf16) (x1 : Vec F S1x4096x512 .f32) (xt0 : TbBuf0 (F := F) c tbM0_0) (xt1 : TbBuf0 (F := F) c tbM0_1) (xt2 : TbBuf0 (F := F) c tbM0_2)
    (hw : (tbM0_2.view.readAt (Elt F) (Rect.unit (s := S4) (k0_off1 i) S1.size (k0_off1_inb i)).toLoadRect xt2 (Shape.Idx.first (numel1_S1.symm ▸ Nat.one_pos))) = (1#32 : BitVec 32)) :
      ∀ (E : Set ℕ) (K : PUnit → sProp 𝕄),
        iprop(owns (c : Thread nD τ) arg5 fullShare x0 ∗ owns (c : Thread nD τ) arg6 fullShare x1 ∗ (∃ d, owns (c : Thread nD τ) arg7 fullShare d) ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare (k0_pay1 x0 x1) ∗ tbPt0 c tbM0_0 xt0 ∗ tbPt0 c tbM0_1 xt1 ∗ tbPt0 c tbM0_2 xt2) -∗ K ⟨⟩))
          ⊢ wp frame (wpE (defs₀ (F := F)) Variants.none c none) E (cc0_rg_mm i tbM0_0 htbM0_0 tbM0_1 htbM0_1 tbM0_2 htbM0_2 arg5 harg5 arg6 harg6 arg7 harg7) K := by
  intro E K
  have hc : (Scalar.cmpi .ne (Scalar.extui (Scalar.cmpi .sgt (tbM0_2.view.readAt (Elt F) (Rect.unit (s := S4) (k0_off1 i) S1.size (k0_off1_inb i)).toLoadRect xt2 (Shape.Idx.first (numel1_S1.symm ▸ Nat.one_pos))) 0#32) : BitVec 32) 0#32 : BitVec 1) = 1#1 := by rw [hw]; decide
  have hk : k0_chk1 (tbM0_2.view.readAt (Elt F) (Rect.unit (s := S4) (k0_off1 i) S1.size (k0_off1_inb i)).toLoadRect xt2 (Shape.Idx.first (numel1_S1.symm ▸ Nat.one_pos))) := by rw [hw]; exact chk
  have h1 : (k0_t1_loop (tbM0_2.view.readAt (Elt F) (Rect.unit (s := S4) (k0_off1 i) S1.size (k0_off1_inb i)).toLoadRect xt2 (Shape.Idx.first (numel1_S1.symm ▸ Nat.one_pos)))).trips = 0 := by rw [hw]; exact trips1
  have h2 : (k0_t2_loop (tbM0_2.view.readAt (Elt F) (Rect.unit (s := S4) (k0_off1 i) S1.size (k0_off1_inb i)).toLoadRect xt2 (Shape.Idx.first (numel1_S1.symm ▸ Nat.one_pos)))).trips = 0 := by rw [hw]; exact trips2
  simp only [cc0_rg_mm_eq_skeleton]; unfold cc0_rg_mm_skel
  unfold owns
  iintro ⟨⟨%f0, %hf0, H0⟩, ⟨%f1, %hf1, H1⟩, ⟨%d2, %f2, -, H2⟩, HT0, HT1, HT2, Hk⟩
  obtain rfl := harg5.eq_unread hf0; obtain rfl := harg6.eq_unread hf1
  sl_exec (disch := first | sl_exact hc | sl_exact hk)
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; swap; · iexact H2
    ipureintro
    rw [show Scf.trips (k0_t2_loop (body_run.sl.r c i xt2)).lb (k0_t2_loop (body_run.sl.r c i xt2)).ub (k0_t2_loop (body_run.sl.r c i xt2)).st = 0 from h2,
      show Scf.trips (k0_t1_loop (body_run.sl.r c i xt2)).lb (k0_t1_loop (body_run.sl.r c i xt2)).ub (k0_t1_loop (body_run.sl.r c i xt2)).st = 0 from h1]
    refine (View.read_writes_full _ _ _ _ _).trans ?_
    exact congr (congrArg k0_pay1 ((View.readAt_full _ _ _).trans (harg5.read_unread _))) ((View.readAt_full _ _ _).trans (harg6.read_unread _))
  isplitl [HT0]; · iexact HT0
  isplitl [HT1]; · iexact HT1
  iexact HT2

/-! The run. -/

/-- What the pipeline works with: the arrays at the call, each input's block, each output's block as the body computes it. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => k0_pay1 (F := F) (iblk m hO c 0 t) (iblk m hO c 1 t)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = k0_pay1 (F := F) (iblk m hO c 0 t) (iblk m hO c 1 t) := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d

/-- What the body finds at a point, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d)) ∗ (∃ d, owns (c : Thread nD τ) (ms0_1 m hO t) fullShare ((dats m hO 0 c).before 1 t d)) ∗ (∃ d, owns (c : Thread nD τ) (ms0_2 m hO t) fullShare ((dats m hO 0 c).before 2 t d)))
/-- and what it leaves. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t) ∗ owns (c : Thread nD τ) (ms0_1 m hO t) fullShare ((dats m hO 0 c).after 1 t) ∗ owns (c : Thread nD τ) (ms0_2 m hO t) fullShare ((dats m hO 0 c).after 2 t))

set_option maxHeartbeats 800000 in
/-- The body meets its part at every point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1]
  rw [show (dats m hO 0 c).Φ t.succ = (dats m hO 0 c).Φ t.castSucc from rfl,
    show (dats m hO 0 c).owesAt () t.succ = (dats m hO 0 c).owesAt () t.castSucc from rfl,
    after0_0, after0_1, after0_2]
  rw [show (dats m hO 0 c).Φ t.castSucc = iprop(Pipeline.ΦA spec0 c ∗ Pipeline.ΦT pre0 (tbl m) c) from rfl, PhiT0_eq]
  iintro ⟨⟨HΦ, ⟨HT0, HT1, HT2⟩⟩, Ho, ⟨%d0, H0⟩, ⟨%d1, H1⟩, ⟨%d2, H2⟩⟩
  iapply ((body_run c (grid0.coords t) _ _ _ _ _ _ (iblk m hO c 0 t) (iblk m hO c 1 t) (tbl m 0) (tbl m 1) (tbl m 2) (word m (grid0.coords t))) Set.univ _)
  isplitl [H0]; · iexact H0
  isplitl [H1]; · iexact H1
  isplitl [H2]; · iexists _; iexact H2
  isplitl [HT0]; · iexact HT0
  isplitl [HT1]; · iexact HT1
  isplitl [HT2]; · iexact HT2
  iintro ⟨H0, H1, H2, HT0, HT1, HT2⟩
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  iexact H2

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

set_option backward.isDefEq.respectTransparency.types false in
/-- Every run ends, its arrays as the body's blocks fill them and every counter at zero. -/
theorem run_main (hO : Ok m) : θ_run defs (onTc (τ := τ) (main (F := F))) (s₀ m ρ) (fun r => Pipeline.FramePost (Pipeline.pin pcfgs fun _ => adm m hO) (dats m hO) (0 : Fin 1) (V m) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- The run with its results: each result is the array the blocks fill, and the arguments end as they were. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ (∀ (c : Dev nD) w, r.2.mem ((((cfgM m (ok m)).spec w).arr.view.loc (c.tc : Thread nD τ))) = (dats m (ok m) 0 c).arrAt w (cfgM m (ok m)).N)
      ∧ r.2.sem = fun _ => 0) :=
  (θ_run defs _ _).mono (fun _ h => ⟨fun c => ⟨((h.1 c).1 0).trans (((dats m (ok m) 0 c).arrAt_in 0 rfl _).trans ((A_eq m (ok m) c 0).trans (V_main_arg0 m c))),
      ((h.1 c).1 1).trans (((dats m (ok m) 0 c).arrAt_in 1 rfl _).trans ((A_eq m (ok m) c 1).trans (V_main_arg1 m c)))⟩,
    fun c w => (h.1 c).1 w, h.2⟩) (run_main m ρ (ok m))

/-- The frame: every run ends, the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨h.1, h.2.2⟩) (run m ρ)

end Cert.Proof.InOdd

end
-- ==== Proof.InOddValue.lean ====
/- The projection's result, index by index, and its reference's. -/
module

public import proofs.«01_k».proof.Proof.InOddRun
public import proofs.«01_k».proof.Proof.Gen.InOddRefIdeal.Read
public import Idealize.ShloMosaic.Lib.Pointwise
public import Idealize.ShloMosaic.Lib.Pipeline.Value
public import Idealize.ShloMosaic.Lib.Pipeline.ValueKit
public import Idealize.ShloMosaic.Lib.Pipeline.Covers
public import Idealize.ShloMosaic.Lib.IdealHost
public import Idealize.ShloMosaic.PureOps.Ideal.Laws

@[expose] public section

set_option maxRecDepth 16384

noncomputable section

namespace Cert.Proof.InOdd

open Idealize.ShloMosaic Idealize.ShloMosaic.TcCoe Idealize.SL.Sem Cert.InOdd Cert.InOdd.Gen

/-- One block of the result, at an index. -/
theorem pay_apply (x0 : Vec Ideal S2080x4096 .bf16) (x1 : Vec Ideal S1x4096x512 .f32) (r : Fin 2080) (n : Fin 512) :
    k0_pay1 (F := Ideal) x0 x1 (ix2 r n) = ∑ k : Fin 4096, x0 (ix2 r k) * x1 (ix3 0 k n) := by
  unfold k0_pay1
  pointwise [dot_S2080x4096_S4096x512_S2080x512_1_0_0_1_n_n]

variable (m : (ℓ : Loc nD τ sig) → Buf (Elt Ideal) ℓ) (ρ : Dev nD → PrngReg)

/-- Block 0 holds the rows of its array from 2080 times its row index on. -/
theorem blk_0 (c : Dev nD) (t : Fin (cfgM m (ok m)).N) (r : Fin 2080) (k : Fin 4096) (R : Fin 8320) (hR : R.val = 2080 * (grid0.coords t 0).val + r.val) :
    (iblk m (ok m) c 0 t : Vec Ideal S2080x4096 .bf16) (ix2 r k) = V m c main_arg0 (ix2 R k) := by
  blk_simp [iblk]
  refine congrArg (V m c main_arg0) ?_
  blk_ext
  · exact (congrArg (fun z => z * 2080 + r.val) (congrFun (ix_0 m (grid0.coords t)) 0)).trans (show (grid0.coords t 0).val * 2080 + r.val = R.val by omega)
  · exact (congrArg (fun z => z * 4096 + k.val) (congrFun (ix_0 m (grid0.coords t)) 1)).trans (show 0 * 4096 + k.val = k.val by omega)

/-- Block 1 holds the weights' columns from 512 times its column index on. -/
theorem blk_1 (c : Dev nD) (t : Fin (cfgM m (ok m)).N) (k : Fin 4096) (n : Fin 512) (C : Fin 12288) (hC : C.val = 512 * (grid0.coords t 1).val + n.val) :
    (iblk m (ok m) c 1 t : Vec Ideal S1x4096x512 .f32) (ix3 0 k n) = V m c main_arg1 (ix3 0 k C) := by
  blk_simp [iblk]
  refine congrArg (V m c main_arg1) ?_
  blk_ext
  · exact congrArg (fun z => z + 0) (congrFun (ix_1 m (grid0.coords t)) 0)
  · exact (congrArg (fun z => z * 4096 + k.val) (congrFun (ix_1 m (grid0.coords t)) 1)).trans (show 0 * 4096 + k.val = k.val by omega)
  · exact (congrArg (fun z => z * 512 + n.val) (congrFun (ix_1 m (grid0.coords t)) 2)).trans (show (grid0.coords t 1).val * 512 + n.val = C.val by omega)

theorem nblk_0 : ((cfgM m (ok m)).win 2).nblk (0 : Fin 2) = 4 := show (8320 + 2080 - 1) / 2080 = 4 by decide
theorem nblk_1 : ((cfgM m (ok m)).win 2).nblk (1 : Fin 2) = 24 := show (12288 + 512 - 1) / 512 = 24 by decide
/-- The blocks written back cover the result. -/
theorem covers : ((cfgM m (ok m)).win 2).Covers :=
  Pipeline.Window.covers_of_indexMap_surj _ rfl (show ∀ a : Fin 2, 0 < S2080x512.size a by decide) fun β => by
    let i : grid0.Coords := fun a => match a with
      | ⟨0, _⟩ => ⟨(β (0 : Fin 2)).val, (β (0 : Fin 2)).isLt.trans_eq (nblk_0 m)⟩
      | ⟨1, _⟩ => ⟨(β (1 : Fin 2)).val, (β (1 : Fin 2)).isLt.trans_eq (nblk_1 m)⟩
    refine ⟨i, fun a => ?_⟩
    refine (congrFun (ix_2 m i) a).trans ?_
    match a with
    | ⟨0, _⟩ => rfl
    | ⟨1, _⟩ => rfl

/-- The product of the rows with the weights. -/
def prod (x0 : S8320x4096.Idx → EReal) (x1 : S1x4096x12288.Idx → EReal) : S8320x12288.Idx → EReal := fun i =>
  ∑ k : Fin 4096, x0 (ix2 (i 0) k) * x1 (ix3 0 k (i 1))

/-- The result is that function of the arguments. -/
theorem final (c : Dev nD) : (dats m (ok m) 0 c).arrAt 2 (cfgM m (ok m)).N
    = prod (m ((c.tc : Thread nD τ).loc main_arg0)) (m ((c.tc : Thread nD τ).loc main_arg1)) := by
  rw [← V_main_arg0 m c, ← V_main_arg1 m c]
  refine (dats m (ok m) 0 c).arrAt_eq_of_covers 2 (prod (V m c main_arg0) (V m c main_arg1)) (covers m) fun t hf y => ?_
  blk_simp
  rw [after0_2]
  have hy : ∀ y : S2080x512.Idx, k0_pay1 (F := Ideal) (iblk m (ok m) c 0 t) (iblk m (ok m) c 1 t) y
      = prod (V m c main_arg0) (V m c main_arg1) (((((cfgM m (ok m)).win 2).blk t).view.emb y : S8320x12288.Idx)) := by
    intro y
    idx_vars y
    have h0 : (((((cfgM m (ok m)).win 2).blk t).view.emb (ix2 y0 y1) : S8320x12288.Idx) (0 : Fin 2)).val = 2080 * (grid0.coords t 0).val + y0.val := by
      blk_simp
      exact (congrArg (fun z => z * 2080 + y0.val) (congrFun (ix_2 m (grid0.coords t)) 0)).trans (show (grid0.coords t 0).val * 2080 + y0.val = _ by omega)
    have h1 : (((((cfgM m (ok m)).win 2).blk t).view.emb (ix2 y0 y1) : S8320x12288.Idx) (1 : Fin 2)).val = 512 * (grid0.coords t 1).val + y1.val := by
      blk_simp
      exact (congrArg (fun z => z * 512 + y1.val) (congrFun (ix_2 m (grid0.coords t)) 1)).trans (show (grid0.coords t 1).val * 512 + y1.val = _ by omega)
    exact (pay_apply _ _ y0 y1).trans (Finset.sum_congr rfl fun k _ => congrArg₂ (· * ·) (blk_0 m c t y0 k _ h0) (blk_1 m c t k y1 _ h1))
  exact hy y

/-- The reference's product v2, at an index. -/
theorem ref_dot (x : S8320x4096.Idx → EReal) (w : S1x4096x12288.Idx → EReal) (i : S8320x12288.Idx) :
    Cert.InOddRefIdeal.Read.val_main_v2 (F := Ideal) x w i = ∑ k : Fin 4096, x (ix2 (i 0) k) * w (ix3 0 k (i 1)) := by
  refine (Cert.InOddRefIdeal.Read.val_main_v2_apply x w i).trans (Finset.sum_congr rfl fun k _ => congrArg₂ (· * ·) (congrArg x ?_) ?_)
  · funext a
    match a with
    | ⟨0, _⟩ => rfl
    | ⟨1, _⟩ => rfl
  · rw [Cert.InOddRefIdeal.Read.val_main_v1_apply]
    refine congrArg w (funext fun a => Fin.ext ?_)
    have h0 : k.val < 4096 := k.isLt
    have h1 : (i 1).val < 12288 := (i 1).isLt
    match a with
    | ⟨0, _⟩ => rfl
    | ⟨1, _⟩ => show (k.val * 12288 + (i 1).val) / 12288 % 4096 = k.val; omega
    | ⟨2, _⟩ => show (k.val * 12288 + (i 1).val) % 12288 = (i 1).val; omega

/-- The reference's result is the same function. -/
theorem ref_eq (x0 : S8320x4096.Idx → EReal) (x1 : S1x4096x12288.Idx → EReal) : Cert.InOddRefIdeal.Read.val_main_v3 (F := Ideal) x0 x1 = prod x0 x1 :=
  funext fun i => ref_dot x0 x1 i

end Cert.Proof.InOdd

end
-- ==== Proof.KvNewRun.lean ====
/- The call on any values: the tables the host builds, the body at one point of the grid, and the whole run. -/
module

public import proofs.«01_k».proof.Proof.Gen.KvNew.Launch
public import proofs.«01_k».proof.Proof.Gen.KvNew.Skeleton
public import proofs.«01_k».proof.Proof.Gen.KvNew.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.VecWindow
public import Idealize.ShloMosaic.Lib.WholeRead

@[expose] public section

set_option maxRecDepth 16384

noncomputable section

namespace Cert.Proof.KvNew

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KvNew Cert.KvNew.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! Staging memrefs and bodies at a point. -/

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)

abbrev bodyAt0 (a : (pcfg0 (F := F)).Adm) (t : Fin (cfg0 a).N) : Prog (TpuEff nD τ sig (Elt F) Λ₀ .tc) PUnit :=
  cc0_rg_mm (grid0.coords t) (Memref.whole main_v0) (Memref.isWhole_whole _) (Memref.whole main_v1) (Memref.isWhole_whole _) (Memref.whole main_v2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2))

/-! @main up to the call. -/

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! The tables. -/

def tbl : pre0.Contents (Elt F) := fun j => V m (0 : Dev nD) (pre0.ref j)
theorem V_pre (c : Dev nD) (j : Fin 3) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S1 .i32 := Memref.whole main_v0
abbrev htbM0_0 : tbM0_0.IsWhole := Memref.isWhole_whole _
abbrev tbM0_1 : Memref sig .tc .smem S1 .i32 := Memref.whole main_v1
abbrev htbM0_1 : tbM0_1.IsWhole := Memref.isWhole_whole _
abbrev tbM0_2 : Memref sig .tc .smem S1 .i32 := Memref.whole main_v2
abbrev htbM0_2 : tbM0_2.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! The blocks. -/

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! The arguments end as they were. -/

theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c))⟩) h

abbrev ms0_0 (hO : Ok m) (t : Fin (cfgM m hO).N) : Memref sig .tc .vmem S640x4096 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x4096x512 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S640x512 .f32 := spec0_2.stage ((cfgM m hO).slots t 2)
abbrev hs0_2 (hO : Ok m) (t : Fin (cfgM m hO).N) : (ms0_2 m hO t).IsWhole := hstage0_2 (((cfgM m hO).slots t 2).cast nbuf0_2)

/-! What the tables hold. -/

/-- Every group uses the first weights. -/
theorem tbl_e (i : S1.Idx) : (tbl m 0 : S1.Idx → BitVec 32) i = 0#32 := by
  unfold tbl V hostOps0
  after_results
  all_goals rfl
/-- Group `i` begins at block `i`. -/
theorem tbl_st (i : S1.Idx) : (tbl m 1 : S1.Idx → BitVec 32) i = BitVec.ofNat 32 (i 0).val := by
  unfold tbl V hostOps0
  after_results
  all_goals rfl
/-- Every group has one live block. -/
theorem tbl_nb (i : S1.Idx) : (tbl m 2 : S1.Idx → BitVec 32) i = 1#32 := by
  unfold tbl V hostOps0
  after_results
  all_goals rfl

/-- A word of the first table. -/
theorem at_e (R : Rect S1) (h : R.shape.numel = 1) : (tbl m).at 0 R h = (0#32 : BitVec 32) := tbl_e m _
/-- A word of the second. -/
theorem at_st (R : Rect S1) (h : R.shape.numel = 1) : (tbl m).at 1 R h = BitVec.ofNat 32 (R.emb (Shape.Idx.first (h.symm ▸ Nat.one_pos)) 0).val := tbl_st m _
/-- A word of the third. -/
theorem at_nb (R : Rect S1) (h : R.shape.numel = 1) : (tbl m).at 2 R h = (1#32 : BitVec 32) := tbl_nb m _
/-- The word the body reads. -/
theorem word (i : grid0.Coords) : (tbM0_2.view.readAt (Elt F) (Rect.unit (s := S1) (k0_off1 i) S1.size (k0_off1_inb i)).toLoadRect (tbl m 2) (Shape.Idx.first (numel1_S1.symm ▸ Nat.one_pos))) = (1#32 : BitVec 32) := by
  exact tbl_nb m _
/-- What the body takes for granted of it. -/
theorem chk : k0_chk1 (1#32 : BitVec 32) := by decide +kernel
/-- No piece of the block is cleared. -/
theorem trips1 : (k0_t1_loop (1#32 : BitVec 32)).trips = 0 := by decide +kernel
theorem trips2 : (k0_t2_loop (1#32 : BitVec 32)).trips = 0 := by decide +kernel
/-- Where window 0's block lies at a point of the grid. -/
theorem ix_0 (i : grid0.Coords) : cc0_transform_0 k0_off1_inb numel1_S1 (tbl m) i = ![(i 0).val, 0] := by
  funext a
  match a with
  | ⟨0, _⟩ => exact (congrArg BitVec.toNat (at_st m _ _)).trans (show (BitVec.ofNat 32 ((BitVec.ofNat 32 (i 0).val).toNat + 1 * 0)).toNat = (i 0).val by revert i; decide +kernel)
  | ⟨1, _⟩ => exact rfl
/-- Where window 1's block lies at a point of the grid. -/
theorem ix_1 (i : grid0.Coords) : cc0_transform_1 k0_off1_inb numel1_S1 (tbl m) i = ![0, 0, 8 + (i 1).val] := by
  funext a
  match a with
  | ⟨0, _⟩ => exact congrArg BitVec.toNat (at_e m _ _)
  | ⟨1, _⟩ => exact rfl
  | ⟨2, _⟩ => exact (congrArg (fun w : BitVec 32 => ((Scalar.addi (8#32) (Scalar.select (Scalar.cmpi .sgt w (0#32)) (BitVec.ofNat 32 (i 1).val) (15#32))) : BitVec 32).toNat) (at_nb m _ _)).trans (show ((Scalar.addi (8#32) (Scalar.select (Scalar.cmpi .sgt 1#32 (0#32)) (BitVec.ofNat 32 (i 1).val) (15#32))) : BitVec 32).toNat = 8 + (i 1).val by revert i; decide +kernel)
/-- Where window 2's block lies at a point of the grid. -/
theorem ix_2 (i : grid0.Coords) : cc0_transform_2 k0_off1_inb numel1_S1 (tbl m) i = ![(i 0).val, (i 1).val] := by
  funext a
  match a with
  | ⟨0, _⟩ => exact (show (BitVec.ofNat 32 (i 0).val).toNat = (i 0).val by revert i; decide +kernel)
  | ⟨1, _⟩ => exact (show (BitVec.ofNat 32 (i 1).val).toNat = (i 1).val by revert i; decide +kernel)
/-- Every block lies inside its array, and its transfers are of whole words. -/
theorem ok : Ok m :=
  ⟨fun i => by rw [ix_0 m i]; revert i; decide +kernel, fun i => by rw [ix_1 m i]; revert i; decide +kernel, fun i => by rw [ix_2 m i]; revert i; decide +kernel⟩

set_option maxHeartbeats 1000000 in
/-- The body at a live block: the inputs stay, and each output is the product the body computes from them. -/
theorem body_run (c : Dev nD) (i : grid0.Coords) (arg5 : Memref sig .tc .vmem S640x4096 .bf16) (harg5 : arg5.IsWhole) (arg6 : Memref sig .tc .vmem S1x4096x512 .f32) (harg6 : arg6.IsWhole) (arg7 : Memref sig .tc .vmem S640x512 .f32) (harg7 : arg7.IsWhole)
    (x0 : Vec F S640x4096 .bf16) (x1 : Vec F S1x4096x512 .f32) (xt0 : TbBuf0 (F := F) c tbM0_0) (xt1 : TbBuf0 (F := F) c tbM0_1) (xt2 : TbBuf0 (F := F) c tbM0_2)
    (hw : (tbM0_2.view.readAt (Elt F) (Rect.unit (s := S1) (k0_off1 i) S1.size (k0_off1_inb i)).toLoadRect xt2 (Shape.Idx.first (numel1_S1.symm ▸ Nat.one_pos))) = (1#32 : BitVec 32)) :
      ∀ (E : Set ℕ) (K : PUnit → sProp 𝕄),
        iprop(owns (c : Thread nD τ) arg5 fullShare x0 ∗ owns (c : Thread nD τ) arg6 fullShare x1 ∗ (∃ d, owns (c : Thread nD τ) arg7 fullShare d) ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare (k0_pay1 x0 x1) ∗ tbPt0 c tbM0_0 xt0 ∗ tbPt0 c tbM0_1 xt1 ∗ tbPt0 c tbM0_2 xt2) -∗ K ⟨⟩))
          ⊢ wp frame (wpE (defs₀ (F := F)) Variants.none c none) E (cc0_rg_mm i tbM0_0 htbM0_0 tbM0_1 htbM0_1 tbM0_2 htbM0_2 arg5 harg5 arg6 harg6 arg7 harg7) K := by
  intro E K
  have hc : (Scalar.cmpi .ne (Scalar.extui (Scalar.cmpi .sgt (tbM0_2.view.readAt (Elt F) (Rect.unit (s := S1) (k0_off1 i) S1.size (k0_off1_inb i)).toLoadRect xt2 (Shape.Idx.first (numel1_S1.symm ▸ Nat.one_pos))) 0#32) : BitVec 32) 0#32 : BitVec 1) = 1#1 := by rw [hw]; decide
  have hk : k0_chk1 (tbM0_2.view.readAt (Elt F) (Rect.unit (s := S1) (k0_off1 i) S1.size (k0_off1_inb i)).toLoadRect xt2 (Shape.Idx.first (numel1_S1.symm ▸ Nat.one_pos))) := by rw [hw]; exact chk
  have h1 : (k0_t1_loop (tbM0_2.view.readAt (Elt F) (Rect.unit (s := S1) (k0_off1 i) S1.size (k0_off1_inb i)).toLoadRect xt2 (Shape.Idx.first (numel1_S1.symm ▸ Nat.one_pos)))).trips = 0 := by rw [hw]; exact trips1
  have h2 : (k0_t2_loop (tbM0_2.view.readAt (Elt F) (Rect.unit (s := S1) (k0_off1 i) S1.size (k0_off1_inb i)).toLoadRect xt2 (Shape.Idx.first (numel1_S1.symm ▸ Nat.one_pos)))).trips = 0 := by rw [hw]; exact trips2
  simp only [cc0_rg_mm_eq_skeleton]; unfold cc0_rg_mm_skel
  unfold owns
  iintro ⟨⟨%f0, %hf0, H0⟩, ⟨%f1, %hf1, H1⟩, ⟨%d2, %f2, -, H2⟩, HT0, HT1, HT2, Hk⟩
  obtain rfl := harg5.eq_unread hf0; obtain rfl := harg6.eq_unread hf1
  sl_exec (disch := first | sl_exact hc | sl_exact hk)
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; swap; · iexact H2
    ipureintro
    rw [show Scf.trips (k0_t2_loop (body_run.sl.r c i xt2)).lb (k0_t2_loop (body_run.sl.r c i xt2)).ub (k0_t2_loop (body_run.sl.r c i xt2)).st = 0 from h2,
      show Scf.trips (k0_t1_loop (body_run.sl.r c i xt2)).lb (k0_t1_loop (body_run.sl.r c i xt2)).ub (k0_t1_loop (body_run.sl.r c i xt2)).st = 0 from h1]
    refine (View.read_writes_full _ _ _ _ _).trans ?_
    exact congr (congrArg k0_pay1 ((View.readAt_full _ _ _).trans (harg5.read_unread _))) ((View.readAt_full _ _ _).trans (harg6.read_unread _))
  isplitl [HT0]; · iexact HT0
  isplitl [HT1]; · iexact HT1
  iexact HT2

/-! The run. -/

/-- What the pipeline works with: the arrays at the call, each input's block, each output's block as the body computes it. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => k0_pay1 (F := F) (iblk m hO c 0 t) (iblk m hO c 1 t)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = k0_pay1 (F := F) (iblk m hO c 0 t) (iblk m hO c 1 t) := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d

/-- What the body finds at a point, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d)) ∗ (∃ d, owns (c : Thread nD τ) (ms0_1 m hO t) fullShare ((dats m hO 0 c).before 1 t d)) ∗ (∃ d, owns (c : Thread nD τ) (ms0_2 m hO t) fullShare ((dats m hO 0 c).before 2 t d)))
/-- and what it leaves. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t) ∗ owns (c : Thread nD τ) (ms0_1 m hO t) fullShare ((dats m hO 0 c).after 1 t) ∗ owns (c : Thread nD τ) (ms0_2 m hO t) fullShare ((dats m hO 0 c).after 2 t))

set_option maxHeartbeats 800000 in
/-- The body meets its part at every point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1]
  rw [show (dats m hO 0 c).Φ t.succ = (dats m hO 0 c).Φ t.castSucc from rfl,
    show (dats m hO 0 c).owesAt () t.succ = (dats m hO 0 c).owesAt () t.castSucc from rfl,
    after0_0, after0_1, after0_2]
  rw [show (dats m hO 0 c).Φ t.castSucc = iprop(Pipeline.ΦA spec0 c ∗ Pipeline.ΦT pre0 (tbl m) c) from rfl, PhiT0_eq]
  iintro ⟨⟨HΦ, ⟨HT0, HT1, HT2⟩⟩, Ho, ⟨%d0, H0⟩, ⟨%d1, H1⟩, ⟨%d2, H2⟩⟩
  iapply ((body_run c (grid0.coords t) _ _ _ _ _ _ (iblk m hO c 0 t) (iblk m hO c 1 t) (tbl m 0) (tbl m 1) (tbl m 2) (word m (grid0.coords t))) Set.univ _)
  isplitl [H0]; · iexact H0
  isplitl [H1]; · iexact H1
  isplitl [H2]; · iexists _; iexact H2
  isplitl [HT0]; · iexact HT0
  isplitl [HT1]; · iexact HT1
  isplitl [HT2]; · iexact HT2
  iintro ⟨H0, H1, H2, HT0, HT1, HT2⟩
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  iexact H2

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

set_option backward.isDefEq.respectTransparency.types false in
/-- Every run ends, its arrays as the body's blocks fill them and every counter at zero. -/
theorem run_main (hO : Ok m) : θ_run defs (onTc (τ := τ) (main (F := F))) (s₀ m ρ) (fun r => Pipeline.FramePost (Pipeline.pin pcfgs fun _ => adm m hO) (dats m hO) (0 : Fin 1) (V m) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- The run with its results: each result is the array the blocks fill, and the arguments end as they were. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ (∀ (c : Dev nD) w, r.2.mem ((((cfgM m (ok m)).spec w).arr.view.loc (c.tc : Thread nD τ))) = (dats m (ok m) 0 c).arrAt w (cfgM m (ok m)).N)
      ∧ r.2.sem = fun _ => 0) :=
  (θ_run defs _ _).mono (fun _ h => ⟨fun c => ⟨((h.1 c).1 0).trans (((dats m (ok m) 0 c).arrAt_in 0 rfl _).trans ((A_eq m (ok m) c 0).trans (V_main_arg0 m c))),
      ((h.1 c).1 1).trans (((dats m (ok m) 0 c).arrAt_in 1 rfl _).trans ((A_eq m (ok m) c 1).trans (V_main_arg1 m c)))⟩,
    fun c w => (h.1 c).1 w, h.2⟩) (run_main m ρ (ok m))

/-- The frame: every run ends, the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨h.1, h.2.2⟩) (run m ρ)

end Cert.Proof.KvNew

end
-- ==== Proof.KvNewValue.lean ====
/- The keys and values projection's result, index by index, and its reference's. -/
module

public import proofs.«01_k».proof.Proof.KvNewRun
public import proofs.«01_k».proof.Proof.Gen.KvNewRefIdeal.Read
public import Idealize.ShloMosaic.Lib.Pointwise
public import Idealize.ShloMosaic.Lib.Pipeline.Value
public import Idealize.ShloMosaic.Lib.Pipeline.ValueKit
public import Idealize.ShloMosaic.Lib.Pipeline.Covers
public import Idealize.ShloMosaic.Lib.IdealHost
public import Idealize.ShloMosaic.PureOps.Ideal.Laws

@[expose] public section

set_option maxRecDepth 16384

noncomputable section

namespace Cert.Proof.KvNew

open Idealize.ShloMosaic Idealize.ShloMosaic.TcCoe Idealize.SL.Sem Cert.KvNew Cert.KvNew.Gen

/-- One block of the result, at an index. -/
theorem pay_apply (x0 : Vec Ideal S640x4096 .bf16) (x1 : Vec Ideal S1x4096x512 .f32) (r : Fin 640) (n : Fin 512) :
    k0_pay1 (F := Ideal) x0 x1 (ix2 r n) = ∑ k : Fin 4096, x0 (ix2 r k) * x1 (ix3 0 k n) := by
  unfold k0_pay1
  pointwise [dot_S640x4096_S4096x512_S640x512_1_0_0_1_n_n]

variable (m : (ℓ : Loc nD τ sig) → Buf (Elt Ideal) ℓ) (ρ : Dev nD → PrngReg)

/-- Block 0 holds the rows of its array from 640 times its row index on. -/
theorem blk_0 (c : Dev nD) (t : Fin (cfgM m (ok m)).N) (r : Fin 640) (k : Fin 4096) (R : Fin 640) (hR : R.val = 640 * (grid0.coords t 0).val + r.val) :
    (iblk m (ok m) c 0 t : Vec Ideal S640x4096 .bf16) (ix2 r k) = V m c main_arg0 (ix2 R k) := by
  blk_simp [iblk]
  refine congrArg (V m c main_arg0) ?_
  blk_ext
  · exact (congrArg (fun z => z * 640 + r.val) (congrFun (ix_0 m (grid0.coords t)) 0)).trans (show (grid0.coords t 0).val * 640 + r.val = R.val by omega)
  · exact (congrArg (fun z => z * 4096 + k.val) (congrFun (ix_0 m (grid0.coords t)) 1)).trans (show 0 * 4096 + k.val = k.val by omega)

/-- Block 1 holds the weights' columns from 512 times its column index on. -/
theorem blk_1 (c : Dev nD) (t : Fin (cfgM m (ok m)).N) (k : Fin 4096) (n : Fin 512) (C : Fin 12288) (hC : C.val = 512 * (8 + (grid0.coords t 1).val) + n.val) :
    (iblk m (ok m) c 1 t : Vec Ideal S1x4096x512 .f32) (ix3 0 k n) = V m c main_arg1 (ix3 0 k C) := by
  blk_simp [iblk]
  refine congrArg (V m c main_arg1) ?_
  blk_ext
  · exact congrArg (fun z => z + 0) (congrFun (ix_1 m (grid0.coords t)) 0)
  · exact (congrArg (fun z => z * 4096 + k.val) (congrFun (ix_1 m (grid0.coords t)) 1)).trans (show 0 * 4096 + k.val = k.val by omega)
  · exact (congrArg (fun z => z * 512 + n.val) (congrFun (ix_1 m (grid0.coords t)) 2)).trans (show (8 + (grid0.coords t 1).val) * 512 + n.val = C.val by omega)

theorem nblk_0 : ((cfgM m (ok m)).win 2).nblk (0 : Fin 2) = 1 := show (640 + 640 - 1) / 640 = 1 by decide
theorem nblk_1 : ((cfgM m (ok m)).win 2).nblk (1 : Fin 2) = 16 := show (8192 + 512 - 1) / 512 = 16 by decide
/-- The blocks written back cover the result. -/
theorem covers : ((cfgM m (ok m)).win 2).Covers :=
  Pipeline.Window.covers_of_indexMap_surj _ rfl (show ∀ a : Fin 2, 0 < S640x512.size a by decide) fun β => by
    let i : grid0.Coords := fun a => match a with
      | ⟨0, _⟩ => ⟨(β (0 : Fin 2)).val, (β (0 : Fin 2)).isLt.trans_eq (nblk_0 m)⟩
      | ⟨1, _⟩ => ⟨(β (1 : Fin 2)).val, (β (1 : Fin 2)).isLt.trans_eq (nblk_1 m)⟩
    refine ⟨i, fun a => ?_⟩
    refine (congrFun (ix_2 m i) a).trans ?_
    match a with
    | ⟨0, _⟩ => rfl
    | ⟨1, _⟩ => rfl

/-- The weights' column of a result's column. -/
def colOf (i : S640x8192.Idx) : Fin 12288 := ⟨4096 + (i 1).val, by have h : (i 1).val < 8192 := (i 1).isLt; omega⟩

/-- The product of the rows with the second and third 4096 columns of the weights. -/
def prod (x0 : S640x4096.Idx → EReal) (x1 : S1x4096x12288.Idx → EReal) : S640x8192.Idx → EReal := fun i =>
  ∑ k : Fin 4096, x0 (ix2 (i 0) k) * x1 (ix3 0 k (colOf i))

/-- The result is that function of the arguments. -/
theorem final (c : Dev nD) : (dats m (ok m) 0 c).arrAt 2 (cfgM m (ok m)).N
    = prod (m ((c.tc : Thread nD τ).loc main_arg0)) (m ((c.tc : Thread nD τ).loc main_arg1)) := by
  rw [← V_main_arg0 m c, ← V_main_arg1 m c]
  refine (dats m (ok m) 0 c).arrAt_eq_of_covers 2 (prod (V m c main_arg0) (V m c main_arg1)) (covers m) fun t hf y => ?_
  blk_simp
  rw [after0_2]
  have hy : ∀ y : S640x512.Idx, k0_pay1 (F := Ideal) (iblk m (ok m) c 0 t) (iblk m (ok m) c 1 t) y
      = prod (V m c main_arg0) (V m c main_arg1) (((((cfgM m (ok m)).win 2).blk t).view.emb y : S640x8192.Idx)) := by
    intro y
    idx_vars y
    have hz : (grid0.coords t 0).val < 1 := (grid0.coords t 0).isLt
    have h0 : (((((cfgM m (ok m)).win 2).blk t).view.emb (ix2 y0 y1) : S640x8192.Idx) (0 : Fin 2)).val = 640 * (grid0.coords t 0).val + y0.val := by
      blk_simp
      exact (congrArg (fun z => z * 640 + y0.val) (congrFun (ix_2 m (grid0.coords t)) 0)).trans (show (grid0.coords t 0).val * 640 + y0.val = _ by omega)
    have h1' : (((((cfgM m (ok m)).win 2).blk t).view.emb (ix2 y0 y1) : S640x8192.Idx) (1 : Fin 2)).val = 512 * (grid0.coords t 1).val + y1.val := by
      blk_simp
      exact (congrArg (fun z => z * 512 + y1.val) (congrFun (ix_2 m (grid0.coords t)) 1)).trans (show (grid0.coords t 1).val * 512 + y1.val = _ by omega)
    have h1 : (colOf ((((cfgM m (ok m)).win 2).blk t).view.emb (ix2 y0 y1) : S640x8192.Idx)).val = 512 * (8 + (grid0.coords t 1).val) + y1.val :=
      (congrArg (fun z => 4096 + z) h1').trans (show 4096 + (512 * (grid0.coords t 1).val + y1.val) = _ by omega)
    exact (pay_apply _ _ y0 y1).trans (Finset.sum_congr rfl fun k _ => congrArg₂ (· * ·) (blk_0 m c t y0 k _ h0) (blk_1 m c t k y1 _ h1))
  exact hy y

/-- The reference's product v3, at an index. -/
theorem ref_dot (x : S640x4096.Idx → EReal) (w : S1x4096x12288.Idx → EReal) (i : S640x8192.Idx) :
    Cert.KvNewRefIdeal.Read.val_main_v3 (F := Ideal) x w i = ∑ k : Fin 4096, x (ix2 (i 0) k) * w (ix3 0 k (colOf i)) := by
  refine (Cert.KvNewRefIdeal.Read.val_main_v3_apply x w i).trans (Finset.sum_congr rfl fun k _ => congrArg₂ (· * ·) (congrArg x ?_) ?_)
  · funext a
    match a with
    | ⟨0, _⟩ => rfl
    | ⟨1, _⟩ => rfl
  · rw [Cert.KvNewRefIdeal.Read.val_main_v2_apply, Cert.KvNewRefIdeal.Read.val_main_v1_apply]
    refine congrArg w (funext fun a => Fin.ext ?_)
    have h0 : k.val < 4096 := k.isLt
    have h1 : (i 1).val < 8192 := (i 1).isLt
    match a with
    | ⟨0, _⟩ => rfl
    | ⟨1, _⟩ => show (k.val * 12288 + (4096 + (i 1).val)) / 12288 % 4096 = k.val; omega
    | ⟨2, _⟩ => show (k.val * 12288 + (4096 + (i 1).val)) % 12288 = (4096 + (i 1).val); omega

/-- The reference's result is the same function. -/
theorem ref_eq (x0 : S640x4096.Idx → EReal) (x1 : S1x4096x12288.Idx → EReal) : Cert.KvNewRefIdeal.Read.val_main_v3 (F := Ideal) x0 x1 = prod x0 x1 :=
  funext fun i => ref_dot x0 x1 i

end Cert.Proof.KvNew

end
-- ==== Proof.OutProjRun.lean ====
/- The call on any values: the tables the host builds, the body at one point of the grid, and the whole run. -/
module

public import proofs.«01_k».proof.Proof.Gen.OutProj.Launch
public import proofs.«01_k».proof.Proof.Gen.OutProj.Skeleton
public import proofs.«01_k».proof.Proof.Gen.OutProj.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.VecWindow
public import Idealize.ShloMosaic.Lib.WholeRead

@[expose] public section

set_option maxRecDepth 16384

noncomputable section

namespace Cert.Proof.OutProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.OutProj Cert.OutProj.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! Staging memrefs and bodies at a point. -/

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)

abbrev bodyAt0 (a : (pcfg0 (F := F)).Adm) (t : Fin (cfg0 a).N) : Prog (TpuEff nD τ sig (Elt F) Λ₀ .tc) PUnit :=
  cc0_rg_mm (grid0.coords t) (Memref.whole main_v0) (Memref.isWhole_whole _) (Memref.whole main_v1) (Memref.isWhole_whole _) (Memref.whole main_v2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2))

/-! @main up to the call. -/

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! The tables. -/

def tbl : pre0.Contents (Elt F) := fun j => V m (0 : Dev nD) (pre0.ref j)
theorem V_pre (c : Dev nD) (j : Fin 3) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S5 .i32 := Memref.whole main_v0
abbrev htbM0_0 : tbM0_0.IsWhole := Memref.isWhole_whole _
abbrev tbM0_1 : Memref sig .tc .smem S5 .i32 := Memref.whole main_v1
abbrev htbM0_1 : tbM0_1.IsWhole := Memref.isWhole_whole _
abbrev tbM0_2 : Memref sig .tc .smem S5 .i32 := Memref.whole main_v2
abbrev htbM0_2 : tbM0_2.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! The blocks. -/

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! The arguments end as they were. -/

theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c))⟩) h

abbrev ms0_0 (hO : Ok m) (t : Fin (cfgM m hO).N) : Memref sig .tc .vmem S1664x4096 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x4096x512 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1664x512 .f32 := spec0_2.stage ((cfgM m hO).slots t 2)
abbrev hs0_2 (hO : Ok m) (t : Fin (cfgM m hO).N) : (ms0_2 m hO t).IsWhole := hstage0_2 (((cfgM m hO).slots t 2).cast nbuf0_2)

/-! What the tables hold. -/

/-- Every group uses the first weights. -/
theorem tbl_e (i : S5.Idx) : (tbl m 0 : S5.Idx → BitVec 32) i = 0#32 := by
  unfold tbl V hostOps0
  after_results
  all_goals rfl
/-- Group `i` begins at block `i`. -/
theorem tbl_st (i : S5.Idx) : (tbl m 1 : S5.Idx → BitVec 32) i = BitVec.ofNat 32 (i 0).val := by
  unfold tbl V hostOps0
  after_results
  all_goals rfl
/-- Every group has one live block. -/
theorem tbl_nb (i : S5.Idx) : (tbl m 2 : S5.Idx → BitVec 32) i = 1#32 := by
  unfold tbl V hostOps0
  after_results
  all_goals rfl

/-- A word of the first table. -/
theorem at_e (R : Rect S5) (h : R.shape.numel = 1) : (tbl m).at 0 R h = (0#32 : BitVec 32) := tbl_e m _
/-- A word of the second. -/
theorem at_st (R : Rect S5) (h : R.shape.numel = 1) : (tbl m).at 1 R h = BitVec.ofNat 32 (R.emb (Shape.Idx.first (h.symm ▸ Nat.one_pos)) 0).val := tbl_st m _
/-- A word of the third. -/
theorem at_nb (R : Rect S5) (h : R.shape.numel = 1) : (tbl m).at 2 R h = (1#32 : BitVec 32) := tbl_nb m _
/-- The word the body reads. -/
theorem word (i : grid0.Coords) : (tbM0_2.view.readAt (Elt F) (Rect.unit (s := S5) (k0_off1 i) S1.size (k0_off1_inb i)).toLoadRect (tbl m 2) (Shape.Idx.first (numel1_S1.symm ▸ Nat.one_pos))) = (1#32 : BitVec 32) := by
  exact tbl_nb m _
/-- What the body takes for granted of it. -/
theorem chk : k0_chk1 (1#32 : BitVec 32) := by decide +kernel
/-- No piece of the block is cleared. -/
theorem trips1 : (k0_t1_loop (1#32 : BitVec 32)).trips = 0 := by decide +kernel
theorem trips2 : (k0_t2_loop (1#32 : BitVec 32)).trips = 0 := by decide +kernel
/-- Where window 0's block lies at a point of the grid. -/
theorem ix_0 (i : grid0.Coords) : cc0_transform_0 k0_off1_inb numel1_S1 (tbl m) i = ![(i 0).val, 0] := by
  funext a
  match a with
  | ⟨0, _⟩ => exact (congrArg BitVec.toNat (at_st m _ _)).trans (show (BitVec.ofNat 32 ((BitVec.ofNat 32 (i 0).val).toNat + 1 * 0)).toNat = (i 0).val by revert i; decide +kernel)
  | ⟨1, _⟩ => exact rfl
/-- Where window 1's block lies at a point of the grid. -/
theorem ix_1 (i : grid0.Coords) : cc0_transform_1 k0_off1_inb numel1_S1 (tbl m) i = ![0, 0, (i 1).val] := by
  funext a
  match a with
  | ⟨0, _⟩ => exact congrArg BitVec.toNat (at_e m _ _)
  | ⟨1, _⟩ => exact rfl
  | ⟨2, _⟩ => exact (congrArg (fun w : BitVec 32 => ((Scalar.addi (0#32) (Scalar.select (Scalar.cmpi .sgt w (0#32)) (BitVec.ofNat 32 (i 1).val) (7#32))) : BitVec 32).toNat) (at_nb m _ _)).trans (show ((Scalar.addi (0#32) (Scalar.select (Scalar.cmpi .sgt 1#32 (0#32)) (BitVec.ofNat 32 (i 1).val) (7#32))) : BitVec 32).toNat = (i 1).val by revert i; decide +kernel)
/-- Where window 2's block lies at a point of the grid. -/
theorem ix_2 (i : grid0.Coords) : cc0_transform_2 k0_off1_inb numel1_S1 (tbl m) i = ![(i 0).val, (i 1).val] := by
  funext a
  match a with
  | ⟨0, _⟩ => exact (show (BitVec.ofNat 32 (i 0).val).toNat = (i 0).val by revert i; decide +kernel)
  | ⟨1, _⟩ => exact (show (BitVec.ofNat 32 (i 1).val).toNat = (i 1).val by revert i; decide +kernel)
/-- Every block lies inside its array, and its transfers are of whole words. -/
theorem ok : Ok m :=
  ⟨fun i => by rw [ix_0 m i]; revert i; decide +kernel, fun i => by rw [ix_1 m i]; revert i; decide +kernel, fun i => by rw [ix_2 m i]; revert i; decide +kernel⟩

set_option maxHeartbeats 1000000 in
/-- The body at a live block: the inputs stay, and each output is the product the body computes from them. -/
theorem body_run (c : Dev nD) (i : grid0.Coords) (arg5 : Memref sig .tc .vmem S1664x4096 .bf16) (harg5 : arg5.IsWhole) (arg6 : Memref sig .tc .vmem S1x4096x512 .f32) (harg6 : arg6.IsWhole) (arg7 : Memref sig .tc .vmem S1664x512 .f32) (harg7 : arg7.IsWhole)
    (x0 : Vec F S1664x4096 .bf16) (x1 : Vec F S1x4096x512 .f32) (xt0 : TbBuf0 (F := F) c tbM0_0) (xt1 : TbBuf0 (F := F) c tbM0_1) (xt2 : TbBuf0 (F := F) c tbM0_2)
    (hw : (tbM0_2.view.readAt (Elt F) (Rect.unit (s := S5) (k0_off1 i) S1.size (k0_off1_inb i)).toLoadRect xt2 (Shape.Idx.first (numel1_S1.symm ▸ Nat.one_pos))) = (1#32 : BitVec 32)) :
      ∀ (E : Set ℕ) (K : PUnit → sProp 𝕄),
        iprop(owns (c : Thread nD τ) arg5 fullShare x0 ∗ owns (c : Thread nD τ) arg6 fullShare x1 ∗ (∃ d, owns (c : Thread nD τ) arg7 fullShare d) ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare (k0_pay1 x0 x1) ∗ tbPt0 c tbM0_0 xt0 ∗ tbPt0 c tbM0_1 xt1 ∗ tbPt0 c tbM0_2 xt2) -∗ K ⟨⟩))
          ⊢ wp frame (wpE (defs₀ (F := F)) Variants.none c none) E (cc0_rg_mm i tbM0_0 htbM0_0 tbM0_1 htbM0_1 tbM0_2 htbM0_2 arg5 harg5 arg6 harg6 arg7 harg7) K := by
  intro E K
  have hc : (Scalar.cmpi .ne (Scalar.extui (Scalar.cmpi .sgt (tbM0_2.view.readAt (Elt F) (Rect.unit (s := S5) (k0_off1 i) S1.size (k0_off1_inb i)).toLoadRect xt2 (Shape.Idx.first (numel1_S1.symm ▸ Nat.one_pos))) 0#32) : BitVec 32) 0#32 : BitVec 1) = 1#1 := by rw [hw]; decide
  have hk : k0_chk1 (tbM0_2.view.readAt (Elt F) (Rect.unit (s := S5) (k0_off1 i) S1.size (k0_off1_inb i)).toLoadRect xt2 (Shape.Idx.first (numel1_S1.symm ▸ Nat.one_pos))) := by rw [hw]; exact chk
  have h1 : (k0_t1_loop (tbM0_2.view.readAt (Elt F) (Rect.unit (s := S5) (k0_off1 i) S1.size (k0_off1_inb i)).toLoadRect xt2 (Shape.Idx.first (numel1_S1.symm ▸ Nat.one_pos)))).trips = 0 := by rw [hw]; exact trips1
  have h2 : (k0_t2_loop (tbM0_2.view.readAt (Elt F) (Rect.unit (s := S5) (k0_off1 i) S1.size (k0_off1_inb i)).toLoadRect xt2 (Shape.Idx.first (numel1_S1.symm ▸ Nat.one_pos)))).trips = 0 := by rw [hw]; exact trips2
  simp only [cc0_rg_mm_eq_skeleton]; unfold cc0_rg_mm_skel
  unfold owns
  iintro ⟨⟨%f0, %hf0, H0⟩, ⟨%f1, %hf1, H1⟩, ⟨%d2, %f2, -, H2⟩, HT0, HT1, HT2, Hk⟩
  obtain rfl := harg5.eq_unread hf0; obtain rfl := harg6.eq_unread hf1
  sl_exec (disch := first | sl_exact hc | sl_exact hk)
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; swap; · iexact H2
    ipureintro
    rw [show Scf.trips (k0_t2_loop (body_run.sl.r c i xt2)).lb (k0_t2_loop (body_run.sl.r c i xt2)).ub (k0_t2_loop (body_run.sl.r c i xt2)).st = 0 from h2,
      show Scf.trips (k0_t1_loop (body_run.sl.r c i xt2)).lb (k0_t1_loop (body_run.sl.r c i xt2)).ub (k0_t1_loop (body_run.sl.r c i xt2)).st = 0 from h1]
    refine (View.read_writes_full _ _ _ _ _).trans ?_
    exact congr (congrArg k0_pay1 ((View.readAt_full _ _ _).trans (harg5.read_unread _))) ((View.readAt_full _ _ _).trans (harg6.read_unread _))
  isplitl [HT0]; · iexact HT0
  isplitl [HT1]; · iexact HT1
  iexact HT2

/-! The run. -/

/-- What the pipeline works with: the arrays at the call, each input's block, each output's block as the body computes it. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => k0_pay1 (F := F) (iblk m hO c 0 t) (iblk m hO c 1 t)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = k0_pay1 (F := F) (iblk m hO c 0 t) (iblk m hO c 1 t) := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d

/-- What the body finds at a point, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d)) ∗ (∃ d, owns (c : Thread nD τ) (ms0_1 m hO t) fullShare ((dats m hO 0 c).before 1 t d)) ∗ (∃ d, owns (c : Thread nD τ) (ms0_2 m hO t) fullShare ((dats m hO 0 c).before 2 t d)))
/-- and what it leaves. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t) ∗ owns (c : Thread nD τ) (ms0_1 m hO t) fullShare ((dats m hO 0 c).after 1 t) ∗ owns (c : Thread nD τ) (ms0_2 m hO t) fullShare ((dats m hO 0 c).after 2 t))

set_option maxHeartbeats 800000 in
/-- The body meets its part at every point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1]
  rw [show (dats m hO 0 c).Φ t.succ = (dats m hO 0 c).Φ t.castSucc from rfl,
    show (dats m hO 0 c).owesAt () t.succ = (dats m hO 0 c).owesAt () t.castSucc from rfl,
    after0_0, after0_1, after0_2]
  rw [show (dats m hO 0 c).Φ t.castSucc = iprop(Pipeline.ΦA spec0 c ∗ Pipeline.ΦT pre0 (tbl m) c) from rfl, PhiT0_eq]
  iintro ⟨⟨HΦ, ⟨HT0, HT1, HT2⟩⟩, Ho, ⟨%d0, H0⟩, ⟨%d1, H1⟩, ⟨%d2, H2⟩⟩
  iapply ((body_run c (grid0.coords t) _ _ _ _ _ _ (iblk m hO c 0 t) (iblk m hO c 1 t) (tbl m 0) (tbl m 1) (tbl m 2) (word m (grid0.coords t))) Set.univ _)
  isplitl [H0]; · iexact H0
  isplitl [H1]; · iexact H1
  isplitl [H2]; · iexists _; iexact H2
  isplitl [HT0]; · iexact HT0
  isplitl [HT1]; · iexact HT1
  isplitl [HT2]; · iexact HT2
  iintro ⟨H0, H1, H2, HT0, HT1, HT2⟩
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  iexact H2

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

set_option backward.isDefEq.respectTransparency.types false in
/-- Every run ends, its arrays as the body's blocks fill them and every counter at zero. -/
theorem run_main (hO : Ok m) : θ_run defs (onTc (τ := τ) (main (F := F))) (s₀ m ρ) (fun r => Pipeline.FramePost (Pipeline.pin pcfgs fun _ => adm m hO) (dats m hO) (0 : Fin 1) (V m) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- The run with its results: each result is the array the blocks fill, and the arguments end as they were. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ (∀ (c : Dev nD) w, r.2.mem ((((cfgM m (ok m)).spec w).arr.view.loc (c.tc : Thread nD τ))) = (dats m (ok m) 0 c).arrAt w (cfgM m (ok m)).N)
      ∧ r.2.sem = fun _ => 0) :=
  (θ_run defs _ _).mono (fun _ h => ⟨fun c => ⟨((h.1 c).1 0).trans (((dats m (ok m) 0 c).arrAt_in 0 rfl _).trans ((A_eq m (ok m) c 0).trans (V_main_arg0 m c))),
      ((h.1 c).1 1).trans (((dats m (ok m) 0 c).arrAt_in 1 rfl _).trans ((A_eq m (ok m) c 1).trans (V_main_arg1 m c)))⟩,
    fun c w => (h.1 c).1 w, h.2⟩) (run_main m ρ (ok m))

/-- The frame: every run ends, the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨h.1, h.2.2⟩) (run m ρ)

end Cert.Proof.OutProj

end
-- ==== Proof.OutProjValue.lean ====
/- The output projection's result, index by index, and its reference's. -/
module

public import proofs.«01_k».proof.Proof.OutProjRun
public import proofs.«01_k».proof.Proof.Gen.OutProjRefIdeal.Read
public import Idealize.ShloMosaic.Lib.Pointwise
public import Idealize.ShloMosaic.Lib.Pipeline.Value
public import Idealize.ShloMosaic.Lib.Pipeline.ValueKit
public import Idealize.ShloMosaic.Lib.Pipeline.Covers
public import Idealize.ShloMosaic.Lib.IdealHost
public import Idealize.ShloMosaic.PureOps.Ideal.Laws

@[expose] public section

set_option maxRecDepth 16384

noncomputable section

namespace Cert.Proof.OutProj

open Idealize.ShloMosaic Idealize.ShloMosaic.TcCoe Idealize.SL.Sem Cert.OutProj Cert.OutProj.Gen

/-- One block of the result, at an index. -/
theorem pay_apply (x0 : Vec Ideal S1664x4096 .bf16) (x1 : Vec Ideal S1x4096x512 .f32) (r : Fin 1664) (n : Fin 512) :
    k0_pay1 (F := Ideal) x0 x1 (ix2 r n) = ∑ k : Fin 4096, x0 (ix2 r k) * x1 (ix3 0 k n) := by
  unfold k0_pay1
  pointwise [dot_S1664x4096_S4096x512_S1664x512_1_0_0_1_n_n]

variable (m : (ℓ : Loc nD τ sig) → Buf (Elt Ideal) ℓ) (ρ : Dev nD → PrngReg)

/-- Block 0 holds the rows of its array from 1664 times its row index on. -/
theorem blk_0 (c : Dev nD) (t : Fin (cfgM m (ok m)).N) (r : Fin 1664) (k : Fin 4096) (R : Fin 8320) (hR : R.val = 1664 * (grid0.coords t 0).val + r.val) :
    (iblk m (ok m) c 0 t : Vec Ideal S1664x4096 .bf16) (ix2 r k) = V m c main_arg0 (ix2 R k) := by
  blk_simp [iblk]
  refine congrArg (V m c main_arg0) ?_
  blk_ext
  · exact (congrArg (fun z => z * 1664 + r.val) (congrFun (ix_0 m (grid0.coords t)) 0)).trans (show (grid0.coords t 0).val * 1664 + r.val = R.val by omega)
  · exact (congrArg (fun z => z * 4096 + k.val) (congrFun (ix_0 m (grid0.coords t)) 1)).trans (show 0 * 4096 + k.val = k.val by omega)

/-- Block 1 holds the weights' columns from 512 times its column index on. -/
theorem blk_1 (c : Dev nD) (t : Fin (cfgM m (ok m)).N) (k : Fin 4096) (n : Fin 512) (C : Fin 4096) (hC : C.val = 512 * (grid0.coords t 1).val + n.val) :
    (iblk m (ok m) c 1 t : Vec Ideal S1x4096x512 .f32) (ix3 0 k n) = V m c main_arg1 (ix3 0 k C) := by
  blk_simp [iblk]
  refine congrArg (V m c main_arg1) ?_
  blk_ext
  · exact congrArg (fun z => z + 0) (congrFun (ix_1 m (grid0.coords t)) 0)
  · exact (congrArg (fun z => z * 4096 + k.val) (congrFun (ix_1 m (grid0.coords t)) 1)).trans (show 0 * 4096 + k.val = k.val by omega)
  · exact (congrArg (fun z => z * 512 + n.val) (congrFun (ix_1 m (grid0.coords t)) 2)).trans (show (grid0.coords t 1).val * 512 + n.val = C.val by omega)

theorem nblk_0 : ((cfgM m (ok m)).win 2).nblk (0 : Fin 2) = 5 := show (8320 + 1664 - 1) / 1664 = 5 by decide
theorem nblk_1 : ((cfgM m (ok m)).win 2).nblk (1 : Fin 2) = 8 := show (4096 + 512 - 1) / 512 = 8 by decide
/-- The blocks written back cover the result. -/
theorem covers : ((cfgM m (ok m)).win 2).Covers :=
  Pipeline.Window.covers_of_indexMap_surj _ rfl (show ∀ a : Fin 2, 0 < S1664x512.size a by decide) fun β => by
    let i : grid0.Coords := fun a => match a with
      | ⟨0, _⟩ => ⟨(β (0 : Fin 2)).val, (β (0 : Fin 2)).isLt.trans_eq (nblk_0 m)⟩
      | ⟨1, _⟩ => ⟨(β (1 : Fin 2)).val, (β (1 : Fin 2)).isLt.trans_eq (nblk_1 m)⟩
    refine ⟨i, fun a => ?_⟩
    refine (congrFun (ix_2 m i) a).trans ?_
    match a with
    | ⟨0, _⟩ => rfl
    | ⟨1, _⟩ => rfl

/-- The product of the rows with the weights. -/
def prod (x0 : S8320x4096.Idx → EReal) (x1 : S1x4096x4096.Idx → EReal) : S8320x4096.Idx → EReal := fun i =>
  ∑ k : Fin 4096, x0 (ix2 (i 0) k) * x1 (ix3 0 k (i 1))

/-- The result is that function of the arguments. -/
theorem final (c : Dev nD) : (dats m (ok m) 0 c).arrAt 2 (cfgM m (ok m)).N
    = prod (m ((c.tc : Thread nD τ).loc main_arg0)) (m ((c.tc : Thread nD τ).loc main_arg1)) := by
  rw [← V_main_arg0 m c, ← V_main_arg1 m c]
  refine (dats m (ok m) 0 c).arrAt_eq_of_covers 2 (prod (V m c main_arg0) (V m c main_arg1)) (covers m) fun t hf y => ?_
  blk_simp
  rw [after0_2]
  have hy : ∀ y : S1664x512.Idx, k0_pay1 (F := Ideal) (iblk m (ok m) c 0 t) (iblk m (ok m) c 1 t) y
      = prod (V m c main_arg0) (V m c main_arg1) (((((cfgM m (ok m)).win 2).blk t).view.emb y : S8320x4096.Idx)) := by
    intro y
    idx_vars y
    have h0 : (((((cfgM m (ok m)).win 2).blk t).view.emb (ix2 y0 y1) : S8320x4096.Idx) (0 : Fin 2)).val = 1664 * (grid0.coords t 0).val + y0.val := by
      blk_simp
      exact (congrArg (fun z => z * 1664 + y0.val) (congrFun (ix_2 m (grid0.coords t)) 0)).trans (show (grid0.coords t 0).val * 1664 + y0.val = _ by omega)
    have h1 : (((((cfgM m (ok m)).win 2).blk t).view.emb (ix2 y0 y1) : S8320x4096.Idx) (1 : Fin 2)).val = 512 * (grid0.coords t 1).val + y1.val := by
      blk_simp
      exact (congrArg (fun z => z * 512 + y1.val) (congrFun (ix_2 m (grid0.coords t)) 1)).trans (show (grid0.coords t 1).val * 512 + y1.val = _ by omega)
    exact (pay_apply _ _ y0 y1).trans (Finset.sum_congr rfl fun k _ => congrArg₂ (· * ·) (blk_0 m c t y0 k _ h0) (blk_1 m c t k y1 _ h1))
  exact hy y

/-- The reference's product v2, at an index. -/
theorem ref_dot (x : S8320x4096.Idx → EReal) (w : S1x4096x4096.Idx → EReal) (i : S8320x4096.Idx) :
    Cert.OutProjRefIdeal.Read.val_main_v2 (F := Ideal) x w i = ∑ k : Fin 4096, x (ix2 (i 0) k) * w (ix3 0 k (i 1)) := by
  refine (Cert.OutProjRefIdeal.Read.val_main_v2_apply x w i).trans (Finset.sum_congr rfl fun k _ => congrArg₂ (· * ·) (congrArg x ?_) ?_)
  · funext a
    match a with
    | ⟨0, _⟩ => rfl
    | ⟨1, _⟩ => rfl
  · rw [Cert.OutProjRefIdeal.Read.val_main_v1_apply]
    refine congrArg w (funext fun a => Fin.ext ?_)
    have h0 : k.val < 4096 := k.isLt
    have h1 : (i 1).val < 4096 := (i 1).isLt
    match a with
    | ⟨0, _⟩ => rfl
    | ⟨1, _⟩ => show (k.val * 4096 + (i 1).val) / 4096 % 4096 = k.val; omega
    | ⟨2, _⟩ => show (k.val * 4096 + (i 1).val) % 4096 = (i 1).val; omega

/-- The reference's result is the same function. -/
theorem ref_eq (x0 : S8320x4096.Idx → EReal) (x1 : S1x4096x4096.Idx → EReal) : Cert.OutProjRefIdeal.Read.val_main_v2 (F := Ideal) x0 x1 = prod x0 x1 :=
  funext fun i => ref_dot x0 x1 i

end Cert.Proof.OutProj

end
-- ==== Proof.PleRun.lean ====
/- The call on any values: the tables the host builds, the body at one point of the grid, and the whole run. -/
module

public import proofs.«01_k».proof.Proof.Gen.Ple.Launch
public import proofs.«01_k».proof.Proof.Gen.Ple.Skeleton
public import proofs.«01_k».proof.Proof.Gen.Ple.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.VecWindow
public import Idealize.ShloMosaic.Lib.WholeRead

@[expose] public section

set_option maxRecDepth 16384

noncomputable section

namespace Cert.Proof.Ple

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Ple Cert.Ple.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! Staging memrefs and bodies at a point. -/

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)

abbrev bodyAt0 (a : (pcfg0 (F := F)).Adm) (t : Fin (cfg0 a).N) : Prog (TpuEff nD τ sig (Elt F) Λ₀ .tc) PUnit :=
  cc0_rg_ple (grid0.coords t) (Memref.whole main_v0) (Memref.isWhole_whole _) (Memref.whole main_v1) (Memref.isWhole_whole _) (Memref.whole main_v2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6))

/-! @main up to the call. -/

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! The tables. -/

def tbl : pre0.Contents (Elt F) := fun j => V m (0 : Dev nD) (pre0.ref j)
theorem V_pre (c : Dev nD) (j : Fin 3) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S5 .i32 := Memref.whole main_v0
abbrev htbM0_0 : tbM0_0.IsWhole := Memref.isWhole_whole _
abbrev tbM0_1 : Memref sig .tc .smem S5 .i32 := Memref.whole main_v1
abbrev htbM0_1 : tbM0_1.IsWhole := Memref.isWhole_whole _
abbrev tbM0_2 : Memref sig .tc .smem S5 .i32 := Memref.whole main_v2
abbrev htbM0_2 : tbM0_2.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! The blocks. -/

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! The arguments end as they were. -/

theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c))⟩) h

abbrev ms0_0 (hO : Ok m) (t : Fin (cfgM m hO).N) : Memref sig .tc .vmem S1664x4096 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x4096x256 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1664x256 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x256x256 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1664x256 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1664x256 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1664x256 .bf16 := spec0_6.stage ((cfgM m hO).slots t 6)
abbrev hs0_6 (hO : Ok m) (t : Fin (cfgM m hO).N) : (ms0_6 m hO t).IsWhole := hstage0_6 (((cfgM m hO).slots t 6).cast nbuf0_6)

/-! What the tables hold. -/

/-- Every group uses the first weights. -/
theorem tbl_e (i : S5.Idx) : (tbl m 0 : S5.Idx → BitVec 32) i = 0#32 := by
  unfold tbl V hostOps0
  after_results
  all_goals rfl
/-- Group `i` begins at block `i`. -/
theorem tbl_st (i : S5.Idx) : (tbl m 1 : S5.Idx → BitVec 32) i = BitVec.ofNat 32 (i 0).val := by
  unfold tbl V hostOps0
  after_results
  all_goals rfl
/-- Every group has one live block. -/
theorem tbl_nb (i : S5.Idx) : (tbl m 2 : S5.Idx → BitVec 32) i = 1#32 := by
  unfold tbl V hostOps0
  after_results
  all_goals rfl

/-- A word of the first table. -/
theorem at_e (R : Rect S5) (h : R.shape.numel = 1) : (tbl m).at 0 R h = (0#32 : BitVec 32) := tbl_e m _
/-- A word of the second. -/
theorem at_st (R : Rect S5) (h : R.shape.numel = 1) : (tbl m).at 1 R h = BitVec.ofNat 32 (R.emb (Shape.Idx.first (h.symm ▸ Nat.one_pos)) 0).val := tbl_st m _
/-- A word of the third. -/
theorem at_nb (R : Rect S5) (h : R.shape.numel = 1) : (tbl m).at 2 R h = (1#32 : BitVec 32) := tbl_nb m _
/-- The word the body reads. -/
theorem word (i : grid0.Coords) : (tbM0_2.view.readAt (Elt F) (Rect.unit (s := S5) (k0_off1 i) S1.size (k0_off1_inb i)).toLoadRect (tbl m 2) (Shape.Idx.first (numel1_S1.symm ▸ Nat.one_pos))) = (1#32 : BitVec 32) := by
  exact tbl_nb m _
/-- What the body takes for granted of it. -/
theorem chk : k0_chk1 (1#32 : BitVec 32) := by decide +kernel
/-- No piece of the block is cleared. -/
theorem trips1 : (k0_t1_loop (1#32 : BitVec 32)).trips = 0 := by decide +kernel
theorem trips2 : (k0_t2_loop (1#32 : BitVec 32)).trips = 0 := by decide +kernel
/-- Where window 0's block lies at a point of the grid. -/
theorem ix_0 (i : grid0.Coords) : cc0_transform_0 k0_off1_inb numel1_S1 (tbl m) i = ![(i 0).val, 0] := by
  funext a
  match a with
  | ⟨0, _⟩ => exact (congrArg BitVec.toNat (at_st m _ _)).trans (show (BitVec.ofNat 32 ((BitVec.ofNat 32 (i 0).val).toNat + 1 * 0)).toNat = (i 0).val by revert i; decide +kernel)
  | ⟨1, _⟩ => exact rfl
/-- Where window 1's block lies at a point of the grid. -/
theorem ix_1 (i : grid0.Coords) : cc0_transform_1 k0_off1_inb numel1_S1 (tbl m) i = ![0, 0, (i 1).val] := by
  funext a
  match a with
  | ⟨0, _⟩ => exact congrArg BitVec.toNat (at_e m _ _)
  | ⟨1, _⟩ => exact rfl
  | ⟨2, _⟩ => exact (congrArg (fun w : BitVec 32 => ((Scalar.select (Scalar.cmpi .sgt w (0#32)) (BitVec.ofNat 32 (i 1).val) (15#32)) : BitVec 32).toNat) (at_nb m _ _)).trans (show ((Scalar.select (Scalar.cmpi .sgt 1#32 (0#32)) (BitVec.ofNat 32 (i 1).val) (15#32)) : BitVec 32).toNat = (i 1).val by revert i; decide +kernel)
/-- Where window 2's block lies at a point of the grid. -/
theorem ix_2 (i : grid0.Coords) : cc0_transform_2 k0_off1_inb numel1_S1 (tbl m) i = ![(i 0).val, 0] := by
  funext a
  match a with
  | ⟨0, _⟩ => exact (congrArg BitVec.toNat (at_st m _ _)).trans (show (BitVec.ofNat 32 ((BitVec.ofNat 32 (i 0).val).toNat + 1 * 0)).toNat = (i 0).val by revert i; decide +kernel)
  | ⟨1, _⟩ => exact rfl
/-- Where window 3's block lies at a point of the grid. -/
theorem ix_3 (i : grid0.Coords) : cc0_transform_3 k0_off1_inb numel1_S1 (tbl m) i = ![0, 0, (i 1).val] := by
  funext a
  match a with
  | ⟨0, _⟩ => exact congrArg BitVec.toNat (at_e m _ _)
  | ⟨1, _⟩ => exact rfl
  | ⟨2, _⟩ => exact (congrArg (fun w : BitVec 32 => ((Scalar.select (Scalar.cmpi .sgt w (0#32)) (BitVec.ofNat 32 (i 1).val) (15#32)) : BitVec 32).toNat) (at_nb m _ _)).trans (show ((Scalar.select (Scalar.cmpi .sgt 1#32 (0#32)) (BitVec.ofNat 32 (i 1).val) (15#32)) : BitVec 32).toNat = (i 1).val by revert i; decide +kernel)
/-- Where window 4's block lies at a point of the grid. -/
theorem ix_4 (i : grid0.Coords) : cc0_transform_4 k0_off1_inb numel1_S1 (tbl m) i = ![(i 0).val, (i 1).val] := by
  funext a
  match a with
  | ⟨0, _⟩ => exact (show (BitVec.ofNat 32 (i 0).val).toNat = (i 0).val by revert i; decide +kernel)
  | ⟨1, _⟩ => exact (show (BitVec.ofNat 32 (i 1).val).toNat = (i 1).val by revert i; decide +kernel)
/-- Where window 5's block lies at a point of the grid. -/
theorem ix_5 (i : grid0.Coords) : cc0_transform_5 k0_off1_inb numel1_S1 (tbl m) i = ![(i 0).val, (i 1).val] := by
  funext a
  match a with
  | ⟨0, _⟩ => exact (show (BitVec.ofNat 32 (i 0).val).toNat = (i 0).val by revert i; decide +kernel)
  | ⟨1, _⟩ => exact (show (BitVec.ofNat 32 (i 1).val).toNat = (i 1).val by revert i; decide +kernel)
/-- Where window 6's block lies at a point of the grid. -/
theorem ix_6 (i : grid0.Coords) : cc0_transform_6 k0_off1_inb numel1_S1 (tbl m) i = ![(i 0).val, (i 1).val] := by
  funext a
  match a with
  | ⟨0, _⟩ => exact (show (BitVec.ofNat 32 (i 0).val).toNat = (i 0).val by revert i; decide +kernel)
  | ⟨1, _⟩ => exact (show (BitVec.ofNat 32 (i 1).val).toNat = (i 1).val by revert i; decide +kernel)
/-- Every block lies inside its array, and its transfers are of whole words. -/
theorem ok : Ok m :=
  ⟨fun i => by rw [ix_0 m i]; revert i; decide +kernel, fun i => by rw [ix_1 m i]; revert i; decide +kernel, fun i => by rw [ix_2 m i]; revert i; decide +kernel, fun i => by rw [ix_3 m i]; revert i; decide +kernel, fun i => by rw [ix_4 m i]; revert i; decide +kernel, fun i => by rw [ix_5 m i]; revert i; decide +kernel, fun i => by rw [ix_6 m i]; revert i; decide +kernel⟩

set_option maxHeartbeats 1000000 in
/-- The body at a live block: the inputs stay, and each output is the product the body computes from them. -/
theorem body_run (c : Dev nD) (i : grid0.Coords) (arg5 : Memref sig .tc .vmem S1664x4096 .bf16) (harg5 : arg5.IsWhole) (arg6 : Memref sig .tc .vmem S1x4096x256 .f32) (harg6 : arg6.IsWhole) (arg7 : Memref sig .tc .vmem S1664x256 .bf16) (harg7 : arg7.IsWhole) (arg8 : Memref sig .tc .vmem S1x256x256 .f32) (harg8 : arg8.IsWhole) (arg9 : Memref sig .tc .vmem S1664x256 .f32) (harg9 : arg9.IsWhole) (arg10 : Memref sig .tc .vmem S1664x256 .f32) (harg10 : arg10.IsWhole) (arg11 : Memref sig .tc .vmem S1664x256 .bf16) (harg11 : arg11.IsWhole)
    (x0 : Vec F S1664x4096 .bf16) (x1 : Vec F S1x4096x256 .f32) (x2 : Vec F S1664x256 .bf16) (x3 : Vec F S1x256x256 .f32) (x4 : Vec F S1664x256 .f32) (xt0 : TbBuf0 (F := F) c tbM0_0) (xt1 : TbBuf0 (F := F) c tbM0_1) (xt2 : TbBuf0 (F := F) c tbM0_2)
    (hw : (tbM0_2.view.readAt (Elt F) (Rect.unit (s := S5) (k0_off1 i) S1.size (k0_off1_inb i)).toLoadRect xt2 (Shape.Idx.first (numel1_S1.symm ▸ Nat.one_pos))) = (1#32 : BitVec 32)) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ (∃ d, owns (c : Thread nD τ) arg10 fullShare d) ∗ (∃ d, owns (c : Thread nD τ) arg11 fullShare d) ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare (k0_pay1 x0 x1 x2 x3 x4) ∗ owns (c : Thread nD τ) arg11 fullShare (k0_pay2 x0 x1 x2 x3 x4) ∗ tbPt0 c tbM0_0 xt0 ∗ tbPt0 c tbM0_1 xt1 ∗ tbPt0 c tbM0_2 xt2) -∗ K ⟨⟩))
          ⊢ wp frame (wpE (defs₀ (F := F)) Variants.none c none) E (cc0_rg_ple i tbM0_0 htbM0_0 tbM0_1 htbM0_1 tbM0_2 htbM0_2 arg5 harg5 arg6 harg6 arg7 harg7 arg8 harg8 arg9 harg9 arg10 harg10 arg11 harg11) K := by
  intro E K
  have hc : (Scalar.cmpi .ne (Scalar.extui (Scalar.cmpi .sgt (tbM0_2.view.readAt (Elt F) (Rect.unit (s := S5) (k0_off1 i) S1.size (k0_off1_inb i)).toLoadRect xt2 (Shape.Idx.first (numel1_S1.symm ▸ Nat.one_pos))) 0#32) : BitVec 32) 0#32 : BitVec 1) = 1#1 := by rw [hw]; decide
  have hk : k0_chk1 (tbM0_2.view.readAt (Elt F) (Rect.unit (s := S5) (k0_off1 i) S1.size (k0_off1_inb i)).toLoadRect xt2 (Shape.Idx.first (numel1_S1.symm ▸ Nat.one_pos))) := by rw [hw]; exact chk
  have h1 : (k0_t1_loop (tbM0_2.view.readAt (Elt F) (Rect.unit (s := S5) (k0_off1 i) S1.size (k0_off1_inb i)).toLoadRect xt2 (Shape.Idx.first (numel1_S1.symm ▸ Nat.one_pos)))).trips = 0 := by rw [hw]; exact trips1
  have h2 : (k0_t2_loop (tbM0_2.view.readAt (Elt F) (Rect.unit (s := S5) (k0_off1 i) S1.size (k0_off1_inb i)).toLoadRect xt2 (Shape.Idx.first (numel1_S1.symm ▸ Nat.one_pos)))).trips = 0 := by rw [hw]; exact trips2
  simp only [cc0_rg_ple_eq_skeleton]; unfold cc0_rg_ple_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, HT0, HT1, HT2, Hk⟩
  obtain rfl := harg5.eq_unread hf0; obtain rfl := harg6.eq_unread hf1; obtain rfl := harg7.eq_unread hf2; obtain rfl := harg8.eq_unread hf3; obtain rfl := harg9.eq_unread hf4
  sl_exec (disch := first | sl_exact hc | sl_exact hk)
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; · ipureintro; exact harg7.read_unread _
    iexact H2
  isplitl [H3]
  · iexists _; isplitr; · ipureintro; exact harg8.read_unread _
    iexact H3
  isplitl [H4]
  · iexists _; isplitr; · ipureintro; exact harg9.read_unread _
    iexact H4
  isplitl [H5]
  · iexists _; isplitr; swap; · iexact H5
    ipureintro
    rw [show Scf.trips (k0_t2_loop (body_run.sl.r c i xt2)).lb (k0_t2_loop (body_run.sl.r c i xt2)).ub (k0_t2_loop (body_run.sl.r c i xt2)).st = 0 from h2,
      show Scf.trips (k0_t1_loop (body_run.sl.r c i xt2)).lb (k0_t1_loop (body_run.sl.r c i xt2)).ub (k0_t1_loop (body_run.sl.r c i xt2)).st = 0 from h1]
    refine (View.read_writes_full _ _ _ _ _).trans ?_
    exact congr (congr (congr (congr (congrArg k0_pay1 ((View.readAt_full _ _ _).trans (harg5.read_unread _))) ((View.readAt_full _ _ _).trans (harg6.read_unread _))) ((View.readAt_full _ _ _).trans (harg7.read_unread _))) ((View.readAt_full _ _ _).trans (harg8.read_unread _))) ((View.readAt_full _ _ _).trans (harg9.read_unread _))
  isplitl [H6]
  · iexists _; isplitr; swap; · iexact H6
    ipureintro
    rw [show Scf.trips (k0_t2_loop (body_run.sl.r c i xt2)).lb (k0_t2_loop (body_run.sl.r c i xt2)).ub (k0_t2_loop (body_run.sl.r c i xt2)).st = 0 from h2,
      show Scf.trips (k0_t1_loop (body_run.sl.r c i xt2)).lb (k0_t1_loop (body_run.sl.r c i xt2)).ub (k0_t1_loop (body_run.sl.r c i xt2)).st = 0 from h1]
    refine (View.read_writes_full _ _ _ _ _).trans ?_
    exact congr (congr (congr (congr (congrArg k0_pay2 ((View.readAt_full _ _ _).trans (harg5.read_unread _))) ((View.readAt_full _ _ _).trans (harg6.read_unread _))) ((View.readAt_full _ _ _).trans (harg7.read_unread _))) ((View.readAt_full _ _ _).trans (harg8.read_unread _))) ((View.readAt_full _ _ _).trans (harg9.read_unread _))
  isplitl [HT0]; · iexact HT0
  isplitl [HT1]; · iexact HT1
  iexact HT2

/-! The run. -/

/-- What the pipeline works with: the arrays at the call, each input's block, each output's block as the body computes it. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => k0_pay1 (F := F) (iblk m hO c 0 t) (iblk m hO c 1 t) (iblk m hO c 2 t) (iblk m hO c 3 t) (iblk m hO c 4 t)
    | ⟨6, _⟩ => k0_pay2 (F := F) (iblk m hO c 0 t) (iblk m hO c 1 t) (iblk m hO c 2 t) (iblk m hO c 3 t) (iblk m hO c 4 t)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = k0_pay1 (F := F) (iblk m hO c 0 t) (iblk m hO c 1 t) (iblk m hO c 2 t) (iblk m hO c 3 t) (iblk m hO c 4 t) := by dsimp only [dats]; try rfl
theorem after0_6 (hO : Ok m) (c : Dev nD) (t : Fin (cfgM m hO).N) : (dats m hO 0 c).after 6 t = k0_pay2 (F := F) (iblk m hO c 0 t) (iblk m hO c 1 t) (iblk m hO c 2 t) (iblk m hO c 3 t) (iblk m hO c 4 t) := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-- What the body finds at a point, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d)) ∗ (∃ d, owns (c : Thread nD τ) (ms0_1 m hO t) fullShare ((dats m hO 0 c).before 1 t d)) ∗ (∃ d, owns (c : Thread nD τ) (ms0_2 m hO t) fullShare ((dats m hO 0 c).before 2 t d)) ∗ (∃ d, owns (c : Thread nD τ) (ms0_3 m hO t) fullShare ((dats m hO 0 c).before 3 t d)) ∗ (∃ d, owns (c : Thread nD τ) (ms0_4 m hO t) fullShare ((dats m hO 0 c).before 4 t d)) ∗ (∃ d, owns (c : Thread nD τ) (ms0_5 m hO t) fullShare ((dats m hO 0 c).before 5 t d)) ∗ (∃ d, owns (c : Thread nD τ) (ms0_6 m hO t) fullShare ((dats m hO 0 c).before 6 t d)))
/-- and what it leaves. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t) ∗ owns (c : Thread nD τ) (ms0_1 m hO t) fullShare ((dats m hO 0 c).after 1 t) ∗ owns (c : Thread nD τ) (ms0_2 m hO t) fullShare ((dats m hO 0 c).after 2 t) ∗ owns (c : Thread nD τ) (ms0_3 m hO t) fullShare ((dats m hO 0 c).after 3 t) ∗ owns (c : Thread nD τ) (ms0_4 m hO t) fullShare ((dats m hO 0 c).after 4 t) ∗ owns (c : Thread nD τ) (ms0_5 m hO t) fullShare ((dats m hO 0 c).after 5 t) ∗ owns (c : Thread nD τ) (ms0_6 m hO t) fullShare ((dats m hO 0 c).after 6 t))

set_option maxHeartbeats 800000 in
/-- The body meets its part at every point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6]
  rw [show (dats m hO 0 c).Φ t.castSucc = iprop(Pipeline.ΦA spec0 c ∗ Pipeline.ΦT pre0 (tbl m) c) from rfl, PhiT0_eq]
  iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩⟩
  iapply ((body_run c (grid0.coords t) _ _ _ _ _ _ _ _ _ _ _ _ _ _ (iblk m hO c 0 t) (iblk m hO c 1 t) (iblk m hO c 2 t) (iblk m hO c 3 t) (iblk m hO c 4 t) (tbl m 0) (tbl m 1) (tbl m 2) (word m (grid0.coords t))) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HT0]; · iexact HT0
  isplitl [HT1]; · iexact HT1
  isplitl [HT2]; · iexact HT2
  iintro ⟨H0, H1, H2, H3, H4, H5, H6, HT0, HT1, HT2⟩
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

set_option backward.isDefEq.respectTransparency.types false in
/-- Every run ends, its arrays as the body's blocks fill them and every counter at zero. -/
theorem run_main (hO : Ok m) : θ_run defs (onTc (τ := τ) (main (F := F))) (s₀ m ρ) (fun r => Pipeline.FramePost (Pipeline.pin pcfgs fun _ => adm m hO) (dats m hO) (0 : Fin 1) (V m) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- The run with its results: each result is the array the blocks fill, and the arguments end as they were. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ (∀ (c : Dev nD) w, r.2.mem ((((cfgM m (ok m)).spec w).arr.view.loc (c.tc : Thread nD τ))) = (dats m (ok m) 0 c).arrAt w (cfgM m (ok m)).N)
      ∧ r.2.sem = fun _ => 0) :=
  (θ_run defs _ _).mono (fun _ h => ⟨fun c => ⟨((h.1 c).1 0).trans (((dats m (ok m) 0 c).arrAt_in 0 rfl _).trans ((A_eq m (ok m) c 0).trans (V_main_arg0 m c))),
      ((h.1 c).1 1).trans (((dats m (ok m) 0 c).arrAt_in 1 rfl _).trans ((A_eq m (ok m) c 1).trans (V_main_arg1 m c))),
      ((h.1 c).1 2).trans (((dats m (ok m) 0 c).arrAt_in 2 rfl _).trans ((A_eq m (ok m) c 2).trans (V_main_arg2 m c))),
      ((h.1 c).1 3).trans (((dats m (ok m) 0 c).arrAt_in 3 rfl _).trans ((A_eq m (ok m) c 3).trans (V_main_arg3 m c))),
      ((h.1 c).1 4).trans (((dats m (ok m) 0 c).arrAt_in 4 rfl _).trans ((A_eq m (ok m) c 4).trans (V_main_arg4 m c)))⟩,
    fun c w => (h.1 c).1 w, h.2⟩) (run_main m ρ (ok m))

/-- The frame: every run ends, the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨h.1, h.2.2⟩) (run m ρ)

end Cert.Proof.Ple

end
-- ==== Proof.PleValue.lean ====
/- The gated addition's result, index by index, and its reference's. -/
module

public import proofs.«01_k».proof.Proof.PleRun
public import proofs.«01_k».proof.Proof.Gen.PleRefIdeal.Read
public import Idealize.ShloMosaic.Lib.Pointwise
public import Idealize.ShloMosaic.Lib.Pipeline.Value
public import Idealize.ShloMosaic.Lib.Pipeline.ValueKit
public import Idealize.ShloMosaic.Lib.Pipeline.Covers
public import Idealize.ShloMosaic.Lib.IdealHost
public import Idealize.ShloMosaic.PureOps.Ideal.Laws

@[expose] public section

set_option maxRecDepth 16384

noncomputable section

namespace Cert.Proof.Ple

open Idealize.ShloMosaic Idealize.ShloMosaic.TcCoe Idealize.SL.Sem Cert.Ple Cert.Ple.Gen

/-- One block of the result, at an index. -/
theorem pay_apply (x0 : Vec Ideal S1664x4096 .bf16) (x1 : Vec Ideal S1x4096x256 .f32) (x2 : Vec Ideal S1664x256 .bf16) (x3 : Vec Ideal S1x256x256 .f32) (x4 : Vec Ideal S1664x256 .f32) (r : Fin 1664) (n : Fin 256) :
    k0_pay1 (F := Ideal) x0 x1 x2 x3 x4 (ix2 r n) = x4 (ix2 r n) + Ideal.logistic (∑ k : Fin 4096, x0 (ix2 r k) * x1 (ix3 0 k n)) * (∑ k : Fin 256, x2 (ix2 r k) * x3 (ix3 0 k n)) := by
  unfold k0_pay1
  pointwise [dot_S1664x4096_S4096x256_S1664x256_1_0_0_1_n_n, dot_S1664x256_S256x256_S1664x256_1_0_0_1_n_n]

variable (m : (ℓ : Loc nD τ sig) → Buf (Elt Ideal) ℓ) (ρ : Dev nD → PrngReg)

/-- Block 0 holds the rows of its array from 1664 times its row index on. -/
theorem blk_0 (c : Dev nD) (t : Fin (cfgM m (ok m)).N) (r : Fin 1664) (k : Fin 4096) (R : Fin 8320) (hR : R.val = 1664 * (grid0.coords t 0).val + r.val) :
    (iblk m (ok m) c 0 t : Vec Ideal S1664x4096 .bf16) (ix2 r k) = V m c main_arg0 (ix2 R k) := by
  blk_simp [iblk]
  refine congrArg (V m c main_arg0) ?_
  blk_ext
  · exact (congrArg (fun z => z * 1664 + r.val) (congrFun (ix_0 m (grid0.coords t)) 0)).trans (show (grid0.coords t 0).val * 1664 + r.val = R.val by omega)
  · exact (congrArg (fun z => z * 4096 + k.val) (congrFun (ix_0 m (grid0.coords t)) 1)).trans (show 0 * 4096 + k.val = k.val by omega)

/-- Block 1 holds the weights' columns from 256 times its column index on. -/
theorem blk_1 (c : Dev nD) (t : Fin (cfgM m (ok m)).N) (k : Fin 4096) (n : Fin 256) (C : Fin 4096) (hC : C.val = 256 * (grid0.coords t 1).val + n.val) :
    (iblk m (ok m) c 1 t : Vec Ideal S1x4096x256 .f32) (ix3 0 k n) = V m c main_arg1 (ix3 0 k C) := by
  blk_simp [iblk]
  refine congrArg (V m c main_arg1) ?_
  blk_ext
  · exact congrArg (fun z => z + 0) (congrFun (ix_1 m (grid0.coords t)) 0)
  · exact (congrArg (fun z => z * 4096 + k.val) (congrFun (ix_1 m (grid0.coords t)) 1)).trans (show 0 * 4096 + k.val = k.val by omega)
  · exact (congrArg (fun z => z * 256 + n.val) (congrFun (ix_1 m (grid0.coords t)) 2)).trans (show (grid0.coords t 1).val * 256 + n.val = C.val by omega)

/-- Block 2 holds the rows of its array from 1664 times its row index on. -/
theorem blk_2 (c : Dev nD) (t : Fin (cfgM m (ok m)).N) (r : Fin 1664) (k : Fin 256) (R : Fin 8320) (hR : R.val = 1664 * (grid0.coords t 0).val + r.val) :
    (iblk m (ok m) c 2 t : Vec Ideal S1664x256 .bf16) (ix2 r k) = V m c main_arg2 (ix2 R k) := by
  blk_simp [iblk]
  refine congrArg (V m c main_arg2) ?_
  blk_ext
  · exact (congrArg (fun z => z * 1664 + r.val) (congrFun (ix_2 m (grid0.coords t)) 0)).trans (show (grid0.coords t 0).val * 1664 + r.val = R.val by omega)
  · exact (congrArg (fun z => z * 256 + k.val) (congrFun (ix_2 m (grid0.coords t)) 1)).trans (show 0 * 256 + k.val = k.val by omega)

/-- Block 3 holds the weights' columns from 256 times its column index on. -/
theorem blk_3 (c : Dev nD) (t : Fin (cfgM m (ok m)).N) (k : Fin 256) (n : Fin 256) (C : Fin 4096) (hC : C.val = 256 * (grid0.coords t 1).val + n.val) :
    (iblk m (ok m) c 3 t : Vec Ideal S1x256x256 .f32) (ix3 0 k n) = V m c main_arg3 (ix3 0 k C) := by
  blk_simp [iblk]
  refine congrArg (V m c main_arg3) ?_
  blk_ext
  · exact congrArg (fun z => z + 0) (congrFun (ix_3 m (grid0.coords t)) 0)
  · exact (congrArg (fun z => z * 256 + k.val) (congrFun (ix_3 m (grid0.coords t)) 1)).trans (show 0 * 256 + k.val = k.val by omega)
  · exact (congrArg (fun z => z * 256 + n.val) (congrFun (ix_3 m (grid0.coords t)) 2)).trans (show (grid0.coords t 1).val * 256 + n.val = C.val by omega)

/-- Block 4 holds the rows and columns of its array at its two indices. -/
theorem blk_4 (c : Dev nD) (t : Fin (cfgM m (ok m)).N) (r : Fin 1664) (n : Fin 256) (R : Fin 8320) (C : Fin 4096) (hR : R.val = 1664 * (grid0.coords t 0).val + r.val) (hC : C.val = 256 * (grid0.coords t 1).val + n.val) :
    (iblk m (ok m) c 4 t : Vec Ideal S1664x256 .f32) (ix2 r n) = V m c main_arg4 (ix2 R C) := by
  blk_simp [iblk]
  refine congrArg (V m c main_arg4) ?_
  blk_ext
  · exact (congrArg (fun z => z * 1664 + r.val) (congrFun (ix_4 m (grid0.coords t)) 0)).trans (show (grid0.coords t 0).val * 1664 + r.val = R.val by omega)
  · exact (congrArg (fun z => z * 256 + n.val) (congrFun (ix_4 m (grid0.coords t)) 1)).trans (show (grid0.coords t 1).val * 256 + n.val = C.val by omega)

theorem nblk_0 : ((cfgM m (ok m)).win 5).nblk (0 : Fin 2) = 5 := show (8320 + 1664 - 1) / 1664 = 5 by decide
theorem nblk_1 : ((cfgM m (ok m)).win 5).nblk (1 : Fin 2) = 16 := show (4096 + 256 - 1) / 256 = 16 by decide
/-- The blocks written back cover the result. -/
theorem covers : ((cfgM m (ok m)).win 5).Covers :=
  Pipeline.Window.covers_of_indexMap_surj _ rfl (show ∀ a : Fin 2, 0 < S1664x256.size a by decide) fun β => by
    let i : grid0.Coords := fun a => match a with
      | ⟨0, _⟩ => ⟨(β (0 : Fin 2)).val, (β (0 : Fin 2)).isLt.trans_eq (nblk_0 m)⟩
      | ⟨1, _⟩ => ⟨(β (1 : Fin 2)).val, (β (1 : Fin 2)).isLt.trans_eq (nblk_1 m)⟩
    refine ⟨i, fun a => ?_⟩
    refine (congrFun (ix_5 m i) a).trans ?_
    match a with
    | ⟨0, _⟩ => rfl
    | ⟨1, _⟩ => rfl

/-- The residual plus the logistic of the first product times the second. -/
def prod (x0 : S8320x4096.Idx → EReal) (x1 : S1x4096x4096.Idx → EReal) (x2 : S8320x256.Idx → EReal) (x3 : S1x256x4096.Idx → EReal) (x4 : S8320x4096.Idx → EReal) : S8320x4096.Idx → EReal := fun i =>
  x4 (ix2 (i 0) (i 1)) + Ideal.logistic (∑ k : Fin 4096, x0 (ix2 (i 0) k) * x1 (ix3 0 k (i 1))) * (∑ k : Fin 256, x2 (ix2 (i 0) k) * x3 (ix3 0 k (i 1)))

/-- The result is that function of the arguments. -/
theorem final (c : Dev nD) : (dats m (ok m) 0 c).arrAt 5 (cfgM m (ok m)).N
    = prod (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [← V_main_arg0 m c, ← V_main_arg1 m c, ← V_main_arg2 m c, ← V_main_arg3 m c, ← V_main_arg4 m c]
  refine (dats m (ok m) 0 c).arrAt_eq_of_covers 5 (prod (V m c main_arg0) (V m c main_arg1) (V m c main_arg2) (V m c main_arg3) (V m c main_arg4)) (covers m) fun t hf y => ?_
  blk_simp
  rw [after0_5]
  have hy : ∀ y : S1664x256.Idx, k0_pay1 (F := Ideal) (iblk m (ok m) c 0 t) (iblk m (ok m) c 1 t) (iblk m (ok m) c 2 t) (iblk m (ok m) c 3 t) (iblk m (ok m) c 4 t) y
      = prod (V m c main_arg0) (V m c main_arg1) (V m c main_arg2) (V m c main_arg3) (V m c main_arg4) (((((cfgM m (ok m)).win 5).blk t).view.emb y : S8320x4096.Idx)) := by
    intro y
    idx_vars y
    have h0 : (((((cfgM m (ok m)).win 5).blk t).view.emb (ix2 y0 y1) : S8320x4096.Idx) (0 : Fin 2)).val = 1664 * (grid0.coords t 0).val + y0.val := by
      blk_simp
      exact (congrArg (fun z => z * 1664 + y0.val) (congrFun (ix_5 m (grid0.coords t)) 0)).trans (show (grid0.coords t 0).val * 1664 + y0.val = _ by omega)
    have h1 : (((((cfgM m (ok m)).win 5).blk t).view.emb (ix2 y0 y1) : S8320x4096.Idx) (1 : Fin 2)).val = 256 * (grid0.coords t 1).val + y1.val := by
      blk_simp
      exact (congrArg (fun z => z * 256 + y1.val) (congrFun (ix_5 m (grid0.coords t)) 1)).trans (show (grid0.coords t 1).val * 256 + y1.val = _ by omega)
    exact (pay_apply _ _ _ _ _ y0 y1).trans (congrArg₂ (· + ·) (blk_4 m c t y0 y1 _ _ h0 h1) (congrArg₂ (· * ·) (congrArg Ideal.logistic (Finset.sum_congr rfl fun k _ => congrArg₂ (· * ·) (blk_0 m c t y0 k _ h0) (blk_1 m c t k y1 _ h1))) (Finset.sum_congr rfl fun k _ => congrArg₂ (· * ·) (blk_2 m c t y0 k _ h0) (blk_3 m c t k y1 _ h1))))
  exact hy y

/-- The reference's product v2, at an index. -/
theorem ref_gate (x : S8320x4096.Idx → EReal) (w : S1x4096x4096.Idx → EReal) (i : S8320x4096.Idx) :
    Cert.PleRefIdeal.Read.val_main_v2 (F := Ideal) x w i = ∑ k : Fin 4096, x (ix2 (i 0) k) * w (ix3 0 k (i 1)) := by
  refine (Cert.PleRefIdeal.Read.val_main_v2_apply x w i).trans (Finset.sum_congr rfl fun k _ => congrArg₂ (· * ·) (congrArg x ?_) ?_)
  · funext a
    match a with
    | ⟨0, _⟩ => rfl
    | ⟨1, _⟩ => rfl
  · rw [Cert.PleRefIdeal.Read.val_main_v1_apply]
    refine congrArg w (funext fun a => Fin.ext ?_)
    have h0 : k.val < 4096 := k.isLt
    have h1 : (i 1).val < 4096 := (i 1).isLt
    match a with
    | ⟨0, _⟩ => rfl
    | ⟨1, _⟩ => show (k.val * 4096 + (i 1).val) / 4096 % 4096 = k.val; omega
    | ⟨2, _⟩ => show (k.val * 4096 + (i 1).val) % 4096 = (i 1).val; omega

/-- The reference's product v11, at an index. -/
theorem ref_emb (x : S8320x256.Idx → EReal) (w : S1x256x4096.Idx → EReal) (i : S8320x4096.Idx) :
    Cert.PleRefIdeal.Read.val_main_v11 (F := Ideal) x w i = ∑ k : Fin 256, x (ix2 (i 0) k) * w (ix3 0 k (i 1)) := by
  refine (Cert.PleRefIdeal.Read.val_main_v11_apply x w i).trans (Finset.sum_congr rfl fun k _ => congrArg₂ (· * ·) (congrArg x ?_) ?_)
  · funext a
    match a with
    | ⟨0, _⟩ => rfl
    | ⟨1, _⟩ => rfl
  · rw [Cert.PleRefIdeal.Read.val_main_v10_apply]
    refine congrArg w (funext fun a => Fin.ext ?_)
    have h0 : k.val < 256 := k.isLt
    have h1 : (i 1).val < 4096 := (i 1).isLt
    match a with
    | ⟨0, _⟩ => rfl
    | ⟨1, _⟩ => show (k.val * 4096 + (i 1).val) / 4096 % 256 = k.val; omega
    | ⟨2, _⟩ => show (k.val * 4096 + (i 1).val) % 4096 = (i 1).val; omega

/-- The reference's result is the same function. -/
theorem ref_eq (x0 : S8320x4096.Idx → EReal) (x1 : S1x4096x4096.Idx → EReal) (x2 : S8320x256.Idx → EReal) (x3 : S1x256x4096.Idx → EReal) (x4 : S8320x4096.Idx → EReal) : Cert.PleRefIdeal.Read.val_main_v13 (F := Ideal) x0 x1 x2 x3 x4 = prod x0 x1 x2 x3 x4 := by
  funext i
  have h1 : Cert.PleRefIdeal.Read.val_main_v5 (F := Ideal) i = (1 : EReal) := (Cert.PleRefIdeal.Read.val_main_v5_apply i).trans Ideal.ofBits_one_f32
  have h2 : Cert.PleRefIdeal.Read.val_main_v7 (F := Ideal) i = (1 : EReal) := (Cert.PleRefIdeal.Read.val_main_v7_apply i).trans Ideal.ofBits_one_f32
  have h4 : ix2 (i 0) (i 1) = i := funext fun a => match a with
    | ⟨0, _⟩ => rfl
    | ⟨1, _⟩ => rfl
  show x4 i + Ideal.div (Cert.PleRefIdeal.Read.val_main_v7 (F := Ideal) i) (Cert.PleRefIdeal.Read.val_main_v5 (F := Ideal) i + Ideal.exp (-(Cert.PleRefIdeal.Read.val_main_v2 (F := Ideal) x0 x1 i))) * Cert.PleRefIdeal.Read.val_main_v11 (F := Ideal) x2 x3 i = _
  rw [h1, h2, ref_gate, ref_emb]
  exact congrArg₂ (· + ·) (congrArg x4 h4.symm) rfl

end Cert.Proof.Ple

end
-- ==== Proof.InRange.lean ====
/- What the groups' precondition says: each table's words lie in its range. -/
module

public import proofs.«01_k».proof.Proof.Head
public import proofs.«01_k».proof.Pre_in_range
public import Idealize.ShloMosaic.Lib.ReduceAll

@[expose] public section

noncomputable section

namespace Cert.Proof.InRange

open Idealize.ShloMosaic Cert.Pre_in_range

theorem facts : Cert.Pre_in_range.Facts := ⟨by decide, by decide, by decide⟩

instance : Subsingleton S_.Idx := ⟨fun a b => funext fun x => x.elim0⟩

/-- A word that is not negative and is below `c` as a signed word is below it as a number. -/
theorem lt_of (w c : BitVec 32) (hc : c.toNat < 2 ^ 31) (h : IntOp.andi (IntOp.cmpi .sge w 0#32) (IntOp.cmpi .slt w c) = 1#1) : w.toNat < c.toNat := by
  obtain ⟨h0, h1⟩ := (andi_one _ _).1 h
  have g0 : (0 : Int) ≤ w.toInt := by
    change BitVec.ofBool ((0#32).sle w) = 1 at h0
    rw [BitVec.sle_eq_decide, show (0#32 : BitVec 32).toInt = 0 from rfl] at h0
    by_contra hn
    rw [decide_eq_false hn] at h0
    exact absurd h0 (by decide)
  have g1 : w.toInt < c.toInt := by
    change BitVec.ofBool (w.slt c) = 1 at h1
    rw [BitVec.slt_eq_decide] at h1
    by_contra hn
    rw [decide_eq_false hn] at h1
    exact absurd h1 (by decide)
  have hw := w.isLt
  rw [BitVec.toInt_eq_toNat_cond] at g0 g1
  rw [BitVec.toInt_eq_toNat_cond] at g1
  split at g0 <;> split at g1 <;> omega

/-- And one that is at most `c`. -/
theorem le_of (w c : BitVec 32) (hc : c.toNat < 2 ^ 31) (h : IntOp.andi (IntOp.cmpi .sge w 0#32) (IntOp.cmpi .sle w c) = 1#1) : w.toNat ≤ c.toNat := by
  obtain ⟨h0, h1⟩ := (andi_one _ _).1 h
  have g0 : (0 : Int) ≤ w.toInt := by
    change BitVec.ofBool ((0#32).sle w) = 1 at h0
    rw [BitVec.sle_eq_decide, show (0#32 : BitVec 32).toInt = 0 from rfl] at h0
    by_contra hn
    rw [decide_eq_false hn] at h0
    exact absurd h0 (by decide)
  have g1 : w.toInt ≤ c.toInt := by
    change BitVec.ofBool (w.sle c) = 1 at h1
    rw [BitVec.sle_eq_decide] at h1
    by_contra hn
    rw [decide_eq_false hn] at h1
    exact absurd h1 (by decide)
  have hw := w.isLt
  rw [BitVec.toInt_eq_toNat_cond] at g0 g1
  rw [BitVec.toInt_eq_toNat_cond] at g1
  split at g0 <;> split at g1 <;> omega

/-- The precondition bounds each table. -/
theorem bounds {F : FTy → Type} [FloatOps F] [Cert.Pre_in_range.Facts] (e st nb : IVec S14 32) (x : FVec F S19712x4096 .bf16) (g u : FVec F S8x4096x14336 .f32)
    (h : Cert.Pre_in_range.fn (F := F) e st nb x g u = fun _ => 1#1) :
    (∀ i, (e i).toNat < 8) ∧ (∀ i, (st i).toNat ≤ 268) ∧ ∀ i, (nb i).toNat ≤ 40 := by
  have h0 := congrFun h (fun a => a.elim0)
  unfold Cert.Pre_in_range.fn Cert.Pre_in_range.fn_part1 at h0
  dsimp only at h0
  have h1 := (andi_one _ _).1 h0
  have h2 := (andi_one _ _).1 h1.1
  exact ⟨fun i => lt_of (e i) 8#32 (by decide) (Host.reduce_andi_all _ _ _ _ _ h2.1 i), fun i => le_of (st i) 268#32 (by decide) (Host.reduce_andi_all _ _ _ _ _ h2.2 i),
    fun i => le_of (nb i) 40#32 (by decide) (Host.reduce_andi_all _ _ _ _ _ h1.2 i)⟩

end Cert.Proof.InRange

end
-- ==== Proof.MoeSwigluRows.lean ====
/- One point of the grouped product: where its loops read and write, and the block they leave. -/
module

public import proofs.«01_k».proof.Proof.Gen.MoeSwiglu.Launch
public import proofs.«01_k».proof.Proof.Gen.MoeSwiglu.Skeleton
public import proofs.«01_k».proof.Proof.Gen.MoeSwiglu.Loops
public import Idealize.ShloMosaic.Lib.Pipeline.FrameBody
public import Idealize.ShloMosaic.Lib.Tactic
public import Idealize.ShloMosaic.Lib.WordCmp
public import Idealize.ShloMosaic.Lib.VecWindow
public import Idealize.ShloMosaic.Lib.WholeRead
public import Idealize.ShloMosaic.Lib.WritesUnit
public import Idealize.ShloMosaic.Lib.Pointwise

@[expose] public section

set_option maxRecDepth 16384

noncomputable section

namespace Cert.Proof.MoeSwiglu

open Idealize.ShloMosaic Idealize.ShloMosaic.TcCoe Idealize.ShloMosaic.Tactic
open Idealize.SL Idealize.SL.RA Idealize.SL.BI Idealize.SL.Sem
open Cert.MoeSwiglu Cert.MoeSwiglu.Gen

variable {F : FTy → Type} [FloatOps F]

/-! The words a count of live blocks decides. -/

theorem chk_fin : ∀ n : Fin 41, k0_chk1 (BitVec.ofNat 32 n.val) := by decide +kernel
theorem trips1_fin : ∀ n : Fin 41, (k0_t1_loop (BitVec.ofNat 32 n.val)).trips = n.val / 8 := by decide +kernel
theorem trips2_fin : ∀ n : Fin 41, (k0_t2_loop (BitVec.ofNat 32 n.val)).trips = 0 := by decide +kernel
theorem trips3_fin : ∀ n : Fin 41, (k0_t3_loop (BitVec.ofNat 32 n.val)).trips = 40 - n.val := by decide +kernel
theorem trips4_fin : ∀ n : Fin 41, (k0_t4_loop (BitVec.ofNat 32 n.val)).trips = 0 := by decide +kernel
theorem cond1_fin : ∀ n : Fin 41, k0_cond1 (BitVec.ofNat 32 n.val) = 1#1 ↔ n.val / 4 % 2 = 1 := by decide +kernel
theorem cond2_fin : ∀ n : Fin 41, k0_cond2 (BitVec.ofNat 32 n.val) = 1#1 ↔ n.val / 2 % 2 = 1 := by decide +kernel
theorem cond3_fin : ∀ n : Fin 41, k0_cond3 (BitVec.ofNat 32 n.val) = 1#1 ↔ n.val % 2 = 1 := by decide +kernel
theorem off6_fin : ∀ n : Fin 41, k0_off6 (BitVec.ofNat 32 n.val) = ![512 * (n.val / 8), 0] := by decide +kernel
theorem off7_fin : ∀ n : Fin 41, k0_off7 (BitVec.ofNat 32 n.val) = ![512 * (n.val / 8), 0] := by decide +kernel
theorem off8_fin : ∀ n : Fin 41, k0_off8 (BitVec.ofNat 32 n.val) = ![256 * (n.val / 4), 0] := by decide +kernel
theorem off9_fin : ∀ n : Fin 41, k0_off9 (BitVec.ofNat 32 n.val) = ![256 * (n.val / 4), 0] := by decide +kernel
theorem off10_fin : ∀ n : Fin 41, k0_off10 (BitVec.ofNat 32 n.val) = ![128 * (n.val / 2), 0] := by decide +kernel
theorem off11_fin : ∀ n : Fin 41, k0_off11 (BitVec.ofNat 32 n.val) = ![128 * (n.val / 2), 0] := by decide +kernel
theorem iv1_fin : ∀ k : Fin 41, (Scalar.indexCast (Scalar.muli (Scf.iv 0#32 1#32 k.val) 512#32)).toNat = 512 * k.val := by decide +kernel
theorem iv3_fin : ∀ n k : Fin 41, (Scalar.indexCast (Scalar.muli (Scf.iv (BitVec.ofNat 32 n.val) 1#32 k.val) 64#32)).toNat = 64 * (n.val + k.val) := by decide +kernel

/-- A word that counts at most 40 live blocks is `n` of them. -/
structure Cnt (w : BitVec 32) (n : ℕ) : Prop where
  le : n ≤ 40
  eq : w = BitVec.ofNat 32 n

namespace Cnt
variable {w : BitVec 32} {n : ℕ} (h : Cnt w n)
include h
theorem chk : k0_chk1 w := by obtain ⟨hn, rfl⟩ := h; exact chk_fin ⟨n, by omega⟩
theorem trips1 : (k0_t1_loop w).trips = n / 8 := by obtain ⟨hn, rfl⟩ := h; exact trips1_fin ⟨n, by omega⟩
theorem trips2 : (k0_t2_loop w).trips = 0 := by obtain ⟨hn, rfl⟩ := h; exact trips2_fin ⟨n, by omega⟩
theorem trips3 : (k0_t3_loop w).trips = 40 - n := by obtain ⟨hn, rfl⟩ := h; exact trips3_fin ⟨n, by omega⟩
theorem trips4 : (k0_t4_loop w).trips = 0 := by obtain ⟨hn, rfl⟩ := h; exact trips4_fin ⟨n, by omega⟩
theorem cond1 : k0_cond1 w = 1#1 ↔ n / 4 % 2 = 1 := by obtain ⟨hn, rfl⟩ := h; exact cond1_fin ⟨n, by omega⟩
theorem cond2 : k0_cond2 w = 1#1 ↔ n / 2 % 2 = 1 := by obtain ⟨hn, rfl⟩ := h; exact cond2_fin ⟨n, by omega⟩
theorem cond3 : k0_cond3 w = 1#1 ↔ n % 2 = 1 := by obtain ⟨hn, rfl⟩ := h; exact cond3_fin ⟨n, by omega⟩
theorem off6 : k0_off6 w = ![512 * (n / 8), 0] := by obtain ⟨hn, rfl⟩ := h; exact off6_fin ⟨n, by omega⟩
theorem off7 : k0_off7 w = ![512 * (n / 8), 0] := by obtain ⟨hn, rfl⟩ := h; exact off7_fin ⟨n, by omega⟩
theorem off8 : k0_off8 w = ![256 * (n / 4), 0] := by obtain ⟨hn, rfl⟩ := h; exact off8_fin ⟨n, by omega⟩
theorem off9 : k0_off9 w = ![256 * (n / 4), 0] := by obtain ⟨hn, rfl⟩ := h; exact off9_fin ⟨n, by omega⟩
theorem off10 : k0_off10 w = ![128 * (n / 2), 0] := by obtain ⟨hn, rfl⟩ := h; exact off10_fin ⟨n, by omega⟩
theorem off11 : k0_off11 w = ![128 * (n / 2), 0] := by obtain ⟨hn, rfl⟩ := h; exact off11_fin ⟨n, by omega⟩
theorem off2 (k : Fin (k0_t1_loop w).trips) : k0_off2 w k = ![512 * k.val, 0] := by
  have hk := k.isLt.trans_eq h.trips1
  have hn := h.le
  unfold k0_off2
  exact congrArg (fun z => (![z, 0] : Fin 2 → ℕ)) (iv1_fin ⟨k.val, by omega⟩)
theorem off3 (k : Fin (k0_t1_loop w).trips) : k0_off3 w k = ![512 * k.val, 0] := by
  have hk := k.isLt.trans_eq h.trips1
  have hn := h.le
  unfold k0_off3
  exact congrArg (fun z => (![z, 0] : Fin 2 → ℕ)) (iv1_fin ⟨k.val, by omega⟩)
theorem off12 (k : Fin (k0_t3_loop w).trips) : k0_off12 w k = ![64 * (n + k.val), 0] := by
  have hk := k.isLt.trans_eq h.trips3
  have hn := h.le
  have e := iv3_fin ⟨n, by omega⟩ ⟨k.val, by omega⟩
  rw [← h.eq] at e
  exact congrArg (fun z => (![z, 0] : Fin 2 → ℕ)) e
end Cnt

/-! The block a point leaves. -/

/-- `h` rows of a block from row `o` on. -/
def rows (h o : ℕ) (x : Vec F S2560x4096 .bf16) : Vec F ⟨2, ![h, 4096]⟩ .bf16 := fun j =>
  x (ix2 (n0 := 2560) (n1 := 4096) ⟨(o + (j 0).val) % 2560, Nat.mod_lt _ (by decide)⟩ (j 1))
/-- Row `r` of the 512 rows from `o` on. -/
def p3 (o : ℕ) (x0 : Vec F S2560x4096 .bf16) (x1 x2 : Vec F S1x4096x256 .f32) (r : ℕ) (c : Fin 256) : F .bf16 :=
  k0_pay3 (F := F) (rows 512 o x0) x1 x2 (ix2 ⟨(r - o) % 512, Nat.mod_lt _ (by decide)⟩ c)
/-- Row `r` of the 256 rows from `o` on. -/
def p5 (o : ℕ) (x0 : Vec F S2560x4096 .bf16) (x1 x2 : Vec F S1x4096x256 .f32) (r : ℕ) (c : Fin 256) : F .bf16 :=
  k0_pay5 (F := F) (rows 256 o x0) x1 x2 (ix2 ⟨(r - o) % 256, Nat.mod_lt _ (by decide)⟩ c)
/-- Row `r` of the 128 rows from `o` on. -/
def p6 (o : ℕ) (x0 : Vec F S2560x4096 .bf16) (x1 x2 : Vec F S1x4096x256 .f32) (r : ℕ) (c : Fin 256) : F .bf16 :=
  k0_pay6 (F := F) (rows 128 o x0) x1 x2 (ix2 ⟨(r - o) % 128, Nat.mod_lt _ (by decide)⟩ c)
/-- Row `r` of the 64 rows from `o` on. -/
def p7 (o : ℕ) (x0 : Vec F S2560x4096 .bf16) (x1 x2 : Vec F S1x4096x256 .f32) (r : ℕ) (c : Fin 256) : F .bf16 :=
  k0_pay7 (F := F) (rows 64 o x0) x1 x2 (ix2 ⟨(r - o) % 64, Nat.mod_lt _ (by decide)⟩ c)
/-- What the block holds when `n` of its row blocks are live: products of 512 rows while they last, then of 256, 128 and
    64, and the cleared value on the rest. -/
def left (n : ℕ) (x0 : Vec F S2560x4096 .bf16) (x1 x2 : Vec F S1x4096x256 .f32) : Vec F S2560x256 .bf16 := fun y =>
  if (y 0).val < 512 * (n / 8) then p3 (512 * ((y 0).val / 512)) x0 x1 x2 (y 0).val (y 1)
  else if (y 0).val < 256 * (n / 4) then p5 (512 * (n / 8)) x0 x1 x2 (y 0).val (y 1)
  else if (y 0).val < 128 * (n / 2) then p6 (256 * (n / 4)) x0 x1 x2 (y 0).val (y 1)
  else if (y 0).val < 64 * n then p7 (128 * (n / 2)) x0 x1 x2 (y 0).val (y 1)
  else k0_pay1 (F := F) (ix2 0 (y 1))

/-- Contents `f` agree with `T` on the rows of `S`. -/
def Has (M : Memref sig .tc .vmem S2560x256 .bf16) (f : BufTy.Contents (Elt F) M.view.ty) (T : Vec F S2560x256 .bf16) (S : ℕ → Prop) : Prop :=
  ∀ y : S2560x256.Idx, S (y 0).val → M.view.read (Elt F) f y = T y

theorem Has.mono {M : Memref sig .tc .vmem S2560x256 .bf16} {f : BufTy.Contents (Elt F) M.view.ty} {T : Vec F S2560x256 .bf16} {S S' : ℕ → Prop}
    (h : Has M f T S) (hs : ∀ r, r < 2560 → S' r → S r) : Has M f T S' := fun y hy => h y (hs _ (y 0).isLt hy)

/-- One more store of whole rows that agrees with `T`. -/
theorem Has.cons {M : Memref sig .tc .vmem S2560x256 .bf16} {f : BufTy.Contents (Elt F) M.view.ty} {T : Vec F S2560x256 .bf16} {S : ℕ → Prop}
    {off size : Fin 2 → ℕ} {o W : ℕ} (inb : ∀ a : Fin 2, off a + size a ≤ S2560x256.size a)
    (w : (Rect.unit (s := S2560x256) off size inb).shape.Idx → Elt F .bf16) (L : List (View.Piece (Elt F) S2560x256 .bf16))
    (h : Has M (M.view.writes (Elt F) f L) T S) (hoff : off = ![o, 0]) (hW : size (0 : Fin 2) = W) (hD : size (1 : Fin 2) = 256)
    (hw : ∀ (y : S2560x256.Idx) (x : (Rect.unit (s := S2560x256) off size inb).shape.Idx), o ≤ (y 0).val → (y 0).val < o + W →
      (x (0 : Fin 2)).val = (y 0).val - o → (x (1 : Fin 2)).val = (y 1).val → w x = T y) :
    Has M (M.view.writes (Elt F) f ((⟨Rect.unit (s := S2560x256) off size inb, w⟩ : View.Piece (Elt F) S2560x256 .bf16) :: L)) T
      (fun r => S r ∨ (o ≤ r ∧ r < o + W)) := by
  intro y hy
  refine (View.read_writes_cons_rows M.view f inb w L y hoff hW hD).trans ?_
  split
  · rename_i hr
    exact hw y _ hr.1 hr.2 rfl (Nat.sub_zero _)
  · rename_i hr
    exact h y (hy.resolve_right hr)

/-- The rows a load reads. -/
theorem load_rows {h o : ℕ} (M : Memref sig .tc .vmem S2560x4096 .bf16) (hM : M.IsWhole) (x0 : Vec F S2560x4096 .bf16) {off : Fin 2 → ℕ}
    (inb : ∀ a : Fin 2, off a + (![h, 4096] : Fin 2 → ℕ) a ≤ S2560x4096.size a) (hoff : off = ![o, 0]) :
    (M.view.readAt (Elt F) (Rect.unit (s := S2560x4096) off ![h, 4096] inb).toLoadRect (hM.unread x0) : Vec F ⟨2, ![h, 4096]⟩ .bf16) = rows h o x0 := by
  subst hoff
  funext j
  refine (congrFun (hM.read_unread x0) _).trans (congrArg x0 (funext fun a => Fin.ext ?_))
  have hin : o + h ≤ 2560 := inb (0 : Fin 2)
  have hj : (j 0).val < h := (j 0).isLt
  match a with
  | ⟨0, _⟩ => show o + 1 * (j 0).val = (o + (j 0).val) % 2560; omega
  | ⟨1, _⟩ => show 0 + 1 * (j 1).val = (j 1).val; omega

end Cert.Proof.MoeSwiglu

end
-- ==== Proof.MoeSwigluTrips.lean ====
/- One point of the grouped product: what its loops write. -/
module

public import proofs.«01_k».proof.Proof.MoeSwigluRows

@[expose] public section

set_option maxRecDepth 16384

noncomputable section

namespace Cert.Proof.MoeSwiglu

open Idealize.ShloMosaic Idealize.ShloMosaic.TcCoe Idealize.ShloMosaic.Tactic
open Idealize.SL Idealize.SL.RA Idealize.SL.BI Idealize.SL.Sem
open Cert.MoeSwiglu Cert.MoeSwiglu.Gen

variable {F : FTy → Type} [FloatOps F]

/-- An index of a block of `h` rows, by its coordinates. -/
theorem eq_loc {h : ℕ} (x : (⟨2, ![h, 256]⟩ : Shape).Idx) (r : ℕ) (hh : 0 < h) (c : Fin 256) (h0 : (x (0 : Fin 2)).val = r % h) (h1 : (x (1 : Fin 2)).val = c.val) :
    x = ix2 (n0 := h) (n1 := 256) ⟨r % h, Nat.mod_lt _ hh⟩ c := by
  funext a
  match a with
  | ⟨0, _⟩ => exact Fin.ext h0
  | ⟨1, _⟩ => exact Fin.ext h1

variable {n : ℕ} (x0 : Vec F S2560x4096 .bf16) (x1 x2 : Vec F S1x4096x256 .f32)

/-- A product of 512 rows is what the block holds there. -/
theorem agree3 (k : ℕ) (hk : k < n / 8) (y : S2560x256.Idx) (x : (⟨2, ![512, 256]⟩ : Shape).Idx) (a : 512 * k ≤ (y 0).val) (b : (y 0).val < 512 * k + 512)
    (h0 : (x (0 : Fin 2)).val = (y 0).val - 512 * k) (h1 : (x (1 : Fin 2)).val = (y 1).val) :
    k0_pay3 (F := F) (rows 512 (512 * k) x0) x1 x2 x = left n x0 x1 x2 y := by
  unfold left
  rw [if_pos (by omega), show (y 0).val / 512 = k by omega]
  exact congrArg (k0_pay3 (F := F) (rows 512 (512 * k) x0) x1 x2) (eq_loc x ((y 0).val - 512 * k) (by decide) (y 1) (by omega) h1)
/-- A product of 256 rows is what the block holds there. -/
theorem agree5 (hk : n / 4 % 2 = 1) (y : S2560x256.Idx) (x : (⟨2, ![256, 256]⟩ : Shape).Idx) (a : 512 * (n / 8) ≤ (y 0).val) (b : (y 0).val < 512 * (n / 8) + 256)
    (h0 : (x (0 : Fin 2)).val = (y 0).val - 512 * (n / 8)) (h1 : (x (1 : Fin 2)).val = (y 1).val) :
    k0_pay5 (F := F) (rows 256 (512 * (n / 8)) x0) x1 x2 x = left n x0 x1 x2 y := by
  unfold left
  rw [if_neg (by omega), if_pos (by omega)]
  exact congrArg (k0_pay5 (F := F) (rows 256 (512 * (n / 8)) x0) x1 x2) (eq_loc x ((y 0).val - 512 * (n / 8)) (by decide) (y 1) (by omega) h1)
/-- A product of 128 rows is what the block holds there. -/
theorem agree6 (hk : n / 2 % 2 = 1) (y : S2560x256.Idx) (x : (⟨2, ![128, 256]⟩ : Shape).Idx) (a : 256 * (n / 4) ≤ (y 0).val) (b : (y 0).val < 256 * (n / 4) + 128)
    (h0 : (x (0 : Fin 2)).val = (y 0).val - 256 * (n / 4)) (h1 : (x (1 : Fin 2)).val = (y 1).val) :
    k0_pay6 (F := F) (rows 128 (256 * (n / 4)) x0) x1 x2 x = left n x0 x1 x2 y := by
  unfold left
  rw [if_neg (by omega), if_neg (by omega), if_pos (by omega)]
  exact congrArg (k0_pay6 (F := F) (rows 128 (256 * (n / 4)) x0) x1 x2) (eq_loc x ((y 0).val - 256 * (n / 4)) (by decide) (y 1) (by omega) h1)
/-- A product of 64 rows is what the block holds there. -/
theorem agree7 (hk : n % 2 = 1) (y : S2560x256.Idx) (x : (⟨2, ![64, 256]⟩ : Shape).Idx) (a : 128 * (n / 2) ≤ (y 0).val) (b : (y 0).val < 128 * (n / 2) + 64)
    (h0 : (x (0 : Fin 2)).val = (y 0).val - 128 * (n / 2)) (h1 : (x (1 : Fin 2)).val = (y 1).val) :
    k0_pay7 (F := F) (rows 64 (128 * (n / 2)) x0) x1 x2 x = left n x0 x1 x2 y := by
  unfold left
  rw [if_neg (by omega), if_neg (by omega), if_neg (by omega), if_pos (by omega)]
  exact congrArg (k0_pay7 (F := F) (rows 64 (128 * (n / 2)) x0) x1 x2) (eq_loc x ((y 0).val - 128 * (n / 2)) (by decide) (y 1) (by omega) h1)
/-- The cleared value is what the block holds past its live rows. -/
theorem agree1 (y : S2560x256.Idx) (x : S64x256.Idx) (a : 64 * n ≤ (y 0).val) :
    k0_pay1 (F := F) x = left n x0 x1 x2 y := by
  unfold left
  rw [if_neg (by omega), if_neg (by omega), if_neg (by omega), if_neg (by omega)]
  rfl

/-- Stores over a list of stores. -/
theorem Has.app {M : Memref sig .tc .vmem S2560x256 .bf16} {f : BufTy.Contents (Elt F) M.view.ty} {T : Vec F S2560x256 .bf16} {S : ℕ → Prop}
    {L L' : List (View.Piece (Elt F) S2560x256 .bf16)} (h : Has M (M.view.writes (Elt F) (M.view.writes (Elt F) f L') L) T S) :
    Has M (M.view.writes (Elt F) f (L ++ L')) T S := by
  rw [View.writes_append]; exact h
/-- No stores over a list of stores. -/
theorem Has.app0 {M : Memref sig .tc .vmem S2560x256 .bf16} {f : BufTy.Contents (Elt F) M.view.ty} {T : Vec F S2560x256 .bf16} {S : ℕ → Prop}
    {L L' : List (View.Piece (Elt F) S2560x256 .bf16)} (hL : L = []) (h : Has M (M.view.writes (Elt F) f L') T S) :
    Has M (M.view.writes (Elt F) f (L ++ L')) T S := by
  subst hL; exact h

section
variable (𝒱 : Variants) (c : Dev nD) (bd : Option 𝒱.V) (i : grid0.Coords) (arg2 : Memref sig .tc .smem S14 .i32) (harg2 : arg2.IsWhole) (arg3 : Memref sig .tc .smem S14 .i32) (harg3 : arg3.IsWhole) (arg4 : Memref sig .tc .smem S14 .i32) (harg4 : arg4.IsWhole) (arg5 : Memref sig .tc .vmem S2560x4096 .bf16) (harg5 : arg5.IsWhole) (arg6 : Memref sig .tc .vmem S1x4096x256 .f32) (harg6 : arg6.IsWhole) (arg7 : Memref sig .tc .vmem S1x4096x256 .f32) (harg7 : arg7.IsWhole) (arg8 : Memref sig .tc .vmem S2560x256 .bf16) (harg8 : arg8.IsWhole) (v1 : Elt F .i32) (k0_hw1 : k0_chk1 v1)

/-- The one store of a trip that clears 64 rows. -/
theorem trip3_eq (k : Fin (k0_t3_loop v1).trips) :
    tripL_k0_t3 (F := F) 𝒱 c bd i arg2 harg2 arg3 harg3 arg4 harg4 arg5 harg5 arg6 harg6 arg7 harg7 arg8 harg8 v1 k0_hw1 k = [⟨Rect.unit (s := S2560x256) (k0_off12 v1 k) S64x256.size (k0_off12_inb v1 k0_hw1 k), k0_pay1 (F := F)⟩] := by
  unfold tripL_k0_t3 trip_k0_t3
  rfl

/-- The one store of a trip of 512 rows. -/
theorem trip1_eq (a5 : BufTy.Contents (Elt F) arg5.view.ty) (a6 : BufTy.Contents (Elt F) arg6.view.ty) (a7 : BufTy.Contents (Elt F) arg7.view.ty) (k : Fin (k0_t1_loop v1).trips) :
    tripL_k0_t1 (F := F) 𝒱 c bd i arg2 harg2 arg3 harg3 arg4 harg4 arg5 harg5 arg6 harg6 arg7 harg7 arg8 harg8 v1 k0_hw1 a5 a6 a7 k
      = [⟨Rect.unit (s := S2560x256) (k0_off3 v1 k) S512x256.size (k0_off3_inb v1 k0_hw1 k), k0_pay3 (F := F)
          (View.readAt (Elt F) arg5.view (Rect.unit (s := S2560x4096) (k0_off2 v1 k) S512x4096.size (k0_off2_inb v1 k0_hw1 k)).toLoadRect a5)
          (View.readAt (Elt F) arg6.view (Rect.unit (s := S1x4096x256) ![0, 0, 0] S1x4096x256.size inb_S1x4096x256_S1x4096x256_0_0_0).toLoadRect a6)
          (View.readAt (Elt F) arg7.view (Rect.unit (s := S1x4096x256) ![0, 0, 0] S1x4096x256.size inb_S1x4096x256_S1x4096x256_0_0_0).toLoadRect a7)⟩] := by
  unfold tripL_k0_t1 trip_k0_t1
  rfl

/-- What a load of a whole weight block reads. -/
theorem load_full (M : Memref sig .tc .vmem S1x4096x256 .f32) (hM : M.IsWhole) (x : Vec F S1x4096x256 .f32) :
    View.readAt (Elt F) M.view (Rect.unit (s := S1x4096x256) ![0, 0, 0] S1x4096x256.size inb_S1x4096x256_S1x4096x256_0_0_0).toLoadRect (hM.unread x) = x :=
  (View.readAt_full _ _ _).trans (hM.read_unread _)

include F in
/-- After `k` trips of 512 rows the block holds what it should on the first `512 k`. -/
theorem has1 (hC : Cnt v1 n) (f : BufTy.Contents (Elt F) arg8.view.ty) : ∀ k : ℕ, k ≤ n / 8 →
    Has arg8 (arg8.view.writes (Elt F) f (pb_k0_t1 (F := F) 𝒱 c bd i arg2 harg2 arg3 harg3 arg4 harg4 arg5 harg5 arg6 harg6 arg7 harg7 arg8 harg8 v1 k0_hw1 (harg5.unread x0) (harg6.unread x1) (harg7.unread x2) k))
      (left n x0 x1 x2) (fun r => r < 512 * k)
  | 0, _ => fun y hy => absurd hy (by simp)
  | k + 1, hk => by
    have ih := has1 hC f k (by omega)
    rw [pb_k0_t1_succ 𝒱 c bd i arg2 harg2 arg3 harg3 arg4 harg4 arg5 harg5 arg6 harg6 arg7 harg7 arg8 harg8 v1 k0_hw1 _ _ _ ⟨k, by rw [hC.trips1]; omega⟩, trip1_eq, List.singleton_append,
      load_full, load_full]
    refine (Has.cons (o := 512 * k) (W := 512) _ _ _ ih (hC.off3 ⟨k, _⟩) rfl rfl ?_).mono (fun r _ h => by omega)
    intro y x a b h0 h1
    rw [load_rows (o := 512 * k) arg5 harg5 x0 _ (hC.off2 ⟨k, _⟩)]
    exact agree3 x0 x1 x2 k (by omega) y x a b h0 h1

include F in
/-- After `k` clearing trips the block holds what it should on `64 k` more rows. -/
theorem has3 (hC : Cnt v1 n) (f : BufTy.Contents (Elt F) arg8.view.ty) (S : ℕ → Prop) (hf : Has arg8 f (left n x0 x1 x2) S) : ∀ k : ℕ, k ≤ 40 - n →
    Has arg8 (arg8.view.writes (Elt F) f (pb_k0_t3 (F := F) 𝒱 c bd i arg2 harg2 arg3 harg3 arg4 harg4 arg5 harg5 arg6 harg6 arg7 harg7 arg8 harg8 v1 k0_hw1 k))
      (left n x0 x1 x2) (fun r => S r ∨ (64 * n ≤ r ∧ r < 64 * (n + k)))
  | 0, _ => hf.mono (fun r _ h => h.resolve_right (by omega))
  | k + 1, hk => by
    have ih := has3 hC f S hf k (by omega)
    rw [pb_k0_t3_succ 𝒱 c bd i arg2 harg2 arg3 harg3 arg4 harg4 arg5 harg5 arg6 harg6 arg7 harg7 arg8 harg8 v1 k0_hw1 ⟨k, by rw [hC.trips3]; omega⟩, trip3_eq, List.singleton_append]
    refine (Has.cons (o := 64 * (n + k)) (W := 64) _ _ _ ih (hC.off12 ⟨k, _⟩) rfl rfl ?_).mono (fun r _ h => by
      rcases h with h | h
      · exact Or.inl (Or.inl h)
      · by_cases h' : r < 64 * (n + k)
        · exact Or.inl (Or.inr ⟨h.1, h'⟩)
        · exact Or.inr (by omega))
    intro y x a b h0 h1
    exact agree1 x0 x1 x2 y x (by omega)
end

end Cert.Proof.MoeSwiglu

end
-- ==== Proof.MoeSwigluRun.lean ====
/- The call on any values: the tables the host builds, the body at one point of the grid, and the whole run. -/
module

public import proofs.«01_k».proof.Proof.MoeSwigluTrips
public import proofs.«01_k».proof.Proof.Gen.MoeSwiglu.Launch
public import proofs.«01_k».proof.Proof.Gen.MoeSwiglu.Skeleton
public import proofs.«01_k».proof.Proof.Gen.MoeSwiglu.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.VecWindow
public import Idealize.ShloMosaic.Lib.WholeRead

@[expose] public section

set_option maxRecDepth 16384

noncomputable section

namespace Cert.Proof.MoeSwiglu

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MoeSwiglu Cert.MoeSwiglu.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! Staging memrefs and bodies at a point. -/

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)

abbrev bodyAt0 (a : (pcfg0 (F := F)).Adm) (t : Fin (cfg0 a).N) : Prog (TpuEff nD τ sig (Elt F) Λ₀ .tc) PUnit :=
  cc0_rg_swiglu (grid0.coords t) (Memref.whole main_arg0) (Memref.isWhole_whole _) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3))

/-! @main up to the call. -/

abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-! The tables. -/

def tbl : pre0.Contents (Elt F) := fun j => V m (0 : Dev nD) (pre0.ref j)
theorem V_pre (c : Dev nD) (j : Fin 3) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S14 .i32 := Memref.whole main_arg0
abbrev htbM0_0 : tbM0_0.IsWhole := Memref.isWhole_whole _
abbrev tbM0_1 : Memref sig .tc .smem S14 .i32 := Memref.whole main_arg1
abbrev htbM0_1 : tbM0_1.IsWhole := Memref.isWhole_whole _
abbrev tbM0_2 : Memref sig .tc .smem S14 .i32 := Memref.whole main_arg2
abbrev htbM0_2 : tbM0_2.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! The blocks. -/

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

abbrev ms0_0 (hO : Ok m) (t : Fin (cfgM m hO).N) : Memref sig .tc .vmem S2560x4096 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x4096x256 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x4096x256 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S2560x256 .bf16 := spec0_3.stage ((cfgM m hO).slots t 3)
abbrev hs0_3 (hO : Ok m) (t : Fin (cfgM m hO).N) : (ms0_3 m hO t).IsWhole := hstage0_3 (((cfgM m hO).slots t 3).cast nbuf0_3)

/-! What the tables hold. -/

/-- Each group names an expert, begins where its rows end within the array, and has no more live blocks than it holds. -/
structure InRange : Prop where
  e : ∀ i : S14.Idx, ((tbl m 0 : S14.Idx → BitVec 32) i).toNat < 8
  st : ∀ i : S14.Idx, ((tbl m 1 : S14.Idx → BitVec 32) i).toNat ≤ 268
  nb : ∀ i : S14.Idx, ((tbl m 2 : S14.Idx → BitVec 32) i).toNat ≤ 40

/-- The table entry of a point's group. -/
def gidx (i : grid0.Coords) : S14.Idx := fun a => match a with
  | ⟨0, _⟩ => ⟨(i 0).val, (i 0).isLt⟩
/-- The first table's word for the group of a point. -/
def eAt (i : grid0.Coords) : BitVec 32 := (tbl m 0 : S14.Idx → BitVec 32) (gidx i)
/-- The second's. -/
def stAt (i : grid0.Coords) : BitVec 32 := (tbl m 1 : S14.Idx → BitVec 32) (gidx i)
/-- The third's. -/
def nbAt (i : grid0.Coords) : BitVec 32 := (tbl m 2 : S14.Idx → BitVec 32) (gidx i)

theorem coord_fin : ∀ k : Fin 14, (Scalar.indexCast (BitVec.ofNat 32 k.val)).toNat + 1 * 0 = k.val := by decide +kernel

/-- Where a one-word window of a table lies. -/
theorem at_idx (i : grid0.Coords) (inb : ∀ a, (![(Scalar.indexCast (BitVec.ofNat 32 (i 0).val)).toNat] : Fin 1 → ℕ) a + S1.size a ≤ S14.size a) (z : S1.Idx) :
    (Rect.unit (s := S14) ![(Scalar.indexCast (BitVec.ofNat 32 (i 0).val)).toNat] S1.size inb).emb z = gidx i := by
  funext a
  match a with
  | ⟨0, _⟩ =>
    refine Fin.ext (Eq.trans ?_ (coord_fin (i 0)))
    have hz : (z (0 : Fin 1)).val = 0 := by have h : (z (0 : Fin 1)).val < 1 := (z (0 : Fin 1)).isLt; omega
    show (Scalar.indexCast (BitVec.ofNat 32 (i 0).val)).toNat + 1 * (z (0 : Fin 1)).val = _
    rw [hz]

/-- A word of the first table. -/
theorem at_e (i : grid0.Coords) (inb : ∀ a, (![(Scalar.indexCast (BitVec.ofNat 32 (i 0).val)).toNat] : Fin 1 → ℕ) a + S1.size a ≤ S14.size a) :
    (tbl m).at 0 (Rect.unit (s := S14) ![(Scalar.indexCast (BitVec.ofNat 32 (i 0).val)).toNat] S1.size inb) numel1_S1 = eAt m i :=
  congrArg (tbl m 0 : S14.Idx → BitVec 32) (at_idx i inb _)
/-- A word of the second table. -/
theorem at_st (i : grid0.Coords) (inb : ∀ a, (![(Scalar.indexCast (BitVec.ofNat 32 (i 0).val)).toNat] : Fin 1 → ℕ) a + S1.size a ≤ S14.size a) :
    (tbl m).at 1 (Rect.unit (s := S14) ![(Scalar.indexCast (BitVec.ofNat 32 (i 0).val)).toNat] S1.size inb) numel1_S1 = stAt m i :=
  congrArg (tbl m 1 : S14.Idx → BitVec 32) (at_idx i inb _)
/-- A word of the third table. -/
theorem at_nb (i : grid0.Coords) (inb : ∀ a, (![(Scalar.indexCast (BitVec.ofNat 32 (i 0).val)).toNat] : Fin 1 → ℕ) a + S1.size a ≤ S14.size a) :
    (tbl m).at 2 (Rect.unit (s := S14) ![(Scalar.indexCast (BitVec.ofNat 32 (i 0).val)).toNat] S1.size inb) numel1_S1 = nbAt m i :=
  congrArg (tbl m 2 : S14.Idx → BitVec 32) (at_idx i inb _)
/-- The word the body reads. -/
theorem word (i : grid0.Coords) : (tbM0_2.view.readAt (Elt F) (Rect.unit (s := S14) (k0_off1 i) S1.size (k0_off1_inb i)).toLoadRect (tbl m 2) (Shape.Idx.first (numel1_S1.symm ▸ Nat.one_pos))) = nbAt m i :=
  congrArg (tbl m 2 : S14.Idx → BitVec 32) (at_idx i (k0_off1_inb i) _)
theorem toNat_mul (w : BitVec 32) (h : w.toNat ≤ 268) : (Scalar.muli w 64#32).toNat = w.toNat * 64 := by
  show (w * 64#32).toNat = _
  rw [BitVec.toNat_mul]
  show w.toNat * 64 % 2 ^ 32 = _
  omega
/-- Where window 0's rows begin at a point of the grid. -/
theorem ix_0 (hR : InRange m) (i : grid0.Coords) : cc0_transform_0 k0_off1_inb numel1_S1 (tbl m) i = ![(stAt m i).toNat * 64, 0] := by
  funext a
  match a with
  | ⟨0, _⟩ => exact (congrArg (fun w : BitVec 32 => (Scalar.muli w (64#32)).toNat) (at_st m i _)).trans (toNat_mul _ (hR.st _))
  | ⟨1, _⟩ => rfl
/-- The columns window 1 takes: those of the point where its group is live, the last ones where it is not. -/
def colAt (i : grid0.Coords) : ℕ := (Scalar.select (Scalar.cmpi .sgt (nbAt m i) 0#32) (BitVec.ofNat 32 (i 1).val) 55#32 : BitVec 32).toNat
theorem colAt_eq (i : grid0.Coords) : colAt m i = ((Scalar.select (Scalar.cmpi .sgt (nbAt m i) (0#32)) (BitVec.ofNat 32 (i 1).val) (55#32)) : BitVec 32).toNat := by
  unfold colAt
  with_reducible rfl
/-- Where window 1's block lies at a point of the grid. -/
theorem ix_1 (i : grid0.Coords) : cc0_transform_1 k0_off1_inb numel1_S1 (tbl m) i = ![(eAt m i).toNat, 0, colAt m i] := by
  unfold cc0_transform_1
  have he := at_e m i (k0_off1_inb i)
  have hn := at_nb m i (k0_off1_inb i)
  refine (congrArg₂ (fun v w : BitVec 32 => (![v.toNat, (0#32 : BitVec 32).toNat, ((Scalar.select (Scalar.cmpi .sgt w (0#32)) (BitVec.ofNat 32 (i 1).val) (55#32)) : BitVec 32).toNat] : Fin 3 → ℕ)) he hn).trans ?_
  rw [colAt_eq]
  rfl
/-- Where window 2's block lies at a point of the grid. -/
theorem ix_2 (i : grid0.Coords) : cc0_transform_2 k0_off1_inb numel1_S1 (tbl m) i = ![(eAt m i).toNat, 0, colAt m i] := by
  unfold cc0_transform_2
  have he := at_e m i (k0_off1_inb i)
  have hn := at_nb m i (k0_off1_inb i)
  refine (congrArg₂ (fun v w : BitVec 32 => (![v.toNat, (0#32 : BitVec 32).toNat, ((Scalar.select (Scalar.cmpi .sgt w (0#32)) (BitVec.ofNat 32 (i 1).val) (55#32)) : BitVec 32).toNat] : Fin 3 → ℕ)) he hn).trans ?_
  rw [colAt_eq]
  rfl
/-- Where window 3's block lies at a point of the grid. -/
theorem ix_3 (i : grid0.Coords) : cc0_transform_3 k0_off1_inb numel1_S1 (tbl m) i = ![(i 0).val, (i 1).val] := by
  funext a
  match a with
  | ⟨0, _⟩ => exact (show (BitVec.ofNat 32 (i 0).val).toNat = (i 0).val by revert i; decide +kernel)
  | ⟨1, _⟩ => exact (show (BitVec.ofNat 32 (i 1).val).toNat = (i 1).val by revert i; decide +kernel)
theorem ofNat_fin : ∀ j : Fin 56, (BitVec.ofNat 32 j.val : BitVec 32).toNat = j.val := by decide +kernel
theorem colAt_lt (i : grid0.Coords) : colAt m i < 56 := by
  unfold colAt Scalar.select
  split
  · rw [show (BitVec.ofNat 32 (i 1).val : BitVec 32).toNat = (i 1).val from ofNat_fin (i 1)]; exact (i 1).isLt
  · decide
/-- The columns a live group takes. -/
theorem colAt_live (i : grid0.Coords) (h : 0 < (nbAt m i).toNat) (h' : (nbAt m i).toNat ≤ 40) : colAt m i = (i 1).val := by
  have hp : ∀ k : Fin 41, 0 < k.val → Scalar.cmpi .sgt (BitVec.ofNat 32 k.val) 0#32 = 1#1 := by decide +kernel
  have hb := hp ⟨(nbAt m i).toNat, by omega⟩ h
  rw [show (BitVec.ofNat 32 (nbAt m i).toNat) = nbAt m i from BitVec.eq_of_toNat_eq (by rw [BitVec.toNat_ofNat]; omega)] at hb
  unfold colAt
  rw [hb]
  exact ofNat_fin (i 1)
theorem mult_eq (i : grid0.Coords) : k0_mult1 (tbl m) i = Scalar.muli (stAt m i) 64#32 := by
  refine congrArg (fun w : BitVec 32 => Scalar.muli w (64#32)) ?_
  refine (dif_pos (fun a => ?_)).trans (congrArg (tbl m 1 : S14.Idx → BitVec 32) (funext fun a => ?_))
  · match a with
    | ⟨0, _⟩ => exact k0_off1_inb i 0
  · match a with
    | ⟨0, _⟩ => exact Fin.ext (coord_fin (i 0))
theorem dvd_mul64 (w : BitVec 32) (h : w.toNat ≤ 268) : (64 : Int) ∣ (Scalar.muli w 64#32).toInt := by
  have e := toNat_mul w h
  rw [BitVec.toInt_eq_toNat_of_lt (by omega), e]
  exact ⟨w.toNat, by push_cast; ring⟩
theorem in0_fin : ∀ s : Fin 269, ∃ h : (∀ a, (![s.val * 64, 0] : Fin 2 → ℕ) a + S2560x4096.size a ≤ S19712x4096.size a), EltTy.bits .bf16 = 32 ∨ (Rect.unit (s := S19712x4096) ![s.val * 64, 0] S2560x4096.size h).WholeWords (EltTy.packing .bf16) := by
  decide +kernel
theorem in1 (e c : ℕ) (he : e < 8) (hc : c < 56) : ∃ h : (∀ a, ((![e, 0, c] : Fin 3 → ℕ) a + 1) * S1x4096x256.size a ≤ S8x4096x14336.size a), EltTy.bits .f32 = 32 ∨ (Rect.block (s := S8x4096x14336) S1x4096x256.size ![e, 0, c] h).WholeWords (EltTy.packing .f32) :=
  ⟨fun a => match a with
    | ⟨0, _⟩ => show (e + 1) * 1 ≤ 8 by omega
    | ⟨1, _⟩ => show (0 + 1) * 4096 ≤ 4096 by omega
    | ⟨2, _⟩ => show (c + 1) * 256 ≤ 14336 by omega, .inl rfl⟩
/-- That word counts the live blocks. -/
theorem cnt (hR : InRange m) (i : grid0.Coords) : Cnt (tbM0_2.view.readAt (Elt F) (Rect.unit (s := S14) (k0_off1 i) S1.size (k0_off1_inb i)).toLoadRect (tbl m 2) (Shape.Idx.first (numel1_S1.symm ▸ Nat.one_pos))) (nbAt m i).toNat :=
  ⟨hR.nb _, (word m i).trans (BitVec.eq_of_toNat_eq (by rw [BitVec.toNat_ofNat]; have h : (nbAt m i).toNat ≤ 40 := hR.nb _; omega))⟩
/-- Every block lies inside its array, and its transfers are of whole words. -/
theorem ok (hR : InRange m) : Ok m := by
  refine ⟨fun i => ?_, fun i => ?_, fun i => ?_, fun i => ?_, fun i => ?_⟩
  · rw [mult_eq m i]
    exact dvd_mul64 _ (hR.st _)
  · rw [ix_0 m hR i]
    exact in0_fin ⟨(stAt m i).toNat, Nat.lt_succ_of_le (hR.st _)⟩
  · rw [ix_1 m i]
    exact in1 _ _ (hR.e _) (colAt_lt m i)
  · rw [ix_2 m i]
    exact in1 _ _ (hR.e _) (colAt_lt m i)
  · rw [ix_3 m i]; revert i; decide +kernel

set_option maxHeartbeats 1200000 in
/-- The body at a point, a case of its conditions. -/
theorem body_run0 (c : Dev nD) (i : grid0.Coords) (arg5 : Memref sig .tc .vmem S2560x4096 .bf16) (harg5 : arg5.IsWhole) (arg6 : Memref sig .tc .vmem S1x4096x256 .f32) (harg6 : arg6.IsWhole) (arg7 : Memref sig .tc .vmem S1x4096x256 .f32) (harg7 : arg7.IsWhole) (arg8 : Memref sig .tc .vmem S2560x256 .bf16) (harg8 : arg8.IsWhole)
    (x0 : Vec F S2560x4096 .bf16) (x1 : Vec F S1x4096x256 .f32) (x2 : Vec F S1x4096x256 .f32) (xt0 : TbBuf0 (F := F) c tbM0_0) (xt1 : TbBuf0 (F := F) c tbM0_1) (xt2 : TbBuf0 (F := F) c tbM0_2) (n : ℕ)
    (hC : Cnt (tbM0_2.view.readAt (Elt F) (Rect.unit (s := S14) (k0_off1 i) S1.size (k0_off1_inb i)).toLoadRect xt2 (Shape.Idx.first (numel1_S1.symm ▸ Nat.one_pos))) n) (hc0 : ¬ (k0_cond1 (tbM0_2.view.readAt (Elt F) (Rect.unit (s := S14) (k0_off1 i) S1.size (k0_off1_inb i)).toLoadRect xt2 (Shape.Idx.first (numel1_S1.symm ▸ Nat.one_pos))) = 1#1)) (hc1 : ¬ (k0_cond2 (tbM0_2.view.readAt (Elt F) (Rect.unit (s := S14) (k0_off1 i) S1.size (k0_off1_inb i)).toLoadRect xt2 (Shape.Idx.first (numel1_S1.symm ▸ Nat.one_pos))) = 1#1)) (hc2 : ¬ (k0_cond3 (tbM0_2.view.readAt (Elt F) (Rect.unit (s := S14) (k0_off1 i) S1.size (k0_off1_inb i)).toLoadRect xt2 (Shape.Idx.first (numel1_S1.symm ▸ Nat.one_pos))) = 1#1)) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ (∃ d, owns (c : Thread nD τ) arg8 fullShare d) ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare (left n x0 x1 x2) ∗ tbPt0 c tbM0_0 xt0 ∗ tbPt0 c tbM0_1 xt1 ∗ tbPt0 c tbM0_2 xt2) -∗ K ⟨⟩))
          ⊢ wp frame (wpE (defs₀ (F := F)) Variants.none c none) E (cc0_rg_swiglu i tbM0_0 htbM0_0 tbM0_1 htbM0_1 tbM0_2 htbM0_2 arg5 harg5 arg6 harg6 arg7 harg7 arg8 harg8) K := by
  intro E K
  have hk := hC.chk
  simp only [cc0_rg_swiglu_eq_skeleton]; unfold cc0_rg_swiglu_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%d3, %f3, -, H3⟩, HT0, HT1, HT2, Hk⟩
  obtain rfl := harg5.eq_unread hf0; obtain rfl := harg6.eq_unread hf1; obtain rfl := harg7.eq_unread hf2
  sl_exec (disch := first | sl_exact hc0 | sl_exact hc1 | sl_exact hc2 | sl_exact hk)
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; · ipureintro; exact harg7.read_unread _
    iexact H2
  isplitl [H3]
  · iexists _; isplitr; swap; · iexact H3
    ipureintro
    have hC' : Cnt (body_run0.sl.r c i xt2) n := hC
    have hn := hC.le
    have d0 := (not_congr hC.cond1).mp hc0
    have d1 := (not_congr hC.cond2).mp hc1
    have d2 := (not_congr hC.cond3).mp hc2
    rw [show Scf.trips (k0_t4_loop (body_run0.sl.r c i xt2)).lb (k0_t4_loop (body_run0.sl.r c i xt2)).ub (k0_t4_loop (body_run0.sl.r c i xt2)).st = _ from hC'.trips4]
    rw [show Scf.trips (k0_t3_loop (body_run0.sl.r c i xt2)).lb (k0_t3_loop (body_run0.sl.r c i xt2)).ub (k0_t3_loop (body_run0.sl.r c i xt2)).st = _ from hC'.trips3]
    rw [show Scf.trips (k0_t2_loop (body_run0.sl.r c i xt2)).lb (k0_t2_loop (body_run0.sl.r c i xt2)).ub (k0_t2_loop (body_run0.sl.r c i xt2)).st = _ from hC'.trips2]
    rw [show Scf.trips (k0_t1_loop (body_run0.sl.r c i xt2)).lb (k0_t1_loop (body_run0.sl.r c i xt2)).ub (k0_t1_loop (body_run0.sl.r c i xt2)).st = _ from hC'.trips1]
    refine funext fun y => (?_ : Has arg8 (arg8.view.writes (Elt F) f3 _) (left n x0 x1 x2) (fun r => r < 2560)) y (y 0).isLt
    refine Has.app0 rfl (Has.app ?_)
    refine (has3 x0 x1 x2 Variants.none c none i tbM0_0 htbM0_0 tbM0_1 htbM0_1 tbM0_2 htbM0_2 arg5 harg5 arg6 harg6 arg7 harg7 arg8 harg8 _ hk hC' _ (fun r => r < 64 * n) ?_ (40 - n) le_rfl).mono (fun r _ _ => by omega)
    refine Has.mono (S := fun r => r < 128 * (n / 2)) ?_ (fun r _ h => by omega)
    refine Has.mono (S := fun r => r < 256 * (n / 4)) ?_ (fun r _ h => by omega)
    refine Has.mono (S := fun r => r < 512 * (n / 8)) ?_ (fun r _ h => by omega)
    exact Has.app0 rfl (has1 x0 x1 x2 Variants.none c none i tbM0_0 htbM0_0 tbM0_1 htbM0_1 tbM0_2 htbM0_2 arg5 harg5 arg6 harg6 arg7 harg7 arg8 harg8 _ hk hC' f3 (n / 8) le_rfl)
  isplitl [HT0]; · iexact HT0
  isplitl [HT1]; · iexact HT1
  iexact HT2

set_option maxHeartbeats 1200000 in
/-- The body at a point, a case of its conditions. -/
theorem body_run1 (c : Dev nD) (i : grid0.Coords) (arg5 : Memref sig .tc .vmem S2560x4096 .bf16) (harg5 : arg5.IsWhole) (arg6 : Memref sig .tc .vmem S1x4096x256 .f32) (harg6 : arg6.IsWhole) (arg7 : Memref sig .tc .vmem S1x4096x256 .f32) (harg7 : arg7.IsWhole) (arg8 : Memref sig .tc .vmem S2560x256 .bf16) (harg8 : arg8.IsWhole)
    (x0 : Vec F S2560x4096 .bf16) (x1 : Vec F S1x4096x256 .f32) (x2 : Vec F S1x4096x256 .f32) (xt0 : TbBuf0 (F := F) c tbM0_0) (xt1 : TbBuf0 (F := F) c tbM0_1) (xt2 : TbBuf0 (F := F) c tbM0_2) (n : ℕ)
    (hC : Cnt (tbM0_2.view.readAt (Elt F) (Rect.unit (s := S14) (k0_off1 i) S1.size (k0_off1_inb i)).toLoadRect xt2 (Shape.Idx.first (numel1_S1.symm ▸ Nat.one_pos))) n) (hc0 : (k0_cond1 (tbM0_2.view.readAt (Elt F) (Rect.unit (s := S14) (k0_off1 i) S1.size (k0_off1_inb i)).toLoadRect xt2 (Shape.Idx.first (numel1_S1.symm ▸ Nat.one_pos))) = 1#1)) (hc1 : ¬ (k0_cond2 (tbM0_2.view.readAt (Elt F) (Rect.unit (s := S14) (k0_off1 i) S1.size (k0_off1_inb i)).toLoadRect xt2 (Shape.Idx.first (numel1_S1.symm ▸ Nat.one_pos))) = 1#1)) (hc2 : ¬ (k0_cond3 (tbM0_2.view.readAt (Elt F) (Rect.unit (s := S14) (k0_off1 i) S1.size (k0_off1_inb i)).toLoadRect xt2 (Shape.Idx.first (numel1_S1.symm ▸ Nat.one_pos))) = 1#1)) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ (∃ d, owns (c : Thread nD τ) arg8 fullShare d) ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare (left n x0 x1 x2) ∗ tbPt0 c tbM0_0 xt0 ∗ tbPt0 c tbM0_1 xt1 ∗ tbPt0 c tbM0_2 xt2) -∗ K ⟨⟩))
          ⊢ wp frame (wpE (defs₀ (F := F)) Variants.none c none) E (cc0_rg_swiglu i tbM0_0 htbM0_0 tbM0_1 htbM0_1 tbM0_2 htbM0_2 arg5 harg5 arg6 harg6 arg7 harg7 arg8 harg8) K := by
  intro E K
  have hk := hC.chk
  simp only [cc0_rg_swiglu_eq_skeleton]; unfold cc0_rg_swiglu_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%d3, %f3, -, H3⟩, HT0, HT1, HT2, Hk⟩
  obtain rfl := harg5.eq_unread hf0; obtain rfl := harg6.eq_unread hf1; obtain rfl := harg7.eq_unread hf2
  sl_exec (disch := first | sl_exact hc0 | sl_exact hc1 | sl_exact hc2 | sl_exact hk)
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; · ipureintro; exact harg7.read_unread _
    iexact H2
  isplitl [H3]
  · iexists _; isplitr; swap; · iexact H3
    ipureintro
    have hC' : Cnt (body_run1.sl.r c i xt2) n := hC
    have hn := hC.le
    have d0 := hC.cond1.mp hc0
    have d1 := (not_congr hC.cond2).mp hc1
    have d2 := (not_congr hC.cond3).mp hc2
    rw [show Scf.trips (k0_t4_loop (body_run1.sl.r c i xt2)).lb (k0_t4_loop (body_run1.sl.r c i xt2)).ub (k0_t4_loop (body_run1.sl.r c i xt2)).st = _ from hC'.trips4]
    rw [show Scf.trips (k0_t3_loop (body_run1.sl.r c i xt2)).lb (k0_t3_loop (body_run1.sl.r c i xt2)).ub (k0_t3_loop (body_run1.sl.r c i xt2)).st = _ from hC'.trips3]
    rw [show Scf.trips (k0_t2_loop (body_run1.sl.r c i xt2)).lb (k0_t2_loop (body_run1.sl.r c i xt2)).ub (k0_t2_loop (body_run1.sl.r c i xt2)).st = _ from hC'.trips2]
    rw [show Scf.trips (k0_t1_loop (body_run1.sl.r c i xt2)).lb (k0_t1_loop (body_run1.sl.r c i xt2)).ub (k0_t1_loop (body_run1.sl.r c i xt2)).st = _ from hC'.trips1]
    refine funext fun y => (?_ : Has arg8 (arg8.view.writes (Elt F) f3 _) (left n x0 x1 x2) (fun r => r < 2560)) y (y 0).isLt
    refine Has.app0 rfl (Has.app ?_)
    refine (has3 x0 x1 x2 Variants.none c none i tbM0_0 htbM0_0 tbM0_1 htbM0_1 tbM0_2 htbM0_2 arg5 harg5 arg6 harg6 arg7 harg7 arg8 harg8 _ hk hC' _ (fun r => r < 64 * n) ?_ (40 - n) le_rfl).mono (fun r _ _ => by omega)
    refine Has.mono (S := fun r => r < 128 * (n / 2)) ?_ (fun r _ h => by omega)
    refine Has.mono (S := fun r => r < 256 * (n / 4)) ?_ (fun r _ h => by omega)
    refine (Has.cons (S := fun r => r < 512 * (n / 8)) (o := 512 * (n / 8)) (W := 256) _ _ _ ?_ hC'.off7 rfl rfl (fun y x a b h0 h1 => by
      rw [load_full, load_full, load_rows (o := 512 * (n / 8)) arg5 harg5 x0 _ hC'.off6]
      exact agree5 x0 x1 x2 d0 y x a b h0 h1)).mono (fun r _ h => by omega)
    exact Has.app0 rfl (has1 x0 x1 x2 Variants.none c none i tbM0_0 htbM0_0 tbM0_1 htbM0_1 tbM0_2 htbM0_2 arg5 harg5 arg6 harg6 arg7 harg7 arg8 harg8 _ hk hC' f3 (n / 8) le_rfl)
  isplitl [HT0]; · iexact HT0
  isplitl [HT1]; · iexact HT1
  iexact HT2

set_option maxHeartbeats 1200000 in
/-- The body at a point, a case of its conditions. -/
theorem body_run2 (c : Dev nD) (i : grid0.Coords) (arg5 : Memref sig .tc .vmem S2560x4096 .bf16) (harg5 : arg5.IsWhole) (arg6 : Memref sig .tc .vmem S1x4096x256 .f32) (harg6 : arg6.IsWhole) (arg7 : Memref sig .tc .vmem S1x4096x256 .f32) (harg7 : arg7.IsWhole) (arg8 : Memref sig .tc .vmem S2560x256 .bf16) (harg8 : arg8.IsWhole)
    (x0 : Vec F S2560x4096 .bf16) (x1 : Vec F S1x4096x256 .f32) (x2 : Vec F S1x4096x256 .f32) (xt0 : TbBuf0 (F := F) c tbM0_0) (xt1 : TbBuf0 (F := F) c tbM0_1) (xt2 : TbBuf0 (F := F) c tbM0_2) (n : ℕ)
    (hC : Cnt (tbM0_2.view.readAt (Elt F) (Rect.unit (s := S14) (k0_off1 i) S1.size (k0_off1_inb i)).toLoadRect xt2 (Shape.Idx.first (numel1_S1.symm ▸ Nat.one_pos))) n) (hc0 : ¬ (k0_cond1 (tbM0_2.view.readAt (Elt F) (Rect.unit (s := S14) (k0_off1 i) S1.size (k0_off1_inb i)).toLoadRect xt2 (Shape.Idx.first (numel1_S1.symm ▸ Nat.one_pos))) = 1#1)) (hc1 : (k0_cond2 (tbM0_2.view.readAt (Elt F) (Rect.unit (s := S14) (k0_off1 i) S1.size (k0_off1_inb i)).toLoadRect xt2 (Shape.Idx.first (numel1_S1.symm ▸ Nat.one_pos))) = 1#1)) (hc2 : ¬ (k0_cond3 (tbM0_2.view.readAt (Elt F) (Rect.unit (s := S14) (k0_off1 i) S1.size (k0_off1_inb i)).toLoadRect xt2 (Shape.Idx.first (numel1_S1.symm ▸ Nat.one_pos))) = 1#1)) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ (∃ d, owns (c : Thread nD τ) arg8 fullShare d) ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare (left n x0 x1 x2) ∗ tbPt0 c tbM0_0 xt0 ∗ tbPt0 c tbM0_1 xt1 ∗ tbPt0 c tbM0_2 xt2) -∗ K ⟨⟩))
          ⊢ wp frame (wpE (defs₀ (F := F)) Variants.none c none) E (cc0_rg_swiglu i tbM0_0 htbM0_0 tbM0_1 htbM0_1 tbM0_2 htbM0_2 arg5 harg5 arg6 harg6 arg7 harg7 arg8 harg8) K := by
  intro E K
  have hk := hC.chk
  simp only [cc0_rg_swiglu_eq_skeleton]; unfold cc0_rg_swiglu_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%d3, %f3, -, H3⟩, HT0, HT1, HT2, Hk⟩
  obtain rfl := harg5.eq_unread hf0; obtain rfl := harg6.eq_unread hf1; obtain rfl := harg7.eq_unread hf2
  sl_exec (disch := first | sl_exact hc0 | sl_exact hc1 | sl_exact hc2 | sl_exact hk)
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; · ipureintro; exact harg7.read_unread _
    iexact H2
  isplitl [H3]
  · iexists _; isplitr; swap; · iexact H3
    ipureintro
    have hC' : Cnt (body_run2.sl.r c i xt2) n := hC
    have hn := hC.le
    have d0 := (not_congr hC.cond1).mp hc0
    have d1 := hC.cond2.mp hc1
    have d2 := (not_congr hC.cond3).mp hc2
    rw [show Scf.trips (k0_t4_loop (body_run2.sl.r c i xt2)).lb (k0_t4_loop (body_run2.sl.r c i xt2)).ub (k0_t4_loop (body_run2.sl.r c i xt2)).st = _ from hC'.trips4]
    rw [show Scf.trips (k0_t3_loop (body_run2.sl.r c i xt2)).lb (k0_t3_loop (body_run2.sl.r c i xt2)).ub (k0_t3_loop (body_run2.sl.r c i xt2)).st = _ from hC'.trips3]
    rw [show Scf.trips (k0_t2_loop (body_run2.sl.r c i xt2)).lb (k0_t2_loop (body_run2.sl.r c i xt2)).ub (k0_t2_loop (body_run2.sl.r c i xt2)).st = _ from hC'.trips2]
    rw [show Scf.trips (k0_t1_loop (body_run2.sl.r c i xt2)).lb (k0_t1_loop (body_run2.sl.r c i xt2)).ub (k0_t1_loop (body_run2.sl.r c i xt2)).st = _ from hC'.trips1]
    refine funext fun y => (?_ : Has arg8 (arg8.view.writes (Elt F) f3 _) (left n x0 x1 x2) (fun r => r < 2560)) y (y 0).isLt
    refine Has.app0 rfl (Has.app ?_)
    refine (has3 x0 x1 x2 Variants.none c none i tbM0_0 htbM0_0 tbM0_1 htbM0_1 tbM0_2 htbM0_2 arg5 harg5 arg6 harg6 arg7 harg7 arg8 harg8 _ hk hC' _ (fun r => r < 64 * n) ?_ (40 - n) le_rfl).mono (fun r _ _ => by omega)
    refine Has.mono (S := fun r => r < 128 * (n / 2)) ?_ (fun r _ h => by omega)
    refine (Has.cons (S := fun r => r < 256 * (n / 4)) (o := 256 * (n / 4)) (W := 128) _ _ _ ?_ hC'.off9 rfl rfl (fun y x a b h0 h1 => by
      rw [load_full, load_full, load_rows (o := 256 * (n / 4)) arg5 harg5 x0 _ hC'.off8]
      exact agree6 x0 x1 x2 d1 y x a b h0 h1)).mono (fun r _ h => by omega)
    refine Has.mono (S := fun r => r < 512 * (n / 8)) ?_ (fun r _ h => by omega)
    exact Has.app0 rfl (has1 x0 x1 x2 Variants.none c none i tbM0_0 htbM0_0 tbM0_1 htbM0_1 tbM0_2 htbM0_2 arg5 harg5 arg6 harg6 arg7 harg7 arg8 harg8 _ hk hC' f3 (n / 8) le_rfl)
  isplitl [HT0]; · iexact HT0
  isplitl [HT1]; · iexact HT1
  iexact HT2

set_option maxHeartbeats 1200000 in
/-- The body at a point, a case of its conditions. -/
theorem body_run3 (c : Dev nD) (i : grid0.Coords) (arg5 : Memref sig .tc .vmem S2560x4096 .bf16) (harg5 : arg5.IsWhole) (arg6 : Memref sig .tc .vmem S1x4096x256 .f32) (harg6 : arg6.IsWhole) (arg7 : Memref sig .tc .vmem S1x4096x256 .f32) (harg7 : arg7.IsWhole) (arg8 : Memref sig .tc .vmem S2560x256 .bf16) (harg8 : arg8.IsWhole)
    (x0 : Vec F S2560x4096 .bf16) (x1 : Vec F S1x4096x256 .f32) (x2 : Vec F S1x4096x256 .f32) (xt0 : TbBuf0 (F := F) c tbM0_0) (xt1 : TbBuf0 (F := F) c tbM0_1) (xt2 : TbBuf0 (F := F) c tbM0_2) (n : ℕ)
    (hC : Cnt (tbM0_2.view.readAt (Elt F) (Rect.unit (s := S14) (k0_off1 i) S1.size (k0_off1_inb i)).toLoadRect xt2 (Shape.Idx.first (numel1_S1.symm ▸ Nat.one_pos))) n) (hc0 : (k0_cond1 (tbM0_2.view.readAt (Elt F) (Rect.unit (s := S14) (k0_off1 i) S1.size (k0_off1_inb i)).toLoadRect xt2 (Shape.Idx.first (numel1_S1.symm ▸ Nat.one_pos))) = 1#1)) (hc1 : (k0_cond2 (tbM0_2.view.readAt (Elt F) (Rect.unit (s := S14) (k0_off1 i) S1.size (k0_off1_inb i)).toLoadRect xt2 (Shape.Idx.first (numel1_S1.symm ▸ Nat.one_pos))) = 1#1)) (hc2 : ¬ (k0_cond3 (tbM0_2.view.readAt (Elt F) (Rect.unit (s := S14) (k0_off1 i) S1.size (k0_off1_inb i)).toLoadRect xt2 (Shape.Idx.first (numel1_S1.symm ▸ Nat.one_pos))) = 1#1)) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ (∃ d, owns (c : Thread nD τ) arg8 fullShare d) ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare (left n x0 x1 x2) ∗ tbPt0 c tbM0_0 xt0 ∗ tbPt0 c tbM0_1 xt1 ∗ tbPt0 c tbM0_2 xt2) -∗ K ⟨⟩))
          ⊢ wp frame (wpE (defs₀ (F := F)) Variants.none c none) E (cc0_rg_swiglu i tbM0_0 htbM0_0 tbM0_1 htbM0_1 tbM0_2 htbM0_2 arg5 harg5 arg6 harg6 arg7 harg7 arg8 harg8) K := by
  intro E K
  have hk := hC.chk
  simp only [cc0_rg_swiglu_eq_skeleton]; unfold cc0_rg_swiglu_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%d3, %f3, -, H3⟩, HT0, HT1, HT2, Hk⟩
  obtain rfl := harg5.eq_unread hf0; obtain rfl := harg6.eq_unread hf1; obtain rfl := harg7.eq_unread hf2
  sl_exec (disch := first | sl_exact hc0 | sl_exact hc1 | sl_exact hc2 | sl_exact hk)
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; · ipureintro; exact harg7.read_unread _
    iexact H2
  isplitl [H3]
  · iexists _; isplitr; swap; · iexact H3
    ipureintro
    have hC' : Cnt (body_run3.sl.r c i xt2) n := hC
    have hn := hC.le
    have d0 := hC.cond1.mp hc0
    have d1 := hC.cond2.mp hc1
    have d2 := (not_congr hC.cond3).mp hc2
    rw [show Scf.trips (k0_t4_loop (body_run3.sl.r c i xt2)).lb (k0_t4_loop (body_run3.sl.r c i xt2)).ub (k0_t4_loop (body_run3.sl.r c i xt2)).st = _ from hC'.trips4]
    rw [show Scf.trips (k0_t3_loop (body_run3.sl.r c i xt2)).lb (k0_t3_loop (body_run3.sl.r c i xt2)).ub (k0_t3_loop (body_run3.sl.r c i xt2)).st = _ from hC'.trips3]
    rw [show Scf.trips (k0_t2_loop (body_run3.sl.r c i xt2)).lb (k0_t2_loop (body_run3.sl.r c i xt2)).ub (k0_t2_loop (body_run3.sl.r c i xt2)).st = _ from hC'.trips2]
    rw [show Scf.trips (k0_t1_loop (body_run3.sl.r c i xt2)).lb (k0_t1_loop (body_run3.sl.r c i xt2)).ub (k0_t1_loop (body_run3.sl.r c i xt2)).st = _ from hC'.trips1]
    refine funext fun y => (?_ : Has arg8 (arg8.view.writes (Elt F) f3 _) (left n x0 x1 x2) (fun r => r < 2560)) y (y 0).isLt
    refine Has.app0 rfl (Has.app ?_)
    refine (has3 x0 x1 x2 Variants.none c none i tbM0_0 htbM0_0 tbM0_1 htbM0_1 tbM0_2 htbM0_2 arg5 harg5 arg6 harg6 arg7 harg7 arg8 harg8 _ hk hC' _ (fun r => r < 64 * n) ?_ (40 - n) le_rfl).mono (fun r _ _ => by omega)
    refine Has.mono (S := fun r => r < 128 * (n / 2)) ?_ (fun r _ h => by omega)
    refine (Has.cons (S := fun r => r < 256 * (n / 4)) (o := 256 * (n / 4)) (W := 128) _ _ _ ?_ hC'.off9 rfl rfl (fun y x a b h0 h1 => by
      rw [load_full, load_full, load_rows (o := 256 * (n / 4)) arg5 harg5 x0 _ hC'.off8]
      exact agree6 x0 x1 x2 d1 y x a b h0 h1)).mono (fun r _ h => by omega)
    refine (Has.cons (S := fun r => r < 512 * (n / 8)) (o := 512 * (n / 8)) (W := 256) _ _ _ ?_ hC'.off7 rfl rfl (fun y x a b h0 h1 => by
      rw [load_full, load_full, load_rows (o := 512 * (n / 8)) arg5 harg5 x0 _ hC'.off6]
      exact agree5 x0 x1 x2 d0 y x a b h0 h1)).mono (fun r _ h => by omega)
    exact Has.app0 rfl (has1 x0 x1 x2 Variants.none c none i tbM0_0 htbM0_0 tbM0_1 htbM0_1 tbM0_2 htbM0_2 arg5 harg5 arg6 harg6 arg7 harg7 arg8 harg8 _ hk hC' f3 (n / 8) le_rfl)
  isplitl [HT0]; · iexact HT0
  isplitl [HT1]; · iexact HT1
  iexact HT2

set_option maxHeartbeats 1200000 in
/-- The body at a point, a case of its conditions. -/
theorem body_run4 (c : Dev nD) (i : grid0.Coords) (arg5 : Memref sig .tc .vmem S2560x4096 .bf16) (harg5 : arg5.IsWhole) (arg6 : Memref sig .tc .vmem S1x4096x256 .f32) (harg6 : arg6.IsWhole) (arg7 : Memref sig .tc .vmem S1x4096x256 .f32) (harg7 : arg7.IsWhole) (arg8 : Memref sig .tc .vmem S2560x256 .bf16) (harg8 : arg8.IsWhole)
    (x0 : Vec F S2560x4096 .bf16) (x1 : Vec F S1x4096x256 .f32) (x2 : Vec F S1x4096x256 .f32) (xt0 : TbBuf0 (F := F) c tbM0_0) (xt1 : TbBuf0 (F := F) c tbM0_1) (xt2 : TbBuf0 (F := F) c tbM0_2) (n : ℕ)
    (hC : Cnt (tbM0_2.view.readAt (Elt F) (Rect.unit (s := S14) (k0_off1 i) S1.size (k0_off1_inb i)).toLoadRect xt2 (Shape.Idx.first (numel1_S1.symm ▸ Nat.one_pos))) n) (hc0 : ¬ (k0_cond1 (tbM0_2.view.readAt (Elt F) (Rect.unit (s := S14) (k0_off1 i) S1.size (k0_off1_inb i)).toLoadRect xt2 (Shape.Idx.first (numel1_S1.symm ▸ Nat.one_pos))) = 1#1)) (hc1 : ¬ (k0_cond2 (tbM0_2.view.readAt (Elt F) (Rect.unit (s := S14) (k0_off1 i) S1.size (k0_off1_inb i)).toLoadRect xt2 (Shape.Idx.first (numel1_S1.symm ▸ Nat.one_pos))) = 1#1)) (hc2 : (k0_cond3 (tbM0_2.view.readAt (Elt F) (Rect.unit (s := S14) (k0_off1 i) S1.size (k0_off1_inb i)).toLoadRect xt2 (Shape.Idx.first (numel1_S1.symm ▸ Nat.one_pos))) = 1#1)) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ (∃ d, owns (c : Thread nD τ) arg8 fullShare d) ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare (left n x0 x1 x2) ∗ tbPt0 c tbM0_0 xt0 ∗ tbPt0 c tbM0_1 xt1 ∗ tbPt0 c tbM0_2 xt2) -∗ K ⟨⟩))
          ⊢ wp frame (wpE (defs₀ (F := F)) Variants.none c none) E (cc0_rg_swiglu i tbM0_0 htbM0_0 tbM0_1 htbM0_1 tbM0_2 htbM0_2 arg5 harg5 arg6 harg6 arg7 harg7 arg8 harg8) K := by
  intro E K
  have hk := hC.chk
  simp only [cc0_rg_swiglu_eq_skeleton]; unfold cc0_rg_swiglu_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%d3, %f3, -, H3⟩, HT0, HT1, HT2, Hk⟩
  obtain rfl := harg5.eq_unread hf0; obtain rfl := harg6.eq_unread hf1; obtain rfl := harg7.eq_unread hf2
  sl_exec (disch := first | sl_exact hc0 | sl_exact hc1 | sl_exact hc2 | sl_exact hk)
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; · ipureintro; exact harg7.read_unread _
    iexact H2
  isplitl [H3]
  · iexists _; isplitr; swap; · iexact H3
    ipureintro
    have hC' : Cnt (body_run4.sl.r c i xt2) n := hC
    have hn := hC.le
    have d0 := (not_congr hC.cond1).mp hc0
    have d1 := (not_congr hC.cond2).mp hc1
    have d2 := hC.cond3.mp hc2
    rw [show Scf.trips (k0_t4_loop (body_run4.sl.r c i xt2)).lb (k0_t4_loop (body_run4.sl.r c i xt2)).ub (k0_t4_loop (body_run4.sl.r c i xt2)).st = _ from hC'.trips4]
    rw [show Scf.trips (k0_t3_loop (body_run4.sl.r c i xt2)).lb (k0_t3_loop (body_run4.sl.r c i xt2)).ub (k0_t3_loop (body_run4.sl.r c i xt2)).st = _ from hC'.trips3]
    rw [show Scf.trips (k0_t2_loop (body_run4.sl.r c i xt2)).lb (k0_t2_loop (body_run4.sl.r c i xt2)).ub (k0_t2_loop (body_run4.sl.r c i xt2)).st = _ from hC'.trips2]
    rw [show Scf.trips (k0_t1_loop (body_run4.sl.r c i xt2)).lb (k0_t1_loop (body_run4.sl.r c i xt2)).ub (k0_t1_loop (body_run4.sl.r c i xt2)).st = _ from hC'.trips1]
    refine funext fun y => (?_ : Has arg8 (arg8.view.writes (Elt F) f3 _) (left n x0 x1 x2) (fun r => r < 2560)) y (y 0).isLt
    refine Has.app0 rfl (Has.app ?_)
    refine (has3 x0 x1 x2 Variants.none c none i tbM0_0 htbM0_0 tbM0_1 htbM0_1 tbM0_2 htbM0_2 arg5 harg5 arg6 harg6 arg7 harg7 arg8 harg8 _ hk hC' _ (fun r => r < 64 * n) ?_ (40 - n) le_rfl).mono (fun r _ _ => by omega)
    refine (Has.cons (S := fun r => r < 128 * (n / 2)) (o := 128 * (n / 2)) (W := 64) _ _ _ ?_ hC'.off11 rfl rfl (fun y x a b h0 h1 => by
      rw [load_full, load_full, load_rows (o := 128 * (n / 2)) arg5 harg5 x0 _ hC'.off10]
      exact agree7 x0 x1 x2 d2 y x a b h0 h1)).mono (fun r _ h => by omega)
    refine Has.mono (S := fun r => r < 256 * (n / 4)) ?_ (fun r _ h => by omega)
    refine Has.mono (S := fun r => r < 512 * (n / 8)) ?_ (fun r _ h => by omega)
    exact Has.app0 rfl (has1 x0 x1 x2 Variants.none c none i tbM0_0 htbM0_0 tbM0_1 htbM0_1 tbM0_2 htbM0_2 arg5 harg5 arg6 harg6 arg7 harg7 arg8 harg8 _ hk hC' f3 (n / 8) le_rfl)
  isplitl [HT0]; · iexact HT0
  isplitl [HT1]; · iexact HT1
  iexact HT2

set_option maxHeartbeats 1200000 in
/-- The body at a point, a case of its conditions. -/
theorem body_run5 (c : Dev nD) (i : grid0.Coords) (arg5 : Memref sig .tc .vmem S2560x4096 .bf16) (harg5 : arg5.IsWhole) (arg6 : Memref sig .tc .vmem S1x4096x256 .f32) (harg6 : arg6.IsWhole) (arg7 : Memref sig .tc .vmem S1x4096x256 .f32) (harg7 : arg7.IsWhole) (arg8 : Memref sig .tc .vmem S2560x256 .bf16) (harg8 : arg8.IsWhole)
    (x0 : Vec F S2560x4096 .bf16) (x1 : Vec F S1x4096x256 .f32) (x2 : Vec F S1x4096x256 .f32) (xt0 : TbBuf0 (F := F) c tbM0_0) (xt1 : TbBuf0 (F := F) c tbM0_1) (xt2 : TbBuf0 (F := F) c tbM0_2) (n : ℕ)
    (hC : Cnt (tbM0_2.view.readAt (Elt F) (Rect.unit (s := S14) (k0_off1 i) S1.size (k0_off1_inb i)).toLoadRect xt2 (Shape.Idx.first (numel1_S1.symm ▸ Nat.one_pos))) n) (hc0 : (k0_cond1 (tbM0_2.view.readAt (Elt F) (Rect.unit (s := S14) (k0_off1 i) S1.size (k0_off1_inb i)).toLoadRect xt2 (Shape.Idx.first (numel1_S1.symm ▸ Nat.one_pos))) = 1#1)) (hc1 : ¬ (k0_cond2 (tbM0_2.view.readAt (Elt F) (Rect.unit (s := S14) (k0_off1 i) S1.size (k0_off1_inb i)).toLoadRect xt2 (Shape.Idx.first (numel1_S1.symm ▸ Nat.one_pos))) = 1#1)) (hc2 : (k0_cond3 (tbM0_2.view.readAt (Elt F) (Rect.unit (s := S14) (k0_off1 i) S1.size (k0_off1_inb i)).toLoadRect xt2 (Shape.Idx.first (numel1_S1.symm ▸ Nat.one_pos))) = 1#1)) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ (∃ d, owns (c : Thread nD τ) arg8 fullShare d) ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare (left n x0 x1 x2) ∗ tbPt0 c tbM0_0 xt0 ∗ tbPt0 c tbM0_1 xt1 ∗ tbPt0 c tbM0_2 xt2) -∗ K ⟨⟩))
          ⊢ wp frame (wpE (defs₀ (F := F)) Variants.none c none) E (cc0_rg_swiglu i tbM0_0 htbM0_0 tbM0_1 htbM0_1 tbM0_2 htbM0_2 arg5 harg5 arg6 harg6 arg7 harg7 arg8 harg8) K := by
  intro E K
  have hk := hC.chk
  simp only [cc0_rg_swiglu_eq_skeleton]; unfold cc0_rg_swiglu_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%d3, %f3, -, H3⟩, HT0, HT1, HT2, Hk⟩
  obtain rfl := harg5.eq_unread hf0; obtain rfl := harg6.eq_unread hf1; obtain rfl := harg7.eq_unread hf2
  sl_exec (disch := first | sl_exact hc0 | sl_exact hc1 | sl_exact hc2 | sl_exact hk)
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; · ipureintro; exact harg7.read_unread _
    iexact H2
  isplitl [H3]
  · iexists _; isplitr; swap; · iexact H3
    ipureintro
    have hC' : Cnt (body_run5.sl.r c i xt2) n := hC
    have hn := hC.le
    have d0 := hC.cond1.mp hc0
    have d1 := (not_congr hC.cond2).mp hc1
    have d2 := hC.cond3.mp hc2
    rw [show Scf.trips (k0_t4_loop (body_run5.sl.r c i xt2)).lb (k0_t4_loop (body_run5.sl.r c i xt2)).ub (k0_t4_loop (body_run5.sl.r c i xt2)).st = _ from hC'.trips4]
    rw [show Scf.trips (k0_t3_loop (body_run5.sl.r c i xt2)).lb (k0_t3_loop (body_run5.sl.r c i xt2)).ub (k0_t3_loop (body_run5.sl.r c i xt2)).st = _ from hC'.trips3]
    rw [show Scf.trips (k0_t2_loop (body_run5.sl.r c i xt2)).lb (k0_t2_loop (body_run5.sl.r c i xt2)).ub (k0_t2_loop (body_run5.sl.r c i xt2)).st = _ from hC'.trips2]
    rw [show Scf.trips (k0_t1_loop (body_run5.sl.r c i xt2)).lb (k0_t1_loop (body_run5.sl.r c i xt2)).ub (k0_t1_loop (body_run5.sl.r c i xt2)).st = _ from hC'.trips1]
    refine funext fun y => (?_ : Has arg8 (arg8.view.writes (Elt F) f3 _) (left n x0 x1 x2) (fun r => r < 2560)) y (y 0).isLt
    refine Has.app0 rfl (Has.app ?_)
    refine (has3 x0 x1 x2 Variants.none c none i tbM0_0 htbM0_0 tbM0_1 htbM0_1 tbM0_2 htbM0_2 arg5 harg5 arg6 harg6 arg7 harg7 arg8 harg8 _ hk hC' _ (fun r => r < 64 * n) ?_ (40 - n) le_rfl).mono (fun r _ _ => by omega)
    refine (Has.cons (S := fun r => r < 128 * (n / 2)) (o := 128 * (n / 2)) (W := 64) _ _ _ ?_ hC'.off11 rfl rfl (fun y x a b h0 h1 => by
      rw [load_full, load_full, load_rows (o := 128 * (n / 2)) arg5 harg5 x0 _ hC'.off10]
      exact agree7 x0 x1 x2 d2 y x a b h0 h1)).mono (fun r _ h => by omega)
    refine Has.mono (S := fun r => r < 256 * (n / 4)) ?_ (fun r _ h => by omega)
    refine (Has.cons (S := fun r => r < 512 * (n / 8)) (o := 512 * (n / 8)) (W := 256) _ _ _ ?_ hC'.off7 rfl rfl (fun y x a b h0 h1 => by
      rw [load_full, load_full, load_rows (o := 512 * (n / 8)) arg5 harg5 x0 _ hC'.off6]
      exact agree5 x0 x1 x2 d0 y x a b h0 h1)).mono (fun r _ h => by omega)
    exact Has.app0 rfl (has1 x0 x1 x2 Variants.none c none i tbM0_0 htbM0_0 tbM0_1 htbM0_1 tbM0_2 htbM0_2 arg5 harg5 arg6 harg6 arg7 harg7 arg8 harg8 _ hk hC' f3 (n / 8) le_rfl)
  isplitl [HT0]; · iexact HT0
  isplitl [HT1]; · iexact HT1
  iexact HT2

set_option maxHeartbeats 1200000 in
/-- The body at a point, a case of its conditions. -/
theorem body_run6 (c : Dev nD) (i : grid0.Coords) (arg5 : Memref sig .tc .vmem S2560x4096 .bf16) (harg5 : arg5.IsWhole) (arg6 : Memref sig .tc .vmem S1x4096x256 .f32) (harg6 : arg6.IsWhole) (arg7 : Memref sig .tc .vmem S1x4096x256 .f32) (harg7 : arg7.IsWhole) (arg8 : Memref sig .tc .vmem S2560x256 .bf16) (harg8 : arg8.IsWhole)
    (x0 : Vec F S2560x4096 .bf16) (x1 : Vec F S1x4096x256 .f32) (x2 : Vec F S1x4096x256 .f32) (xt0 : TbBuf0 (F := F) c tbM0_0) (xt1 : TbBuf0 (F := F) c tbM0_1) (xt2 : TbBuf0 (F := F) c tbM0_2) (n : ℕ)
    (hC : Cnt (tbM0_2.view.readAt (Elt F) (Rect.unit (s := S14) (k0_off1 i) S1.size (k0_off1_inb i)).toLoadRect xt2 (Shape.Idx.first (numel1_S1.symm ▸ Nat.one_pos))) n) (hc0 : ¬ (k0_cond1 (tbM0_2.view.readAt (Elt F) (Rect.unit (s := S14) (k0_off1 i) S1.size (k0_off1_inb i)).toLoadRect xt2 (Shape.Idx.first (numel1_S1.symm ▸ Nat.one_pos))) = 1#1)) (hc1 : (k0_cond2 (tbM0_2.view.readAt (Elt F) (Rect.unit (s := S14) (k0_off1 i) S1.size (k0_off1_inb i)).toLoadRect xt2 (Shape.Idx.first (numel1_S1.symm ▸ Nat.one_pos))) = 1#1)) (hc2 : (k0_cond3 (tbM0_2.view.readAt (Elt F) (Rect.unit (s := S14) (k0_off1 i) S1.size (k0_off1_inb i)).toLoadRect xt2 (Shape.Idx.first (numel1_S1.symm ▸ Nat.one_pos))) = 1#1)) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ (∃ d, owns (c : Thread nD τ) arg8 fullShare d) ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare (left n x0 x1 x2) ∗ tbPt0 c tbM0_0 xt0 ∗ tbPt0 c tbM0_1 xt1 ∗ tbPt0 c tbM0_2 xt2) -∗ K ⟨⟩))
          ⊢ wp frame (wpE (defs₀ (F := F)) Variants.none c none) E (cc0_rg_swiglu i tbM0_0 htbM0_0 tbM0_1 htbM0_1 tbM0_2 htbM0_2 arg5 harg5 arg6 harg6 arg7 harg7 arg8 harg8) K := by
  intro E K
  have hk := hC.chk
  simp only [cc0_rg_swiglu_eq_skeleton]; unfold cc0_rg_swiglu_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%d3, %f3, -, H3⟩, HT0, HT1, HT2, Hk⟩
  obtain rfl := harg5.eq_unread hf0; obtain rfl := harg6.eq_unread hf1; obtain rfl := harg7.eq_unread hf2
  sl_exec (disch := first | sl_exact hc0 | sl_exact hc1 | sl_exact hc2 | sl_exact hk)
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; · ipureintro; exact harg7.read_unread _
    iexact H2
  isplitl [H3]
  · iexists _; isplitr; swap; · iexact H3
    ipureintro
    have hC' : Cnt (body_run6.sl.r c i xt2) n := hC
    have hn := hC.le
    have d0 := (not_congr hC.cond1).mp hc0
    have d1 := hC.cond2.mp hc1
    have d2 := hC.cond3.mp hc2
    rw [show Scf.trips (k0_t4_loop (body_run6.sl.r c i xt2)).lb (k0_t4_loop (body_run6.sl.r c i xt2)).ub (k0_t4_loop (body_run6.sl.r c i xt2)).st = _ from hC'.trips4]
    rw [show Scf.trips (k0_t3_loop (body_run6.sl.r c i xt2)).lb (k0_t3_loop (body_run6.sl.r c i xt2)).ub (k0_t3_loop (body_run6.sl.r c i xt2)).st = _ from hC'.trips3]
    rw [show Scf.trips (k0_t2_loop (body_run6.sl.r c i xt2)).lb (k0_t2_loop (body_run6.sl.r c i xt2)).ub (k0_t2_loop (body_run6.sl.r c i xt2)).st = _ from hC'.trips2]
    rw [show Scf.trips (k0_t1_loop (body_run6.sl.r c i xt2)).lb (k0_t1_loop (body_run6.sl.r c i xt2)).ub (k0_t1_loop (body_run6.sl.r c i xt2)).st = _ from hC'.trips1]
    refine funext fun y => (?_ : Has arg8 (arg8.view.writes (Elt F) f3 _) (left n x0 x1 x2) (fun r => r < 2560)) y (y 0).isLt
    refine Has.app0 rfl (Has.app ?_)
    refine (has3 x0 x1 x2 Variants.none c none i tbM0_0 htbM0_0 tbM0_1 htbM0_1 tbM0_2 htbM0_2 arg5 harg5 arg6 harg6 arg7 harg7 arg8 harg8 _ hk hC' _ (fun r => r < 64 * n) ?_ (40 - n) le_rfl).mono (fun r _ _ => by omega)
    refine (Has.cons (S := fun r => r < 128 * (n / 2)) (o := 128 * (n / 2)) (W := 64) _ _ _ ?_ hC'.off11 rfl rfl (fun y x a b h0 h1 => by
      rw [load_full, load_full, load_rows (o := 128 * (n / 2)) arg5 harg5 x0 _ hC'.off10]
      exact agree7 x0 x1 x2 d2 y x a b h0 h1)).mono (fun r _ h => by omega)
    refine (Has.cons (S := fun r => r < 256 * (n / 4)) (o := 256 * (n / 4)) (W := 128) _ _ _ ?_ hC'.off9 rfl rfl (fun y x a b h0 h1 => by
      rw [load_full, load_full, load_rows (o := 256 * (n / 4)) arg5 harg5 x0 _ hC'.off8]
      exact agree6 x0 x1 x2 d1 y x a b h0 h1)).mono (fun r _ h => by omega)
    refine Has.mono (S := fun r => r < 512 * (n / 8)) ?_ (fun r _ h => by omega)
    exact Has.app0 rfl (has1 x0 x1 x2 Variants.none c none i tbM0_0 htbM0_0 tbM0_1 htbM0_1 tbM0_2 htbM0_2 arg5 harg5 arg6 harg6 arg7 harg7 arg8 harg8 _ hk hC' f3 (n / 8) le_rfl)
  isplitl [HT0]; · iexact HT0
  isplitl [HT1]; · iexact HT1
  iexact HT2

set_option maxHeartbeats 1200000 in
/-- The body at a point, a case of its conditions. -/
theorem body_run7 (c : Dev nD) (i : grid0.Coords) (arg5 : Memref sig .tc .vmem S2560x4096 .bf16) (harg5 : arg5.IsWhole) (arg6 : Memref sig .tc .vmem S1x4096x256 .f32) (harg6 : arg6.IsWhole) (arg7 : Memref sig .tc .vmem S1x4096x256 .f32) (harg7 : arg7.IsWhole) (arg8 : Memref sig .tc .vmem S2560x256 .bf16) (harg8 : arg8.IsWhole)
    (x0 : Vec F S2560x4096 .bf16) (x1 : Vec F S1x4096x256 .f32) (x2 : Vec F S1x4096x256 .f32) (xt0 : TbBuf0 (F := F) c tbM0_0) (xt1 : TbBuf0 (F := F) c tbM0_1) (xt2 : TbBuf0 (F := F) c tbM0_2) (n : ℕ)
    (hC : Cnt (tbM0_2.view.readAt (Elt F) (Rect.unit (s := S14) (k0_off1 i) S1.size (k0_off1_inb i)).toLoadRect xt2 (Shape.Idx.first (numel1_S1.symm ▸ Nat.one_pos))) n) (hc0 : (k0_cond1 (tbM0_2.view.readAt (Elt F) (Rect.unit (s := S14) (k0_off1 i) S1.size (k0_off1_inb i)).toLoadRect xt2 (Shape.Idx.first (numel1_S1.symm ▸ Nat.one_pos))) = 1#1)) (hc1 : (k0_cond2 (tbM0_2.view.readAt (Elt F) (Rect.unit (s := S14) (k0_off1 i) S1.size (k0_off1_inb i)).toLoadRect xt2 (Shape.Idx.first (numel1_S1.symm ▸ Nat.one_pos))) = 1#1)) (hc2 : (k0_cond3 (tbM0_2.view.readAt (Elt F) (Rect.unit (s := S14) (k0_off1 i) S1.size (k0_off1_inb i)).toLoadRect xt2 (Shape.Idx.first (numel1_S1.symm ▸ Nat.one_pos))) = 1#1)) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ (∃ d, owns (c : Thread nD τ) arg8 fullShare d) ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare (left n x0 x1 x2) ∗ tbPt0 c tbM0_0 xt0 ∗ tbPt0 c tbM0_1 xt1 ∗ tbPt0 c tbM0_2 xt2) -∗ K ⟨⟩))
          ⊢ wp frame (wpE (defs₀ (F := F)) Variants.none c none) E (cc0_rg_swiglu i tbM0_0 htbM0_0 tbM0_1 htbM0_1 tbM0_2 htbM0_2 arg5 harg5 arg6 harg6 arg7 harg7 arg8 harg8) K := by
  intro E K
  have hk := hC.chk
  simp only [cc0_rg_swiglu_eq_skeleton]; unfold cc0_rg_swiglu_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%d3, %f3, -, H3⟩, HT0, HT1, HT2, Hk⟩
  obtain rfl := harg5.eq_unread hf0; obtain rfl := harg6.eq_unread hf1; obtain rfl := harg7.eq_unread hf2
  sl_exec (disch := first | sl_exact hc0 | sl_exact hc1 | sl_exact hc2 | sl_exact hk)
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; · ipureintro; exact harg7.read_unread _
    iexact H2
  isplitl [H3]
  · iexists _; isplitr; swap; · iexact H3
    ipureintro
    have hC' : Cnt (body_run7.sl.r c i xt2) n := hC
    have hn := hC.le
    have d0 := hC.cond1.mp hc0
    have d1 := hC.cond2.mp hc1
    have d2 := hC.cond3.mp hc2
    rw [show Scf.trips (k0_t4_loop (body_run7.sl.r c i xt2)).lb (k0_t4_loop (body_run7.sl.r c i xt2)).ub (k0_t4_loop (body_run7.sl.r c i xt2)).st = _ from hC'.trips4]
    rw [show Scf.trips (k0_t3_loop (body_run7.sl.r c i xt2)).lb (k0_t3_loop (body_run7.sl.r c i xt2)).ub (k0_t3_loop (body_run7.sl.r c i xt2)).st = _ from hC'.trips3]
    rw [show Scf.trips (k0_t2_loop (body_run7.sl.r c i xt2)).lb (k0_t2_loop (body_run7.sl.r c i xt2)).ub (k0_t2_loop (body_run7.sl.r c i xt2)).st = _ from hC'.trips2]
    rw [show Scf.trips (k0_t1_loop (body_run7.sl.r c i xt2)).lb (k0_t1_loop (body_run7.sl.r c i xt2)).ub (k0_t1_loop (body_run7.sl.r c i xt2)).st = _ from hC'.trips1]
    refine funext fun y => (?_ : Has arg8 (arg8.view.writes (Elt F) f3 _) (left n x0 x1 x2) (fun r => r < 2560)) y (y 0).isLt
    refine Has.app0 rfl (Has.app ?_)
    refine (has3 x0 x1 x2 Variants.none c none i tbM0_0 htbM0_0 tbM0_1 htbM0_1 tbM0_2 htbM0_2 arg5 harg5 arg6 harg6 arg7 harg7 arg8 harg8 _ hk hC' _ (fun r => r < 64 * n) ?_ (40 - n) le_rfl).mono (fun r _ _ => by omega)
    refine (Has.cons (S := fun r => r < 128 * (n / 2)) (o := 128 * (n / 2)) (W := 64) _ _ _ ?_ hC'.off11 rfl rfl (fun y x a b h0 h1 => by
      rw [load_full, load_full, load_rows (o := 128 * (n / 2)) arg5 harg5 x0 _ hC'.off10]
      exact agree7 x0 x1 x2 d2 y x a b h0 h1)).mono (fun r _ h => by omega)
    refine (Has.cons (S := fun r => r < 256 * (n / 4)) (o := 256 * (n / 4)) (W := 128) _ _ _ ?_ hC'.off9 rfl rfl (fun y x a b h0 h1 => by
      rw [load_full, load_full, load_rows (o := 256 * (n / 4)) arg5 harg5 x0 _ hC'.off8]
      exact agree6 x0 x1 x2 d1 y x a b h0 h1)).mono (fun r _ h => by omega)
    refine (Has.cons (S := fun r => r < 512 * (n / 8)) (o := 512 * (n / 8)) (W := 256) _ _ _ ?_ hC'.off7 rfl rfl (fun y x a b h0 h1 => by
      rw [load_full, load_full, load_rows (o := 512 * (n / 8)) arg5 harg5 x0 _ hC'.off6]
      exact agree5 x0 x1 x2 d0 y x a b h0 h1)).mono (fun r _ h => by omega)
    exact Has.app0 rfl (has1 x0 x1 x2 Variants.none c none i tbM0_0 htbM0_0 tbM0_1 htbM0_1 tbM0_2 htbM0_2 arg5 harg5 arg6 harg6 arg7 harg7 arg8 harg8 _ hk hC' f3 (n / 8) le_rfl)
  isplitl [HT0]; · iexact HT0
  isplitl [HT1]; · iexact HT1
  iexact HT2

/-- The body at a point with `n` live blocks: the inputs stay, and the block ends as `left n` says. -/
theorem body_run (c : Dev nD) (i : grid0.Coords) (arg5 : Memref sig .tc .vmem S2560x4096 .bf16) (harg5 : arg5.IsWhole) (arg6 : Memref sig .tc .vmem S1x4096x256 .f32) (harg6 : arg6.IsWhole) (arg7 : Memref sig .tc .vmem S1x4096x256 .f32) (harg7 : arg7.IsWhole) (arg8 : Memref sig .tc .vmem S2560x256 .bf16) (harg8 : arg8.IsWhole)
    (x0 : Vec F S2560x4096 .bf16) (x1 : Vec F S1x4096x256 .f32) (x2 : Vec F S1x4096x256 .f32) (xt0 : TbBuf0 (F := F) c tbM0_0) (xt1 : TbBuf0 (F := F) c tbM0_1) (xt2 : TbBuf0 (F := F) c tbM0_2) (n : ℕ)
    (hC : Cnt (tbM0_2.view.readAt (Elt F) (Rect.unit (s := S14) (k0_off1 i) S1.size (k0_off1_inb i)).toLoadRect xt2 (Shape.Idx.first (numel1_S1.symm ▸ Nat.one_pos))) n) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ (∃ d, owns (c : Thread nD τ) arg8 fullShare d) ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare (left n x0 x1 x2) ∗ tbPt0 c tbM0_0 xt0 ∗ tbPt0 c tbM0_1 xt1 ∗ tbPt0 c tbM0_2 xt2) -∗ K ⟨⟩))
          ⊢ wp frame (wpE (defs₀ (F := F)) Variants.none c none) E (cc0_rg_swiglu i tbM0_0 htbM0_0 tbM0_1 htbM0_1 tbM0_2 htbM0_2 arg5 harg5 arg6 harg6 arg7 harg7 arg8 harg8) K := by
  by_cases hc0 : k0_cond1 (tbM0_2.view.readAt (Elt F) (Rect.unit (s := S14) (k0_off1 i) S1.size (k0_off1_inb i)).toLoadRect xt2 (Shape.Idx.first (numel1_S1.symm ▸ Nat.one_pos))) = 1#1 <;> by_cases hc1 : k0_cond2 (tbM0_2.view.readAt (Elt F) (Rect.unit (s := S14) (k0_off1 i) S1.size (k0_off1_inb i)).toLoadRect xt2 (Shape.Idx.first (numel1_S1.symm ▸ Nat.one_pos))) = 1#1 <;> by_cases hc2 : k0_cond3 (tbM0_2.view.readAt (Elt F) (Rect.unit (s := S14) (k0_off1 i) S1.size (k0_off1_inb i)).toLoadRect xt2 (Shape.Idx.first (numel1_S1.symm ▸ Nat.one_pos))) = 1#1
  · exact body_run7 c i arg5 harg5 arg6 harg6 arg7 harg7 arg8 harg8 x0 x1 x2 xt0 xt1 xt2 n hC hc0 hc1 hc2
  · exact body_run3 c i arg5 harg5 arg6 harg6 arg7 harg7 arg8 harg8 x0 x1 x2 xt0 xt1 xt2 n hC hc0 hc1 hc2
  · exact body_run5 c i arg5 harg5 arg6 harg6 arg7 harg7 arg8 harg8 x0 x1 x2 xt0 xt1 xt2 n hC hc0 hc1 hc2
  · exact body_run1 c i arg5 harg5 arg6 harg6 arg7 harg7 arg8 harg8 x0 x1 x2 xt0 xt1 xt2 n hC hc0 hc1 hc2
  · exact body_run6 c i arg5 harg5 arg6 harg6 arg7 harg7 arg8 harg8 x0 x1 x2 xt0 xt1 xt2 n hC hc0 hc1 hc2
  · exact body_run2 c i arg5 harg5 arg6 harg6 arg7 harg7 arg8 harg8 x0 x1 x2 xt0 xt1 xt2 n hC hc0 hc1 hc2
  · exact body_run4 c i arg5 harg5 arg6 harg6 arg7 harg7 arg8 harg8 x0 x1 x2 xt0 xt1 xt2 n hC hc0 hc1 hc2
  · exact body_run0 c i arg5 harg5 arg6 harg6 arg7 harg7 arg8 harg8 x0 x1 x2 xt0 xt1 xt2 n hC hc0 hc1 hc2

/-! The run. -/

/-- What the pipeline works with: the arrays at the call, each input's block, each output's block as the body computes it. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => left (nbAt m (grid0.coords t)).toNat (iblk m hO c 0 t) (iblk m hO c 1 t) (iblk m hO c 2 t)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = left (nbAt m (grid0.coords t)).toNat (iblk m hO c 0 t) (iblk m hO c 1 t) (iblk m hO c 2 t) := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-- What the body finds at a point, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d)) ∗ (∃ d, owns (c : Thread nD τ) (ms0_1 m hO t) fullShare ((dats m hO 0 c).before 1 t d)) ∗ (∃ d, owns (c : Thread nD τ) (ms0_2 m hO t) fullShare ((dats m hO 0 c).before 2 t d)) ∗ (∃ d, owns (c : Thread nD τ) (ms0_3 m hO t) fullShare ((dats m hO 0 c).before 3 t d)))
/-- and what it leaves. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t) ∗ owns (c : Thread nD τ) (ms0_1 m hO t) fullShare ((dats m hO 0 c).after 1 t) ∗ owns (c : Thread nD τ) (ms0_2 m hO t) fullShare ((dats m hO 0 c).after 2 t) ∗ owns (c : Thread nD τ) (ms0_3 m hO t) fullShare ((dats m hO 0 c).after 3 t))

set_option maxHeartbeats 800000 in
/-- The body meets its part at every point. -/
theorem sound_body (hR : InRange m) (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).Φ t.succ = (dats m hO 0 c).Φ t.castSucc from rfl,
    show (dats m hO 0 c).owesAt () t.succ = (dats m hO 0 c).owesAt () t.castSucc from rfl,
    after0_0, after0_1, after0_2, after0_3]
  rw [show (dats m hO 0 c).Φ t.castSucc = iprop(Pipeline.ΦA spec0 c ∗ Pipeline.ΦT pre0 (tbl m) c) from rfl, PhiT0_eq]
  iintro ⟨⟨HΦ, ⟨HT0, HT1, HT2⟩⟩, Ho, ⟨%d0, H0⟩, ⟨%d1, H1⟩, ⟨%d2, H2⟩, ⟨%d3, H3⟩⟩
  iapply ((body_run c (grid0.coords t) _ _ _ _ _ _ _ _ (iblk m hO c 0 t) (iblk m hO c 1 t) (iblk m hO c 2 t) (tbl m 0) (tbl m 1) (tbl m 2) _ (cnt m hR (grid0.coords t))) Set.univ _)
  isplitl [H0]; · iexact H0
  isplitl [H1]; · iexact H1
  isplitl [H2]; · iexact H2
  isplitl [H3]; · iexists _; iexact H3
  isplitl [HT0]; · iexact HT0
  isplitl [HT1]; · iexact HT1
  isplitl [HT2]; · iexact HT2
  iintro ⟨H0, H1, H2, H3, HT0, HT1, HT2⟩
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  iexact H3

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hR : InRange m) (hO : Ok m) (c : Dev nD) : BodyObligation (dats (F := F) m hO 0 c) (defs₀ (F := F)) Variants.none () Set.univ := fun t => by
  rw [bigSep_W0, bigSep_W0, defs₀_row m hO]
  exact triple_restated (sound_body m hR hO c t) rfl .rfl fun _ => .rfl

set_option backward.isDefEq.respectTransparency.types false in
/-- Every run ends, its arrays as the body's blocks fill them and every counter at zero. -/
theorem run_main (hR : InRange m) (hO : Ok m) : θ_run defs (onTc (τ := τ) (main (F := F))) (s₀ m ρ) (fun r => Pipeline.FramePost (Pipeline.pin pcfgs fun _ => adm m hO) (dats m hO) (0 : Fin 1) (V m) r ∧ r.2.sem = fun _ => 0) :=
  Pipeline.θ_run_frameP (Q' := _) pcfgs (fun _ => adm m hO) (dats m hO) (0 : Fin 1) launch0 defs₀ Variants.none m ρ main
    (hbody := fun c => (body_obligation m hR hO c).loose) (hshare := fun c => (dats m hO 0 c).share_full fun _ => rfl)
    (howed := fun _ _ => rfl) (V := V m) (hmain := hmain m Variants.none) (hA := A_eq m hO) (hpf := V_pre m) (hΦ := fun _ _ => rfl)

/-- The run with its results: each result is the array the blocks fill, and the arguments end as they were. -/
theorem run (hR : InRange m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ (∀ (c : Dev nD) w, r.2.mem ((((cfgM m (ok m hR)).spec w).arr.view.loc (c.tc : Thread nD τ))) = (dats m (ok m hR) 0 c).arrAt w (cfgM m (ok m hR)).N)
      ∧ r.2.sem = fun _ => 0) :=
  (θ_run defs _ _).mono (fun r h => ⟨fun c => ⟨(h.1 c).2 main_arg0 (by decide : main_arg0 ∈ Pipeline.restRefs sig spec0), (h.1 c).2 main_arg1 (by decide : main_arg1 ∈ Pipeline.restRefs sig spec0), (h.1 c).2 main_arg2 (by decide : main_arg2 ∈ Pipeline.restRefs sig spec0),
      ((h.1 c).1 0).trans (((dats m (ok m hR) 0 c).arrAt_in 0 rfl _).trans (A_eq m (ok m hR) c 0)),
      ((h.1 c).1 1).trans (((dats m (ok m hR) 0 c).arrAt_in 1 rfl _).trans (A_eq m (ok m hR) c 1)),
      ((h.1 c).1 2).trans (((dats m (ok m hR) 0 c).arrAt_in 2 rfl _).trans (A_eq m (ok m hR) c 2))⟩,
    fun c w => (h.1 c).1 w, h.2⟩) (run_main m ρ hR (ok m hR))

/-- The frame: every run ends, the arguments as they were and every counter at zero. -/
theorem frame (hR : InRange m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨h.1, h.2.2⟩) (run m ρ hR)

end Cert.Proof.MoeSwiglu

end
-- ==== Proof.MoeSwigluValue.lean ====
/- The grouped gated product's result, index by index. -/
module

public import proofs.«01_k».proof.Proof.MoeSwigluRun
public import Idealize.ShloMosaic.Lib.Pointwise
public import Idealize.ShloMosaic.Lib.Pipeline.Value
public import Idealize.ShloMosaic.Lib.Pipeline.ValueKit
public import Idealize.ShloMosaic.Lib.Pipeline.Covers
public import Idealize.ShloMosaic.Lib.IdealHost
public import Idealize.ShloMosaic.PureOps.Ideal.Laws

@[expose] public section

set_option maxRecDepth 16384

noncomputable section

namespace Cert.Proof.MoeSwiglu

open Idealize.ShloMosaic Idealize.ShloMosaic.TcCoe Idealize.SL.Sem Cert.MoeSwiglu Cert.MoeSwiglu.Gen

/-- The gated product of one row with one column of each weight: the gate product `g`, times `logistic g`, times the second product. -/
def gated (f g u : Fin 4096 → EReal) : EReal :=
  (∑ k : Fin 4096, f k * g k) * Ideal.logistic (∑ k : Fin 4096, f k * g k) * (∑ k : Fin 4096, f k * u k)

theorem pay3_apply (x0 : Vec Ideal S512x4096 .bf16) (x1 x2 : Vec Ideal S1x4096x256 .f32) (r : Fin 512) (n : Fin 256) :
    k0_pay3 (F := Ideal) x0 x1 x2 (ix2 r n) = gated (fun k => x0 (ix2 r k)) (fun k => x1 (ix3 0 k n)) (fun k => x2 (ix3 0 k n)) := by
  unfold k0_pay3 gated
  pointwise [dot_S512x4096_S4096x256_S512x256_1_0_0_1_n_n]
theorem pay5_apply (x0 : Vec Ideal S256x4096 .bf16) (x1 x2 : Vec Ideal S1x4096x256 .f32) (r : Fin 256) (n : Fin 256) :
    k0_pay5 (F := Ideal) x0 x1 x2 (ix2 r n) = gated (fun k => x0 (ix2 r k)) (fun k => x1 (ix3 0 k n)) (fun k => x2 (ix3 0 k n)) := by
  unfold k0_pay5 gated
  pointwise [dot_S256x4096_S4096x256_S256x256_1_0_0_1_n_n]
theorem pay6_apply (x0 : Vec Ideal S128x4096 .bf16) (x1 x2 : Vec Ideal S1x4096x256 .f32) (r : Fin 128) (n : Fin 256) :
    k0_pay6 (F := Ideal) x0 x1 x2 (ix2 r n) = gated (fun k => x0 (ix2 r k)) (fun k => x1 (ix3 0 k n)) (fun k => x2 (ix3 0 k n)) := by
  unfold k0_pay6 gated
  pointwise [dot_S128x4096_S4096x256_S128x256_1_0_0_1_n_n]
theorem pay7_apply (x0 : Vec Ideal S64x4096 .bf16) (x1 x2 : Vec Ideal S1x4096x256 .f32) (r : Fin 64) (n : Fin 256) :
    k0_pay7 (F := Ideal) x0 x1 x2 (ix2 r n) = gated (fun k => x0 (ix2 r k)) (fun k => x1 (ix3 0 k n)) (fun k => x2 (ix3 0 k n)) := by
  unfold k0_pay7 gated
  pointwise [dot_S64x4096_S4096x256_S64x256_1_0_0_1_n_n]
theorem pay1_apply (y : S64x256.Idx) : k0_pay1 (F := Ideal) y = 0 := by
  show Ideal.ofBits .bf16 0x0000#16 = 0
  simp [Ideal.ofBits, Ideal.ieee]

/-- A row of a run of rows is that row of the block. -/
theorem rows_row (h o : ℕ) (x : Vec Ideal S2560x4096 .bf16) (r : Fin 2560) (q : Fin h) (hq : o + q.val = r.val) (k : Fin 4096) :
    rows h o x (ix2 q k) = x (ix2 r k) := by
  refine congrArg x ?_
  have hr := r.isLt
  have e : (⟨(o + q.val) % 2560, Nat.mod_lt _ (by decide)⟩ : Fin 2560) = r := Fin.ext (by show (o + q.val) % 2560 = r.val; omega)
  exact congrArg (fun z => (ix2 z k : S2560x4096.Idx)) e

/-- What the block holds, at an index: the gated product on the live rows and 0 on the others. -/
theorem left_apply (n : ℕ) (x0 : Vec Ideal S2560x4096 .bf16) (x1 x2 : Vec Ideal S1x4096x256 .f32) (r : Fin 2560) (c : Fin 256) :
    left (F := Ideal) n x0 x1 x2 (ix2 r c) = if r.val < 64 * n then gated (fun k => x0 (ix2 r k)) (fun k => x1 (ix3 0 k c)) (fun k => x2 (ix3 0 k c)) else 0 := by
  have hr := r.isLt
  unfold left
  show (if r.val < 512 * (n / 8) then p3 (F := Ideal) (512 * (r.val / 512)) x0 x1 x2 r.val c
    else if r.val < 256 * (n / 4) then p5 (F := Ideal) (512 * (n / 8)) x0 x1 x2 r.val c
    else if r.val < 128 * (n / 2) then p6 (F := Ideal) (256 * (n / 4)) x0 x1 x2 r.val c
    else if r.val < 64 * n then p7 (F := Ideal) (128 * (n / 2)) x0 x1 x2 r.val c
    else k0_pay1 (F := Ideal) (ix2 0 c)) = _
  by_cases h3 : r.val < 512 * (n / 8)
  · rw [if_pos h3, if_pos (by omega)]
    unfold p3
    rw [pay3_apply]
    exact congrArg (fun f => gated f _ _) (funext fun k => rows_row 512 _ x0 r _ (show 512 * (r.val / 512) + (r.val - 512 * (r.val / 512)) % 512 = r.val by omega) k)
  rw [if_neg h3]
  by_cases h5 : r.val < 256 * (n / 4)
  · rw [if_pos h5, if_pos (by omega)]
    unfold p5
    rw [pay5_apply]
    exact congrArg (fun f => gated f _ _) (funext fun k => rows_row 256 _ x0 r _ (show 512 * (n / 8) + (r.val - 512 * (n / 8)) % 256 = r.val by omega) k)
  rw [if_neg h5]
  by_cases h6 : r.val < 128 * (n / 2)
  · rw [if_pos h6, if_pos (by omega)]
    unfold p6
    rw [pay6_apply]
    exact congrArg (fun f => gated f _ _) (funext fun k => rows_row 128 _ x0 r _ (show 256 * (n / 4) + (r.val - 256 * (n / 4)) % 128 = r.val by omega) k)
  rw [if_neg h6]
  by_cases h7 : r.val < 64 * n
  · rw [if_pos h7, if_pos h7]
    unfold p7
    rw [pay7_apply]
    exact congrArg (fun f => gated f _ _) (funext fun k => rows_row 64 _ x0 r _ (show 128 * (n / 2) + (r.val - 128 * (n / 2)) % 64 = r.val by omega) k)
  · rw [if_neg h7, if_neg h7, pay1_apply]

variable (m : (ℓ : Loc nD τ sig) → Buf (Elt Ideal) ℓ) (ρ : Dev nD → PrngReg)

/-- Block 0 holds the rows of its array from 64 times its group's first block on. -/
theorem blk_0 (hR : InRange m) (c : Dev nD) (t : Fin (cfgM m (ok m hR)).N) (r : Fin 2560) (k : Fin 4096) (R : Fin 19712) (h : R.val = (stAt m (grid0.coords t)).toNat * 64 + r.val) :
    (iblk m (ok m hR) c 0 t : Vec Ideal S2560x4096 .bf16) (ix2 r k) = V m c main_arg3 (ix2 R k) := by
  blk_simp [iblk]
  refine congrArg (V m c main_arg3) ?_
  blk_ext
  · exact (congrArg (fun z => z + 1 * r.val) (congrFun (ix_0 m hR (grid0.coords t)) 0)).trans (show (stAt m (grid0.coords t)).toNat * 64 + 1 * r.val = R.val by omega)
  · exact (congrArg (fun z => z + 1 * k.val) (congrFun (ix_0 m hR (grid0.coords t)) 1)).trans (show 0 + 1 * k.val = k.val by omega)

/-- Block 1 holds its group's expert's columns from 256 times its column index on. -/
theorem blk_1 (hR : InRange m) (c : Dev nD) (t : Fin (cfgM m (ok m hR)).N) (k : Fin 4096) (n : Fin 256) (E : Fin 8) (C : Fin 14336)
    (hE : E.val = (eAt m (grid0.coords t)).toNat) (hC : C.val = 256 * colAt m (grid0.coords t) + n.val) :
    (iblk m (ok m hR) c 1 t : Vec Ideal S1x4096x256 .f32) (ix3 0 k n) = V m c main_arg4 (ix3 E k C) := by
  blk_simp [iblk]
  refine congrArg (V m c main_arg4) ?_
  blk_ext
  · exact (congrArg (fun z => z + 0) (congrFun (ix_1 m (grid0.coords t)) 0)).trans (show (eAt m (grid0.coords t)).toNat + 0 = E.val by omega)
  · exact (congrArg (fun z => z * 4096 + k.val) (congrFun (ix_1 m (grid0.coords t)) 1)).trans (show 0 * 4096 + k.val = k.val by omega)
  · exact (congrArg (fun z => z * 256 + n.val) (congrFun (ix_1 m (grid0.coords t)) 2)).trans (show colAt m (grid0.coords t) * 256 + n.val = C.val by omega)

/-- Block 2 holds the same columns of the second weight. -/
theorem blk_2 (hR : InRange m) (c : Dev nD) (t : Fin (cfgM m (ok m hR)).N) (k : Fin 4096) (n : Fin 256) (E : Fin 8) (C : Fin 14336)
    (hE : E.val = (eAt m (grid0.coords t)).toNat) (hC : C.val = 256 * colAt m (grid0.coords t) + n.val) :
    (iblk m (ok m hR) c 2 t : Vec Ideal S1x4096x256 .f32) (ix3 0 k n) = V m c main_arg5 (ix3 E k C) := by
  blk_simp [iblk]
  refine congrArg (V m c main_arg5) ?_
  blk_ext
  · exact (congrArg (fun z => z + 0) (congrFun (ix_2 m (grid0.coords t)) 0)).trans (show (eAt m (grid0.coords t)).toNat + 0 = E.val by omega)
  · exact (congrArg (fun z => z * 4096 + k.val) (congrFun (ix_2 m (grid0.coords t)) 1)).trans (show 0 * 4096 + k.val = k.val by omega)
  · exact (congrArg (fun z => z * 256 + n.val) (congrFun (ix_2 m (grid0.coords t)) 2)).trans (show colAt m (grid0.coords t) * 256 + n.val = C.val by omega)

theorem nblk_0 (hO : Ok m) : ((cfgM m hO).win 3).nblk (0 : Fin 2) = 14 := show (35840 + 2560 - 1) / 2560 = 14 by decide
theorem nblk_1 (hO : Ok m) : ((cfgM m hO).win 3).nblk (1 : Fin 2) = 56 := show (14336 + 256 - 1) / 256 = 56 by decide
/-- The blocks written back cover the result. -/
theorem covers (hO : Ok m) : ((cfgM m hO).win 3).Covers :=
  Pipeline.Window.covers_of_indexMap_surj _ rfl (show ∀ a : Fin 2, 0 < S2560x256.size a by decide) fun β => by
    let i : grid0.Coords := fun a => match a with
      | ⟨0, _⟩ => ⟨(β (0 : Fin 2)).val, (β (0 : Fin 2)).isLt.trans_eq (nblk_0 m hO)⟩
      | ⟨1, _⟩ => ⟨(β (1 : Fin 2)).val, (β (1 : Fin 2)).isLt.trans_eq (nblk_1 m hO)⟩
    refine ⟨i, fun a => ?_⟩
    refine (congrFun (ix_3 m i) a).trans ?_
    match a with
    | ⟨0, _⟩ => rfl
    | ⟨1, _⟩ => rfl

/-- The table entry of a group. -/
def grp (s : Fin 14) : S14.Idx := fun a => match a with
  | ⟨0, _⟩ => ⟨s.val, s.isLt⟩

/-- Row `r` of group `s` at column `c`: where the row is live, the gated product of row `r` of the rows that begin at the
    group's first block with the column of its expert's weights, and 0 where it is not. -/
def cell (e st nb : S14.Idx → BitVec 32) (x : S19712x4096.Idx → EReal) (g u : S8x4096x14336.Idx → EReal) (s : Fin 14) (r : ℕ) (c : Fin 14336) : EReal :=
  if r < 64 * (nb (grp s)).toNat then
    gated (fun k => x (ix2 (n0 := 19712) (n1 := 4096) ⟨((st (grp s)).toNat * 64 + r) % 19712, Nat.mod_lt _ (by decide)⟩ k))
      (fun k => g (ix3 (n0 := 8) (n1 := 4096) (n2 := 14336) ⟨(e (grp s)).toNat % 8, Nat.mod_lt _ (by decide)⟩ k c))
      (fun k => u (ix3 (n0 := 8) (n1 := 4096) (n2 := 14336) ⟨(e (grp s)).toNat % 8, Nat.mod_lt _ (by decide)⟩ k c))
  else 0

theorem grp_lt (i : S35840x14336.Idx) : (i 0).val / 2560 < 14 := by
  have h : (i 0).val < 35840 := (i 0).isLt
  omega

/-- Each group's rows in turn, 2560 of them. -/
def prod (e st nb : S14.Idx → BitVec 32) (x : S19712x4096.Idx → EReal) (g u : S8x4096x14336.Idx → EReal) : S35840x14336.Idx → EReal := fun i =>
  cell e st nb x g u ⟨(i 0).val / 2560, grp_lt i⟩ ((i 0).val % 2560) (i 1)

theorem prod_at (e st nb : S14.Idx → BitVec 32) (x : S19712x4096.Idx → EReal) (g u : S8x4096x14336.Idx → EReal) (i : S35840x14336.Idx) (s : Fin 14) (r : ℕ)
    (h : (i 0).val = 2560 * s.val + r) (hr : r < 2560) : prod e st nb x g u i = cell e st nb x g u s r (i 1) := by
  have h1 : (⟨(i 0).val / 2560, grp_lt i⟩ : Fin 14) = s := Fin.ext (by show (i 0).val / 2560 = s.val; omega)
  have h2 : (i 0).val % 2560 = r := by omega
  unfold prod
  rw [h1, h2]

/-- The result is that function of the arguments. -/
theorem final (hR : InRange m) (c : Dev nD) : (dats m (ok m hR) 0 c).arrAt 3 (cfgM m (ok m hR)).N
    = prod (tbl m 0) (tbl m 1) (tbl m 2) (V m c main_arg3) (V m c main_arg4) (V m c main_arg5) := by
  refine (dats m (ok m hR) 0 c).arrAt_eq_of_covers 3 (prod (tbl m 0) (tbl m 1) (tbl m 2) (V m c main_arg3) (V m c main_arg4) (V m c main_arg5)) (covers m (ok m hR)) fun t hf y => ?_
  blk_simp
  rw [after0_3]
  have hy : ∀ y : S2560x256.Idx, left (F := Ideal) (nbAt m (grid0.coords t)).toNat (iblk m (ok m hR) c 0 t) (iblk m (ok m hR) c 1 t) (iblk m (ok m hR) c 2 t) y
      = prod (tbl m 0) (tbl m 1) (tbl m 2) (V m c main_arg3) (V m c main_arg4) (V m c main_arg5) (((((cfgM m (ok m hR)).win 3).blk t).view.emb y : S35840x14336.Idx)) := by
    intro y
    idx_vars y
    have h0 : (((((cfgM m (ok m hR)).win 3).blk t).view.emb (ix2 y0 y1) : S35840x14336.Idx) (0 : Fin 2)).val = 2560 * (grid0.coords t 0).val + y0.val := by
      blk_simp
      exact (congrArg (fun z => z * 2560 + y0.val) (congrFun (ix_3 m (grid0.coords t)) 0)).trans (show (grid0.coords t 0).val * 2560 + y0.val = _ by omega)
    have h1 : (((((cfgM m (ok m hR)).win 3).blk t).view.emb (ix2 y0 y1) : S35840x14336.Idx) (1 : Fin 2)).val = 256 * (grid0.coords t 1).val + y1.val := by
      blk_simp
      exact (congrArg (fun z => z * 256 + y1.val) (congrFun (ix_3 m (grid0.coords t)) 1)).trans (show (grid0.coords t 1).val * 256 + y1.val = _ by omega)
    refine (left_apply _ _ _ _ y0 y1).trans (Eq.trans ?_ (prod_at _ _ _ _ _ _ _ ⟨(grid0.coords t 0).val, (grid0.coords t 0).isLt⟩ y0.val h0 y0.isLt).symm)
    generalize ((((cfgM m (ok m hR)).win 3).blk t).view.emb (ix2 y0 y1) : S35840x14336.Idx) (1 : Fin 2) = C at h1
    have he := hR.e (gidx (grid0.coords t))
    have hs := hR.st (gidx (grid0.coords t))
    have hn := hR.nb (gidx (grid0.coords t))
    have hy0 := y0.isLt
    show (if y0.val < 64 * (nbAt m (grid0.coords t)).toNat then _ else _) = (if y0.val < 64 * (nbAt m (grid0.coords t)).toNat then _ else _)
    by_cases hl : y0.val < 64 * (nbAt m (grid0.coords t)).toNat
    · have hc := colAt_live m (grid0.coords t) (by omega) hn
      rw [if_pos hl, if_pos hl]
      refine congr (congrArg₂ gated (funext fun k => ?_) (funext fun k => ?_)) (funext fun k => ?_)
      · exact blk_0 m hR c t y0 k _ (show ((stAt m (grid0.coords t)).toNat * 64 + y0.val) % 19712 = _ from Nat.mod_eq_of_lt (by show (stAt m (grid0.coords t)).toNat * 64 + y0.val < 19712; have : (stAt m (grid0.coords t)).toNat ≤ 268 := hs; omega))
      · exact blk_1 m hR c t k y1 _ _ (show (eAt m (grid0.coords t)).toNat % 8 = _ from Nat.mod_eq_of_lt he) (by rw [hc]; exact h1)
      · exact blk_2 m hR c t k y1 _ _ (show (eAt m (grid0.coords t)).toNat % 8 = _ from Nat.mod_eq_of_lt he) (by rw [hc]; exact h1)
    · rw [if_neg hl, if_neg hl]
  exact hy y

end Cert.Proof.MoeSwiglu

end
-- ==== Proof.MoeSwigluRefValue.lean ====
/- The grouped gated product's reference, index by index. -/
module

public import proofs.«01_k».proof.Proof.MoeSwigluValue
public import proofs.«01_k».proof.Proof.Gen.MoeSwigluRefIdeal.Read

@[expose] public section

set_option maxRecDepth 16384

noncomputable section

namespace Cert.Proof.MoeSwiglu

open Idealize.ShloMosaic Idealize.ShloMosaic.TcCoe Idealize.SL.Sem Cert.MoeSwigluRefIdeal Cert.MoeSwigluRefIdeal.Gen Cert.MoeSwigluRefIdeal.Read

/-- A signed comparison of two small words is the comparison of their numbers. -/
theorem slt_small (a b : BitVec 32) (ha : a.toNat < 2 ^ 31) (hb : b.toNat < 2 ^ 31) : IntOp.cmpi .slt a b = BitVec.ofBool (decide (a.toNat < b.toNat)) := by
  show BitVec.ofBool (a.slt b) = _
  rw [BitVec.slt_eq_decide]
  refine congrArg BitVec.ofBool (decide_eq_decide.mpr ?_)
  rw [BitVec.toInt_eq_toNat_of_lt (by omega), BitVec.toInt_eq_toNat_of_lt (by omega)]
  omega

theorem toInt_small (a : BitVec 32) (ha : a.toNat < 2 ^ 31) : a.toInt.toNat = a.toNat := by
  rw [BitVec.toInt_eq_toNat_of_lt (by omega)]
  omega

theorem mul64 (w : BitVec 32) (h : w.toNat ≤ 268) : (IntOp.muli w 64#32).toNat = w.toNat * 64 := by
  show (w * 64#32).toNat = _
  rw [BitVec.toNat_mul]
  show w.toNat * 64 % 2 ^ 32 = _
  omega

/-- A word that is not negative is left as it is where a negative one would be wrapped. -/
theorem wrap_small (a b : BitVec 32) (ha : a.toNat < 2 ^ 31) : Scalar.select (IntOp.cmpi .slt a 0#32) b a = a := by
  rw [slt_small a 0#32 ha (by decide), decide_eq_false (by show ¬a.toNat < 0; omega)]
  rfl

/-- The number of the row of the array for row `r` of group `s`. -/
theorem v14_eq (st : S14.Idx → BitVec 32) (hs : ∀ i, (st i).toNat ≤ 268) (s : Fin 14) (r : Fin 2560) :
    (val_main_v14 (F := Ideal) st (ix3 s r 0)).toInt.toNat = (st (grp s)).toNat * 64 + r.val := by
  have hst := hs (grp s)
  have hr := r.isLt
  have h8 : val_main_v8 (F := Ideal) st (ix2 s r) = IntOp.addi (IntOp.muli (st (grp s)) 64#32) (BitVec.ofNat 32 r.val) := by
    rw [val_main_v8_apply, val_main_v6_apply, val_main_v4_apply, val_main_v2_apply, val_main_v3_apply, val_main_v7_apply, val_main_v5_apply, val_main_v0_apply]
    refine congrArg (fun z => IntOp.addi (IntOp.muli (st z) 64#32) (BitVec.ofNat 32 r.val)) (funext fun a => ?_)
    match a with
    | ⟨0, _⟩ => rfl
  have n8 : (val_main_v8 (F := Ideal) st (ix2 s r)).toNat = (st (grp s)).toNat * 64 + r.val := by
    rw [h8]
    show (IntOp.muli (st (grp s)) 64#32 + BitVec.ofNat 32 r.val).toNat = _
    rw [BitVec.toNat_add, mul64 _ hst, BitVec.toNat_ofNat]
    omega
  have h13 : val_main_v13 (F := Ideal) st (ix2 s r) = val_main_v8 (F := Ideal) st (ix2 s r) := by
    rw [val_main_v13_apply, val_main_v10_apply, val_main_v9_apply]
    exact wrap_small _ _ (by omega)
  have h14 : val_main_v14 (F := Ideal) st (ix3 s r 0) = val_main_v13 (F := Ideal) st (ix2 s r) := by
    rw [val_main_v14_apply]
    refine congrArg (val_main_v13 (F := Ideal) st) (funext fun a => ?_)
    match a with
    | ⟨0, _⟩ => rfl
    | ⟨1, _⟩ => rfl
  rw [h14, h13, toInt_small _ (by omega), n8]

/-- The number of group `s`'s expert, for the first weight. -/
theorem v21_eq (e : S14.Idx → BitVec 32) (he : ∀ i, (e i).toNat < 8) (s : Fin 14) :
    (val_main_v21 (F := Ideal) e (ix2 s 0)).toInt.toNat = (e (grp s)).toNat := by
  have h := he (grp s)
  have h21 : val_main_v21 (F := Ideal) e (ix2 s 0) = val_main_v20 (F := Ideal) e (grp s) := by
    rw [val_main_v21_apply]
    refine congrArg (val_main_v20 (F := Ideal) e) (funext fun a => ?_)
    match a with
    | ⟨0, _⟩ => rfl
  rw [h21, val_main_v20_apply, val_main_v17_apply, val_main_v16_apply]
  exact (congrArg (fun w : BitVec 32 => w.toInt.toNat) (wrap_small (e (grp s)) _ (by omega))).trans (toInt_small _ (by omega))

/-- And for the second. -/
theorem v30_eq (e : S14.Idx → BitVec 32) (he : ∀ i, (e i).toNat < 8) (s : Fin 14) :
    (val_main_v30 (F := Ideal) e (ix2 s 0)).toInt.toNat = (e (grp s)).toNat := by
  have h := he (grp s)
  have h30 : val_main_v30 (F := Ideal) e (ix2 s 0) = val_main_v29 (F := Ideal) e (grp s) := by
    rw [val_main_v30_apply]
    refine congrArg (val_main_v29 (F := Ideal) e) (funext fun a => ?_)
    match a with
    | ⟨0, _⟩ => rfl
  rw [h30, val_main_v29_apply, val_main_v26_apply, val_main_v25_apply]
  exact (congrArg (fun w : BitVec 32 => w.toInt.toNat) (wrap_small (e (grp s)) _ (by omega))).trans (toInt_small _ (by omega))

abbrev gx := gather_S19712x4096_S14x2560x1_S14x2560x4096_2_0_n_n_0_2_14096
abbrev gw := gather_S8x4096x14336_S14x1_S14x4096x14336_12_0_n_n_0_1_1409614336

/-- A gathered row. -/
theorem v15_eq (st : S14.Idx → BitVec 32) (x : S19712x4096.Idx → EReal) (hs : ∀ i, (st i).toNat ≤ 268) (s : Fin 14) (r : Fin 2560) (k : Fin 4096) :
    val_main_v15 (F := Ideal) st x (ix3 s r k) = x (ix2 ⟨((st (grp s)).toNat * 64 + r.val) % 19712, Nat.mod_lt _ (by decide)⟩ k) := by
  unfold val_main_v15 Host.gather
  show x _ = _
  refine congrArg x (funext fun a => Fin.ext ?_)
  show gx.start (ix3 s r k) (val_main_v14 (F := Ideal) st) a + gx.batchCoord (ix3 s r k) a + gx.offCoord (ix3 s r k) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (by decide)]
    unfold GatherDims.start
    rw [dif_pos (by decide)]
    have hsi : gx.siIdx (ix3 s r k) ⟨List.idxOf (0 : Fin 2) gx.startIndexMap, by decide⟩ = (ix3 s r 0 : S14x2560x1.Idx) := by
      funext b; refine Fin.ext ?_
      match b with
      | ⟨0, _⟩ => rfl
      | ⟨1, _⟩ => rfl
      | ⟨2, _⟩ => rfl
    refine Eq.trans (congrArg (fun j => min (val_main_v14 (F := Ideal) st j).toInt.toNat 19711 + 0 + 0) hsi) ?_
    dsimp only
    rw [v14_eq st hs]
    have hst := hs (grp s)
    have hr := r.isLt
    show min ((st (grp s)).toNat * 64 + r.val) 19711 + 0 + 0 = ((st (grp s)).toNat * 64 + r.val) % 19712
    omega
  · unfold GatherDims.start GatherDims.offCoord
    rw [dif_neg (by decide), dif_pos (by decide)]
    show 0 + 0 + k.val = k.val
    omega

/-- A gather of the experts' weights at words that name them. -/
theorem gathered (e : S14.Idx → BitVec 32) (he : ∀ i, (e i).toNat < 8) (v : S14x1.Idx → BitVec 32) (w : S8x4096x14336.Idx → EReal) (s : Fin 14)
    (hv : (v (ix2 s 0)).toInt.toNat = (e (grp s)).toNat) (k : Fin 4096) (c : Fin 14336) :
    Host.gather gw w v (ix3 s k c) = w (ix3 ⟨(e (grp s)).toNat % 8, Nat.mod_lt _ (by decide)⟩ k c) := by
  unfold Host.gather
  refine congrArg w (funext fun a => Fin.ext ?_)
  show gw.start (ix3 s k c) v a + gw.batchCoord (ix3 s k c) a + gw.offCoord (ix3 s k c) a = _
  rw [GatherDims.batchCoord_eq_zero _ _ _ List.not_mem_nil]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (by decide)]
    unfold GatherDims.start
    rw [dif_pos (by decide)]
    have hsi : gw.siIdx (ix3 s k c) ⟨List.idxOf (0 : Fin 3) gw.startIndexMap, by decide⟩ = (ix2 s 0 : S14x1.Idx) := by
      funext b; refine Fin.ext ?_
      match b with
      | ⟨0, _⟩ => rfl
      | ⟨1, _⟩ => rfl
    refine Eq.trans (congrArg (fun j => min (v j).toInt.toNat 7 + 0 + 0) hsi) ?_
    dsimp only
    rw [hv]
    have h := he (grp s)
    show min (e (grp s)).toNat 7 + 0 + 0 = (e (grp s)).toNat % 8
    omega
  · unfold GatherDims.start GatherDims.offCoord
    rw [dif_neg (by decide), dif_pos (by decide)]
    show 0 + 0 + k.val = k.val
    omega
  · unfold GatherDims.start GatherDims.offCoord
    rw [dif_neg (by decide), dif_pos (by decide)]
    show 0 + 0 + c.val = c.val
    omega

/-- The gate product. -/
theorem v23_eq (e st : S14.Idx → BitVec 32) (x : S19712x4096.Idx → EReal) (g : S8x4096x14336.Idx → EReal) (he : ∀ i, (e i).toNat < 8) (hs : ∀ i, (st i).toNat ≤ 268)
    (s : Fin 14) (r : Fin 2560) (c : Fin 14336) :
    val_main_v23 (F := Ideal) e st x g (ix3 s r c) = ∑ k : Fin 4096, x (ix2 ⟨((st (grp s)).toNat * 64 + r.val) % 19712, Nat.mod_lt _ (by decide)⟩ k) * g (ix3 ⟨(e (grp s)).toNat % 8, Nat.mod_lt _ (by decide)⟩ k c) := by
  refine (val_main_v23_apply e st x g (ix3 s r c)).trans (Finset.sum_congr rfl fun k _ => congrArg₂ (· * ·) ?_ ?_)
  · refine (congrArg (val_main_v15 (F := Ideal) st x) (funext fun a => ?_)).trans (v15_eq st x hs s r k)
    match a with
    | ⟨0, _⟩ => rfl
    | ⟨1, _⟩ => rfl
    | ⟨2, _⟩ => rfl
  · refine (congrArg (val_main_v22 (F := Ideal) e g) (funext fun a => ?_)).trans (gathered e he (val_main_v21 (F := Ideal) e) g s (v21_eq e he s) k c)
    match a with
    | ⟨0, _⟩ => rfl
    | ⟨1, _⟩ => rfl
    | ⟨2, _⟩ => rfl

/-- The second product. -/
theorem v32_eq (e st : S14.Idx → BitVec 32) (x : S19712x4096.Idx → EReal) (u : S8x4096x14336.Idx → EReal) (he : ∀ i, (e i).toNat < 8) (hs : ∀ i, (st i).toNat ≤ 268)
    (s : Fin 14) (r : Fin 2560) (c : Fin 14336) :
    val_main_v32 (F := Ideal) e st x u (ix3 s r c) = ∑ k : Fin 4096, x (ix2 ⟨((st (grp s)).toNat * 64 + r.val) % 19712, Nat.mod_lt _ (by decide)⟩ k) * u (ix3 ⟨(e (grp s)).toNat % 8, Nat.mod_lt _ (by decide)⟩ k c) := by
  refine (val_main_v32_apply e st x u (ix3 s r c)).trans (Finset.sum_congr rfl fun k _ => congrArg₂ (· * ·) ?_ ?_)
  · refine (congrArg (val_main_v15 (F := Ideal) st x) (funext fun a => ?_)).trans (v15_eq st x hs s r k)
    match a with
    | ⟨0, _⟩ => rfl
    | ⟨1, _⟩ => rfl
    | ⟨2, _⟩ => rfl
  · refine (congrArg (val_main_v31 (F := Ideal) e u) (funext fun a => ?_)).trans (gathered e he (val_main_v30 (F := Ideal) e) u s (v30_eq e he s) k c)
    match a with
    | ⟨0, _⟩ => rfl
    | ⟨1, _⟩ => rfl
    | ⟨2, _⟩ => rfl

/-- Whether a row is live. -/
theorem live_eq (nb : S14.Idx → BitVec 32) (hn : ∀ i, (nb i).toNat ≤ 40) (s : Fin 14) (r : Fin 2560) (c : Fin 14336) :
    val_main_call1_v1 (F := Ideal) nb (ix3 s r c) = BitVec.ofBool (decide (r.val < 64 * (nb (grp s)).toNat)) := by
  have h := hn (grp s)
  have hr := r.isLt
  have h39 : val_main_call1_v1 (F := Ideal) nb (ix3 s r c) = IntOp.cmpi .slt (BitVec.ofNat 32 r.val) (IntOp.muli (nb (grp s)) 64#32) := by
    rw [val_main_call1_v1_apply, val_main_v41_apply, val_main_v40_apply, val_main_v38_apply, val_main_v34_apply, val_main_v0_apply, val_main_v39_apply, val_main_v37_apply,
      val_main_v35_apply, val_main_v36_apply]
    refine congrArg (fun z => IntOp.cmpi .slt (BitVec.ofNat 32 r.val) (IntOp.muli (nb z) 64#32)) (funext fun a => ?_)
    match a with
    | ⟨0, _⟩ => rfl
  have hm : (IntOp.muli (nb (grp s)) 64#32).toNat = (nb (grp s)).toNat * 64 := mul64 _ (by omega)
  have hv : (BitVec.ofNat 32 r.val).toNat = r.val := by rw [BitVec.toNat_ofNat]; omega
  rw [h39, slt_small _ _ (by omega) (by omega), hm, hv, Nat.mul_comm]

/-- The reference's value for row `r` of group `s`. -/
theorem ref_cell (e st nb : S14.Idx → BitVec 32) (x : S19712x4096.Idx → EReal) (g u : S8x4096x14336.Idx → EReal)
    (he : ∀ i, (e i).toNat < 8) (hs : ∀ i, (st i).toNat ≤ 268) (hn : ∀ i, (nb i).toNat ≤ 40) (s : Fin 14) (r : Fin 2560) (c : Fin 14336) :
    val_main_v42 (F := Ideal) e st nb x g u (ix3 s r c) = cell e st nb x g u s r.val c := by
  have h2 : val_main_call0_v2 (F := Ideal) (ix3 s r c) = (1 : EReal) := (val_main_call0_v2_apply (ix3 s r c)).trans Ideal.ofBits_one_f32
  have h4 : val_main_call0_v4 (F := Ideal) (ix3 s r c) = (1 : EReal) := (val_main_call0_v4_apply (ix3 s r c)).trans Ideal.ofBits_one_f32
  have h0 : val_main_call1_v2 (F := Ideal) (ix3 s r c) = (0 : EReal) := (val_main_call1_v2_apply (ix3 s r c)).trans (by
    show Ideal.ofBits .f32 0x00000000#32 = 0
    simp [Ideal.ofBits, Ideal.ieee])
  have h33 : val_main_v33 (F := Ideal) e st x g u (ix3 s r c)
      = gated (fun k => x (ix2 ⟨((st (grp s)).toNat * 64 + r.val) % 19712, Nat.mod_lt _ (by decide)⟩ k)) (fun k => g (ix3 ⟨(e (grp s)).toNat % 8, Nat.mod_lt _ (by decide)⟩ k c))
        (fun k => u (ix3 ⟨(e (grp s)).toNat % 8, Nat.mod_lt _ (by decide)⟩ k c)) := by
    show val_main_v23 (F := Ideal) e st x g (ix3 s r c) * Ideal.div (val_main_call0_v4 (F := Ideal) (ix3 s r c)) (val_main_call0_v2 (F := Ideal) (ix3 s r c) + Ideal.exp (-(val_main_v23 (F := Ideal) e st x g (ix3 s r c)))) * val_main_v32 (F := Ideal) e st x u (ix3 s r c) = _
    rw [h2, h4, v23_eq e st x g he hs, v32_eq e st x u he hs]
    rfl
  rw [val_main_v42_apply, live_eq nb hn, h33, h0]
  unfold cell
  by_cases hl : r.val < 64 * (nb (grp s)).toNat
  · rw [if_pos hl, decide_eq_true hl]; rfl
  · rw [if_neg hl, decide_eq_false hl]; rfl

/-- The reference's result is the same function where the tables are in range. -/
theorem ref_eq (e st nb : S14.Idx → BitVec 32) (x : S19712x4096.Idx → EReal) (g u : S8x4096x14336.Idx → EReal)
    (he : ∀ i, (e i).toNat < 8) (hs : ∀ i, (st i).toNat ≤ 268) (hn : ∀ i, (nb i).toNat ≤ 40) :
    val_main_v44 (F := Ideal) e st nb x g u = prod e st nb x g u := by
  funext i
  show val_main_v43 (F := Ideal) e st nb x g u i = _
  have h0 : (i 0).val < 35840 := (i 0).isLt
  have h1 : (i 1).val < 14336 := (i 1).isLt
  rw [val_main_v43_apply]
  refine (congrArg (val_main_v42 (F := Ideal) e st nb x g u) (funext fun a => Fin.ext ?_)).trans
    (ref_cell e st nb x g u he hs hn ⟨(i 0).val / 2560, grp_lt i⟩ ⟨(i 0).val % 2560, Nat.mod_lt _ (by decide)⟩ (i 1))
  match a with
  | ⟨0, _⟩ => show ((i 0).val * 14336 + (i 1).val) / 36700160 = (i 0).val / 2560; omega
  | ⟨1, _⟩ => show ((i 0).val * 14336 + (i 1).val) / 14336 % 2560 = (i 0).val % 2560; omega
  | ⟨2, _⟩ => show ((i 0).val * 14336 + (i 1).val) % 14336 = (i 1).val; omega

end Cert.Proof.MoeSwiglu

end
-- ==== Proof.DownRun.lean ====
/- The call on any values: the tables the host builds, the body at one point of the grid, and the whole run. -/
module

public import proofs.«01_k».proof.Proof.Gen.Down.Launch
public import proofs.«01_k».proof.Proof.Gen.Down.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.VecWindow
public import Idealize.ShloMosaic.Lib.WholeRead

@[expose] public section

set_option maxRecDepth 16384

noncomputable section

namespace Cert.Proof.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Down Cert.Down.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! Staging memrefs and bodies at a point. -/

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)

abbrev bodyAt0 (a : (pcfg0 (F := F)).Adm) (t : Fin (cfg0 a).N) : Prog (TpuEff nD τ sig (Elt F) Λ₀ .tc) PUnit :=
  cc0_rg_down (grid0.coords t) (Memref.whole main_v0) (Memref.isWhole_whole _) (Memref.whole main_v1) (Memref.isWhole_whole _) (Memref.whole main_v2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2))

/-! @main up to the call. -/

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! The tables. -/

def tbl : pre0.Contents (Elt F) := fun j => V m (0 : Dev nD) (pre0.ref j)
theorem V_pre (c : Dev nD) (j : Fin 3) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S4 .i32 := Memref.whole main_v0
abbrev htbM0_0 : tbM0_0.IsWhole := Memref.isWhole_whole _
abbrev tbM0_1 : Memref sig .tc .smem S4 .i32 := Memref.whole main_v1
abbrev htbM0_1 : tbM0_1.IsWhole := Memref.isWhole_whole _
abbrev tbM0_2 : Memref sig .tc .smem S4 .i32 := Memref.whole main_v2
abbrev htbM0_2 : tbM0_2.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! The blocks. -/

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! The arguments end as they were. -/

theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c))⟩) h

abbrev ms0_0 (hO : Ok m) (t : Fin (cfgM m hO).N) : Memref sig .tc .vmem S2080x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S2080x2048 .f32 := spec0_2.stage ((cfgM m hO).slots t 2)
abbrev hs0_2 (hO : Ok m) (t : Fin (cfgM m hO).N) : (ms0_2 m hO t).IsWhole := hstage0_2 (((cfgM m hO).slots t 2).cast nbuf0_2)

/-! What the tables hold. -/

/-- Every group uses the first weights. -/
theorem tbl_e (i : S4.Idx) : (tbl m 0 : S4.Idx → BitVec 32) i = 0#32 := by
  unfold tbl V hostOps0
  after_results
  all_goals rfl
/-- Group `i` begins at block `i`. -/
theorem tbl_st (i : S4.Idx) : (tbl m 1 : S4.Idx → BitVec 32) i = BitVec.ofNat 32 (i 0).val := by
  unfold tbl V hostOps0
  after_results
  all_goals rfl
/-- Every group has one live block. -/
theorem tbl_nb (i : S4.Idx) : (tbl m 2 : S4.Idx → BitVec 32) i = 1#32 := by
  unfold tbl V hostOps0
  after_results
  all_goals rfl

/-- A word of the first table. -/
theorem at_e (R : Rect S4) (h : R.shape.numel = 1) : (tbl m).at 0 R h = (0#32 : BitVec 32) := tbl_e m _
/-- A word of the second. -/
theorem at_st (R : Rect S4) (h : R.shape.numel = 1) : (tbl m).at 1 R h = BitVec.ofNat 32 (R.emb (Shape.Idx.first (h.symm ▸ Nat.one_pos)) 0).val := tbl_st m _
/-- A word of the third. -/
theorem at_nb (R : Rect S4) (h : R.shape.numel = 1) : (tbl m).at 2 R h = (1#32 : BitVec 32) := tbl_nb m _
/-- The word the body reads. -/
theorem word (i : grid0.Coords) : (tbM0_2.view.readAt (Elt F) (Rect.unit (s := S4) (k0_off1 i) S1.size (k0_off1_inb i)).toLoadRect (tbl m 2) (Shape.Idx.first (numel1_S1.symm ▸ Nat.one_pos))) = (1#32 : BitVec 32) := by
  exact tbl_nb m _
/-- Where window 0's block lies at a point of the grid. -/
theorem ix_0 (i : grid0.Coords) : cc0_transform_0 k0_off1_inb numel1_S1 (tbl m) i = ![(i 0).val, (i 2).val] := by
  funext a
  match a with
  | ⟨0, _⟩ => exact (show (BitVec.ofNat 32 (i 0).val).toNat = (i 0).val by revert i; decide +kernel)
  | ⟨1, _⟩ => exact (congrArg (fun w : BitVec 32 => ((Scalar.select (Scalar.cmpi .sgt w (0#32)) (BitVec.ofNat 32 (i 2).val) (13#32)) : BitVec 32).toNat) (at_nb m _ _)).trans (show ((Scalar.select (Scalar.cmpi .sgt 1#32 (0#32)) (BitVec.ofNat 32 (i 2).val) (13#32)) : BitVec 32).toNat = (i 2).val by revert i; decide +kernel)
/-- Where window 1's block lies at a point of the grid. -/
theorem ix_1 (i : grid0.Coords) : cc0_transform_1 k0_off1_inb numel1_S1 (tbl m) i = ![0, (i 2).val, (i 1).val] := by
  funext a
  match a with
  | ⟨0, _⟩ => exact congrArg BitVec.toNat (at_e m _ _)
  | ⟨1, _⟩ => exact (congrArg (fun w : BitVec 32 => ((Scalar.select (Scalar.cmpi .sgt w (0#32)) (BitVec.ofNat 32 (i 2).val) (13#32)) : BitVec 32).toNat) (at_nb m _ _)).trans (show ((Scalar.select (Scalar.cmpi .sgt 1#32 (0#32)) (BitVec.ofNat 32 (i 2).val) (13#32)) : BitVec 32).toNat = (i 2).val by revert i; decide +kernel)
  | ⟨2, _⟩ => exact (congrArg (fun w : BitVec 32 => ((Scalar.select (Scalar.cmpi .sgt w (0#32)) (BitVec.ofNat 32 (i 1).val) (1#32)) : BitVec 32).toNat) (at_nb m _ _)).trans (show ((Scalar.select (Scalar.cmpi .sgt 1#32 (0#32)) (BitVec.ofNat 32 (i 1).val) (1#32)) : BitVec 32).toNat = (i 1).val by revert i; decide +kernel)
/-- Where window 2's block lies at a point of the grid. -/
theorem ix_2 (i : grid0.Coords) : cc0_transform_2 k0_off1_inb numel1_S1 (tbl m) i = ![(i 0).val, (i 1).val] := by
  funext a
  match a with
  | ⟨0, _⟩ => exact (show (BitVec.ofNat 32 (i 0).val).toNat = (i 0).val by revert i; decide +kernel)
  | ⟨1, _⟩ => exact (show (BitVec.ofNat 32 (i 1).val).toNat = (i 1).val by revert i; decide +kernel)
/-- Every block lies inside its array, and its transfers are of whole words. -/
theorem ok : Ok m :=
  ⟨fun i => by rw [ix_0 m i]; revert i; decide +kernel, fun i => by rw [ix_1 m i]; revert i; decide +kernel, fun i => by rw [ix_2 m i]; revert i; decide +kernel⟩

/-- The body clears the block at the first piece of the sum and nowhere else. -/
theorem first_iff (i : grid0.Coords) : k0_cond1 i = 1#1 ↔ (i 2).val = 0 := by revert i; decide +kernel

set_option maxHeartbeats 1000000 in
/-- The body at the first piece of the sum: the inputs stay, and the output is the first product. -/
theorem body_run0 (c : Dev nD) (i : grid0.Coords) (arg5 : Memref sig .tc .vmem S2080x1024 .bf16) (harg5 : arg5.IsWhole) (arg6 : Memref sig .tc .vmem S1x1024x2048 .f32) (harg6 : arg6.IsWhole) (arg7 : Memref sig .tc .vmem S2080x2048 .f32) (harg7 : arg7.IsWhole)
    (x0 : Vec F S2080x1024 .bf16) (x1 : Vec F S1x1024x2048 .f32) (xt0 : TbBuf0 (F := F) c tbM0_0) (xt1 : TbBuf0 (F := F) c tbM0_1) (xt2 : TbBuf0 (F := F) c tbM0_2)
    (hi : k0_cond1 i = 1#1)
    (hw : (tbM0_2.view.readAt (Elt F) (Rect.unit (s := S4) (k0_off1 i) S1.size (k0_off1_inb i)).toLoadRect xt2 (Shape.Idx.first (numel1_S1.symm ▸ Nat.one_pos))) = (1#32 : BitVec 32)) :
      ∀ (E : Set ℕ) (K : PUnit → sProp 𝕄),
        iprop(owns (c : Thread nD τ) arg5 fullShare x0 ∗ owns (c : Thread nD τ) arg6 fullShare x1 ∗ (∃ d, owns (c : Thread nD τ) arg7 fullShare d) ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare (k0_pay2 (k0_pay1 (F := F)) x0 x1) ∗ tbPt0 c tbM0_0 xt0 ∗ tbPt0 c tbM0_1 xt1 ∗ tbPt0 c tbM0_2 xt2) -∗ K ⟨⟩))
          ⊢ wp frame (wpE (defs₀ (F := F)) Variants.none c none) E (cc0_rg_down i tbM0_0 htbM0_0 tbM0_1 htbM0_1 tbM0_2 htbM0_2 arg5 harg5 arg6 harg6 arg7 harg7) K := by
  intro E K
  have hc : k0_cond2 (tbM0_2.view.readAt (Elt F) (Rect.unit (s := S4) (k0_off1 i) S1.size (k0_off1_inb i)).toLoadRect xt2 (Shape.Idx.first (numel1_S1.symm ▸ Nat.one_pos))) = 1#1 := by rw [hw]; decide
  simp only [cc0_rg_down_eq_skeleton]; unfold cc0_rg_down_skel
  unfold owns
  iintro ⟨⟨%f0, %hf0, H0⟩, ⟨%f1, %hf1, H1⟩, ⟨%d2, %f2, -, H2⟩, HT0, HT1, HT2, Hk⟩
  obtain rfl := harg5.eq_unread hf0; obtain rfl := harg6.eq_unread hf1
  sl_exec (disch := first | sl_exact hi | sl_exact hc)
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; swap; · iexact H2
    ipureintro
    refine (View.read_writes_full _ _ _ _ _).trans ?_
    exact congr (congr (congrArg k0_pay2 ((View.readAt_full _ _ _).trans (View.read_writes_full _ _ _ _ _))) ((View.readAt_full _ _ _).trans (harg5.read_unread _))) ((View.readAt_full _ _ _).trans (harg6.read_unread _))
  isplitl [HT0]; · iexact HT0
  isplitl [HT1]; · iexact HT1
  iexact HT2

set_option maxHeartbeats 1000000 in
/-- The body at a later piece: the inputs stay, and the product is added to the output. -/
theorem body_run1 (c : Dev nD) (i : grid0.Coords) (arg5 : Memref sig .tc .vmem S2080x1024 .bf16) (harg5 : arg5.IsWhole) (arg6 : Memref sig .tc .vmem S1x1024x2048 .f32) (harg6 : arg6.IsWhole) (arg7 : Memref sig .tc .vmem S2080x2048 .f32) (harg7 : arg7.IsWhole)
    (x0 : Vec F S2080x1024 .bf16) (x1 : Vec F S1x1024x2048 .f32) (x2 : Vec F S2080x2048 .f32) (xt0 : TbBuf0 (F := F) c tbM0_0) (xt1 : TbBuf0 (F := F) c tbM0_1) (xt2 : TbBuf0 (F := F) c tbM0_2)
    (hi : k0_cond1 i ≠ 1#1)
    (hw : (tbM0_2.view.readAt (Elt F) (Rect.unit (s := S4) (k0_off1 i) S1.size (k0_off1_inb i)).toLoadRect xt2 (Shape.Idx.first (numel1_S1.symm ▸ Nat.one_pos))) = (1#32 : BitVec 32)) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare (k0_pay2 x2 x0 x1) ∗ tbPt0 c tbM0_0 xt0 ∗ tbPt0 c tbM0_1 xt1 ∗ tbPt0 c tbM0_2 xt2) -∗ K ⟨⟩))
          ⊢ wp frame (wpE (defs₀ (F := F)) Variants.none c none) E (cc0_rg_down i tbM0_0 htbM0_0 tbM0_1 htbM0_1 tbM0_2 htbM0_2 arg5 harg5 arg6 harg6 arg7 harg7) K := by
  intro E K
  have hc : k0_cond2 (tbM0_2.view.readAt (Elt F) (Rect.unit (s := S4) (k0_off1 i) S1.size (k0_off1_inb i)).toLoadRect xt2 (Shape.Idx.first (numel1_S1.symm ▸ Nat.one_pos))) = 1#1 := by rw [hw]; decide
  simp only [cc0_rg_down_eq_skeleton]; unfold cc0_rg_down_skel
  unfold owns
  iintro ⟨⟨%f0, %hf0, H0⟩, ⟨%f1, %hf1, H1⟩, ⟨%f2, %hf2, H2⟩, HT0, HT1, HT2, Hk⟩
  obtain rfl := harg5.eq_unread hf0; obtain rfl := harg6.eq_unread hf1; obtain rfl := harg7.eq_unread hf2
  sl_exec (disch := first | sl_exact hi | sl_exact hc)
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; swap; · iexact H2
    ipureintro
    refine (View.read_writes_full _ _ _ _ _).trans ?_
    exact congr (congr (congrArg k0_pay2 ((View.readAt_full _ _ _).trans (harg7.read_unread _))) ((View.readAt_full _ _ _).trans (harg5.read_unread _))) ((View.readAt_full _ _ _).trans (harg6.read_unread _))
  isplitl [HT0]; · iexact HT0
  isplitl [HT1]; · iexact HT1
  iexact HT2

theorem pred_lt {n : ℕ} (t : Fin n) : t.val - 1 < n := Nat.lt_of_le_of_lt (Nat.sub_le _ _) t.isLt
/-- The sum of the products of the pieces up to a point, over the points of its output block. -/
def acc (hO : Ok m) (c : Dev nD) : (n : ℕ) → n < (cfgM m hO).N → Vec F S2080x2048 .f32
  | 0, h => k0_pay2 (k0_pay1 (F := F)) (iblk m hO c 0 ⟨0, h⟩) (iblk m hO c 1 ⟨0, h⟩)
  | n + 1, h => k0_pay2 (if (grid0.coords ⟨n + 1, h⟩ 2).val = 0 then k0_pay1 (F := F) else acc hO c n (Nat.lt_of_succ_lt h)) (iblk m hO c 0 ⟨n + 1, h⟩) (iblk m hO c 1 ⟨n + 1, h⟩)

/-- At the first piece it is the product, -/
theorem acc_first (hO : Ok m) (c : Dev nD) (t : Fin (cfgM m hO).N) (ht : (grid0.coords t 2).val = 0) :
    acc m hO c t.val t.isLt = k0_pay2 (k0_pay1 (F := F)) (iblk m hO c 0 t) (iblk m hO c 1 t) := by
  obtain ⟨n, h⟩ := t
  cases n with
  | zero => rfl
  | succ n => exact congrArg (fun x => k0_pay2 x (iblk m hO c 0 ⟨n + 1, h⟩) (iblk m hO c 1 ⟨n + 1, h⟩)) (if_pos ht)
/-- and at a later one the product added to the sum so far. -/
theorem acc_later (hO : Ok m) (c : Dev nD) (t : Fin (cfgM m hO).N) (ht : (grid0.coords t 2).val ≠ 0) :
    acc m hO c t.val t.isLt = k0_pay2 (acc m hO c (t.val - 1) (pred_lt t)) (iblk m hO c 0 t) (iblk m hO c 1 t) := by
  obtain ⟨n, h⟩ := t
  cases n with
  | zero => exact absurd (show (grid0.coords ⟨0, by decide⟩ 2).val = 0 by decide +kernel) ht
  | succ n => exact congrArg (fun x => k0_pay2 x (iblk m hO c 0 ⟨n + 1, h⟩) (iblk m hO c 1 ⟨n + 1, h⟩)) (if_neg ht)

/-! The run. -/

/-- What the pipeline works with: the arrays at the call, each input's block, each output's block as the body computes it. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => acc m hO c t.val t.isLt
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = acc m hO c t.val t.isLt := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d

/-- The point before everything is the first of its output block. -/
theorem first_zero (t : Fin grid0.N) (h : t.val = 0) : (grid0.coords t 2).val = 0 := by
  revert t; decide +kernel
/-- A point that is not the first of its output block has the output block of the point before. -/
theorem same (t : Fin grid0.N) (ht : (grid0.coords t 2).val ≠ 0) : (grid0.coords t 0).val = (grid0.coords ⟨t.val - 1, pred_lt t⟩ 0).val ∧ (grid0.coords t 1).val = (grid0.coords ⟨t.val - 1, pred_lt t⟩ 1).val := by
  revert t; decide +kernel
/-- A point that is not the first of its output block does not come after a write-back. -/
theorem kept_2 (hO : Ok m) (t : Fin (cfgM m hO).N) (ht : (grid0.coords t 2).val ≠ 0) : ((cfgM m hO).win 2).flush ⟨t.val - 1, pred_lt t⟩ = false := by
  have h0 : t.val ≠ 0 := fun h => ht (first_zero t h)
  have hs := same t ht
  have hi : ∀ h : t.val - 1 + 1 < grid0.N, ((cfgM m hO).win 2).index ⟨t.val - 1 + 1, h⟩ = ((cfgM m hO).win 2).index ⟨t.val - 1, pred_lt t⟩ := fun h => by
    rw [show (⟨t.val - 1 + 1, h⟩ : Fin grid0.N) = t from Fin.ext (Nat.sub_add_cancel (Nat.pos_of_ne_zero h0))]
    exact (ix_2 m _).trans ((congrArg₂ (fun a b : ℕ => ![a, b]) hs.1 hs.2).trans (ix_2 m _).symm)
  have hl : ¬ t.val - 1 + 1 = grid0.N := by have h1 : t.val < grid0.N := t.isLt; omega
  unfold Window.flush
  exact (congrArg₂ (fun a b : Bool => true && (a || b)) (decide_eq_false hl) (decide_eq_false fun hx => hx.elim fun h hn => hn (hi h))).trans rfl
/-- The body stores to the output at every point. -/
theorem live_2 (hO : Ok m) (i : grid0.Coords) : (cfgM m hO).idle 2 i = false := by
  have h : k0_cond2 ((tbl m).atD 2 (k0_off1 i)) = 1#1 := by
    rw [show (tbl m).atD 2 (k0_off1 i) = (1#32 : BitVec 32) from by
      unfold Pipeline.Prefetch.Contents.atD
      split
      · exact tbl_nb m _
      · next hh => exact (hh (show ∀ a : Fin 1, k0_off1 i a + 1 ≤ S4.size a from fun a => by obtain rfl : a = 0 := Subsingleton.elim _ _; exact k0_off1_inb i 0)).elim]; decide
  exact (congrArg (fun w => !(k0_cond1 i == 1#1) && !(w == 1#1)) h).trans (by cases k0_cond1 i == 1#1 <;> rfl)
/-- So the body finds there the sum so far. -/
theorem before0_2 (hO : Ok m) (c : Dev nD) (t : Fin (cfgM m hO).N) (ht : (grid0.coords t 2).val ≠ 0) (d) :
    (dats m hO 0 c).before 2 t d = acc m hO c (t.val - 1) (pred_lt t) := by
  have h0 : t.val ≠ 0 := fun h => ht (first_zero t h)
  rw [Dat.before_of_pos _ 2 t h0 (Window.fetch_out _ rfl _), kept_2 m hO t ht, if_neg Bool.false_ne_true]
  unfold Dat.left
  rw [live_2 m hO]
  exact after0_2 m hO c ⟨t.val - 1, pred_lt t⟩

/-- What the body finds at a point, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d)) ∗ (∃ d, owns (c : Thread nD τ) (ms0_1 m hO t) fullShare ((dats m hO 0 c).before 1 t d)) ∗ (∃ d, owns (c : Thread nD τ) (ms0_2 m hO t) fullShare ((dats m hO 0 c).before 2 t d)))
/-- and what it leaves. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t) ∗ owns (c : Thread nD τ) (ms0_1 m hO t) fullShare ((dats m hO 0 c).after 1 t) ∗ owns (c : Thread nD τ) (ms0_2 m hO t) fullShare ((dats m hO 0 c).after 2 t))

set_option maxHeartbeats 800000 in
/-- The body meets its part at every point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1]
  rw [show (dats m hO 0 c).Φ t.succ = (dats m hO 0 c).Φ t.castSucc from rfl,
    show (dats m hO 0 c).owesAt () t.succ = (dats m hO 0 c).owesAt () t.castSucc from rfl,
    after0_0, after0_1, after0_2]
  rw [show (dats m hO 0 c).Φ t.castSucc = iprop(Pipeline.ΦA spec0 c ∗ Pipeline.ΦT pre0 (tbl m) c) from rfl, PhiT0_eq]
  iintro ⟨⟨HΦ, ⟨HT0, HT1, HT2⟩⟩, Ho, ⟨%d0, H0⟩, ⟨%d1, H1⟩, ⟨%d2, H2⟩⟩
  by_cases ht : (grid0.coords t 2).val = 0
  · rw [acc_first m hO c t ht]
    iapply ((body_run0 c (grid0.coords t) _ _ _ _ _ _ (iblk m hO c 0 t) (iblk m hO c 1 t) (tbl m 0) (tbl m 1) (tbl m 2) ((first_iff _).mpr ht) (word m (grid0.coords t))) Set.univ _)
    isplitl [H0]; · iexact H0
    isplitl [H1]; · iexact H1
    isplitl [H2]; · iexists _; iexact H2
    isplitl [HT0]; · iexact HT0
    isplitl [HT1]; · iexact HT1
    isplitl [HT2]; · iexact HT2
    iintro ⟨H0, H1, H2, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    iexact H2
  · rw [acc_later m hO c t ht, before0_2 m hO c t ht]
    iapply ((body_run1 c (grid0.coords t) _ _ _ _ _ _ (iblk m hO c 0 t) (iblk m hO c 1 t) (acc m hO c (t.val - 1) (pred_lt t)) (tbl m 0) (tbl m 1) (tbl m 2) (fun h => ht ((first_iff _).mp h)) (word m (grid0.coords t))) Set.univ _)
    isplitl [H0]; · iexact H0
    isplitl [H1]; · iexact H1
    isplitl [H2]; · iexact H2
    isplitl [HT0]; · iexact HT0
    isplitl [HT1]; · iexact HT1
    isplitl [HT2]; · iexact HT2
    iintro ⟨H0, H1, H2, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    iexact H2

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO, live_2 m hO]
  exact triple_restated (sound_body m hO c t) rfl .rfl fun _ => .rfl

set_option backward.isDefEq.respectTransparency.types false in
/-- Every run ends, its arrays as the body's blocks fill them and every counter at zero. -/
theorem run_main (hO : Ok m) : θ_run defs (onTc (τ := τ) (main (F := F))) (s₀ m ρ) (fun r => Pipeline.FramePost (Pipeline.pin pcfgs fun _ => adm m hO) (dats m hO) (0 : Fin 1) (V m) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- The run with its results: each result is the array the blocks fill, and the arguments end as they were. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ (∀ (c : Dev nD) w, r.2.mem ((((cfgM m (ok m)).spec w).arr.view.loc (c.tc : Thread nD τ))) = (dats m (ok m) 0 c).arrAt w (cfgM m (ok m)).N)
      ∧ r.2.sem = fun _ => 0) :=
  (θ_run defs _ _).mono (fun _ h => ⟨fun c => ⟨((h.1 c).1 0).trans (((dats m (ok m) 0 c).arrAt_in 0 rfl _).trans ((A_eq m (ok m) c 0).trans (V_main_arg0 m c))),
      ((h.1 c).1 1).trans (((dats m (ok m) 0 c).arrAt_in 1 rfl _).trans ((A_eq m (ok m) c 1).trans (V_main_arg1 m c)))⟩,
    fun c w => (h.1 c).1 w, h.2⟩) (run_main m ρ (ok m))

/-- The frame: every run ends, the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨h.1, h.2.2⟩) (run m ρ)

end Cert.Proof.Down

end
-- ==== Proof.DownValue.lean ====
/- The down projection's result, index by index, and its reference's. -/
module

public import proofs.«01_k».proof.Proof.DownRun
public import proofs.«01_k».proof.Proof.Gen.DownRefIdeal.Read
public import Idealize.ShloMosaic.Lib.Pointwise
public import Idealize.ShloMosaic.Lib.Pipeline.Value
public import Idealize.ShloMosaic.Lib.Pipeline.ValueKit
public import Idealize.ShloMosaic.Lib.Pipeline.Covers
public import Idealize.ShloMosaic.Lib.IdealHost
public import Idealize.ShloMosaic.PureOps.Ideal.Laws

@[expose] public section

set_option maxRecDepth 16384

noncomputable section

namespace Cert.Proof.Down

open Idealize.ShloMosaic Idealize.ShloMosaic.TcCoe Idealize.SL.Sem Cert.Down Cert.Down.Gen

/-- What the body adds to a block of the result at one step, at an index, -/
theorem pay2_apply (x2 : Vec Ideal S2080x2048 .f32) (x0 : Vec Ideal S2080x1024 .bf16) (x1 : Vec Ideal S1x1024x2048 .f32) (r : Fin 2080) (n : Fin 2048) :
    k0_pay2 (F := Ideal) x2 x0 x1 (ix2 r n) = x2 (ix2 r n) + ∑ k : Fin 1024, x0 (ix2 r k) * x1 (ix3 0 k n) := by
  unfold k0_pay2
  pointwise [dot_S2080x1024_S1024x2048_S2080x2048_1_0_0_1_n_n]
/-- and what it starts from. -/
theorem pay1_apply (r : Fin 2080) (n : Fin 2048) : k0_pay1 (F := Ideal) (ix2 r n) = 0 := by
  unfold k0_pay1
  pointwise

variable (m : (ℓ : Loc nD τ sig) → Buf (Elt Ideal) ℓ) (ρ : Dev nD → PrngReg)

/-- Block 0 holds the rows of its array from 2080 times its row index on, and the columns from 1024 times its column index on. -/
theorem blk_0 (c : Dev nD) (t : Fin (cfgM m (ok m)).N) (r : Fin 2080) (k : Fin 1024) (R : Fin 8320) (K : Fin 14336) (hR : R.val = 2080 * (grid0.coords t 0).val + r.val)
    (hK : K.val = 1024 * (grid0.coords t 2).val + k.val) : (iblk m (ok m) c 0 t : Vec Ideal S2080x1024 .bf16) (ix2 r k) = V m c main_arg0 (ix2 R K) := by
  blk_simp [iblk]
  refine congrArg (V m c main_arg0) ?_
  blk_ext
  · exact (congrArg (fun z => z * 2080 + r.val) (congrFun (ix_0 m (grid0.coords t)) 0)).trans (show (grid0.coords t 0).val * 2080 + r.val = R.val by omega)
  · exact (congrArg (fun z => z * 1024 + k.val) (congrFun (ix_0 m (grid0.coords t)) 1)).trans (show (grid0.coords t 2).val * 1024 + k.val = K.val by omega)

/-- Block 1 holds the weights' rows from 1024 times its row index on, and the columns from 2048 times its column index on. -/
theorem blk_1 (c : Dev nD) (t : Fin (cfgM m (ok m)).N) (k : Fin 1024) (n : Fin 2048) (K : Fin 14336) (C : Fin 4096) (hK : K.val = 1024 * (grid0.coords t 2).val + k.val)
    (hC : C.val = 2048 * (grid0.coords t 1).val + n.val) : (iblk m (ok m) c 1 t : Vec Ideal S1x1024x2048 .f32) (ix3 0 k n) = V m c main_arg1 (ix3 0 K C) := by
  blk_simp [iblk]
  refine congrArg (V m c main_arg1) ?_
  blk_ext
  · exact congrArg (fun z => z + 0) (congrFun (ix_1 m (grid0.coords t)) 0)
  · exact (congrArg (fun z => z * 1024 + k.val) (congrFun (ix_1 m (grid0.coords t)) 1)).trans (show (grid0.coords t 2).val * 1024 + k.val = K.val by omega)
  · exact (congrArg (fun z => z * 2048 + n.val) (congrFun (ix_1 m (grid0.coords t)) 2)).trans (show (grid0.coords t 1).val * 2048 + n.val = C.val by omega)

/-- One product of the sum that an element of the result is. -/
def term (x0 : S8320x14336.Idx → EReal) (x1 : S1x14336x4096.Idx → EReal) (R : Fin 8320) (C : Fin 4096) (q : ℕ) : EReal :=
  if h : q < 14336 then x0 (ix2 R ⟨q, h⟩) * x1 (ix3 0 ⟨q, h⟩ C) else 0

/-- One step's sum. -/
theorem piece (c : Dev nD) (t : Fin (cfgM m (ok m)).N) (r : Fin 2080) (n : Fin 2048) (R : Fin 8320) (C : Fin 4096)
    (hR : R.val = 2080 * (grid0.coords t 0).val + r.val) (hC : C.val = 2048 * (grid0.coords t 1).val + n.val)
    (x0 : Vec Ideal S2080x1024 .bf16) (x1 : Vec Ideal S1x1024x2048 .f32) (h0 : x0 = iblk m (ok m) c 0 t) (h1 : x1 = iblk m (ok m) c 1 t) :
    ∑ k : Fin 1024, x0 (ix2 r k) * x1 (ix3 0 k n)
      = ∑ q ∈ Finset.range 1024, term (V m c main_arg0) (V m c main_arg1) R C (1024 * (grid0.coords t 2).val + q) := by
  subst h0 h1
  rw [Finset.sum_range]
  refine Finset.sum_congr rfl fun k _ => ?_
  have hk : 1024 * (grid0.coords t 2).val + k.val < 14336 := by
    have h2 : (grid0.coords t 2).val < 14 := (grid0.coords t 2).isLt
    have h3 := k.isLt
    omega
  unfold term
  rw [dif_pos hk]
  exact congrArg₂ (fun a b : EReal => a * b) (blk_0 m c t r k R ⟨_, hk⟩ hR rfl) (blk_1 m c t k n ⟨_, hk⟩ C rfl hC)

/-- A step that is not the first of its block comes after the step of the index before. -/
theorem step (t : Fin grid0.N) (ht : (grid0.coords t 2).val ≠ 0) : (grid0.coords t 2).val = (grid0.coords ⟨t.val - 1, pred_lt t⟩ 2).val + 1 := by
  revert t; decide +kernel
/-- A step that is not the last of its block comes before another that is not the first. -/
theorem next (t : Fin grid0.N) (ht : (grid0.coords t 2).val ≠ 13) : ∃ h : t.val + 1 < grid0.N, (grid0.coords ⟨t.val + 1, h⟩ 2).val ≠ 0 := by
  revert t; decide +kernel

/-- The sum so far, at an index. -/
theorem acc_apply (c : Dev nD) (n : ℕ) : ∀ (h : n < (cfgM m (ok m)).N) (r : Fin 2080) (s : Fin 2048) (R : Fin 8320) (C : Fin 4096),
    R.val = 2080 * (grid0.coords ⟨n, h⟩ 0).val + r.val → C.val = 2048 * (grid0.coords ⟨n, h⟩ 1).val + s.val →
    acc m (ok m) c n h (ix2 r s) = ∑ q ∈ Finset.range (1024 * (grid0.coords ⟨n, h⟩ 2).val + 1024), term (V m c main_arg0) (V m c main_arg1) R C q := by
  induction n using Nat.strong_induction_on with
  | _ n ih =>
    intro h r s R C hR hC
    rw [Finset.sum_range_add]
    by_cases h0 : (grid0.coords ⟨n, h⟩ 2).val = 0
    · refine (congrFun (acc_first m (ok m) c ⟨n, h⟩ h0) (ix2 r s)).trans ((pay2_apply _ _ _ r s).trans (congrArg₂ (· + ·) ?_ (piece m c ⟨n, h⟩ r s R C hR hC _ _ rfl rfl)))
      rw [h0]; exact pay1_apply r s
    · have hn : n ≠ 0 := fun e => h0 (first_zero ⟨n, h⟩ e)
      have hs := same ⟨n, h⟩ h0
      refine (congrFun (acc_later m (ok m) c ⟨n, h⟩ h0) (ix2 r s)).trans ((pay2_apply _ _ _ r s).trans (congrArg₂ (· + ·) ?_ (piece m c ⟨n, h⟩ r s R C hR hC _ _ rfl rfl)))
      rw [step ⟨n, h⟩ h0]
      exact ih (n - 1) (by omega) _ r s R C (hR.trans (congrArg (fun z => 2080 * z + r.val) hs.1)) (hC.trans (congrArg (fun z => 2048 * z + s.val) hs.2))

/-- A block is written back after its last step. -/
theorem at_last (t : Fin (cfgM m (ok m)).N) (hf : ((cfgM m (ok m)).win 2).flush t = true) : (grid0.coords t 2).val = 13 := by
  by_contra hk
  obtain ⟨h, hz⟩ := next t hk
  exact absurd ((kept_2 m (ok m) ⟨t.val + 1, h⟩ hz).symm.trans hf) Bool.false_ne_true

theorem nblk_0 : ((cfgM m (ok m)).win 2).nblk (0 : Fin 2) = 4 := show (8320 + 2080 - 1) / 2080 = 4 by decide
theorem nblk_1 : ((cfgM m (ok m)).win 2).nblk (1 : Fin 2) = 2 := show (4096 + 2048 - 1) / 2048 = 2 by decide
/-- The blocks written back cover the result. -/
theorem covers : ((cfgM m (ok m)).win 2).Covers :=
  Pipeline.Window.covers_of_indexMap_surj _ rfl (show ∀ a : Fin 2, 0 < S2080x2048.size a by decide) fun β => by
    let i : grid0.Coords := fun a => match a with
      | ⟨0, _⟩ => ⟨(β (0 : Fin 2)).val, (β (0 : Fin 2)).isLt.trans_eq (nblk_0 m)⟩
      | ⟨1, _⟩ => ⟨(β (1 : Fin 2)).val, (β (1 : Fin 2)).isLt.trans_eq (nblk_1 m)⟩
      | ⟨2, _⟩ => ⟨13, show 13 < 14 by decide⟩
    refine ⟨i, fun a => ?_⟩
    refine (congrFun (ix_2 m i) a).trans ?_
    match a with
    | ⟨0, _⟩ => rfl
    | ⟨1, _⟩ => rfl

/-- The product of the rows with the weights. -/
def prod (x0 : S8320x14336.Idx → EReal) (x1 : S1x14336x4096.Idx → EReal) : S8320x4096.Idx → EReal := fun i =>
  ∑ k : Fin 14336, x0 (ix2 (i 0) k) * x1 (ix3 0 k (i 1))

/-- The result is that function of the arguments. -/
theorem final (c : Dev nD) : (dats m (ok m) 0 c).arrAt 2 (cfgM m (ok m)).N
    = prod (m ((c.tc : Thread nD τ).loc main_arg0)) (m ((c.tc : Thread nD τ).loc main_arg1)) := by
  rw [← V_main_arg0 m c, ← V_main_arg1 m c]
  refine (dats m (ok m) 0 c).arrAt_eq_of_covers 2 (prod (V m c main_arg0) (V m c main_arg1)) (covers m) fun t hf y => ?_
  blk_simp
  rw [after0_2]
  have hy : ∀ y : S2080x2048.Idx, acc m (ok m) c t.val t.isLt y
      = prod (V m c main_arg0) (V m c main_arg1) (((((cfgM m (ok m)).win 2).blk t).view.emb y : S8320x4096.Idx)) := by
    intro y
    idx_vars y
    have h0 : (((((cfgM m (ok m)).win 2).blk t).view.emb (ix2 y0 y1) : S8320x4096.Idx) (0 : Fin 2)).val = 2080 * (grid0.coords t 0).val + y0.val := by
      blk_simp
      exact (congrArg (fun z => z * 2080 + y0.val) (congrFun (ix_2 m (grid0.coords t)) 0)).trans (show (grid0.coords t 0).val * 2080 + y0.val = _ by omega)
    have h1 : (((((cfgM m (ok m)).win 2).blk t).view.emb (ix2 y0 y1) : S8320x4096.Idx) (1 : Fin 2)).val = 2048 * (grid0.coords t 1).val + y1.val := by
      blk_simp
      exact (congrArg (fun z => z * 2048 + y1.val) (congrFun (ix_2 m (grid0.coords t)) 1)).trans (show (grid0.coords t 1).val * 2048 + y1.val = _ by omega)
    refine (acc_apply m c t.val t.isLt y0 y1 _ _ h0 h1).trans ?_
    rw [show (grid0.coords ⟨t.val, t.isLt⟩ 2).val = 13 from at_last m t hf]
    exact (Finset.sum_range _).trans (Finset.sum_congr rfl fun k _ => dif_pos k.isLt)
  exact hy y

/-- The reference's product v2, at an index. -/
theorem ref_dot (x : S8320x14336.Idx → EReal) (w : S1x14336x4096.Idx → EReal) (i : S8320x4096.Idx) :
    Cert.DownRefIdeal.Read.val_main_v2 (F := Ideal) x w i = ∑ k : Fin 14336, x (ix2 (i 0) k) * w (ix3 0 k (i 1)) := by
  refine (Cert.DownRefIdeal.Read.val_main_v2_apply x w i).trans (Finset.sum_congr rfl fun k _ => congrArg₂ (· * ·) (congrArg x ?_) ?_)
  · funext a
    match a with
    | ⟨0, _⟩ => rfl
    | ⟨1, _⟩ => rfl
  · rw [Cert.DownRefIdeal.Read.val_main_v1_apply]
    refine congrArg w (funext fun a => Fin.ext ?_)
    have h0 : k.val < 14336 := k.isLt
    have h1 : (i 1).val < 4096 := (i 1).isLt
    match a with
    | ⟨0, _⟩ => rfl
    | ⟨1, _⟩ => show (k.val * 4096 + (i 1).val) / 4096 % 14336 = k.val; omega
    | ⟨2, _⟩ => show (k.val * 4096 + (i 1).val) % 4096 = (i 1).val; omega

/-- The reference's result is the same function. -/
theorem ref_eq (x0 : S8320x14336.Idx → EReal) (x1 : S1x14336x4096.Idx → EReal) : Cert.DownRefIdeal.Read.val_main_v2 (F := Ideal) x0 x1 = prod x0 x1 :=
  funext fun i => ref_dot x0 x1 i

end Cert.Proof.Down

end
-- ==== Proof.InEvenRun.lean ====
/- The call on any values: the tables the host builds, the body at one point of the grid, and the whole run. -/
module

public import proofs.«01_k».proof.Proof.Gen.InEven.Launch
public import proofs.«01_k».proof.Proof.Gen.InEven.Skeleton
public import proofs.«01_k».proof.Proof.Gen.InEven.Loops
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Claim
public import Idealize.ShloMosaic.Lib.VecWindow
public import Idealize.ShloMosaic.Lib.WholeRead

@[expose] public section

set_option maxRecDepth 16384

noncomputable section

namespace Cert.Proof.InEven

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InEven Cert.InEven.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! Staging memrefs and bodies at a point. -/

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)

abbrev bodyAt0 (a : (pcfg0 (F := F)).Adm) (t : Fin (cfg0 a).N) : Prog (TpuEff nD τ sig (Elt F) Λ₀ .tc) PUnit :=
  cc0_rg_mm (grid0.coords t) (Memref.whole main_v2) (Memref.isWhole_whole _) (Memref.whole main_v3) (Memref.isWhole_whole _) (Memref.whole main_v4) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2))

/-! @main up to the call. -/

/-- What the host's stretch before the call leaves, -/
abbrev V0 (c : Dev nD) : Valuation τ sig (Elt F) := StableHlo.after hostOps0 (fun b => m (c, b))
/-- read at a buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

set_option maxHeartbeats 800000 in
/-- The program is its first stretch, the call, and the cut that follows. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The cut reads and writes no table. -/
theorem sfx_sub : ∀ ops ∈ ([hostOps1] : List (List (HloOp τ sig (Elt F)))), ∀ op ∈ ops, op.bufs ⊆ Pipeline.tailRefs sig pre0 spec0 := by
  intro ops hops op hop
  obtain rfl := List.mem_singleton.mp hops
  refine Pipeline.sub_tailRefs pre0 spec0 op ((List.forall_iff_forall_mem.mp hostOps1_sub) op hop) ?_
  obtain rfl := List.mem_singleton.mp hop
  intro j
  fin_cases j <;> simp only [StableHlo.unary_bufs, Finset.mem_insert, Finset.mem_singleton, not_or] <;> and_intros <;> exact StableHlo.devRef_ne_of_ne (by decide)
/-- It needs no fresh buffer. -/
theorem sfx_fresh : ∀ ops ∈ ([hostOps1] : List (List (HloOp τ sig (Elt F)))), ∀ op ∈ ops, op.fresh = ∅ := by
  intro ops hops op hop
  obtain rfl := List.mem_singleton.mp hops
  obtain rfl := List.mem_singleton.mp hop
  rfl
/-- It writes no array of the call. -/
theorem sfx_keeps : ∀ ops ∈ ([hostOps1] : List (List (HloOp τ sig (Elt F)))), ∀ op ∈ ops, ∀ w, Proc.devRef .tc (Pipeline.arrRef spec0 w) ∉ op.writes := by
  intro ops hops op hop
  obtain rfl := List.mem_singleton.mp hops
  obtain rfl := List.mem_singleton.mp hop
  intro w
  fin_cases w <;> simp only [StableHlo.unary_writes, Finset.mem_singleton] <;> exact StableHlo.devRef_ne_of_ne (by decide)

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! The tables. -/

def tbl : pre0.Contents (Elt F) := fun j => V m (0 : Dev nD) (pre0.ref j)
theorem V_pre (c : Dev nD) (j : Fin 3) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S4 .i32 := Memref.whole main_v2
abbrev htbM0_0 : tbM0_0.IsWhole := Memref.isWhole_whole _
abbrev tbM0_1 : Memref sig .tc .smem S4 .i32 := Memref.whole main_v3
abbrev htbM0_1 : tbM0_1.IsWhole := Memref.isWhole_whole _
abbrev tbM0_2 : Memref sig .tc .smem S4 .i32 := Memref.whole main_v4
abbrev htbM0_2 : tbM0_2.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! The blocks. -/

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev ms0_0 (hO : Ok m) (t : Fin (cfgM m hO).N) : Memref sig .tc .vmem S2080x4096 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x512x4096 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S2080x512 .f32 := spec0_2.stage ((cfgM m hO).slots t 2)
abbrev hs0_2 (hO : Ok m) (t : Fin (cfgM m hO).N) : (ms0_2 m hO t).IsWhole := hstage0_2 (((cfgM m hO).slots t 2).cast nbuf0_2)

/-! What the tables hold. -/

/-- Every group uses the first weights. -/
theorem tbl_e (i : S4.Idx) : (tbl m 0 : S4.Idx → BitVec 32) i = 0#32 := by
  unfold tbl V V0 hostOps0
  after_results
  all_goals rfl
/-- Group `i` begins at block `i`. -/
theorem tbl_st (i : S4.Idx) : (tbl m 1 : S4.Idx → BitVec 32) i = BitVec.ofNat 32 (i 0).val := by
  unfold tbl V V0 hostOps0
  after_results
  all_goals rfl
/-- Every group has one live block. -/
theorem tbl_nb (i : S4.Idx) : (tbl m 2 : S4.Idx → BitVec 32) i = 1#32 := by
  unfold tbl V V0 hostOps0
  after_results
  all_goals rfl

/-- A word of the first table. -/
theorem at_e (R : Rect S4) (h : R.shape.numel = 1) : (tbl m).at 0 R h = (0#32 : BitVec 32) := tbl_e m _
/-- A word of the second. -/
theorem at_st (R : Rect S4) (h : R.shape.numel = 1) : (tbl m).at 1 R h = BitVec.ofNat 32 (R.emb (Shape.Idx.first (h.symm ▸ Nat.one_pos)) 0).val := tbl_st m _
/-- A word of the third. -/
theorem at_nb (R : Rect S4) (h : R.shape.numel = 1) : (tbl m).at 2 R h = (1#32 : BitVec 32) := tbl_nb m _
/-- The word the body reads. -/
theorem word (i : grid0.Coords) : (tbM0_2.view.readAt (Elt F) (Rect.unit (s := S4) (k0_off1 i) S1.size (k0_off1_inb i)).toLoadRect (tbl m 2) (Shape.Idx.first (numel1_S1.symm ▸ Nat.one_pos))) = (1#32 : BitVec 32) := by
  exact tbl_nb m _
/-- What the body takes for granted of it. -/
theorem chk : k0_chk1 (1#32 : BitVec 32) := by decide +kernel
/-- No piece of the block is cleared. -/
theorem trips1 : (k0_t1_loop (1#32 : BitVec 32)).trips = 0 := by decide +kernel
theorem trips2 : (k0_t2_loop (1#32 : BitVec 32)).trips = 0 := by decide +kernel
/-- Where window 0's block lies at a point of the grid. -/
theorem ix_0 (i : grid0.Coords) : cc0_transform_0 k0_off1_inb numel1_S1 (tbl m) i = ![(i 0).val, 0] := by
  funext a
  match a with
  | ⟨0, _⟩ => exact (congrArg BitVec.toNat (at_st m _ _)).trans (show (BitVec.ofNat 32 ((BitVec.ofNat 32 (i 0).val).toNat + 1 * 0)).toNat = (i 0).val by revert i; decide +kernel)
  | ⟨1, _⟩ => exact rfl
/-- Where window 1's block lies at a point of the grid. -/
theorem ix_1 (i : grid0.Coords) : cc0_transform_1 k0_off1_inb numel1_S1 (tbl m) i = ![0, (i 1).val, 0] := by
  funext a
  match a with
  | ⟨0, _⟩ => exact congrArg BitVec.toNat (at_e m _ _)
  | ⟨1, _⟩ => exact (congrArg (fun w : BitVec 32 => ((Scalar.addi (0#32) (Scalar.select (Scalar.cmpi .sgt w (0#32)) (BitVec.ofNat 32 (i 1).val) (26#32))) : BitVec 32).toNat) (at_nb m _ _)).trans (show ((Scalar.addi (0#32) (Scalar.select (Scalar.cmpi .sgt 1#32 (0#32)) (BitVec.ofNat 32 (i 1).val) (26#32))) : BitVec 32).toNat = (i 1).val by revert i; decide +kernel)
  | ⟨2, _⟩ => exact rfl
/-- Where window 2's block lies at a point of the grid. -/
theorem ix_2 (i : grid0.Coords) : cc0_transform_2 k0_off1_inb numel1_S1 (tbl m) i = ![(i 0).val, (i 1).val] := by
  funext a
  match a with
  | ⟨0, _⟩ => exact (show (BitVec.ofNat 32 (i 0).val).toNat = (i 0).val by revert i; decide +kernel)
  | ⟨1, _⟩ => exact (show (BitVec.ofNat 32 (i 1).val).toNat = (i 1).val by revert i; decide +kernel)
/-- Every block lies inside its array, and its transfers are of whole words. -/
theorem ok : Ok m :=
  ⟨fun i => by rw [ix_0 m i]; revert i; decide +kernel, fun i => by rw [ix_1 m i]; revert i; decide +kernel, fun i => by rw [ix_2 m i]; revert i; decide +kernel⟩

set_option maxHeartbeats 1000000 in
/-- The body at a live block: the inputs stay, and each output is the product the body computes from them. -/
theorem body_run (c : Dev nD) (i : grid0.Coords) (arg5 : Memref sig .tc .vmem S2080x4096 .bf16) (harg5 : arg5.IsWhole) (arg6 : Memref sig .tc .vmem S1x512x4096 .f32) (harg6 : arg6.IsWhole) (arg7 : Memref sig .tc .vmem S2080x512 .f32) (harg7 : arg7.IsWhole)
    (x0 : Vec F S2080x4096 .bf16) (x1 : Vec F S1x512x4096 .f32) (xt0 : TbBuf0 (F := F) c tbM0_0) (xt1 : TbBuf0 (F := F) c tbM0_1) (xt2 : TbBuf0 (F := F) c tbM0_2)
    (hw : (tbM0_2.view.readAt (Elt F) (Rect.unit (s := S4) (k0_off1 i) S1.size (k0_off1_inb i)).toLoadRect xt2 (Shape.Idx.first (numel1_S1.symm ▸ Nat.one_pos))) = (1#32 : BitVec 32)) :
      ∀ (E : Set ℕ) (K : PUnit → sProp 𝕄),
        iprop(owns (c : Thread nD τ) arg5 fullShare x0 ∗ owns (c : Thread nD τ) arg6 fullShare x1 ∗ (∃ d, owns (c : Thread nD τ) arg7 fullShare d) ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare (k0_pay1 x0 x1) ∗ tbPt0 c tbM0_0 xt0 ∗ tbPt0 c tbM0_1 xt1 ∗ tbPt0 c tbM0_2 xt2) -∗ K ⟨⟩))
          ⊢ wp frame (wpE (defs₀ (F := F)) Variants.none c none) E (cc0_rg_mm i tbM0_0 htbM0_0 tbM0_1 htbM0_1 tbM0_2 htbM0_2 arg5 harg5 arg6 harg6 arg7 harg7) K := by
  intro E K
  have hc : (Scalar.cmpi .ne (Scalar.extui (Scalar.cmpi .sgt (tbM0_2.view.readAt (Elt F) (Rect.unit (s := S4) (k0_off1 i) S1.size (k0_off1_inb i)).toLoadRect xt2 (Shape.Idx.first (numel1_S1.symm ▸ Nat.one_pos))) 0#32) : BitVec 32) 0#32 : BitVec 1) = 1#1 := by rw [hw]; decide
  have hk : k0_chk1 (tbM0_2.view.readAt (Elt F) (Rect.unit (s := S4) (k0_off1 i) S1.size (k0_off1_inb i)).toLoadRect xt2 (Shape.Idx.first (numel1_S1.symm ▸ Nat.one_pos))) := by rw [hw]; exact chk
  have h1 : (k0_t1_loop (tbM0_2.view.readAt (Elt F) (Rect.unit (s := S4) (k0_off1 i) S1.size (k0_off1_inb i)).toLoadRect xt2 (Shape.Idx.first (numel1_S1.symm ▸ Nat.one_pos)))).trips = 0 := by rw [hw]; exact trips1
  have h2 : (k0_t2_loop (tbM0_2.view.readAt (Elt F) (Rect.unit (s := S4) (k0_off1 i) S1.size (k0_off1_inb i)).toLoadRect xt2 (Shape.Idx.first (numel1_S1.symm ▸ Nat.one_pos)))).trips = 0 := by rw [hw]; exact trips2
  simp only [cc0_rg_mm_eq_skeleton]; unfold cc0_rg_mm_skel
  unfold owns
  iintro ⟨⟨%f0, %hf0, H0⟩, ⟨%f1, %hf1, H1⟩, ⟨%d2, %f2, -, H2⟩, HT0, HT1, HT2, Hk⟩
  obtain rfl := harg5.eq_unread hf0; obtain rfl := harg6.eq_unread hf1
  sl_exec (disch := first | sl_exact hc | sl_exact hk)
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; swap; · iexact H2
    ipureintro
    rw [show Scf.trips (k0_t2_loop (body_run.sl.r c i xt2)).lb (k0_t2_loop (body_run.sl.r c i xt2)).ub (k0_t2_loop (body_run.sl.r c i xt2)).st = 0 from h2,
      show Scf.trips (k0_t1_loop (body_run.sl.r c i xt2)).lb (k0_t1_loop (body_run.sl.r c i xt2)).ub (k0_t1_loop (body_run.sl.r c i xt2)).st = 0 from h1]
    refine (View.read_writes_full _ _ _ _ _).trans ?_
    exact congr (congrArg k0_pay1 ((View.readAt_full _ _ _).trans (harg5.read_unread _))) ((View.readAt_full _ _ _).trans (harg6.read_unread _))
  isplitl [HT0]; · iexact HT0
  isplitl [HT1]; · iexact HT1
  iexact HT2

/-! The run. -/

/-- What the pipeline works with: the arrays at the call, each input's block, each output's block as the body computes it. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => k0_pay1 (F := F) (iblk m hO c 0 t) (iblk m hO c 1 t)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = k0_pay1 (F := F) (iblk m hO c 0 t) (iblk m hO c 1 t) := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d

/-- What the body finds at a point, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d)) ∗ (∃ d, owns (c : Thread nD τ) (ms0_1 m hO t) fullShare ((dats m hO 0 c).before 1 t d)) ∗ (∃ d, owns (c : Thread nD τ) (ms0_2 m hO t) fullShare ((dats m hO 0 c).before 2 t d)))
/-- and what it leaves. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t) ∗ owns (c : Thread nD τ) (ms0_1 m hO t) fullShare ((dats m hO 0 c).after 1 t) ∗ owns (c : Thread nD τ) (ms0_2 m hO t) fullShare ((dats m hO 0 c).after 2 t))

set_option maxHeartbeats 800000 in
/-- The body meets its part at every point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1]
  rw [show (dats m hO 0 c).Φ t.succ = (dats m hO 0 c).Φ t.castSucc from rfl,
    show (dats m hO 0 c).owesAt () t.succ = (dats m hO 0 c).owesAt () t.castSucc from rfl,
    after0_0, after0_1, after0_2]
  rw [show (dats m hO 0 c).Φ t.castSucc = iprop(Pipeline.ΦA spec0 c ∗ Pipeline.ΦT pre0 (tbl m) c) from rfl, PhiT0_eq]
  iintro ⟨⟨HΦ, ⟨HT0, HT1, HT2⟩⟩, Ho, ⟨%d0, H0⟩, ⟨%d1, H1⟩, ⟨%d2, H2⟩⟩
  iapply ((body_run c (grid0.coords t) _ _ _ _ _ _ (iblk m hO c 0 t) (iblk m hO c 1 t) (tbl m 0) (tbl m 1) (tbl m 2) (word m (grid0.coords t))) Set.univ _)
  isplitl [H0]; · iexact H0
  isplitl [H1]; · iexact H1
  isplitl [H2]; · iexists _; iexact H2
  isplitl [HT0]; · iexact HT0
  isplitl [HT1]; · iexact HT1
  isplitl [HT2]; · iexact HT2
  iintro ⟨H0, H1, H2, HT0, HT1, HT2⟩
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  iexact H2

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

set_option backward.isDefEq.respectTransparency.types false in
set_option maxHeartbeats 800000 in
/-- Every run ends, its arrays as the body's blocks fill them, the other buffers as the cut leaves them, every counter at zero. -/
theorem run_main (hO : Ok m) : θ_run defs (onTc (τ := τ) (main (F := F))) (s₀ m ρ) (fun r => Pipeline.FramePost (Pipeline.pin pcfgs fun _ => adm m hO) (dats m hO) (0 : Fin 1)
      (Pipeline.afterTail pcfgs (fun _ => adm m hO) (dats m hO) 0 (V0 m) [hostOps1]) r ∧ r.2.sem = fun _ => 0) :=
  Pipeline.θ_run_frameP_around (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hΦ := fun _ _ => rfl)

/-- The weights end as they were: neither stretch of the host writes them and they are no array of the call. -/
theorem W_main_arg1 (hO : Ok m) (c : Dev nD) :
    Pipeline.afterTail pcfgs (fun _ => adm m hO) (dats m hO) 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.unary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- The padded result the blocks fill. -/
def padded (hO : Ok m) (c : Dev nD) : S8320x13824.Idx → F .f32 := (dats m hO 0 c).arrAt 2 (cfgM m hO).N

/-- The result is the padded one cut back. -/
theorem W_main_v6 (hO : Ok m) (c : Dev nD) :
    Pipeline.afterTail pcfgs (fun _ => adm m hO) (dats m hO) 0 (V0 m) [hostOps1] c main_v6
      = extractStridedSlice S8320x13408 ![0, 0] (padded m hO c) slices_S8320x13824_S8320x13408_0_0 := by
  refine Eq.trans (b := extractStridedSlice S8320x13408 ![0, 0] (Pipeline.withArrays spec0 c (V0 m c) (fun w => (dats m hO 0 c).arrAt w (cfgM m hO).N) (Proc.devRef .tc main_v5) : S8320x13824.Idx → F .f32) slices_S8320x13824_S8320x13408_0_0) ?_ ?_
  · unfold Pipeline.afterTail hostOps1
    simp only [List.flatten_cons, List.flatten_nil, List.append_nil]
    after_results
    all_goals rfl
  exact congrArg (fun x : S8320x13824.Idx → F .f32 => extractStridedSlice S8320x13408 ![0, 0] x slices_S8320x13824_S8320x13408_0_0)
    (Pipeline.withArrays_arr spec0 (launch0 (F := F)).win.arr_inj c (V0 m c) _ 2)

/-- The run with its result: the padded result cut back, and the arguments end as they were. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ (∀ c : Dev nD, r.2.mem ((c.tc : Thread nD τ).loc main_v6)
        = extractStridedSlice S8320x13408 ![0, 0] (padded m (ok m) c) slices_S8320x13824_S8320x13408_0_0)
      ∧ r.2.sem = fun _ => 0) :=
  (θ_run defs _ _).mono (fun _ h => ⟨fun c => ⟨((h.1 c).1 0).trans (((dats m (ok m) 0 c).arrAt_in 0 rfl _).trans ((A_eq m (ok m) c 0).trans (V_main_arg0 m c))),
      ((h.1 c).2 main_arg1 (by decide : main_arg1 ∈ Pipeline.restRefs sig spec0)).trans (W_main_arg1 m (ok m) c)⟩,
    fun c => ((h.1 c).2 main_v6 (by decide : main_v6 ∈ Pipeline.restRefs sig spec0)).trans (W_main_v6 m (ok m) c), h.2⟩) (run_main m ρ (ok m))

/-- The frame: every run ends, the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨h.1, h.2.2⟩) (run m ρ)

end Cert.Proof.InEven

end
-- ==== Proof.InEvenValue.lean ====
/- The projection's result, index by index, and its reference's. -/
module

public import proofs.«01_k».proof.Proof.InEvenRun
public import proofs.«01_k».proof.Proof.Gen.InEvenRefIdeal.Read
public import Idealize.ShloMosaic.Lib.Pointwise
public import Idealize.ShloMosaic.Lib.Pipeline.Value
public import Idealize.ShloMosaic.Lib.Pipeline.ValueKit
public import Idealize.ShloMosaic.Lib.Pipeline.Covers
public import Idealize.ShloMosaic.Lib.IdealHost
public import Idealize.ShloMosaic.Lib.KernelVsHost
public import Idealize.ShloMosaic.PureOps.Ideal.Laws

@[expose] public section

set_option maxRecDepth 16384

noncomputable section

namespace Cert.Proof.InEven

open Idealize.ShloMosaic Idealize.ShloMosaic.TcCoe Idealize.SL.Sem Cert.InEven Cert.InEven.Gen

/-- One block of the result, at an index. -/
theorem pay_apply (x0 : Vec Ideal S2080x4096 .bf16) (x1 : Vec Ideal S1x512x4096 .f32) (r : Fin 2080) (n : Fin 512) :
    k0_pay1 (F := Ideal) x0 x1 (ix2 r n) = ∑ k : Fin 4096, x0 (ix2 r k) * x1 (ix3 0 n k) := by
  unfold k0_pay1
  pointwise [dot_S2080x4096_S512x4096_S2080x512_1_1_0_0_n_n]

variable (m : (ℓ : Loc nD τ sig) → Buf (Elt Ideal) ℓ) (ρ : Dev nD → PrngReg)

/-- Block 0 holds the rows of its array from 2080 times its row index on. -/
theorem blk_0 (c : Dev nD) (t : Fin (cfgM m (ok m)).N) (r : Fin 2080) (k : Fin 4096) (R : Fin 8320) (hR : R.val = 2080 * (grid0.coords t 0).val + r.val) :
    (iblk m (ok m) c 0 t : Vec Ideal S2080x4096 .bf16) (ix2 r k) = V m c main_arg0 (ix2 R k) := by
  blk_simp [iblk]
  refine congrArg (V m c main_arg0) ?_
  blk_ext
  · exact (congrArg (fun z => z * 2080 + r.val) (congrFun (ix_0 m (grid0.coords t)) 0)).trans (show (grid0.coords t 0).val * 2080 + r.val = R.val by omega)
  · exact (congrArg (fun z => z * 4096 + k.val) (congrFun (ix_0 m (grid0.coords t)) 1)).trans (show 0 * 4096 + k.val = k.val by omega)

/-- The weights the call reads, transposed and padded, at an index within the weights. -/
theorem wt_apply (c : Dev nD) (k : Fin 4096) (C : Fin 13824) (D : Fin 13408) (hD : D.val = C.val) :
    (V m c main_v1 : S1x13824x4096.Idx → EReal) (ix3 0 C k) = (m ((c.tc : Thread nD τ).loc main_arg1) : S1x4096x13408.Idx → EReal) (ix3 0 k D) := by
  have h : (V m c main_v1 : S1x13824x4096.Idx → EReal) = pad S1x13824x4096 ![0, 0, 0] ![0, 416, 0] ![0, 0, 0]
      (transpose S1x13408x4096 [0, 2, 1] (m ((c.tc : Thread nD τ).loc main_arg1) : S1x4096x13408.Idx → EReal) transposes_S1x4096x13408_S1x13408x4096_0_2_1)
      (constant (F := Ideal) S_ .f32 0x00000000#32) pads_S1x13408x4096_S1x13824x4096_000_04160_000 h_S_ := by
    unfold V V0 hostOps0
    after_results
    all_goals rfl
  rw [h]
  refine (pad_apply_of_inside ![0, 0, 0] ![0, 416, 0] ![0, 0, 0] _ _ _ _ (ix3 (0 : Fin 1) C k : S1x13824x4096.Idx) (ix3 (0 : Fin 1) D k : S1x13408x4096.Idx) fun a => ?_).trans ?_
  · match a with
    | ⟨0, _⟩ => rfl
    | ⟨1, _⟩ => show C.val = 0 + D.val * (0 + 1); omega
    | ⟨2, _⟩ => show k.val = 0 + k.val * (0 + 1); omega
  · unfold transpose
    refine congrArg (m ((c.tc : Thread nD τ).loc main_arg1) : S1x4096x13408.Idx → EReal) (funext fun a => ?_)
    match a with
    | ⟨0, _⟩ => rfl
    | ⟨1, _⟩ => rfl
    | ⟨2, _⟩ => rfl

/-- Block 1 holds the rows of the transposed weights from 512 times its column index on. -/
theorem blk_1 (c : Dev nD) (t : Fin (cfgM m (ok m)).N) (k : Fin 4096) (n : Fin 512) (C : Fin 13824) (hC : C.val = 512 * (grid0.coords t 1).val + n.val) :
    (iblk m (ok m) c 1 t : Vec Ideal S1x512x4096 .f32) (ix3 0 n k) = V m c main_v1 (ix3 0 C k) := by
  blk_simp [iblk]
  refine congrArg (V m c main_v1) ?_
  blk_ext
  · exact congrArg (fun z => z + 0) (congrFun (ix_1 m (grid0.coords t)) 0)
  · exact (congrArg (fun z => z * 512 + n.val) (congrFun (ix_1 m (grid0.coords t)) 1)).trans (show (grid0.coords t 1).val * 512 + n.val = C.val by omega)
  · exact (congrArg (fun z => z * 4096 + k.val) (congrFun (ix_1 m (grid0.coords t)) 2)).trans (show 0 * 4096 + k.val = k.val by omega)

theorem nblk_0 : ((cfgM m (ok m)).win 2).nblk (0 : Fin 2) = 4 := show (8320 + 2080 - 1) / 2080 = 4 by decide
theorem nblk_1 : ((cfgM m (ok m)).win 2).nblk (1 : Fin 2) = 27 := show (13824 + 512 - 1) / 512 = 27 by decide
/-- The blocks written back cover the result. -/
theorem covers : ((cfgM m (ok m)).win 2).Covers :=
  Pipeline.Window.covers_of_indexMap_surj _ rfl (show ∀ a : Fin 2, 0 < S2080x512.size a by decide) fun β => by
    let i : grid0.Coords := fun a => match a with
      | ⟨0, _⟩ => ⟨(β (0 : Fin 2)).val, (β (0 : Fin 2)).isLt.trans_eq (nblk_0 m)⟩
      | ⟨1, _⟩ => ⟨(β (1 : Fin 2)).val, (β (1 : Fin 2)).isLt.trans_eq (nblk_1 m)⟩
    refine ⟨i, fun a => ?_⟩
    refine (congrFun (ix_2 m i) a).trans ?_
    match a with
    | ⟨0, _⟩ => rfl
    | ⟨1, _⟩ => rfl

/-- The product of the rows with the weights. -/
def prod (x0 : S8320x4096.Idx → EReal) (x1 : S1x4096x13408.Idx → EReal) : S8320x13408.Idx → EReal := fun i =>
  ∑ k : Fin 4096, x0 (ix2 (i 0) k) * x1 (ix3 0 k (i 1))

/-- The product of the rows with the transposed, padded weights. -/
def wide (x0 : S8320x4096.Idx → EReal) (x1 : S1x13824x4096.Idx → EReal) : S8320x13824.Idx → EReal := fun i =>
  ∑ k : Fin 4096, x0 (ix2 (i 0) k) * x1 (ix3 0 (i 1) k)

/-- The blocks fill the padded result with that product. -/
theorem filled (c : Dev nD) : padded m (ok m) c = wide (V m c main_arg0) (V m c main_v1) := by
  refine (dats m (ok m) 0 c).arrAt_eq_of_covers 2 (wide (V m c main_arg0) (V m c main_v1)) (covers m) fun t hf y => ?_
  blk_simp
  rw [after0_2]
  have hy : ∀ y : S2080x512.Idx, k0_pay1 (F := Ideal) (iblk m (ok m) c 0 t) (iblk m (ok m) c 1 t) y
      = wide (V m c main_arg0) (V m c main_v1) (((((cfgM m (ok m)).win 2).blk t).view.emb y : S8320x13824.Idx)) := by
    intro y
    idx_vars y
    have h0 : (((((cfgM m (ok m)).win 2).blk t).view.emb (ix2 y0 y1) : S8320x13824.Idx) (0 : Fin 2)).val = 2080 * (grid0.coords t 0).val + y0.val := by
      blk_simp
      exact (congrArg (fun z => z * 2080 + y0.val) (congrFun (ix_2 m (grid0.coords t)) 0)).trans (show (grid0.coords t 0).val * 2080 + y0.val = _ by omega)
    have h1 : (((((cfgM m (ok m)).win 2).blk t).view.emb (ix2 y0 y1) : S8320x13824.Idx) (1 : Fin 2)).val = 512 * (grid0.coords t 1).val + y1.val := by
      blk_simp
      exact (congrArg (fun z => z * 512 + y1.val) (congrFun (ix_2 m (grid0.coords t)) 1)).trans (show (grid0.coords t 1).val * 512 + y1.val = _ by omega)
    exact (pay_apply _ _ y0 y1).trans (Finset.sum_congr rfl fun k _ => congrArg₂ (· * ·) (blk_0 m c t y0 k _ h0) (blk_1 m c t k y1 _ h1))
  exact hy y

/-- The result is the product of the arguments. -/
theorem final (c : Dev nD) : extractStridedSlice S8320x13408 ![0, 0] (padded m (ok m) c) slices_S8320x13824_S8320x13408_0_0
    = prod (m ((c.tc : Thread nD τ).loc main_arg0)) (m ((c.tc : Thread nD τ).loc main_arg1)) := by
  rw [filled]
  funext i
  have hi : (i 1).val < 13824 := lt_trans (i 1).isLt (by decide)
  have hs : extractStridedSlice S8320x13408 ![0, 0] (wide (V m c main_arg0) (V m c main_v1)) slices_S8320x13824_S8320x13408_0_0 i
      = wide (V m c main_arg0) (V m c main_v1) (ix2 (i 0) ⟨(i 1).val, hi⟩) := by
    unfold extractStridedSlice
    refine congrArg (wide (V m c main_arg0) (V m c main_v1)) (funext fun a => Fin.ext ?_)
    match a with
    | ⟨0, _⟩ => exact Nat.zero_add _
    | ⟨1, _⟩ => exact Nat.zero_add _
  rw [hs, V_main_arg0 m c]
  exact Finset.sum_congr rfl fun k _ => congrArg₂ (fun a b : EReal => a * b) rfl (wt_apply m c k ⟨(i 1).val, hi⟩ (i 1) rfl)

/-- The reference's product v2, at an index. -/
theorem ref_dot (x : S8320x4096.Idx → EReal) (w : S1x4096x13408.Idx → EReal) (i : S8320x13408.Idx) :
    Cert.InEvenRefIdeal.Read.val_main_v2 (F := Ideal) x w i = ∑ k : Fin 4096, x (ix2 (i 0) k) * w (ix3 0 k (i 1)) := by
  refine (Cert.InEvenRefIdeal.Read.val_main_v2_apply x w i).trans (Finset.sum_congr rfl fun k _ => congrArg₂ (· * ·) (congrArg x ?_) ?_)
  · funext a
    match a with
    | ⟨0, _⟩ => rfl
    | ⟨1, _⟩ => rfl
  · rw [Cert.InEvenRefIdeal.Read.val_main_v1_apply]
    refine congrArg w (funext fun a => Fin.ext ?_)
    have h0 : k.val < 4096 := k.isLt
    have h1 : (i 1).val < 13408 := (i 1).isLt
    match a with
    | ⟨0, _⟩ => rfl
    | ⟨1, _⟩ => show (k.val * 13408 + (i 1).val) / 13408 % 4096 = k.val; omega
    | ⟨2, _⟩ => show (k.val * 13408 + (i 1).val) % 13408 = (i 1).val; omega

/-- The reference's result is the same function. -/
theorem ref_eq (x0 : S8320x4096.Idx → EReal) (x1 : S1x4096x13408.Idx → EReal) : Cert.InEvenRefIdeal.Read.val_main_v2 (F := Ideal) x0 x1 = prod x0 x1 :=
  funext fun i => ref_dot x0 x1 i

end Cert.Proof.InEven

end
-- ==== Proof.DsaVValue.lean ====
/- The value columns' copy: what its blocks hold, its result, index by index, and its reference's. -/
module

public import proofs.«01_k».proof.Proof.Gen.DsaV.Frame
public import proofs.«01_k».proof.Proof.Gen.DsaVIdeal.Frame
public import proofs.«01_k».proof.Proof.Gen.DsaVRefIdeal.Read
public import Idealize.ShloMosaic.Lib.Pointwise
public import Idealize.ShloMosaic.Lib.VecWindow
public import Idealize.ShloMosaic.Lib.WholeRead
public import Idealize.ShloMosaic.Lib.Pipeline.Value
public import Idealize.ShloMosaic.Lib.Pipeline.ValueKit
public import Idealize.ShloMosaic.Lib.Pipeline.Covers
public import Idealize.ShloMosaic.PureOps.Ideal.Laws

@[expose] public section

set_option maxRecDepth 16384

noncomputable section

namespace Cert.Proof.DsaV

open Idealize.ShloMosaic Idealize.ShloMosaic.TcCoe Idealize.SL.Sem Cert.DsaVIdeal Cert.DsaVIdeal.Gen

theorem ix_0 (i : grid0.Coords) : cc0_transform_0 i = ![(i 0).val, 21] := by
  have h : (i 0).val < 40 := (i 0).isLt
  funext a
  match a with
  | ⟨0, _⟩ => exact Nat.mod_eq_of_lt (show (i 0).val < 2 ^ 32 by omega)
  | ⟨1, _⟩ => rfl
theorem ix_1 (i : grid0.Coords) : cc0_transform_1 i = ![(i 0).val, 0] := by
  have h : (i 0).val < 40 := (i 0).isLt
  funext a
  match a with
  | ⟨0, _⟩ => exact Nat.mod_eq_of_lt (show (i 0).val < 2 ^ 32 by omega)
  | ⟨1, _⟩ => rfl

variable (m : (ℓ : Loc nD τ sig) → Buf (Elt Ideal) ℓ) (ρ : Dev nD → PrngReg)

/-- The input's block holds the rows of its array from 208 times the point on, and its columns from 10752 on. -/
theorem blk_0 (c : Dev nD) (t : Fin cfg0.N) (r : Fin 208) (k : Fin 512) (R : Fin 8320) (C : Fin 13408)
    (hR : R.val = 208 * (grid0.coords t 0).val + r.val) (hC : C.val = 10752 + k.val) :
    (X0_0 m c t : S208x512.Idx → EReal) (ix2 r k) = V m c main_arg0 (ix2 R C) := by
  unfold X0_0 Pipeline.Window.fill
  rw [dif_pos (moved0_0 t _)]
  blk_simp [iblk]
  refine congrArg (V m c main_arg0) ?_
  blk_ext
  · exact (congrArg (fun z => z * 208 + r.val) (congrFun (ix_0 (grid0.coords t)) 0)).trans (show (grid0.coords t 0).val * 208 + r.val = R.val by omega)
  · exact (congrArg (fun z => z * 512 + k.val) (congrFun (ix_0 (grid0.coords t)) 1)).trans (show 21 * 512 + k.val = C.val by omega)

/-- One point's block of the result is the input's. -/
theorem out_eq (c : Dev nD) (t : Fin cfg0.N) : (outsAt0 m c t).1 = X0_0 m c t := by
  unfold outsAt0 out0_A_1 kernelRun0_A
  dsimp only
  refine (View.read_writes_full _ _ _ _ _).trans ?_
  exact (View.readAt_full _ _ _).trans ((hs0_0 t).read_unread _)

theorem nblk_0 : (cfg0.win 1).nblk (0 : Fin 2) = 40 := show (8320 + 208 - 1) / 208 = 40 by decide
theorem nblk_1 : (cfg0.win 1).nblk (1 : Fin 2) = 1 := show (512 + 512 - 1) / 512 = 1 by decide
/-- The blocks written back cover the result. -/
theorem covers : (cfg0.win 1).Covers :=
  Pipeline.Window.covers_of_indexMap_surj _ rfl (show ∀ a : Fin 2, 0 < S208x512.size a by decide) fun β => by
    let i : grid0.Coords := fun a => match a with
      | ⟨0, _⟩ => ⟨(β (0 : Fin 2)).val, (β (0 : Fin 2)).isLt.trans_eq nblk_0⟩
    refine ⟨i, fun a => ?_⟩
    refine (congrFun (ix_1 i) a).trans ?_
    match a with
    | ⟨0, _⟩ => rfl
    | ⟨1, _⟩ => exact (Nat.lt_one_iff.mp ((β (1 : Fin 2)).isLt.trans_eq nblk_1)).symm

/-- The value columns. -/
def cols (x0 : S8320x13408.Idx → EReal) : S8320x512.Idx → EReal := fun i =>
  x0 (ix2 (i 0) ⟨10752 + (i 1).val, by have h : (i 1).val < 512 := (i 1).isLt; omega⟩)

/-- The result is the value columns of the argument. -/
theorem final (c : Dev nD) : (dats m 0 c).arrAt 1 cfg0.N = cols (m ((c.tc : Thread nD τ).loc main_arg0)) := by
  rw [← V_main_arg0 m c]
  refine (dats m 0 c).arrAt_eq_of_covers 1 (cols (V m c main_arg0)) covers fun t hf y => ?_
  blk_simp
  rw [after0_1, out_eq]
  have hy : ∀ y : S208x512.Idx, (X0_0 m c t : S208x512.Idx → EReal) y
      = cols (V m c main_arg0) ((((cfg0.win 1).blk t).view.emb y : S8320x512.Idx)) := by
    intro y
    idx_vars y
    have h0 : ((((cfg0.win 1).blk t).view.emb (ix2 y0 y1) : S8320x512.Idx) (0 : Fin 2)).val = 208 * (grid0.coords t 0).val + y0.val := by
      blk_simp
      exact (congrArg (fun z => z * 208 + y0.val) (congrFun (ix_1 (grid0.coords t)) 0)).trans (show (grid0.coords t 0).val * 208 + y0.val = _ by omega)
    have h1 : ((((cfg0.win 1).blk t).view.emb (ix2 y0 y1) : S8320x512.Idx) (1 : Fin 2)).val = y1.val := by
      blk_simp
      exact (congrArg (fun z => z * 512 + y1.val) (congrFun (ix_1 (grid0.coords t)) 1)).trans (show 0 * 512 + y1.val = _ by omega)
    exact blk_0 m c t y0 y1 _ _ h0 (congrArg (10752 + ·) h1)
  exact hy y

/-- The reference's result is the same function. -/
theorem ref_eq (x0 : S8320x13408.Idx → EReal) : Cert.DsaVRefIdeal.Read.val_main_v0 (F := Ideal) x0 = cols x0 :=
  funext fun i => by
    rw [Cert.DsaVRefIdeal.Read.val_main_v0_apply]
    refine congrArg x0 (funext fun a => ?_)
    match a with
    | ⟨0, _⟩ => rfl
    | ⟨1, _⟩ => rfl

end Cert.Proof.DsaV

end
-- ==== Proof.DsaKValue.lean ====
/- The key columns' rotation: what its blocks and tables hold, its result, index by index, and its reference's. -/
module

public import proofs.«01_k».proof.Proof.Gen.DsaK.Frame
public import proofs.«01_k».proof.Proof.Gen.DsaKIdeal.Frame
public import proofs.«01_k».proof.Proof.Gen.DsaKRefIdeal.Read
public import Idealize.ShloMosaic.Lib.Pointwise
public import Idealize.ShloMosaic.Lib.VecWindow
public import Idealize.ShloMosaic.Lib.WholeRead
public import Idealize.ShloMosaic.Lib.KernelVsHost
public import Idealize.ShloMosaic.Lib.Pipeline.Value
public import Idealize.ShloMosaic.Lib.Pipeline.ValueKit
public import Idealize.ShloMosaic.Lib.Pipeline.Covers
public import Idealize.ShloMosaic.Lib.IdealHost
public import Idealize.ShloMosaic.PureOps.Ideal.Laws

@[expose] public section

set_option maxRecDepth 16384

noncomputable section

namespace Cert.Proof.DsaK

open Idealize.ShloMosaic Idealize.ShloMosaic.TcCoe Idealize.SL.Sem Cert.DsaKIdeal Cert.DsaKIdeal.Gen

theorem ix_0 (i : grid0.Coords) : cc0_transform_0 i = ![(i 0).val, 20] := by
  have h : (i 0).val < 40 := (i 0).isLt
  have h1 : (i 1).val = 0 := Nat.lt_one_iff.mp (i 1).isLt
  funext a
  match a with
  | ⟨0, _⟩ => exact Nat.mod_eq_of_lt (show (i 0).val < 2 ^ 32 by omega)
  | ⟨1, _⟩ => show (Scalar.addi (20#32) (BitVec.ofNat 32 (i 1).val) : BitVec 32).toNat = 20; rw [h1]; rfl
theorem ix_t (i : grid0.Coords) : (![(BitVec.ofNat 32 (i 0).val).toNat, (0#32 : BitVec 32).toNat] : Fin 2 → Nat) = ![(i 0).val, 0] := by
  have h : (i 0).val < 40 := (i 0).isLt
  funext a
  match a with
  | ⟨0, _⟩ => exact Nat.mod_eq_of_lt (show (i 0).val < 2 ^ 32 by omega)
  | ⟨1, _⟩ => rfl
theorem ix_4 (i : grid0.Coords) : cc0_transform_4 i = ![(i 0).val, 0] := by
  have h : (i 0).val < 40 := (i 0).isLt
  have h1 : (i 1).val = 0 := Nat.lt_one_iff.mp (i 1).isLt
  funext a
  match a with
  | ⟨0, _⟩ => exact Nat.mod_eq_of_lt (show (i 0).val < 2 ^ 32 by omega)
  | ⟨1, _⟩ => show (BitVec.ofNat 32 (i 1).val).toNat = 0; rw [h1]; rfl

/-! The function both compute. -/

/-- A key column of row `R`, counted around the key columns' end. -/
def col (x : S8320x13408.Idx → EReal) (R : Fin 8320) (j : ℕ) : EReal := x (ix2 R ⟨10240 + j % 512, by omega⟩)
/-- An angle's cosine or sine in row `R`, counted around the table's end. -/
def tab (t : S8320x16.Idx → EReal) (R : Fin 8320) (j : ℕ) : EReal := t (ix2 R ⟨j % 16, by omega⟩)

/-- In each head the first sixteen columns and the next sixteen are turned by the row's angles, and the rest stay. -/
def rot (x : S8320x13408.Idx → EReal) (co si : S8320x16.Idx → EReal) (R : Fin 8320) (C : ℕ) : EReal :=
  if C % 128 < 16 then col x R C * tab co R C - col x R (C + 16) * tab si R C
  else if C % 128 < 32 then col x R C * tab co R C + col x R (C - 16) * tab si R C
  else col x R C

/-! The call's blocks. -/

theorem cat4 (v : FVec Ideal S208x128 .f32) (r : Fin 208) (n : Fin 512) :
    concatenate S208x512 1 [⟨S208x128, v⟩, ⟨S208x128, v⟩, ⟨S208x128, v⟩, ⟨S208x128, v⟩] concatenates_S208x128_S208x128_S208x128_S208x128_S208x512_d1 (ix2 r n)
      = v (ix2 r ⟨n.val % 128, by omega⟩) :=
  concatenate_replicate_apply (t := S208x512) (s₁ := S208x128) 1 4 v concatenates_S208x128_S208x128_S208x128_S208x128_S208x512_d1 rfl (ix2 r n) (ix2 r ⟨n.val % 128, by omega⟩) rfl
    (fun b hb => by
      match b with
      | ⟨0, _⟩ => rfl
      | ⟨1, _⟩ => exact absurd rfl hb)

theorem up (v : FVec Ideal S208x512 .f32) (r : Fin 208) (n : Fin 512) :
    dynamicRotate 1 496#32 none v rotates_S208x512_d1 (ix2 r n) = v (ix2 r ⟨(n.val + 16) % 512, by omega⟩) :=
  dynamicRotate_apply (s := S208x512) 1 496#32 v rotates_S208x512_d1 (ix2 r n) (ix2 r ⟨(n.val + 16) % 512, by omega⟩) fun b => by
    match b with
    | ⟨0, _⟩ => rfl
    | ⟨1, _⟩ => show (n.val + 16) % 512 = (n.val + 512 - 496 % 512) % 512; omega

theorem down (v : FVec Ideal S208x512 .f32) (r : Fin 208) (n : Fin 512) :
    dynamicRotate 1 16#32 none v rotates_S208x512_d1 (ix2 r n) = v (ix2 r ⟨(n.val + 496) % 512, by omega⟩) :=
  dynamicRotate_apply (s := S208x512) 1 16#32 v rotates_S208x512_d1 (ix2 r n) (ix2 r ⟨(n.val + 496) % 512, by omega⟩) fun b => by
    match b with
    | ⟨0, _⟩ => rfl
    | ⟨1, _⟩ => show (n.val + 496) % 512 = (n.val + 512 - 16 % 512) % 512; omega

/-- One block of the result, at an index. -/
theorem pay_apply (v0 : Vec Ideal S208x512 .f32) (v1 v3 v5 : Vec Ideal S208x128 .f32) (r : Fin 208) (n : Fin 512) :
    (k0_pay1 (F := Ideal) v0 v1 v3 v5 (ix2 r n) : EReal) = v0 (ix2 r n) * v1 (ix2 r ⟨n.val % 128, by omega⟩)
      + v0 (ix2 r ⟨(n.val + 16) % 512, by omega⟩) * v3 (ix2 r ⟨n.val % 128, by omega⟩)
      + v0 (ix2 r ⟨(n.val + 496) % 512, by omega⟩) * v5 (ix2 r ⟨n.val % 128, by omega⟩) := by
  have hs : ∀ v : FVec Ideal S208x128 .f32, shapeCast S208x128 v shapeCasts_S208x128_S208x128 = v := fun v =>
    funext fun j => shapeCast_apply v shapeCasts_S208x128_S208x128 j j rfl
  unfold k0_pay1
  rw [hs, hs, hs]
  exact congrArg₂ (fun a b : EReal => a + b)
    (congrArg₂ (fun a b : EReal => a + b) (congrArg (fun b : EReal => v0 (ix2 r n) * b) (cat4 v1 r n))
      (congrArg₂ (fun a b : EReal => a * b) (up v0 r n) (cat4 v3 r n)))
    (congrArg₂ (fun a b : EReal => a * b) (down v0 r n) (cat4 v5 r n))

/-! The tables. -/

/-- The two sixteens and the rest of a table, at an index. -/
theorem cat3 (a b : S8320x16.Idx → EReal) (d : S8320x96.Idx → EReal) (z : EReal) (hd : ∀ j, d j = z) (R : Fin 8320) (l : Fin 128) :
    concatenate S8320x128 1 [⟨S8320x16, a⟩, ⟨S8320x16, b⟩, ⟨S8320x96, d⟩] concatenates_S8320x16_S8320x16_S8320x96_S8320x128_d1 (ix2 R l)
      = if l.val < 16 then tab a R l.val else if l.val < 32 then tab b R l.val else z := by
  by_cases h : l.val < 16
  · rw [if_pos h]
    exact concatenate_apply_piece (t := S8320x128) 1 [⟨S8320x16, a⟩, ⟨S8320x16, b⟩, ⟨S8320x96, d⟩] concatenates_S8320x16_S8320x16_S8320x96_S8320x128_d1 (ix2 R l)
      0 (show 0 < 3 by decide) S8320x16 a rfl rfl 0 rfl (ix2 R ⟨l.val % 16, by omega⟩) (fun b hb => by
        match b with
        | ⟨0, _⟩ => rfl
        | ⟨1, _⟩ => exact absurd rfl hb) (show 0 + l.val % 16 = l.val by omega)
  · rw [if_neg h]
    by_cases h2 : l.val < 32
    · rw [if_pos h2]
      exact concatenate_apply_piece (t := S8320x128) 1 [⟨S8320x16, a⟩, ⟨S8320x16, b⟩, ⟨S8320x96, d⟩] concatenates_S8320x16_S8320x16_S8320x96_S8320x128_d1 (ix2 R l)
        1 (show 1 < 3 by decide) S8320x16 b rfl rfl 16 rfl (ix2 R ⟨l.val % 16, by omega⟩) (fun b hb => by
          match b with
          | ⟨0, _⟩ => rfl
          | ⟨1, _⟩ => exact absurd rfl hb) (show 16 + l.val % 16 = l.val by omega)
    · rw [if_neg h2]
      have hl : l.val < 128 := l.isLt
      exact (concatenate_apply_piece (t := S8320x128) 1 [⟨S8320x16, a⟩, ⟨S8320x16, b⟩, ⟨S8320x96, d⟩] concatenates_S8320x16_S8320x16_S8320x96_S8320x128_d1 (ix2 R l)
        2 (show 2 < 3 by decide) S8320x96 d rfl rfl 32 rfl (ix2 R ⟨l.val - 32, by omega⟩) (fun b hb => by
          match b with
          | ⟨0, _⟩ => rfl
          | ⟨1, _⟩ => exact absurd rfl hb) (show 32 + (l.val - 32) = l.val by omega)).trans (hd _)

/-- A table laid out and back is the table. -/
theorem relay (y : S8320x128.Idx → EReal) (R : Fin 8320) (l : Fin 128) :
    shapeCast S8320x128 (broadcastInDim S1x8320x1x128 ![0, 1, 2, 3] bcast_S1x8320x1x128_S1x8320x1x128_0_1_2_3
      (shapeCast S1x8320x1x128 y shapeCasts_S8320x128_S1x8320x1x128)) shapeCasts_S1x8320x1x128_S8320x128 (ix2 R l) = y (ix2 R l) := by
  refine (shapeCast_apply _ shapeCasts_S1x8320x1x128_S8320x128 (ix2 R l) (ix4 (0 : Fin 1) R (0 : Fin 1) l : S1x8320x1x128.Idx) ?_).trans ?_
  · rw [Shape.rowMajor_val_four, Shape.rowMajor_val_two]
    show ((0 * 8320 + R.val) * 1 + 0) * 128 + l.val = R.val * 128 + l.val; omega
  refine (broadcastInDim_apply ![0, 1, 2, 3] bcast_S1x8320x1x128_S1x8320x1x128_0_1_2_3 _ _ (ix4 (0 : Fin 1) R (0 : Fin 1) l : S1x8320x1x128.Idx) fun a => ?_).trans ?_
  · match a with
    | ⟨0, _⟩ => rfl
    | ⟨1, _⟩ => rfl
    | ⟨2, _⟩ => rfl
    | ⟨3, _⟩ => rfl
  refine shapeCast_apply y shapeCasts_S8320x128_S1x8320x1x128 _ (ix2 R l) ?_
  rw [Shape.rowMajor_val_four, Shape.rowMajor_val_two]
  show R.val * 128 + l.val = ((0 * 8320 + R.val) * 1 + 0) * 128 + l.val; omega

variable (m : (ℓ : Loc nD τ sig) → Buf (Elt Ideal) ℓ) (ρ : Dev nD → PrngReg)

/-- The rows' cosines, -/
abbrev co (c : Dev nD) : S8320x16.Idx → EReal := Cert.DsaKRefIdeal.Read.val_main_v14 (F := Ideal) (m ((c.tc : Thread nD τ).loc main_arg1))
/-- and their sines. -/
abbrev si (c : Dev nD) : S8320x16.Idx → EReal := Cert.DsaKRefIdeal.Read.val_main_v16 (F := Ideal) (m ((c.tc : Thread nD τ).loc main_arg1))

theorem zero_16 (j : S8320x16.Idx) : (broadcastInDim S8320x16 ![] bcast_S_S8320x16 (constant (F := Ideal) S_ .f32 0x00000000#32) : S8320x16.Idx → EReal) j = 0 :=
  Ideal.ofBits_zero_f32
theorem zero_96 (j : S8320x96.Idx) : (broadcastInDim S8320x96 ![] bcast_S_S8320x96 (constant (F := Ideal) S_ .f32 0x00000000#32) : S8320x96.Idx → EReal) j = 0 :=
  Ideal.ofBits_zero_f32
theorem one_96 (j : S8320x96.Idx) : (broadcastInDim S8320x96 ![] bcast_S_S8320x96 (constant (F := Ideal) S_ .f32 0x3F800000#32) : S8320x96.Idx → EReal) j = 1 :=
  Ideal.ofBits_one_f32

/-- The table of factors that stay in place, -/
theorem tab_c (c : Dev nD) (R : Fin 8320) (l : Fin 128) :
    (V m c main_v23 : S8320x128.Idx → EReal) (ix2 R l) = if l.val < 16 then tab (co m c) R l.val else if l.val < 32 then tab (co m c) R l.val else 1 := by
  have h : (V m c main_v23 : S8320x128.Idx → EReal) = shapeCast S8320x128 (broadcastInDim S1x8320x1x128 ![0, 1, 2, 3] bcast_S1x8320x1x128_S1x8320x1x128_0_1_2_3
      (shapeCast S1x8320x1x128 (concatenate S8320x128 1 [⟨S8320x16, co m c⟩, ⟨S8320x16, co m c⟩, ⟨S8320x96, broadcastInDim S8320x96 ![] bcast_S_S8320x96 (constant (F := Ideal) S_ .f32 0x3F800000#32)⟩]
        concatenates_S8320x16_S8320x16_S8320x96_S8320x128_d1) shapeCasts_S8320x128_S1x8320x1x128)) shapeCasts_S1x8320x1x128_S8320x128 := by
    unfold V hostOps0
    after_results
    all_goals rfl
  rw [h, relay]
  exact cat3 _ _ _ 1 one_96 R l

/-- of factors of the columns sixteen on, -/
theorem tab_u (c : Dev nD) (R : Fin 8320) (l : Fin 128) :
    (V m c main_v26 : S8320x128.Idx → EReal) (ix2 R l) = if l.val < 16 then - tab (si m c) R l.val else 0 := by
  have h : (V m c main_v26 : S8320x128.Idx → EReal) = shapeCast S8320x128 (broadcastInDim S1x8320x1x128 ![0, 1, 2, 3] bcast_S1x8320x1x128_S1x8320x1x128_0_1_2_3
      (shapeCast S1x8320x1x128 (concatenate S8320x128 1 [⟨S8320x16, (fun j => - si m c j : S8320x16.Idx → EReal)⟩, ⟨S8320x16, broadcastInDim S8320x16 ![] bcast_S_S8320x16 (constant (F := Ideal) S_ .f32 0x00000000#32)⟩, ⟨S8320x96, broadcastInDim S8320x96 ![] bcast_S_S8320x96 (constant (F := Ideal) S_ .f32 0x00000000#32)⟩]
        concatenates_S8320x16_S8320x16_S8320x96_S8320x128_d1) shapeCasts_S8320x128_S1x8320x1x128)) shapeCasts_S1x8320x1x128_S8320x128 := by
    unfold V hostOps0
    after_results
    all_goals rfl
  rw [h, relay]
  refine (cat3 _ _ _ 0 zero_96 R l).trans ?_
  by_cases h1 : l.val < 16
  · rw [if_pos h1, if_pos h1]; rfl
  · rw [if_neg h1, if_neg h1]
    split_ifs
    · exact zero_16 _
    · rfl

/-- and of the columns sixteen back. -/
theorem tab_d (c : Dev nD) (R : Fin 8320) (l : Fin 128) :
    (V m c main_v29 : S8320x128.Idx → EReal) (ix2 R l) = if l.val < 16 then 0 else if l.val < 32 then tab (si m c) R l.val else 0 := by
  have h : (V m c main_v29 : S8320x128.Idx → EReal) = shapeCast S8320x128 (broadcastInDim S1x8320x1x128 ![0, 1, 2, 3] bcast_S1x8320x1x128_S1x8320x1x128_0_1_2_3
      (shapeCast S1x8320x1x128 (concatenate S8320x128 1 [⟨S8320x16, broadcastInDim S8320x16 ![] bcast_S_S8320x16 (constant (F := Ideal) S_ .f32 0x00000000#32)⟩, ⟨S8320x16, si m c⟩, ⟨S8320x96, broadcastInDim S8320x96 ![] bcast_S_S8320x96 (constant (F := Ideal) S_ .f32 0x00000000#32)⟩]
        concatenates_S8320x16_S8320x16_S8320x96_S8320x128_d1) shapeCasts_S8320x128_S1x8320x1x128)) shapeCasts_S1x8320x1x128_S8320x128 := by
    unfold V hostOps0
    after_results
    all_goals rfl
  rw [h, relay]
  refine (cat3 _ _ _ 0 zero_96 R l).trans ?_
  by_cases h1 : l.val < 16
  · rw [if_pos h1, if_pos h1]; exact zero_16 _
  · rw [if_neg h1, if_neg h1]

/-! The blocks. -/

/-- The input's block holds the rows of its array from 208 times the point on, and its columns from 10240 on. -/
theorem blk_0 (c : Dev nD) (t : Fin cfg0.N) (r : Fin 208) (k : Fin 512) (R : Fin 8320) (j : ℕ)
    (hR : R.val = 208 * (grid0.coords t 0).val + r.val) (hj : j % 512 = k.val) :
    (X0_0 m c t : S208x512.Idx → EReal) (ix2 r k) = col (V m c main_arg0) R j := by
  unfold X0_0 Pipeline.Window.fill
  rw [dif_pos (moved0_0 t _)]
  blk_simp [iblk]
  refine congrArg (V m c main_arg0) ?_
  blk_ext
  · exact (congrArg (fun z => z * 208 + r.val) (congrFun (ix_0 (grid0.coords t)) 0)).trans (show (grid0.coords t 0).val * 208 + r.val = R.val by omega)
  · exact (congrArg (fun z => z * 512 + k.val) (congrFun (ix_0 (grid0.coords t)) 1)).trans (show 20 * 512 + k.val = 10240 + j % 512 by omega)
/-- A table's block holds its rows from 208 times the point on. -/
theorem blk_1 (c : Dev nD) (t : Fin cfg0.N) (r : Fin 208) (l : Fin 128) (R : Fin 8320) (hR : R.val = 208 * (grid0.coords t 0).val + r.val) :
    (iblk m c 1 t : S208x128.Idx → EReal) (ix2 r l) = V m c main_v23 (ix2 R l) := by
  blk_simp [iblk]
  refine congrArg (V m c main_v23) ?_
  blk_ext
  · exact (congrArg (fun z => z * 208 + r.val) (congrFun (ix_t (grid0.coords t)) 0)).trans (show (grid0.coords t 0).val * 208 + r.val = R.val by omega)
  · exact show 0 * 128 + l.val = l.val by omega
theorem blk_2 (c : Dev nD) (t : Fin cfg0.N) (r : Fin 208) (l : Fin 128) (R : Fin 8320) (hR : R.val = 208 * (grid0.coords t 0).val + r.val) :
    (iblk m c 2 t : S208x128.Idx → EReal) (ix2 r l) = V m c main_v26 (ix2 R l) := by
  blk_simp [iblk]
  refine congrArg (V m c main_v26) ?_
  blk_ext
  · exact (congrArg (fun z => z * 208 + r.val) (congrFun (ix_t (grid0.coords t)) 0)).trans (show (grid0.coords t 0).val * 208 + r.val = R.val by omega)
  · exact show 0 * 128 + l.val = l.val by omega
theorem blk_3 (c : Dev nD) (t : Fin cfg0.N) (r : Fin 208) (l : Fin 128) (R : Fin 8320) (hR : R.val = 208 * (grid0.coords t 0).val + r.val) :
    (iblk m c 3 t : S208x128.Idx → EReal) (ix2 r l) = V m c main_v29 (ix2 R l) := by
  blk_simp [iblk]
  refine congrArg (V m c main_v29) ?_
  blk_ext
  · exact (congrArg (fun z => z * 208 + r.val) (congrFun (ix_t (grid0.coords t)) 0)).trans (show (grid0.coords t 0).val * 208 + r.val = R.val by omega)
  · exact show 0 * 128 + l.val = l.val by omega

/-- One point's block of the result, from the blocks it reads. -/
theorem out_eq (c : Dev nD) (t : Fin cfg0.N) : (outsAt0 m c t).1 = k0_pay1 (F := Ideal) (X0_0 m c t) (iblk m c 1 t) (iblk m c 2 t) (iblk m c 3 t) := by
  unfold outsAt0 out0_A_4 kernelRun0_A
  dsimp only
  refine (View.read_writes_full _ _ _ _ _).trans ?_
  exact congr (congr (congr (congrArg k0_pay1 ((View.readAt_full _ _ _).trans ((hs0_0 t).read_unread _)))
    ((View.readAt_full _ _ _).trans ((hs0_1 t).read_unread _))) ((View.readAt_full _ _ _).trans ((hs0_2 t).read_unread _)))
    ((View.readAt_full _ _ _).trans ((hs0_3 t).read_unread _))

/-- The three products' sum is the turned column. -/
theorem sum_eq (x : S8320x13408.Idx → EReal) (co si : S8320x16.Idx → EReal) (R : Fin 8320) (n : ℕ) (hn : n < 512) :
    col x R n * (if n % 128 < 16 then tab co R (n % 128) else if n % 128 < 32 then tab co R (n % 128) else 1)
      + col x R (n + 16) * (if n % 128 < 16 then - tab si R (n % 128) else 0)
      + col x R (n + 496) * (if n % 128 < 16 then 0 else if n % 128 < 32 then tab si R (n % 128) else 0) = rot x co si R n := by
  have ht : ∀ t : S8320x16.Idx → EReal, tab t R (n % 128) = tab t R n := fun t =>
    congrArg (fun k => t (ix2 R k)) (Fin.ext (show n % 128 % 16 = n % 16 by omega))
  unfold rot
  rw [ht, ht]
  by_cases h : n % 128 < 16
  · simp only [if_pos h]
    rw [mul_zero, add_zero, mul_neg, sub_eq_add_neg]
  · simp only [if_neg h]
    by_cases h2 : n % 128 < 32
    · simp only [if_pos h2]
      have hc : col x R (n + 496) = col x R (n - 16) := congrArg (fun k => x (ix2 R k)) (Fin.ext (show 10240 + (n + 496) % 512 = 10240 + (n - 16) % 512 by omega))
      rw [mul_zero, add_zero, hc]
    · simp only [if_neg h2]
      rw [mul_zero, mul_zero, add_zero, add_zero, mul_one]

theorem nblk_0 : (cfg0.win 4).nblk (0 : Fin 2) = 40 := show (8320 + 208 - 1) / 208 = 40 by decide
theorem nblk_1 : (cfg0.win 4).nblk (1 : Fin 2) = 1 := show (512 + 512 - 1) / 512 = 1 by decide
/-- The blocks written back cover the result. -/
theorem covers : (cfg0.win 4).Covers :=
  Pipeline.Window.covers_of_indexMap_surj _ rfl (show ∀ a : Fin 2, 0 < S208x512.size a by decide) fun β => by
    let i : grid0.Coords := fun a => match a with
      | ⟨0, _⟩ => ⟨(β (0 : Fin 2)).val, (β (0 : Fin 2)).isLt.trans_eq nblk_0⟩
      | ⟨1, _⟩ => ⟨0, Nat.one_pos⟩
    refine ⟨i, fun a => ?_⟩
    refine (congrFun (ix_4 i) a).trans ?_
    match a with
    | ⟨0, _⟩ => rfl
    | ⟨1, _⟩ => exact (Nat.lt_one_iff.mp ((β (1 : Fin 2)).isLt.trans_eq nblk_1)).symm

/-- The turned key columns. -/
def turned (x : S8320x13408.Idx → EReal) (co si : S8320x16.Idx → EReal) : S8320x512.Idx → EReal := fun i => rot x co si (i 0) (i 1).val

/-- The result is the turned key columns of the argument. -/
theorem final (c : Dev nD) : (dats m 0 c).arrAt 4 cfg0.N = turned (m ((c.tc : Thread nD τ).loc main_arg0)) (co m c) (si m c) := by
  rw [← V_main_arg0 m c]
  refine (dats m 0 c).arrAt_eq_of_covers 4 (turned (V m c main_arg0) (co m c) (si m c)) covers fun t hf y => ?_
  blk_simp
  rw [after0_4, out_eq]
  have hy : ∀ y : S208x512.Idx, (k0_pay1 (F := Ideal) (X0_0 m c t) (iblk m c 1 t) (iblk m c 2 t) (iblk m c 3 t) y : EReal)
      = turned (V m c main_arg0) (co m c) (si m c) ((((cfg0.win 4).blk t).view.emb y : S8320x512.Idx)) := by
    intro y
    idx_vars y
    have h0 : ((((cfg0.win 4).blk t).view.emb (ix2 y0 y1) : S8320x512.Idx) (0 : Fin 2)).val = 208 * (grid0.coords t 0).val + y0.val := by
      blk_simp
      exact (congrArg (fun z => z * 208 + y0.val) (congrFun (ix_4 (grid0.coords t)) 0)).trans (show (grid0.coords t 0).val * 208 + y0.val = _ by omega)
    have h1 : ((((cfg0.win 4).blk t).view.emb (ix2 y0 y1) : S8320x512.Idx) (1 : Fin 2)).val = y1.val := by
      blk_simp
      exact (congrArg (fun z => z * 512 + y1.val) (congrFun (ix_4 (grid0.coords t)) 1)).trans (show 0 * 512 + y1.val = _ by omega)
    refine Eq.trans ?_ (congrArg (rot (V m c main_arg0) (co m c) (si m c) _) h1.symm)
    refine (pay_apply _ _ _ _ y0 y1).trans (Eq.trans ?_ (sum_eq (V m c main_arg0) (co m c) (si m c) _ y1.val y1.isLt))
    have e := y1.isLt
    exact congrArg₂ (fun a b : EReal => a + b)
      (congrArg₂ (fun a b : EReal => a + b)
        (congrArg₂ (fun a b : EReal => a * b) (blk_0 m c t y0 y1 _ y1.val h0 (by omega)) ((blk_1 m c t y0 _ _ h0).trans (tab_c m c _ _)))
        (congrArg₂ (fun a b : EReal => a * b) (blk_0 m c t y0 _ _ (y1.val + 16) h0 rfl) ((blk_2 m c t y0 _ _ h0).trans (tab_u m c _ _))))
      (congrArg₂ (fun a b : EReal => a * b) (blk_0 m c t y0 _ _ (y1.val + 496) h0 rfl) ((blk_3 m c t y0 _ _ h0).trans (tab_d m c _ _)))
  exact hy y

/-! The reference. -/

open Cert.DsaKRefIdeal.Read

/-- The key columns by head, at an index. -/
theorem ref_x (x0 : S8320x13408.Idx → EReal) (R : Fin 8320) (h : Fin 4) (e : Fin 128) (C : ℕ) (hC : C = 128 * h.val + e.val) :
    val_main_v1 (F := Ideal) x0 (ix3 R h e) = col x0 R C := by
  subst hC
  rw [val_main_v1_apply, val_main_v0_apply]
  have hh : h.val < 4 := h.isLt
  have he : e.val < 128 := e.isLt
  refine congrArg x0 (funext fun a => Fin.ext ?_)
  match a with
  | ⟨0, _⟩ => show ((R.val * 4 + h.val) * 128 + e.val) / 512 = R.val; omega
  | ⟨1, _⟩ => show 10240 + ((R.val * 4 + h.val) * 128 + e.val) % 512 = 10240 + (128 * h.val + e.val) % 512; omega
/-- The first sixteen of a head, -/
theorem ref_x1 (x0 : S8320x13408.Idx → EReal) (R : Fin 8320) (h : Fin 4) (k : Fin 16) (C : ℕ) (hC : C = 128 * h.val + k.val) :
    val_main_v18 (F := Ideal) x0 (ix3 R h k) = col x0 R C := by
  rw [val_main_v18_apply]
  have hk : k.val < 16 := k.isLt
  refine Eq.trans (congrArg (val_main_v1 (F := Ideal) x0) (funext fun a => ?_)) (ref_x x0 R h ⟨k.val, by omega⟩ C hC)
  match a with
  | ⟨0, _⟩ => rfl
  | ⟨1, _⟩ => rfl
  | ⟨2, _⟩ => rfl
/-- the next sixteen, -/
theorem ref_x2 (x0 : S8320x13408.Idx → EReal) (R : Fin 8320) (h : Fin 4) (k : Fin 16) (C : ℕ) (hC : C = 128 * h.val + 16 + k.val) :
    val_main_v19 (F := Ideal) x0 (ix3 R h k) = col x0 R C := by
  rw [val_main_v19_apply]
  have hk : k.val < 16 := k.isLt
  refine Eq.trans (congrArg (val_main_v1 (F := Ideal) x0) (funext fun a => ?_)) (ref_x x0 R h ⟨16 + k.val, by omega⟩ C (by show C = 128 * h.val + (16 + k.val); omega))
  match a with
  | ⟨0, _⟩ => rfl
  | ⟨1, _⟩ => rfl
  | ⟨2, _⟩ => rfl
/-- and the rest. -/
theorem ref_x3 (x0 : S8320x13408.Idx → EReal) (R : Fin 8320) (h : Fin 4) (k : Fin 96) (C : ℕ) (hC : C = 128 * h.val + 32 + k.val) :
    val_main_v30 (F := Ideal) x0 (ix3 R h k) = col x0 R C := by
  rw [val_main_v30_apply]
  have hk : k.val < 96 := k.isLt
  refine Eq.trans (congrArg (val_main_v1 (F := Ideal) x0) (funext fun a => ?_)) (ref_x x0 R h ⟨32 + k.val, by omega⟩ C (by show C = 128 * h.val + (32 + k.val); omega))
  match a with
  | ⟨0, _⟩ => rfl
  | ⟨1, _⟩ => rfl
  | ⟨2, _⟩ => rfl

variable (x1 : (⟨S8320, .i32⟩ : BufTy).Contents (Elt Ideal))

/-- Every head has the row's cosines -/
theorem ref_co (R : Fin 8320) (h : Fin 4) (k : Fin 16) (C : ℕ) (hC : C % 16 = k.val) :
    val_main_v20 (F := Ideal) x1 (ix3 R h k) = tab (val_main_v14 (F := Ideal) x1) R C := by
  rw [val_main_v20_apply, val_main_v15_apply]
  refine congrArg (val_main_v14 (F := Ideal) x1) (funext fun a => Fin.ext ?_)
  match a with
  | ⟨0, _⟩ => rfl
  | ⟨1, _⟩ => exact hC.symm
/-- and sines. -/
theorem ref_si (R : Fin 8320) (h : Fin 4) (k : Fin 16) (C : ℕ) (hC : C % 16 = k.val) :
    val_main_v22 (F := Ideal) x1 (ix3 R h k) = tab (val_main_v16 (F := Ideal) x1) R C := by
  rw [val_main_v22_apply, val_main_v17_apply]
  refine congrArg (val_main_v16 (F := Ideal) x1) (funext fun a => Fin.ext ?_)
  match a with
  | ⟨0, _⟩ => rfl
  | ⟨1, _⟩ => exact hC.symm

/-- A head's three parts side by side, at an index. -/
theorem ref_rot (x0 : S8320x13408.Idx → EReal) (R : Fin 8320) (h : Fin 4) (e : Fin 128) (C : ℕ) (hC : C = 128 * h.val + e.val) :
    val_main_v31 (F := Ideal) x0 x1 (ix3 R h e) = rot x0 (val_main_v14 (F := Ideal) x1) (val_main_v16 (F := Ideal) x1) R C := by
  have he : e.val < 128 := e.isLt
  unfold val_main_v31 rot
  by_cases h1 : e.val < 16
  · rw [if_pos (show C % 128 < 16 by omega)]
    refine (concatenate_apply_piece (t := Cert.DsaKRefIdeal.S8320x4x128) 2 [⟨Cert.DsaKRefIdeal.S8320x4x16, val_main_v24 (F := Ideal) x0 x1⟩, ⟨Cert.DsaKRefIdeal.S8320x4x16, val_main_v29 (F := Ideal) x0 x1⟩, ⟨Cert.DsaKRefIdeal.S8320x4x96, val_main_v30 (F := Ideal) x0⟩] Cert.DsaKRefIdeal.Gen.concatenates_S8320x4x16_S8320x4x16_S8320x4x96_S8320x4x128_d2 (ix3 R h e)
      0 (show 0 < 3 by decide) Cert.DsaKRefIdeal.S8320x4x16 (val_main_v24 (F := Ideal) x0 x1) rfl rfl 0 rfl (ix3 R h ⟨e.val, h1⟩) (fun b hb => by
        match b with
        | ⟨0, _⟩ => rfl
        | ⟨1, _⟩ => rfl
        | ⟨2, _⟩ => exact absurd rfl hb) (show 0 + e.val = e.val by omega)).trans ?_
    exact congrArg₂ (fun a b : EReal => a - b)
      (congrArg₂ (fun a b : EReal => a * b) (ref_x1 x0 R h ⟨e.val, h1⟩ C hC) (ref_co x1 R h ⟨e.val, h1⟩ C (show C % 16 = e.val by omega)))
      (congrArg₂ (fun a b : EReal => a * b) (ref_x2 x0 R h ⟨e.val, h1⟩ (C + 16) (show C + 16 = 128 * h.val + 16 + e.val by omega)) (ref_si x1 R h ⟨e.val, h1⟩ C (show C % 16 = e.val by omega)))
  · rw [if_neg (show ¬ C % 128 < 16 by omega)]
    by_cases h2 : e.val < 32
    · rw [if_pos (show C % 128 < 32 by omega)]
      refine (concatenate_apply_piece (t := Cert.DsaKRefIdeal.S8320x4x128) 2 [⟨Cert.DsaKRefIdeal.S8320x4x16, val_main_v24 (F := Ideal) x0 x1⟩, ⟨Cert.DsaKRefIdeal.S8320x4x16, val_main_v29 (F := Ideal) x0 x1⟩, ⟨Cert.DsaKRefIdeal.S8320x4x96, val_main_v30 (F := Ideal) x0⟩] Cert.DsaKRefIdeal.Gen.concatenates_S8320x4x16_S8320x4x16_S8320x4x96_S8320x4x128_d2 (ix3 R h e)
        1 (show 1 < 3 by decide) Cert.DsaKRefIdeal.S8320x4x16 (val_main_v29 (F := Ideal) x0 x1) rfl rfl 16 rfl (ix3 R h ⟨e.val - 16, by omega⟩) (fun b hb => by
          match b with
          | ⟨0, _⟩ => rfl
          | ⟨1, _⟩ => rfl
          | ⟨2, _⟩ => exact absurd rfl hb) (show 16 + (e.val - 16) = e.val by omega)).trans ?_
      exact congrArg₂ (fun a b : EReal => a + b)
        (congrArg₂ (fun a b : EReal => a * b) (ref_x2 x0 R h ⟨e.val - 16, by omega⟩ C (show C = 128 * h.val + 16 + (e.val - 16) by omega)) (ref_co x1 R h ⟨e.val - 16, by omega⟩ C (show C % 16 = e.val - 16 by omega)))
        (congrArg₂ (fun a b : EReal => a * b) (ref_x1 x0 R h ⟨e.val - 16, by omega⟩ (C - 16) (show C - 16 = 128 * h.val + (e.val - 16) by omega)) (ref_si x1 R h ⟨e.val - 16, by omega⟩ C (show C % 16 = e.val - 16 by omega)))
    · rw [if_neg (show ¬ C % 128 < 32 by omega)]
      exact (concatenate_apply_piece (t := Cert.DsaKRefIdeal.S8320x4x128) 2 [⟨Cert.DsaKRefIdeal.S8320x4x16, val_main_v24 (F := Ideal) x0 x1⟩, ⟨Cert.DsaKRefIdeal.S8320x4x16, val_main_v29 (F := Ideal) x0 x1⟩, ⟨Cert.DsaKRefIdeal.S8320x4x96, val_main_v30 (F := Ideal) x0⟩] Cert.DsaKRefIdeal.Gen.concatenates_S8320x4x16_S8320x4x16_S8320x4x96_S8320x4x128_d2 (ix3 R h e)
        2 (show 2 < 3 by decide) Cert.DsaKRefIdeal.S8320x4x96 (val_main_v30 (F := Ideal) x0) rfl rfl 32 rfl (ix3 R h ⟨e.val - 32, by omega⟩) (fun b hb => by
          match b with
          | ⟨0, _⟩ => rfl
          | ⟨1, _⟩ => rfl
          | ⟨2, _⟩ => exact absurd rfl hb) (show 32 + (e.val - 32) = e.val by omega)).trans
        (ref_x3 x0 R h ⟨e.val - 32, by omega⟩ C (show C = 128 * h.val + 32 + (e.val - 32) by omega))

/-- The reference's result is the same function. -/
theorem ref_eq (x0 : S8320x13408.Idx → EReal) :
    val_main_v32 (F := Ideal) x0 x1 = turned x0 (val_main_v14 (F := Ideal) x1) (val_main_v16 (F := Ideal) x1) :=
  funext fun i => by
    have h1 : (i 1).val < 512 := (i 1).isLt
    rw [val_main_v32_apply]
    refine (congrArg (val_main_v31 (F := Ideal) x0 x1) (funext fun a => Fin.ext ?_)).trans
      (ref_rot x1 x0 (i 0) ⟨(i 1).val / 128, by omega⟩ ⟨(i 1).val % 128, by omega⟩ (i 1).val (show (i 1).val = 128 * ((i 1).val / 128) + (i 1).val % 128 by omega))
    match a with
    | ⟨0, _⟩ => show ((i 0).val * 512 + (i 1).val) / 512 = (i 0).val; omega
    | ⟨1, _⟩ => show ((i 0).val * 512 + (i 1).val) / 128 % 4 = (i 1).val / 128; omega
    | ⟨2, _⟩ => show ((i 0).val * 512 + (i 1).val) % 128 = (i 1).val % 128; omega

end Cert.Proof.DsaK

end
-- ==== Proof.Same.lean ====
/- Each idealized program whose operations all stand as they were is its program again: what every run of the program
   meets, every run of the idealized one meets. -/
module

public import proofs.«01_k».proof.Proof.SwigluRun
public import proofs.«01_k».proof.Proof.Gen.SwigluIdeal.Launch
public import proofs.«01_k».proof.Proof.InOddRun
public import proofs.«01_k».proof.Proof.Gen.InOddIdeal.Launch
public import proofs.«01_k».proof.Proof.KvNewRun
public import proofs.«01_k».proof.Proof.Gen.KvNewIdeal.Launch
public import proofs.«01_k».proof.Proof.OutProjRun
public import proofs.«01_k».proof.Proof.Gen.OutProjIdeal.Launch
public import proofs.«01_k».proof.Proof.PleRun
public import proofs.«01_k».proof.Proof.Gen.PleIdeal.Launch
public import proofs.«01_k».proof.Proof.MoeSwigluRun
public import proofs.«01_k».proof.Proof.Gen.MoeSwigluIdeal.Launch
public import proofs.«01_k».proof.Proof.DownRun
public import proofs.«01_k».proof.Proof.Gen.DownIdeal.Launch
public import proofs.«01_k».proof.Proof.InEvenRun
public import proofs.«01_k».proof.Proof.Gen.InEvenIdeal.Launch

@[expose] public section

noncomputable section

namespace Cert.Proof.Same

open Idealize.ShloMosaic Idealize.ShloMosaic.TcCoe Idealize.SL.Sem

variable {F : FTy → Type} [FloatOps F]

/-- The two tables of bodies of Swiglu are one. -/
theorem defs_Swiglu : Cert.SwigluIdeal.defs (F := F) = Cert.Swiglu.defs (F := F) := by
  refine congrArg (Pipeline.defs (Cert.SwigluIdeal.pcfgs (F := F))) (congrArg Defs.onTc (funext fun l => funext fun x => ?_))
  match l, x with
  | ⟨0, _⟩, (t, s) => rfl
/-- What every run of Swiglu meets, every run of its idealized program meets. -/
theorem Swiglu (m : (ℓ : Loc Cert.SwigluIdeal.nD Cert.SwigluIdeal.τ Cert.SwigluIdeal.sig) → Buf (Elt F) ℓ) (ρ : Dev Cert.SwigluIdeal.nD → PrngReg) {Q}
    (h : θ_run Cert.Swiglu.defs (onTc (τ := Cert.Swiglu.τ) (Cert.Swiglu.main (F := F))) ⟨m, fun _ => 0, ρ⟩ Q) :
    θ_run Cert.SwigluIdeal.defs (onTc (τ := Cert.SwigluIdeal.τ) (Cert.SwigluIdeal.main (F := F))) ⟨m, fun _ => 0, ρ⟩ Q := by
  rw [defs_Swiglu]
  exact h

/-- The two tables of bodies of InOdd are one. -/
theorem defs_InOdd : Cert.InOddIdeal.defs (F := F) = Cert.InOdd.defs (F := F) := by
  refine congrArg (Pipeline.defs (Cert.InOddIdeal.pcfgs (F := F))) (congrArg Defs.onTc (funext fun l => funext fun x => ?_))
  match l, x with
  | ⟨0, _⟩, (t, s) => rfl
/-- What every run of InOdd meets, every run of its idealized program meets. -/
theorem InOdd (m : (ℓ : Loc Cert.InOddIdeal.nD Cert.InOddIdeal.τ Cert.InOddIdeal.sig) → Buf (Elt F) ℓ) (ρ : Dev Cert.InOddIdeal.nD → PrngReg) {Q}
    (h : θ_run Cert.InOdd.defs (onTc (τ := Cert.InOdd.τ) (Cert.InOdd.main (F := F))) ⟨m, fun _ => 0, ρ⟩ Q) :
    θ_run Cert.InOddIdeal.defs (onTc (τ := Cert.InOddIdeal.τ) (Cert.InOddIdeal.main (F := F))) ⟨m, fun _ => 0, ρ⟩ Q := by
  rw [defs_InOdd]
  exact h

/-- The two tables of bodies of KvNew are one. -/
theorem defs_KvNew : Cert.KvNewIdeal.defs (F := F) = Cert.KvNew.defs (F := F) := by
  refine congrArg (Pipeline.defs (Cert.KvNewIdeal.pcfgs (F := F))) (congrArg Defs.onTc (funext fun l => funext fun x => ?_))
  match l, x with
  | ⟨0, _⟩, (t, s) => rfl
/-- What every run of KvNew meets, every run of its idealized program meets. -/
theorem KvNew (m : (ℓ : Loc Cert.KvNewIdeal.nD Cert.KvNewIdeal.τ Cert.KvNewIdeal.sig) → Buf (Elt F) ℓ) (ρ : Dev Cert.KvNewIdeal.nD → PrngReg) {Q}
    (h : θ_run Cert.KvNew.defs (onTc (τ := Cert.KvNew.τ) (Cert.KvNew.main (F := F))) ⟨m, fun _ => 0, ρ⟩ Q) :
    θ_run Cert.KvNewIdeal.defs (onTc (τ := Cert.KvNewIdeal.τ) (Cert.KvNewIdeal.main (F := F))) ⟨m, fun _ => 0, ρ⟩ Q := by
  rw [defs_KvNew]
  exact h

/-- The two tables of bodies of OutProj are one. -/
theorem defs_OutProj : Cert.OutProjIdeal.defs (F := F) = Cert.OutProj.defs (F := F) := by
  refine congrArg (Pipeline.defs (Cert.OutProjIdeal.pcfgs (F := F))) (congrArg Defs.onTc (funext fun l => funext fun x => ?_))
  match l, x with
  | ⟨0, _⟩, (t, s) => rfl
/-- What every run of OutProj meets, every run of its idealized program meets. -/
theorem OutProj (m : (ℓ : Loc Cert.OutProjIdeal.nD Cert.OutProjIdeal.τ Cert.OutProjIdeal.sig) → Buf (Elt F) ℓ) (ρ : Dev Cert.OutProjIdeal.nD → PrngReg) {Q}
    (h : θ_run Cert.OutProj.defs (onTc (τ := Cert.OutProj.τ) (Cert.OutProj.main (F := F))) ⟨m, fun _ => 0, ρ⟩ Q) :
    θ_run Cert.OutProjIdeal.defs (onTc (τ := Cert.OutProjIdeal.τ) (Cert.OutProjIdeal.main (F := F))) ⟨m, fun _ => 0, ρ⟩ Q := by
  rw [defs_OutProj]
  exact h

/-- The two tables of bodies of Ple are one. -/
theorem defs_Ple : Cert.PleIdeal.defs (F := F) = Cert.Ple.defs (F := F) := by
  refine congrArg (Pipeline.defs (Cert.PleIdeal.pcfgs (F := F))) (congrArg Defs.onTc (funext fun l => funext fun x => ?_))
  match l, x with
  | ⟨0, _⟩, (t, s) => rfl
/-- What every run of Ple meets, every run of its idealized program meets. -/
theorem Ple (m : (ℓ : Loc Cert.PleIdeal.nD Cert.PleIdeal.τ Cert.PleIdeal.sig) → Buf (Elt F) ℓ) (ρ : Dev Cert.PleIdeal.nD → PrngReg) {Q}
    (h : θ_run Cert.Ple.defs (onTc (τ := Cert.Ple.τ) (Cert.Ple.main (F := F))) ⟨m, fun _ => 0, ρ⟩ Q) :
    θ_run Cert.PleIdeal.defs (onTc (τ := Cert.PleIdeal.τ) (Cert.PleIdeal.main (F := F))) ⟨m, fun _ => 0, ρ⟩ Q := by
  rw [defs_Ple]
  exact h

/-- The two tables of bodies of MoeSwiglu are one. -/
theorem defs_MoeSwiglu : Cert.MoeSwigluIdeal.defs (F := F) = Cert.MoeSwiglu.defs (F := F) := by
  refine congrArg (Pipeline.defs (Cert.MoeSwigluIdeal.pcfgs (F := F))) (congrArg Defs.onTc (funext fun l => funext fun x => ?_))
  match l, x with
  | ⟨0, _⟩, (t, s) => rfl
/-- What every run of MoeSwiglu meets, every run of its idealized program meets. -/
theorem MoeSwiglu (m : (ℓ : Loc Cert.MoeSwigluIdeal.nD Cert.MoeSwigluIdeal.τ Cert.MoeSwigluIdeal.sig) → Buf (Elt F) ℓ) (ρ : Dev Cert.MoeSwigluIdeal.nD → PrngReg) {Q}
    (h : θ_run Cert.MoeSwiglu.defs (onTc (τ := Cert.MoeSwiglu.τ) (Cert.MoeSwiglu.main (F := F))) ⟨m, fun _ => 0, ρ⟩ Q) :
    θ_run Cert.MoeSwigluIdeal.defs (onTc (τ := Cert.MoeSwigluIdeal.τ) (Cert.MoeSwigluIdeal.main (F := F))) ⟨m, fun _ => 0, ρ⟩ Q := by
  rw [defs_MoeSwiglu]
  exact h

/-- The two tables of bodies of Down are one. -/
theorem defs_Down : Cert.DownIdeal.defs (F := F) = Cert.Down.defs (F := F) := by
  refine congrArg (Pipeline.defs (Cert.DownIdeal.pcfgs (F := F))) (congrArg Defs.onTc (funext fun l => funext fun x => ?_))
  match l, x with
  | ⟨0, _⟩, (t, s) => rfl
/-- What every run of Down meets, every run of its idealized program meets. -/
theorem Down (m : (ℓ : Loc Cert.DownIdeal.nD Cert.DownIdeal.τ Cert.DownIdeal.sig) → Buf (Elt F) ℓ) (ρ : Dev Cert.DownIdeal.nD → PrngReg) {Q}
    (h : θ_run Cert.Down.defs (onTc (τ := Cert.Down.τ) (Cert.Down.main (F := F))) ⟨m, fun _ => 0, ρ⟩ Q) :
    θ_run Cert.DownIdeal.defs (onTc (τ := Cert.DownIdeal.τ) (Cert.DownIdeal.main (F := F))) ⟨m, fun _ => 0, ρ⟩ Q := by
  rw [defs_Down]
  exact h

/-- The two tables of bodies of InEven are one. -/
theorem defs_InEven : Cert.InEvenIdeal.defs (F := F) = Cert.InEven.defs (F := F) := by
  refine congrArg (Pipeline.defs (Cert.InEvenIdeal.pcfgs (F := F))) (congrArg Defs.onTc (funext fun l => funext fun x => ?_))
  match l, x with
  | ⟨0, _⟩, (t, s) => rfl
/-- What every run of InEven meets, every run of its idealized program meets. -/
theorem InEven (m : (ℓ : Loc Cert.InEvenIdeal.nD Cert.InEvenIdeal.τ Cert.InEvenIdeal.sig) → Buf (Elt F) ℓ) (ρ : Dev Cert.InEvenIdeal.nD → PrngReg) {Q}
    (h : θ_run Cert.InEven.defs (onTc (τ := Cert.InEven.τ) (Cert.InEven.main (F := F))) ⟨m, fun _ => 0, ρ⟩ Q) :
    θ_run Cert.InEvenIdeal.defs (onTc (τ := Cert.InEvenIdeal.τ) (Cert.InEvenIdeal.main (F := F))) ⟨m, fun _ => 0, ρ⟩ Q := by
  rw [defs_InEven]
  exact h

end Cert.Proof.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Finite
public import proofs.«01_k».proof.Proof.SwigluRun
public import proofs.«01_k».proof.Proof.SwigluValue
public import proofs.«01_k».proof.Proof.InOddRun
public import proofs.«01_k».proof.Proof.InOddValue
public import proofs.«01_k».proof.Proof.KvNewRun
public import proofs.«01_k».proof.Proof.KvNewValue
public import proofs.«01_k».proof.Proof.OutProjRun
public import proofs.«01_k».proof.Proof.OutProjValue
public import proofs.«01_k».proof.Proof.PleRun
public import proofs.«01_k».proof.Proof.PleValue
public import proofs.«01_k».proof.Proof.InRange
public import proofs.«01_k».proof.Proof.MoeSwigluRun
public import proofs.«01_k».proof.Proof.MoeSwigluValue
public import proofs.«01_k».proof.Proof.MoeSwigluRefValue
public import proofs.«01_k».proof.Proof.DownRun
public import proofs.«01_k».proof.Proof.DownValue
public import proofs.«01_k».proof.Proof.InEvenRun
public import proofs.«01_k».proof.Proof.InEvenValue
public import proofs.«01_k».proof.Proof.DsaVValue
public import proofs.«01_k».proof.Proof.DsaKValue
public import proofs.«01_k».proof.Proof.Same
public import Idealize.ShloMosaic.Adequacy
public import Idealize.ShloMosaic.Init

@[expose] public section

noncomputable section

namespace Cert.Proof

open Idealize.ShloMosaic Idealize.SL.Sem

/-- Where every argument is a number, the kernel's result is the reference's, element by element. -/
theorem results_agree (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hX : ∀ i : Cert.KernelIdeal.S8320x12288.Idx, real ((m ((c.tc : Thread Cert.KernelIdeal.nD Cert.KernelIdeal.τ).loc Cert.KernelIdeal.main_arg0) : Cert.KernelIdeal.S8320x12288.Idx → EReal) i))
    (hB : ∀ i : Cert.KernelIdeal.S32x257.Idx, real ((m ((c.tc : Thread Cert.KernelIdeal.nD Cert.KernelIdeal.τ).loc Cert.KernelIdeal.main_arg1) : Cert.KernelIdeal.S32x257.Idx → EReal) i)) :
    Cert.ReferenceIdeal.Read.val_main_v60 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = kres m ρ c := by
  funext i
  have hi : i = ix2 (i 0) (i 1) := funext fun a => by
    match a with
    | ⟨0, _⟩ => rfl
    | ⟨1, _⟩ => rfl
  rw [hi]
  refine (v60_eq _ _ (i 0) (i 1)).trans (Eq.trans ?_ (kres_apply m ρ c (i 0) (i 1)).symm)
  by_cases h : (i 0).val < 8192
  · rw [dif_pos h, if_pos h]
    exact (meet _ _ _ hX hB (fun hh r w p hp hpe => bias_eq m ρ c hh r w p hp hpe) (i 0) (i 1) h).symm
  · rw [dif_neg h, if_neg h]

/-- The reference runs, its arguments end as they were, and no counter is left: it has none. -/
theorem frame_ref : Cert.quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Value.run m ρ)

/-- The band attention's result is its reference's where every argument is a number. -/
theorem alg_band : Cert.algebraic_KernelIdeal_ReferenceIdeal_pre_finite (hKernelIdeal := Cert.KernelIdeal.Gen.facts) (hReferenceIdeal := Cert.ReferenceIdeal.Gen.facts) (hPre_finite := pre_facts) :=
  fun m g m' g' hpre hargs => by
    refine ⟨fun c => kres m g c, kernel_run m g, ?_⟩
    refine (θ_run _ _ _).mono (fun r h c => ⟨(h c).1.trans ?_, (h c).2⟩) (Cert.ReferenceIdeal.Value.run m' g')
    have hf := @finite_args pre_facts _ _ (hpre c)
    rw [Cert.ReferenceIdeal.Read.val_main_v60_eq, (hargs c).1, (hargs c).2]
    exact results_agree m g c hf.1 hf.2

/-- The Swiglu reference runs, its arguments end as they were, and no counter is left: it has none. -/
theorem frame_SwigluRef : Cert.quiescent_SwigluRefIdeal (hSwigluRefIdeal := Cert.SwigluRefIdeal.Gen.facts) := fun m ρ _ =>
  (θ_run _ _ _).mono (fun r h => ⟨fun c => (h c).2, sem_eq_zero_of_no_sems (by decide) r.2⟩) (Cert.SwigluRefIdeal.Value.run m ρ)

/-- The Swiglu kernel's result is its reference's, element by element, whatever the arguments. -/
theorem alg_Swiglu : Cert.algebraic_SwigluIdeal_SwigluRefIdeal (hSwigluIdeal := Cert.SwigluIdeal.Gen.facts) (hSwigluRefIdeal := Cert.SwigluRefIdeal.Gen.facts) :=
  fun m g m' g' _ hargs => by
    refine ⟨fun c => Swiglu.prod (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2)), ?_, ?_⟩
    · exact (θ_run _ _ _).mono (fun r h c => ⟨(h.2.1 c 3).trans (Swiglu.final m c), h.1 c⟩) (Same.Swiglu m g (Swiglu.run m g))
    · refine (θ_run _ _ _).mono (fun r h c => ⟨(h c).1.trans ?_, (h c).2⟩) (Cert.SwigluRefIdeal.Value.run m' g')
      rw [Cert.SwigluRefIdeal.Read.val_main_v7_eq, (hargs c).1, (hargs c).2.1, (hargs c).2.2]
      exact Swiglu.ref_eq _ _ _

/-- The InOdd reference runs, its arguments end as they were, and no counter is left: it has none. -/
theorem frame_InOddRef : Cert.quiescent_InOddRefIdeal (hInOddRefIdeal := Cert.InOddRefIdeal.Gen.facts) := fun m ρ _ =>
  (θ_run _ _ _).mono (fun r h => ⟨fun c => (h c).2, sem_eq_zero_of_no_sems (by decide) r.2⟩) (Cert.InOddRefIdeal.Value.run m ρ)

/-- The InOdd kernel's result is its reference's, element by element, whatever the arguments. -/
theorem alg_InOdd : Cert.algebraic_InOddIdeal_InOddRefIdeal (hInOddIdeal := Cert.InOddIdeal.Gen.facts) (hInOddRefIdeal := Cert.InOddRefIdeal.Gen.facts) :=
  fun m g m' g' _ hargs => by
    refine ⟨fun c => InOdd.prod (m ((c.tc : Thread Cert.InOddIdeal.nD Cert.InOddIdeal.τ).loc Cert.InOddIdeal.main_arg0)) (m ((c.tc : Thread Cert.InOddIdeal.nD Cert.InOddIdeal.τ).loc Cert.InOddIdeal.main_arg1)), ?_, ?_⟩
    · exact (θ_run _ _ _).mono (fun r h c => ⟨(h.2.1 c 2).trans (InOdd.final m c), h.1 c⟩) (Same.InOdd m g (InOdd.run m g))
    · refine (θ_run _ _ _).mono (fun r h c => ⟨(h c).1.trans ?_, (h c).2⟩) (Cert.InOddRefIdeal.Value.run m' g')
      rw [Cert.InOddRefIdeal.Read.val_main_v3_eq, (hargs c).1, (hargs c).2]
      exact InOdd.ref_eq _ _

/-- The KvNew reference runs, its arguments end as they were, and no counter is left: it has none. -/
theorem frame_KvNewRef : Cert.quiescent_KvNewRefIdeal (hKvNewRefIdeal := Cert.KvNewRefIdeal.Gen.facts) := fun m ρ _ =>
  (θ_run _ _ _).mono (fun r h => ⟨fun c => (h c).2, sem_eq_zero_of_no_sems (by decide) r.2⟩) (Cert.KvNewRefIdeal.Value.run m ρ)

/-- The KvNew kernel's result is its reference's, element by element, whatever the arguments. -/
theorem alg_KvNew : Cert.algebraic_KvNewIdeal_KvNewRefIdeal (hKvNewIdeal := Cert.KvNewIdeal.Gen.facts) (hKvNewRefIdeal := Cert.KvNewRefIdeal.Gen.facts) :=
  fun m g m' g' _ hargs => by
    refine ⟨fun c => KvNew.prod (m ((c.tc : Thread Cert.KvNewIdeal.nD Cert.KvNewIdeal.τ).loc Cert.KvNewIdeal.main_arg0)) (m ((c.tc : Thread Cert.KvNewIdeal.nD Cert.KvNewIdeal.τ).loc Cert.KvNewIdeal.main_arg1)), ?_, ?_⟩
    · exact (θ_run _ _ _).mono (fun r h c => ⟨(h.2.1 c 2).trans (KvNew.final m c), h.1 c⟩) (Same.KvNew m g (KvNew.run m g))
    · refine (θ_run _ _ _).mono (fun r h c => ⟨(h c).1.trans ?_, (h c).2⟩) (Cert.KvNewRefIdeal.Value.run m' g')
      rw [Cert.KvNewRefIdeal.Read.val_main_v3_eq, (hargs c).1, (hargs c).2]
      exact KvNew.ref_eq _ _

/-- The OutProj reference runs, its arguments end as they were, and no counter is left: it has none. -/
theorem frame_OutProjRef : Cert.quiescent_OutProjRefIdeal (hOutProjRefIdeal := Cert.OutProjRefIdeal.Gen.facts) := fun m ρ _ =>
  (θ_run _ _ _).mono (fun r h => ⟨fun c => (h c).2, sem_eq_zero_of_no_sems (by decide) r.2⟩) (Cert.OutProjRefIdeal.Value.run m ρ)

/-- The OutProj kernel's result is its reference's, element by element, whatever the arguments. -/
theorem alg_OutProj : Cert.algebraic_OutProjIdeal_OutProjRefIdeal (hOutProjIdeal := Cert.OutProjIdeal.Gen.facts) (hOutProjRefIdeal := Cert.OutProjRefIdeal.Gen.facts) :=
  fun m g m' g' _ hargs => by
    refine ⟨fun c => OutProj.prod (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)), ?_, ?_⟩
    · exact (θ_run _ _ _).mono (fun r h c => ⟨(h.2.1 c 2).trans (OutProj.final m c), h.1 c⟩) (Same.OutProj m g (OutProj.run m g))
    · refine (θ_run _ _ _).mono (fun r h c => ⟨(h c).1.trans ?_, (h c).2⟩) (Cert.OutProjRefIdeal.Value.run m' g')
      rw [Cert.OutProjRefIdeal.Read.val_main_v2_eq, (hargs c).1, (hargs c).2]
      exact OutProj.ref_eq _ _

/-- The Ple reference runs, its arguments end as they were, and no counter is left: it has none. -/
theorem frame_PleRef : Cert.quiescent_PleRefIdeal (hPleRefIdeal := Cert.PleRefIdeal.Gen.facts) := fun m ρ _ =>
  (θ_run _ _ _).mono (fun r h => ⟨fun c => (h c).2, sem_eq_zero_of_no_sems (by decide) r.2⟩) (Cert.PleRefIdeal.Value.run m ρ)

/-- The Ple kernel's result is its reference's, element by element, whatever the arguments. -/
theorem alg_Ple : Cert.algebraic_PleIdeal_PleRefIdeal (hPleIdeal := Cert.PleIdeal.Gen.facts) (hPleRefIdeal := Cert.PleRefIdeal.Gen.facts) :=
  fun m g m' g' _ hargs => by
    refine ⟨fun c => Ple.prod (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)), ?_, ?_⟩
    · exact (θ_run _ _ _).mono (fun r h c => ⟨(h.2.1 c 5).trans (Ple.final m c), h.1 c⟩) (Same.Ple m g (Ple.run m g))
    · refine (θ_run _ _ _).mono (fun r h c => ⟨(h c).1.trans ?_, (h c).2⟩) (Cert.PleRefIdeal.Value.run m' g')
      rw [Cert.PleRefIdeal.Read.val_main_v13_eq, (hargs c).1, (hargs c).2.1, (hargs c).2.2.1, (hargs c).2.2.2.1, (hargs c).2.2.2.2]
      exact Ple.ref_eq _ _ _ _ _

/-- The grouped gated product's tables are in range where the precondition holds. -/
theorem range_MoeSwiglu [Cert.Pre_in_range.Facts] (m : (ℓ : Loc Cert.MoeSwiglu.nD Cert.MoeSwiglu.τ Cert.MoeSwiglu.sig) → Buf (Elt Bits) ℓ) (h : Cert.Pre_MoeSwiglu m) : MoeSwiglu.InRange m :=
  have b := InRange.bounds _ _ _ _ _ _ (h 0)
  ⟨b.1, b.2.1, b.2.2⟩
/-- And the idealized one's. -/
theorem range_MoeSwigluIdeal [Cert.Pre_in_range.Facts] (m : (ℓ : Loc Cert.MoeSwigluIdeal.nD Cert.MoeSwigluIdeal.τ Cert.MoeSwigluIdeal.sig) → Buf (Elt Ideal) ℓ) (h : Cert.Pre_MoeSwigluIdeal m) : MoeSwiglu.InRange (F := Ideal) m :=
  have b := InRange.bounds _ _ _ _ _ _ (h 0)
  ⟨b.1, b.2.1, b.2.2⟩

/-- The MoeSwiglu reference runs, its arguments end as they were, and no counter is left: it has none. -/
theorem frame_MoeSwigluRef : Cert.quiescent_MoeSwigluRefIdeal (hMoeSwigluRefIdeal := Cert.MoeSwigluRefIdeal.Gen.facts) := fun m ρ _ =>
  (θ_run _ _ _).mono (fun r h => ⟨fun c => (h c).2, sem_eq_zero_of_no_sems (by decide) r.2⟩) (Cert.MoeSwigluRefIdeal.Value.run m ρ)

/-- The MoeSwiglu kernel's result is its reference's, element by element, where the tables are in range. -/
theorem alg_MoeSwiglu : Cert.algebraic_MoeSwigluIdeal_MoeSwigluRefIdeal (hMoeSwigluIdeal := Cert.MoeSwigluIdeal.Gen.facts) (hMoeSwigluRefIdeal := Cert.MoeSwigluRefIdeal.Gen.facts) (hPre_in_range := InRange.facts) :=
  fun m g m' g' hpre hargs => by
    have hR : MoeSwiglu.InRange (F := Ideal) m := @range_MoeSwigluIdeal InRange.facts m hpre
    refine ⟨fun c => MoeSwiglu.prod (m ((c.tc : Thread Cert.MoeSwigluIdeal.nD Cert.MoeSwigluIdeal.τ).loc Cert.MoeSwigluIdeal.main_arg0)) (m ((c.tc : Thread Cert.MoeSwigluIdeal.nD Cert.MoeSwigluIdeal.τ).loc Cert.MoeSwigluIdeal.main_arg1)) (m ((c.tc : Thread Cert.MoeSwigluIdeal.nD Cert.MoeSwigluIdeal.τ).loc Cert.MoeSwigluIdeal.main_arg2)) (m ((c.tc : Thread Cert.MoeSwigluIdeal.nD Cert.MoeSwigluIdeal.τ).loc Cert.MoeSwigluIdeal.main_arg3)) (m ((c.tc : Thread Cert.MoeSwigluIdeal.nD Cert.MoeSwigluIdeal.τ).loc Cert.MoeSwigluIdeal.main_arg4)) (m ((c.tc : Thread Cert.MoeSwigluIdeal.nD Cert.MoeSwigluIdeal.τ).loc Cert.MoeSwigluIdeal.main_arg5)), ?_, ?_⟩
    · refine (θ_run _ _ _).mono (fun r h c => ⟨(h.2.1 c 3).trans ((MoeSwiglu.final m hR c).trans ?_), h.1 c⟩) (Same.MoeSwiglu m g (MoeSwiglu.run m g hR))
      obtain rfl : c = 0 := Subsingleton.elim _ _
      rfl
    · refine (θ_run _ _ _).mono (fun r h c => ⟨(h c).1.trans ?_, (h c).2⟩) (Cert.MoeSwigluRefIdeal.Value.run m' g')
      have b := @InRange.bounds _ _ InRange.facts _ _ _ _ _ _ (hpre c)
      rw [Cert.MoeSwigluRefIdeal.Read.val_main_v44_eq, (hargs c).1, (hargs c).2.1, (hargs c).2.2.1, (hargs c).2.2.2.1, (hargs c).2.2.2.2.1, (hargs c).2.2.2.2.2]
      exact MoeSwiglu.ref_eq _ _ _ _ _ _ b.1 b.2.1 b.2.2

/-- The Down reference runs, its arguments end as they were, and no counter is left: it has none. -/
theorem frame_DownRef : Cert.quiescent_DownRefIdeal (hDownRefIdeal := Cert.DownRefIdeal.Gen.facts) := fun m ρ _ =>
  (θ_run _ _ _).mono (fun r h => ⟨fun c => (h c).2, sem_eq_zero_of_no_sems (by decide) r.2⟩) (Cert.DownRefIdeal.Value.run m ρ)

/-- The Down kernel's result is its reference's, element by element, whatever the arguments. -/
theorem alg_Down : Cert.algebraic_DownIdeal_DownRefIdeal (hDownIdeal := Cert.DownIdeal.Gen.facts) (hDownRefIdeal := Cert.DownRefIdeal.Gen.facts) :=
  fun m g m' g' _ hargs => by
    refine ⟨fun c => Down.prod (m ((c.tc : Thread Cert.DownIdeal.nD Cert.DownIdeal.τ).loc Cert.DownIdeal.main_arg0)) (m ((c.tc : Thread Cert.DownIdeal.nD Cert.DownIdeal.τ).loc Cert.DownIdeal.main_arg1)), ?_, ?_⟩
    · exact (θ_run _ _ _).mono (fun r h c => ⟨(h.2.1 c 2).trans (Down.final m c), h.1 c⟩) (Same.Down m g (Down.run m g))
    · refine (θ_run _ _ _).mono (fun r h c => ⟨(h c).1.trans ?_, (h c).2⟩) (Cert.DownRefIdeal.Value.run m' g')
      rw [Cert.DownRefIdeal.Read.val_main_v2_eq, (hargs c).1, (hargs c).2]
      exact Down.ref_eq _ _

/-- The InEven reference runs, its arguments end as they were, and no counter is left: it has none. -/
theorem frame_InEvenRef : Cert.quiescent_InEvenRefIdeal (hInEvenRefIdeal := Cert.InEvenRefIdeal.Gen.facts) := fun m ρ _ =>
  (θ_run _ _ _).mono (fun r h => ⟨fun c => (h c).2, sem_eq_zero_of_no_sems (by decide) r.2⟩) (Cert.InEvenRefIdeal.Value.run m ρ)

/-- The InEven kernel's result is its reference's, element by element, whatever the arguments. -/
theorem alg_InEven : Cert.algebraic_InEvenIdeal_InEvenRefIdeal (hInEvenIdeal := Cert.InEvenIdeal.Gen.facts) (hInEvenRefIdeal := Cert.InEvenRefIdeal.Gen.facts) :=
  fun m g m' g' _ hargs => by
    refine ⟨fun c => InEven.prod (m ((c.tc : Thread Cert.InEvenIdeal.nD Cert.InEvenIdeal.τ).loc Cert.InEvenIdeal.main_arg0)) (m ((c.tc : Thread Cert.InEvenIdeal.nD Cert.InEvenIdeal.τ).loc Cert.InEvenIdeal.main_arg1)), ?_, ?_⟩
    · exact (θ_run _ _ _).mono (fun r h c => ⟨(h.2.1 c).trans (InEven.final m c), h.1 c⟩) (Same.InEven m g (InEven.run m g))
    · refine (θ_run _ _ _).mono (fun r h c => ⟨(h c).1.trans ?_, (h c).2⟩) (Cert.InEvenRefIdeal.Value.run m' g')
      rw [Cert.InEvenRefIdeal.Read.val_main_v2_eq, (hargs c).1, (hargs c).2]
      exact InEven.ref_eq _ _

/-- The DsaV reference runs, its arguments end as they were, and no counter is left: it has none. -/
theorem frame_DsaVRef : Cert.quiescent_DsaVRefIdeal (hDsaVRefIdeal := Cert.DsaVRefIdeal.Gen.facts) := fun m ρ _ =>
  (θ_run _ _ _).mono (fun r h => ⟨fun c => (h c).2, sem_eq_zero_of_no_sems (by decide) r.2⟩) (Cert.DsaVRefIdeal.Value.run m ρ)

/-- The DsaV kernel's result is its reference's, element by element, whatever the arguments. -/
theorem alg_DsaV : Cert.algebraic_DsaVIdeal_DsaVRefIdeal (hDsaVIdeal := Cert.DsaVIdeal.Gen.facts) (hDsaVRefIdeal := Cert.DsaVRefIdeal.Gen.facts) :=
  fun m g m' g' _ hargs => by
    refine ⟨fun c => DsaV.cols (m ((c.tc : Thread Cert.DsaVIdeal.nD Cert.DsaVIdeal.τ).loc Cert.DsaVIdeal.main_arg0)), ?_, ?_⟩
    · exact (θ_run _ _ _).mono (fun r h c => ⟨((h.1 c).1 1).trans (DsaV.final m c), h.2 c⟩) (θ_run_and (Cert.DsaVIdeal.Gen.run_main m g) (Cert.DsaVIdeal.Gen.unchanged m g))
    · refine (θ_run _ _ _).mono (fun r h c => ⟨(h c).1.trans ?_, (h c).2⟩) (Cert.DsaVRefIdeal.Value.run m' g')
      rw [hargs c]
      exact DsaV.ref_eq _

/-- The DsaK reference runs, its arguments end as they were, and no counter is left: it has none. -/
theorem frame_DsaKRef : Cert.quiescent_DsaKRefIdeal (hDsaKRefIdeal := Cert.DsaKRefIdeal.Gen.facts) := fun m ρ _ =>
  (θ_run _ _ _).mono (fun r h => ⟨fun c => (h c).2, sem_eq_zero_of_no_sems (by decide) r.2⟩) (Cert.DsaKRefIdeal.Value.run m ρ)

/-- The DsaK kernel's result is its reference's, element by element, whatever the arguments. -/
theorem alg_DsaK : Cert.algebraic_DsaKIdeal_DsaKRefIdeal (hDsaKIdeal := Cert.DsaKIdeal.Gen.facts) (hDsaKRefIdeal := Cert.DsaKRefIdeal.Gen.facts) :=
  fun m g m' g' _ hargs => by
    refine ⟨fun c => DsaK.turned (m ((c.tc : Thread Cert.DsaKIdeal.nD Cert.DsaKIdeal.τ).loc Cert.DsaKIdeal.main_arg0)) (DsaK.co m c) (DsaK.si m c), ?_, ?_⟩
    · exact (θ_run _ _ _).mono (fun r h c => ⟨((h.1 c).1 4).trans (DsaK.final m c), h.2 c⟩) (θ_run_and (Cert.DsaKIdeal.Gen.run_main m g) (Cert.DsaKIdeal.Gen.unchanged m g))
    · refine (θ_run _ _ _).mono (fun r h c => ⟨(h c).1.trans ?_, (h c).2⟩) (Cert.DsaKRefIdeal.Value.run m' g')
      rw [Cert.DsaKRefIdeal.Read.val_main_v32_eq, (hargs c).1, (hargs c).2]
      exact DsaK.ref_eq _ _

theorem claim : Cert.Claim :=
  ⟨Cert.Kernel.Gen.facts, Cert.KernelIdeal.Gen.facts, Cert.ReferenceIdeal.Gen.facts, Cert.Swiglu.Gen.facts, Cert.SwigluIdeal.Gen.facts, Cert.SwigluRefIdeal.Gen.facts, Cert.InOdd.Gen.facts, Cert.InOddIdeal.Gen.facts, Cert.InOddRefIdeal.Gen.facts, Cert.KvNew.Gen.facts, Cert.KvNewIdeal.Gen.facts, Cert.KvNewRefIdeal.Gen.facts, Cert.OutProj.Gen.facts, Cert.OutProjIdeal.Gen.facts, Cert.OutProjRefIdeal.Gen.facts, Cert.Ple.Gen.facts, Cert.PleIdeal.Gen.facts, Cert.PleRefIdeal.Gen.facts, Cert.MoeSwiglu.Gen.facts, Cert.MoeSwigluIdeal.Gen.facts, Cert.MoeSwigluRefIdeal.Gen.facts, Cert.Down.Gen.facts, Cert.DownIdeal.Gen.facts, Cert.DownRefIdeal.Gen.facts, Cert.InEven.Gen.facts, Cert.InEvenIdeal.Gen.facts, Cert.InEvenRefIdeal.Gen.facts, Cert.DsaV.Gen.facts, Cert.DsaVIdeal.Gen.facts, Cert.DsaVRefIdeal.Gen.facts, Cert.DsaK.Gen.facts, Cert.DsaKIdeal.Gen.facts, Cert.DsaKRefIdeal.Gen.facts, pre_facts, InRange.facts,
    fun m ρ _ => Cert.Kernel.Gen.frame m ρ,
    fun m ρ _ => Cert.KernelIdeal.Gen.frame m ρ,
    fun m ρ _ => Cert.KernelIdeal.Gen.frame m ρ,
    frame_ref,
    fun m ρ _ => frame_ref m ρ trivial,
    fun m ρ _ => Swiglu.frame m ρ, fun m ρ _ => Same.Swiglu m ρ (Swiglu.frame m ρ), frame_SwigluRef,
    fun m ρ _ => InOdd.frame m ρ, fun m ρ _ => Same.InOdd m ρ (InOdd.frame m ρ), frame_InOddRef,
    fun m ρ _ => KvNew.frame m ρ, fun m ρ _ => Same.KvNew m ρ (KvNew.frame m ρ), frame_KvNewRef,
    fun m ρ _ => OutProj.frame m ρ, fun m ρ _ => Same.OutProj m ρ (OutProj.frame m ρ), frame_OutProjRef,
    fun m ρ _ => Ple.frame m ρ, fun m ρ _ => Same.Ple m ρ (Ple.frame m ρ), frame_PleRef,
    fun m ρ h => MoeSwiglu.frame m ρ (@range_MoeSwiglu InRange.facts m h), fun m ρ h => Same.MoeSwiglu m ρ (MoeSwiglu.frame m ρ (@range_MoeSwigluIdeal InRange.facts m h)), frame_MoeSwigluRef, fun m ρ _ => frame_MoeSwigluRef m ρ trivial,
    fun m ρ _ => Down.frame m ρ, fun m ρ _ => Same.Down m ρ (Down.frame m ρ), frame_DownRef,
    fun m ρ _ => InEven.frame m ρ, fun m ρ _ => Same.InEven m ρ (InEven.frame m ρ), frame_InEvenRef,
    fun m ρ _ => Cert.DsaV.Gen.frame m ρ, fun m ρ _ => Cert.DsaVIdeal.Gen.frame m ρ, frame_DsaVRef,
    fun m ρ _ => Cert.DsaK.Gen.frame m ρ, fun m ρ _ => Cert.DsaKIdeal.Gen.frame m ρ, frame_DsaKRef,
    IdealRules.named_const.statement Cert.KernelIdeal.κ "mask" .f32 0xF149F2CA#32 ⊥ rfl,
    alg_band,
    trivial, alg_Swiglu,
    trivial, alg_InOdd,
    trivial, alg_KvNew,
    trivial, alg_OutProj,
    trivial, alg_Ple,
    trivial, alg_MoeSwiglu,
    trivial, alg_Down,
    trivial, alg_InEven,
    trivial, alg_DsaV,
    trivial, alg_DsaK⟩

end Cert.Proof

end
